-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_gates_open [hPre_gates_open : Cert.Pre_gates_open.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_gates_open.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_gates_open [hPre_gates_open : Cert.Pre_gates_open.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_gates_open.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_scores_finite [hPre_scores_finite : Cert.Pre_scores_finite.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_scores_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_scores_finite [hPre_scores_finite : Cert.Pre_scores_finite.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_scores_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Kernel5Ideal_pre_gates_open [hKernel5Ideal : Cert.Kernel5Ideal.Facts] [hPre_gates_open : Cert.Pre_gates_open.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_gates_open m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Reference5Ideal_pre_gates_open [hReference5Ideal : Cert.Reference5Ideal.Facts] [hPre_gates_open : Cert.Pre_gates_open.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_gates_open m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Kernel6Ideal_pre_scores_finite [hKernel6Ideal : Cert.Kernel6Ideal.Facts] [hPre_scores_finite : Cert.Pre_scores_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_scores_finite m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Reference6Ideal_pre_scores_finite [hReference6Ideal : Cert.Reference6Ideal.Facts] [hPre_scores_finite : Cert.Pre_scores_finite.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_scores_finite m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v10_2)) (v3 : (c : Dev Cert.KernelIdeal.nD) → Buf (Elt Ideal) ((c.tc : Thread Cert.KernelIdeal.nD Cert.KernelIdeal.τ).loc Cert.KernelIdeal.main_v10_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_v10_2) = v2 c
          ∧ r.2.mem ((c.tc : Thread Cert.KernelIdeal.nD Cert.KernelIdeal.τ).loc Cert.KernelIdeal.main_v10_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_v34) = v2 c
          ∧ r.2.mem ((c.tc : Thread Cert.ReferenceIdeal.nD Cert.ReferenceIdeal.τ).loc Cert.ReferenceIdeal.main_v36) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v14)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v37) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v5_0)) (v1 : (c : Dev Cert.Kernel3Ideal.nD) → Buf (Elt Ideal) ((c.tc : Thread Cert.Kernel3Ideal.nD Cert.Kernel3Ideal.τ).loc Cert.Kernel3Ideal.main_v15)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5_0) = v0 c
          ∧ r.2.mem ((c.tc : Thread Cert.Kernel3Ideal.nD Cert.Kernel3Ideal.τ).loc Cert.Kernel3Ideal.main_v15) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v42) = v0 c
          ∧ r.2.mem ((c.tc : Thread Cert.Reference3Ideal.nD Cert.Reference3Ideal.τ).loc Cert.Reference3Ideal.main_v44) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v17) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal_pre_gates_open [hKernel5Ideal : Cert.Kernel5Ideal.Facts] [hReference5Ideal : Cert.Reference5Ideal.Facts] [hPre_gates_open : Cert.Pre_gates_open.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_gates_open m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v9)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v9) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v10) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  IdealRules.named_const.Statement Cert.Kernel6Ideal.κ "scale_log2e" .f32 0x3E0293EE#32 (((11863283 / 134217728) * (Real.log 2)⁻¹ : ℝ) : EReal)
  ∧ IdealRules.named_const.Statement Cert.Kernel6Ideal.κ "mask" .f32 0xF149F2CA#32 ⊥

def algebraic_Kernel6Ideal_Reference6Ideal_pre_scores_finite [hKernel6Ideal : Cert.Kernel6Ideal.Facts] [hReference6Ideal : Cert.Reference6Ideal.Facts] [hPre_scores_finite : Cert.Pre_scores_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_scores_finite m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v53) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_gates_open : Cert.Pre_gates_open.Facts) (hPre_scores_finite : Cert.Pre_scores_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_gates_open (hKernel5Ideal := hKernel5Ideal) (hPre_gates_open := hPre_gates_open)
    ∧ quiescent_Reference5Ideal (hReference5Ideal := hReference5Ideal)
    ∧ quiescent_Reference5Ideal_pre_gates_open (hReference5Ideal := hReference5Ideal) (hPre_gates_open := hPre_gates_open)
    ∧ quiescent_Kernel6 (hKernel6 := hKernel6)
    ∧ quiescent_Kernel6Ideal (hKernel6Ideal := hKernel6Ideal)
    ∧ quiescent_Kernel6Ideal_pre_scores_finite (hKernel6Ideal := hKernel6Ideal) (hPre_scores_finite := hPre_scores_finite)
    ∧ quiescent_Reference6Ideal (hReference6Ideal := hReference6Ideal)
    ∧ quiescent_Reference6Ideal_pre_scores_finite (hReference6Ideal := hReference6Ideal) (hPre_scores_finite := hPre_scores_finite)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_gates_open (hKernel5Ideal := hKernel5Ideal) (hReference5Ideal := hReference5Ideal) (hPre_gates_open := hPre_gates_open)
    ∧ preserves_Kernel6_Kernel6Ideal
    ∧ algebraic_Kernel6Ideal_Reference6Ideal_pre_scores_finite (hKernel6Ideal := hKernel6Ideal) (hReference6Ideal := hReference6Ideal) (hPre_scores_finite := hPre_scores_finite)
-- ==== Pre_gates_open.lean ====
abbrev S17408x128 : Shape := ⟨2, ![17408, 128]⟩
abbrev S1x16 : Shape := ⟨2, ![1, 16]⟩
abbrev S16384x16 : Shape := ⟨2, ![16384, 16]⟩
abbrev S16 : Shape := ⟨1, ![16]⟩
abbrev S_ : Shape := ⟨0, ![]⟩

class Facts : Prop where
  slices_S17408x128_S16384x16_0_0 : S17408x128.Slices ![0, 0] S16384x16
  shapeCasts_S1x16_S16 : S1x16.ShapeCasts S16
  bcast_S16_S1x16_1 : S16.BroadcastsInDim S1x16 (![1] : Fin 1 → Fin S1x16.rank)
  bcast_S1x16_S16384x16_0_1 : S1x16.BroadcastsInDim S16384x16 (![0, 1] : Fin 2 → Fin S16384x16.rank)
  bcast_S_S16384x16 : S_.BroadcastsInDim S16384x16 (![] : Fin 0 → Fin S16384x16.rank)

variable [Facts]

def fn {F : FTy → Type} [FloatOps F] (main_arg0 : FVec F S17408x128 .f32) (main_arg1 : FVec F S1x16 .f32) : IVec S16384x16 1 :=
  let main_v0 : FVec F S16384x16 .f32 := (extractStridedSlice S16384x16 ![0, 0] · slices_S17408x128_S16384x16_0_0) main_arg0
  let main_v1 : FVec F S16 .f32 := shapeCast S16 main_arg1 shapeCasts_S1x16_S16
  let main_v2 : FVec F S1x16 .f32 := broadcastInDim S1x16 ![1] bcast_S16_S1x16_1 main_v1
  let main_v3 : FVec F S16384x16 .f32 := broadcastInDim S16384x16 ![0, 1] bcast_S1x16_S16384x16_0_1 main_v2
  let main_v4 : FVec F S16384x16 .f32 := addf main_v0 main_v3
  let main_cst : FVec F S_ .f32 := constant S_ .f32 0xFF800000#32
  let main_v5 : FVec F S16384x16 .f32 := broadcastInDim S16384x16 ![] bcast_S_S16384x16 main_cst
  let main_v6 : IVec S16384x16 1 := cmpf .ogt main_v4 main_v5
  main_v6
-- ==== Pre_scores_finite.lean ====
abbrev S17408x12288 : Shape := ⟨2, ![17408, 12288]⟩
abbrev S16384x128 : Shape := ⟨2, ![16384, 128]⟩
abbrev S16384x4096 : Shape := ⟨2, ![16384, 4096]⟩
abbrev S16384x16 : Shape := ⟨2, ![16384, 16]⟩
abbrev S16384x4112 : Shape := ⟨2, ![16384, 4112]⟩
abbrev S_ : Shape := ⟨0, ![]⟩

class Facts : Prop where
  slices_S17408x12288_S16384x4096_0_0 : S17408x12288.Slices ![0, 0] S16384x4096
  bitsLt_bf16_f32 : FTy.bits .bf16 < FTy.bits .f32
  slices_S16384x128_S16384x16_0_0 : S16384x128.Slices ![0, 0] S16384x16
  slices_S16384x128_S16384x16_0_16 : S16384x128.Slices ![0, 16] S16384x16
  slices_S16384x128_S16384x16_0_32 : S16384x128.Slices ![0, 32] S16384x16
  concatenates_S16384x4096_S16384x16_S16384x4112_d1 : Shape.Concatenates [S16384x4096, S16384x16] S16384x4112 1
  bcast_S_S16384x4112 : S_.BroadcastsInDim S16384x4112 (![] : Fin 0 → Fin S16384x4112.rank)

variable [Facts]

def fn {F : FTy → Type} [FloatOps F] (main_arg0 : FVec F S17408x12288 .bf16) (main_arg1 : FVec F S16384x128 .bf16) : IVec S16384x4112 1 :=
  let main_v0 : FVec F S16384x4096 .bf16 := (extractStridedSlice S16384x4096 ![0, 0] · slices_S17408x12288_S16384x4096_0_0) main_arg0
  let main_v1 : FVec F S16384x4096 .f32 := (extf .f32 · bitsLt_bf16_f32) main_v0
  let main_v2 : FVec F S16384x128 .f32 := (extf .f32 · bitsLt_bf16_f32) main_arg1
  let main_v3 : FVec F S16384x16 .f32 := (extractStridedSlice S16384x16 ![0, 0] · slices_S16384x128_S16384x16_0_0) main_v2
  let main_v4 : FVec F S16384x16 .f32 := (extractStridedSlice S16384x16 ![0, 16] · slices_S16384x128_S16384x16_0_16) main_v2
  let main_v5 : FVec F S16384x16 .f32 := addf main_v3 main_v4
  let main_v6 : FVec F S16384x16 .f32 := (extractStridedSlice S16384x16 ![0, 32] · slices_S16384x128_S16384x16_0_32) main_v2
  let main_v7 : FVec F S16384x16 .f32 := addf main_v5 main_v6
  let main_v8 : FVec F S16384x4112 .f32 := (fun a b => concatenate S16384x4112 1 [⟨S16384x4096, a⟩, ⟨S16384x16, b⟩] concatenates_S16384x4096_S16384x16_S16384x4112_d1) main_v1 main_v7
  let main_v9 : FVec F S16384x4112 .f32 := Host.absf main_v8
  let main_cst : FVec F S_ .f32 := constant S_ .f32 0x7F800000#32
  let main_v10 : FVec F S16384x4112 .f32 := broadcastInDim S16384x4112 ![] bcast_S_S16384x4112 main_cst
  let main_v11 : IVec S16384x4112 1 := cmpf .olt main_v9 main_v10
  main_v11
-- ==== Kernel.lean ====
abbrev S4x4096x4096 : Shape := ⟨3, ![4, 4096, 4096]⟩
abbrev S1x4096 : Shape := ⟨2, ![1, 4096]⟩
abbrev S1x4096x12304 : Shape := ⟨3, ![1, 4096, 12304]⟩
abbrev S1x4096x16384 : Shape := ⟨3, ![1, 4096, 16384]⟩
abbrev S1x16384x4096 : Shape := ⟨3, ![1, 16384, 4096]⟩
abbrev S16384x4096 : Shape := ⟨2, ![16384, 4096]⟩
abbrev S4096x12304 : Shape := ⟨2, ![4096, 12304]⟩
abbrev S12304x4096 : Shape := ⟨2, ![12304, 4096]⟩
abbrev S16x4096 : Shape := ⟨2, ![16, 4096]⟩
abbrev S_ : Shape := ⟨0, ![]⟩
abbrev S128x4096 : Shape := ⟨2, ![128, 4096]⟩
abbrev S4096 : Shape := ⟨1, ![4096]⟩
abbrev S4096x1 : Shape := ⟨2, ![4096, 1]⟩
abbrev S17408x12288 : Shape := ⟨2, ![17408, 12288]⟩
abbrev S17408x128 : Shape := ⟨2, ![17408, 128]⟩
abbrev S4096x16384 : Shape := ⟨2, ![4096, 16384]⟩
abbrev S64x4096 : Shape := ⟨2, ![64, 4096]⟩
abbrev S768x4096 : Shape := ⟨2, ![768, 4096]⟩
abbrev S1x16x16384 : Shape := ⟨3, ![1, 16, 16384]⟩
abbrev S16x1 : Shape := ⟨2, ![16, 1]⟩
abbrev S1x64x4096 : Shape := ⟨3, ![1, 64, 4096]⟩
abbrev S1024x768 : Shape := ⟨2, ![1024, 768]⟩
abbrev S1024x128 : Shape := ⟨2, ![1024, 128]⟩
abbrev S16x16384 : Shape := ⟨2, ![16, 16384]⟩
abbrev S1024x4096 : Shape := ⟨2, ![1024, 4096]⟩
abbrev S64 : Shape := ⟨1, ![64]⟩
abbrev S64x1 : Shape := ⟨2, ![64, 1]⟩
abbrev S64x128 : Shape := ⟨2, ![64, 128]⟩

abbrev nBuf : Space → Nat
  | .hbm => 22
  | .vmem => 24
  | .smem => 0
  | _ => 0

abbrev bufTy : (tb : Table) → Fin (tcTables nBuf tb) → BufTy
  | .hbm, ⟨0, _⟩ => ⟨S4x4096x4096, .f32⟩
  | .hbm, ⟨1, _⟩ => ⟨S1x4096, .f32⟩
  | .hbm, ⟨2, _⟩ => ⟨S1x4096x12304, .f32⟩
  | .hbm, ⟨3, _⟩ => ⟨S1x4096, .f32⟩
  | .hbm, ⟨4, _⟩ => ⟨S1x4096x16384, .f32⟩
  | .hbm, ⟨5, _⟩ => ⟨S1x16384x4096, .f32⟩
  | .hbm, ⟨6, _⟩ => ⟨S16384x4096, .f32⟩
  | .hbm, ⟨7, _⟩ => ⟨S4096x12304, .f32⟩
  | .hbm, ⟨8, _⟩ => ⟨S12304x4096, .f32⟩
  | .hbm, ⟨9, _⟩ => ⟨S12304x4096, .bf16⟩
  | .hbm, ⟨10, _⟩ => ⟨S16x4096, .bf16⟩
  | .hbm, ⟨11, _⟩ => ⟨S_, .i32⟩
  | .hbm, ⟨12, _⟩ => ⟨S_, .bf16⟩
  | .hbm, ⟨13, _⟩ => ⟨S128x4096, .bf16⟩
  | .hbm, ⟨14, _⟩ => ⟨S4096, .f32⟩
  | .hbm, ⟨15, _⟩ => ⟨S4096, .f32⟩
  | .hbm, ⟨16, _⟩ => ⟨S1x4096, .f32⟩
  | .hbm, ⟨17, _⟩ => ⟨S4096x1, .f32⟩
  | .hbm, ⟨18, _⟩ => ⟨S17408x12288, .bf16⟩
  | .hbm, ⟨19, _⟩ => ⟨S17408x128, .f32⟩
  | .hbm, ⟨20, _⟩ => ⟨S4096x16384, .bf16⟩
  | .hbm, ⟨21, _⟩ => ⟨S16384x4096, .bf16⟩
  | .local _ .vmem, ⟨0, _⟩ => ⟨S64x4096, .f32⟩
  | .local _ .vmem, ⟨1, _⟩ => ⟨S64x4096, .f32⟩
  | .local _ .vmem, ⟨2, _⟩ => ⟨S1x4096, .f32⟩
  | .local _ .vmem, ⟨3, _⟩ => ⟨S768x4096, .bf16⟩
  | .local _ .vmem, ⟨4, _⟩ => ⟨S768x4096, .bf16⟩
  | .local _ .vmem, ⟨5, _⟩ => ⟨S128x4096, .bf16⟩
  | .local _ .vmem, ⟨6, _⟩ => ⟨S1x16x16384, .f32⟩
  | .local _ .vmem, ⟨7, _⟩ => ⟨S1x16x16384, .f32⟩
  | .local _ .vmem, ⟨8, _⟩ => ⟨S16x1, .f32⟩
  | .local _ .vmem, ⟨9, _⟩ => ⟨S16x1, .f32⟩
  | .local _ .vmem, ⟨10, _⟩ => ⟨S1x64x4096, .f32⟩
  | .local _ .vmem, ⟨11, _⟩ => ⟨S1x64x4096, .f32⟩
  | .local _ .vmem, ⟨12, _⟩ => ⟨S1024x768, .bf16⟩
  | .local _ .vmem, ⟨13, _⟩ => ⟨S1024x768, .bf16⟩
  | .local _ .vmem, ⟨14, _⟩ => ⟨S1024x128, .f32⟩
  | .local _ .vmem, ⟨15, _⟩ => ⟨S1024x128, .f32⟩
  | .local _ .vmem, ⟨16, _⟩ => ⟨S16x16384, .bf16⟩
  | .local _ .vmem, ⟨17, _⟩ => ⟨S16x16384, .bf16⟩
  | .local _ .vmem, ⟨18, _⟩ => ⟨S64x4096, .bf16⟩
  | .local _ .vmem, ⟨19, _⟩ => ⟨S64x4096, .bf16⟩
  | .local _ .vmem, ⟨20, _⟩ => ⟨S1024x4096, .bf16⟩
  | .local _ .vmem, ⟨21, _⟩ => ⟨S1024x4096, .bf16⟩
  | .local _ .vmem, ⟨22, _⟩ => ⟨S1024x128, .f32⟩
  | .local _ .vmem, ⟨23, _⟩ => ⟨S1024x128, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev main_v10_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![17, 16], ![false, false]⟩

def k0_mult1 (i : grid0.Coords) : BitVec 32 :=
  let arg1 : BitVec 32 := BitVec.ofNat 32 (i 1).val
  let c768_i32 : BitVec 32 := 768#32
  let v0 : BitVec 32 := Scalar.muli arg1 c768_i32
  let c6144_i32 : BitVec 32 := 6144#32
  let v1 : BitVec 1 := Scalar.cmpi .slt v0 c6144_i32
  let c16_i32 : BitVec 32 := 16#32
  let v2 : BitVec 32 := Scalar.addi v0 c16_i32
  let v3 : BitVec 32 := Scalar.select v1 v0 v2
  v3
def k0_cond1 (i : grid0.Coords) : BitVec 1 :=
  let arg0 : BitVec 32 := BitVec.ofNat 32 (i 0).val
  let c1_i32 : BitVec 32 := 1#32
  let v0 : BitVec 32 := Scalar.andi arg0 c1_i32
  let c0_i32 : BitVec 32 := 0#32
  let v1 : BitVec 1 := Scalar.cmpi .eq v0 c0_i32
  let v2 : BitVec 32 := Scalar.extui v1
  let c0_i32_0 : BitVec 32 := 0#32
  let v3 : BitVec 1 := Scalar.cmpi .ne v2 c0_i32_0
  v3

def k0_cond3 (i : grid0.Coords) : BitVec 1 :=
  let arg0 : BitVec 32 := BitVec.ofNat 32 (i 0).val
  let c0_i32_7 : BitVec 32 := 0#32
  let v13 : BitVec 1 := Scalar.cmpi .eq arg0 c0_i32_7
  let v14 : BitVec 32 := Scalar.extui v13
  let c0_i32_8 : BitVec 32 := 0#32
  let v15 : BitVec 1 := Scalar.cmpi .ne v14 c0_i32_8
  v15

def k0_mult2 (i : grid0.Coords) : BitVec 32 :=
  let arg1 : BitVec 32 := BitVec.ofNat 32 (i 1).val
  let c64_i32 : BitVec 32 := 64#32
  let v40 : BitVec 32 := Scalar.muli arg1 c64_i32
  v40
def k0_off1 (i : grid0.Coords) : Fin 2 → Nat :=
  let arg1 : BitVec 32 := BitVec.ofNat 32 (i 1).val
  let c64_i32 : BitVec 32 := 64#32
  let v40 : BitVec 32 := Scalar.muli arg1 c64_i32
  let v41 : BitVec 32 := v40
  let v42 : Index := Scalar.indexCast v41
  let c0_22 : Index := 0#32
  ![v42.toNat, 0]
def k0_off2 (i : grid0.Coords) : Fin 2 → Nat :=
  let arg1 : BitVec 32 := BitVec.ofNat 32 (i 1).val
  let c64_i32 : BitVec 32 := 64#32
  let v40 : BitVec 32 := Scalar.muli arg1 c64_i32
  let v41 : BitVec 32 := v40
  let v49 : Index := Scalar.indexCast v41
  let c0_26 : Index := 0#32
  ![v49.toNat, 0]
def k0_cond4 (i : grid0.Coords) : BitVec 1 :=
  let arg0 : BitVec 32 := BitVec.ofNat 32 (i 0).val
  let c0_i32_9 : BitVec 32 := 0#32
  let v16 : BitVec 1 := Scalar.cmpi .sgt arg0 c0_i32_9
  let v17 : BitVec 32 := Scalar.extui v16
  let c0_i32_10 : BitVec 32 := 0#32
  let v18 : BitVec 1 := Scalar.cmpi .ne v17 c0_i32_10
  v18

def k0_mult3 (i : grid0.Coords) : BitVec 32 :=
  let arg1 : BitVec 32 := BitVec.ofNat 32 (i 1).val
  let c64_i32 : BitVec 32 := 64#32
  let v42 : BitVec 32 := Scalar.muli arg1 c64_i32
  v42
def k0_off3 (i : grid0.Coords) : Fin 2 → Nat :=
  let arg1 : BitVec 32 := BitVec.ofNat 32 (i 1).val
  let c64_i32 : BitVec 32 := 64#32
  let v42 : BitVec 32 := Scalar.muli arg1 c64_i32
  let v43 : BitVec 32 := v42
  let v44 : Index := Scalar.indexCast v43
  let c0_23 : Index := 0#32
  ![v44.toNat, 0]
def k0_off4 (i : grid0.Coords) : Fin 2 → Nat :=
  let arg1 : BitVec 32 := BitVec.ofNat 32 (i 1).val
  let c64_i32 : BitVec 32 := 64#32
  let v42 : BitVec 32 := Scalar.muli arg1 c64_i32
  let v43 : BitVec 32 := v42
  let v51 : Index := Scalar.indexCast v43
  let c0_27 : Index := 0#32
  ![v51.toNat, 0]
def k0_cond5 (i : grid0.Coords) : BitVec 1 :=
  let arg0 : BitVec 32 := BitVec.ofNat 32 (i 0).val
  let c1_i32_1 : BitVec 32 := 1#32
  let v4 : BitVec 32 := Scalar.andi arg0 c1_i32_1
  let c1_i32_2 : BitVec 32 := 1#32
  let v5 : BitVec 1 := Scalar.cmpi .eq v4 c1_i32_2
  let v6 : BitVec 32 := Scalar.extui v5
  let c0_i32_3 : BitVec 32 := 0#32
  let v7 : BitVec 1 := Scalar.cmpi .ne v6 c0_i32_3
  v7

def k0_cond7 (i : grid0.Coords) : BitVec 1 :=
  let arg0 : BitVec 32 := BitVec.ofNat 32 (i 0).val
  let c0_i32_7 : BitVec 32 := 0#32
  let v13 : BitVec 1 := Scalar.cmpi .eq arg0 c0_i32_7
  let v14 : BitVec 32 := Scalar.extui v13
  let c0_i32_8 : BitVec 32 := 0#32
  let v15 : BitVec 1 := Scalar.cmpi .ne v14 c0_i32_8
  v15

def k0_mult4 (i : grid0.Coords) : BitVec 32 :=
  let arg1 : BitVec 32 := BitVec.ofNat 32 (i 1).val
  let c64_i32 : BitVec 32 := 64#32
  let v40 : BitVec 32 := Scalar.muli arg1 c64_i32
  v40
def k0_off5 (i : grid0.Coords) : Fin 2 → Nat :=
  let arg1 : BitVec 32 := BitVec.ofNat 32 (i 1).val
  let c64_i32 : BitVec 32 := 64#32
  let v40 : BitVec 32 := Scalar.muli arg1 c64_i32
  let v41 : BitVec 32 := v40
  let v42 : Index := Scalar.indexCast v41
  let c0_22 : Index := 0#32
  ![v42.toNat, 0]
def k0_off6 (i : grid0.Coords) : Fin 2 → Nat :=
  let arg1 : BitVec 32 := BitVec.ofNat 32 (i 1).val
  let c64_i32 : BitVec 32 := 64#32
  let v40 : BitVec 32 := Scalar.muli arg1 c64_i32
  let v41 : BitVec 32 := v40
  let v49 : Index := Scalar.indexCast v41
  let c0_26 : Index := 0#32
  ![v49.toNat, 0]
def k0_cond8 (i : grid0.Coords) : BitVec 1 :=
  let arg0 : BitVec 32 := BitVec.ofNat 32 (i 0).val
  let c0_i32_9 : BitVec 32 := 0#32
  let v16 : BitVec 1 := Scalar.cmpi .sgt arg0 c0_i32_9
  let v17 : BitVec 32 := Scalar.extui v16
  let c0_i32_10 : BitVec 32 := 0#32
  let v18 : BitVec 1 := Scalar.cmpi .ne v17 c0_i32_10
  v18

def k0_mult5 (i : grid0.Coords) : BitVec 32 :=
  let arg1 : BitVec 32 := BitVec.ofNat 32 (i 1).val
  let c64_i32 : BitVec 32 := 64#32
  let v42 : BitVec 32 := Scalar.muli arg1 c64_i32
  v42
def k0_off7 (i : grid0.Coords) : Fin 2 → Nat :=
  let arg1 : BitVec 32 := BitVec.ofNat 32 (i 1).val
  let c64_i32 : BitVec 32 := 64#32
  let v42 : BitVec 32 := Scalar.muli arg1 c64_i32
  let v43 : BitVec 32 := v42
  let v44 : Index := Scalar.indexCast v43
  let c0_23 : Index := 0#32
  ![v44.toNat, 0]
def k0_off8 (i : grid0.Coords) : Fin 2 → Nat :=
  let arg1 : BitVec 32 := BitVec.ofNat 32 (i 1).val
  let c64_i32 : BitVec 32 := 64#32
  let v42 : BitVec 32 := Scalar.muli arg1 c64_i32
  let v43 : BitVec 32 := v42
  let v51 : Index := Scalar.indexCast v43
  let c0_27 : Index := 0#32
  ![v51.toNat, 0]
def k0_cond2 (i : grid0.Coords) : BitVec 1 :=
  let arg0 : BitVec 32 := BitVec.ofNat 32 (i 0).val
  let c0_i32_4 : BitVec 32 := 0#32
  let v8 : BitVec 1 := Scalar.cmpi .sgt arg0 c0_i32_4
  let arg1 : BitVec 32 := BitVec.ofNat 32 (i 1).val
  let c0_i32_5 : BitVec 32 := 0#32
  let v9 : BitVec 1 := Scalar.cmpi .eq arg1 c0_i32_5
  let v10 : BitVec 1 := Scalar.andi v8 v9
  let v11 : BitVec 32 := Scalar.extui v10
  let c0_i32_6 : BitVec 32 := 0#32
  let v12 : BitVec 1 := Scalar.cmpi .ne v11 c0_i32_6
  v12

def k0_cond6 (i : grid0.Coords) : BitVec 1 :=
  let arg0 : BitVec 32 := BitVec.ofNat 32 (i 0).val
  let c0_i32_4 : BitVec 32 := 0#32
  let v8 : BitVec 1 := Scalar.cmpi .sgt arg0 c0_i32_4
  let arg1 : BitVec 32 := BitVec.ofNat 32 (i 1).val
  let c0_i32_5 : BitVec 32 := 0#32
  let v9 : BitVec 1 := Scalar.cmpi .eq arg1 c0_i32_5
  let v10 : BitVec 1 := Scalar.andi v8 v9
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c16_i32 : BitVec 32 := 16#32
  let v1 : BitVec 32 := Scalar.muli v0 c16_i32
  let v2 : BitVec 32 := Scalar.addi v1 arg1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c768_i32 : BitVec 32 := 768#32
  let v0 : BitVec 32 := Scalar.muli arg1 c768_i32
  let c6144_i32 : BitVec 32 := 6144#32
  let v1 : BitVec 1 := Scalar.cmpi .slt v0 c6144_i32
  let c16_i32 : BitVec 32 := 16#32
  let v2 : BitVec 32 := Scalar.addi v0 c16_i32
  let v3 : BitVec 32 := Scalar.select v1 v0 v2
  let v4 : BitVec 32 := v3
  let c0_i32 : BitVec 32 := 0#32
  let c0_i32_0 : BitVec 32 := 0#32
  ![v4.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c255_i32 : BitVec 32 := 255#32
  let v2 : BitVec 32 := Scalar.minsi v1 c255_i32
  let c0_i32 : BitVec 32 := 0#32
  let c0_i32_0 : BitVec 32 := 0#32
  let c0_i32_1 : BitVec 32 := 0#32
  ![c0_i32.toNat, v2.toNat, c0_i32_0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_6 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c255_i32 : BitVec 32 := 255#32
  let v2 : BitVec 32 := Scalar.minsi v1 c255_i32
  let c0_i32 : BitVec 32 := 0#32
  let c0_i32_0 : BitVec 32 := 0#32
  let c0_i32_1 : BitVec 32 := 0#32
  ![c0_i32.toNat, v2.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.subi arg0 c1_i32
  let c16_i32 : BitVec 32 := 16#32
  let v2 : BitVec 32 := Scalar.select v0 c16_i32 v1
  let c0_i32_0 : BitVec 32 := 0#32
  ![v2.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.subi arg0 c1_i32
  let c16_i32 : BitVec 32 := 16#32
  let v2 : BitVec 32 := Scalar.select v0 c16_i32 v1
  let c0_i32_0 : BitVec 32 := 0#32
  let c0_i32_1 : BitVec 32 := 0#32
  ![v2.toNat, c0_i32_0.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c255_i32 : BitVec 32 := 255#32
  let v2 : BitVec 32 := Scalar.minsi v1 c255_i32
  let c0_i32 : BitVec 32 := 0#32
  let c0_i32_0 : BitVec 32 := 0#32
  ![v2.toNat, c0_i32.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S768x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S128x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x16x16384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S16x16384 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S64x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S4x4096x4096 : Shape := ⟨3, ![4, 4096, 4096]⟩
abbrev S1x4096 : Shape := ⟨2, ![1, 4096]⟩
abbrev S1x4096x12304 : Shape := ⟨3, ![1, 4096, 12304]⟩
abbrev S1x4096x16384 : Shape := ⟨3, ![1, 4096, 16384]⟩
abbrev S1x16384x4096 : Shape := ⟨3, ![1, 16384, 4096]⟩
abbrev S4096 : Shape := ⟨1, ![4096]⟩
abbrev S_ : Shape := ⟨0, ![]⟩
abbrev S4x4096 : Shape := ⟨2, ![4, 4096]⟩
abbrev S4x4096x1 : Shape := ⟨3, ![4, 4096, 1]⟩
abbrev S1x1x4096 : Shape := ⟨3, ![1, 1, 4096]⟩
abbrev S4096x12304 : Shape := ⟨2, ![4096, 12304]⟩
abbrev S4x4096x12304 : Shape := ⟨3, ![4, 4096, 12304]⟩
abbrev S4x4096x2048 : Shape := ⟨3, ![4, 4096, 2048]⟩
abbrev S4x4096x16 : Shape := ⟨3, ![4, 4096, 16]⟩
abbrev S4x4096x12288 : Shape := ⟨3, ![4, 4096, 12288]⟩
abbrev S16384x12288 : Shape := ⟨2, ![16384, 12288]⟩
abbrev S17408x12288 : Shape := ⟨2, ![17408, 12288]⟩
abbrev S16384x16 : Shape := ⟨2, ![16384, 16]⟩
abbrev S17408x128 : Shape := ⟨2, ![17408, 128]⟩
abbrev S4096x1 : Shape := ⟨2, ![4096, 1]⟩
abbrev S4096x16384 : Shape := ⟨2, ![4096, 16384]⟩
abbrev S16384x4096 : Shape := ⟨2, ![16384, 4096]⟩

abbrev nBuf : Space → Nat
  | .hbm => 50
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S1x4096, .f32⟩
  | .hbm, ⟨2, _⟩ => ⟨S1x4096x12304, .f32⟩
  | .hbm, ⟨3, _⟩ => ⟨S1x4096, .f32⟩
  | .hbm, ⟨4, _⟩ => ⟨S1x4096x16384, .f32⟩
  | .hbm, ⟨5, _⟩ => ⟨S1x16384x4096, .f32⟩
  | .hbm, ⟨6, _⟩ => ⟨S4096, .f32⟩
  | .hbm, ⟨7, _⟩ => ⟨S4x4096x4096, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S4x4096x1, .f32⟩
  | .hbm, ⟨18, _⟩ => ⟨S4x4096x4096, .f32⟩
  | .hbm, ⟨19, _⟩ => ⟨S4x4096x4096, .f32⟩
  | .hbm, ⟨20, _⟩ => ⟨S1x1x4096, .f32⟩
  | .hbm, ⟨21, _⟩ => ⟨S4x4096x4096, .f32⟩
  | .hbm, ⟨22, _⟩ => ⟨S4x4096x4096, .f32⟩
  | .hbm, ⟨23, _⟩ => ⟨S4096x12304, .f32⟩
  | .hbm, ⟨24, _⟩ => ⟨S4x4096x12304, .f32⟩
  | .hbm, ⟨25, _⟩ => ⟨S4x4096x2048, .f32⟩
  | .hbm, ⟨26, _⟩ => ⟨S4x4096x2048, .f32⟩
  | .hbm, ⟨27, _⟩ => ⟨S4x4096x2048, .f32⟩
  | .hbm, ⟨28, _⟩ => ⟨S4x4096x16, .f32⟩
  | .hbm, ⟨29, _⟩ => ⟨S4x4096x2048, .f32⟩
  | .hbm, ⟨30, _⟩ => ⟨S4x4096x2048, .f32⟩
  | .hbm, ⟨31, _⟩ => ⟨S4x4096x2048, .f32⟩
  | .hbm, ⟨32, _⟩ => ⟨S4x4096x12288, .f32⟩
  | .hbm, ⟨33, _⟩ => ⟨S16384x12288, .f32⟩
  | .hbm, ⟨34, _⟩ => ⟨S_, .i32⟩
  | .hbm, ⟨35, _⟩ => ⟨S_, .f32⟩
  | .hbm, ⟨36, _⟩ => ⟨S17408x12288, .f32⟩
  | .hbm, ⟨37, _⟩ => ⟨S16384x16, .f32⟩
  | .hbm, ⟨38, _⟩ => ⟨S_, .i32⟩
  | .hbm, ⟨39, _⟩ => ⟨S_, .f32⟩
  | .hbm, ⟨40, _⟩ => ⟨S17408x128, .f32⟩
  | .hbm, ⟨41, _⟩ => ⟨S17408x12288, .bf16⟩
  | .hbm, ⟨42, _⟩ => ⟨S4096, .f32⟩
  | .hbm, ⟨43, _⟩ => ⟨S4096x1, .f32⟩
  | .hbm, ⟨44, _⟩ => ⟨S4096x16384, .f32⟩
  | .hbm, ⟨45, _⟩ => ⟨S4096x16384, .f32⟩
  | .hbm, ⟨46, _⟩ => ⟨S4096x16384, .f32⟩
  | .hbm, ⟨47, _⟩ => ⟨S4096x16384, .bf16⟩
  | .hbm, ⟨48, _⟩ => ⟨S16384x4096, .f32⟩
  | .hbm, ⟨49, _⟩ => ⟨S16384x4096, .bf16⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c : Ref sig .tc := ⟨.hbm, 34, rfl⟩
abbrev main_call0_v0 : Ref sig .tc := ⟨.hbm, 35, rfl⟩
abbrev main_v25 : Ref sig .tc := ⟨.hbm, 36, rfl⟩
abbrev main_v26 : Ref sig .tc := ⟨.hbm, 37, rfl⟩
abbrev main_c_2 : Ref sig .tc := ⟨.hbm, 38, rfl⟩
abbrev main_call1_v0 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Kernel2.lean ====
abbrev S4x4096x4096 : Shape := ⟨3, ![4, 4096, 4096]⟩
abbrev S1x4096x4096 : Shape := ⟨3, ![1, 4096, 4096]⟩
abbrev S1x4096 : Shape := ⟨2, ![1, 4096]⟩
abbrev S1x4096x16384 : Shape := ⟨3, ![1, 4096, 16384]⟩
abbrev S1x16384x4096 : Shape := ⟨3, ![1, 16384, 4096]⟩
abbrev S4096 : Shape := ⟨1, ![4096]⟩
abbrev S16384x4096 : Shape := ⟨2, ![16384, 4096]⟩
abbrev S4096x16384 : Shape := ⟨2, ![4096, 16384]⟩
abbrev S4096x1 : Shape := ⟨2, ![4096, 1]⟩
abbrev S4096x4096 : Shape := ⟨2, ![4096, 4096]⟩
abbrev S16384x1024 : Shape := ⟨2, ![16384, 1024]⟩
abbrev S1024x2048 : Shape := ⟨2, ![1024, 2048]⟩
abbrev S2048x512 : Shape := ⟨2, ![2048, 512]⟩
abbrev S1024x512 : Shape := ⟨2, ![1024, 512]⟩
abbrev S1024x128 : Shape := ⟨2, ![1024, 128]⟩
abbrev S1024 : Shape := ⟨1, ![1024]⟩
abbrev S1024x1 : Shape := ⟨2, ![1024, 1]⟩
abbrev S512x4096 : Shape := ⟨2, ![512, 4096]⟩
abbrev S512x1024 : Shape := ⟨2, ![512, 1024]⟩
abbrev S16x4096 : Shape := ⟨2, ![16, 4096]⟩
abbrev S4096x512 : Shape := ⟨2, ![4096, 512]⟩
abbrev S512x128 : Shape := ⟨2, ![512, 128]⟩
abbrev S512x512 : Shape := ⟨2, ![512, 512]⟩
abbrev S32x4096 : Shape := ⟨2, ![32, 4096]⟩
abbrev S32 : Shape := ⟨1, ![32]⟩
abbrev S32x1 : Shape := ⟨2, ![32, 1]⟩

abbrev nBuf : Space → Nat
  | .hbm => 24
  | .vmem => 29
  | .smem => 0
  | _ => 0

abbrev bufTy : (tb : Table) → Fin (tcTables nBuf tb) → BufTy
  | .hbm, ⟨0, _⟩ => ⟨S4x4096x4096, .bf16⟩
  | .hbm, ⟨1, _⟩ => ⟨S4x4096x4096, .f32⟩
  | .hbm, ⟨2, _⟩ => ⟨S1x4096x4096, .f32⟩
  | .hbm, ⟨3, _⟩ => ⟨S1x4096, .f32⟩
  | .hbm, ⟨4, _⟩ => ⟨S1x4096x16384, .f32⟩
  | .hbm, ⟨5, _⟩ => ⟨S1x16384x4096, .f32⟩
  | .hbm, ⟨6, _⟩ => ⟨S4096, .f32⟩
  | .hbm, ⟨7, _⟩ => ⟨S16384x4096, .bf16⟩
  | .hbm, ⟨8, _⟩ => ⟨S16384x4096, .f32⟩
  | .hbm, ⟨9, _⟩ => ⟨S4096, .f32⟩
  | .hbm, ⟨10, _⟩ => ⟨S4096x16384, .f32⟩
  | .hbm, ⟨11, _⟩ => ⟨S4096x1, .f32⟩
  | .hbm, ⟨12, _⟩ => ⟨S4096x16384, .f32⟩
  | .hbm, ⟨13, _⟩ => ⟨S4096x16384, .f32⟩
  | .hbm, ⟨14, _⟩ => ⟨S4096x16384, .bf16⟩
  | .hbm, ⟨15, _⟩ => ⟨S16384x4096, .f32⟩
  | .hbm, ⟨16, _⟩ => ⟨S16384x4096, .bf16⟩
  | .hbm, ⟨17, _⟩ => ⟨S4096x4096, .f32⟩
  | .hbm, ⟨18, _⟩ => ⟨S4096x4096, .bf16⟩
  | .hbm, ⟨19, _⟩ => ⟨S16384x4096, .f32⟩
  | .hbm, ⟨20, _⟩ => ⟨S16384x4096, .bf16⟩
  | .hbm, ⟨21, _⟩ => ⟨S16384x1024, .f32⟩
  | .hbm, ⟨22, _⟩ => ⟨S1x4096, .f32⟩
  | .hbm, ⟨23, _⟩ => ⟨S16384x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .bf16⟩
  | .local _ .vmem, ⟨13, _⟩ => ⟨S1024x512, .bf16⟩
  | .local _ .vmem, ⟨14, _⟩ => ⟨S1024x128, .f32⟩
  | .local _ .vmem, ⟨15, _⟩ => ⟨S1024x128, .f32⟩
  | .local _ .vmem, ⟨16, _⟩ => ⟨S512x4096, .bf16⟩
  | .local _ .vmem, ⟨17, _⟩ => ⟨S512x4096, .bf16⟩
  | .local _ .vmem, ⟨18, _⟩ => ⟨S512x1024, .f32⟩
  | .local _ .vmem, ⟨19, _⟩ => ⟨S512x1024, .f32⟩
  | .local _ .vmem, ⟨20, _⟩ => ⟨S16x4096, .f32⟩
  | .local _ .vmem, ⟨21, _⟩ => ⟨S16x4096, .f32⟩
  | .local _ .vmem, ⟨22, _⟩ => ⟨S4096x512, .bf16⟩
  | .local _ .vmem, ⟨23, _⟩ => ⟨S4096x512, .bf16⟩
  | .local _ .vmem, ⟨24, _⟩ => ⟨S512x4096, .bf16⟩
  | .local _ .vmem, ⟨25, _⟩ => ⟨S512x4096, .bf16⟩
  | .local _ .vmem, ⟨26, _⟩ => ⟨S1x4096, .f32⟩
  | .local _ .vmem, ⟨27, _⟩ => ⟨S512x4096, .f32⟩
  | .local _ .vmem, ⟨28, _⟩ => ⟨S512x4096, .f32⟩
  | _, _ => ⟨S4x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev main_v12_2 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg6_0 : Ref sig .tc := ⟨.vmem, 27, rfl⟩
abbrev cc1_stg6_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem6_0 : DmaSem sig := 27
abbrev cc1_sem6_1 : DmaSem sig := 28

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![32, 32], ![false, false]⟩

def k1_mult1 (i : grid1.Coords) : BitVec 32 :=
  let arg1 : BitVec 32 := BitVec.ofNat 32 (i 1).val
  let c16_i32 : BitVec 32 := 16#32
  let v3 : BitVec 32 := Scalar.muli arg1 c16_i32
  v3
def k1_off1 (i : grid1.Coords) : Fin 2 → Nat :=
  let arg1 : BitVec 32 := BitVec.ofNat 32 (i 1).val
  let c16_i32 : BitVec 32 := 16#32
  let v3 : BitVec 32 := Scalar.muli arg1 c16_i32
  let v4 : BitVec 32 := v3
  let v5 : Index := Scalar.indexCast v4
  let c0 : Index := 0#32
  ![v5.toNat, 0]
def k1_cond2 (i : grid1.Coords) : BitVec 1 :=
  let arg1 : BitVec 32 := BitVec.ofNat 32 (i 1).val
  let c31_i32 : BitVec 32 := 31#32
  let v60 : BitVec 1 := Scalar.cmpi .eq arg1 c31_i32
  let v61 : BitVec 32 := Scalar.extui v60
  let c0_i32_27 : BitVec 32 := 0#32
  let v62 : BitVec 1 := Scalar.cmpi .ne v61 c0_i32_27
  v62

@[reducible] def k1_t1_loop : Scf.Loop 32 :=
  let c0_i32_28 : BitVec 32 := 0#32
  let c16_i32_29 : BitVec 32 := 16#32
  let v63 : BitVec 32 := Scalar.addi c0_i32_28 c16_i32_29
  let c1_i32 : BitVec 32 := 1#32
  ⟨c0_i32_28, v63, c1_i32⟩
def k1_mult2 (k1_t1 : Fin k1_t1_loop.trips) : BitVec 32 :=
  let c0_i32_28 : BitVec 32 := 0#32
  let c1_i32 : BitVec 32 := 1#32
  let arg9 : BitVec 32 := Scf.iv c0_i32_28 c1_i32 k1_t1
  let c32_i32 : BitVec 32 := 32#32
  let v64 : BitVec 32 := Scalar.muli arg9 c32_i32
  v64
def k1_off2 (k1_t1 : Fin k1_t1_loop.trips) : Fin 2 → Nat :=
  let c0_i32_28 : BitVec 32 := 0#32
  let c1_i32 : BitVec 32 := 1#32
  let arg9 : BitVec 32 := Scf.iv c0_i32_28 c1_i32 k1_t1
  let c32_i32 : BitVec 32 := 32#32
  let v64 : BitVec 32 := Scalar.muli arg9 c32_i32
  let v65 : BitVec 32 := v64
  let v66 : Index := Scalar.indexCast v65
  let c0_31 : Index := 0#32
  ![v66.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S16x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S4096x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S512x4096 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 1 → Memref sig .tc .vmem S1x4096 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S512x4096 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]
-- ==== Reference2Ideal.lean ====
abbrev S4x4096x4096 : Shape := ⟨3, ![4, 4096, 4096]⟩
abbrev S1x4096x4096 : Shape := ⟨3, ![1, 4096, 4096]⟩
abbrev S1x4096 : Shape := ⟨2, ![1, 4096]⟩
abbrev S1x4096x16384 : Shape := ⟨3, ![1, 4096, 16384]⟩
abbrev S1x16384x4096 : Shape := ⟨3, ![1, 16384, 4096]⟩
abbrev S4096 : Shape := ⟨1, ![4096]⟩
abbrev S4096x4096 : Shape := ⟨2, ![4096, 4096]⟩
abbrev S_ : Shape := ⟨0, ![]⟩
abbrev S4x4096 : Shape := ⟨2, ![4, 4096]⟩
abbrev S4x4096x1 : Shape := ⟨3, ![4, 4096, 1]⟩
abbrev S1x1x4096 : Shape := ⟨3, ![1, 1, 4096]⟩
abbrev S4096x16384 : Shape := ⟨2, ![4096, 16384]⟩
abbrev S4x4096x16384 : Shape := ⟨3, ![4, 4096, 16384]⟩
abbrev S16384x4096 : Shape := ⟨2, ![16384, 4096]⟩

abbrev nBuf : Space → Nat
  | .hbm => 53
  | .vmem => 0
  | .smem => 0
  | _ => 0

abbrev bufTy : (tb : Table) → Fin (tcTables nBuf tb) → BufTy
  | .hbm, ⟨0, _⟩ => ⟨S4x4096x4096, .bf16⟩
  | .hbm, ⟨1, _⟩ => ⟨S4x4096x4096, .f32⟩
  | .hbm, ⟨2, _⟩ => ⟨S1x4096x4096, .f32⟩
  | .hbm, ⟨3, _⟩ => ⟨S1x4096, .f32⟩
  | .hbm, ⟨4, _⟩ => ⟨S1x4096x16384, .f32⟩
  | .hbm, ⟨5, _⟩ => ⟨S1x16384x4096, .f32⟩
  | .hbm, ⟨6, _⟩ => ⟨S4096, .f32⟩
  | .hbm, ⟨7, _⟩ => ⟨S4096x4096, .f32⟩
  | .hbm, ⟨8, _⟩ => ⟨S4x4096x4096, .f32⟩
  | .hbm, ⟨9, _⟩ => ⟨S4x4096x4096, .f32⟩
  | .hbm, ⟨10, _⟩ => ⟨S4096, .f32⟩
  | .hbm, ⟨11, _⟩ => ⟨S4x4096x4096, .f32⟩
  | .hbm, ⟨12, _⟩ => ⟨S_, .f32⟩
  | .hbm, ⟨13, _⟩ => ⟨S4x4096, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S_, .f32⟩
  | .hbm, ⟨19, _⟩ => ⟨S4x4096x1, .f32⟩
  | .hbm, ⟨20, _⟩ => ⟨S4x4096x1, .f32⟩
  | .hbm, ⟨21, _⟩ => ⟨S4x4096x1, .f32⟩
  | .hbm, ⟨22, _⟩ => ⟨S4x4096x4096, .f32⟩
  | .hbm, ⟨23, _⟩ => ⟨S4x4096x4096, .f32⟩
  | .hbm, ⟨24, _⟩ => ⟨S1x1x4096, .f32⟩
  | .hbm, ⟨25, _⟩ => ⟨S4x4096x4096, .f32⟩
  | .hbm, ⟨26, _⟩ => ⟨S4x4096x4096, .f32⟩
  | .hbm, ⟨27, _⟩ => ⟨S4096x16384, .f32⟩
  | .hbm, ⟨28, _⟩ => ⟨S4x4096x16384, .f32⟩
  | .hbm, ⟨29, _⟩ => ⟨S_, .f32⟩
  | .hbm, ⟨30, _⟩ => ⟨S4x4096x16384, .f32⟩
  | .hbm, ⟨31, _⟩ => ⟨S4x4096x16384, .f32⟩
  | .hbm, ⟨32, _⟩ => ⟨S4x4096x16384, .f32⟩
  | .hbm, ⟨33, _⟩ => ⟨S16384x4096, .f32⟩
  | .hbm, ⟨34, _⟩ => ⟨S4x4096x4096, .f32⟩
  | .hbm, ⟨35, _⟩ => ⟨S4x4096x4096, .f32⟩
  | .hbm, ⟨36, _⟩ => ⟨S4x4096x4096, .f32⟩
  | .hbm, ⟨37, _⟩ => ⟨S_, .f32⟩
  | .hbm, ⟨38, _⟩ => ⟨S4x4096, .f32⟩
  | .hbm, ⟨39, _⟩ => ⟨S4x4096x1, .f32⟩
  | .hbm, ⟨40, _⟩ => ⟨S_, .f32⟩
  | .hbm, ⟨41, _⟩ => ⟨S4x4096x1, .f32⟩
  | .hbm, ⟨42, _⟩ => ⟨S4x4096x1, .f32⟩
  | .hbm, ⟨43, _⟩ => ⟨S_, .f32⟩
  | .hbm, ⟨44, _⟩ => ⟨S4x4096x1, .f32⟩
  | .hbm, ⟨45, _⟩ => ⟨S4x4096x1, .f32⟩
  | .hbm, ⟨46, _⟩ => ⟨S4x4096x1, .f32⟩
  | .hbm, ⟨47, _⟩ => ⟨S4x4096x4096, .f32⟩
  | .hbm, ⟨48, _⟩ => ⟨S4x4096x4096, .f32⟩
  | .hbm, ⟨49, _⟩ => ⟨S1x1x4096, .f32⟩
  | .hbm, ⟨50, _⟩ => ⟨S4x4096x4096, .f32⟩
  | .hbm, ⟨51, _⟩ => ⟨S4x4096x4096, .f32⟩
  | .hbm, ⟨52, _⟩ => ⟨S16384x4096, .f32⟩
  | _, _ => ⟨S4x4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_cst : Ref sig .tc := ⟨.hbm, 29, rfl⟩
abbrev main_call0_v0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩

abbrev nD : Nat := 1
abbrev τ : Topo := Topo.v7x

variable {F : FTy → Type} [FloatOps F]
-- ==== Kernel3.lean ====
abbrev S4x4096x2048 : Shape := ⟨3, ![4, 4096, 2048]⟩
abbrev S4x4096x4096 : Shape := ⟨3, ![4, 4096, 4096]⟩
abbrev S4x256x4096 : Shape := ⟨3, ![4, 256, 4096]⟩
abbrev S1x4096x4096 : Shape := ⟨3, ![1, 4096, 4096]⟩
abbrev S1x4096 : Shape := ⟨2, ![1, 4096]⟩
abbrev S16384x2048 : Shape := ⟨2, ![16384, 2048]⟩
abbrev S16384x4096 : Shape := ⟨2, ![16384, 4096]⟩
abbrev S4096x4096 : Shape := ⟨2, ![4096, 4096]⟩
abbrev S16384x1024 : Shape := ⟨2, ![16384, 1024]⟩
abbrev S1024x2048 : Shape := ⟨2, ![1024, 2048]⟩
abbrev S2048x512 : Shape := ⟨2, ![2048, 512]⟩
abbrev S1024x512 : Shape := ⟨2, ![1024, 512]⟩
abbrev S1024x128 : Shape := ⟨2, ![1024, 128]⟩
abbrev S1024 : Shape := ⟨1, ![1024]⟩
abbrev S1024x1 : Shape := ⟨2, ![1024, 1]⟩
abbrev S4096 : Shape := ⟨1, ![4096]⟩
abbrev S4096x1 : Shape := ⟨2, ![4096, 1]⟩
abbrev S1024x4096 : Shape := ⟨2, ![1024, 4096]⟩
abbrev S1024x1024 : Shape := ⟨2, ![1024, 1024]⟩
abbrev S4096x1024 : Shape := ⟨2, ![4096, 1024]⟩
abbrev S512x4096 : Shape := ⟨2, ![512, 4096]⟩
abbrev S256x4096 : Shape := ⟨2, ![256, 4096]⟩
abbrev S512x1024 : Shape := ⟨2, ![512, 1024]⟩
abbrev S256x1024 : Shape := ⟨2, ![256, 1024]⟩
abbrev S512x256 : Shape := ⟨2, ![512, 256]⟩
abbrev S512 : Shape := ⟨1, ![512]⟩
abbrev S512x1 : Shape := ⟨2, ![512, 1]⟩

abbrev nBuf : Space → Nat
  | .hbm => 26
  | .vmem => 32
  | .smem => 0
  | _ => 0

abbrev bufTy : (tb : Table) → Fin (tcTables nBuf tb) → BufTy
  | .hbm, ⟨0, _⟩ => ⟨S4x4096x2048, .bf16⟩
  | .hbm, ⟨1, _⟩ => ⟨S4x4096x2048, .bf16⟩
  | .hbm, ⟨2, _⟩ => ⟨S4x4096x4096, .f32⟩
  | .hbm, ⟨3, _⟩ => ⟨S4x256x4096, .bf16⟩
  | .hbm, ⟨4, _⟩ => ⟨S4x256x4096, .bf16⟩
  | .hbm, ⟨5, _⟩ => ⟨S1x4096x4096, .f32⟩
  | .hbm, ⟨6, _⟩ => ⟨S1x4096, .f32⟩
  | .hbm, ⟨7, _⟩ => ⟨S1x4096x4096, .f32⟩
  | .hbm, ⟨8, _⟩ => ⟨S16384x2048, .bf16⟩
  | .hbm, ⟨9, _⟩ => ⟨S16384x2048, .bf16⟩
  | .hbm, ⟨10, _⟩ => ⟨S16384x4096, .f32⟩
  | .hbm, ⟨11, _⟩ => ⟨S4096x4096, .f32⟩
  | .hbm, ⟨12, _⟩ => ⟨S4096x4096, .bf16⟩
  | .hbm, ⟨13, _⟩ => ⟨S16384x4096, .f32⟩
  | .hbm, ⟨14, _⟩ => ⟨S16384x4096, .bf16⟩
  | .hbm, ⟨15, _⟩ => ⟨S16384x1024, .f32⟩
  | .hbm, ⟨16, _⟩ => ⟨S4096, .f32⟩
  | .hbm, ⟨17, _⟩ => ⟨S4096x4096, .f32⟩
  | .hbm, ⟨18, _⟩ => ⟨S4096x1, .f32⟩
  | .hbm, ⟨19, _⟩ => ⟨S4096x4096, .f32⟩
  | .hbm, ⟨20, _⟩ => ⟨S4096x4096, .f32⟩
  | .hbm, ⟨21, _⟩ => ⟨S4096x4096, .bf16⟩
  | .hbm, ⟨22, _⟩ => ⟨S16384x4096, .bf16⟩
  | .hbm, ⟨23, _⟩ => ⟨S1024x4096, .bf16⟩
  | .hbm, ⟨24, _⟩ => ⟨S1024x4096, .bf16⟩
  | .hbm, ⟨25, _⟩ => ⟨S16384x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .bf16⟩
  | .local _ .vmem, ⟨13, _⟩ => ⟨S1024x512, .bf16⟩
  | .local _ .vmem, ⟨14, _⟩ => ⟨S1024x128, .f32⟩
  | .local _ .vmem, ⟨15, _⟩ => ⟨S1024x128, .f32⟩
  | .local _ .vmem, ⟨16, _⟩ => ⟨S1024x4096, .bf16⟩
  | .local _ .vmem, ⟨17, _⟩ => ⟨S1024x4096, .bf16⟩
  | .local _ .vmem, ⟨18, _⟩ => ⟨S1024x1024, .f32⟩
  | .local _ .vmem, ⟨19, _⟩ => ⟨S1024x1024, .f32⟩
  | .local _ .vmem, ⟨20, _⟩ => ⟨S4096x1024, .bf16⟩
  | .local _ .vmem, ⟨21, _⟩ => ⟨S4096x1024, .bf16⟩
  | .local _ .vmem, ⟨22, _⟩ => ⟨S1024x1024, .bf16⟩
  | .local _ .vmem, ⟨23, _⟩ => ⟨S1024x1024, .bf16⟩
  | .local _ .vmem, ⟨24, _⟩ => ⟨S512x4096, .bf16⟩
  | .local _ .vmem, ⟨25, _⟩ => ⟨S512x4096, .bf16⟩
  | .local _ .vmem, ⟨26, _⟩ => ⟨S256x4096, .bf16⟩
  | .local _ .vmem, ⟨27, _⟩ => ⟨S256x4096, .bf16⟩
  | .local _ .vmem, ⟨28, _⟩ => ⟨S256x4096, .bf16⟩
  | .local _ .vmem, ⟨29, _⟩ => ⟨S256x4096, .bf16⟩
  | .local _ .vmem, ⟨30, _⟩ => ⟨S512x4096, .bf16⟩
  | .local _ .vmem, ⟨31, _⟩ => ⟨S512x4096, .bf16⟩
  | _, _ => ⟨S4x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg3_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem3_1 : DmaSem sig := 31

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![16, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S4096x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![4, 8], ![false, false]⟩

def cc2_transform_0 (i : grid2.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage2_0 : Fin 2 → Memref sig .tc .vmem S512x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S256x4096 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S256x4096 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S512x4096 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]
-- ==== Reference3Ideal.lean ====
abbrev S4x4096x2048 : Shape := ⟨3, ![4, 4096, 2048]⟩
abbrev S4x4096x4096 : Shape := ⟨3, ![4, 4096, 4096]⟩
abbrev S4x256x4096 : Shape := ⟨3, ![4, 256, 4096]⟩
abbrev S1x4096x4096 : Shape := ⟨3, ![1, 4096, 4096]⟩
abbrev S1x4096 : Shape := ⟨2, ![1, 4096]⟩
abbrev S4096x4096 : Shape := ⟨2, ![4096, 4096]⟩
abbrev S4096 : Shape := ⟨1, ![4096]⟩
abbrev S_ : Shape := ⟨0, ![]⟩
abbrev S4x4096 : Shape := ⟨2, ![4, 4096]⟩
abbrev S4x4096x1 : Shape := ⟨3, ![4, 4096, 1]⟩
abbrev S1x1x4096 : Shape := ⟨3, ![1, 1, 4096]⟩
abbrev S4x4096x4x1024 : Shape := ⟨4, ![4, 4096, 4, 1024]⟩
abbrev S4x256x4x1024 : Shape := ⟨4, ![4, 256, 4, 1024]⟩
abbrev S4x4x4096x256 : Shape := ⟨4, ![4, 4, 4096, 256]⟩
abbrev S4x4x4096 : Shape := ⟨3, ![4, 4, 4096]⟩
abbrev S4x4x4096x1 : Shape := ⟨4, ![4, 4, 4096, 1]⟩
abbrev S4x4x1024x4096 : Shape := ⟨4, ![4, 4, 1024, 4096]⟩
abbrev S16384x4096 : Shape := ⟨2, ![16384, 4096]⟩

abbrev nBuf : Space → Nat
  | .hbm => 60
  | .vmem => 0
  | .smem => 0
  | _ => 0

abbrev bufTy : (tb : Table) → Fin (tcTables nBuf tb) → BufTy
  | .hbm, ⟨0, _⟩ => ⟨S4x4096x2048, .bf16⟩
  | .hbm, ⟨1, _⟩ => ⟨S4x4096x2048, .bf16⟩
  | .hbm, ⟨2, _⟩ => ⟨S4x4096x4096, .f32⟩
  | .hbm, ⟨3, _⟩ => ⟨S4x256x4096, .bf16⟩
  | .hbm, ⟨4, _⟩ => ⟨S4x256x4096, .bf16⟩
  | .hbm, ⟨5, _⟩ => ⟨S1x4096x4096, .f32⟩
  | .hbm, ⟨6, _⟩ => ⟨S1x4096, .f32⟩
  | .hbm, ⟨7, _⟩ => ⟨S1x4096x4096, .f32⟩
  | .hbm, ⟨8, _⟩ => ⟨S4x4096x4096, .bf16⟩
  | .hbm, ⟨9, _⟩ => ⟨S4096x4096, .f32⟩
  | .hbm, ⟨10, _⟩ => ⟨S4x4096x4096, .f32⟩
  | .hbm, ⟨11, _⟩ => ⟨S4x4096x4096, .f32⟩
  | .hbm, ⟨12, _⟩ => ⟨S4096, .f32⟩
  | .hbm, ⟨13, _⟩ => ⟨S4x4096x4096, .f32⟩
  | .hbm, ⟨14, _⟩ => ⟨S_, .f32⟩
  | .hbm, ⟨15, _⟩ => ⟨S4x4096, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S_, .f32⟩
  | .hbm, ⟨21, _⟩ => ⟨S4x4096x1, .f32⟩
  | .hbm, ⟨22, _⟩ => ⟨S4x4096x1, .f32⟩
  | .hbm, ⟨23, _⟩ => ⟨S4x4096x1, .f32⟩
  | .hbm, ⟨24, _⟩ => ⟨S4x4096x4096, .f32⟩
  | .hbm, ⟨25, _⟩ => ⟨S4x4096x4096, .f32⟩
  | .hbm, ⟨26, _⟩ => ⟨S1x1x4096, .f32⟩
  | .hbm, ⟨27, _⟩ => ⟨S4x4096x4096, .f32⟩
  | .hbm, ⟨28, _⟩ => ⟨S4x4096x4096, .f32⟩
  | .hbm, ⟨29, _⟩ => ⟨S4096x4096, .f32⟩
  | .hbm, ⟨30, _⟩ => ⟨S4x4096x4096, .f32⟩
  | .hbm, ⟨31, _⟩ => ⟨S4x4096x4x1024, .f32⟩
  | .hbm, ⟨32, _⟩ => ⟨S4x256x4x1024, .bf16⟩
  | .hbm, ⟨33, _⟩ => ⟨S4x256x4x1024, .bf16⟩
  | .hbm, ⟨34, _⟩ => ⟨S4x256x4x1024, .f32⟩
  | .hbm, ⟨35, _⟩ => ⟨S4x4x4096x256, .f32⟩
  | .hbm, ⟨36, _⟩ => ⟨S_, .f32⟩
  | .hbm, ⟨37, _⟩ => ⟨S4x4x4096x256, .f32⟩
  | .hbm, ⟨38, _⟩ => ⟨S4x4x4096x256, .f32⟩
  | .hbm, ⟨39, _⟩ => ⟨S_, .f32⟩
  | .hbm, ⟨40, _⟩ => ⟨S4x4x4096, .f32⟩
  | .hbm, ⟨41, _⟩ => ⟨S_, .f32⟩
  | .hbm, ⟨42, _⟩ => ⟨S4x4x4096, .f32⟩
  | .hbm, ⟨43, _⟩ => ⟨S4x4x4096, .f32⟩
  | .hbm, ⟨44, _⟩ => ⟨S4x4x4096x1, .f32⟩
  | .hbm, ⟨45, _⟩ => ⟨S4x4x4096x256, .f32⟩
  | .hbm, ⟨46, _⟩ => ⟨S4x4x4096x256, .f32⟩
  | .hbm, ⟨47, _⟩ => ⟨S4x4x4096x256, .f32⟩
  | .hbm, ⟨48, _⟩ => ⟨S_, .f32⟩
  | .hbm, ⟨49, _⟩ => ⟨S4x4x4096, .f32⟩
  | .hbm, ⟨50, _⟩ => ⟨S4x4x4096x1, .f32⟩
  | .hbm, ⟨51, _⟩ => ⟨S4x4x4096x256, .f32⟩
  | .hbm, ⟨52, _⟩ => ⟨S4x4x4096x256, .f32⟩
  | .hbm, ⟨53, _⟩ => ⟨S4x256x4x1024, .f32⟩
  | .hbm, ⟨54, _⟩ => ⟨S4x4x1024x4096, .f32⟩
  | .hbm, ⟨55, _⟩ => ⟨S4x4096x4x1024, .f32⟩
  | .hbm, ⟨56, _⟩ => ⟨S4x4096x4096, .f32⟩
  | .hbm, ⟨57, _⟩ => ⟨S16384x4096, .f32⟩
  | .hbm, ⟨58, _⟩ => ⟨S16384x4096, .f32⟩
  | .hbm, ⟨59, _⟩ => ⟨S16384x4096, .bf16⟩
  | _, _ => ⟨S4x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== Kernel4.lean ====
abbrev S4x256x4096 : Shape := ⟨3, ![4, 256, 4096]⟩
abbrev S1x4096 : Shape := ⟨2, ![1, 4096]⟩
abbrev S1x4096x4096 : Shape := ⟨3, ![1, 4096, 4096]⟩
abbrev S1024x4096 : Shape := ⟨2, ![1024, 4096]⟩
abbrev S4096 : Shape := ⟨1, ![4096]⟩
abbrev S4096x4096 : Shape := ⟨2, ![4096, 4096]⟩
abbrev S4096x1024 : Shape := ⟨2, ![4096, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 7
  | .smem => 0
  | _ => 0

abbrev bufTy : (tb : Table) → Fin (tcTables nBuf tb) → BufTy
  | .hbm, ⟨0, _⟩ => ⟨S4x256x4096, .f32⟩
  | .hbm, ⟨1, _⟩ => ⟨S1x4096, .f32⟩
  | .hbm, ⟨2, _⟩ => ⟨S1x4096x4096, .f32⟩
  | .hbm, ⟨3, _⟩ => ⟨S1024x4096, .f32⟩
  | .hbm, ⟨4, _⟩ => ⟨S4096, .f32⟩
  | .hbm, ⟨5, _⟩ => ⟨S4096x4096, .f32⟩
  | .hbm, ⟨6, _⟩ => ⟨S4096x4096, .bf16⟩
  | .hbm, ⟨7, _⟩ => ⟨S1x4096, .f32⟩
  | .hbm, ⟨8, _⟩ => ⟨S1024x4096, .bf16⟩
  | .local _ .vmem, ⟨0, _⟩ => ⟨S4096x1024, .bf16⟩
  | .local _ .vmem, ⟨1, _⟩ => ⟨S4096x1024, .bf16⟩
  | .local _ .vmem, ⟨2, _⟩ => ⟨S512x4096, .f32⟩
  | .local _ .vmem, ⟨3, _⟩ => ⟨S1x4096, .f32⟩
  | .local _ .vmem, ⟨4, _⟩ => ⟨S512x1024, .bf16⟩
  | .local _ .vmem, ⟨5, _⟩ => ⟨S512x1024, .bf16⟩
  | .local _ .vmem, ⟨6, _⟩ => ⟨S512x4096, .bf16⟩
  | _, _ => ⟨S4x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S512x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S4x256x4096 : Shape := ⟨3, ![4, 256, 4096]⟩
abbrev S1x4096 : Shape := ⟨2, ![1, 4096]⟩
abbrev S1x4096x4096 : Shape := ⟨3, ![1, 4096, 4096]⟩
abbrev S4096 : Shape := ⟨1, ![4096]⟩
abbrev S_ : Shape := ⟨0, ![]⟩
abbrev S4x256 : Shape := ⟨2, ![4, 256]⟩
abbrev S4x256x1 : Shape := ⟨3, ![4, 256, 1]⟩
abbrev S1x1x4096 : Shape := ⟨3, ![1, 1, 4096]⟩
abbrev S4096x4096 : Shape := ⟨2, ![4096, 4096]⟩
abbrev S1024x4096 : Shape := ⟨2, ![1024, 4096]⟩

abbrev nBuf : Space → Nat
  | .hbm => 24
  | .vmem => 0
  | .smem => 0
  | _ => 0

abbrev bufTy : (tb : Table) → Fin (tcTables nBuf tb) → BufTy
  | .hbm, ⟨0, _⟩ => ⟨S4x256x4096, .f32⟩
  | .hbm, ⟨1, _⟩ => ⟨S1x4096, .f32⟩
  | .hbm, ⟨2, _⟩ => ⟨S1x4096x4096, .f32⟩
  | .hbm, ⟨3, _⟩ => ⟨S4096, .f32⟩
  | .hbm, ⟨4, _⟩ => ⟨S4x256x4096, .f32⟩
  | .hbm, ⟨5, _⟩ => ⟨S_, .f32⟩
  | .hbm, ⟨6, _⟩ => ⟨S4x256, .f32⟩
  | .hbm, ⟨7, _⟩ => ⟨S4x256x1, .f32⟩
  | .hbm, ⟨8, _⟩ => ⟨S_, .f32⟩
  | .hbm, ⟨9, _⟩ => ⟨S4x256x1, .f32⟩
  | .hbm, ⟨10, _⟩ => ⟨S4x256x1, .f32⟩
  | .hbm, ⟨11, _⟩ => ⟨S_, .f32⟩
  | .hbm, ⟨12, _⟩ => ⟨S4x256x1, .f32⟩
  | .hbm, ⟨13, _⟩ => ⟨S4x256x1, .f32⟩
  | .hbm, ⟨14, _⟩ => ⟨S4x256x1, .f32⟩
  | .hbm, ⟨15, _⟩ => ⟨S4x256x4096, .f32⟩
  | .hbm, ⟨16, _⟩ => ⟨S4x256x4096, .f32⟩
  | .hbm, ⟨17, _⟩ => ⟨S1x1x4096, .f32⟩
  | .hbm, ⟨18, _⟩ => ⟨S4x256x4096, .f32⟩
  | .hbm, ⟨19, _⟩ => ⟨S4x256x4096, .f32⟩
  | .hbm, ⟨20, _⟩ => ⟨S4096x4096, .f32⟩
  | .hbm, ⟨21, _⟩ => ⟨S4x256x4096, .f32⟩
  | .hbm, ⟨22, _⟩ => ⟨S1024x4096, .f32⟩
  | .hbm, ⟨23, _⟩ => ⟨S1024x4096, .bf16⟩
  | _, _ => ⟨S4x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel5.lean ====
abbrev S17408x128 : Shape := ⟨2, ![17408, 128]⟩
abbrev S1x16 : Shape := ⟨2, ![1, 16]⟩
abbrev S16 : Shape := ⟨1, ![16]⟩
abbrev S_ : Shape := ⟨0, ![]⟩
abbrev S128 : Shape := ⟨1, ![128]⟩
abbrev S1x128 : Shape := ⟨2, ![1, 128]⟩
abbrev S16384x128 : Shape := ⟨2, ![16384, 128]⟩
abbrev S4096x128 : Shape := ⟨2, ![4096, 128]⟩
abbrev S16384x16 : Shape := ⟨2, ![16384, 16]⟩

abbrev nBuf : Space → Nat
  | .hbm => 14
  | .vmem => 5
  | .smem => 0
  | _ => 0

abbrev bufTy : (tb : Table) → Fin (tcTables nBuf tb) → BufTy
  | .hbm, ⟨0, _⟩ => ⟨S17408x128, .f32⟩
  | .hbm, ⟨1, _⟩ => ⟨S1x16, .f32⟩
  | .hbm, ⟨2, _⟩ => ⟨S16, .f32⟩
  | .hbm, ⟨3, _⟩ => ⟨S_, .i32⟩
  | .hbm, ⟨4, _⟩ => ⟨S_, .f32⟩
  | .hbm, ⟨5, _⟩ => ⟨S128, .f32⟩
  | .hbm, ⟨6, _⟩ => ⟨S1x128, .f32⟩
  | .hbm, ⟨7, _⟩ => ⟨S16384x128, .bf16⟩
  | .hbm, ⟨8, _⟩ => ⟨S16384x128, .f32⟩
  | .hbm, ⟨9, _⟩ => ⟨S16384x16, .f32⟩
  | .hbm, ⟨10, _⟩ => ⟨S16384x16, .f32⟩
  | .hbm, ⟨11, _⟩ => ⟨S16384x16, .f32⟩
  | .hbm, ⟨12, _⟩ => ⟨S16384x16, .f32⟩
  | .hbm, ⟨13, _⟩ => ⟨S16384x16, .f32⟩
  | .local _ .vmem, ⟨0, _⟩ => ⟨S4096x128, .f32⟩
  | .local _ .vmem, ⟨1, _⟩ => ⟨S4096x128, .f32⟩
  | .local _ .vmem, ⟨2, _⟩ => ⟨S1x128, .f32⟩
  | .local _ .vmem, ⟨3, _⟩ => ⟨S4096x128, .bf16⟩
  | .local _ .vmem, ⟨4, _⟩ => ⟨S4096x128, .bf16⟩
  | _, _ => ⟨S17408x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S17408x128 : Shape := ⟨2, ![17408, 128]⟩
abbrev S1x16 : Shape := ⟨2, ![1, 16]⟩
abbrev S16384x16 : Shape := ⟨2, ![16384, 16]⟩
abbrev S4x4096x16 : Shape := ⟨3, ![4, 4096, 16]⟩
abbrev S16 : Shape := ⟨1, ![16]⟩
abbrev S1x1x16 : Shape := ⟨3, ![1, 1, 16]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S17408x128, .f32⟩
  | .hbm, ⟨1, _⟩ => ⟨S1x16, .f32⟩
  | .hbm, ⟨2, _⟩ => ⟨S16384x16, .f32⟩
  | .hbm, ⟨3, _⟩ => ⟨S4x4096x16, .f32⟩
  | .hbm, ⟨4, _⟩ => ⟨S16, .f32⟩
  | .hbm, ⟨5, _⟩ => ⟨S1x1x16, .f32⟩
  | .hbm, ⟨6, _⟩ => ⟨S4x4096x16, .f32⟩
  | .hbm, ⟨7, _⟩ => ⟨S4x4096x16, .f32⟩
  | .hbm, ⟨8, _⟩ => ⟨S4x4096x16, .f32⟩
  | .hbm, ⟨9, _⟩ => ⟨S_, .f32⟩
  | .hbm, ⟨10, _⟩ => ⟨S4x4096x16, .f32⟩
  | .hbm, ⟨11, _⟩ => ⟨S4x4096x16, .f32⟩
  | .hbm, ⟨12, _⟩ => ⟨S4x4096x16, .f32⟩
  | .hbm, ⟨13, _⟩ => ⟨S4x4096x16, .f32⟩
  | .hbm, ⟨14, _⟩ => ⟨S4x4096x16, .i1⟩
  | .hbm, ⟨15, _⟩ => ⟨S4x4096x16, .f32⟩
  | .hbm, ⟨16, _⟩ => ⟨S4x4096x16, .f32⟩
  | .hbm, ⟨17, _⟩ => ⟨S4x4096x16, .f32⟩
  | .hbm, ⟨18, _⟩ => ⟨S4x4096x16, .f32⟩
  | .hbm, ⟨19, _⟩ => ⟨S4x4096x16, .f32⟩
  | .hbm, ⟨20, _⟩ => ⟨S4x4096x16, .f32⟩
  | .hbm, ⟨21, _⟩ => ⟨S4x4096x16, .f32⟩
  | .hbm, ⟨22, _⟩ => ⟨S4x4096x16, .f32⟩
  | .hbm, ⟨23, _⟩ => ⟨S4x4096x16, .f32⟩
  | .hbm, ⟨24, _⟩ => ⟨S_, .f32⟩
  | .hbm, ⟨25, _⟩ => ⟨S_, .f32⟩
  | .hbm, ⟨26, _⟩ => ⟨S4x4096x16, .f32⟩
  | .hbm, ⟨27, _⟩ => ⟨S_, .f32⟩
  | .hbm, ⟨28, _⟩ => ⟨S4x4096x16, .f32⟩
  | .hbm, ⟨29, _⟩ => ⟨S4x4096x16, .f32⟩
  | .hbm, ⟨30, _⟩ => ⟨S16384x16, .f32⟩
  | _, _ => ⟨S17408x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_call0_cst : Ref sig .tc := ⟨.hbm, 9, rfl⟩
abbrev main_call0_call0_v0 : Ref sig .tc := ⟨.hbm, 10, rfl⟩
abbrev main_call0_call0_v1 : Ref sig .tc := ⟨.hbm, 11, rfl⟩
abbrev main_call0_call0_v2 : Ref sig .tc := ⟨.hbm, 12, rfl⟩
abbrev main_call0_call0_v3 : Ref sig .tc := ⟨.hbm, 13, rfl⟩
abbrev main_call0_call0_v4 : Ref sig .tc := ⟨.hbm, 14, rfl⟩
abbrev main_call0_call0_v5 : Ref sig .tc := ⟨.hbm, 15, rfl⟩
abbrev main_call0_call0_v6 : Ref sig .tc := ⟨.hbm, 16, rfl⟩
abbrev main_call0_call0_v7 : Ref sig .tc := ⟨.hbm, 17, rfl⟩
abbrev main_call0_call0_v8 : Ref sig .tc := ⟨.hbm, 18, rfl⟩
abbrev main_call0_call0_v9 : Ref sig .tc := ⟨.hbm, 19, rfl⟩
abbrev main_call0_call0_v10 : Ref sig .tc := ⟨.hbm, 20, rfl⟩
abbrev main_call0_call0_v11 : Ref sig .tc := ⟨.hbm, 21, rfl⟩
abbrev main_call0_v1 : Ref sig .tc := ⟨.hbm, 22, rfl⟩
abbrev main_v6 : Ref sig .tc := ⟨.hbm, 23, rfl⟩
abbrev main_call1_call0_cst : Ref sig .tc := ⟨.hbm, 24, rfl⟩
abbrev main_call1_call0_v0 : Ref sig .tc := ⟨.hbm, 25, rfl⟩
abbrev main_v7 : Ref sig .tc := ⟨.hbm, 26, rfl⟩
abbrev main_cst : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩

abbrev nD : Nat := 1
abbrev τ : Topo := Topo.v7x

variable {F : FTy → Type} [FloatOps F]
-- ==== Kernel6.lean ====
abbrev S17408x12288 : Shape := ⟨2, ![17408, 12288]⟩
abbrev S16384x128 : Shape := ⟨2, ![16384, 128]⟩
abbrev S28 : Shape := ⟨1, ![28]⟩
abbrev S16384x2048 : Shape := ⟨2, ![16384, 2048]⟩
abbrev S4096x128 : Shape := ⟨2, ![4096, 128]⟩
abbrev S4096x256 : Shape := ⟨2, ![4096, 256]⟩
abbrev S256x4096 : Shape := ⟨2, ![256, 4096]⟩
abbrev S512x512 : Shape := ⟨2, ![512, 512]⟩
abbrev S512x128 : Shape := ⟨2, ![512, 128]⟩
abbrev S512x256 : Shape := ⟨2, ![512, 256]⟩
abbrev S256x512 : Shape := ⟨2, ![256, 512]⟩
abbrev S1 : Shape := ⟨1, ![1]⟩
abbrev S512 : Shape := ⟨1, ![512]⟩
abbrev S512x1 : Shape := ⟨2, ![512, 1]⟩

abbrev nBuf : Space → Nat
  | .hbm => 5
  | .vmem => 22
  | .smem => 2
  | _ => 0

abbrev bufTy : (tb : Table) → Fin (tcTables nBuf tb) → BufTy
  | .hbm, ⟨0, _⟩ => ⟨S17408x12288, .bf16⟩
  | .hbm, ⟨1, _⟩ => ⟨S16384x128, .bf16⟩
  | .hbm, ⟨2, _⟩ => ⟨S28, .i32⟩
  | .hbm, ⟨3, _⟩ => ⟨S28, .i32⟩
  | .hbm, ⟨4, _⟩ => ⟨S16384x2048, .bf16⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .bf16⟩
  | .local _ .vmem, ⟨7, _⟩ => ⟨S4096x128, .bf16⟩
  | .local _ .vmem, ⟨8, _⟩ => ⟨S4096x128, .bf16⟩
  | .local _ .vmem, ⟨9, _⟩ => ⟨S4096x128, .bf16⟩
  | .local _ .vmem, ⟨10, _⟩ => ⟨S4096x256, .bf16⟩
  | .local _ .vmem, ⟨11, _⟩ => ⟨S4096x256, .bf16⟩
  | .local _ .vmem, ⟨12, _⟩ => ⟨S256x4096, .bf16⟩
  | .local _ .vmem, ⟨13, _⟩ => ⟨S4096x256, .bf16⟩
  | .local _ .vmem, ⟨14, _⟩ => ⟨S512x512, .f32⟩
  | .local _ .vmem, ⟨15, _⟩ => ⟨S512x512, .f32⟩
  | .local _ .vmem, ⟨16, _⟩ => ⟨S512x512, .bf16⟩
  | .local _ .vmem, ⟨17, _⟩ => ⟨S512x512, .bf16⟩
  | .local _ .vmem, ⟨18, _⟩ => ⟨S512x128, .f32⟩
  | .local _ .vmem, ⟨19, _⟩ => ⟨S512x128, .f32⟩
  | .local _ .vmem, ⟨20, _⟩ => ⟨S4096x128, .f32⟩
  | .local _ .vmem, ⟨21, _⟩ => ⟨S4096x256, .f32⟩
  | .local _ .smem, ⟨0, _⟩ => ⟨S28, .i32⟩
  | .local _ .smem, ⟨1, _⟩ => ⟨S28, .i32⟩
  | _, _ => ⟨S17408x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_scratch7 : Ref sig .tc := ⟨.vmem, 17, rfl⟩
abbrev cc0_scratch8 : Ref sig .tc := ⟨.vmem, 18, rfl⟩
abbrev cc0_scratch9 : Ref sig .tc := ⟨.vmem, 19, rfl⟩
abbrev cc0_scratch10 : Ref sig .tc := ⟨.vmem, 20, rfl⟩
abbrev cc0_scratch11 : Ref sig .tc := ⟨.vmem, 21, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 16], ![false, false]⟩

@[reducible] def k0_t1_loop : Scf.Loop 32 :=
  let c0_i32 : BitVec 32 := 0#32
  let c8_i32 : BitVec 32 := 8#32
  let v50 : BitVec 32 := Scalar.addi c0_i32 c8_i32
  let c1_i32 : BitVec 32 := 1#32
  ⟨c0_i32, v50, c1_i32⟩
def k0_mult1 (k0_t1 : Fin k0_t1_loop.trips) : BitVec 32 :=
  let c0_i32 : BitVec 32 := 0#32
  let c1_i32 : BitVec 32 := 1#32
  let arg21 : BitVec 32 := Scf.iv c0_i32 c1_i32 k0_t1
  let c512_i32_160 : BitVec 32 := 512#32
  let v296 : BitVec 32 := Scalar.muli arg21 c512_i32_160
  v296
def k0_off1 (k0_t1 : Fin k0_t1_loop.trips) : Fin 2 → Nat :=
  let c0_i32 : BitVec 32 := 0#32
  let c1_i32 : BitVec 32 := 1#32
  let arg21 : BitVec 32 := Scf.iv c0_i32 c1_i32 k0_t1
  let c512_i32_160 : BitVec 32 := 512#32
  let v296 : BitVec 32 := Scalar.muli arg21 c512_i32_160
  let v297 : BitVec 32 := v296
  let v298 : Index := Scalar.indexCast v297
  let c0_161 : Index := 0#32
  ![v298.toNat, 0]
def k0_mult2 (k0_t1 : Fin k0_t1_loop.trips) : BitVec 32 :=
  let c0_i32 : BitVec 32 := 0#32
  let c1_i32 : BitVec 32 := 1#32
  let arg21 : BitVec 32 := Scf.iv c0_i32 c1_i32 k0_t1
  let c512_i32_162 : BitVec 32 := 512#32
  let v303 : BitVec 32 := Scalar.muli arg21 c512_i32_162
  v303
def k0_off2 (k0_t1 : Fin k0_t1_loop.trips) : Fin 2 → Nat :=
  let c0_163 : Index := 0#32
  let c0_i32 : BitVec 32 := 0#32
  let c1_i32 : BitVec 32 := 1#32
  let arg21 : BitVec 32 := Scf.iv c0_i32 c1_i32 k0_t1
  let c512_i32_162 : BitVec 32 := 512#32
  let v303 : BitVec 32 := Scalar.muli arg21 c512_i32_162
  let v304 : BitVec 32 := v303
  let v305 : Index := Scalar.indexCast v304
  ![0, v305.toNat]
def k0_mult3 (v51 : BitVec 32) : BitVec 32 :=
  let c512_i32 : BitVec 32 := 512#32
  let v53 : BitVec 32 := Scalar.muli v51 c512_i32
  v53

def k0_off3 (v51 : BitVec 32) : Fin 2 → Nat :=
  let c512_i32 : BitVec 32 := 512#32
  let v53 : BitVec 32 := Scalar.muli v51 c512_i32
  let v54 : BitVec 32 := v53
  let v55 : Index := Scalar.indexCast v54
  let c0_30 : Index := 0#32
  ![v55.toNat, 0]

def k0_chk1 (v51 : BitVec 32) : Prop :=
  (512 ∣ (k0_mult3 v51).toNat) ∧
  (∀ a, (k0_off3 v51) a + S512x256.size a ≤ S4096x256.size a)
theorem k0_mult3_dvd : ∀ (v51 : BitVec 32) (k0_hw1 : k0_chk1 v51), 512 ∣ (k0_mult3 v51).toNat := fun v51 k0_hw1 => k0_hw1.1
theorem k0_off3_inb : ∀ (v51 : BitVec 32) (k0_hw1 : k0_chk1 v51), ∀ a, (k0_off3 v51) a + S512x256.size a ≤ S4096x256.size a := fun v51 k0_hw1 => k0_hw1.2

def k0_mult4 (v52 : BitVec 32) : BitVec 32 :=
  let c512_i32_31 : BitVec 32 := 512#32
  let v57 : BitVec 32 := Scalar.muli v52 c512_i32_31
  v57

def k0_off4 (v52 : BitVec 32) : Fin 2 → Nat :=
  let c0_32 : Index := 0#32
  let c512_i32_31 : BitVec 32 := 512#32
  let v57 : BitVec 32 := Scalar.muli v52 c512_i32_31
  let v58 : BitVec 32 := v57
  let v59 : Index := Scalar.indexCast v58
  ![0, v59.toNat]

def k0_chk2 (v52 : BitVec 32) : Prop :=
  (512 ∣ (k0_mult4 v52).toNat) ∧
  (∀ a, (k0_off4 v52) a + S256x512.size a ≤ S256x4096.size a)
theorem k0_mult4_dvd : ∀ (v52 : BitVec 32) (k0_hw2 : k0_chk2 v52), 512 ∣ (k0_mult4 v52).toNat := fun v52 k0_hw2 => k0_hw2.1
theorem k0_off4_inb : ∀ (v52 : BitVec 32) (k0_hw2 : k0_chk2 v52), ∀ a, (k0_off4 v52) a + S256x512.size a ≤ S256x4096.size a := fun v52 k0_hw2 => k0_hw2.2

def k0_mult5 (v65 : BitVec 32) : BitVec 32 :=
  let c512_i32_37 : BitVec 32 := 512#32
  let v67 : BitVec 32 := Scalar.muli v65 c512_i32_37
  v67

def k0_off5 (v65 : BitVec 32) : Fin 2 → Nat :=
  let c512_i32_37 : BitVec 32 := 512#32
  let v67 : BitVec 32 := Scalar.muli v65 c512_i32_37
  let v68 : BitVec 32 := v67
  let v69 : Index := Scalar.indexCast v68
  let c0_38 : Index := 0#32
  ![v69.toNat, 0]

def k0_chk3 (v65 : BitVec 32) : Prop :=
  (512 ∣ (k0_mult5 v65).toNat) ∧
  (∀ a, (k0_off5 v65) a + S512x256.size a ≤ S4096x256.size a)
theorem k0_mult5_dvd : ∀ (v65 : BitVec 32) (k0_hw3 : k0_chk3 v65), 512 ∣ (k0_mult5 v65).toNat := fun v65 k0_hw3 => k0_hw3.1
theorem k0_off5_inb : ∀ (v65 : BitVec 32) (k0_hw3 : k0_chk3 v65), ∀ a, (k0_off5 v65) a + S512x256.size a ≤ S4096x256.size a := fun v65 k0_hw3 => k0_hw3.2

def k0_mult6 (v66 : BitVec 32) : BitVec 32 :=
  let c512_i32_39 : BitVec 32 := 512#32
  let v71 : BitVec 32 := Scalar.muli v66 c512_i32_39
  v71

def k0_off6 (v66 : BitVec 32) : Fin 2 → Nat :=
  let c0_40 : Index := 0#32
  let c512_i32_39 : BitVec 32 := 512#32
  let v71 : BitVec 32 := Scalar.muli v66 c512_i32_39
  let v72 : BitVec 32 := v71
  let v73 : Index := Scalar.indexCast v72
  ![0, v73.toNat]

def k0_chk4 (v66 : BitVec 32) : Prop :=
  (512 ∣ (k0_mult6 v66).toNat) ∧
  (∀ a, (k0_off6 v66) a + S256x512.size a ≤ S256x4096.size a)
theorem k0_mult6_dvd : ∀ (v66 : BitVec 32) (k0_hw4 : k0_chk4 v66), 512 ∣ (k0_mult6 v66).toNat := fun v66 k0_hw4 => k0_hw4.1
theorem k0_off6_inb : ∀ (v66 : BitVec 32) (k0_hw4 : k0_chk4 v66), ∀ a, (k0_off6 v66) a + S256x512.size a ≤ S256x4096.size a := fun v66 k0_hw4 => k0_hw4.2

def k0_mult7 (v79 : BitVec 32) : BitVec 32 :=
  let c512_i32_47 : BitVec 32 := 512#32
  let v81 : BitVec 32 := Scalar.muli v79 c512_i32_47
  v81

def k0_off7 (v79 : BitVec 32) : Fin 2 → Nat :=
  let c512_i32_47 : BitVec 32 := 512#32
  let v81 : BitVec 32 := Scalar.muli v79 c512_i32_47
  let v82 : BitVec 32 := v81
  let v83 : Index := Scalar.indexCast v82
  let c0_48 : Index := 0#32
  ![v83.toNat, 0]
def k0_mult8 (v79 : BitVec 32) : BitVec 32 :=
  let c512_i32_54 : BitVec 32 := 512#32
  let v101 : BitVec 32 := Scalar.muli v79 c512_i32_54
  v101

def k0_chk5 (v79 : BitVec 32) : Prop :=
  (512 ∣ (k0_mult7 v79).toNat) ∧
  (∀ a, (k0_off7 v79) a + S512x128.size a ≤ S4096x128.size a) ∧
  (512 ∣ (k0_mult8 v79).toNat)
theorem k0_mult7_dvd : ∀ (v79 : BitVec 32) (k0_hw5 : k0_chk5 v79), 512 ∣ (k0_mult7 v79).toNat := fun v79 k0_hw5 => k0_hw5.1
theorem k0_off7_inb : ∀ (v79 : BitVec 32) (k0_hw5 : k0_chk5 v79), ∀ a, (k0_off7 v79) a + S512x128.size a ≤ S4096x128.size a := fun v79 k0_hw5 => k0_hw5.2.1
theorem k0_mult8_dvd : ∀ (v79 : BitVec 32) (k0_hw5 : k0_chk5 v79), 512 ∣ (k0_mult8 v79).toNat := fun v79 k0_hw5 => k0_hw5.2.2

@[reducible] def k0_t2_loop : Scf.Loop 32 :=
  let c0_i32_56 : BitVec 32 := 0#32
  let c13_i32 : BitVec 32 := 13#32
  let v107 : BitVec 32 := Scalar.addi c0_i32_56 c13_i32
  let c1_i32_57 : BitVec 32 := 1#32
  ⟨c0_i32_56, v107, c1_i32_57⟩
def k0_off8 (k0_t2 : Fin k0_t2_loop.trips) : Fin 1 → Nat :=
  let c2_i32 : BitVec 32 := 2#32
  let c0_i32_56 : BitVec 32 := 0#32
  let c1_i32_57 : BitVec 32 := 1#32
  let arg21 : BitVec 32 := Scf.iv c0_i32_56 c1_i32_57 k0_t2
  let v296 : BitVec 32 := Scalar.muli c2_i32 arg21
  let c2_i32_160 : BitVec 32 := 2#32
  let v297 : BitVec 32 := Scalar.addi v296 c2_i32_160
  let v298 : Index := Scalar.indexCast v297
  ![v298.toNat]
def k0_mult9 (v299 : BitVec 32) : BitVec 32 :=
  let c512_i32_161 : BitVec 32 := 512#32
  let v302 : BitVec 32 := Scalar.muli v299 c512_i32_161
  v302

def k0_off9 (v299 : BitVec 32) : Fin 2 → Nat :=
  let c512_i32_161 : BitVec 32 := 512#32
  let v302 : BitVec 32 := Scalar.muli v299 c512_i32_161
  let v303 : BitVec 32 := v302
  let v304 : Index := Scalar.indexCast v303
  let c0_162 : Index := 0#32
  ![v304.toNat, 0]

def k0_chk6 (v299 : BitVec 32) : Prop :=
  (512 ∣ (k0_mult9 v299).toNat) ∧
  (∀ a, (k0_off9 v299) a + S512x256.size a ≤ S4096x256.size a)
theorem k0_mult9_dvd : ∀ (v299 : BitVec 32) (k0_hw6 : k0_chk6 v299), 512 ∣ (k0_mult9 v299).toNat := fun v299 k0_hw6 => k0_hw6.1
theorem k0_off9_inb : ∀ (v299 : BitVec 32) (k0_hw6 : k0_chk6 v299), ∀ a, (k0_off9 v299) a + S512x256.size a ≤ S4096x256.size a := fun v299 k0_hw6 => k0_hw6.2

def k0_mult10 (v301 : BitVec 32) : BitVec 32 :=
  let c512_i32_163 : BitVec 32 := 512#32
  let v306 : BitVec 32 := Scalar.muli v301 c512_i32_163
  v306

def k0_off10 (v301 : BitVec 32) : Fin 2 → Nat :=
  let c0_164 : Index := 0#32
  let c512_i32_163 : BitVec 32 := 512#32
  let v306 : BitVec 32 := Scalar.muli v301 c512_i32_163
  let v307 : BitVec 32 := v306
  let v308 : Index := Scalar.indexCast v307
  ![0, v308.toNat]

def k0_chk7 (v301 : BitVec 32) : Prop :=
  (512 ∣ (k0_mult10 v301).toNat) ∧
  (∀ a, (k0_off10 v301) a + S256x512.size a ≤ S256x4096.size a)
theorem k0_mult10_dvd : ∀ (v301 : BitVec 32) (k0_hw7 : k0_chk7 v301), 512 ∣ (k0_mult10 v301).toNat := fun v301 k0_hw7 => k0_hw7.1
theorem k0_off10_inb : ∀ (v301 : BitVec 32) (k0_hw7 : k0_chk7 v301), ∀ a, (k0_off10 v301) a + S256x512.size a ≤ S256x4096.size a := fun v301 k0_hw7 => k0_hw7.2

def k0_off11 (k0_t2 : Fin k0_t2_loop.trips) : Fin 1 → Nat :=
  let c2_i32 : BitVec 32 := 2#32
  let c0_i32_56 : BitVec 32 := 0#32
  let c1_i32_57 : BitVec 32 := 1#32
  let arg21 : BitVec 32 := Scf.iv c0_i32_56 c1_i32_57 k0_t2
  let v296 : BitVec 32 := Scalar.muli c2_i32 arg21
  let c1_i32_168 : BitVec 32 := 1#32
  let v314 : BitVec 32 := Scalar.addi v296 c1_i32_168
  let v315 : Index := Scalar.indexCast v314
  ![v315.toNat]
def k0_mult11 (v316 : BitVec 32) : BitVec 32 :=
  let c512_i32_171 : BitVec 32 := 512#32
  let v318 : BitVec 32 := Scalar.muli v316 c512_i32_171
  v318

def k0_off12 (v316 : BitVec 32) : Fin 2 → Nat :=
  let c512_i32_171 : BitVec 32 := 512#32
  let v318 : BitVec 32 := Scalar.muli v316 c512_i32_171
  let v319 : BitVec 32 := v318
  let v320 : Index := Scalar.indexCast v319
  let c0_172 : Index := 0#32
  ![v320.toNat, 0]
def k0_mult12 (v316 : BitVec 32) : BitVec 32 :=
  let c512_i32_178 : BitVec 32 := 512#32
  let v338 : BitVec 32 := Scalar.muli v316 c512_i32_178
  v338

def k0_chk8 (v316 : BitVec 32) : Prop :=
  (512 ∣ (k0_mult11 v316).toNat) ∧
  (∀ a, (k0_off12 v316) a + S512x128.size a ≤ S4096x128.size a) ∧
  (512 ∣ (k0_mult12 v316).toNat)
theorem k0_mult11_dvd : ∀ (v316 : BitVec 32) (k0_hw8 : k0_chk8 v316), 512 ∣ (k0_mult11 v316).toNat := fun v316 k0_hw8 => k0_hw8.1
theorem k0_off12_inb : ∀ (v316 : BitVec 32) (k0_hw8 : k0_chk8 v316), ∀ a, (k0_off12 v316) a + S512x128.size a ≤ S4096x128.size a := fun v316 k0_hw8 => k0_hw8.2.1
theorem k0_mult12_dvd : ∀ (v316 : BitVec 32) (k0_hw8 : k0_chk8 v316), 512 ∣ (k0_mult12 v316).toNat := fun v316 k0_hw8 => k0_hw8.2.2

def k0_off13 (k0_t2 : Fin k0_t2_loop.trips) : Fin 1 → Nat :=
  let c2_i32 : BitVec 32 := 2#32
  let c0_i32_56 : BitVec 32 := 0#32
  let c1_i32_57 : BitVec 32 := 1#32
  let arg21 : BitVec 32 := Scf.iv c0_i32_56 c1_i32_57 k0_t2
  let v296 : BitVec 32 := Scalar.muli c2_i32 arg21
  let v344 : Index := Scalar.indexCast v296
  ![v344.toNat]
def k0_mult13 (v347 : BitVec 32) : BitVec 32 :=
  let c512_i32_182 : BitVec 32 := 512#32
  let v349 : BitVec 32 := Scalar.muli v347 c512_i32_182
  v349

def k0_off14 (v347 : BitVec 32) : Fin 2 → Nat :=
  let c512_i32_182 : BitVec 32 := 512#32
  let v349 : BitVec 32 := Scalar.muli v347 c512_i32_182
  let v350 : BitVec 32 := v349
  let v351 : Index := Scalar.indexCast v350
  let c0_183 : Index := 0#32
  ![v351.toNat, 0]

def k0_chk9 (v347 : BitVec 32) : Prop :=
  (512 ∣ (k0_mult13 v347).toNat) ∧
  (∀ a, (k0_off14 v347) a + S512x256.size a ≤ S4096x256.size a)
theorem k0_mult13_dvd : ∀ (v347 : BitVec 32) (k0_hw9 : k0_chk9 v347), 512 ∣ (k0_mult13 v347).toNat := fun v347 k0_hw9 => k0_hw9.1
theorem k0_off14_inb : ∀ (v347 : BitVec 32) (k0_hw9 : k0_chk9 v347), ∀ a, (k0_off14 v347) a + S512x256.size a ≤ S4096x256.size a := fun v347 k0_hw9 => k0_hw9.2

def k0_mult14 (v345 : BitVec 32) : BitVec 32 :=
  let c512_i32_185 : BitVec 32 := 512#32
  let v354 : BitVec 32 := Scalar.muli v345 c512_i32_185
  v354

def k0_off15 (v345 : BitVec 32) : Fin 2 → Nat :=
  let c512_i32_185 : BitVec 32 := 512#32
  let v354 : BitVec 32 := Scalar.muli v345 c512_i32_185
  let v355 : BitVec 32 := v354
  let v356 : Index := Scalar.indexCast v355
  let c0_186 : Index := 0#32
  ![v356.toNat, 0]
def k0_mult15 (v345 : BitVec 32) : BitVec 32 :=
  let c512_i32_189 : BitVec 32 := 512#32
  let v362 : BitVec 32 := Scalar.muli v345 c512_i32_189
  v362

def k0_chk10 (v345 : BitVec 32) : Prop :=
  (512 ∣ (k0_mult14 v345).toNat) ∧
  (∀ a, (k0_off15 v345) a + S512x256.size a ≤ S4096x256.size a) ∧
  (512 ∣ (k0_mult15 v345).toNat)
theorem k0_mult14_dvd : ∀ (v345 : BitVec 32) (k0_hw10 : k0_chk10 v345), 512 ∣ (k0_mult14 v345).toNat := fun v345 k0_hw10 => k0_hw10.1
theorem k0_off15_inb : ∀ (v345 : BitVec 32) (k0_hw10 : k0_chk10 v345), ∀ a, (k0_off15 v345) a + S512x256.size a ≤ S4096x256.size a := fun v345 k0_hw10 => k0_hw10.2.1
theorem k0_mult15_dvd : ∀ (v345 : BitVec 32) (k0_hw10 : k0_chk10 v345), 512 ∣ (k0_mult15 v345).toNat := fun v345 k0_hw10 => k0_hw10.2.2

def k0_off16 (k0_t2 : Fin k0_t2_loop.trips) : Fin 1 → Nat :=
  let c2_i32 : BitVec 32 := 2#32
  let c0_i32_56 : BitVec 32 := 0#32
  let c1_i32_57 : BitVec 32 := 1#32
  let arg21 : BitVec 32 := Scf.iv c0_i32_56 c1_i32_57 k0_t2
  let v296 : BitVec 32 := Scalar.muli c2_i32 arg21
  let c3_i32_191 : BitVec 32 := 3#32
  let v368 : BitVec 32 := Scalar.addi v296 c3_i32_191
  let v369 : Index := Scalar.indexCast v368
  ![v369.toNat]
def k0_mult16 (v370 : BitVec 32) : BitVec 32 :=
  let c512_i32_192 : BitVec 32 := 512#32
  let v373 : BitVec 32 := Scalar.muli v370 c512_i32_192
  v373

def k0_off17 (v370 : BitVec 32) : Fin 2 → Nat :=
  let c512_i32_192 : BitVec 32 := 512#32
  let v373 : BitVec 32 := Scalar.muli v370 c512_i32_192
  let v374 : BitVec 32 := v373
  let v375 : Index := Scalar.indexCast v374
  let c0_193 : Index := 0#32
  ![v375.toNat, 0]

def k0_chk11 (v370 : BitVec 32) : Prop :=
  (512 ∣ (k0_mult16 v370).toNat) ∧
  (∀ a, (k0_off17 v370) a + S512x256.size a ≤ S4096x256.size a)
theorem k0_mult16_dvd : ∀ (v370 : BitVec 32) (k0_hw11 : k0_chk11 v370), 512 ∣ (k0_mult16 v370).toNat := fun v370 k0_hw11 => k0_hw11.1
theorem k0_off17_inb : ∀ (v370 : BitVec 32) (k0_hw11 : k0_chk11 v370), ∀ a, (k0_off17 v370) a + S512x256.size a ≤ S4096x256.size a := fun v370 k0_hw11 => k0_hw11.2

def k0_mult17 (v372 : BitVec 32) : BitVec 32 :=
  let c512_i32_194 : BitVec 32 := 512#32
  let v377 : BitVec 32 := Scalar.muli v372 c512_i32_194
  v377

def k0_off18 (v372 : BitVec 32) : Fin 2 → Nat :=
  let c0_195 : Index := 0#32
  let c512_i32_194 : BitVec 32 := 512#32
  let v377 : BitVec 32 := Scalar.muli v372 c512_i32_194
  let v378 : BitVec 32 := v377
  let v379 : Index := Scalar.indexCast v378
  ![0, v379.toNat]

def k0_chk12 (v372 : BitVec 32) : Prop :=
  (512 ∣ (k0_mult17 v372).toNat) ∧
  (∀ a, (k0_off18 v372) a + S256x512.size a ≤ S256x4096.size a)
theorem k0_mult17_dvd : ∀ (v372 : BitVec 32) (k0_hw12 : k0_chk12 v372), 512 ∣ (k0_mult17 v372).toNat := fun v372 k0_hw12 => k0_hw12.1
theorem k0_off18_inb : ∀ (v372 : BitVec 32) (k0_hw12 : k0_chk12 v372), ∀ a, (k0_off18 v372) a + S256x512.size a ≤ S256x4096.size a := fun v372 k0_hw12 => k0_hw12.2

def k0_off19 (k0_t2 : Fin k0_t2_loop.trips) : Fin 1 → Nat :=
  let c2_i32 : BitVec 32 := 2#32
  let c0_i32_56 : BitVec 32 := 0#32
  let c1_i32_57 : BitVec 32 := 1#32
  let arg21 : BitVec 32 := Scf.iv c0_i32_56 c1_i32_57 k0_t2
  let v296 : BitVec 32 := Scalar.muli c2_i32 arg21
  let c2_i32_199 : BitVec 32 := 2#32
  let v385 : BitVec 32 := Scalar.addi v296 c2_i32_199
  let v386 : Index := Scalar.indexCast v385
  ![v386.toNat]
def k0_mult18 (v387 : BitVec 32) : BitVec 32 :=
  let c512_i32_202 : BitVec 32 := 512#32
  let v389 : BitVec 32 := Scalar.muli v387 c512_i32_202
  v389

def k0_off20 (v387 : BitVec 32) : Fin 2 → Nat :=
  let c512_i32_202 : BitVec 32 := 512#32
  let v389 : BitVec 32 := Scalar.muli v387 c512_i32_202
  let v390 : BitVec 32 := v389
  let v391 : Index := Scalar.indexCast v390
  let c0_203 : Index := 0#32
  ![v391.toNat, 0]
def k0_mult19 (v387 : BitVec 32) : BitVec 32 :=
  let c512_i32_209 : BitVec 32 := 512#32
  let v409 : BitVec 32 := Scalar.muli v387 c512_i32_209
  v409

def k0_chk13 (v387 : BitVec 32) : Prop :=
  (512 ∣ (k0_mult18 v387).toNat) ∧
  (∀ a, (k0_off20 v387) a + S512x128.size a ≤ S4096x128.size a) ∧
  (512 ∣ (k0_mult19 v387).toNat)
theorem k0_mult18_dvd : ∀ (v387 : BitVec 32) (k0_hw13 : k0_chk13 v387), 512 ∣ (k0_mult18 v387).toNat := fun v387 k0_hw13 => k0_hw13.1
theorem k0_off20_inb : ∀ (v387 : BitVec 32) (k0_hw13 : k0_chk13 v387), ∀ a, (k0_off20 v387) a + S512x128.size a ≤ S4096x128.size a := fun v387 k0_hw13 => k0_hw13.2.1
theorem k0_mult19_dvd : ∀ (v387 : BitVec 32) (k0_hw13 : k0_chk13 v387), 512 ∣ (k0_mult19 v387).toNat := fun v387 k0_hw13 => k0_hw13.2.2

def k0_off21 (k0_t2 : Fin k0_t2_loop.trips) : Fin 1 → Nat :=
  let c2_i32 : BitVec 32 := 2#32
  let c0_i32_56 : BitVec 32 := 0#32
  let c1_i32_57 : BitVec 32 := 1#32
  let arg21 : BitVec 32 := Scf.iv c0_i32_56 c1_i32_57 k0_t2
  let v296 : BitVec 32 := Scalar.muli c2_i32 arg21
  let c1_i32_211 : BitVec 32 := 1#32
  let v415 : BitVec 32 := Scalar.addi v296 c1_i32_211
  let v416 : Index := Scalar.indexCast v415
  ![v416.toNat]
def k0_mult20 (v419 : BitVec 32) : BitVec 32 :=
  let c512_i32_214 : BitVec 32 := 512#32
  let v421 : BitVec 32 := Scalar.muli v419 c512_i32_214
  v421

def k0_off22 (v419 : BitVec 32) : Fin 2 → Nat :=
  let c512_i32_214 : BitVec 32 := 512#32
  let v421 : BitVec 32 := Scalar.muli v419 c512_i32_214
  let v422 : BitVec 32 := v421
  let v423 : Index := Scalar.indexCast v422
  let c0_215 : Index := 0#32
  ![v423.toNat, 0]

def k0_chk14 (v419 : BitVec 32) : Prop :=
  (512 ∣ (k0_mult20 v419).toNat) ∧
  (∀ a, (k0_off22 v419) a + S512x256.size a ≤ S4096x256.size a)
theorem k0_mult20_dvd : ∀ (v419 : BitVec 32) (k0_hw14 : k0_chk14 v419), 512 ∣ (k0_mult20 v419).toNat := fun v419 k0_hw14 => k0_hw14.1
theorem k0_off22_inb : ∀ (v419 : BitVec 32) (k0_hw14 : k0_chk14 v419), ∀ a, (k0_off22 v419) a + S512x256.size a ≤ S4096x256.size a := fun v419 k0_hw14 => k0_hw14.2

def k0_mult21 (v417 : BitVec 32) : BitVec 32 :=
  let c512_i32_217 : BitVec 32 := 512#32
  let v426 : BitVec 32 := Scalar.muli v417 c512_i32_217
  v426

def k0_off23 (v417 : BitVec 32) : Fin 2 → Nat :=
  let c512_i32_217 : BitVec 32 := 512#32
  let v426 : BitVec 32 := Scalar.muli v417 c512_i32_217
  let v427 : BitVec 32 := v426
  let v428 : Index := Scalar.indexCast v427
  let c0_218 : Index := 0#32
  ![v428.toNat, 0]
def k0_mult22 (v417 : BitVec 32) : BitVec 32 :=
  let c512_i32_221 : BitVec 32 := 512#32
  let v434 : BitVec 32 := Scalar.muli v417 c512_i32_221
  v434

def k0_chk15 (v417 : BitVec 32) : Prop :=
  (512 ∣ (k0_mult21 v417).toNat) ∧
  (∀ a, (k0_off23 v417) a + S512x256.size a ≤ S4096x256.size a) ∧
  (512 ∣ (k0_mult22 v417).toNat)
theorem k0_mult21_dvd : ∀ (v417 : BitVec 32) (k0_hw15 : k0_chk15 v417), 512 ∣ (k0_mult21 v417).toNat := fun v417 k0_hw15 => k0_hw15.1
theorem k0_off23_inb : ∀ (v417 : BitVec 32) (k0_hw15 : k0_chk15 v417), ∀ a, (k0_off23 v417) a + S512x256.size a ≤ S4096x256.size a := fun v417 k0_hw15 => k0_hw15.2.1
theorem k0_mult22_dvd : ∀ (v417 : BitVec 32) (k0_hw15 : k0_chk15 v417), 512 ∣ (k0_mult22 v417).toNat := fun v417 k0_hw15 => k0_hw15.2.2

def k0_mult23 (v108 : BitVec 32) : BitVec 32 :=
  let c512_i32_61 : BitVec 32 := 512#32
  let v110 : BitVec 32 := Scalar.muli v108 c512_i32_61
  v110

def k0_off24 (v108 : BitVec 32) : Fin 2 → Nat :=
  let c512_i32_61 : BitVec 32 := 512#32
  let v110 : BitVec 32 := Scalar.muli v108 c512_i32_61
  let v111 : BitVec 32 := v110
  let v112 : Index := Scalar.indexCast v111
  let c0_62 : Index := 0#32
  ![v112.toNat, 0]
def k0_mult24 (v108 : BitVec 32) : BitVec 32 :=
  let c512_i32_68 : BitVec 32 := 512#32
  let v130 : BitVec 32 := Scalar.muli v108 c512_i32_68
  v130

def k0_chk16 (v108 : BitVec 32) : Prop :=
  (512 ∣ (k0_mult23 v108).toNat) ∧
  (∀ a, (k0_off24 v108) a + S512x128.size a ≤ S4096x128.size a) ∧
  (512 ∣ (k0_mult24 v108).toNat)
theorem k0_mult23_dvd : ∀ (v108 : BitVec 32) (k0_hw16 : k0_chk16 v108), 512 ∣ (k0_mult23 v108).toNat := fun v108 k0_hw16 => k0_hw16.1
theorem k0_off24_inb : ∀ (v108 : BitVec 32) (k0_hw16 : k0_chk16 v108), ∀ a, (k0_off24 v108) a + S512x128.size a ≤ S4096x128.size a := fun v108 k0_hw16 => k0_hw16.2.1
theorem k0_mult24_dvd : ∀ (v108 : BitVec 32) (k0_hw16 : k0_chk16 v108), 512 ∣ (k0_mult24 v108).toNat := fun v108 k0_hw16 => k0_hw16.2.2

def k0_mult25 (v137 : BitVec 32) : BitVec 32 :=
  let c512_i32_73 : BitVec 32 := 512#32
  let v139 : BitVec 32 := Scalar.muli v137 c512_i32_73
  v139

def k0_off25 (v137 : BitVec 32) : Fin 2 → Nat :=
  let c512_i32_73 : BitVec 32 := 512#32
  let v139 : BitVec 32 := Scalar.muli v137 c512_i32_73
  let v140 : BitVec 32 := v139
  let v141 : Index := Scalar.indexCast v140
  let c0_74 : Index := 0#32
  ![v141.toNat, 0]

def k0_chk17 (v137 : BitVec 32) : Prop :=
  (512 ∣ (k0_mult25 v137).toNat) ∧
  (∀ a, (k0_off25 v137) a + S512x256.size a ≤ S4096x256.size a)
theorem k0_mult25_dvd : ∀ (v137 : BitVec 32) (k0_hw17 : k0_chk17 v137), 512 ∣ (k0_mult25 v137).toNat := fun v137 k0_hw17 => k0_hw17.1
theorem k0_off25_inb : ∀ (v137 : BitVec 32) (k0_hw17 : k0_chk17 v137), ∀ a, (k0_off25 v137) a + S512x256.size a ≤ S4096x256.size a := fun v137 k0_hw17 => k0_hw17.2

def k0_mult26 (v136 : BitVec 32) : BitVec 32 :=
  let c512_i32_76 : BitVec 32 := 512#32
  let v144 : BitVec 32 := Scalar.muli v136 c512_i32_76
  v144

def k0_off26 (v136 : BitVec 32) : Fin 2 → Nat :=
  let c512_i32_76 : BitVec 32 := 512#32
  let v144 : BitVec 32 := Scalar.muli v136 c512_i32_76
  let v145 : BitVec 32 := v144
  let v146 : Index := Scalar.indexCast v145
  let c0_77 : Index := 0#32
  ![v146.toNat, 0]
def k0_mult27 (v136 : BitVec 32) : BitVec 32 :=
  let c512_i32_80 : BitVec 32 := 512#32
  let v152 : BitVec 32 := Scalar.muli v136 c512_i32_80
  v152

def k0_chk18 (v136 : BitVec 32) : Prop :=
  (512 ∣ (k0_mult26 v136).toNat) ∧
  (∀ a, (k0_off26 v136) a + S512x256.size a ≤ S4096x256.size a) ∧
  (512 ∣ (k0_mult27 v136).toNat)
theorem k0_mult26_dvd : ∀ (v136 : BitVec 32) (k0_hw18 : k0_chk18 v136), 512 ∣ (k0_mult26 v136).toNat := fun v136 k0_hw18 => k0_hw18.1
theorem k0_off26_inb : ∀ (v136 : BitVec 32) (k0_hw18 : k0_chk18 v136), ∀ a, (k0_off26 v136) a + S512x256.size a ≤ S4096x256.size a := fun v136 k0_hw18 => k0_hw18.2.1
theorem k0_mult27_dvd : ∀ (v136 : BitVec 32) (k0_hw18 : k0_chk18 v136), 512 ∣ (k0_mult27 v136).toNat := fun v136 k0_hw18 => k0_hw18.2.2

def k0_mult28 (v159 : BitVec 32) : BitVec 32 :=
  let c512_i32_86 : BitVec 32 := 512#32
  let v161 : BitVec 32 := Scalar.muli v159 c512_i32_86
  v161

def k0_off27 (v159 : BitVec 32) : Fin 2 → Nat :=
  let c512_i32_86 : BitVec 32 := 512#32
  let v161 : BitVec 32 := Scalar.muli v159 c512_i32_86
  let v162 : BitVec 32 := v161
  let v163 : Index := Scalar.indexCast v162
  let c0_87 : Index := 0#32
  ![v163.toNat, 0]

def k0_chk19 (v159 : BitVec 32) : Prop :=
  (512 ∣ (k0_mult28 v159).toNat) ∧
  (∀ a, (k0_off27 v159) a + S512x256.size a ≤ S4096x256.size a)
theorem k0_mult28_dvd : ∀ (v159 : BitVec 32) (k0_hw19 : k0_chk19 v159), 512 ∣ (k0_mult28 v159).toNat := fun v159 k0_hw19 => k0_hw19.1
theorem k0_off27_inb : ∀ (v159 : BitVec 32) (k0_hw19 : k0_chk19 v159), ∀ a, (k0_off27 v159) a + S512x256.size a ≤ S4096x256.size a := fun v159 k0_hw19 => k0_hw19.2

def k0_mult29 (v158 : BitVec 32) : BitVec 32 :=
  let c512_i32_89 : BitVec 32 := 512#32
  let v166 : BitVec 32 := Scalar.muli v158 c512_i32_89
  v166

def k0_off28 (v158 : BitVec 32) : Fin 2 → Nat :=
  let c512_i32_89 : BitVec 32 := 512#32
  let v166 : BitVec 32 := Scalar.muli v158 c512_i32_89
  let v167 : BitVec 32 := v166
  let v168 : Index := Scalar.indexCast v167
  let c0_90 : Index := 0#32
  ![v168.toNat, 0]
def k0_mult30 (v158 : BitVec 32) : BitVec 32 :=
  let c512_i32_93 : BitVec 32 := 512#32
  let v174 : BitVec 32 := Scalar.muli v158 c512_i32_93
  v174

def k0_chk20 (v158 : BitVec 32) : Prop :=
  (512 ∣ (k0_mult29 v158).toNat) ∧
  (∀ a, (k0_off28 v158) a + S512x256.size a ≤ S4096x256.size a) ∧
  (512 ∣ (k0_mult30 v158).toNat)
theorem k0_mult29_dvd : ∀ (v158 : BitVec 32) (k0_hw20 : k0_chk20 v158), 512 ∣ (k0_mult29 v158).toNat := fun v158 k0_hw20 => k0_hw20.1
theorem k0_off28_inb : ∀ (v158 : BitVec 32) (k0_hw20 : k0_chk20 v158), ∀ a, (k0_off28 v158) a + S512x256.size a ≤ S4096x256.size a := fun v158 k0_hw20 => k0_hw20.2.1
theorem k0_mult30_dvd : ∀ (v158 : BitVec 32) (k0_hw20 : k0_chk20 v158), 512 ∣ (k0_mult30 v158).toNat := fun v158 k0_hw20 => k0_hw20.2.2

def k0_mult31 : BitVec 32 :=
  let c0_i32_95 : BitVec 32 := 0#32
  c0_i32_95
def k0_mult32 : BitVec 32 :=
  let c0_i32_97 : BitVec 32 := 0#32
  c0_i32_97
def k0_mult33 : BitVec 32 :=
  let c512_i32_102 : BitVec 32 := 512#32
  c512_i32_102
def k0_mult34 : BitVec 32 :=
  let c512_i32_104 : BitVec 32 := 512#32
  c512_i32_104
def k0_mult35 : BitVec 32 :=
  let c0_i32_112 : BitVec 32 := 0#32
  c0_i32_112
def k0_mult36 : BitVec 32 :=
  let c0_i32_119 : BitVec 32 := 0#32
  c0_i32_119
@[reducible] def k0_t3_loop : Scf.Loop 32 :=
  let c0_i32_121 : BitVec 32 := 0#32
  let c3_i32 : BitVec 32 := 3#32
  let v230 : BitVec 32 := Scalar.addi c0_i32_121 c3_i32
  let c1_i32_122 : BitVec 32 := 1#32
  ⟨c0_i32_121, v230, c1_i32_122⟩
def k0_mult37 (k0_t3 : Fin k0_t3_loop.trips) : BitVec 32 :=
  let c2_i32 : BitVec 32 := 2#32
  let c0_i32_121 : BitVec 32 := 0#32
  let c1_i32_122 : BitVec 32 := 1#32
  let arg21 : BitVec 32 := Scf.iv c0_i32_121 c1_i32_122 k0_t3
  let v296 : BitVec 32 := Scalar.muli c2_i32 arg21
  let c2_i32_160 : BitVec 32 := 2#32
  let v297 : BitVec 32 := Scalar.addi v296 c2_i32_160
  let c512_i32_161 : BitVec 32 := 512#32
  let v298 : BitVec 32 := Scalar.muli v297 c512_i32_161
  v298
def k0_off29 (k0_t3 : Fin k0_t3_loop.trips) (c2_i32_160 : BitVec 32) : Fin 2 → Nat :=
  let c2_i32 : BitVec 32 := 2#32
  let c0_i32_121 : BitVec 32 := 0#32
  let c1_i32_122 : BitVec 32 := 1#32
  let arg21 : BitVec 32 := Scf.iv c0_i32_121 c1_i32_122 k0_t3
  let v296 : BitVec 32 := Scalar.muli c2_i32 arg21
  let v297 : BitVec 32 := Scalar.addi v296 c2_i32_160
  let c512_i32_161 : BitVec 32 := 512#32
  let v298 : BitVec 32 := Scalar.muli v297 c512_i32_161
  let v299 : BitVec 32 := v298
  let v300 : Index := Scalar.indexCast v299
  let c0_162 : Index := 0#32
  ![v300.toNat, 0]
def k0_mult38 (k0_t3 : Fin k0_t3_loop.trips) : BitVec 32 :=
  let c2_i32 : BitVec 32 := 2#32
  let c0_i32_121 : BitVec 32 := 0#32
  let c1_i32_122 : BitVec 32 := 1#32
  let arg21 : BitVec 32 := Scf.iv c0_i32_121 c1_i32_122 k0_t3
  let v296 : BitVec 32 := Scalar.muli c2_i32 arg21
  let c2_i32_160 : BitVec 32 := 2#32
  let v297 : BitVec 32 := Scalar.addi v296 c2_i32_160
  let c512_i32_163 : BitVec 32 := 512#32
  let v302 : BitVec 32 := Scalar.muli v297 c512_i32_163
  v302
def k0_off30 (k0_t3 : Fin k0_t3_loop.trips) (c2_i32_160 : BitVec 32) : Fin 2 → Nat :=
  let c0_164 : Index := 0#32
  let c2_i32 : BitVec 32 := 2#32
  let c0_i32_121 : BitVec 32 := 0#32
  let c1_i32_122 : BitVec 32 := 1#32
  let arg21 : BitVec 32 := Scf.iv c0_i32_121 c1_i32_122 k0_t3
  let v296 : BitVec 32 := Scalar.muli c2_i32 arg21
  let v297 : BitVec 32 := Scalar.addi v296 c2_i32_160
  let c512_i32_163 : BitVec 32 := 512#32
  let v302 : BitVec 32 := Scalar.muli v297 c512_i32_163
  let v303 : BitVec 32 := v302
  let v304 : Index := Scalar.indexCast v303
  ![0, v304.toNat]
def k0_mult39 (k0_t3 : Fin k0_t3_loop.trips) : BitVec 32 :=
  let c2_i32 : BitVec 32 := 2#32
  let c0_i32_121 : BitVec 32 := 0#32
  let c1_i32_122 : BitVec 32 := 1#32
  let arg21 : BitVec 32 := Scf.iv c0_i32_121 c1_i32_122 k0_t3
  let v296 : BitVec 32 := Scalar.muli c2_i32 arg21
  let c1_i32_168 : BitVec 32 := 1#32
  let v310 : BitVec 32 := Scalar.addi v296 c1_i32_168
  let c512_i32_172 : BitVec 32 := 512#32
  let v317 : BitVec 32 := Scalar.muli v310 c512_i32_172
  v317
def k0_off31 (k0_t3 : Fin k0_t3_loop.trips) (c1_i32_168 : BitVec 32) : Fin 2 → Nat :=
  let c2_i32 : BitVec 32 := 2#32
  let c0_i32_121 : BitVec 32 := 0#32
  let c1_i32_122 : BitVec 32 := 1#32
  let arg21 : BitVec 32 := Scf.iv c0_i32_121 c1_i32_122 k0_t3
  let v296 : BitVec 32 := Scalar.muli c2_i32 arg21
  let v310 : BitVec 32 := Scalar.addi v296 c1_i32_168
  let c512_i32_172 : BitVec 32 := 512#32
  let v317 : BitVec 32 := Scalar.muli v310 c512_i32_172
  let v318 : BitVec 32 := v317
  let v319 : Index := Scalar.indexCast v318
  let c0_173 : Index := 0#32
  ![v319.toNat, 0]
def k0_mult40 (k0_t3 : Fin k0_t3_loop.trips) : BitVec 32 :=
  let c2_i32 : BitVec 32 := 2#32
  let c0_i32_121 : BitVec 32 := 0#32
  let c1_i32_122 : BitVec 32 := 1#32
  let arg21 : BitVec 32 := Scf.iv c0_i32_121 c1_i32_122 k0_t3
  let v296 : BitVec 32 := Scalar.muli c2_i32 arg21
  let c1_i32_168 : BitVec 32 := 1#32
  let v310 : BitVec 32 := Scalar.addi v296 c1_i32_168
  let c512_i32_179 : BitVec 32 := 512#32
  let v337 : BitVec 32 := Scalar.muli v310 c512_i32_179
  v337
def k0_mult41 (k0_t3 : Fin k0_t3_loop.trips) : BitVec 32 :=
  let c2_i32 : BitVec 32 := 2#32
  let c0_i32_121 : BitVec 32 := 0#32
  let c1_i32_122 : BitVec 32 := 1#32
  let arg21 : BitVec 32 := Scf.iv c0_i32_121 c1_i32_122 k0_t3
  let v296 : BitVec 32 := Scalar.muli c2_i32 arg21
  let c512_i32_183 : BitVec 32 := 512#32
  let v344 : BitVec 32 := Scalar.muli v296 c512_i32_183
  v344
def k0_off32 (k0_t3 : Fin k0_t3_loop.trips) : Fin 2 → Nat :=
  let c2_i32 : BitVec 32 := 2#32
  let c0_i32_121 : BitVec 32 := 0#32
  let c1_i32_122 : BitVec 32 := 1#32
  let arg21 : BitVec 32 := Scf.iv c0_i32_121 c1_i32_122 k0_t3
  let v296 : BitVec 32 := Scalar.muli c2_i32 arg21
  let c512_i32_183 : BitVec 32 := 512#32
  let v344 : BitVec 32 := Scalar.muli v296 c512_i32_183
  let v345 : BitVec 32 := v344
  let v346 : Index := Scalar.indexCast v345
  let c0_184 : Index := 0#32
  ![v346.toNat, 0]
def k0_mult42 (k0_t3 : Fin k0_t3_loop.trips) : BitVec 32 :=
  let c2_i32 : BitVec 32 := 2#32
  let c0_i32_121 : BitVec 32 := 0#32
  let c1_i32_122 : BitVec 32 := 1#32
  let arg21 : BitVec 32 := Scf.iv c0_i32_121 c1_i32_122 k0_t3
  let v296 : BitVec 32 := Scalar.muli c2_i32 arg21
  let c512_i32_186 : BitVec 32 := 512#32
  let v349 : BitVec 32 := Scalar.muli v296 c512_i32_186
  v349
def k0_mult43 (k0_t3 : Fin k0_t3_loop.trips) : BitVec 32 :=
  let c2_i32 : BitVec 32 := 2#32
  let c0_i32_121 : BitVec 32 := 0#32
  let c1_i32_122 : BitVec 32 := 1#32
  let arg21 : BitVec 32 := Scf.iv c0_i32_121 c1_i32_122 k0_t3
  let v296 : BitVec 32 := Scalar.muli c2_i32 arg21
  let c512_i32_190 : BitVec 32 := 512#32
  let v357 : BitVec 32 := Scalar.muli v296 c512_i32_190
  v357
def k0_mult44 (k0_t3 : Fin k0_t3_loop.trips) : BitVec 32 :=
  let c2_i32 : BitVec 32 := 2#32
  let c0_i32_121 : BitVec 32 := 0#32
  let c1_i32_122 : BitVec 32 := 1#32
  let arg21 : BitVec 32 := Scf.iv c0_i32_121 c1_i32_122 k0_t3
  let v296 : BitVec 32 := Scalar.muli c2_i32 arg21
  let c3_i32_192 : BitVec 32 := 3#32
  let v363 : BitVec 32 := Scalar.addi v296 c3_i32_192
  let c512_i32_193 : BitVec 32 := 512#32
  let v364 : BitVec 32 := Scalar.muli v363 c512_i32_193
  v364
def k0_mult45 (k0_t3 : Fin k0_t3_loop.trips) : BitVec 32 :=
  let c2_i32 : BitVec 32 := 2#32
  let c0_i32_121 : BitVec 32 := 0#32
  let c1_i32_122 : BitVec 32 := 1#32
  let arg21 : BitVec 32 := Scf.iv c0_i32_121 c1_i32_122 k0_t3
  let v296 : BitVec 32 := Scalar.muli c2_i32 arg21
  let c3_i32_192 : BitVec 32 := 3#32
  let v363 : BitVec 32 := Scalar.addi v296 c3_i32_192
  let c512_i32_195 : BitVec 32 := 512#32
  let v368 : BitVec 32 := Scalar.muli v363 c512_i32_195
  v368
def k0_mult46 (k0_t3 : Fin k0_t3_loop.trips) : BitVec 32 :=
  let c2_i32 : BitVec 32 := 2#32
  let c0_i32_121 : BitVec 32 := 0#32
  let c1_i32_122 : BitVec 32 := 1#32
  let arg21 : BitVec 32 := Scf.iv c0_i32_121 c1_i32_122 k0_t3
  let v296 : BitVec 32 := Scalar.muli c2_i32 arg21
  let c2_i32_200 : BitVec 32 := 2#32
  let v376 : BitVec 32 := Scalar.addi v296 c2_i32_200
  let c512_i32_204 : BitVec 32 := 512#32
  let v383 : BitVec 32 := Scalar.muli v376 c512_i32_204
  v383
def k0_mult47 (k0_t3 : Fin k0_t3_loop.trips) : BitVec 32 :=
  let c2_i32 : BitVec 32 := 2#32
  let c0_i32_121 : BitVec 32 := 0#32
  let c1_i32_122 : BitVec 32 := 1#32
  let arg21 : BitVec 32 := Scf.iv c0_i32_121 c1_i32_122 k0_t3
  let v296 : BitVec 32 := Scalar.muli c2_i32 arg21
  let c2_i32_200 : BitVec 32 := 2#32
  let v376 : BitVec 32 := Scalar.addi v296 c2_i32_200
  let c512_i32_211 : BitVec 32 := 512#32
  let v403 : BitVec 32 := Scalar.muli v376 c512_i32_211
  v403
def k0_mult48 (k0_t3 : Fin k0_t3_loop.trips) : BitVec 32 :=
  let c2_i32 : BitVec 32 := 2#32
  let c0_i32_121 : BitVec 32 := 0#32
  let c1_i32_122 : BitVec 32 := 1#32
  let arg21 : BitVec 32 := Scf.iv c0_i32_121 c1_i32_122 k0_t3
  let v296 : BitVec 32 := Scalar.muli c2_i32 arg21
  let c1_i32_213 : BitVec 32 := 1#32
  let v409 : BitVec 32 := Scalar.addi v296 c1_i32_213
  let c512_i32_216 : BitVec 32 := 512#32
  let v411 : BitVec 32 := Scalar.muli v409 c512_i32_216
  v411
def k0_mult49 (k0_t3 : Fin k0_t3_loop.trips) : BitVec 32 :=
  let c2_i32 : BitVec 32 := 2#32
  let c0_i32_121 : BitVec 32 := 0#32
  let c1_i32_122 : BitVec 32 := 1#32
  let arg21 : BitVec 32 := Scf.iv c0_i32_121 c1_i32_122 k0_t3
  let v296 : BitVec 32 := Scalar.muli c2_i32 arg21
  let c1_i32_213 : BitVec 32 := 1#32
  let v409 : BitVec 32 := Scalar.addi v296 c1_i32_213
  let c512_i32_219 : BitVec 32 := 512#32
  let v416 : BitVec 32 := Scalar.muli v409 c512_i32_219
  v416
def k0_mult50 (k0_t3 : Fin k0_t3_loop.trips) : BitVec 32 :=
  let c2_i32 : BitVec 32 := 2#32
  let c0_i32_121 : BitVec 32 := 0#32
  let c1_i32_122 : BitVec 32 := 1#32
  let arg21 : BitVec 32 := Scf.iv c0_i32_121 c1_i32_122 k0_t3
  let v296 : BitVec 32 := Scalar.muli c2_i32 arg21
  let c1_i32_213 : BitVec 32 := 1#32
  let v409 : BitVec 32 := Scalar.addi v296 c1_i32_213
  let c512_i32_223 : BitVec 32 := 512#32
  let v424 : BitVec 32 := Scalar.muli v409 c512_i32_223
  v424
def k0_mult51 : BitVec 32 :=
  let c3584_i32 : BitVec 32 := 3584#32
  c3584_i32
def k0_mult52 : BitVec 32 :=
  let c3584_i32_133 : BitVec 32 := 3584#32
  c3584_i32_133
def k0_mult53 : BitVec 32 :=
  let c3072_i32 : BitVec 32 := 3072#32
  c3072_i32
def k0_mult54 : BitVec 32 :=
  let c3072_i32_139 : BitVec 32 := 3072#32
  c3072_i32_139
def k0_mult55 : BitVec 32 :=
  let c3072_i32_143 : BitVec 32 := 3072#32
  c3072_i32_143
def k0_mult56 : BitVec 32 :=
  let c3584_i32_147 : BitVec 32 := 3584#32
  c3584_i32_147
def k0_mult57 : BitVec 32 :=
  let c3584_i32_150 : BitVec 32 := 3584#32
  c3584_i32_150
def k0_mult58 : BitVec 32 :=
  let c3584_i32_154 : BitVec 32 := 3584#32
  c3584_i32_154
@[reducible] def k0_t4_loop : Scf.Loop 32 :=
  let c0_i32_156 : BitVec 32 := 0#32
  let c8_i32_157 : BitVec 32 := 8#32
  let v295 : BitVec 32 := Scalar.addi c0_i32_156 c8_i32_157
  let c1_i32_158 : BitVec 32 := 1#32
  ⟨c0_i32_156, v295, c1_i32_158⟩
def k0_mult59 (k0_t4 : Fin k0_t4_loop.trips) : BitVec 32 :=
  let c0_i32_156 : BitVec 32 := 0#32
  let c1_i32_158 : BitVec 32 := 1#32
  let arg21 : BitVec 32 := Scf.iv c0_i32_156 c1_i32_158 k0_t4
  let c512_i32_160 : BitVec 32 := 512#32
  let v296 : BitVec 32 := Scalar.muli arg21 c512_i32_160
  v296
def k0_off33 (k0_t4 : Fin k0_t4_loop.trips) : Fin 2 → Nat :=
  let c0_i32_156 : BitVec 32 := 0#32
  let c1_i32_158 : BitVec 32 := 1#32
  let arg21 : BitVec 32 := Scf.iv c0_i32_156 c1_i32_158 k0_t4
  let c512_i32_160 : BitVec 32 := 512#32
  let v296 : BitVec 32 := Scalar.muli arg21 c512_i32_160
  let v297 : BitVec 32 := v296
  let v298 : Index := Scalar.indexCast v297
  let c0_161 : Index := 0#32
  ![v298.toNat, 0]
def k0_mult60 (k0_t4 : Fin k0_t4_loop.trips) : BitVec 32 :=
  let c0_i32_156 : BitVec 32 := 0#32
  let c1_i32_158 : BitVec 32 := 1#32
  let arg21 : BitVec 32 := Scf.iv c0_i32_156 c1_i32_158 k0_t4
  let c512_i32_162 : BitVec 32 := 512#32
  let v304 : BitVec 32 := Scalar.muli arg21 c512_i32_162
  v304
def k0_off34 (k0_t4 : Fin k0_t4_loop.trips) : Fin 2 → Nat :=
  let c0_i32_156 : BitVec 32 := 0#32
  let c1_i32_158 : BitVec 32 := 1#32
  let arg21 : BitVec 32 := Scf.iv c0_i32_156 c1_i32_158 k0_t4
  let c512_i32_162 : BitVec 32 := 512#32
  let v304 : BitVec 32 := Scalar.muli arg21 c512_i32_162
  let v305 : BitVec 32 := v304
  let v306 : Index := Scalar.indexCast v305
  let c0_163 : Index := 0#32
  ![v306.toNat, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S28 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S28 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel6Ideal.lean ====
variable {F : FTy → Type} [FloatOps F] [Named F]
def κ : String → Option EReal := fun
  | "mask" => some ⊥
  | "scale_log2e" => some (((11863283 / 134217728) * (Real.log 2)⁻¹ : ℝ) : EReal)
  | _ => none
-- ==== Reference6Ideal.lean ====
abbrev S17408x12288 : Shape := ⟨2, ![17408, 12288]⟩
abbrev S16384x128 : Shape := ⟨2, ![16384, 128]⟩
abbrev S16384x6144 : Shape := ⟨2, ![16384, 6144]⟩
abbrev S4x4096x6144 : Shape := ⟨3, ![4, 4096, 6144]⟩
abbrev S4x4096x2048 : Shape := ⟨3, ![4, 4096, 2048]⟩
abbrev S16384x16 : Shape := ⟨2, ![16384, 16]⟩
abbrev S_ : Shape := ⟨0, ![]⟩
abbrev S4x4096x16 : Shape := ⟨3, ![4, 4096, 16]⟩
abbrev S4x4096x16x128 : Shape := ⟨4, ![4, 4096, 16, 128]⟩
abbrev S4x16x4096 : Shape := ⟨3, ![4, 16, 4096]⟩
abbrev S4096 : Shape := ⟨1, ![4096]⟩
abbrev S4x16x4096x4096 : Shape := ⟨4, ![4, 16, 4096, 4096]⟩
abbrev S4x16x4096x1 : Shape := ⟨4, ![4, 16, 4096, 1]⟩
abbrev S4x16x1x4096 : Shape := ⟨4, ![4, 16, 1, 4096]⟩
abbrev S1x4096 : Shape := ⟨2, ![1, 4096]⟩
abbrev S4096x1 : Shape := ⟨2, ![4096, 1]⟩
abbrev S4096x4096 : Shape := ⟨2, ![4096, 4096]⟩
abbrev S4x16x128x4096 : Shape := ⟨4, ![4, 16, 128, 4096]⟩
abbrev S16384x2048 : Shape := ⟨2, ![16384, 2048]⟩

abbrev nBuf : Space → Nat
  | .hbm => 65
  | .vmem => 0
  | .smem => 0
  | _ => 0

abbrev bufTy : (tb : Table) → Fin (tcTables nBuf tb) → BufTy
  | .hbm, ⟨0, _⟩ => ⟨S17408x12288, .bf16⟩
  | .hbm, ⟨1, _⟩ => ⟨S16384x128, .bf16⟩
  | .hbm, ⟨2, _⟩ => ⟨S16384x6144, .bf16⟩
  | .hbm, ⟨3, _⟩ => ⟨S16384x6144, .f32⟩
  | .hbm, ⟨4, _⟩ => ⟨S4x4096x6144, .f32⟩
  | .hbm, ⟨5, _⟩ => ⟨S4x4096x2048, .f32⟩
  | .hbm, ⟨6, _⟩ => ⟨S4x4096x2048, .f32⟩
  | .hbm, ⟨7, _⟩ => ⟨S4x4096x2048, .f32⟩
  | .hbm, ⟨8, _⟩ => ⟨S16384x128, .f32⟩
  | .hbm, ⟨9, _⟩ => ⟨S16384x16, .f32⟩
  | .hbm, ⟨10, _⟩ => ⟨S16384x16, .f32⟩
  | .hbm, ⟨11, _⟩ => ⟨S16384x16, .f32⟩
  | .hbm, ⟨12, _⟩ => ⟨S16384x16, .f32⟩
  | .hbm, ⟨13, _⟩ => ⟨S16384x16, .f32⟩
  | .hbm, ⟨14, _⟩ => ⟨S16384x16, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S16384x16, .f32⟩
  | .hbm, ⟨19, _⟩ => ⟨S16384x16, .f32⟩
  | .hbm, ⟨20, _⟩ => ⟨S4x4096x16, .f32⟩
  | .hbm, ⟨21, _⟩ => ⟨S4x4096x16x128, .f32⟩
  | .hbm, ⟨22, _⟩ => ⟨S4x4096x16x128, .f32⟩
  | .hbm, ⟨23, _⟩ => ⟨S4x4096x16x128, .f32⟩
  | .hbm, ⟨24, _⟩ => ⟨S4x16x4096, .f32⟩
  | .hbm, ⟨25, _⟩ => ⟨S4096, .i32⟩
  | .hbm, ⟨26, _⟩ => ⟨S4096, .i32⟩
  | .hbm, ⟨27, _⟩ => ⟨S4x16x4096x4096, .f32⟩
  | .hbm, ⟨28, _⟩ => ⟨S_, .f32⟩
  | .hbm, ⟨29, _⟩ => ⟨S4x16x4096x4096, .f32⟩
  | .hbm, ⟨30, _⟩ => ⟨S4x16x4096x4096, .f32⟩
  | .hbm, ⟨31, _⟩ => ⟨S4x16x4096x1, .f32⟩
  | .hbm, ⟨32, _⟩ => ⟨S4x16x1x4096, .f32⟩
  | .hbm, ⟨33, _⟩ => ⟨S4x16x4096x4096, .f32⟩
  | .hbm, ⟨34, _⟩ => ⟨S4x16x4096x4096, .f32⟩
  | .hbm, ⟨35, _⟩ => ⟨S4x16x4096x4096, .f32⟩
  | .hbm, ⟨36, _⟩ => ⟨S4x16x4096x4096, .f32⟩
  | .hbm, ⟨37, _⟩ => ⟨S1x4096, .i32⟩
  | .hbm, ⟨38, _⟩ => ⟨S4096x1, .i32⟩
  | .hbm, ⟨39, _⟩ => ⟨S4096x4096, .i32⟩
  | .hbm, ⟨40, _⟩ => ⟨S4096x4096, .i32⟩
  | .hbm, ⟨41, _⟩ => ⟨S4096x4096, .i1⟩
  | .hbm, ⟨42, _⟩ => ⟨S_, .f32⟩
  | .hbm, ⟨43, _⟩ => ⟨S_, .f32⟩
  | .hbm, ⟨44, _⟩ => ⟨S4x16x4096x4096, .i1⟩
  | .hbm, ⟨45, _⟩ => ⟨S4x16x4096x4096, .f32⟩
  | .hbm, ⟨46, _⟩ => ⟨S4x16x4096x4096, .f32⟩
  | .hbm, ⟨47, _⟩ => ⟨S_, .f32⟩
  | .hbm, ⟨48, _⟩ => ⟨S4x16x4096, .f32⟩
  | .hbm, ⟨49, _⟩ => ⟨S_, .f32⟩
  | .hbm, ⟨50, _⟩ => ⟨S4x16x4096, .f32⟩
  | .hbm, ⟨51, _⟩ => ⟨S4x16x4096, .f32⟩
  | .hbm, ⟨52, _⟩ => ⟨S4x16x4096x1, .f32⟩
  | .hbm, ⟨53, _⟩ => ⟨S4x16x4096x4096, .f32⟩
  | .hbm, ⟨54, _⟩ => ⟨S4x16x4096x4096, .f32⟩
  | .hbm, ⟨55, _⟩ => ⟨S4x16x4096x4096, .f32⟩
  | .hbm, ⟨56, _⟩ => ⟨S_, .f32⟩
  | .hbm, ⟨57, _⟩ => ⟨S4x16x4096, .f32⟩
  | .hbm, ⟨58, _⟩ => ⟨S4x16x4096x1, .f32⟩
  | .hbm, ⟨59, _⟩ => ⟨S4x16x4096x4096, .f32⟩
  | .hbm, ⟨60, _⟩ => ⟨S4x16x4096x4096, .f32⟩
  | .hbm, ⟨61, _⟩ => ⟨S4x16x128x4096, .f32⟩
  | .hbm, ⟨62, _⟩ => ⟨S4x4096x16x128, .f32⟩
  | .hbm, ⟨63, _⟩ => ⟨S16384x2048, .f32⟩
  | .hbm, ⟨64, _⟩ => ⟨S16384x2048, .bf16⟩
  | _, _ => ⟨S17408x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_cst_0 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_cst_1 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_v38 : Ref sig .tc := ⟨.hbm, 46, rfl⟩
abbrev main_cst_2 : Ref sig .tc := ⟨.hbm, 47, rfl⟩
abbrev main_v39 : Ref sig .tc := ⟨.hbm, 48, rfl⟩
abbrev main_cst_3 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_4 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩

abbrev nD : Nat := 1
abbrev τ : Topo := Topo.v7x

variable {F : FTy → Type} [FloatOps F]
-- ==== Proof.InProj.Points.lean ====
/-
  At which points of the grid (17 row tiles by 16 steps, point `t` being row tile `t / 16`, step `t % 16`) each of the
  kernel's branches is taken, and at which row each scratch buffer is written: decided over the 272 points.
-/
module

public import proofs.«01_k».proof.Proof.Gen.KernelIdeal.Frame
public import proofs.«01_k».proof.Proof.Gen.KernelIdeal.Skeleton
public import Idealize.ShloMosaic.Lib.Pipeline.Frame
public import Idealize.ShloMosaic.Lib.Tactic

@[expose] public section

set_option maxRecDepth 16384

noncomputable section

namespace Cert.KernelIdeal.InProj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-- The even branch is taken at the even row tiles, the odd one at the others. -/
theorem cond_even : ∀ t : Fin cfg0.N, k0_cond1 (grid0.coords t) = 1#1 ↔ t.val / 16 % 2 = 0 :=
  (by decide +kernel : ∀ t : Fin grid0.N, k0_cond1 (grid0.coords t) = 1#1 ↔ t.val / 16 % 2 = 0)
theorem cond_odd : ∀ t : Fin cfg0.N, k0_cond5 (grid0.coords t) = 1#1 ↔ t.val / 16 % 2 = 1 :=
  (by decide +kernel : ∀ t : Fin grid0.N, k0_cond5 (grid0.coords t) = 1#1 ↔ t.val / 16 % 2 = 1)
/-- The gate's logits go out at the first step of every row tile but the first. -/
theorem cond_gate : ∀ t : Fin cfg0.N, k0_cond2 (grid0.coords t) = 1#1 ↔ t.val % 16 = 0 ∧ 16 ≤ t.val :=
  (by decide +kernel : ∀ t : Fin grid0.N, k0_cond2 (grid0.coords t) = 1#1 ↔ t.val % 16 = 0 ∧ 16 ≤ t.val)
theorem cond_gate' : ∀ t : Fin cfg0.N, k0_cond6 (grid0.coords t) = 1#1 ↔ t.val % 16 = 0 ∧ 16 ≤ t.val :=
  (by decide +kernel : ∀ t : Fin grid0.N, k0_cond6 (grid0.coords t) = 1#1 ↔ t.val % 16 = 0 ∧ 16 ≤ t.val)
/-- The first row tile stores zeros … -/
theorem cond_first : ∀ t : Fin cfg0.N, k0_cond3 (grid0.coords t) = 1#1 ↔ t.val < 16 :=
  (by decide +kernel : ∀ t : Fin grid0.N, k0_cond3 (grid0.coords t) = 1#1 ↔ t.val < 16)
theorem cond_first' : ∀ t : Fin cfg0.N, k0_cond7 (grid0.coords t) = 1#1 ↔ t.val < 16 :=
  (by decide +kernel : ∀ t : Fin grid0.N, k0_cond7 (grid0.coords t) = 1#1 ↔ t.val < 16)
/-- … every later one a product. -/
theorem cond_later : ∀ t : Fin cfg0.N, k0_cond4 (grid0.coords t) = 1#1 ↔ 16 ≤ t.val :=
  (by decide +kernel : ∀ t : Fin grid0.N, k0_cond4 (grid0.coords t) = 1#1 ↔ 16 ≤ t.val)
theorem cond_later' : ∀ t : Fin cfg0.N, k0_cond8 (grid0.coords t) = 1#1 ↔ 16 ≤ t.val :=
  (by decide +kernel : ∀ t : Fin grid0.N, k0_cond8 (grid0.coords t) = 1#1 ↔ 16 ≤ t.val)

/-- The rows a step writes in a scratch buffer start at 64 times the step. -/
theorem off1 : ∀ t : Fin cfg0.N, k0_off1 (grid0.coords t) = ![64 * (t.val % 16), 0] :=
  (by decide +kernel : ∀ t : Fin grid0.N, k0_off1 (grid0.coords t) = ![64 * (t.val % 16), 0])
theorem off2 : ∀ t : Fin cfg0.N, k0_off2 (grid0.coords t) = ![64 * (t.val % 16), 0] :=
  (by decide +kernel : ∀ t : Fin grid0.N, k0_off2 (grid0.coords t) = ![64 * (t.val % 16), 0])
theorem off3 : ∀ t : Fin cfg0.N, k0_off3 (grid0.coords t) = ![64 * (t.val % 16), 0] :=
  (by decide +kernel : ∀ t : Fin grid0.N, k0_off3 (grid0.coords t) = ![64 * (t.val % 16), 0])
theorem off4 : ∀ t : Fin cfg0.N, k0_off4 (grid0.coords t) = ![64 * (t.val % 16), 0] :=
  (by decide +kernel : ∀ t : Fin grid0.N, k0_off4 (grid0.coords t) = ![64 * (t.val % 16), 0])
theorem off5 : ∀ t : Fin cfg0.N, k0_off5 (grid0.coords t) = ![64 * (t.val % 16), 0] :=
  (by decide +kernel : ∀ t : Fin grid0.N, k0_off5 (grid0.coords t) = ![64 * (t.val % 16), 0])
theorem off6 : ∀ t : Fin cfg0.N, k0_off6 (grid0.coords t) = ![64 * (t.val % 16), 0] :=
  (by decide +kernel : ∀ t : Fin grid0.N, k0_off6 (grid0.coords t) = ![64 * (t.val % 16), 0])
theorem off7 : ∀ t : Fin cfg0.N, k0_off7 (grid0.coords t) = ![64 * (t.val % 16), 0] :=
  (by decide +kernel : ∀ t : Fin grid0.N, k0_off7 (grid0.coords t) = ![64 * (t.val % 16), 0])
theorem off8 : ∀ t : Fin cfg0.N, k0_off8 (grid0.coords t) = ![64 * (t.val % 16), 0] :=
  (by decide +kernel : ∀ t : Fin grid0.N, k0_off8 (grid0.coords t) = ![64 * (t.val % 16), 0])

end Cert.KernelIdeal.InProj

end
-- ==== Proof.InProj.RunEven.lean ====
/-
  One run of the kernel's body per case of its branches, at the even row tiles: from the inputs' blocks
  and the four scratch buffers at given vectors, what every buffer holds afterwards.
-/
module

public import proofs.«01_k».proof.Proof.InProj.Points
public import Idealize.ShloMosaic.Lib.VecWindow

@[expose] public section

set_option maxRecDepth 16384

noncomputable section

namespace Cert.KernelIdeal.InProj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-- A load of a whole memref's own sizes reads the vector it was given. -/
theorem loaded {sp : Space} {S : Shape} {e : EltTy} {M : Memref sig .tc sp S e} (hM : M.IsWhole) (v : S.Idx → Elt F e)
    {off : Fin S.rank → ℕ} (inb : ∀ a, off a + S.size a ≤ S.size a) :
    View.readAt (Elt F) M.view (Rect.unit off S.size inb).toLoadRect (hM.unread v) = v :=
  (View.readAt_full M.view (hM.unread v) inb).trans (hM.read_unread v)

/-- A store of a memref's own sizes leaves what was stored. -/
theorem stored {sp : Space} {S : Shape} {e : EltTy} {M : Memref sig .tc sp S e} (f : M.view.ty.Contents (Elt F))
    {off : Fin S.rank → ℕ} (inb : ∀ a, off a + S.size a ≤ S.size a) (v : (Rect.unit off S.size inb).shape.Idx → Elt F e)
    (v' : S.Idx → Elt F e) (h : v = v') :
    View.read (Elt F) M.view (M.view.writes (Elt F) f [⟨Rect.unit off S.size inb, v⟩]) = v' :=
  (View.read_writes_full M.view f inb v []).trans h

/-- A store of some of a memref's rows leaves the vector with those rows put in. -/
theorem patched {sp : Space} {S : Shape} {e : EltTy} {M : Memref sig .tc sp S e} (hM : M.IsWhole) (x : S.Idx → Elt F e)
    {off size : Fin S.rank → ℕ} (inb : ∀ a, off a + size a ≤ S.size a)
    (v v' : (Rect.unit off size inb).shape.Idx → Elt F e) (h : v = v') :
    View.read (Elt F) M.view (M.view.writes (Elt F) (hM.unread x) [⟨Rect.unit off size inb, v⟩])
      = VecWindow.put x off size v' := by
  rw [View.read_writes_cons_put M.view _ inb v [] rfl, View.writes_nil, hM.read_unread, h]

set_option maxHeartbeats 1000000 in
/-- The first row tile: zeros go out, the first 64 rows of the step are normalised into the even buffers. -/
theorem run_first (c : Dev nD) (i : grid0.Coords)
    (arg2 : Memref sig .tc .vmem S64x4096 .f32) (harg2 : arg2.IsWhole)
    (arg3 : Memref sig .tc .vmem S1x4096 .f32) (harg3 : arg3.IsWhole)
    (arg4 : Memref sig .tc .vmem S768x4096 .bf16) (harg4 : arg4.IsWhole)
    (arg5 : Memref sig .tc .vmem S128x4096 .bf16) (harg5 : arg5.IsWhole)
    (arg6 : Memref sig .tc .vmem S1x16x16384 .f32) (harg6 : arg6.IsWhole)
    (arg7 : Memref sig .tc .vmem S16x1 .f32) (harg7 : arg7.IsWhole)
    (arg8 : Memref sig .tc .vmem S1x64x4096 .f32) (harg8 : arg8.IsWhole)
    (arg9 : Memref sig .tc .vmem S1024x768 .bf16) (harg9 : arg9.IsWhole)
    (arg10 : Memref sig .tc .vmem S1024x128 .f32) (harg10 : arg10.IsWhole)
    (arg11 : Memref sig .tc .vmem S16x16384 .bf16) (harg11 : arg11.IsWhole)
    (arg12 : Memref sig .tc .vmem S64x4096 .bf16) (harg12 : arg12.IsWhole)
    (arg13 : Memref sig .tc .vmem S1024x4096 .bf16) (harg13 : arg13.IsWhole)
    (arg14 : Memref sig .tc .vmem S1024x4096 .bf16) (harg14 : arg14.IsWhole)
    (arg15 : Memref sig .tc .vmem S1024x128 .f32) (harg15 : arg15.IsWhole)
    (arg16 : Memref sig .tc .vmem S1024x128 .f32) (harg16 : arg16.IsWhole)
    (he : k0_cond1 i = 1#1) (ho : ¬ k0_cond5 i = 1#1) (hg : ¬ k0_cond2 i = 1#1) (hf : k0_cond3 i = 1#1) (hl : ¬ k0_cond4 i = 1#1)
    (x : Vec F S64x4096 .f32) (gm : Vec F S1x4096 .f32) (w : Vec F S768x4096 .bf16) (wf : Vec F S128x4096 .bf16) (cw : Vec F S1x16x16384 .f32) (cg : Vec F S16x1 .f32) (dw : Vec F S1x64x4096 .f32) (f0 : Vec F S1024x128 .f32) (a0 : Vec F S1024x4096 .bf16) (a1 : Vec F S1024x4096 .bf16) (s0 : Vec F S1024x128 .f32) (s1 : Vec F S1024x128 .f32)
    (E : Set ℕ) (K : PUnit → sProp 𝕄) :
    iprop(owns (c : Thread nD τ) arg2 fullShare x
        ∗ owns (c : Thread nD τ) arg3 fullShare gm
        ∗ owns (c : Thread nD τ) arg4 fullShare w
        ∗ owns (c : Thread nD τ) arg5 fullShare wf
        ∗ owns (c : Thread nD τ) arg6 fullShare cw
        ∗ owns (c : Thread nD τ) arg7 fullShare cg
        ∗ owns (c : Thread nD τ) arg8 fullShare dw
        ∗ (∃ d, owns (c : Thread nD τ) arg9 fullShare d)
        ∗ owns (c : Thread nD τ) arg10 fullShare f0
        ∗ (∃ d, owns (c : Thread nD τ) arg11 fullShare d)
        ∗ (∃ d, owns (c : Thread nD τ) arg12 fullShare d)
        ∗ owns (c : Thread nD τ) arg13 fullShare a0
        ∗ owns (c : Thread nD τ) arg14 fullShare a1
        ∗ owns (c : Thread nD τ) arg15 fullShare s0
        ∗ owns (c : Thread nD τ) arg16 fullShare s1
        ∗ (iprop(owns (c : Thread nD τ) arg2 fullShare x
            ∗ owns (c : Thread nD τ) arg3 fullShare gm
            ∗ owns (c : Thread nD τ) arg4 fullShare w
            ∗ owns (c : Thread nD τ) arg5 fullShare wf
            ∗ owns (c : Thread nD τ) arg6 fullShare cw
            ∗ owns (c : Thread nD τ) arg7 fullShare cg
            ∗ owns (c : Thread nD τ) arg8 fullShare dw
            ∗ owns (c : Thread nD τ) arg9 fullShare k0_pay9
            ∗ owns (c : Thread nD τ) arg10 fullShare k0_pay10
            ∗ owns (c : Thread nD τ) arg11 fullShare (k0_pay1 cg cw)
            ∗ owns (c : Thread nD τ) arg12 fullShare (k0_pay2 dw)
            ∗ owns (c : Thread nD τ) arg13 fullShare (VecWindow.put a0 (k0_off1 i) S64x4096.size (k0_pay12 x gm))
            ∗ owns (c : Thread nD τ) arg14 fullShare a1
            ∗ owns (c : Thread nD τ) arg15 fullShare (VecWindow.put s0 (k0_off2 i) S64x128.size (k0_pay13 x gm wf))
            ∗ owns (c : Thread nD τ) arg16 fullShare s1) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_in_proj_eq_skeleton]; unfold cc0_in_proj_skel
  simp only [k0_part1_eq_skeleton]
  unfold owns
  iintro ⟨⟨%b0, %hb0, H0⟩, ⟨%b1, %hb1, H1⟩, ⟨%b2, %hb2, H2⟩, ⟨%b3, %hb3, H3⟩, ⟨%b4, %hb4, H4⟩, ⟨%b5, %hb5, H5⟩, ⟨%b6, %hb6, H6⟩, ⟨%d7, %b7, -, H7⟩, ⟨%b8, %hb8, H8⟩, ⟨%d9, %b9, -, H9⟩, ⟨%d10, %b10, -, H10⟩, ⟨%b11, %hb11, H11⟩, ⟨%b12, %hb12, H12⟩, ⟨%b13, %hb13, H13⟩, ⟨%b14, %hb14, H14⟩, Hk⟩
  obtain rfl := harg2.eq_unread hb0
  obtain rfl := harg3.eq_unread hb1
  obtain rfl := harg4.eq_unread hb2
  obtain rfl := harg5.eq_unread hb3
  obtain rfl := harg6.eq_unread hb4
  obtain rfl := harg7.eq_unread hb5
  obtain rfl := harg8.eq_unread hb6
  obtain rfl := harg10.eq_unread hb8
  obtain rfl := harg13.eq_unread hb11
  obtain rfl := harg14.eq_unread hb12
  obtain rfl := harg15.eq_unread hb13
  obtain rfl := harg16.eq_unread hb14
  sl_exec (disch := first | sl_exact he | sl_exact ho | sl_exact hg | sl_exact hf | sl_exact hl)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro; exact stored _ _ _ _ (rfl)
  isplitl [H8]
  · iexists _; isplitr; swap; · iexact H8
    ipureintro; exact stored _ _ _ _ (rfl)
  isplitl [H9]
  · iexists _; isplitr; swap; · iexact H9
    ipureintro; exact stored _ _ _ _ ((congr (congrArg (k0_pay1 (F := F)) (loaded harg7 cg _)) (loaded harg6 cw _)).trans rfl)
  isplitl [H10]
  · iexists _; isplitr; swap; · iexact H10
    ipureintro; exact stored _ _ _ _ ((congrArg (k0_pay2 (F := F)) (loaded harg8 dw _)).trans rfl)
  isplitl [H11]
  · iexists _; isplitr; swap; · iexact H11
    ipureintro; exact patched harg13 _ _ _ _ ((congr (congrArg (k0_pay12 (F := F)) (loaded harg2 x _)) (loaded harg3 gm _)).trans rfl)
  isplitl [H12]
  · iexists _; isplitr; · ipureintro; exact harg14.read_unread _
    iexact H12
  isplitl [H13]
  · iexists _; isplitr; swap; · iexact H13
    ipureintro; exact patched harg15 _ _ _ _ ((congr (congr (congrArg (k0_pay13 (F := F)) (loaded harg2 x _)) (loaded harg3 gm _)) (loaded harg5 wf _)).trans rfl)
  iexists _; isplitr; · ipureintro; exact harg16.read_unread _
  iexact H14

set_option maxHeartbeats 1000000 in
/-- An even row tile after the first, first step: the product with the odd buffer goes out, and its gate logits. -/
theorem run_even_gate (c : Dev nD) (i : grid0.Coords)
    (arg2 : Memref sig .tc .vmem S64x4096 .f32) (harg2 : arg2.IsWhole)
    (arg3 : Memref sig .tc .vmem S1x4096 .f32) (harg3 : arg3.IsWhole)
    (arg4 : Memref sig .tc .vmem S768x4096 .bf16) (harg4 : arg4.IsWhole)
    (arg5 : Memref sig .tc .vmem S128x4096 .bf16) (harg5 : arg5.IsWhole)
    (arg6 : Memref sig .tc .vmem S1x16x16384 .f32) (harg6 : arg6.IsWhole)
    (arg7 : Memref sig .tc .vmem S16x1 .f32) (harg7 : arg7.IsWhole)
    (arg8 : Memref sig .tc .vmem S1x64x4096 .f32) (harg8 : arg8.IsWhole)
    (arg9 : Memref sig .tc .vmem S1024x768 .bf16) (harg9 : arg9.IsWhole)
    (arg10 : Memref sig .tc .vmem S1024x128 .f32) (harg10 : arg10.IsWhole)
    (arg11 : Memref sig .tc .vmem S16x16384 .bf16) (harg11 : arg11.IsWhole)
    (arg12 : Memref sig .tc .vmem S64x4096 .bf16) (harg12 : arg12.IsWhole)
    (arg13 : Memref sig .tc .vmem S1024x4096 .bf16) (harg13 : arg13.IsWhole)
    (arg14 : Memref sig .tc .vmem S1024x4096 .bf16) (harg14 : arg14.IsWhole)
    (arg15 : Memref sig .tc .vmem S1024x128 .f32) (harg15 : arg15.IsWhole)
    (arg16 : Memref sig .tc .vmem S1024x128 .f32) (harg16 : arg16.IsWhole)
    (he : k0_cond1 i = 1#1) (ho : ¬ k0_cond5 i = 1#1) (hg : k0_cond2 i = 1#1) (hf : ¬ k0_cond3 i = 1#1) (hl : k0_cond4 i = 1#1)
    (x : Vec F S64x4096 .f32) (gm : Vec F S1x4096 .f32) (w : Vec F S768x4096 .bf16) (wf : Vec F S128x4096 .bf16) (cw : Vec F S1x16x16384 .f32) (cg : Vec F S16x1 .f32) (dw : Vec F S1x64x4096 .f32) (f0 : Vec F S1024x128 .f32) (a0 : Vec F S1024x4096 .bf16) (a1 : Vec F S1024x4096 .bf16) (s0 : Vec F S1024x128 .f32) (s1 : Vec F S1024x128 .f32)
    (E : Set ℕ) (K : PUnit → sProp 𝕄) :
    iprop(owns (c : Thread nD τ) arg2 fullShare x
        ∗ owns (c : Thread nD τ) arg3 fullShare gm
        ∗ owns (c : Thread nD τ) arg4 fullShare w
        ∗ owns (c : Thread nD τ) arg5 fullShare wf
        ∗ owns (c : Thread nD τ) arg6 fullShare cw
        ∗ owns (c : Thread nD τ) arg7 fullShare cg
        ∗ owns (c : Thread nD τ) arg8 fullShare dw
        ∗ (∃ d, owns (c : Thread nD τ) arg9 fullShare d)
        ∗ owns (c : Thread nD τ) arg10 fullShare f0
        ∗ (∃ d, owns (c : Thread nD τ) arg11 fullShare d)
        ∗ (∃ d, owns (c : Thread nD τ) arg12 fullShare d)
        ∗ owns (c : Thread nD τ) arg13 fullShare a0
        ∗ owns (c : Thread nD τ) arg14 fullShare a1
        ∗ owns (c : Thread nD τ) arg15 fullShare s0
        ∗ owns (c : Thread nD τ) arg16 fullShare s1
        ∗ (iprop(owns (c : Thread nD τ) arg2 fullShare x
            ∗ owns (c : Thread nD τ) arg3 fullShare gm
            ∗ owns (c : Thread nD τ) arg4 fullShare w
            ∗ owns (c : Thread nD τ) arg5 fullShare wf
            ∗ owns (c : Thread nD τ) arg6 fullShare cw
            ∗ owns (c : Thread nD τ) arg7 fullShare cg
            ∗ owns (c : Thread nD τ) arg8 fullShare dw
            ∗ owns (c : Thread nD τ) arg9 fullShare (k0_pay14 a1 w)
            ∗ owns (c : Thread nD τ) arg10 fullShare s1
            ∗ owns (c : Thread nD τ) arg11 fullShare (k0_pay1 cg cw)
            ∗ owns (c : Thread nD τ) arg12 fullShare (k0_pay2 dw)
            ∗ owns (c : Thread nD τ) arg13 fullShare (VecWindow.put a0 (k0_off3 i) S64x4096.size (k0_pay12 x gm))
            ∗ owns (c : Thread nD τ) arg14 fullShare a1
            ∗ owns (c : Thread nD τ) arg15 fullShare (VecWindow.put s0 (k0_off4 i) S64x128.size (k0_pay13 x gm wf))
            ∗ owns (c : Thread nD τ) arg16 fullShare s1) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_in_proj_eq_skeleton]; unfold cc0_in_proj_skel
  simp only [k0_part2_eq_skeleton]
  unfold owns
  iintro ⟨⟨%b0, %hb0, H0⟩, ⟨%b1, %hb1, H1⟩, ⟨%b2, %hb2, H2⟩, ⟨%b3, %hb3, H3⟩, ⟨%b4, %hb4, H4⟩, ⟨%b5, %hb5, H5⟩, ⟨%b6, %hb6, H6⟩, ⟨%d7, %b7, -, H7⟩, ⟨%b8, %hb8, H8⟩, ⟨%d9, %b9, -, H9⟩, ⟨%d10, %b10, -, H10⟩, ⟨%b11, %hb11, H11⟩, ⟨%b12, %hb12, H12⟩, ⟨%b13, %hb13, H13⟩, ⟨%b14, %hb14, H14⟩, Hk⟩
  obtain rfl := harg2.eq_unread hb0
  obtain rfl := harg3.eq_unread hb1
  obtain rfl := harg4.eq_unread hb2
  obtain rfl := harg5.eq_unread hb3
  obtain rfl := harg6.eq_unread hb4
  obtain rfl := harg7.eq_unread hb5
  obtain rfl := harg8.eq_unread hb6
  obtain rfl := harg10.eq_unread hb8
  obtain rfl := harg13.eq_unread hb11
  obtain rfl := harg14.eq_unread hb12
  obtain rfl := harg15.eq_unread hb13
  obtain rfl := harg16.eq_unread hb14
  sl_exec (disch := first | sl_exact he | sl_exact ho | sl_exact hg | sl_exact hf | sl_exact hl)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro; exact stored _ _ _ _ ((congr (congrArg (k0_pay14 (F := F)) (loaded harg14 a1 _)) (loaded harg4 w _)).trans rfl)
  isplitl [H8]
  · iexists _; isplitr; swap; · iexact H8
    ipureintro; exact stored _ _ _ _ (loaded harg16 s1 _)
  isplitl [H9]
  · iexists _; isplitr; swap; · iexact H9
    ipureintro; exact stored _ _ _ _ ((congr (congrArg (k0_pay3 (F := F)) (loaded harg7 cg _)) (loaded harg6 cw _)).trans rfl)
  isplitl [H10]
  · iexists _; isplitr; swap; · iexact H10
    ipureintro; exact stored _ _ _ _ ((congrArg (k0_pay4 (F := F)) (loaded harg8 dw _)).trans rfl)
  isplitl [H11]
  · iexists _; isplitr; swap; · iexact H11
    ipureintro; exact patched harg13 _ _ _ _ ((congr (congrArg (k0_pay16 (F := F)) (loaded harg2 x _)) (loaded harg3 gm _)).trans rfl)
  isplitl [H12]
  · iexists _; isplitr; · ipureintro; exact harg14.read_unread _
    iexact H12
  isplitl [H13]
  · iexists _; isplitr; swap; · iexact H13
    ipureintro; exact patched harg15 _ _ _ _ ((congr (congr (congrArg (k0_pay17 (F := F)) (loaded harg2 x _)) (loaded harg3 gm _)) (loaded harg5 wf _)).trans rfl)
  iexists _; isplitr; · ipureintro; exact harg16.read_unread _
  iexact H14

set_option maxHeartbeats 1000000 in
/-- An even row tile after the first, a later step: as the first step, the gate's block left as it is. -/
theorem run_even (c : Dev nD) (i : grid0.Coords)
    (arg2 : Memref sig .tc .vmem S64x4096 .f32) (harg2 : arg2.IsWhole)
    (arg3 : Memref sig .tc .vmem S1x4096 .f32) (harg3 : arg3.IsWhole)
    (arg4 : Memref sig .tc .vmem S768x4096 .bf16) (harg4 : arg4.IsWhole)
    (arg5 : Memref sig .tc .vmem S128x4096 .bf16) (harg5 : arg5.IsWhole)
    (arg6 : Memref sig .tc .vmem S1x16x16384 .f32) (harg6 : arg6.IsWhole)
    (arg7 : Memref sig .tc .vmem S16x1 .f32) (harg7 : arg7.IsWhole)
    (arg8 : Memref sig .tc .vmem S1x64x4096 .f32) (harg8 : arg8.IsWhole)
    (arg9 : Memref sig .tc .vmem S1024x768 .bf16) (harg9 : arg9.IsWhole)
    (arg10 : Memref sig .tc .vmem S1024x128 .f32) (harg10 : arg10.IsWhole)
    (arg11 : Memref sig .tc .vmem S16x16384 .bf16) (harg11 : arg11.IsWhole)
    (arg12 : Memref sig .tc .vmem S64x4096 .bf16) (harg12 : arg12.IsWhole)
    (arg13 : Memref sig .tc .vmem S1024x4096 .bf16) (harg13 : arg13.IsWhole)
    (arg14 : Memref sig .tc .vmem S1024x4096 .bf16) (harg14 : arg14.IsWhole)
    (arg15 : Memref sig .tc .vmem S1024x128 .f32) (harg15 : arg15.IsWhole)
    (arg16 : Memref sig .tc .vmem S1024x128 .f32) (harg16 : arg16.IsWhole)
    (he : k0_cond1 i = 1#1) (ho : ¬ k0_cond5 i = 1#1) (hg : ¬ k0_cond2 i = 1#1) (hf : ¬ k0_cond3 i = 1#1) (hl : k0_cond4 i = 1#1)
    (x : Vec F S64x4096 .f32) (gm : Vec F S1x4096 .f32) (w : Vec F S768x4096 .bf16) (wf : Vec F S128x4096 .bf16) (cw : Vec F S1x16x16384 .f32) (cg : Vec F S16x1 .f32) (dw : Vec F S1x64x4096 .f32) (f0 : Vec F S1024x128 .f32) (a0 : Vec F S1024x4096 .bf16) (a1 : Vec F S1024x4096 .bf16) (s0 : Vec F S1024x128 .f32) (s1 : Vec F S1024x128 .f32)
    (E : Set ℕ) (K : PUnit → sProp 𝕄) :
    iprop(owns (c : Thread nD τ) arg2 fullShare x
        ∗ owns (c : Thread nD τ) arg3 fullShare gm
        ∗ owns (c : Thread nD τ) arg4 fullShare w
        ∗ owns (c : Thread nD τ) arg5 fullShare wf
        ∗ owns (c : Thread nD τ) arg6 fullShare cw
        ∗ owns (c : Thread nD τ) arg7 fullShare cg
        ∗ owns (c : Thread nD τ) arg8 fullShare dw
        ∗ (∃ d, owns (c : Thread nD τ) arg9 fullShare d)
        ∗ owns (c : Thread nD τ) arg10 fullShare f0
        ∗ (∃ d, owns (c : Thread nD τ) arg11 fullShare d)
        ∗ (∃ d, owns (c : Thread nD τ) arg12 fullShare d)
        ∗ owns (c : Thread nD τ) arg13 fullShare a0
        ∗ owns (c : Thread nD τ) arg14 fullShare a1
        ∗ owns (c : Thread nD τ) arg15 fullShare s0
        ∗ owns (c : Thread nD τ) arg16 fullShare s1
        ∗ (iprop(owns (c : Thread nD τ) arg2 fullShare x
            ∗ owns (c : Thread nD τ) arg3 fullShare gm
            ∗ owns (c : Thread nD τ) arg4 fullShare w
            ∗ owns (c : Thread nD τ) arg5 fullShare wf
            ∗ owns (c : Thread nD τ) arg6 fullShare cw
            ∗ owns (c : Thread nD τ) arg7 fullShare cg
            ∗ owns (c : Thread nD τ) arg8 fullShare dw
            ∗ owns (c : Thread nD τ) arg9 fullShare (k0_pay14 a1 w)
            ∗ owns (c : Thread nD τ) arg10 fullShare f0
            ∗ owns (c : Thread nD τ) arg11 fullShare (k0_pay1 cg cw)
            ∗ owns (c : Thread nD τ) arg12 fullShare (k0_pay2 dw)
            ∗ owns (c : Thread nD τ) arg13 fullShare (VecWindow.put a0 (k0_off3 i) S64x4096.size (k0_pay12 x gm))
            ∗ owns (c : Thread nD τ) arg14 fullShare a1
            ∗ owns (c : Thread nD τ) arg15 fullShare (VecWindow.put s0 (k0_off4 i) S64x128.size (k0_pay13 x gm wf))
            ∗ owns (c : Thread nD τ) arg16 fullShare s1) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_in_proj_eq_skeleton]; unfold cc0_in_proj_skel
  simp only [k0_part2_eq_skeleton]
  unfold owns
  iintro ⟨⟨%b0, %hb0, H0⟩, ⟨%b1, %hb1, H1⟩, ⟨%b2, %hb2, H2⟩, ⟨%b3, %hb3, H3⟩, ⟨%b4, %hb4, H4⟩, ⟨%b5, %hb5, H5⟩, ⟨%b6, %hb6, H6⟩, ⟨%d7, %b7, -, H7⟩, ⟨%b8, %hb8, H8⟩, ⟨%d9, %b9, -, H9⟩, ⟨%d10, %b10, -, H10⟩, ⟨%b11, %hb11, H11⟩, ⟨%b12, %hb12, H12⟩, ⟨%b13, %hb13, H13⟩, ⟨%b14, %hb14, H14⟩, Hk⟩
  obtain rfl := harg2.eq_unread hb0
  obtain rfl := harg3.eq_unread hb1
  obtain rfl := harg4.eq_unread hb2
  obtain rfl := harg5.eq_unread hb3
  obtain rfl := harg6.eq_unread hb4
  obtain rfl := harg7.eq_unread hb5
  obtain rfl := harg8.eq_unread hb6
  obtain rfl := harg10.eq_unread hb8
  obtain rfl := harg13.eq_unread hb11
  obtain rfl := harg14.eq_unread hb12
  obtain rfl := harg15.eq_unread hb13
  obtain rfl := harg16.eq_unread hb14
  sl_exec (disch := first | sl_exact he | sl_exact ho | sl_exact hg | sl_exact hf | sl_exact hl)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro; exact stored _ _ _ _ ((congr (congrArg (k0_pay14 (F := F)) (loaded harg14 a1 _)) (loaded harg4 w _)).trans rfl)
  isplitl [H8]
  · iexists _; isplitr; · ipureintro; exact harg10.read_unread _
    iexact H8
  isplitl [H9]
  · iexists _; isplitr; swap; · iexact H9
    ipureintro; exact stored _ _ _ _ ((congr (congrArg (k0_pay3 (F := F)) (loaded harg7 cg _)) (loaded harg6 cw _)).trans rfl)
  isplitl [H10]
  · iexists _; isplitr; swap; · iexact H10
    ipureintro; exact stored _ _ _ _ ((congrArg (k0_pay4 (F := F)) (loaded harg8 dw _)).trans rfl)
  isplitl [H11]
  · iexists _; isplitr; swap; · iexact H11
    ipureintro; exact patched harg13 _ _ _ _ ((congr (congrArg (k0_pay16 (F := F)) (loaded harg2 x _)) (loaded harg3 gm _)).trans rfl)
  isplitl [H12]
  · iexists _; isplitr; · ipureintro; exact harg14.read_unread _
    iexact H12
  isplitl [H13]
  · iexists _; isplitr; swap; · iexact H13
    ipureintro; exact patched harg15 _ _ _ _ ((congr (congr (congrArg (k0_pay17 (F := F)) (loaded harg2 x _)) (loaded harg3 gm _)) (loaded harg5 wf _)).trans rfl)
  iexists _; isplitr; · ipureintro; exact harg16.read_unread _
  iexact H14

end Cert.KernelIdeal.InProj

end
-- ==== Proof.InProj.RunOdd.lean ====
/-
  One run of the kernel's body per case of its branches, at the odd row tiles: from the inputs' blocks
  and the four scratch buffers at given vectors, what every buffer holds afterwards.
-/
module

public import proofs.«01_k».proof.Proof.InProj.RunEven

@[expose] public section

set_option maxRecDepth 16384

noncomputable section

namespace Cert.KernelIdeal.InProj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

set_option maxHeartbeats 1000000 in
/-- An odd row tile, first step: the product with the even buffer goes out, and its gate logits. -/
theorem run_odd_gate (c : Dev nD) (i : grid0.Coords)
    (arg2 : Memref sig .tc .vmem S64x4096 .f32) (harg2 : arg2.IsWhole)
    (arg3 : Memref sig .tc .vmem S1x4096 .f32) (harg3 : arg3.IsWhole)
    (arg4 : Memref sig .tc .vmem S768x4096 .bf16) (harg4 : arg4.IsWhole)
    (arg5 : Memref sig .tc .vmem S128x4096 .bf16) (harg5 : arg5.IsWhole)
    (arg6 : Memref sig .tc .vmem S1x16x16384 .f32) (harg6 : arg6.IsWhole)
    (arg7 : Memref sig .tc .vmem S16x1 .f32) (harg7 : arg7.IsWhole)
    (arg8 : Memref sig .tc .vmem S1x64x4096 .f32) (harg8 : arg8.IsWhole)
    (arg9 : Memref sig .tc .vmem S1024x768 .bf16) (harg9 : arg9.IsWhole)
    (arg10 : Memref sig .tc .vmem S1024x128 .f32) (harg10 : arg10.IsWhole)
    (arg11 : Memref sig .tc .vmem S16x16384 .bf16) (harg11 : arg11.IsWhole)
    (arg12 : Memref sig .tc .vmem S64x4096 .bf16) (harg12 : arg12.IsWhole)
    (arg13 : Memref sig .tc .vmem S1024x4096 .bf16) (harg13 : arg13.IsWhole)
    (arg14 : Memref sig .tc .vmem S1024x4096 .bf16) (harg14 : arg14.IsWhole)
    (arg15 : Memref sig .tc .vmem S1024x128 .f32) (harg15 : arg15.IsWhole)
    (arg16 : Memref sig .tc .vmem S1024x128 .f32) (harg16 : arg16.IsWhole)
    (he : ¬ k0_cond1 i = 1#1) (ho : k0_cond5 i = 1#1) (hg : k0_cond6 i = 1#1) (hf : ¬ k0_cond7 i = 1#1) (hl : k0_cond8 i = 1#1)
    (x : Vec F S64x4096 .f32) (gm : Vec F S1x4096 .f32) (w : Vec F S768x4096 .bf16) (wf : Vec F S128x4096 .bf16) (cw : Vec F S1x16x16384 .f32) (cg : Vec F S16x1 .f32) (dw : Vec F S1x64x4096 .f32) (f0 : Vec F S1024x128 .f32) (a0 : Vec F S1024x4096 .bf16) (a1 : Vec F S1024x4096 .bf16) (s0 : Vec F S1024x128 .f32) (s1 : Vec F S1024x128 .f32)
    (E : Set ℕ) (K : PUnit → sProp 𝕄) :
    iprop(owns (c : Thread nD τ) arg2 fullShare x
        ∗ owns (c : Thread nD τ) arg3 fullShare gm
        ∗ owns (c : Thread nD τ) arg4 fullShare w
        ∗ owns (c : Thread nD τ) arg5 fullShare wf
        ∗ owns (c : Thread nD τ) arg6 fullShare cw
        ∗ owns (c : Thread nD τ) arg7 fullShare cg
        ∗ owns (c : Thread nD τ) arg8 fullShare dw
        ∗ (∃ d, owns (c : Thread nD τ) arg9 fullShare d)
        ∗ owns (c : Thread nD τ) arg10 fullShare f0
        ∗ (∃ d, owns (c : Thread nD τ) arg11 fullShare d)
        ∗ (∃ d, owns (c : Thread nD τ) arg12 fullShare d)
        ∗ owns (c : Thread nD τ) arg13 fullShare a0
        ∗ owns (c : Thread nD τ) arg14 fullShare a1
        ∗ owns (c : Thread nD τ) arg15 fullShare s0
        ∗ owns (c : Thread nD τ) arg16 fullShare s1
        ∗ (iprop(owns (c : Thread nD τ) arg2 fullShare x
            ∗ owns (c : Thread nD τ) arg3 fullShare gm
            ∗ owns (c : Thread nD τ) arg4 fullShare w
            ∗ owns (c : Thread nD τ) arg5 fullShare wf
            ∗ owns (c : Thread nD τ) arg6 fullShare cw
            ∗ owns (c : Thread nD τ) arg7 fullShare cg
            ∗ owns (c : Thread nD τ) arg8 fullShare dw
            ∗ owns (c : Thread nD τ) arg9 fullShare (k0_pay14 a0 w)
            ∗ owns (c : Thread nD τ) arg10 fullShare s0
            ∗ owns (c : Thread nD τ) arg11 fullShare (k0_pay1 cg cw)
            ∗ owns (c : Thread nD τ) arg12 fullShare (k0_pay2 dw)
            ∗ owns (c : Thread nD τ) arg13 fullShare a0
            ∗ owns (c : Thread nD τ) arg14 fullShare (VecWindow.put a1 (k0_off7 i) S64x4096.size (k0_pay12 x gm))
            ∗ owns (c : Thread nD τ) arg15 fullShare s0
            ∗ owns (c : Thread nD τ) arg16 fullShare (VecWindow.put s1 (k0_off8 i) S64x128.size (k0_pay13 x gm wf))) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_in_proj_eq_skeleton]; unfold cc0_in_proj_skel
  simp only [k0_part4_eq_skeleton]
  unfold owns
  iintro ⟨⟨%b0, %hb0, H0⟩, ⟨%b1, %hb1, H1⟩, ⟨%b2, %hb2, H2⟩, ⟨%b3, %hb3, H3⟩, ⟨%b4, %hb4, H4⟩, ⟨%b5, %hb5, H5⟩, ⟨%b6, %hb6, H6⟩, ⟨%d7, %b7, -, H7⟩, ⟨%b8, %hb8, H8⟩, ⟨%d9, %b9, -, H9⟩, ⟨%d10, %b10, -, H10⟩, ⟨%b11, %hb11, H11⟩, ⟨%b12, %hb12, H12⟩, ⟨%b13, %hb13, H13⟩, ⟨%b14, %hb14, H14⟩, Hk⟩
  obtain rfl := harg2.eq_unread hb0
  obtain rfl := harg3.eq_unread hb1
  obtain rfl := harg4.eq_unread hb2
  obtain rfl := harg5.eq_unread hb3
  obtain rfl := harg6.eq_unread hb4
  obtain rfl := harg7.eq_unread hb5
  obtain rfl := harg8.eq_unread hb6
  obtain rfl := harg10.eq_unread hb8
  obtain rfl := harg13.eq_unread hb11
  obtain rfl := harg14.eq_unread hb12
  obtain rfl := harg15.eq_unread hb13
  obtain rfl := harg16.eq_unread hb14
  sl_exec (disch := first | sl_exact he | sl_exact ho | sl_exact hg | sl_exact hf | sl_exact hl)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro; exact stored _ _ _ _ ((congr (congrArg (k0_pay23 (F := F)) (loaded harg13 a0 _)) (loaded harg4 w _)).trans rfl)
  isplitl [H8]
  · iexists _; isplitr; swap; · iexact H8
    ipureintro; exact stored _ _ _ _ (loaded harg15 s0 _)
  isplitl [H9]
  · iexists _; isplitr; swap; · iexact H9
    ipureintro; exact stored _ _ _ _ ((congr (congrArg (k0_pay7 (F := F)) (loaded harg7 cg _)) (loaded harg6 cw _)).trans rfl)
  isplitl [H10]
  · iexists _; isplitr; swap; · iexact H10
    ipureintro; exact stored _ _ _ _ ((congrArg (k0_pay8 (F := F)) (loaded harg8 dw _)).trans rfl)
  isplitl [H11]
  · iexists _; isplitr; · ipureintro; exact harg13.read_unread _
    iexact H11
  isplitl [H12]
  · iexists _; isplitr; swap; · iexact H12
    ipureintro; exact patched harg14 _ _ _ _ ((congr (congrArg (k0_pay25 (F := F)) (loaded harg2 x _)) (loaded harg3 gm _)).trans rfl)
  isplitl [H13]
  · iexists _; isplitr; · ipureintro; exact harg15.read_unread _
    iexact H13
  iexists _; isplitr; swap; · iexact H14
  ipureintro; exact patched harg16 _ _ _ _ ((congr (congr (congrArg (k0_pay26 (F := F)) (loaded harg2 x _)) (loaded harg3 gm _)) (loaded harg5 wf _)).trans rfl)

set_option maxHeartbeats 1000000 in
/-- An odd row tile, a later step: as the first step, the gate's block left as it is. -/
theorem run_odd (c : Dev nD) (i : grid0.Coords)
    (arg2 : Memref sig .tc .vmem S64x4096 .f32) (harg2 : arg2.IsWhole)
    (arg3 : Memref sig .tc .vmem S1x4096 .f32) (harg3 : arg3.IsWhole)
    (arg4 : Memref sig .tc .vmem S768x4096 .bf16) (harg4 : arg4.IsWhole)
    (arg5 : Memref sig .tc .vmem S128x4096 .bf16) (harg5 : arg5.IsWhole)
    (arg6 : Memref sig .tc .vmem S1x16x16384 .f32) (harg6 : arg6.IsWhole)
    (arg7 : Memref sig .tc .vmem S16x1 .f32) (harg7 : arg7.IsWhole)
    (arg8 : Memref sig .tc .vmem S1x64x4096 .f32) (harg8 : arg8.IsWhole)
    (arg9 : Memref sig .tc .vmem S1024x768 .bf16) (harg9 : arg9.IsWhole)
    (arg10 : Memref sig .tc .vmem S1024x128 .f32) (harg10 : arg10.IsWhole)
    (arg11 : Memref sig .tc .vmem S16x16384 .bf16) (harg11 : arg11.IsWhole)
    (arg12 : Memref sig .tc .vmem S64x4096 .bf16) (harg12 : arg12.IsWhole)
    (arg13 : Memref sig .tc .vmem S1024x4096 .bf16) (harg13 : arg13.IsWhole)
    (arg14 : Memref sig .tc .vmem S1024x4096 .bf16) (harg14 : arg14.IsWhole)
    (arg15 : Memref sig .tc .vmem S1024x128 .f32) (harg15 : arg15.IsWhole)
    (arg16 : Memref sig .tc .vmem S1024x128 .f32) (harg16 : arg16.IsWhole)
    (he : ¬ k0_cond1 i = 1#1) (ho : k0_cond5 i = 1#1) (hg : ¬ k0_cond6 i = 1#1) (hf : ¬ k0_cond7 i = 1#1) (hl : k0_cond8 i = 1#1)
    (x : Vec F S64x4096 .f32) (gm : Vec F S1x4096 .f32) (w : Vec F S768x4096 .bf16) (wf : Vec F S128x4096 .bf16) (cw : Vec F S1x16x16384 .f32) (cg : Vec F S16x1 .f32) (dw : Vec F S1x64x4096 .f32) (f0 : Vec F S1024x128 .f32) (a0 : Vec F S1024x4096 .bf16) (a1 : Vec F S1024x4096 .bf16) (s0 : Vec F S1024x128 .f32) (s1 : Vec F S1024x128 .f32)
    (E : Set ℕ) (K : PUnit → sProp 𝕄) :
    iprop(owns (c : Thread nD τ) arg2 fullShare x
        ∗ owns (c : Thread nD τ) arg3 fullShare gm
        ∗ owns (c : Thread nD τ) arg4 fullShare w
        ∗ owns (c : Thread nD τ) arg5 fullShare wf
        ∗ owns (c : Thread nD τ) arg6 fullShare cw
        ∗ owns (c : Thread nD τ) arg7 fullShare cg
        ∗ owns (c : Thread nD τ) arg8 fullShare dw
        ∗ (∃ d, owns (c : Thread nD τ) arg9 fullShare d)
        ∗ owns (c : Thread nD τ) arg10 fullShare f0
        ∗ (∃ d, owns (c : Thread nD τ) arg11 fullShare d)
        ∗ (∃ d, owns (c : Thread nD τ) arg12 fullShare d)
        ∗ owns (c : Thread nD τ) arg13 fullShare a0
        ∗ owns (c : Thread nD τ) arg14 fullShare a1
        ∗ owns (c : Thread nD τ) arg15 fullShare s0
        ∗ owns (c : Thread nD τ) arg16 fullShare s1
        ∗ (iprop(owns (c : Thread nD τ) arg2 fullShare x
            ∗ owns (c : Thread nD τ) arg3 fullShare gm
            ∗ owns (c : Thread nD τ) arg4 fullShare w
            ∗ owns (c : Thread nD τ) arg5 fullShare wf
            ∗ owns (c : Thread nD τ) arg6 fullShare cw
            ∗ owns (c : Thread nD τ) arg7 fullShare cg
            ∗ owns (c : Thread nD τ) arg8 fullShare dw
            ∗ owns (c : Thread nD τ) arg9 fullShare (k0_pay14 a0 w)
            ∗ owns (c : Thread nD τ) arg10 fullShare f0
            ∗ owns (c : Thread nD τ) arg11 fullShare (k0_pay1 cg cw)
            ∗ owns (c : Thread nD τ) arg12 fullShare (k0_pay2 dw)
            ∗ owns (c : Thread nD τ) arg13 fullShare a0
            ∗ owns (c : Thread nD τ) arg14 fullShare (VecWindow.put a1 (k0_off7 i) S64x4096.size (k0_pay12 x gm))
            ∗ owns (c : Thread nD τ) arg15 fullShare s0
            ∗ owns (c : Thread nD τ) arg16 fullShare (VecWindow.put s1 (k0_off8 i) S64x128.size (k0_pay13 x gm wf))) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_in_proj_eq_skeleton]; unfold cc0_in_proj_skel
  simp only [k0_part4_eq_skeleton]
  unfold owns
  iintro ⟨⟨%b0, %hb0, H0⟩, ⟨%b1, %hb1, H1⟩, ⟨%b2, %hb2, H2⟩, ⟨%b3, %hb3, H3⟩, ⟨%b4, %hb4, H4⟩, ⟨%b5, %hb5, H5⟩, ⟨%b6, %hb6, H6⟩, ⟨%d7, %b7, -, H7⟩, ⟨%b8, %hb8, H8⟩, ⟨%d9, %b9, -, H9⟩, ⟨%d10, %b10, -, H10⟩, ⟨%b11, %hb11, H11⟩, ⟨%b12, %hb12, H12⟩, ⟨%b13, %hb13, H13⟩, ⟨%b14, %hb14, H14⟩, Hk⟩
  obtain rfl := harg2.eq_unread hb0
  obtain rfl := harg3.eq_unread hb1
  obtain rfl := harg4.eq_unread hb2
  obtain rfl := harg5.eq_unread hb3
  obtain rfl := harg6.eq_unread hb4
  obtain rfl := harg7.eq_unread hb5
  obtain rfl := harg8.eq_unread hb6
  obtain rfl := harg10.eq_unread hb8
  obtain rfl := harg13.eq_unread hb11
  obtain rfl := harg14.eq_unread hb12
  obtain rfl := harg15.eq_unread hb13
  obtain rfl := harg16.eq_unread hb14
  sl_exec (disch := first | sl_exact he | sl_exact ho | sl_exact hg | sl_exact hf | sl_exact hl)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro; exact stored _ _ _ _ ((congr (congrArg (k0_pay23 (F := F)) (loaded harg13 a0 _)) (loaded harg4 w _)).trans rfl)
  isplitl [H8]
  · iexists _; isplitr; · ipureintro; exact harg10.read_unread _
    iexact H8
  isplitl [H9]
  · iexists _; isplitr; swap; · iexact H9
    ipureintro; exact stored _ _ _ _ ((congr (congrArg (k0_pay7 (F := F)) (loaded harg7 cg _)) (loaded harg6 cw _)).trans rfl)
  isplitl [H10]
  · iexists _; isplitr; swap; · iexact H10
    ipureintro; exact stored _ _ _ _ ((congrArg (k0_pay8 (F := F)) (loaded harg8 dw _)).trans rfl)
  isplitl [H11]
  · iexists _; isplitr; · ipureintro; exact harg13.read_unread _
    iexact H11
  isplitl [H12]
  · iexists _; isplitr; swap; · iexact H12
    ipureintro; exact patched harg14 _ _ _ _ ((congr (congrArg (k0_pay25 (F := F)) (loaded harg2 x _)) (loaded harg3 gm _)).trans rfl)
  isplitl [H13]
  · iexists _; isplitr; · ipureintro; exact harg15.read_unread _
    iexact H13
  iexists _; isplitr; swap; · iexact H14
  ipureintro; exact patched harg16 _ _ _ _ ((congr (congr (congrArg (k0_pay26 (F := F)) (loaded harg2 x _)) (loaded harg3 gm _)) (loaded harg5 wf _)).trans rfl)

end Cert.KernelIdeal.InProj

end
-- ==== Proof.InProj.State.lean ====
/-
  What the kernel's four scratch buffers hold between the points of the grid, and what each point leaves in its results.
  The even row tiles fill the first pair of buffers, the odd ones the second, 64 rows a step; a row tile's product is taken
  while the next row tile is filled.
-/
module

public import proofs.«01_k».proof.Proof.InProj.RunOdd
public import Idealize.ShloMosaic.Lib.ValueIdx

@[expose] public section

set_option maxRecDepth 16384

noncomputable section

namespace Cert.KernelIdeal.InProj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ)

/-- The number of points. -/
theorem lt_points (t : Fin cfg0.N) : t.val < 272 := lt_of_lt_of_eq t.isLt (show cfg0.N = 272 from N_0)

/-- The point of a number. -/
def pt (n : ℕ) : Fin cfg0.N := ⟨n % 272, lt_of_lt_of_eq (Nat.mod_lt _ (by norm_num)) (show 272 = cfg0.N from N_0.symm)⟩

/-- The 64 rows of `x` of point `p`, normalised, and their gate's logits. -/
def rowsAt (c : Dev nD) (p : Fin cfg0.N) : Vec F S64x4096 .bf16 := k0_pay12 (iblk m c 0 p) (iblk m c 1 p)
def gateAt (c : Dev nD) (p : Fin cfg0.N) : Vec F S64x128 .f32 := k0_pay13 (iblk m c 0 p) (iblk m c 1 p) (iblk m c 3 p)

theorem inb_rows (n : ℕ) : ∀ a, (![64 * (n % 16), 0] : Fin 2 → ℕ) a + S64x4096.size a ≤ S1024x4096.size a := by
  intro a; fin_cases a
  · show 64 * (n % 16) + 64 ≤ 1024; omega
  · show 0 + 4096 ≤ 4096; omega
theorem inb_gate (n : ℕ) : ∀ a, (![64 * (n % 16), 0] : Fin 2 → ℕ) a + S64x128.size a ≤ S1024x128.size a := by
  intro a; fin_cases a
  · show 64 * (n % 16) + 64 ≤ 1024; omega
  · show 0 + 128 ≤ 128; omega

/-- The buffers `a` and `s` hold what the points from `lo` up to `hi` computed, each at its rows. -/
def Held (c : Dev nD) (lo hi : ℕ) (a : Vec F S1024x4096 .bf16) (s : Vec F S1024x128 .f32) : Prop :=
  ∀ p : Fin cfg0.N, lo ≤ p.val → p.val < hi →
    VecWindow.window a ![64 * (p.val % 16), 0] S64x4096.size (inb_rows p.val) = rowsAt m c p
    ∧ VecWindow.window s ![64 * (p.val % 16), 0] S64x128.size (inb_gate p.val) = gateAt m c p

variable {m}

theorem Held.none {c : Dev nD} {lo hi : ℕ} {a : Vec F S1024x4096 .bf16} {s : Vec F S1024x128 .f32} (h : hi ≤ lo) :
    Held m c lo hi a s := fun p h1 h2 => absurd (lt_of_lt_of_le h2 h) (Nat.not_lt.2 h1)

/-- One more point's rows stored. -/
theorem Held.step {c : Dev nD} {a : Vec F S1024x4096 .bf16} {s : Vec F S1024x128 .f32} (t : Fin cfg0.N)
    (h : Held m c (16 * (t.val / 16)) t.val a s) :
    Held m c (16 * (t.val / 16)) (t.val + 1)
      (VecWindow.put a ![64 * (t.val % 16), 0] S64x4096.size (rowsAt m c t))
      (VecWindow.put s ![64 * (t.val % 16), 0] S64x128.size (gateAt m c t)) := by
  intro p h1 h2
  by_cases e : p = t
  · subst e
    exact ⟨VecWindow.window_put_same _ _ _ _ _, VecWindow.window_put_same _ _ _ _ _⟩
  · have hlt : p.val < t.val := by
      have : p.val ≠ t.val := fun h => e (Fin.ext h)
      omega
    obtain ⟨ha, hs⟩ := h p h1 hlt
    refine ⟨(VecWindow.window_put_of_disjoint _ _ _ _ _ _ _ 0 ?_).trans ha,
      (VecWindow.window_put_of_disjoint _ _ _ _ _ _ _ 0 ?_).trans hs⟩
    · show 64 * (p.val % 16) + 64 ≤ 64 * (t.val % 16) ∨ 64 * (t.val % 16) + 64 ≤ 64 * (p.val % 16)
      omega
    · show 64 * (p.val % 16) + 64 ≤ 64 * (t.val % 16) ∨ 64 * (t.val % 16) + 64 ≤ 64 * (p.val % 16)
      omega

variable (m)

/-- A row tile of the normalised input, all 1024 rows of it, and its gate's logits: row `r` is row `r % 64` of what the
    tile's step `r / 64` computed. -/
def tileRows (c : Dev nD) (T : ℕ) : Vec F S1024x4096 .bf16 := fun y =>
  rowsAt m c (pt (16 * T + (y 0).val / 64)) (ValueIdx.ix2 (n0 := 64) (n1 := 4096) ⟨(y 0).val % 64, Nat.mod_lt _ (by norm_num)⟩ (y 1))
def tileGate (c : Dev nD) (T : ℕ) : Vec F S1024x128 .f32 := fun y =>
  gateAt m c (pt (16 * T + (y 0).val / 64)) (ValueIdx.ix2 (n0 := 64) (n1 := 128) ⟨(y 0).val % 64, Nat.mod_lt _ (by norm_num)⟩ (y 1))

variable {m}

/-- Buffers that hold a whole row tile's points are that row tile. -/
theorem Held.whole {c : Dev nD} {T : ℕ} {a : Vec F S1024x4096 .bf16} {s : Vec F S1024x128 .f32} (hT : T < 17)
    (h : Held m c (16 * T) (16 * T + 16) a s) : a = tileRows m c T ∧ s = tileGate m c T := by
  have key : ∀ n : ℕ, n < 1024 → (pt (16 * T + n / 64)).val = 16 * T + n / 64 := fun n hn => by
    show (16 * T + n / 64) % 272 = _; omega
  constructor
  · funext y
    have hy : (y 0).val < 1024 := (y 0).isLt
    have hp := key _ hy
    have := congrFun (h (pt (16 * T + (y 0).val / 64)) (by omega) (by omega)).1
      (ValueIdx.ix2 (n0 := 64) (n1 := 4096) ⟨(y 0).val % 64, Nat.mod_lt _ (by norm_num)⟩ (y 1))
    refine Eq.trans (congrArg a ?_) this
    funext q; apply Fin.ext; fin_cases q
    · show (y 0).val = 64 * ((pt (16 * T + (y 0).val / 64)).val % 16) + 1 * ((y 0).val % 64)
      omega
    · show (y 1).val = 0 + 1 * (y 1).val
      omega
  · funext y
    have hy : (y 0).val < 1024 := (y 0).isLt
    have hp := key _ hy
    have := congrFun (h (pt (16 * T + (y 0).val / 64)) (by omega) (by omega)).2
      (ValueIdx.ix2 (n0 := 64) (n1 := 128) ⟨(y 0).val % 64, Nat.mod_lt _ (by norm_num)⟩ (y 1))
    refine Eq.trans (congrArg s ?_) this
    funext q; apply Fin.ext; fin_cases q
    · show (y 0).val = 64 * ((pt (16 * T + (y 0).val / 64)).val % 16) + 1 * ((y 0).val % 64)
      omega
    · show (y 1).val = 0 + 1 * (y 1).val
      omega

variable (m)

/-- The contents of the four scratch buffers when `n` points are done: the pair of buffers the row tile at hand fills
    holds its points so far, the other pair the row tile before. -/
def Inv (c : Dev nD) (n : ℕ) (a0 a1 : Vec F S1024x4096 .bf16) (s0 s1 : Vec F S1024x128 .f32) : Prop :=
  (n / 16 % 2 = 0 → Held m c (16 * (n / 16)) n a0 s0 ∧ Held m c (16 * (n / 16) - 16) (16 * (n / 16)) a1 s1)
  ∧ (n / 16 % 2 = 1 → Held m c (16 * (n / 16)) n a1 s1 ∧ Held m c (16 * (n / 16) - 16) (16 * (n / 16)) a0 s0)

variable {m}

theorem Inv.start {c : Dev nD} (a0 a1 : Vec F S1024x4096 .bf16) (s0 s1 : Vec F S1024x128 .f32) : Inv m c 0 a0 a1 s0 s1 :=
  ⟨fun _ => ⟨Held.none (by omega), Held.none (by omega)⟩, fun h => absurd h (by norm_num)⟩

/-- A step of an even row tile. -/
theorem Inv.even {c : Dev nD} {t : Fin cfg0.N} (ht : t.val / 16 % 2 = 0) {a0 a1 : Vec F S1024x4096 .bf16}
    {s0 s1 : Vec F S1024x128 .f32} (h : Inv m c t.val a0 a1 s0 s1) :
    Inv m c (t.val + 1) (VecWindow.put a0 ![64 * (t.val % 16), 0] S64x4096.size (rowsAt m c t)) a1
      (VecWindow.put s0 ![64 * (t.val % 16), 0] S64x128.size (gateAt m c t)) s1 := by
  obtain ⟨h0, h1⟩ := h.1 ht
  have hs := Held.step t h0
  refine ⟨fun e => ?_, fun e => ?_⟩
  · have e2 : (t.val + 1) / 16 = t.val / 16 := by omega
    rw [e2]; exact ⟨hs, h1⟩
  · have e2 : 16 * ((t.val + 1) / 16) - 16 = 16 * (t.val / 16) := by omega
    have e3 : 16 * ((t.val + 1) / 16) = t.val + 1 := by omega
    rw [e2, e3]; exact ⟨Held.none (le_refl _), hs⟩

/-- A step of an odd row tile. -/
theorem Inv.odd {c : Dev nD} {t : Fin cfg0.N} (ht : t.val / 16 % 2 = 1) {a0 a1 : Vec F S1024x4096 .bf16}
    {s0 s1 : Vec F S1024x128 .f32} (h : Inv m c t.val a0 a1 s0 s1) :
    Inv m c (t.val + 1) a0 (VecWindow.put a1 ![64 * (t.val % 16), 0] S64x4096.size (rowsAt m c t)) s0
      (VecWindow.put s1 ![64 * (t.val % 16), 0] S64x128.size (gateAt m c t)) := by
  obtain ⟨h0, h1⟩ := h.2 ht
  have hs := Held.step t h0
  refine ⟨fun e => ?_, fun e => ?_⟩
  · have e2 : 16 * ((t.val + 1) / 16) - 16 = 16 * (t.val / 16) := by omega
    have e3 : 16 * ((t.val + 1) / 16) = t.val + 1 := by omega
    rw [e2, e3]; exact ⟨Held.none (le_refl _), hs⟩
  · have e2 : (t.val + 1) / 16 = t.val / 16 := by omega
    rw [e2]; exact ⟨hs, h1⟩

/-- The buffers of the row tile before, at a point past the first row tile. -/
theorem Inv.before_even {c : Dev nD} {t : Fin cfg0.N} (ht : t.val / 16 % 2 = 0) (h16 : 16 ≤ t.val)
    {a0 a1 : Vec F S1024x4096 .bf16} {s0 s1 : Vec F S1024x128 .f32} (h : Inv m c t.val a0 a1 s0 s1) :
    a1 = tileRows m c (t.val / 16 - 1) ∧ s1 = tileGate m c (t.val / 16 - 1) := by
  have hN := lt_points t
  have h1 := (h.1 ht).2
  rw [show 16 * (t.val / 16) - 16 = 16 * (t.val / 16 - 1) by omega, show 16 * (t.val / 16) = 16 * (t.val / 16 - 1) + 16 by omega] at h1
  exact h1.whole (by omega)
theorem Inv.before_odd {c : Dev nD} {t : Fin cfg0.N} (ht : t.val / 16 % 2 = 1) (h16 : 16 ≤ t.val)
    {a0 a1 : Vec F S1024x4096 .bf16} {s0 s1 : Vec F S1024x128 .f32} (h : Inv m c t.val a0 a1 s0 s1) :
    a0 = tileRows m c (t.val / 16 - 1) ∧ s0 = tileGate m c (t.val / 16 - 1) := by
  have hN := lt_points t
  have h1 := (h.2 ht).2
  rw [show 16 * (t.val / 16) - 16 = 16 * (t.val / 16 - 1) by omega, show 16 * (t.val / 16) = 16 * (t.val / 16 - 1) + 16 by omega] at h1
  exact h1.whole (by omega)

variable (m)

/-- What each point leaves in the four results' blocks. -/
def out7 (c : Dev nD) (t : Fin cfg0.N) : Vec F S1024x768 .bf16 :=
  if t.val < 16 then k0_pay9 else k0_pay14 (tileRows m c (t.val / 16 - 1)) (iblk m c 2 t)
def out8 (c : Dev nD) (t : Fin cfg0.N) : Vec F S1024x128 .f32 :=
  if t.val < 16 then k0_pay10 else tileGate m c (t.val / 16 - 1)
def out9 (c : Dev nD) (t : Fin cfg0.N) : Vec F S16x16384 .bf16 := k0_pay1 (iblk m c 5 t) (iblk m c 4 t)
def out10 (c : Dev nD) (t : Fin cfg0.N) : Vec F S64x4096 .bf16 := k0_pay2 (iblk m c 6 t)

end Cert.KernelIdeal.InProj

end
-- ==== Proof.InProj.Body.lean ====
/-
  The kernel's run at every point of the grid put together: the loop's proof data, the body's obligation at a point, and the
  run of the whole program.
-/
module

public import proofs.«01_k».proof.Proof.InProj.State
public import Idealize.ShloMosaic.Lib.Pipeline.TableIdle

@[expose] public section

set_option maxRecDepth 16384

noncomputable section

namespace Cert.KernelIdeal.InProj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers the body is handed -/

abbrev ms_0 (t : Fin cfg0.N) : Memref sig .tc .vmem S64x4096 .f32 := win0_0.stage (cfg0.slots t 0)
abbrev ms_1 (t : Fin cfg0.N) : Memref sig .tc .vmem S1x4096 .f32 := win0_1.stage (cfg0.slots t 1)
abbrev ms_2 (t : Fin cfg0.N) : Memref sig .tc .vmem S768x4096 .bf16 := win0_2.stage (cfg0.slots t 2)
abbrev ms_3 (t : Fin cfg0.N) : Memref sig .tc .vmem S128x4096 .bf16 := win0_3.stage (cfg0.slots t 3)
abbrev ms_4 (t : Fin cfg0.N) : Memref sig .tc .vmem S1x16x16384 .f32 := win0_4.stage (cfg0.slots t 4)
abbrev ms_5 (t : Fin cfg0.N) : Memref sig .tc .vmem S16x1 .f32 := win0_5.stage (cfg0.slots t 5)
abbrev ms_6 (t : Fin cfg0.N) : Memref sig .tc .vmem S1x64x4096 .f32 := win0_6.stage (cfg0.slots t 6)
abbrev ms_7 (t : Fin cfg0.N) : Memref sig .tc .vmem S1024x768 .bf16 := win0_7.stage (cfg0.slots t 7)
abbrev ms_8 (t : Fin cfg0.N) : Memref sig .tc .vmem S1024x128 .f32 := win0_8.stage (cfg0.slots t 8)
abbrev ms_9 (t : Fin cfg0.N) : Memref sig .tc .vmem S16x16384 .bf16 := win0_9.stage (cfg0.slots t 9)
abbrev ms_10 (t : Fin cfg0.N) : Memref sig .tc .vmem S64x4096 .bf16 := win0_10.stage (cfg0.slots t 10)
theorem hs_0 (t : Fin cfg0.N) : (ms_0 t).IsWhole := hstage0_0 ((cfg0.slots t 0).cast nbuf0_0)
theorem hs_1 (t : Fin cfg0.N) : (ms_1 t).IsWhole := hstage0_1 ((cfg0.slots t 1).cast nbuf0_1)
theorem hs_2 (t : Fin cfg0.N) : (ms_2 t).IsWhole := hstage0_2 ((cfg0.slots t 2).cast nbuf0_2)
theorem hs_3 (t : Fin cfg0.N) : (ms_3 t).IsWhole := hstage0_3 ((cfg0.slots t 3).cast nbuf0_3)
theorem hs_4 (t : Fin cfg0.N) : (ms_4 t).IsWhole := hstage0_4 ((cfg0.slots t 4).cast nbuf0_4)
theorem hs_5 (t : Fin cfg0.N) : (ms_5 t).IsWhole := hstage0_5 ((cfg0.slots t 5).cast nbuf0_5)
theorem hs_6 (t : Fin cfg0.N) : (ms_6 t).IsWhole := hstage0_6 ((cfg0.slots t 6).cast nbuf0_6)
theorem hs_7 (t : Fin cfg0.N) : (ms_7 t).IsWhole := hstage0_7 ((cfg0.slots t 7).cast nbuf0_7)
theorem hs_8 (t : Fin cfg0.N) : (ms_8 t).IsWhole := hstage0_8 ((cfg0.slots t 8).cast nbuf0_8)
theorem hs_9 (t : Fin cfg0.N) : (ms_9 t).IsWhole := hstage0_9 ((cfg0.slots t 9).cast nbuf0_9)
theorem hs_10 (t : Fin cfg0.N) : (ms_10 t).IsWhole := hstage0_10 ((cfg0.slots t 10).cast nbuf0_10)
abbrev sc_0 : Memref sig .tc .vmem S1024x4096 .bf16 := Memref.whole cc0_scratch0
abbrev sc_1 : Memref sig .tc .vmem S1024x4096 .bf16 := Memref.whole cc0_scratch1
abbrev sc_2 : Memref sig .tc .vmem S1024x128 .f32 := Memref.whole cc0_scratch2
abbrev sc_3 : Memref sig .tc .vmem S1024x128 .f32 := Memref.whole cc0_scratch3

/-! ## One point of the grid -/

/-- The body at a point runs from the scratch contents of `Inv` at the point to those at the next, and leaves the point's
    blocks in the results' buffers; the gate's buffer holds `f0` before, which is the point's own block where the point
    doesn't store it. -/
theorem run_point (c : Dev nD) (t : Fin cfg0.N) (a0 a1 : Vec F S1024x4096 .bf16) (s0 s1 f0 : Vec F S1024x128 .f32)
    (h : Inv m c t.val a0 a1 s0 s1) (hf0 : 16 ≤ t.val → t.val % 16 ≠ 0 → f0 = out8 m c t) :
    ∃ (a0' a1' : Vec F S1024x4096 .bf16) (s0' s1' : Vec F S1024x128 .f32), Inv m c (t.val + 1) a0' a1' s0' s1' ∧
      ∀ (E : Set ℕ) (K : PUnit → sProp 𝕄),
      iprop(owns (c : Thread nD τ) (ms_0 t) fullShare (iblk m c 0 t)
        ∗ owns (c : Thread nD τ) (ms_1 t) fullShare (iblk m c 1 t)
        ∗ owns (c : Thread nD τ) (ms_2 t) fullShare (iblk m c 2 t)
        ∗ owns (c : Thread nD τ) (ms_3 t) fullShare (iblk m c 3 t)
        ∗ owns (c : Thread nD τ) (ms_4 t) fullShare (iblk m c 4 t)
        ∗ owns (c : Thread nD τ) (ms_5 t) fullShare (iblk m c 5 t)
        ∗ owns (c : Thread nD τ) (ms_6 t) fullShare (iblk m c 6 t)
        ∗ (∃ d, owns (c : Thread nD τ) (ms_7 t) fullShare d)
        ∗ owns (c : Thread nD τ) (ms_8 t) fullShare f0
        ∗ (∃ d, owns (c : Thread nD τ) (ms_9 t) fullShare d)
        ∗ (∃ d, owns (c : Thread nD τ) (ms_10 t) fullShare d)
        ∗ owns (c : Thread nD τ) sc_0 fullShare a0
        ∗ owns (c : Thread nD τ) sc_1 fullShare a1
        ∗ owns (c : Thread nD τ) sc_2 fullShare s0
        ∗ owns (c : Thread nD τ) sc_3 fullShare s1
        ∗ (iprop(owns (c : Thread nD τ) (ms_0 t) fullShare (iblk m c 0 t)
            ∗ owns (c : Thread nD τ) (ms_1 t) fullShare (iblk m c 1 t)
            ∗ owns (c : Thread nD τ) (ms_2 t) fullShare (iblk m c 2 t)
            ∗ owns (c : Thread nD τ) (ms_3 t) fullShare (iblk m c 3 t)
            ∗ owns (c : Thread nD τ) (ms_4 t) fullShare (iblk m c 4 t)
            ∗ owns (c : Thread nD τ) (ms_5 t) fullShare (iblk m c 5 t)
            ∗ owns (c : Thread nD τ) (ms_6 t) fullShare (iblk m c 6 t)
            ∗ owns (c : Thread nD τ) (ms_7 t) fullShare (out7 m c t)
            ∗ owns (c : Thread nD τ) (ms_8 t) fullShare (out8 m c t)
            ∗ owns (c : Thread nD τ) (ms_9 t) fullShare (out9 m c t)
            ∗ owns (c : Thread nD τ) (ms_10 t) fullShare (out10 m c t)
            ∗ owns (c : Thread nD τ) sc_0 fullShare a0'
            ∗ owns (c : Thread nD τ) sc_1 fullShare a1'
            ∗ owns (c : Thread nD τ) sc_2 fullShare s0'
            ∗ owns (c : Thread nD τ) sc_3 fullShare s1') -∗ K ⟨⟩))
      ⊢ wp frame (wpE (defs₀ (F := F)) Variants.none c none) E (bodyAt0 t) K := by
  have e9 : out9 m c t = k0_pay1 (iblk m c 5 t) (iblk m c 4 t) := rfl
  have e10 : out10 m c t = k0_pay2 (iblk m c 6 t) := rfl
  unfold bodyAt0
  by_cases hfirst : t.val < 16
  · have ht : t.val / 16 % 2 = 0 := by omega
    refine ⟨_, _, _, _, Inv.even ht h, fun E K => ?_⟩
    have e7 : out7 m c t = k0_pay9 := by unfold out7; rw [if_pos hfirst]
    have e8 : out8 m c t = k0_pay10 := by unfold out8; rw [if_pos hfirst]
    have R := run_first c (grid0.coords t)
            (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) sc_0 (Memref.isWhole_whole _) sc_1 (Memref.isWhole_whole _) sc_2 (Memref.isWhole_whole _) sc_3 (Memref.isWhole_whole _)
      ((cond_even t).mpr ht) (fun h => by have := (cond_odd t).mp h; omega) (fun h => by have := (cond_gate t).mp h; omega)
      ((cond_first t).mpr hfirst) (fun h => by have := (cond_later t).mp h; omega)
            (iblk m c 0 t) (iblk m c 1 t) (iblk m c 2 t) (iblk m c 3 t) (iblk m c 4 t) (iblk m c 5 t) (iblk m c 6 t) f0 a0 a1 s0 s1 E K
    rw [off1 t, off2 t] at R
    rw [e7, e8, e9, e10]
    exact R
  · have h16 : 16 ≤ t.val := by omega
    by_cases ht : t.val / 16 % 2 = 0
    · refine ⟨_, _, _, _, Inv.even ht h, fun E K => ?_⟩
      obtain ⟨ea, es⟩ := Inv.before_even ht h16 h
      have e7 : out7 m c t = k0_pay14 a1 (iblk m c 2 t) := by unfold out7; rw [if_neg hfirst, ea]
      have e8 : out8 m c t = s1 := by unfold out8; rw [if_neg hfirst, es]
      by_cases hj : t.val % 16 = 0
      · have R := run_even_gate c (grid0.coords t)
            (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) sc_0 (Memref.isWhole_whole _) sc_1 (Memref.isWhole_whole _) sc_2 (Memref.isWhole_whole _) sc_3 (Memref.isWhole_whole _)
          ((cond_even t).mpr ht) (fun h => by have := (cond_odd t).mp h; omega) ((cond_gate t).mpr ⟨hj, h16⟩)
          (fun h => hfirst ((cond_first t).mp h)) ((cond_later t).mpr h16)
            (iblk m c 0 t) (iblk m c 1 t) (iblk m c 2 t) (iblk m c 3 t) (iblk m c 4 t) (iblk m c 5 t) (iblk m c 6 t) f0 a0 a1 s0 s1 E K
        rw [off3 t, off4 t] at R
        rw [e7, e8, e9, e10]
        exact R
      · have R := run_even c (grid0.coords t)
            (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) sc_0 (Memref.isWhole_whole _) sc_1 (Memref.isWhole_whole _) sc_2 (Memref.isWhole_whole _) sc_3 (Memref.isWhole_whole _)
          ((cond_even t).mpr ht) (fun h => by have := (cond_odd t).mp h; omega) (fun h => hj ((cond_gate t).mp h).1)
          (fun h => hfirst ((cond_first t).mp h)) ((cond_later t).mpr h16)
            (iblk m c 0 t) (iblk m c 1 t) (iblk m c 2 t) (iblk m c 3 t) (iblk m c 4 t) (iblk m c 5 t) (iblk m c 6 t) f0 a0 a1 s0 s1 E K
        rw [off3 t, off4 t] at R
        rw [e7, ← hf0 h16 hj, e9, e10]
        exact R
    · have ht' : t.val / 16 % 2 = 1 := by omega
      refine ⟨_, _, _, _, Inv.odd ht' h, fun E K => ?_⟩
      obtain ⟨ea, es⟩ := Inv.before_odd ht' h16 h
      have e7 : out7 m c t = k0_pay14 a0 (iblk m c 2 t) := by unfold out7; rw [if_neg hfirst, ea]
      have e8 : out8 m c t = s0 := by unfold out8; rw [if_neg hfirst, es]
      by_cases hj : t.val % 16 = 0
      · have R := run_odd_gate c (grid0.coords t)
            (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) sc_0 (Memref.isWhole_whole _) sc_1 (Memref.isWhole_whole _) sc_2 (Memref.isWhole_whole _) sc_3 (Memref.isWhole_whole _)
          (fun h => ht ((cond_even t).mp h)) ((cond_odd t).mpr ht') ((cond_gate' t).mpr ⟨hj, h16⟩)
          (fun h => hfirst ((cond_first' t).mp h)) ((cond_later' t).mpr h16)
            (iblk m c 0 t) (iblk m c 1 t) (iblk m c 2 t) (iblk m c 3 t) (iblk m c 4 t) (iblk m c 5 t) (iblk m c 6 t) f0 a0 a1 s0 s1 E K
        rw [off7 t, off8 t] at R
        rw [e7, e8, e9, e10]
        exact R
      · have R := run_odd c (grid0.coords t)
            (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) sc_0 (Memref.isWhole_whole _) sc_1 (Memref.isWhole_whole _) sc_2 (Memref.isWhole_whole _) sc_3 (Memref.isWhole_whole _)
          (fun h => ht ((cond_even t).mp h)) ((cond_odd t).mpr ht') (fun h => hj ((cond_gate' t).mp h).1)
          (fun h => hfirst ((cond_first' t).mp h)) ((cond_later' t).mpr h16)
            (iblk m c 0 t) (iblk m c 1 t) (iblk m c 2 t) (iblk m c 3 t) (iblk m c 4 t) (iblk m c 5 t) (iblk m c 6 t) f0 a0 a1 s0 s1 E K
        rw [off7 t, off8 t] at R
        rw [e7, ← hf0 h16 hj, e9, e10]
        exact R

/-! ## The proof data -/

/-- Between the points: the scratch buffers at contents of `Inv`, and the generator register. -/
def Between (c : Dev nD) (n : ℕ) : sProp 𝕄 :=
  iprop(∃ (a0 a1 : Vec F S1024x4096 .bf16) (s0 s1 : Vec F S1024x128 .f32), ⌜Inv m c n a0 a1 s0 s1⌝
    ∗ owns (c : Thread nD τ) sc_0 fullShare a0 ∗ owns (c : Thread nD τ) sc_1 fullShare a1 ∗ owns (c : Thread nD τ) sc_2 fullShare s0 ∗ owns (c : Thread nD τ) sc_3 fullShare s1
    ∗ (∃ r, prngReg c r))

/-- What the region holds of these outside the loop is the same at any contents. -/
theorem scratch_eq (c : Dev nD) :
    (Pipeline.ΦA spec0 c : sProp 𝕄)
      = iprop(iprop((∃ d, owns (c : Thread nD τ) sc_0 fullShare d) ∗ (∃ d, owns (c : Thread nD τ) sc_1 fullShare d) ∗ (∃ d, owns (c : Thread nD τ) sc_2 fullShare d) ∗ (∃ d, owns (c : Thread nD τ) sc_3 fullShare d)) ∗ (∃ r, prngReg c r)) := by
  unfold Pipeline.ΦA; rw [scopedRest0_eq]; simp only [sc_0, sc_1, sc_2, sc_3, owns_whole]; try rfl

/-- The arrays as the region finds them; after a point the inputs' buffers at their blocks, the results' at what the point
    leaves; `Between` kept from point to point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 m c t
    | ⟨8, _⟩ => out8 m c t
    | ⟨9, _⟩ => out9 m c t
    | ⟨10, _⟩ => out10 m c t
  Φ t := Between m c t.val
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = out7 m c t := by dsimp only [dats]
theorem after_8 (c : Dev nD) (t : Fin cfg0.N) : (dats m 0 c).after 8 t = out8 m c t := by dsimp only [dats]
theorem after_9 (c : Dev nD) (t : Fin cfg0.N) : (dats m 0 c).after 9 t = out9 m c t := by dsimp only [dats]
theorem after_10 (c : Dev nD) (t : Fin cfg0.N) : (dats m 0 c).after 10 t = out10 m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-! ## Where the results' buffers are stored -/

theorem idle_7 : ∀ t : Fin cfg0.N, cfg0.idle 7 (cfg0.grid.coords t) = false :=
  (by decide +kernel : ∀ t : Fin grid0.N, idle0 7 (grid0.coords t) = false)
theorem idle_9 : ∀ t : Fin cfg0.N, cfg0.idle 9 (cfg0.grid.coords t) = false :=
  (by decide +kernel : ∀ t : Fin grid0.N, idle0 9 (grid0.coords t) = false)
theorem idle_10 : ∀ t : Fin cfg0.N, cfg0.idle 10 (cfg0.grid.coords t) = false :=
  (by decide +kernel : ∀ t : Fin grid0.N, idle0 10 (grid0.coords t) = false)
/-- The gate's block is stored at every step of the first row tile and at the first step of the others … -/
theorem idle_8 : ∀ t : Fin cfg0.N, cfg0.idle 8 (cfg0.grid.coords t) = decide (16 ≤ t.val ∧ t.val % 16 ≠ 0) :=
  (by decide +kernel : ∀ t : Fin grid0.N, idle0 8 (grid0.coords t) = decide (16 ≤ t.val ∧ t.val % 16 ≠ 0))
/-- … and written back at the last step of each. -/
theorem flush_8 : ∀ t : Fin cfg0.N, (cfg0.win 8).flush t = decide (t.val % 16 = 15) := by decide +kernel

/-- Nothing has been stored since the last block of the gate's went back. -/
theorem fresh_8 (n : ℕ) (hn : n ≤ cfg0.N) : cfg0.fresh 8 n = decide (n % 16 = 0) :=
  cfg0.fresh_tab 8 (fun n => decide (n % 16 = 0)) rfl (fun t => by
    rw [flush_8, idle_8, Bool.eq_iff_iff]
    simp only [decide_eq_true_eq, Bool.or_eq_true, Bool.and_eq_true]
    omega) n hn

/-- At the later steps of a row tile the gate's buffer holds its block. -/
theorem before_8 (c : Dev nD) (t : Fin cfg0.N) (hj : t.val % 16 ≠ 0) (d) :
    (dats m 0 c).before 8 t d = out8 m c t := by
  have key : ∀ (t : Fin cfg0.N) (h : t.val % 16 ≠ 0),
      (dats m 0 c).after 8 t = (dats m 0 c).after 8 ⟨t.val - 1, by omega⟩ := fun t h => by
    rw [after_8, after_8]
    have e1 : (t.val - 1) / 16 = t.val / 16 := by omega
    unfold out8
    by_cases hf : t.val < 16
    · rw [if_pos hf, if_pos (by show t.val - 1 < 16; omega)]
    · rw [if_neg hf, if_neg (by show ¬ t.val - 1 < 16; omega)]
      show _ = tileGate m c ((t.val - 1) / 16 - 1)
      rw [e1]
  have := (dats m 0 c).before_out_traj 8 rfl (fun _ _ => rfl)
    (fun t _ hi _ => key t (by rw [idle_8, decide_eq_true_eq] at hi; exact hi.2)) t.val t rfl d
  rw [this, fresh_8 t.val (le_of_lt t.isLt), if_neg (by rw [decide_eq_true_eq]; exact hj), ← key t hj, after_8]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d))
    ∗ (∃ d, owns (c : Thread nD τ) (ms_8 t) fullShare ((dats m 0 c).before 8 t d))
    ∗ (∃ d, owns (c : Thread nD τ) (ms_9 t) fullShare ((dats m 0 c).before 9 t d))
    ∗ (∃ d, owns (c : Thread nD τ) (ms_10 t) fullShare ((dats m 0 c).before 10 t d)))
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

/-- The gate's buffer at its block is what is asked after the body, stored at the point or not. -/
theorem leaves_8 (c : Dev nD) (t : Fin cfg0.N) :
    (owns (c : Thread nD τ) (ms_8 t) fullShare (out8 m c t) : sProp 𝕄) ⊢ (dats m 0 c).leavesExact 8 t := by
  by_cases hi : 16 ≤ t.val ∧ t.val % 16 ≠ 0
  · have hi' : cfg0.idle 8 (cfg0.grid.coords t) = true := by rw [idle_8, decide_eq_true_eq]; exact hi
    by_cases hf : t.val % 16 = 15
    · have hf' : (cfg0.win 8).flush t = true := by rw [flush_8, decide_eq_true_eq]; exact hf
      unfold Dat.leavesExact; rw [hi', hf', after_8]
    · have hf' : (cfg0.win 8).flush t = false := by rw [flush_8, decide_eq_false_iff_not]; exact hf
      rw [Dat.leavesExact_idle _ 8 t hi' hf']
      iintro H
      iexists (out8 m c t)
      rw [before_8 m c t hi.2]
      iexact H
  · have hi' : cfg0.idle 8 (cfg0.grid.coords t) = false := by rw [idle_8, decide_eq_false_iff_not]; exact hi
    unfold Dat.leavesExact; rw [hi', after_8]

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2, before_3, before_4, before_5, before_6]
  rw [show (dats m 0 c).owesAt () t.succ = (dats m 0 c).owesAt () t.castSucc from rfl,
    show (dats m 0 c).Φ t.castSucc = Between m c t.val from rfl, show (dats m 0 c).Φ t.succ = Between m c (t.val + 1) from rfl]
  rw [show (dats m 0 c).leavesExact 0 t = owns (c : Thread nD τ) (ms_0 t) fullShare (iblk m c 0 t) from by
    unfold Dat.leavesExact; rw [show cfg0.idle 0 (cfg0.grid.coords t) = false from rfl, after_0]]
  rw [show (dats m 0 c).leavesExact 1 t = owns (c : Thread nD τ) (ms_1 t) fullShare (iblk m c 1 t) from by
    unfold Dat.leavesExact; rw [show cfg0.idle 1 (cfg0.grid.coords t) = false from rfl, after_1]]
  rw [show (dats m 0 c).leavesExact 2 t = owns (c : Thread nD τ) (ms_2 t) fullShare (iblk m c 2 t) from by
    unfold Dat.leavesExact; rw [show cfg0.idle 2 (cfg0.grid.coords t) = false from rfl, after_2]]
  rw [show (dats m 0 c).leavesExact 3 t = owns (c : Thread nD τ) (ms_3 t) fullShare (iblk m c 3 t) from by
    unfold Dat.leavesExact; rw [show cfg0.idle 3 (cfg0.grid.coords t) = false from rfl, after_3]]
  rw [show (dats m 0 c).leavesExact 4 t = owns (c : Thread nD τ) (ms_4 t) fullShare (iblk m c 4 t) from by
    unfold Dat.leavesExact; rw [show cfg0.idle 4 (cfg0.grid.coords t) = false from rfl, after_4]]
  rw [show (dats m 0 c).leavesExact 5 t = owns (c : Thread nD τ) (ms_5 t) fullShare (iblk m c 5 t) from by
    unfold Dat.leavesExact; rw [show cfg0.idle 5 (cfg0.grid.coords t) = false from rfl, after_5]]
  rw [show (dats m 0 c).leavesExact 6 t = owns (c : Thread nD τ) (ms_6 t) fullShare (iblk m c 6 t) from by
    unfold Dat.leavesExact; rw [show cfg0.idle 6 (cfg0.grid.coords t) = false from rfl, after_6]]
  rw [show (dats m 0 c).leavesExact 7 t = owns (c : Thread nD τ) (ms_7 t) fullShare (out7 m c t) from by
    unfold Dat.leavesExact; rw [idle_7, after_7]]
  rw [show (dats m 0 c).leavesExact 9 t = owns (c : Thread nD τ) (ms_9 t) fullShare (out9 m c t) from by
    unfold Dat.leavesExact; rw [idle_9, after_9]]
  rw [show (dats m 0 c).leavesExact 10 t = owns (c : Thread nD τ) (ms_10 t) fullShare (out10 m c t) from by
    unfold Dat.leavesExact; rw [idle_10, after_10]]
  unfold Between
  iintro ⟨⟨%a0, %a1, %s0, %s1, %hI, A0, A1, A2, A3, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  obtain ⟨a0', a1', s0', s1', hI', hrun⟩ := run_point m c t a0 a1 s0 s1 ((dats m 0 c).before 8 t d8) hI
    (fun _ hj => before_8 m c t hj d8)
  iapply (hrun Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexists _; iexact H9
  isplitl [H10]; · iexists _; iexact H10
  isplitl [A0]; · iexact A0
  isplitl [A1]; · iexact A1
  isplitl [A2]; · iexact A2
  isplitl [A3]; · iexact A3
  iintro ⟨H0, H1, H2, H3, H4, H5, H6, H7, H8, H9, H10, A0, A1, A2, A3⟩
  isplitl [A0 A1 A2 A3 Hg]
  · iexists a0', a1', s0', s1'
    isplitr; · ipureintro; exact hI'
    isplitl [A0]; · iexact A0
    isplitl [A1]; · iexact A1
    isplitl [A2]; · iexact A2
    isplitl [A3]; · iexact A3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply (leaves_8 m c t); iexact H8
  isplitl [H9]; · iexact H9
  iexact H10

/-- The body table's row at a point is the body there. -/
theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem enter (c : Dev nD) : (Pipeline.ΦA spec0 c : sProp 𝕄) ⊢ (dats m 0 c).Φ 0 := by
  rw [scratch_eq, show (dats m 0 c).Φ 0 = Between m c 0 from rfl]
  unfold Between
  iintro ⟨⟨⟨%a0, A0⟩, ⟨%a1, A1⟩, ⟨%s0, A2⟩, ⟨%s1, A3⟩⟩, Hg⟩
  iexists a0, a1, s0, s1
  isplitr; · ipureintro; exact Inv.start a0 a1 s0 s1
  isplitl [A0]; · iexact A0
  isplitl [A1]; · iexact A1
  isplitl [A2]; · iexact A2
  isplitl [A3]; · iexact A3
  iexact Hg

theorem leave (c : Dev nD) : (dats m 0 c).Φ (Fin.last cfg0.N) ⊢ (Pipeline.ΦA spec0 c : sProp 𝕄) := by
  rw [scratch_eq, show (dats m 0 c).Φ (Fin.last cfg0.N) = Between m c cfg0.N from rfl]
  unfold Between
  iintro ⟨%a0, %a1, %s0, %s1, -, A0, A1, A2, A3, Hg⟩
  isplitl [A0 A1 A2 A3]
  · isplitl [A0]; · iexists a0; iexact A0
    isplitl [A1]; · iexists a1; iexact A1
    isplitl [A2]; · iexists s0; iexact A2
    iexists s1; iexact A3
  iexact Hg

-- the run theorem's implicit arguments are found by unifying its conclusion with the statement, under types too
set_option backward.isDefEq.respectTransparency.types false in
/-- Every weakly fair execution of the program ends with each window's array at what its blocks say, every other buffer
    as it was when the region was entered, and every semaphore counter at zero. -/
theorem run_main :
    θ_run defs (onTc (τ := τ) (main (F := F))) (s₀ m ρ)
      (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := enter m) (hout := leave m) (hQ' := fun _ h => h)

end Cert.KernelIdeal.InProj

end
-- ==== Proof.InProj.Target.lean ====
/-
  What the input projection computes, written as sums over the extended reals: each row of `x` scaled by the inverse root
  of its mean square and by the gain, times the columns of the weight; below the rows, and beside the gate's sixteen
  columns, zeros.
-/
module

public import Idealize.ShloMosaic.Lib.ValueIdx
public import Idealize.ShloMosaic.PureOps.Ideal.Laws

@[expose] public section

noncomputable section

namespace Cert.InProjTarget

open Idealize.ShloMosaic Idealize.ShloMosaic.ValueIdx

/-- One over the root of a row's mean square, the small constant added under the root. -/
def scale (X : Fin 4096 → EReal) : EReal :=
  Ideal.rsqrt (Ideal.div (∑ k, X k * X k) (Ideal.ofBits .f32 0x45800000#32) + Ideal.ofBits .f32 0x358637BD#32)

/-- A normalised row. -/
def normed (X G : Fin 4096 → EReal) (k : Fin 4096) : EReal := X k * scale X * G k

/-- A normalised row times a column. -/
def proj (X G W : Fin 4096 → EReal) : EReal := ∑ k, normed X G k * W k

/-- Row `r` of the input, its two outer axes joined. -/
def xrow (x : (⟨3, ![4, 4096, 4096]⟩ : Shape).Idx → EReal) (r : ℕ) (h : r < 16384) (k : Fin 4096) : EReal :=
  x (ix3 ⟨r / 4096, by omega⟩ ⟨r % 4096, by omega⟩ k)

/-- The gain. -/
def gain (g : (⟨2, ![1, 4096]⟩ : Shape).Idx → EReal) (k : Fin 4096) : EReal := g (ix2 0 k)

/-- Column `n` of the weight. -/
def wcol (w : (⟨3, ![1, 4096, 12304]⟩ : Shape).Idx → EReal) (n : ℕ) (h : n < 12304) (k : Fin 4096) : EReal :=
  w (ix3 0 k ⟨n, h⟩)

/-- Where column `n` of the result lies in the weight: the gate's sixteen columns are skipped. -/
def place (n : ℕ) : ℕ := if n < 6144 then n else n + 16

theorem place_lt {n : ℕ} (h : n < 12288) : place n < 12304 := by unfold place; split <;> omega

variable (x : (⟨3, ![4, 4096, 4096]⟩ : Shape).Idx → EReal) (g : (⟨2, ![1, 4096]⟩ : Shape).Idx → EReal)
  (w : (⟨3, ![1, 4096, 12304]⟩ : Shape).Idx → EReal)

/-- The projection at row `r` and weight column `n`. -/
def entry (r : ℕ) (hr : r < 16384) (n : ℕ) (hn : n < 12304) : EReal := proj (xrow x r hr) (gain g) (wcol w n hn)

/-- The projected rows. -/
def rows (y : (⟨2, ![17408, 12288]⟩ : Shape).Idx) : EReal :=
  if h : (y 0).val < 16384 then entry x g w (y 0).val h (place (y 1).val) (place_lt (y 1).isLt) else 0

/-- The gate's logits. -/
def logits (y : (⟨2, ![17408, 128]⟩ : Shape).Idx) : EReal :=
  if h : (y 0).val < 16384 ∧ (y 1).val < 16 then entry x g w (y 0).val h.1 (6144 + (y 1).val) (by omega) else 0

/-- The two weights of the layer's last part: the first scaled by its gain, the second as it is. -/
def upWeight (g' : (⟨2, ![1, 4096]⟩ : Shape).Idx → EReal) (u : (⟨3, ![1, 4096, 16384]⟩ : Shape).Idx → EReal)
    (y : (⟨2, ![4096, 16384]⟩ : Shape).Idx) : EReal := g' (ix2 0 (y 0)) * u (ix3 0 (y 0) (y 1))
def downWeight (d : (⟨3, ![1, 16384, 4096]⟩ : Shape).Idx → EReal) (y : (⟨2, ![16384, 4096]⟩ : Shape).Idx) : EReal :=
  d (ix3 0 (y 0) (y 1))

end Cert.InProjTarget

end
-- ==== Proof.InProj.Payloads.lean ====
/-
  The body's operations read at an index, over the extended reals: a cast changes nothing and a product is a sum.
-/
module

public import proofs.«01_k».proof.Proof.InProj.Body
public import proofs.«01_k».proof.Proof.InProj.Target
public import Idealize.ShloMosaic.Lib.Pipeline.ValueKit
public import Idealize.ShloMosaic.Lib.MatmulPlain

@[expose] public section

set_option maxRecDepth 16384

noncomputable section

namespace Cert.KernelIdeal.InProj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

open Cert.InProjTarget

/-- The 64 rows normalised, at row `i 0` and channel `i 1`. -/
theorem pay11_apply (X : Vec Ideal S64x4096 .f32) (g : Vec Ideal S1x4096 .f32) (i : S64x4096.Idx) :
    k0_pay11 (F := Ideal) X g i = normed (fun k => X (ValueIdx.ix2 (i 0) k)) (fun k => g (ValueIdx.ix2 0 k)) (i 1) := by
  have hs : multiReduction (F := Ideal) (φ := .f32) .add [1] S64 (mulf X X) 0x00000000#32 reduces_S64x4096_S64 (.inl rfl) rfl
      = fun j : S64.Idx => ∑ k : Fin 4096, X (ValueIdx.ix2 (j 0) k) * X (ValueIdx.ix2 (j 0) k) := by
    funext j
    refine (Ideal.multiReduction_add_single (φ := .f32) _ _ reduces_S64x4096_S64 _ _ j).trans ?_
    refine Finset.sum_congr rfl fun k _ => ?_
    have e : (reduces_S64x4096_S64).lift j k = ValueIdx.ix2 (j 0) k :=
      funext fun a => Fin.ext (by match a with | ⟨0, _⟩ => rfl | ⟨1, _⟩ => rfl)
    exact congrArg (fun q => X q * X q) e
  unfold k0_pay11
  simp only [shapeCast_self, hs]
  show X i * broadcastTo S64x4096 _ broadcasts_S64x1_S64x4096 i * broadcastTo S64x4096 g broadcasts_S1x4096_S64x4096 i = _
  rw [broadcastTo_apply _ broadcasts_S64x1_S64x4096 i (ValueIdx.ix2 (n0 := 64) (n1 := 1) (i 0) 0) (fun a => by
      match a with
      | ⟨0, _⟩ => show (i 0).val = if (64 : ℕ) = 1 then 0 else (i 0).val; rw [if_neg (by decide)]
      | ⟨1, _⟩ => rfl),
    broadcastTo_apply g broadcasts_S1x4096_S64x4096 i (ValueIdx.ix2 (n0 := 1) (n1 := 4096) 0 (i 1)) (fun a => by
      match a with
      | ⟨0, _⟩ => rfl
      | ⟨1, _⟩ => show (i 1).val = if (4096 : ℕ) = 1 then 0 else (i 1).val; rw [if_neg (by decide)])]
  show X i * Ideal.rsqrt (Ideal.div (shapeCast S64x1 _ shapeCasts_S64_S64x1 (ValueIdx.ix2 (n0 := 64) (n1 := 1) (i 0) 0)) _ + _) * _ = _
  rw [shapeCast_apply _ shapeCasts_S64_S64x1 (ValueIdx.ix2 (n0 := 64) (n1 := 1) (i 0) 0) (ValueIdx.ix1 (n := 64) (i 0)) (by
    rw [Shape.rowMajor_val_one, Shape.rowMajor_val_two]; show (i 0).val = (i 0).val * 1 + 0; omega)]
  have hX : X i = X (ValueIdx.ix2 (i 0) (i 1)) := congrArg X (ValueIdx.eq_ix2 i)
  rw [hX]
  unfold normed scale
  refine congrArg (fun v : EReal => X (ValueIdx.ix2 (i 0) (i 1)) * Ideal.rsqrt v * g (ValueIdx.ix2 0 (i 1))) ?_
  rfl

theorem pay12_apply (X : Vec Ideal S64x4096 .f32) (g : Vec Ideal S1x4096 .f32) (i : S64x4096.Idx) :
    k0_pay12 (F := Ideal) X g i = normed (fun k => X (ValueIdx.ix2 (i 0) k)) (fun k => g (ValueIdx.ix2 0 k)) (i 1) := by
  unfold k0_pay12
  simp only [shapeCast_self]
  exact pay11_apply X g i

/-- Their product with the gate's columns. -/
theorem pay13_apply (X : Vec Ideal S64x4096 .f32) (g : Vec Ideal S1x4096 .f32) (w : Vec Ideal S128x4096 .bf16) (i : S64x128.Idx) :
    k0_pay13 (F := Ideal) X g w i
      = ∑ k : Fin 4096, normed (fun k => X (ValueIdx.ix2 (i 0) k)) (fun k => g (ValueIdx.ix2 0 k)) k * w (ValueIdx.ix2 (i 1) k) := by
  unfold k0_pay13
  simp only [shapeCast_self]
  rw [ValueIdx.eq_ix2 i]
  refine (Ideal.matmul_transposedRhs_apply (φ₁ := .bf16) (φ₂ := .bf16) (M := 64) (K := 4096) (N := 128) none (k0_pay11 (F := Ideal) X g) w
    (constant S64x128 .f32 0x00000000#32) (i 0) (i 1)).trans ?_
  refine (congrArg₂ (fun a b : EReal => a + b) Ideal.ofBits_zero_f32 (Finset.sum_congr rfl fun k _ => ?_)).trans (zero_add _)
  exact congrArg (fun v : EReal => v * _) (pay11_apply X g _)

/-- A row tile times 768 columns. -/
theorem pay14_apply (a : Vec Ideal S1024x4096 .bf16) (w : Vec Ideal S768x4096 .bf16) (i : S1024x768.Idx) :
    k0_pay14 (F := Ideal) a w i = ∑ k : Fin 4096, a (ValueIdx.ix2 (i 0) k) * w (ValueIdx.ix2 (i 1) k) := by
  unfold k0_pay14
  simp only [shapeCast_self]
  rw [ValueIdx.eq_ix2 i]
  refine (Ideal.matmul_transposedRhs_apply (φ₁ := .bf16) (φ₂ := .bf16) (M := 1024) (K := 4096) (N := 768) none a w
    (constant S1024x768 .f32 0x00000000#32) (i 0) (i 1)).trans ?_
  exact (congrArg (fun z : EReal => z + _) Ideal.ofBits_zero_f32).trans (zero_add _)

/-- Sixteen rows of the up weight, each scaled by its gain. -/
theorem pay1_apply (g : Vec Ideal S16x1 .f32) (u : Vec Ideal S1x16x16384 .f32) (i : S16x16384.Idx) :
    k0_pay1 (F := Ideal) g u i = g (ValueIdx.ix2 (i 0) 0) * u (ValueIdx.ix3 0 (i 0) (i 1)) := by
  have h0 : (i 0).val < 16 := (i 0).isLt
  have h1 : (i 1).val < 16384 := (i 1).isLt
  unfold k0_pay1
  simp only [shapeCast_self]
  refine congrArg₂ (fun a b : EReal => a * b) ?_ ?_
  · exact broadcastTo_apply g broadcasts_S16x1_S16x16384 i (ValueIdx.ix2 (n0 := 16) (n1 := 1) (i 0) 0) (fun a => by
      match a with
      | ⟨0, _⟩ => show (i 0).val = if (16 : ℕ) = 1 then 0 else (i 0).val; rw [if_neg (by decide)]
      | ⟨1, _⟩ => rfl)
  · exact shapeCast_apply u shapeCasts_S1x16x16384_S16x16384 i (ValueIdx.ix3 (n0 := 1) (n1 := 16) (n2 := 16384) 0 (i 0) (i 1)) (by
      rw [Shape.rowMajor_val_three, Shape.rowMajor_val_two]; show (0 * 16 + (i 0).val) * 16384 + (i 1).val = (i 0).val * 16384 + (i 1).val; omega)

/-- 64 rows of the down weight. -/
theorem pay2_apply (d : Vec Ideal S1x64x4096 .f32) (i : S64x4096.Idx) : k0_pay2 (F := Ideal) d i = d (ValueIdx.ix3 0 (i 0) (i 1)) := by
  unfold k0_pay2
  exact shapeCast_apply d shapeCasts_S1x64x4096_S64x4096 i (ValueIdx.ix3 (n0 := 1) (n1 := 64) (n2 := 4096) 0 (i 0) (i 1)) (by
    rw [Shape.rowMajor_val_three, Shape.rowMajor_val_two]; show (0 * 64 + (i 0).val) * 4096 + (i 1).val = (i 0).val * 4096 + (i 1).val; omega)

theorem pay9_apply (i : S1024x768.Idx) : k0_pay9 (F := Ideal) i = (0 : EReal) := by
  show Ideal.ofBits .bf16 0x0000#16 = 0
  simp [Ideal.ofBits, Ideal.ieee]
theorem pay10_apply (i : S1024x128.Idx) : k0_pay10 (F := Ideal) i = (0 : EReal) := Ideal.ofBits_zero_f32

end Cert.KernelIdeal.InProj

end
-- ==== Proof.InProj.Entry.lean ====
/-
  What the windows' arrays hold when the kernel starts, and what each point reads of them, in terms of the arguments.
-/
module

public import proofs.«01_k».proof.Proof.InProj.Payloads
public import Idealize.ShloMosaic.Lib.Claim

@[expose] public section

set_option maxRecDepth 16384

noncomputable section

namespace Cert.KernelIdeal.InProj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

open Cert.InProjTarget

variable (m : (ℓ : Loc nD τ sig) → Buf (Elt Ideal) ℓ)

/-- The six arguments. -/
abbrev argX (c : Dev nD) : (⟨S4x4096x4096, .f32⟩ : BufTy).Contents (Elt Ideal) := m ((c : Thread nD τ).loc main_arg0)
abbrev argG (c : Dev nD) : (⟨S1x4096, .f32⟩ : BufTy).Contents (Elt Ideal) := m ((c : Thread nD τ).loc main_arg1)
abbrev argW (c : Dev nD) : (⟨S1x4096x12304, .f32⟩ : BufTy).Contents (Elt Ideal) := m ((c : Thread nD τ).loc main_arg2)
abbrev argH (c : Dev nD) : (⟨S1x4096, .f32⟩ : BufTy).Contents (Elt Ideal) := m ((c : Thread nD τ).loc main_arg3)
abbrev argU (c : Dev nD) : (⟨S1x4096x16384, .f32⟩ : BufTy).Contents (Elt Ideal) := m ((c : Thread nD τ).loc main_arg4)
abbrev argD (c : Dev nD) : (⟨S1x16384x4096, .f32⟩ : BufTy).Contents (Elt Ideal) := m ((c : Thread nD τ).loc main_arg5)

/-- The input with its two outer axes joined. -/
theorem V_x (c : Dev nD) (i : S16384x4096.Idx) :
    V m c main_v0 i = xrow (argX m c) (i 0).val (i 0).isLt (i 1) := by
  have h0 : (i 0).val < 16384 := (i 0).isLt
  have h1 : (i 1).val < 4096 := (i 1).isLt
  simp only [V, hostOps0, hostOps0_1, hostOps0_2, List.flatten_cons, List.flatten_nil, List.append_nil, List.cons_append, List.nil_append]
  after_results_simp
  exact shapeCast_apply _ shapeCasts_S4x4096x4096_S16384x4096 i
    (ValueIdx.ix3 (n0 := 4) (n1 := 4096) (n2 := 4096) ⟨(i 0).val / 4096, by omega⟩ ⟨(i 0).val % 4096, by omega⟩ (i 1)) (by
    rw [Shape.rowMajor_val_three, Shape.rowMajor_val_two]
    show ((i 0).val / 4096 * 4096 + (i 0).val % 4096) * 4096 + (i 1).val = (i 0).val * 4096 + (i 1).val; omega)

/-- The gain as a row. -/
theorem V_g (c : Dev nD) (i : S1x4096.Idx) : V m c main_v8 i = gain (argG m c) (i 1) := by
  have h0 : (i 0).val < 1 := (i 0).isLt
  simp only [V, hostOps0, hostOps0_1, hostOps0_2, List.flatten_cons, List.flatten_nil, List.append_nil, List.cons_append, List.nil_append]
  after_results_simp
  rw [shapeCast_shapeCast]
  refine congrArg (argG m c) (funext fun a => Fin.ext ?_)
  match a with
  | ⟨0, _⟩ => show (i 0).val = 0; omega
  | ⟨1, _⟩ => rfl

/-- The transposed weight at a coordinate. -/
theorem w_at (c : Dev nD) (n : ℕ) (h : n < 12304) (k : Fin 4096) :
    transpose S12304x4096 [1, 0] (shapeCast S4096x12304 (argW m c) shapeCasts_S1x4096x12304_S4096x12304)
      transposes_S4096x12304_S12304x4096_1_0 (ValueIdx.ix2 (n0 := 12304) (n1 := 4096) ⟨n, h⟩ k) = wcol (argW m c) n h k := by
  refine (transpose_apply [1, 0] _ transposes_S4096x12304_S12304x4096_1_0 _ (ValueIdx.ix2 (n0 := 4096) (n1 := 12304) k ⟨n, h⟩) (fun b => by
    match b with | ⟨0, _⟩ => rfl | ⟨1, _⟩ => rfl)).trans ?_
  exact shapeCast_apply _ shapeCasts_S1x4096x12304_S4096x12304 _
    (ValueIdx.ix3 (n0 := 1) (n1 := 4096) (n2 := 12304) 0 k ⟨n, h⟩) (by
    rw [Shape.rowMajor_val_three, Shape.rowMajor_val_two]
    show (0 * 4096 + k.val) * 12304 + n = k.val * 12304 + n; omega)

/-- The weight, its columns as rows. -/
theorem V_w (c : Dev nD) (i : S12304x4096.Idx) : V m c main_v3 i = wcol (argW m c) (i 0).val (i 0).isLt (i 1) := by
  simp only [V, hostOps0, hostOps0_1, hostOps0_2, List.flatten_cons, List.flatten_nil, List.append_nil, List.cons_append, List.nil_append]
  after_results_simp
  have e : i = ValueIdx.ix2 (n0 := 12304) (n1 := 4096) ⟨(i 0).val, (i 0).isLt⟩ (i 1) := ValueIdx.eq_ix2 i
  refine (congrArg _ e).trans ?_
  exact w_at m c (i 0).val (i 0).isLt (i 1)

/-- Sixteen rows padded to 128 with one value. -/
theorem pad_at (v : (⟨S16x4096, .bf16⟩ : BufTy).Contents (Elt Ideal)) (z : (⟨S_, .bf16⟩ : BufTy).Contents (Elt Ideal)) (i : S128x4096.Idx) :
    pad S128x4096 ![0, 0] ![112, 0] ![0, 0] v z pads_S16x4096_S128x4096_01120_000 h_S_ i
      = if h : (i 0).val < 16 then v (ValueIdx.ix2 (n0 := 16) (n1 := 4096) ⟨(i 0).val, h⟩ (i 1)) else z (Shape.Idx.first h_S_) := by
  have h1 : (i 1).val < 4096 := (i 1).isLt
  unfold pad
  by_cases h : (i 0).val < 16
  · rw [dif_pos h]
    refine (dif_pos (fun a => by
        match a with
        | ⟨0, _⟩ => exact ⟨Nat.zero_le _, Nat.mod_one _, by show ((i 0).val - 0) / 1 < 16; omega⟩
        | ⟨1, _⟩ => exact ⟨Nat.zero_le _, Nat.mod_one _, by show ((i 1).val - 0) / 1 < 4096; omega⟩)).trans ?_
    refine congrArg v (funext fun a => Fin.ext ?_)
    match a with
    | ⟨0, _⟩ => show ((i 0).val - 0) / 1 = (i 0).val; omega
    | ⟨1, _⟩ => show ((i 1).val - 0) / 1 = (i 1).val; omega
  · rw [dif_neg h]
    exact dif_neg (fun hin => h (by
      have h' : ((i 0).val - 0) / 1 < 16 := (hin 0).2.2
      omega))

/-- The gate's sixteen columns, as rows, with zero rows below them. -/
theorem V_f (c : Dev nD) (i : S128x4096.Idx) :
    V m c main_v5 i = if h : (i 0).val < 16 then wcol (argW m c) (6144 + (i 0).val) (by omega) (i 1) else 0 := by
  have h0 : (i 0).val < 128 := (i 0).isLt
  have h1 : (i 1).val < 4096 := (i 1).isLt
  simp only [V, hostOps0, hostOps0_1, hostOps0_2, List.flatten_cons, List.flatten_nil, List.append_nil, List.cons_append, List.nil_append]
  after_results_simp
  refine (pad_at _ _ i).trans ?_
  by_cases h : (i 0).val < 16
  · rw [dif_pos h, dif_pos h]
    exact (extractStridedSlice_apply ![6144, 0] _ slices_S12304x4096_S16x4096_6144_0 _
      (ValueIdx.ix2 (n0 := 12304) (n1 := 4096) ⟨6144 + (i 0).val, by omega⟩ (i 1)) (fun a => by
        match a with
        | ⟨0, _⟩ => rfl
        | ⟨1, _⟩ => show (i 1).val = 0 + (i 1).val; omega)).trans (w_at m c (6144 + (i 0).val) (by omega) (i 1))
  · rw [dif_neg h, dif_neg h]
    show (((0#32 : BitVec 32).toInt : ℝ) : EReal) = 0
    simp

/-- The second gain as a column. -/
theorem V_h (c : Dev nD) (i : S4096x1.Idx) : V m c main_v9 i = argH m c (ValueIdx.ix2 (n0 := 1) (n1 := 4096) 0 (i 0)) := by
  have h1 : (i 1).val < 1 := (i 1).isLt
  simp only [V, hostOps0, hostOps0_1, hostOps0_2, List.flatten_cons, List.flatten_nil, List.append_nil, List.cons_append, List.nil_append]
  after_results_simp
  refine (shapeCast_apply _ shapeCasts_S4096_S4096x1 i (ValueIdx.ix1 (n := 4096) (i 0)) (by
    rw [Shape.rowMajor_val_one, Shape.rowMajor_val_two]; show (i 0).val = (i 0).val * 1 + (i 1).val; omega)).trans ?_
  exact shapeCast_apply _ shapeCasts_S1x4096_S4096 _ (ValueIdx.ix2 (n0 := 1) (n1 := 4096) 0 (i 0)) (by
    rw [Shape.rowMajor_val_one, Shape.rowMajor_val_two]; show 0 * 4096 + (i 0).val = (i 0).val; omega)

/-! ### The blocks of a point -/

theorem at0 : ∀ t : Fin cfg0.N, win0_0.index t = ![min (t.val / 16) 15 * 16 + t.val % 16, 0] :=
  (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![if 768 * (t.val % 16) < 6144 then 768 * (t.val % 16) else 768 * (t.val % 16) + 16, 0] :=
  (by decide +kernel : ∀ t : Fin grid0.N, _)
theorem at3 : ∀ t : Fin cfg0.N, win0_3.index t = ![0, 0] := (by decide +kernel : ∀ t : Fin grid0.N, _)
theorem at4 : ∀ t : Fin cfg0.N, win0_4.index t = ![0, min t.val 255, 0] := (by decide +kernel : ∀ t : Fin grid0.N, _)
theorem at5 : ∀ t : Fin cfg0.N, win0_5.index t = ![min t.val 255, 0] := (by decide +kernel : ∀ t : Fin grid0.N, _)
theorem at6 : ∀ t : Fin cfg0.N, win0_6.index t = ![0, min t.val 255, 0] := (by decide +kernel : ∀ t : Fin grid0.N, _)
theorem at7 : ∀ t : Fin cfg0.N, win0_7.index t = ![if t.val < 16 then 16 else t.val / 16 - 1, t.val % 16] :=
  (by decide +kernel : ∀ t : Fin grid0.N, _)
theorem at8 : ∀ t : Fin cfg0.N, win0_8.index t = ![if t.val < 16 then 16 else t.val / 16 - 1, 0] :=
  (by decide +kernel : ∀ t : Fin grid0.N, _)
theorem at9 : ∀ t : Fin cfg0.N, win0_9.index t = ![min t.val 255, 0] := (by decide +kernel : ∀ t : Fin grid0.N, _)
theorem at10 : ∀ t : Fin cfg0.N, win0_10.index t = ![min t.val 255, 0] := (by decide +kernel : ∀ t : Fin grid0.N, _)

/-- Point `p` reads rows `64 p` … of the input; -/
theorem blk0 (c : Dev nD) (p : Fin cfg0.N) (hp : p.val < 256) (y : S64x4096.Idx) :
    iblk m c 0 p y = xrow (argX m c) (64 * p.val + (y 0).val) (by have h : (y 0).val < 64 := (y 0).isLt; omega) (y 1) := by
  have h : (y 0).val < 64 := (y 0).isLt
  show V m c main_v0 (((cfg0.win 0).blk p).view.emb y) = _
  rw [V_x]
  have e0 : ((((cfg0.win 0).blk p).view.emb y) 0 : ℕ) = 64 * p.val + (y 0).val := by
    blk_simp [at0]; omega
  have e1 : (((cfg0.win 0).blk p).view.emb y) 1 = y 1 := Fin.ext (by blk_simp [at0])
  unfold xrow
  exact congrArg (argX m c) (funext fun a => Fin.ext (by
    match a with
    | ⟨0, _⟩ => exact congrArg (· / 4096) e0
    | ⟨1, _⟩ => exact congrArg (· % 4096) e0
    | ⟨2, _⟩ => exact congrArg Fin.val e1))
/-- the gain; -/
theorem blk1 (c : Dev nD) (p : Fin cfg0.N) (y : S1x4096.Idx) : iblk m c 1 p y = gain (argG m c) (y 1) := by
  show V m c main_v8 (((cfg0.win 1).blk p).view.emb y) = _
  rw [V_g]
  exact congrArg (gain (argG m c)) (Fin.ext (by blk_simp [at1]))
/-- the 768 rows of the transposed weight that the point's column takes; -/
theorem blk2 (c : Dev nD) (p : Fin cfg0.N) (y : S768x4096.Idx) :
    iblk m c 2 p y = wcol (argW m c) (place (768 * (p.val % 16) + (y 0).val))
      (place_lt (by have h : (y 0).val < 768 := (y 0).isLt; omega)) (y 1) := by
  have h : (y 0).val < 768 := (y 0).isLt
  show V m c main_v3 (((cfg0.win 2).blk p).view.emb y) = _
  rw [V_w]
  have e0 : ((((cfg0.win 2).blk p).view.emb y) 0 : ℕ) = place (768 * (p.val % 16) + (y 0).val) := by
    refine (Pipeline.Window.rect_emb_val_off win0_2 p y 0).trans ?_
    show win0_2.index p 0 + (y 0).val = _
    rw [at2]; unfold place
    have hj := Nat.mod_lt p.val (show 0 < 16 by decide)
    generalize p.val % 16 = j at hj ⊢
    show (if _ then _ else _) + _ = _
    by_cases hc : 768 * j < 6144
    · rw [if_pos hc, if_pos (by omega)]
    · rw [if_neg hc, if_neg (by omega)]; omega
  have e1 : ((((cfg0.win 2).blk p).view.emb y) 1 : ℕ) = (y 1).val := by
    refine (Pipeline.Window.rect_emb_val_off win0_2 p y 1).trans ?_
    show win0_2.index p 1 + (y 1).val = _
    rw [at2]; exact Nat.zero_add _
  unfold wcol
  exact congrArg (argW m c) (funext fun a => Fin.ext (by
    match a with
    | ⟨0, _⟩ => rfl
    | ⟨1, _⟩ => exact e1
    | ⟨2, _⟩ => exact e0))
/-- the gate's columns; -/
theorem blk3 (c : Dev nD) (p : Fin cfg0.N) (y : S128x4096.Idx) :
    iblk m c 3 p y = if h : (y 0).val < 16 then wcol (argW m c) (6144 + (y 0).val) (by omega) (y 1) else 0 := by
  have e : ((cfg0.win 3).blk p).view.emb y = y := funext fun a => Fin.ext (by
    match a with
    | ⟨0, _⟩ => blk_simp [at3]
    | ⟨1, _⟩ => blk_simp [at3])
  show V m c main_v5 (((cfg0.win 3).blk p).view.emb y) = _
  rw [e]; exact V_f m c y
/-- sixteen rows of the first of the two weights and their gain; -/
theorem blk4 (c : Dev nD) (p : Fin cfg0.N) (y : S1x16x16384.Idx) :
    iblk m c 4 p y = argU m c (ValueIdx.ix3 (n0 := 1) (n1 := 4096) (n2 := 16384) 0
      ⟨16 * min p.val 255 + (y 1).val, by have h : (y 1).val < 16 := (y 1).isLt; omega⟩ (y 2)) := by
  have h0 : (y 0).val < 1 := (y 0).isLt
  show V m c main_arg4 (((cfg0.win 4).blk p).view.emb y) = _
  rw [V_main_arg4]
  refine congrArg (argU m c) (funext fun a => Fin.ext ?_)
  match a with
  | ⟨0, _⟩ => exact Nat.lt_one_iff.mp ((((cfg0.win 4).blk p).view.emb y) 0).isLt
  | ⟨1, _⟩ =>
    show ((((cfg0.win 4).blk p).view.emb y) 1 : ℕ) = 16 * min p.val 255 + (y 1).val
    blk_simp [at4]; omega
  | ⟨2, _⟩ =>
    show ((((cfg0.win 4).blk p).view.emb y) 2 : ℕ) = (y 2).val
    blk_simp [at4]
theorem blk5 (c : Dev nD) (p : Fin cfg0.N) (y : S16x1.Idx) :
    iblk m c 5 p y = argH m c (ValueIdx.ix2 (n0 := 1) (n1 := 4096) 0
      ⟨16 * min p.val 255 + (y 0).val, by have h : (y 0).val < 16 := (y 0).isLt; omega⟩) := by
  show V m c main_v9 (((cfg0.win 5).blk p).view.emb y) = _
  rw [V_h]
  refine congrArg (argH m c) (funext fun a => Fin.ext ?_)
  match a with
  | ⟨0, _⟩ => rfl
  | ⟨1, _⟩ =>
    show ((((cfg0.win 5).blk p).view.emb y) 0 : ℕ) = 16 * min p.val 255 + (y 0).val
    blk_simp [at5]; omega
/-- and 64 rows of the second. -/
theorem blk6 (c : Dev nD) (p : Fin cfg0.N) (y : S1x64x4096.Idx) :
    iblk m c 6 p y = argD m c (ValueIdx.ix3 (n0 := 1) (n1 := 16384) (n2 := 4096) 0
      ⟨64 * min p.val 255 + (y 1).val, by have h : (y 1).val < 64 := (y 1).isLt; omega⟩ (y 2)) := by
  have h0 : (y 0).val < 1 := (y 0).isLt
  show V m c main_arg5 (((cfg0.win 6).blk p).view.emb y) = _
  rw [V_main_arg5]
  refine congrArg (argD m c) (funext fun a => Fin.ext ?_)
  match a with
  | ⟨0, _⟩ => exact Nat.lt_one_iff.mp ((((cfg0.win 6).blk p).view.emb y) 0).isLt
  | ⟨1, _⟩ =>
    show ((((cfg0.win 6).blk p).view.emb y) 1 : ℕ) = 64 * min p.val 255 + (y 1).val
    blk_simp [at6]; omega
  | ⟨2, _⟩ =>
    show ((((cfg0.win 6).blk p).view.emb y) 2 : ℕ) = (y 2).val
    blk_simp [at6]

end Cert.KernelIdeal.InProj

end
-- ==== Proof.InProj.Frames.lean ====
/-
  The frame of the kernel, printed and idealized: one run, at the two instances.
-/
module

public import proofs.«01_k».proof.Defs
public import proofs.«01_k».proof.Proof.Gen.Kernel
public import proofs.«01_k».proof.Proof.InProj.Body

@[expose] public section

set_option maxRecDepth 16384

noncomputable section

namespace Cert.KernelIdeal.InProj

open Cert.KernelIdeal Cert.KernelIdeal.Gen
open Idealize.ShloMosaic Idealize.ShloMosaic.TcCoe Idealize.SL Idealize.SL.Sem

variable {F : FTy → Type} [FloatOps F]

variable {m : (ℓ : Loc nD τ sig) → Buf (Elt F) ℓ}

/-- After the run the arguments hold what they held at launch. -/
theorem args_kept {r : PUnit × MemSt nD τ sig (Elt F)} (h : Pipeline.FramePost cfgs (dats m) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) := by
  have rest (b : Ref sig .tc) (h1) (h2) : r.2.mem ((c : Thread nD τ).loc b) = V m c b :=
    (h c).2 b (Pipeline.mem_restRefs_of b h1 h2)
  refine ⟨(rest main_arg0 (by decide) (by decide)).trans (V_main_arg0 m c),
    (rest main_arg1 (by decide) (by decide)).trans (V_main_arg1 m c),
    (rest main_arg2 (by decide) (by decide)).trans (V_main_arg2 m c),
    (rest main_arg3 (by decide) (by decide)).trans (V_main_arg3 m c), ?_, ?_⟩
  · exact ((h c).1 4).trans (((dats m 0 c).arrAt_in 4 rfl _).trans ((A_eq m c 4).trans (V_main_arg4 m c)))
  · exact ((h c).1 6).trans (((dats m 0 c).arrAt_in 6 rfl _).trans ((A_eq m c 6).trans (V_main_arg5 m c)))

/-- The frame, at any instance of the float operations. -/
theorem frame_any (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => args_kept h.1 c, h.2⟩) (run_main m ρ)

end Cert.KernelIdeal.InProj

namespace Cert.Proof

open Idealize.ShloMosaic Idealize.SL.Sem

/-- The two programs' body tables are one: the printed text is the same. -/
theorem bodies_eq : @Cert.Kernel.defs₀ Bits _ Cert.Kernel.Gen.facts = @Cert.KernelIdeal.defs₀ Bits _ Cert.KernelIdeal.Gen.facts := by
  unfold Cert.Kernel.defs₀ Cert.KernelIdeal.defs₀
  refine congrArg Defs.onTc ?_
  funext l a
  match l, a with
  | 0, (t, s) => rfl
  | ⟨_ + 1, h⟩, _ => exact absurd h (Nat.not_lt.2 (Nat.le_add_left _ _))
theorem tables_eq : @Cert.Kernel.defs Bits _ Cert.Kernel.Gen.facts = @Cert.KernelIdeal.defs Bits _ Cert.KernelIdeal.Gen.facts := by
  unfold Cert.Kernel.defs Cert.KernelIdeal.defs
  exact congrArg (Pipeline.defs _) bodies_eq

theorem frame_kernel : Cert.quiescent_Kernel (hKernel := Cert.Kernel.Gen.facts) := fun m ρ _ => by
  rw [tables_eq]
  exact Cert.KernelIdeal.InProj.frame_any (F := Bits) m ρ

theorem frame_kernelIdeal : Cert.quiescent_KernelIdeal (hKernelIdeal := Cert.KernelIdeal.Gen.facts) := fun m ρ _ =>
  Cert.KernelIdeal.InProj.frame_any (F := Ideal) m ρ

end Cert.Proof

end
-- ==== Proof.InProj.Arrays.lean ====
/-
  The four result arrays of the kernel at the end of its run, as functions of the arguments.
-/
module

public import proofs.«01_k».proof.Proof.InProj.Entry
public import proofs.«01_k».proof.Proof.InProj.Frames

@[expose] public section

set_option maxRecDepth 16384

noncomputable section

namespace Cert.KernelIdeal.InProj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

open Cert.InProjTarget

variable (m : (ℓ : Loc nD τ sig) → Buf (Elt Ideal) ℓ)

theorem xrow_congr {x : (⟨3, ![4, 4096, 4096]⟩ : Shape).Idx → EReal} {r s : ℕ} (h : r = s) (hr : r < 16384) (hs : s < 16384) :
    xrow x r hr = xrow x s hs := by subst h; rfl
theorem wcol_congr {w : (⟨3, ![1, 4096, 12304]⟩ : Shape).Idx → EReal} {r s : ℕ} (h : r = s) (hr : r < 12304) (hs : s < 12304) :
    wcol w r hr = wcol w s hs := by subst h; rfl

/-- The point that reads row `r` of tile `T`. -/
theorem point_of {T r : ℕ} (hT : T < 16) (hr : r < 1024) : (pt (16 * T + r / 64)).val = 16 * T + r / 64 := by
  show (16 * T + r / 64) % 272 = 16 * T + r / 64; omega

/-- The row a point reads, by its place in the tile. -/
theorem tile_row {T r : ℕ} (c : Dev nD) (hT : T < 16) (hr : r < 1024) (y : S64x4096.Idx) (hy : (y 0).val = r % 64) :
    iblk m c 0 (pt (16 * T + r / 64)) y = xrow (argX m c) (1024 * T + r) (by omega) (y 1) := by
  have hp := point_of hT hr
  refine (blk0 m c _ (by rw [hp]; omega) y).trans ?_
  exact congrFun (xrow_congr (by rw [hp, hy]; omega) _ _) _

/-- A row tile holds the normalised rows. -/
theorem tileRows_apply (c : Dev nD) {T : ℕ} (hT : T < 16) (y : S1024x4096.Idx) :
    tileRows m c T y = normed (xrow (argX m c) (1024 * T + (y 0).val) (by have h : (y 0).val < 1024 := (y 0).isLt; omega))
      (gain (argG m c)) (y 1) := by
  have h : (y 0).val < 1024 := (y 0).isLt
  unfold tileRows rowsAt
  refine (pay12_apply _ _ _).trans ?_
  refine congrArg₂ (fun X G => normed X G (y 1)) (funext fun k => ?_) (funext fun k => ?_)
  · exact tile_row m c hT h _ rfl
  · exact blk1 m c _ _

/-- And its gate, the rows times the gate's columns. -/
theorem tileGate_apply (c : Dev nD) {T : ℕ} (hT : T < 16) (y : S1024x128.Idx) :
    tileGate m c T y = if h : (y 1).val < 16 then
      entry (argX m c) (argG m c) (argW m c) (1024 * T + (y 0).val) (by have h : (y 0).val < 1024 := (y 0).isLt; omega)
        (6144 + (y 1).val) (by omega) else 0 := by
  have h : (y 0).val < 1024 := (y 0).isLt
  unfold tileGate gateAt
  refine (pay13_apply _ _ _ _).trans ?_
  have e : ∀ k : Fin 4096, iblk m c 3 (pt (16 * T + (y 0).val / 64)) (ValueIdx.ix2 (n0 := 128) (n1 := 4096) (y 1) k)
      = if h : (y 1).val < 16 then wcol (argW m c) (6144 + (y 1).val) (by omega) k else 0 := fun k => blk3 m c _ _
  have ex : (fun k => iblk m c 0 (pt (16 * T + (y 0).val / 64)) (ValueIdx.ix2 (n0 := 64) (n1 := 4096) ⟨(y 0).val % 64, Nat.mod_lt _ (by norm_num)⟩ k))
      = xrow (argX m c) (1024 * T + (y 0).val) (by omega) := funext fun k => tile_row m c hT h _ rfl
  have eg : (fun k => iblk m c 1 (pt (16 * T + (y 0).val / 64)) (ValueIdx.ix2 (n0 := 1) (n1 := 4096) 0 k)) = gain (argG m c) :=
    funext fun k => blk1 m c _ _
  by_cases hl : (y 1).val < 16
  · rw [dif_pos hl]
    unfold entry proj
    refine Finset.sum_congr rfl fun k _ => ?_
    refine congrArg₂ (· * ·) (congrArg₂ (fun X G => normed X G k) ex eg) ?_
    exact (e k).trans (dif_pos hl)
  · rw [dif_neg hl]
    refine Finset.sum_eq_zero fun k _ => ?_
    have z : iblk m c 3 (pt (16 * T + (y 0).val / 64)) (ValueIdx.ix2 (n0 := 128) (n1 := 4096) (y 1) k) = (0 : EReal) := (e k).trans (dif_neg hl)
    exact (congrArg (_ * ·) z).trans (mul_zero _)

/-! ### What a point leaves, at the place its block gives it -/

theorem out7_apply (c : Dev nD) (t : Fin cfg0.N) (y : S1024x768.Idx) (i : S17408x12288.Idx)
    (h0 : (i 0).val = (if t.val < 16 then 16 else t.val / 16 - 1) * 1024 + (y 0).val) (h1 : (i 1).val = t.val % 16 * 768 + (y 1).val) :
    out7 m c t y = rows (argX m c) (argG m c) (argW m c) i := by
  have b0 : (y 0).val < 1024 := (y 0).isLt
  have b1 : (y 1).val < 768 := (y 1).isLt
  have bt := lt_points t
  unfold out7 rows
  by_cases ht : t.val < 16
  · rw [if_pos ht] at h0 ⊢
    rw [dif_neg (by omega)]
    exact pay9_apply y
  · rw [if_neg ht] at h0 ⊢
    rw [dif_pos (by omega : (i 0).val < 16384)]
    refine (pay14_apply _ _ y).trans ?_
    unfold entry proj
    refine Finset.sum_congr rfl fun k _ => congrArg₂ (· * ·) ?_ ?_
    · refine (tileRows_apply m c (T := t.val / 16 - 1) (by omega) _).trans ?_
      refine congrArg (fun X => normed X (gain (argG m c)) k) (xrow_congr ?_ _ _)
      show 1024 * (t.val / 16 - 1) + (y 0).val = (i 0).val; omega
    · refine (blk2 m c t _).trans ?_
      refine congrFun (wcol_congr (congrArg place ?_) _ _) k
      show 768 * (t.val % 16) + (y 1).val = (i 1).val; omega

theorem out8_apply (c : Dev nD) (t : Fin cfg0.N) (y : S1024x128.Idx) (i : S17408x128.Idx)
    (h0 : (i 0).val = (if t.val < 16 then 16 else t.val / 16 - 1) * 1024 + (y 0).val) (h1 : (i 1).val = (y 1).val) :
    out8 m c t y = logits (argX m c) (argG m c) (argW m c) i := by
  have b0 : (y 0).val < 1024 := (y 0).isLt
  have bt := lt_points t
  unfold out8 logits
  by_cases ht : t.val < 16
  · rw [if_pos ht] at h0 ⊢
    rw [dif_neg (by omega)]
    exact pay10_apply y
  · rw [if_neg ht] at h0 ⊢
    refine (tileGate_apply m c (T := t.val / 16 - 1) (by omega) y).trans ?_
    by_cases hl : (y 1).val < 16
    · rw [dif_pos hl, dif_pos (by omega : (i 0).val < 16384 ∧ (i 1).val < 16)]
      unfold entry
      exact congrArg₂ (fun X W => proj X (gain (argG m c)) W) (xrow_congr (by omega) _ _) (wcol_congr (by omega) _ _)
    · rw [dif_neg hl, dif_neg (by omega)]

theorem out9_apply (c : Dev nD) (t : Fin cfg0.N) (y : S16x16384.Idx) (i : S4096x16384.Idx)
    (h0 : (i 0).val = min t.val 255 * 16 + (y 0).val) (h1 : (i 1).val = (y 1).val) :
    out9 m c t y = upWeight (argH m c) (argU m c) i := by
  unfold out9 upWeight
  refine (pay1_apply _ _ y).trans ?_
  have e1 : y 1 = i 1 := Fin.ext h1.symm
  refine congrArg₂ (· * ·) ((blk5 m c t _).trans (congrArg (fun r => argH m c (ValueIdx.ix2 (n0 := 1) (n1 := 4096) 0 r)) (Fin.ext ?_)))
    ((blk4 m c t _).trans (congrArg₂ (fun r k => argU m c (ValueIdx.ix3 (n0 := 1) (n1 := 4096) (n2 := 16384) 0 r k)) (Fin.ext ?_) e1))
  · show 16 * min t.val 255 + (y 0).val = (i 0).val; omega
  · show 16 * min t.val 255 + (y 0).val = (i 0).val; omega

theorem out10_apply (c : Dev nD) (t : Fin cfg0.N) (y : S64x4096.Idx) (i : S16384x4096.Idx)
    (h0 : (i 0).val = min t.val 255 * 64 + (y 0).val) (h1 : (i 1).val = (y 1).val) :
    out10 m c t y = downWeight (argD m c) i := by
  unfold out10 downWeight
  refine (pay2_apply _ y).trans ?_
  have e1 : y 1 = i 1 := Fin.ext h1.symm
  refine (blk6 m c t _).trans (congrArg₂ (fun r k => argD m c (ValueIdx.ix3 (n0 := 1) (n1 := 16384) (n2 := 4096) 0 r k)) (Fin.ext ?_) e1)
  show 64 * min t.val 255 + (y 0).val = (i 0).val; omega

/-! ### The arrays at the end -/

theorem arr7 (c : Dev nD) : (dats m 0 c).arrAt 7 cfg0.N = rows (argX m c) (argG m c) (argW m c) := by
  refine (dats m 0 c).arrAt_eq_of_covers 7 _ (by decide +kernel) fun t _ y => ?_
  blk_simp; rw [after_7]
  exact out7_apply m c t y _ (by blk_simp [at7]) (by blk_simp [at7])
theorem arr8 (c : Dev nD) : (dats m 0 c).arrAt 8 cfg0.N = logits (argX m c) (argG m c) (argW m c) := by
  refine (dats m 0 c).arrAt_eq_of_covers 8 _ (by decide +kernel) fun t _ y => ?_
  blk_simp; rw [after_8]
  exact out8_apply m c t y _ (by blk_simp [at8]) (by blk_simp [at8])
theorem arr9 (c : Dev nD) : (dats m 0 c).arrAt 9 cfg0.N = upWeight (argH m c) (argU m c) := by
  refine (dats m 0 c).arrAt_eq_of_covers 9 _ (by decide +kernel) fun t _ y => ?_
  blk_simp; rw [after_9]
  exact out9_apply m c t y _ (by blk_simp [at9]) (by blk_simp [at9])
theorem arr10 (c : Dev nD) : (dats m 0 c).arrAt 10 cfg0.N = downWeight (argD m c) := by
  refine (dats m 0 c).arrAt_eq_of_covers 10 _ (by decide +kernel) fun t _ y => ?_
  blk_simp; rw [after_10]
  exact out10_apply m c t y _ (by blk_simp [at10]) (by blk_simp [at10])

end Cert.KernelIdeal.InProj

end
-- ==== Proof.InProj.ReferenceValue.lean ====
/-
  The reference's four results are the sums of `Target`.
-/
module

public import proofs.«01_k».proof.Proof.Gen.ReferenceIdeal.Run
public import proofs.«01_k».proof.Proof.Gen.ReferenceIdeal.Read
public import proofs.«01_k».proof.Proof.InProj.Target

@[expose] public section

set_option maxRecDepth 16384

noncomputable section

namespace Cert.ReferenceIdeal.InProj

open Cert.ReferenceIdeal Cert.ReferenceIdeal.Gen Cert.ReferenceIdeal.Read Cert.InProjTarget
open Idealize.ShloMosaic Idealize.ShloMosaic.TcCoe Idealize.SL.Sem Idealize.ShloMosaic.StableHlo Idealize.ShloMosaic.ValueIdx

variable (x : (⟨S4x4096x4096, .f32⟩ : BufTy).Contents (Elt Ideal)) (g : (⟨S1x4096, .f32⟩ : BufTy).Contents (Elt Ideal))
  (w : (⟨S1x4096x12304, .f32⟩ : BufTy).Contents (Elt Ideal))

/-- The normalised rows. -/
theorem norm_at (i : S4x4096x4096.Idx) (r : ℕ) (hr : r < 16384) (h0 : (i 0).val = r / 4096) (h1 : (i 1).val = r % 4096) :
    val_main_v13 (F := Ideal) x g i = normed (xrow x r hr) (gain g) (i 2) := by
  have hx : ∀ k : Fin 4096, x (idx_main_v2 (idx_main_v3 (idx_main_v9 i)) k) = xrow x r hr k := fun k =>
    congrArg x (funext fun a => Fin.ext (by match a with | ⟨0, _⟩ => exact h0 | ⟨1, _⟩ => exact h1 | ⟨2, _⟩ => rfl))
  have hi : x i = xrow x r hr (i 2) :=
    congrArg x (funext fun a => Fin.ext (by match a with | ⟨0, _⟩ => exact h0 | ⟨1, _⟩ => exact h1 | ⟨2, _⟩ => rfl))
  have hg : g (idx_main_v0 (idx_main_v11 (idx_main_v12 i))) = gain g (i 2) :=
    congrArg g (funext fun a => Fin.ext (by
      have h2 : (i 2).val < 4096 := (i 2).isLt
      match a with | ⟨0, _⟩ => rfl | ⟨1, _⟩ => exact Nat.mod_eq_of_lt h2))
  rw [val_main_v13_apply, val_main_v10_apply, val_main_v12_apply, val_main_v11_apply, val_main_v0_apply, val_main_v9_apply,
    val_main_v8_apply, val_main_v7_apply, val_main_v5_apply, val_main_v3_apply, val_main_v2_apply, val_main_v4_apply,
    val_main_v6_apply, val_main_cst_apply, val_main_cst_0_apply, val_main_cst_1_apply, hg, hi]
  simp only [val_main_v1_apply, hx]
  refine congrArg (fun s : EReal => xrow x r hr (i 2) * Ideal.rsqrt (Ideal.div s (Ideal.ofBits .f32 0x45800000#32)
    + Ideal.ofBits .f32 0x358637BD#32) * gain g (i 2)) ?_
  exact (congrArg (fun z : EReal => z + _) Ideal.ofBits_zero_f32).trans (zero_add _)

/-- The product's entries. -/
theorem dot_at (i : S4x4096x12304.Idx) (r : ℕ) (hr : r < 16384) (n : ℕ) (hn : n < 12304) (h0 : (i 0).val = r / 4096)
    (h1 : (i 1).val = r % 4096) (h2 : (i 2).val = n) : val_main_v15 (F := Ideal) x g w i = entry x g w r hr n hn := by
  rw [val_main_v15_apply]
  unfold entry proj
  refine Finset.sum_congr rfl fun k _ => ?_
  rw [norm_at x g _ r hr h0 h1, val_main_v14_apply]
  refine congrArg (_ * ·) (congrArg w (funext fun a => Fin.ext ?_))
  have hk := k.isLt
  match a with
  | ⟨0, _⟩ => rfl
  | ⟨1, _⟩ => show (k.val * 12304 + (i 2).val) / 12304 % 4096 = k.val; omega
  | ⟨2, _⟩ => show (k.val * 12304 + (i 2).val) % 12304 = n; omega

/-- The six heads' columns of the product, the gate's left out. -/
def heads : List ((s : Shape) × (s.Idx → EReal)) :=
  [⟨S4x4096x2048, val_main_v16 (F := Ideal) x g w⟩, ⟨S4x4096x2048, val_main_v17 (F := Ideal) x g w⟩,
    ⟨S4x4096x2048, val_main_v18 (F := Ideal) x g w⟩, ⟨S4x4096x2048, val_main_v20 (F := Ideal) x g w⟩,
    ⟨S4x4096x2048, val_main_v21 (F := Ideal) x g w⟩, ⟨S4x4096x2048, val_main_v22 (F := Ideal) x g w⟩]

/-- The six heads side by side: column `n` of the joined array is the weight's column `place n`. -/
theorem joined_at (i : S4x4096x12288.Idx) (r : ℕ) (hr : r < 16384) (h0 : (i 0).val = r / 4096) (h1 : (i 1).val = r % 4096) :
    val_main_v23 (F := Ideal) x g w i = entry x g w r hr (place (i 2).val) (place_lt (i 2).isLt) := by
  have h2 : (i 2).val < 12288 := (i 2).isLt
  have piece : ∀ (k : ℕ) (hk : k < (heads x g w).length) (s : S4x4096x2048.Idx → EReal) (hs : (heads x g w)[k] = ⟨S4x4096x2048, s⟩) (pre : ℕ)
      (hpre : ((((heads x g w).take k).map (·.1)).map fun s => if h : s.rank = S4x4096x12288.rank then s.size ((2 : Fin S4x4096x12288.rank).cast h.symm) else 0).sum = pre)
      (hl : pre ≤ (i 2).val) (hu : (i 2).val < pre + 2048),
      val_main_v23 (F := Ideal) x g w i = s (ix3 (i 0) (i 1) ⟨(i 2).val - pre, by omega⟩) := by
    intro k hk s hs pre hpre hl hu
    refine (concatenate_apply_piece (t := S4x4096x12288) 2 (heads x g w) _ i k hk S4x4096x2048 s hs rfl pre hpre
      (ix3 (i 0) (i 1) ⟨(i 2).val - pre, by omega⟩) (fun b hb => ?_) ?_)
    · match b, hb with
      | ⟨0, _⟩, _ => rfl
      | ⟨1, _⟩, _ => rfl
      | ⟨2, _⟩, hb => exact absurd rfl hb
    · show pre + ((i 2).val - pre) = (i 2).val; omega
  by_cases c1 : (i 2).val < 2048
  · rw [piece 0 (by simp [heads]) _ rfl 0 (by simp [heads]) (by omega) (by omega), val_main_v16_apply]
    exact dot_at x g w _ r hr _ _ h0 h1 (by unfold place; rw [if_pos (by omega)]; show (i 2).val - 2048 * 0 = _; omega)
  by_cases c2 : (i 2).val < 4096
  · rw [piece 1 (by simp [heads]) _ rfl 2048 (by simp [heads]) (by omega) (by omega), val_main_v17_apply]
    exact dot_at x g w _ r hr _ _ h0 h1 (by unfold place; rw [if_pos (by omega)]; show 2048 + ((i 2).val - 2048) = _; omega)
  by_cases c3 : (i 2).val < 6144
  · rw [piece 2 (by simp [heads]) _ rfl 4096 (by simp [heads]) (by omega) (by omega), val_main_v18_apply]
    exact dot_at x g w _ r hr _ _ h0 h1 (by unfold place; rw [if_pos (by omega)]; show 4096 + ((i 2).val - 4096) = _; omega)
  by_cases c4 : (i 2).val < 8192
  · rw [piece 3 (by simp [heads]) _ rfl 6144 (by simp [heads]) (by omega) (by omega), val_main_v20_apply]
    exact dot_at x g w _ r hr _ _ h0 h1 (by unfold place; rw [if_neg (by omega)]; show 6160 + ((i 2).val - 6144) = _; omega)
  by_cases c5 : (i 2).val < 10240
  · rw [piece 4 (by simp [heads]) _ rfl 8192 (by simp [heads]) (by omega) (by omega), val_main_v21_apply]
    exact dot_at x g w _ r hr _ _ h0 h1 (by unfold place; rw [if_neg (by omega)]; show 8208 + ((i 2).val - 8192) = _; omega)
  · rw [piece 5 (by simp [heads]) _ rfl 10240 (by simp [heads]) (by omega) (by omega), val_main_v22_apply]
    exact dot_at x g w _ r hr _ _ h0 h1 (by unfold place; rw [if_neg (by omega)]; show 10256 + ((i 2).val - 10240) = _; omega)

/-- The host's zero the results are padded with. -/
theorem zero_pad : FloatOps.sitofp (F := Ideal) .f32 (0#32) = (0 : EReal) := by
  show (((0#32 : BitVec 32).toInt : ℝ) : EReal) = 0
  simp

/-- No shift and no stride. -/
theorem unshift {n b : ℕ} (h : (n - 0) / 1 < b) : n < b := by omega

/-- Result 0: the projected rows. -/
theorem rows_eq : val_main_v28 (F := Ideal) x g w = rows x g w := by
  funext y
  have hy : (y 1).val < 12288 := (y 1).isLt
  show val_main_v25 (F := Ideal) x g w y = _
  unfold val_main_v25 pad rows
  by_cases h : (y 0).val < 16384
  · rw [dif_pos (fun a => by
        match a with
        | ⟨0, _⟩ => exact ⟨Nat.zero_le _, Nat.mod_one _, by show ((y 0).val - 0) / 1 < 16384; omega⟩
        | ⟨1, _⟩ => exact ⟨Nat.zero_le _, Nat.mod_one _, by show ((y 1).val - 0) / 1 < 12288; omega⟩), dif_pos h, val_main_v24_apply]
    rw [joined_at x g w _ (y 0).val h
      (by show (((y 0).val - 0) / 1 * 12288 + ((y 1).val - 0) / 1) / 50331648 = _; omega)
      (by show (((y 0).val - 0) / 1 * 12288 + ((y 1).val - 0) / 1) / 12288 % 4096 = _; omega)]
    congr 2
    show (((y 0).val - 0) / 1 * 12288 + ((y 1).val - 0) / 1) % 12288 = _; omega
  · rw [dif_neg (fun hin => h (unshift (hin 0).2.2)), dif_neg h]
    exact zero_pad

/-- Result 1: the gate's logits. -/
theorem logits_eq : val_main_v27 (F := Ideal) x g w = logits x g w := by
  funext y
  unfold val_main_v27 pad logits
  by_cases h : (y 0).val < 16384 ∧ (y 1).val < 16
  · obtain ⟨ha, hb⟩ := h
    rw [dif_pos (fun a => by
        match a with
        | ⟨0, _⟩ => exact ⟨Nat.zero_le _, Nat.mod_one _, by show ((y 0).val - 0) / 1 < 16384; omega⟩
        | ⟨1, _⟩ => exact ⟨Nat.zero_le _, Nat.mod_one _, by show ((y 1).val - 0) / 1 < 16; omega⟩), dif_pos ⟨ha, hb⟩, val_main_v26_apply,
      val_main_v19_apply]
    exact dot_at x g w _ (y 0).val ha _ _
      (by show (((y 0).val - 0) / 1 * 16 + ((y 1).val - 0) / 1) / 65536 = _; omega)
      (by show (((y 0).val - 0) / 1 * 16 + ((y 1).val - 0) / 1) / 16 % 4096 = _; omega)
      (by show 6144 + (((y 0).val - 0) / 1 * 16 + ((y 1).val - 0) / 1) % 16 = _; omega)
  · rw [dif_neg (fun hin => h ⟨unshift (hin 0).2.2,
      unshift (hin 1).2.2⟩), dif_neg h]
    exact zero_pad

/-- Results 2 and 3: the two weights. -/
theorem up_eq (g' : (⟨S1x4096, .f32⟩ : BufTy).Contents (Elt Ideal)) (u : (⟨S1x4096x16384, .f32⟩ : BufTy).Contents (Elt Ideal)) :
    val_main_v34 (F := Ideal) g' u = upWeight g' u := by
  funext y
  have h0 : (y 0).val < 4096 := (y 0).isLt
  have h1 : (y 1).val < 16384 := (y 1).isLt
  rw [val_main_v34_apply, val_main_v33_apply, val_main_v32_apply, val_main_v30_apply, val_main_v29_apply, val_main_v31_apply]
  refine congrArg₂ (fun a b : EReal => a * b) (congrArg g' (funext fun a => Fin.ext ?_)) (congrArg u (funext fun a => Fin.ext ?_))
  · match a with
    | ⟨0, _⟩ => rfl
    | ⟨1, _⟩ => exact Nat.mod_eq_of_lt h0
  · match a with
    | ⟨0, _⟩ => rfl
    | ⟨1, _⟩ => show ((y 0).val * 16384 + (y 1).val) / 16384 % 4096 = (y 0).val; omega
    | ⟨2, _⟩ => show ((y 0).val * 16384 + (y 1).val) % 16384 = (y 1).val; omega
theorem down_eq (d : (⟨S1x16384x4096, .f32⟩ : BufTy).Contents (Elt Ideal)) : val_main_v36 (F := Ideal) d = downWeight d := by
  funext y
  have h0 : (y 0).val < 16384 := (y 0).isLt
  have h1 : (y 1).val < 4096 := (y 1).isLt
  rw [val_main_v36_apply, val_main_v35_apply]
  refine congrArg d (funext fun a => Fin.ext ?_)
  match a with
  | ⟨0, _⟩ => rfl
  | ⟨1, _⟩ => show ((y 0).val * 4096 + (y 1).val) / 4096 % 16384 = (y 0).val; omega
  | ⟨2, _⟩ => show ((y 0).val * 4096 + (y 1).val) % 4096 = (y 1).val; omega

end Cert.ReferenceIdeal.InProj

end
-- ==== Proof.InProj.Algebraic.lean ====
/-
  The kernel and the reference end with the same four arrays, over the extended reals: both are the arrays of `Target`.
-/
module

public import proofs.«01_k».proof.Defs
public import proofs.«01_k».proof.Proof.InProj.Arrays
public import proofs.«01_k».proof.Proof.InProj.ReferenceValue
public import proofs.«01_k».proof.Proof.Gen.ReferenceIdeal.Run
public import proofs.«01_k».proof.Proof.Gen.ReferenceIdeal.Read

@[expose] public section

set_option maxRecDepth 16384

noncomputable section

namespace Cert.Proof

open Idealize.ShloMosaic Idealize.SL.Sem Cert.InProjTarget
open Cert.KernelIdeal.InProj (dats argX argG argW argH argU argD arr7 arr8 arr9 arr10 args_kept run_main)

variable (m : (ℓ : Loc Cert.KernelIdeal.nD Cert.KernelIdeal.τ Cert.KernelIdeal.sig) → Buf (Elt Ideal) ℓ)

/-- The kernel's results after a run. -/
theorem results_kept {r} (h : Pipeline.FramePost Cert.KernelIdeal.cfgs (dats m) 0 (Cert.KernelIdeal.Gen.V m) r) (c : Dev Cert.KernelIdeal.nD) :
    r.2.mem ((c.tc : Thread Cert.KernelIdeal.nD Cert.KernelIdeal.τ).loc Cert.KernelIdeal.main_v10_0) = rows (argX m c) (argG m c) (argW m c)
    ∧ r.2.mem ((c.tc : Thread Cert.KernelIdeal.nD Cert.KernelIdeal.τ).loc Cert.KernelIdeal.main_v10_1) = logits (argX m c) (argG m c) (argW m c)
    ∧ r.2.mem ((c.tc : Thread Cert.KernelIdeal.nD Cert.KernelIdeal.τ).loc Cert.KernelIdeal.main_v10_2) = upWeight (argH m c) (argU m c)
    ∧ r.2.mem ((c.tc : Thread Cert.KernelIdeal.nD Cert.KernelIdeal.τ).loc Cert.KernelIdeal.main_v10_3) = downWeight (argD m c) :=
  ⟨((h c).1 7).trans (arr7 m c), ((h c).1 8).trans (arr8 m c), ((h c).1 9).trans (arr9 m c), ((h c).1 10).trans (arr10 m c)⟩

/-- The reference keeps its arguments and ends with every counter at zero. -/
theorem frame_reference : Cert.quiescent_ReferenceIdeal (hReferenceIdeal := Cert.ReferenceIdeal.Gen.facts) := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

theorem algebraic : Cert.algebraic_KernelIdeal_ReferenceIdeal (hKernelIdeal := Cert.KernelIdeal.Gen.facts)
    (hReferenceIdeal := Cert.ReferenceIdeal.Gen.facts) := fun m g m' g' _ same =>
  ⟨fun c => rows (argX m c) (argG m c) (argW m c), fun c => logits (argX m c) (argG m c) (argW m c),
    fun c => upWeight (argH m c) (argU m c), fun c => downWeight (argD m c),
    (θ_run Cert.KernelIdeal.defs _ _).mono (fun _ h c =>
      ⟨(results_kept m h.1 c).1, (results_kept m h.1 c).2.1, (results_kept m h.1 c).2.2.1, (results_kept m h.1 c).2.2.2,
        args_kept h.1 c⟩) (run_main (F := Ideal) m g),
    (θ_run Cert.ReferenceIdeal.defs _ _).mono (fun _ h c => by
      obtain ⟨h28, h27, h34, h36, kept⟩ := h c
      obtain ⟨s0, s1, s2, s3, s4, s5⟩ := same c
      refine ⟨?_, ?_, ?_, ?_, kept⟩
      · refine h28.trans ((Cert.ReferenceIdeal.Read.val_main_v28_eq m' c).trans ?_)
        rw [s0, s1, s2]; exact Cert.ReferenceIdeal.InProj.rows_eq _ _ _
      · refine h27.trans ((Cert.ReferenceIdeal.Read.val_main_v27_eq _ _ _).trans ?_)
        rw [s0, s1, s2]; exact Cert.ReferenceIdeal.InProj.logits_eq _ _ _
      · refine h34.trans ((Cert.ReferenceIdeal.Read.val_main_v34_eq _ _).trans ?_)
        rw [s3, s4]; exact Cert.ReferenceIdeal.InProj.up_eq _ _
      · refine h36.trans ((Cert.ReferenceIdeal.Read.val_main_v36_eq _).trans ?_)
        rw [s5]; exact Cert.ReferenceIdeal.InProj.down_eq _) (Cert.ReferenceIdeal.Value.run (F := Ideal) m' g')⟩

end Cert.Proof

end
-- ==== Proof.Mlp.Run.lean ====
/-
  The second program's run: every execution ends with the result array as the second call's data give it and with the
  arguments as they were.
-/
module

public import proofs.«01_k».proof.Proof.Gen.Kernel2Ideal.Frame

@[expose] public section

set_option maxRecDepth 16384

noncomputable section

namespace Cert.Kernel2Ideal.Mlp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

open Idealize.ShloMosaic.Rounds

variable (m : (ℓ : Loc nD τ sig) → Buf (Elt F) ℓ) (ρ : Dev nD → PrngReg)

/-- The result array after the second call. -/
theorem W4_result (c : Dev nD) : W4 m ρ c (Proc.devRef .tc main_v14) = (dat1 (V3 m ρ) c).arrAt 6 cfg1.N := W4_arr m ρ c 6

/-- The launch's own tokens, one set per pipeline, and nothing for the devices. -/
theorem tokens_at_start :
    (ownU (initOf (Pipeline.cells cfgs cellOf_inj) (Pipeline.launchToks cfgs cellOf_inj)) : sProp 𝕄)
      ⊢ |={Set.univ}=> (BI.own (emb₁ (initOf (Pipeline.cells cfgs cellOf_inj) (Pipeline.launchToks cfgs cellOf_inj)))
        ∗ bigSep Finset.univ (fun _ : Dev nD => (BI.emp : sProp 𝕄))) := by
  rw [BI.bigSep_emp_const]
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iempintro

set_option backward.isDefEq.respectTransparency.types false in
theorem run_main : θ_run defs (onTc (τ := τ) (main (F := F))) ⟨m, fun _ => 0, ρ⟩ (fun r => ∀ c : Dev nD,
      r.2.mem ((c.tc : Thread nD τ).loc main_v14) = (dat1 (V3 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := tokens_at_start)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]
      · iexact Hh
      isplitl [Hp]
      · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      have at_ (b : Ref sig .tc) (hb : _) := h c _ (mem_uc b hb)
      ⟨(at_ main_v14 (by decide)).trans (W4_result m ρ c), (at_ main_arg0 (by decide)).trans (W4_main_arg0 m ρ c),
        (at_ main_arg1 (by decide)).trans (W4_main_arg1 m ρ c), (at_ main_arg2 (by decide)).trans (W4_main_arg2 m ρ c),
        (at_ main_arg3 (by decide)).trans (W4_main_arg3 m ρ c), (at_ main_arg4 (by decide)).trans (W4_main_arg4 m ρ c),
        (at_ main_arg5 (by decide)).trans (W4_main_arg5 m ρ c), (at_ main_arg6 (by decide)).trans (W4_main_arg6 m ρ c)⟩)

end Cert.Kernel2Ideal.Mlp

end
-- ==== Proof.Mlp.Payloads.lean ====
/-
  The two bodies' operations read at an index, over the extended reals: a cast changes nothing, a product is a sum, a
  square is a product.
-/
module

public import proofs.«01_k».proof.Proof.Gen.Kernel2Ideal.Frame
public import proofs.«01_k».proof.Proof.InProj.Target
public import Idealize.ShloMosaic.Lib.Pipeline.ValueKit
public import Idealize.ShloMosaic.Lib.MatmulPlain

@[expose] public section

set_option maxRecDepth 16384

noncomputable section

namespace Cert.Kernel2Ideal.Mlp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

open Cert.InProjTarget (scale normed)

/-- The residual row plus the two halves of the product. -/
theorem resid_apply (a1 : Vec Ideal S1024x2048 .bf16) (w1 : Vec Ideal S2048x512 .bf16) (a2 : Vec Ideal S1024x2048 .bf16)
    (w2 : Vec Ideal S2048x512 .bf16) (h : Vec Ideal S1024x512 .f32) (i : S1024x512.Idx) :
    k0_pay1 (F := Ideal) a1 w1 a2 w2 h i
      = h i + ((∑ k : Fin 2048, a1 (ValueIdx.ix2 (i 0) k) * w1 (ValueIdx.ix2 k (i 1)))
        + ∑ k : Fin 2048, a2 (ValueIdx.ix2 (i 0) k) * w2 (ValueIdx.ix2 k (i 1))) := by
  unfold k0_pay1
  simp only [shapeCast_self]
  have half : ∀ (a : Vec Ideal S1024x2048 .bf16) (w : Vec Ideal S2048x512 .bf16),
      (matmul (F := Ideal) (φ₁ := .bf16) (φ₂ := .bf16) dot_S1024x2048_S2048x512_S1024x512_1_0_0_1_n_n none a w (constant S1024x512 .f32 0x00000000#32)
        : FVec Ideal S1024x512 .f32) i = ∑ k : Fin 2048, a (ValueIdx.ix2 (i 0) k) * w (ValueIdx.ix2 k (i 1)) := by
    intro a w
    rw [ValueIdx.eq_ix2 i]
    refine (Ideal.matmul_plain_apply (φ₁ := .bf16) (φ₂ := .bf16) (M := 1024) (K := 2048) (N := 512) none a w
      (constant S1024x512 .f32 0x00000000#32) (i 0) (i 1)).trans ?_
    exact (congrArg (fun z : EReal => z + _) Ideal.ofBits_zero_f32).trans (zero_add _)
  exact congrArg (fun z : EReal => h i + z) (congrArg₂ (fun x y : EReal => x + y) (half a1 w1) (half a2 w2))

/-- Every lane of a row holds the sum of the row's squares. -/
theorem squares_apply (a1 : Vec Ideal S1024x2048 .bf16) (w1 : Vec Ideal S2048x512 .bf16) (a2 : Vec Ideal S1024x2048 .bf16)
    (w2 : Vec Ideal S2048x512 .bf16) (h : Vec Ideal S1024x512 .f32) (i : S1024x128.Idx) :
    k0_pay3 (F := Ideal) a1 w1 a2 w2 h i
      = ∑ k : Fin 512, k0_pay1 (F := Ideal) a1 w1 a2 w2 h (ValueIdx.ix2 (i 0) k) * k0_pay1 (F := Ideal) a1 w1 a2 w2 h (ValueIdx.ix2 (i 0) k) := by
  unfold k0_pay3
  generalize k0_pay1 (F := Ideal) a1 w1 a2 w2 h = X
  have hs : multiReduction (F := Ideal) (φ := .f32) .add [1] S1024 (mulf X X) 0x00000000#32 reduces_S1024x512_S1024 (.inl rfl) rfl
      = fun j : S1024.Idx => ∑ k : Fin 512, X (ValueIdx.ix2 (j 0) k) * X (ValueIdx.ix2 (j 0) k) := by
    funext j
    refine (Ideal.multiReduction_add_single (φ := .f32) _ _ reduces_S1024x512_S1024 _ _ j).trans ?_
    refine Finset.sum_congr rfl fun k _ => ?_
    have e : (reduces_S1024x512_S1024).lift j k = ValueIdx.ix2 (j 0) k :=
      funext fun a => Fin.ext (by match a with | ⟨0, _⟩ => rfl | ⟨1, _⟩ => rfl)
    exact congrArg (fun q => X q * X q) e
  simp only [shapeCast_self, hs]
  rw [broadcastTo_apply _ broadcasts_S1024x1_S1024x128 i (ValueIdx.ix2 (n0 := 1024) (n1 := 1) (i 0) 0) (fun a => by
      match a with
      | ⟨0, _⟩ => show (i 0).val = if (1024 : ℕ) = 1 then 0 else (i 0).val; rw [if_neg (by decide)]
      | ⟨1, _⟩ => rfl),
    shapeCast_apply _ shapeCasts_S1024_S1024x1 (ValueIdx.ix2 (n0 := 1024) (n1 := 1) (i 0) 0) (ValueIdx.ix1 (n := 1024) (i 0)) (by
      rw [Shape.rowMajor_val_one, Shape.rowMajor_val_two]; show (i 0).val = (i 0).val * 1 + 0; omega)]

/-- The 32 rows normalised, at row `i 0` and channel `i 1`. -/
theorem final_apply (X : Vec Ideal S32x4096 .f32) (g : Vec Ideal S1x4096 .f32) (i : S32x4096.Idx) :
    k1_pay2 (F := Ideal) X g i = normed (fun k => X (ValueIdx.ix2 (i 0) k)) (fun k => g (ValueIdx.ix2 0 k)) (i 1) := by
  have hs : multiReduction (F := Ideal) (φ := .f32) .add [1] S32 (mulf X X) 0x00000000#32 reduces_S32x4096_S32 (.inl rfl) rfl
      = fun j : S32.Idx => ∑ k : Fin 4096, X (ValueIdx.ix2 (j 0) k) * X (ValueIdx.ix2 (j 0) k) := by
    funext j
    refine (Ideal.multiReduction_add_single (φ := .f32) _ _ reduces_S32x4096_S32 _ _ j).trans ?_
    refine Finset.sum_congr rfl fun k _ => ?_
    have e : (reduces_S32x4096_S32).lift j k = ValueIdx.ix2 (j 0) k :=
      funext fun a => Fin.ext (by match a with | ⟨0, _⟩ => rfl | ⟨1, _⟩ => rfl)
    exact congrArg (fun q => X q * X q) e
  unfold k1_pay2
  simp only [shapeCast_self, hs]
  show X i * broadcastTo S32x4096 _ broadcasts_S32x1_S32x4096 i * broadcastTo S32x4096 g broadcasts_S1x4096_S32x4096 i = _
  rw [broadcastTo_apply _ broadcasts_S32x1_S32x4096 i (ValueIdx.ix2 (n0 := 32) (n1 := 1) (i 0) 0) (fun a => by
      match a with
      | ⟨0, _⟩ => show (i 0).val = if (32 : ℕ) = 1 then 0 else (i 0).val; rw [if_neg (by decide)]
      | ⟨1, _⟩ => rfl),
    broadcastTo_apply g broadcasts_S1x4096_S32x4096 i (ValueIdx.ix2 (n0 := 1) (n1 := 4096) 0 (i 1)) (fun a => by
      match a with
      | ⟨0, _⟩ => rfl
      | ⟨1, _⟩ => show (i 1).val = if (4096 : ℕ) = 1 then 0 else (i 1).val; rw [if_neg (by decide)])]
  show X i * Ideal.rsqrt (Ideal.div (shapeCast S32x1 _ shapeCasts_S32_S32x1 (ValueIdx.ix2 (n0 := 32) (n1 := 1) (i 0) 0)) _ + _) * _ = _
  rw [shapeCast_apply _ shapeCasts_S32_S32x1 (ValueIdx.ix2 (n0 := 32) (n1 := 1) (i 0) 0) (ValueIdx.ix1 (n := 32) (i 0)) (by
    rw [Shape.rowMajor_val_one, Shape.rowMajor_val_two]; show (i 0).val = (i 0).val * 1 + 0; omega)]
  have hX : X i = X (ValueIdx.ix2 (i 0) (i 1)) := congrArg X (ValueIdx.eq_ix2 i)
  rw [hX]
  unfold normed scale
  refine congrArg (fun v : EReal => X (ValueIdx.ix2 (i 0) (i 1)) * Ideal.rsqrt v * g (ValueIdx.ix2 0 (i 1))) ?_
  rfl

/-- The inverse root from a row's sum of squares. -/
def rsc (s : EReal) : EReal := Ideal.rsqrt (s * Ideal.ofBits .f32 0x39800000#32 + Ideal.ofBits .f32 0x358637BD#32)

/-- What a hidden channel passes on: the positive part of its product, squared, times the row's scale squared. -/
def act (u s : EReal) : EReal := max u 0 * max u 0 * (rsc s * rsc s)

/-- Four copies of a row's lanes side by side. -/
theorem four_lanes (v : FVec Ideal S512x128 .f32) (j : S512x512.Idx) :
    concatenate S512x512 1 [⟨S512x128, v⟩, ⟨S512x128, v⟩, ⟨S512x128, v⟩, ⟨S512x128, v⟩] concatenates_S512x128_S512x128_S512x128_S512x128_S512x512_d1 j
      = v (ValueIdx.ix2 (n0 := 512) (n1 := 128) (j 0) ⟨(j 1).val % 128, Nat.mod_lt _ (by decide)⟩) :=
  concatenate_replicate_apply (t := S512x512) (s₁ := S512x128) 1 4 v concatenates_S512x128_S512x128_S512x128_S512x128_S512x512_d1 rfl
    j (ValueIdx.ix2 (n0 := 512) (n1 := 128) (j 0) ⟨(j 1).val % 128, Nat.mod_lt _ (by decide)⟩) rfl
    (fun b hb => by
      match b, hb with
      | ⟨0, _⟩, _ => rfl
      | ⟨1, _⟩, hb => exact absurd rfl hb)

/-- The block with one tile of 512 hidden channels added. -/
theorem tile_apply (s1 s2 : Vec Ideal S512x128 .f32) (a : Vec Ideal S512x4096 .bf16) (wu : Vec Ideal S4096x512 .bf16)
    (y : Vec Ideal S512x4096 .f32) (wd : Vec Ideal S512x4096 .bf16) (i : S512x4096.Idx) :
    k1_pay1 (F := Ideal) s1 s2 a wu y wd i
      = y i + ∑ k : Fin 512, act (∑ l : Fin 4096, a (ValueIdx.ix2 (i 0) l) * wu (ValueIdx.ix2 l k))
          (s1 (ValueIdx.ix2 (i 0) ⟨k.val % 128, Nat.mod_lt _ (by decide)⟩) + s2 (ValueIdx.ix2 (i 0) ⟨k.val % 128, Nat.mod_lt _ (by decide)⟩))
          * wd (ValueIdx.ix2 k (i 1)) := by
  have up : ∀ j : S512x512.Idx, (matmul (F := Ideal) (φ₁ := .bf16) (φ₂ := .bf16) dot_S512x4096_S4096x512_S512x512_1_0_0_1_n_n none a wu
      (constant S512x512 .f32 0x00000000#32) : FVec Ideal S512x512 .f32) j
        = ∑ l : Fin 4096, a (ValueIdx.ix2 (j 0) l) * wu (ValueIdx.ix2 l (j 1)) := by
    intro j
    rw [ValueIdx.eq_ix2 j]
    refine (Ideal.matmul_plain_apply (φ₁ := .bf16) (φ₂ := .bf16) (M := 512) (K := 4096) (N := 512) none a wu
      (constant S512x512 .f32 0x00000000#32) (j 0) (j 1)).trans ?_
    exact (congrArg (fun z : EReal => z + _) Ideal.ofBits_zero_f32).trans (zero_add _)
  unfold k1_pay1
  simp only [shapeCast_self]
  refine congrArg (fun z : EReal => y i + z) ?_
  refine (congrArg (matmul (F := Ideal) (φ₁ := .bf16) (φ₂ := .bf16) dot_S512x512_S512x4096_S512x4096_1_0_0_1_n_n none _ _ (constant S512x4096 .f32 0x00000000#32)) (ValueIdx.eq_ix2 i)).trans ?_
  refine (Ideal.matmul_plain_apply (φ₁ := .bf16) (φ₂ := .bf16) (M := 512) (K := 512) (N := 4096) none _ wd
    (constant S512x4096 .f32 0x00000000#32) (i 0) (i 1)).trans ?_
  refine (congrArg₂ (fun x z : EReal => x + z) Ideal.ofBits_zero_f32 (Finset.sum_congr rfl fun k _ => ?_)).trans (zero_add _)
  refine congrArg (fun z : EReal => z * wd (ValueIdx.ix2 k (i 1))) ?_
  unfold act
  refine congrArg₂ (fun x z : EReal => x * z) ?_ ?_
  · have hu := up (ValueIdx.ix2 (i 0) k)
    refine congrArg (fun z : EReal => z * z) ?_
    exact congrArg₂ (fun x z : EReal => max x z) hu Ideal.ofBits_zero_f32
  · exact (four_lanes _ (ValueIdx.ix2 (i 0) k)).trans (by simp only [shapeCast_self]; rfl)

theorem zero_apply (i : S512x4096.Idx) : k1_pay3 (F := Ideal) i = (0 : EReal) := Ideal.ofBits_zero_f32

theorem add_apply (x y : Vec Ideal S16x4096 .f32) (i : S16x4096.Idx) : k1_pay4 (F := Ideal) x y i = (x i + y i : EReal) := by
  unfold k1_pay4
  simp only [shapeCast_self]
  rfl

theorem lanes_apply (x0 x1 x2 x3 x4 x5 x6 : Vec Ideal S512x128 .f32) (i : S512x128.Idx) :
    k1_pay5 (F := Ideal) x0 x1 x2 x3 x4 x5 x6 i = (x0 i + x1 i + x2 i + x3 i + x4 i + x5 i + x6 i : EReal) := by
  unfold k1_pay5
  simp only [shapeCast_self]
  rfl

end Cert.Kernel2Ideal.Mlp

end
-- ==== Proof.Mlp.Loop.lean ====
/-
  The loop that ends a row tile: sixteen trips, each normalising thirty-two rows of the block in place. After it every row
  of the block is the normalised row of what the loop found.
-/
module

public import proofs.«01_k».proof.Proof.Mlp.Payloads
public import Idealize.ShloMosaic.Lib.Pipeline.CanonAppend

@[expose] public section

set_option maxRecDepth 16384

noncomputable section

namespace Cert.Kernel2Ideal.Mlp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

open Cert.InProjTarget (scale normed)

/-- Trip `k` starts at row `32 k`. -/
theorem trip_row : ∀ k : Fin k1_t1_loop.trips, k1_off2 k = ![32 * k.val, 0] := by decide +kernel
theorem trips_eq : k1_t1_loop.trips = 16 := by decide +kernel

section Trips

variable (𝒱 : Variants) (c : Dev nD) (bd : Option 𝒱.V) (i : grid1.Coords) (arg2 : Memref sig .tc .vmem S512x4096 .bf16) (harg2 : arg2.IsWhole) (arg3 : Memref sig .tc .vmem S512x1024 .f32) (harg3 : arg3.IsWhole) (arg4 : Memref sig .tc .vmem S16x4096 .f32) (harg4 : arg4.IsWhole) (arg5 : Memref sig .tc .vmem S4096x512 .bf16) (harg5 : arg5.IsWhole) (arg6 : Memref sig .tc .vmem S512x4096 .bf16) (harg6 : arg6.IsWhole) (arg7 : Memref sig .tc .vmem S1x4096 .f32) (harg7 : arg7.IsWhole) (arg8 : Memref sig .tc .vmem S512x4096 .f32) (harg8 : arg8.IsWhole) (k1_h2 : k1_cond2 i = 1#1)

/-- What one trip stores. -/
theorem trip_stores (X : BufTy.Contents (Elt F) arg7.view.ty) (k : Fin k1_t1_loop.trips) (f : BufTy.Contents (Elt F) arg8.view.ty) :
    tripL_k1_t1 (F := F) 𝒱 c bd i arg2 harg2 arg3 harg3 arg4 harg4 arg5 harg5 arg6 harg6 arg7 harg7 arg8 harg8 k1_h2 X k f
      = [⟨Rect.unit (s := S512x4096) (k1_off2 k) S32x4096.size (k1_off2_inb i k k1_h2),
          k1_pay2 (View.ld (arg8.view.read (Elt F) f) (Rect.unit (s := S512x4096) (k1_off2 k) S32x4096.size (k1_off2_inb i k k1_h2)))
            (arg7.view.read (Elt F) X)⟩] := by
  unfold tripL_k1_t1 trip_k1_t1
  dsimp only
  rw [View.readAt_eq_ld, View.readAt_eq_ld, View.ld_unit_lit _ _ (by decide)]

/-- A block with every row normalised. -/
def rowsNormed (Z : Vec Ideal S512x4096 .f32) (g : Vec Ideal S1x4096 .f32) (y : S512x4096.Idx) : EReal :=
  normed (fun k => Z (ValueIdx.ix2 (y 0) k)) (fun k => g (ValueIdx.ix2 0 k)) (y 1)

/-- The stores of the first `k` trips: each holds normalised rows, they lie above row `32 k`, and every such row is in one. -/
theorem trips_store (X : BufTy.Contents (Elt Ideal) arg7.view.ty) (G : BufTy.Contents (Elt Ideal) arg8.view.ty) (k : ℕ) (hk : k ≤ 16) :
    (∀ p ∈ pb_k1_t1 (F := Ideal) 𝒱 c bd i arg2 harg2 arg3 harg3 arg4 harg4 arg5 harg5 arg6 harg6 arg7 harg7 arg8 harg8 k1_h2 X G k, (∀ x : p.1.shape.Idx, p.2 x = rowsNormed (arg8.view.read (Elt Ideal) G) (arg7.view.read (Elt Ideal) X) (p.1.emb x))
        ∧ ∀ y ∈ p.1.set, (y 0).val < 32 * k)
      ∧ ∀ y : S512x4096.Idx, (y 0).val < 32 * k → ∃ p ∈ pb_k1_t1 (F := Ideal) 𝒱 c bd i arg2 harg2 arg3 harg3 arg4 harg4 arg5 harg5 arg6 harg6 arg7 harg7 arg8 harg8 k1_h2 X G k, y ∈ p.1.set := by
  induction k with
  | zero => exact ⟨fun p hp => absurd hp List.not_mem_nil, fun y hy => absurd hy (by omega)⟩
  | succ k ih =>
    obtain ⟨h1, h2⟩ := ih (by omega)
    have hkt : k < k1_t1_loop.trips := by rw [trips_eq]; omega
    have hs := pb_k1_t1_succ (F := Ideal) 𝒱 c bd i arg2 harg2 arg3 harg3 arg4 harg4 arg5 harg5 arg6 harg6 arg7 harg7 arg8 harg8 k1_h2 X G ⟨k, hkt⟩
    rw [trip_stores] at hs
    have hoff : k1_off2 ⟨k, hkt⟩ = ![32 * k, 0] := trip_row ⟨k, hkt⟩
    have hmem : ∀ y : S512x4096.Idx, y ∈ (Rect.unit (s := S512x4096) (k1_off2 ⟨k, hkt⟩) S32x4096.size (k1_off2_inb i ⟨k, hkt⟩ k1_h2)).set
        ↔ 32 * k ≤ (y 0).val ∧ (y 0).val < 32 * k + 32 := by
      intro y
      rw [Rect.mem_set_unit]
      have hy1 : (y 1).val < 4096 := (y 1).isLt
      constructor
      · intro h
        have h0 := h 0
        rw [hoff] at h0
        exact ⟨h0.1, h0.2⟩
      · intro h a
        rw [hoff]
        match a with
        | ⟨0, _⟩ => exact ⟨h.1, h.2⟩
        | ⟨1, _⟩ => exact ⟨Nat.zero_le _, by show (y 1).val < 0 + 4096; omega⟩
    have hb : ∀ y : S512x4096.Idx, 32 * k ≤ (y 0).val →
        arg8.view.read (Elt Ideal) (arg8.view.writes (Elt Ideal) G (pb_k1_t1 (F := Ideal) 𝒱 c bd i arg2 harg2 arg3 harg3 arg4 harg4 arg5 harg5 arg6 harg6 arg7 harg7 arg8 harg8 k1_h2 X G k)) y = arg8.view.read (Elt Ideal) G y :=
      fun y hy => View.read_writes_apply_of_forall_not_mem _ _ y _ fun p hp hm => absurd ((h1 p hp).2 y hm) (by omega)
    constructor
    · intro p hp
      rw [show k + 1 = (⟨k, hkt⟩ : Fin k1_t1_loop.trips).val + 1 from rfl, hs] at hp
      rcases List.mem_append.mp hp with hp | hp
      · obtain rfl := List.mem_singleton.mp hp
        refine ⟨fun x => ?_, fun y hy => by have := (hmem y).mp hy; omega⟩
        have e0 : ∀ z : S32x4096.Idx, (((Rect.unit (s := S512x4096) (k1_off2 ⟨k, hkt⟩) S32x4096.size (k1_off2_inb i ⟨k, hkt⟩ k1_h2)).emb z) 0 : ℕ) = 32 * k + (z 0).val := by
          intro z
          show k1_off2 ⟨k, hkt⟩ 0 + 1 * (z 0).val = _
          rw [hoff]; show 32 * k + 1 * (z 0).val = _; omega
        have e1 : ∀ z : S32x4096.Idx, (((Rect.unit (s := S512x4096) (k1_off2 ⟨k, hkt⟩) S32x4096.size (k1_off2_inb i ⟨k, hkt⟩ k1_h2)).emb z) 1 : ℕ) = (z 1).val := by
          intro z
          show k1_off2 ⟨k, hkt⟩ 1 + 1 * (z 1).val = _
          rw [hoff]; show 0 + 1 * (z 1).val = _; omega
        refine (final_apply _ _ x).trans ?_
        unfold rowsNormed
        refine congrArg₂ (fun (u : Fin 4096 → EReal) (n : Fin 4096) => normed u (fun k => arg7.view.read (Elt Ideal) X (ValueIdx.ix2 0 k)) n) (funext fun n => ?_)
          (Fin.ext (e1 x).symm)
        refine (hb _ ?_).trans (congrArg _ (funext fun a => Fin.ext ?_))
        · rw [show (32 * k : ℕ) = 32 * k + 0 from rfl]
          exact le_of_le_of_eq (Nat.add_le_add_left (Nat.zero_le _) _) (e0 (ValueIdx.ix2 (n0 := 32) (n1 := 4096) (x 0) n)).symm
        · match a with
          | ⟨0, _⟩ => exact (e0 (ValueIdx.ix2 (n0 := 32) (n1 := 4096) (x 0) n)).trans (e0 x).symm
          | ⟨1, _⟩ => exact e1 (ValueIdx.ix2 (n0 := 32) (n1 := 4096) (x 0) n)
      · exact ⟨(h1 p hp).1, fun y hy => by have := (h1 p hp).2 y hy; omega⟩
    · intro y hy
      rw [show k + 1 = (⟨k, hkt⟩ : Fin k1_t1_loop.trips).val + 1 from rfl, hs]
      by_cases hlt : (y 0).val < 32 * k
      · obtain ⟨p, hp, hm⟩ := h2 y hlt
        exact ⟨p, List.mem_append.mpr (.inr hp), hm⟩
      · exact ⟨_, List.mem_append.mpr (.inl (List.mem_singleton.mpr rfl)), (hmem y).mpr ⟨by omega, by omega⟩⟩

/-- The block after the loop, whatever had been stored before it. -/
theorem loop_leaves (X : BufTy.Contents (Elt Ideal) arg7.view.ty) (G : BufTy.Contents (Elt Ideal) arg8.view.ty)
    (L : List (View.Piece (Elt Ideal) S512x4096 .f32)) (n : ℕ) (hn : n = 16) :
    View.canon (pb_k1_t1 (F := Ideal) 𝒱 c bd i arg2 harg2 arg3 harg3 arg4 harg4 arg5 harg5 arg6 harg6 arg7 harg7 arg8 harg8 k1_h2 X G n ++ L)
      = rowsNormed (arg8.view.read (Elt Ideal) G) (arg7.view.read (Elt Ideal) X) := by
  subst hn
  funext y
  obtain ⟨h1, h2⟩ := trips_store 𝒱 c bd i arg2 harg2 arg3 harg3 arg4 harg4 arg5 harg5 arg6 harg6 arg7 harg7 arg8 harg8 k1_h2 X G 16 (le_refl _)
  have hy : (y 0).val < 512 := (y 0).isLt
  exact View.canon_append_of_pieces _ L _ (fun p hp => (h1 p hp).1) y (h2 y (by omega))

end Trips

end Cert.Kernel2Ideal.Mlp

end
-- ==== Proof.Mlp.Steps.lean ====
/-
  What one point of the second call leaves in its block: the sixteen rows it carries over from the residual, added to
  what the block held, and its tile of 512 hidden channels; the last point of a row tile normalises every row.
-/
module

public import proofs.«01_k».proof.Proof.Mlp.Loop
public import Idealize.ShloMosaic.Lib.WritesUnit

@[expose] public section

set_option maxRecDepth 16384

noncomputable section

namespace Cert.Kernel2Ideal.Mlp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

open Cert.InProjTarget (scale normed)

/-- Point `t` carries over the rows from `16 (t % 32)`. -/
theorem carry_row : ∀ t : Fin cfg1.N, k1_off1 (grid1.coords t) = ![16 * (t.val % 32), 0] := (by decide +kernel : ∀ t : Fin grid1.N, _)

/-- The rows a point carries over, at their place in the block. -/
def carried (q : ℕ) (x : Vec Ideal S16x4096 .f32) (j : S512x4096.Idx) : EReal :=
  if h : 16 * q ≤ (j 0).val ∧ (j 0).val < 16 * q + 16 then x (ValueIdx.ix2 (n0 := 16) (n1 := 4096) ⟨(j 0).val - 16 * q, by omega⟩ (j 1)) else 0

/-- The eight blocks' sums of squares of a row, in a lane. -/
def lanes (s : Vec Ideal S512x1024 .f32) (r : Fin 512) (l : Fin 128) : EReal :=
  ∑ b : Fin 8, s (ValueIdx.ix2 (n0 := 512) (n1 := 1024) r ⟨128 * b.val + l.val, by omega⟩)

/-- One tile's part of a block entry. -/
def tilePart (a : Vec Ideal S512x4096 .bf16) (s : Vec Ideal S512x1024 .f32) (wu : Vec Ideal S4096x512 .bf16) (wd : Vec Ideal S512x4096 .bf16)
    (j : S512x4096.Idx) : EReal :=
  ∑ k : Fin 512, act (∑ l : Fin 4096, a (ValueIdx.ix2 (j 0) l) * wu (ValueIdx.ix2 l k)) (lanes s (j 0) ⟨k.val % 128, Nat.mod_lt _ (by decide)⟩)
    * wd (ValueIdx.ix2 k (j 1))

/-- Sixteen rows added to what a buffer reads. -/
theorem patch (v : View sig .tc .vmem S512x4096 .f32) (f : v.ty.Contents (Elt Ideal)) (L : List (View.Piece (Elt Ideal) S512x4096 .f32))
    (Y : Vec Ideal S512x4096 .f32) (hY : v.read (Elt Ideal) (v.writes (Elt Ideal) f L) = Y) (t : Fin cfg1.N) (x : Vec Ideal S16x4096 .f32)
    (j : S512x4096.Idx) :
    v.read (Elt Ideal) (v.writes (Elt Ideal) f (⟨Rect.unit (s := S512x4096) (k1_off1 (grid1.coords t)) S16x4096.size (k1_off1_inb (grid1.coords t)),
        k1_pay4 (F := Ideal) (View.ld Y (Rect.unit (s := S512x4096) (k1_off1 (grid1.coords t)) S16x4096.size (k1_off1_inb (grid1.coords t)))) x⟩ :: L)) j
      = Y j + carried (t.val % 32) x j := by
  unfold carried
  have hoff := carry_row t
  by_cases h : 16 * (t.val % 32) ≤ (j 0).val ∧ (j 0).val < 16 * (t.val % 32) + 16
  · rw [dif_pos h]
    have hr : (j 0).val - 16 * (t.val % 32) < 16 := by omega
    refine (View.read_writes_cons_rows_of_mem v f (k1_off1_inb (grid1.coords t)) _ L j
      (ValueIdx.ix2 (n0 := 16) (n1 := 4096) ⟨(j 0).val - 16 * (t.val % 32), hr⟩ (j 1)) hoff
      (by show (j 0).val = 16 * (t.val % 32) + ((j 0).val - 16 * (t.val % 32)); omega) rfl).trans ?_
    refine (add_apply _ _ _).trans ?_
    refine congrArg (· + _) ?_
    refine View.ld_unit_apply_of Y _ _ _ _ j (fun a => ?_)
    refine Eq.trans ?_ (congrArg (· + _) (congrFun hoff a).symm)
    match a with
    | ⟨0, _⟩ => show (j 0).val = 16 * (t.val % 32) + ((j 0).val - 16 * (t.val % 32)); omega
    | ⟨1, _⟩ => show (j 1).val = 0 + (j 1).val; omega
  · rw [dif_neg h]
    refine (View.read_writes_cons_rows_of_not_mem v f (k1_off1_inb (grid1.coords t)) _ L j hoff (W := 16) rfl (by omega)).trans ?_
    rw [hY]; exact (add_zero _).symm

/-- A load of one block's lanes. -/
theorem ld_lanes (s : Vec Ideal S512x1024 .f32) (b : Fin 8) (inb) (r : Fin 512) (l : Fin 128) :
    View.ld (Val := Elt Ideal) (e' := .f32) s (Rect.unit (s := S512x1024) ![0, 128 * b.val] S512x128.size inb) (ValueIdx.ix2 r l)
      = s (ValueIdx.ix2 (n0 := 512) (n1 := 1024) r ⟨128 * b.val + l.val, by omega⟩) := by
  refine View.ld_unit_apply_of (Val := Elt Ideal) (e := .f32) s _ _ _ _ _ (fun a => ?_)
  match a with
  | ⟨0, _⟩ => show r.val = 0 + r.val; omega
  | ⟨1, _⟩ => rfl

/-- The body's sum of the eight loads. -/
theorem eight (s : Vec Ideal S512x1024 .f32) (i0 i1 i2 i3 i4 i5 i6 i7) (r : Fin 512) (l : Fin 128) :
    k1_pay5 (F := Ideal) (View.ld s (Rect.unit (s := S512x1024) ![0, 0] S512x128.size i0)) (View.ld s (Rect.unit (s := S512x1024) ![0, 128] S512x128.size i1))
        (View.ld s (Rect.unit (s := S512x1024) ![0, 256] S512x128.size i2)) (View.ld s (Rect.unit (s := S512x1024) ![0, 384] S512x128.size i3))
        (View.ld s (Rect.unit (s := S512x1024) ![0, 512] S512x128.size i4)) (View.ld s (Rect.unit (s := S512x1024) ![0, 640] S512x128.size i5))
        (View.ld s (Rect.unit (s := S512x1024) ![0, 768] S512x128.size i6)) (ValueIdx.ix2 r l)
      + View.ld (Val := Elt Ideal) (e' := .f32) s (Rect.unit (s := S512x1024) ![0, 896] S512x128.size i7) (ValueIdx.ix2 r l)
      = lanes s r l := by
  unfold lanes
  rw [Fin.sum_univ_eight]
  refine congrArg₂ (· + ·) ((lanes_apply _ _ _ _ _ _ _ _).trans ?_) (ld_lanes s 7 i7 r l)
  refine congrArg₂ (· + ·) (congrArg₂ (· + ·) (congrArg₂ (· + ·) (congrArg₂ (· + ·) (congrArg₂ (· + ·) (congrArg₂ (· + ·) ?_ ?_) ?_) ?_) ?_) ?_) ?_
  · exact ld_lanes s 0 i0 r l
  · exact ld_lanes s 1 i1 r l
  · exact ld_lanes s 2 i2 r l
  · exact ld_lanes s 3 i3 r l
  · exact ld_lanes s 4 i4 r l
  · exact ld_lanes s 5 i5 r l
  · exact ld_lanes s 6 i6 r l

/-- The body's stored value over any block. -/
theorem tile_eq (s : Vec Ideal S512x1024 .f32) (i0 i1 i2 i3 i4 i5 i6 i7) (a : Vec Ideal S512x4096 .bf16) (wu : Vec Ideal S4096x512 .bf16)
    (y : Vec Ideal S512x4096 .f32) (wd : Vec Ideal S512x4096 .bf16) (j : S512x4096.Idx) :
    k1_pay1 (F := Ideal) (k1_pay5 (F := Ideal) (View.ld s (Rect.unit (s := S512x1024) ![0, 0] S512x128.size i0)) (View.ld s (Rect.unit (s := S512x1024) ![0, 128] S512x128.size i1))
        (View.ld s (Rect.unit (s := S512x1024) ![0, 256] S512x128.size i2)) (View.ld s (Rect.unit (s := S512x1024) ![0, 384] S512x128.size i3))
        (View.ld s (Rect.unit (s := S512x1024) ![0, 512] S512x128.size i4)) (View.ld s (Rect.unit (s := S512x1024) ![0, 640] S512x128.size i5))
        (View.ld s (Rect.unit (s := S512x1024) ![0, 768] S512x128.size i6))) (View.ld s (Rect.unit (s := S512x1024) ![0, 896] S512x128.size i7)) a wu y wd j
      = y j + tilePart a s wu wd j := by
  refine (tile_apply _ _ a wu y wd j).trans (congrArg (y j + ·) ?_)
  unfold tilePart
  refine Finset.sum_congr rfl fun k _ => congrArg (· * _) (congrArg (act _) ?_)
  exact eight s i0 i1 i2 i3 i4 i5 i6 i7 (j 0) ⟨k.val % 128, Nat.mod_lt _ (by decide)⟩

variable (V : (c : Dev nD) → (b : Ref sig .tc) → Buf (Elt Ideal) ((c : Thread nD τ).loc b))

/-- What point `t` adds to its block. -/
def added (c : Dev nD) (t : Fin cfg1.N) (j : S512x4096.Idx) : EReal :=
  carried (t.val % 32) (iblk1 V c 2 t) j + tilePart (iblk1 V c 0 t) (iblk1 V c 1 t) (iblk1 V c 3 t) (iblk1 V c 4 t) j

/-- The first point of a row tile starts from zero; -/
theorem left_first (c : Dev nD) (t : Fin cfg1.N) (h : t.val % 32 = 0) (j : S512x4096.Idx) :
    outsAt1 V c t.val t.isLt j = 0 + added V c t j := by
  rw [outsAt1_A V c t h (by omega)]
  frame_out
  refine (tile_eq (iblk1 V c 1 t) _ _ _ _ _ _ _ _ _ _ _ _ j).trans ?_
  unfold added
  rw [← add_assoc]
  refine congrArg (· + _) ?_
  rw [View.readCov_eq_canon', ← View.read_writes_junk_eq_canon (ms1_6 t).view]
  have e : (Rect.unit (s := S512x4096) ![0, 0] ![512, 4096] inb_S512x4096_S512x4096_0_0).idx j = j := funext fun a => Fin.ext (by
    refine (Rect.idx_unit_val _ _ _ _ _).trans ?_
    match a with
    | ⟨0, _⟩ => exact Nat.zero_add _
    | ⟨1, _⟩ => exact Nat.zero_add _)
  refine (congrArg _ e).trans ?_
  have p := patch (ms1_6 t).view (ms1_6 t).view.junk
    [⟨Rect.unit (s := S512x4096) ![0, 0] S512x4096.size inb_S512x4096_S512x4096_0_0, k1_pay3 (F := Ideal)⟩] (k1_pay3 (F := Ideal))
    ((View.read_writes_junk_eq_canon _ _).trans (View.canon_cons_unit_lit (Val := Elt Ideal) (S := S512x4096) _ _ _ (by decide))) t (iblk1 V c 2 t) j
  rw [zero_apply] at p
  exact p

/-- a later one adds to what the point before left; -/
theorem left_next (c : Dev nD) (t : Fin cfg1.N) (h0 : ¬t.val % 32 = 0) (h1 : ¬t.val % 32 = 31) (j : S512x4096.Idx) :
    outsAt1 V c t.val t.isLt j = outsAt1 V c (t.val - 1) (Nat.lt_of_le_of_lt (Nat.sub_le _ _) t.isLt) j + added V c t j := by
  rw [outsAt1_B V c t h0 h1]
  frame_out
  refine (tile_eq (iblk1 V c 1 t) _ _ _ _ _ _ _ _ _ _ _ _ j).trans ?_
  unfold added
  rw [← add_assoc]
  refine congrArg (· + _) ?_
  exact patch (ms1_6 t).view _ [] _ ((hs1_6 t).read_unread _) t _ j

/-- the last normalises the rows it leaves. -/
theorem left_last (c : Dev nD) (t : Fin cfg1.N) (h0 : ¬t.val % 32 = 0) (h1 : t.val % 32 = 31) :
    outsAt1 V c t.val t.isLt
      = rowsNormed (fun j => outsAt1 V c (t.val - 1) (Nat.lt_of_le_of_lt (Nat.sub_le _ _) t.isLt) j + added V c t j) (iblk1 V c 5 t) := by
  rw [outsAt1_C V c t h0 h1]
  frame_out
  refine (loop_leaves _ c _ _ _ _ _ _ _ _ _ _ _ _ _ _ _ _ _ _ _ _ _ (by decide +kernel)).trans ?_
  rw [Memref.IsWhole.read_unread]
  refine congrArg (fun Z => rowsNormed Z (iblk1 V c 5 t)) (funext fun j => ?_)
  refine (View.read_writes_cons_rows_of_mem _ _ _ _ _ j j rfl (Nat.zero_add _).symm rfl).trans ?_
  refine (tile_eq (iblk1 V c 1 t) _ _ _ _ _ _ _ _ _ _ _ _ j).trans ?_
  unfold added
  rw [← add_assoc]
  refine congrArg (· + _) ?_
  exact patch (ms1_6 t).view _ [] _ ((hs1_6 t).read_unread _) t _ j

end Cert.Kernel2Ideal.Mlp

end
-- ==== Proof.Mlp.Accum.lean ====
/-
  Over a row tile's 32 points the second call's block gathers what each point adds; the last point leaves the gathered
  rows normalised.
-/
module

public import proofs.«01_k».proof.Proof.Mlp.Steps

@[expose] public section

set_option maxRecDepth 16384

noncomputable section

namespace Cert.Kernel2Ideal.Mlp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt Ideal) ((c : Thread nD τ).loc b))

/-- The rows gathered by point `n`, before the last point normalises them. -/
def gathered (c : Dev nD) (n : ℕ) (h : n < cfg1.N) (j : S512x4096.Idx) : EReal :=
  if n % 32 = 31 then outsAt1 V c (n - 1) (Nat.lt_of_le_of_lt (Nat.sub_le _ _) h) j + added V c ⟨n, h⟩ j else outsAt1 V c n h j

theorem gathered_first (c : Dev nD) (t : Fin cfg1.N) (h : t.val % 32 = 0) (j : S512x4096.Idx) :
    gathered V c t.val t.isLt j = 0 + added V c t j := by
  unfold gathered
  rw [if_neg (by omega)]
  exact left_first V c t h j

theorem gathered_next (c : Dev nD) (t : Fin cfg1.N) (h : ¬t.val % 32 = 0) (j : S512x4096.Idx) :
    gathered V c t.val t.isLt j = gathered V c (t.val - 1) (Nat.lt_of_le_of_lt (Nat.sub_le _ _) t.isLt) j + added V c t j := by
  have e : gathered V c (t.val - 1) (Nat.lt_of_le_of_lt (Nat.sub_le _ _) t.isLt) j
      = outsAt1 V c (t.val - 1) (Nat.lt_of_le_of_lt (Nat.sub_le _ _) t.isLt) j := by
    unfold gathered; rw [if_neg (by omega)]
  rw [e]
  by_cases h1 : t.val % 32 = 31
  · unfold gathered; rw [if_pos h1]
  · unfold gathered; rw [if_neg h1]
    exact left_next V c t h h1 j

/-- What the last point of a row tile leaves. -/
theorem left_at_flush (c : Dev nD) (t : Fin cfg1.N) (h : t.val % 32 = 31) :
    outsAt1 V c t.val t.isLt = rowsNormed (fun j => 0 + ∑ s : Fin 32, added V c ⟨32 * (t.val / 32) + s.val,
      Pipeline.run_point_lt_of_flush (J := 32) t h s⟩ j) (iblk1 V c 5 t) := by
  rw [left_last V c t (by omega) h]
  refine congrArg (fun Z => rowsNormed Z (iblk1 V c 5 t)) (funext fun j => ?_)
  have g := Pipeline.eq_sum_fin_of_reset_step_apply_of_flush (M := EReal) (gathered V c) 32 (fun _ => 0) (added V c) (gathered_first V c)
    (gathered_next V c) t h j
  refine Eq.trans ?_ g
  unfold gathered; rw [if_pos h]

end Cert.Kernel2Ideal.Mlp

end
-- ==== Proof.Mlp.Target.lean ====
/-
  What the second program computes, written as sums over the extended reals: the projected attention added to the
  residual stream, the feed-forward layer of its normalised rows added to that, and the rows normalised once more.
-/
module

public import proofs.«01_k».proof.Proof.InProj.Target

@[expose] public section

noncomputable section

namespace Cert.MlpTarget

open Idealize.ShloMosaic Idealize.ShloMosaic.ValueIdx Cert.InProjTarget

/-- A row of the residual stream with the projected attention added. -/
def resid (o h : (⟨3, ![4, 4096, 4096]⟩ : Shape).Idx → EReal) (wo : (⟨3, ![1, 4096, 4096]⟩ : Shape).Idx → EReal) (r : ℕ) (hr : r < 16384)
    (n : Fin 4096) : EReal :=
  xrow h r hr n + ∑ k : Fin 4096, xrow o r hr k * wo (ix3 0 k n)

/-- The positive part, squared. -/
def pass (v : EReal) : EReal := max v 0 * max v 0

/-- Column `n` of the first weight. -/
def ucol (u : (⟨3, ![1, 4096, 16384]⟩ : Shape).Idx → EReal) (n : Fin 16384) (l : Fin 4096) : EReal := u (ix3 0 l n)

/-- A row with its feed-forward layer added. -/
def mixed (X G : Fin 4096 → EReal) (u : (⟨3, ![1, 4096, 16384]⟩ : Shape).Idx → EReal) (d : (⟨3, ![1, 16384, 4096]⟩ : Shape).Idx → EReal)
    (n : Fin 4096) : EReal :=
  X n + ∑ k : Fin 16384, pass (proj X G (ucol u k)) * d (ix3 0 k n)

/-- The result: each mixed row normalised. -/
def result (o h : (⟨3, ![4, 4096, 4096]⟩ : Shape).Idx → EReal) (wo : (⟨3, ![1, 4096, 4096]⟩ : Shape).Idx → EReal)
    (g : (⟨2, ![1, 4096]⟩ : Shape).Idx → EReal) (u : (⟨3, ![1, 4096, 16384]⟩ : Shape).Idx → EReal)
    (d : (⟨3, ![1, 16384, 4096]⟩ : Shape).Idx → EReal) (gf : (⟨1, ![4096]⟩ : Shape).Idx → EReal) (y : (⟨2, ![16384, 4096]⟩ : Shape).Idx) : EReal :=
  normed (mixed (resid o h wo (y 0).val (y 0).isLt) (gain g) u d) (fun k => gf (ix1 k)) (y 1)

end Cert.MlpTarget

end
-- ==== Proof.Mlp.Entry.lean ====
/-
  What the arrays of the two calls hold when the first one starts, in terms of the arguments, and what each point of the
  first call reads of them.
-/
module

public import proofs.«01_k».proof.Proof.Mlp.Payloads
public import proofs.«01_k».proof.Proof.Mlp.Target
public import Idealize.ShloMosaic.Lib.Claim

@[expose] public section

set_option maxRecDepth 16384

noncomputable section

namespace Cert.Kernel2Ideal.Mlp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

open Cert.InProjTarget Cert.MlpTarget

variable (m : (ℓ : Loc nD τ sig) → Buf (Elt Ideal) ℓ) (ρ : Dev nD → PrngReg)

/-- The seven arguments. -/
abbrev argO (c : Dev nD) : (⟨S4x4096x4096, .bf16⟩ : BufTy).Contents (Elt Ideal) := m ((c : Thread nD τ).loc main_arg0)
abbrev argH (c : Dev nD) : (⟨S4x4096x4096, .f32⟩ : BufTy).Contents (Elt Ideal) := m ((c : Thread nD τ).loc main_arg1)
abbrev argWo (c : Dev nD) : (⟨S1x4096x4096, .f32⟩ : BufTy).Contents (Elt Ideal) := m ((c : Thread nD τ).loc main_arg2)
abbrev argG (c : Dev nD) : (⟨S1x4096, .f32⟩ : BufTy).Contents (Elt Ideal) := m ((c : Thread nD τ).loc main_arg3)
abbrev argU (c : Dev nD) : (⟨S1x4096x16384, .f32⟩ : BufTy).Contents (Elt Ideal) := m ((c : Thread nD τ).loc main_arg4)
abbrev argD (c : Dev nD) : (⟨S1x16384x4096, .f32⟩ : BufTy).Contents (Elt Ideal) := m ((c : Thread nD τ).loc main_arg5)
abbrev argF (c : Dev nD) : (⟨S4096, .f32⟩ : BufTy).Contents (Elt Ideal) := m ((c : Thread nD τ).loc main_arg6)

/-- A three-axis array with its two outer axes joined. -/
theorem joined_apply {α : Type} (x : S4x4096x4096.Idx → α) (i : S16384x4096.Idx) :
    shapeCast S16384x4096 x shapeCasts_S4x4096x4096_S16384x4096 i
      = x (ValueIdx.ix3 (n0 := 4) (n1 := 4096) (n2 := 4096) ⟨(i 0).val / 4096, by have h0 : (i 0).val < 16384 := (i 0).isLt; omega⟩
          ⟨(i 0).val % 4096, by omega⟩ (i 1)) := by
  have h0 : (i 0).val < 16384 := (i 0).isLt
  have h1 : (i 1).val < 4096 := (i 1).isLt
  exact shapeCast_apply x shapeCasts_S4x4096x4096_S16384x4096 i _ (by
    rw [Shape.rowMajor_val_three, Shape.rowMajor_val_two]
    show ((i 0).val / 4096 * 4096 + (i 0).val % 4096) * 4096 + (i 1).val = (i 0).val * 4096 + (i 1).val; omega)

theorem V_o (c : Dev nD) (i : S16384x4096.Idx) :
    V1 m ρ c main_v0 i = xrow (argO m c) (i 0).val (i 0).isLt (i 1) := by
  simp only [V1, W1, hostOps0]
  after_results_simp
  exact joined_apply _ i
theorem V_h (c : Dev nD) (i : S16384x4096.Idx) :
    V1 m ρ c main_v1 i = xrow (argH m c) (i 0).val (i 0).isLt (i 1) := by
  simp only [V1, W1, hostOps0]
  after_results_simp
  exact joined_apply _ i

/-- The output projection's weight. -/
theorem V_wo (c : Dev nD) (i : S4096x4096.Idx) :
    V1 m ρ c main_v11 i = argWo m c (ValueIdx.ix3 (n0 := 1) (n1 := 4096) (n2 := 4096) 0 (i 0) (i 1)) := by
  simp only [V1, W1, hostOps0]
  after_results_simp
  exact shapeCast_apply _ shapeCasts_S1x4096x4096_S4096x4096 i (ValueIdx.ix3 (n0 := 1) (n1 := 4096) (n2 := 4096) 0 (i 0) (i 1)) (by
    rw [Shape.rowMajor_val_three, Shape.rowMajor_val_two]
    show (0 * 4096 + (i 0).val) * 4096 + (i 1).val = (i 0).val * 4096 + (i 1).val; omega)

/-- The second weight of the layer. -/
theorem V_d (c : Dev nD) (i : S16384x4096.Idx) : V1 m ρ c main_v9 i = downWeight (argD m c) i := by
  simp only [V1, W1, hostOps0]
  after_results_simp
  exact shapeCast_apply _ shapeCasts_S1x16384x4096_S16384x4096 i (ValueIdx.ix3 (n0 := 1) (n1 := 16384) (n2 := 4096) 0 (i 0) (i 1)) (by
    rw [Shape.rowMajor_val_three, Shape.rowMajor_val_two]
    show (0 * 16384 + (i 0).val) * 4096 + (i 1).val = (i 0).val * 4096 + (i 1).val; omega)

/-- The gain, copied along the columns. -/
theorem gain_apply (g : (⟨S1x4096, .f32⟩ : BufTy).Contents (Elt Ideal)) (i : S4096x16384.Idx) :
    broadcastInDim S4096x16384 ![0, 1] bcast_S4096x1_S4096x16384_0_1
        (broadcastInDim S4096x1 ![0] bcast_S4096_S4096x1_0 (shapeCast S4096 g shapeCasts_S1x4096_S4096)) i
      = g (ValueIdx.ix2 (n0 := 1) (n1 := 4096) 0 (i 0)) := by
  have h0 : (i 0).val < 4096 := (i 0).isLt
  refine (broadcastInDim_apply _ bcast_S4096x1_S4096x16384_0_1 _ i (ValueIdx.ix2 (n0 := 4096) (n1 := 1) (i 0) 0) (fun a => match a with
    | ⟨0, _⟩ => by show (i 0).val = if (4096 : Nat) = 1 then 0 else (i 0).val; rw [if_neg (by decide)]
    | ⟨1, _⟩ => by show 0 = if (1 : Nat) = 1 then 0 else (i 1).val; rw [if_pos rfl])).trans ?_
  refine (broadcastInDim_apply _ bcast_S4096_S4096x1_0 _ _ (ValueIdx.ix1 (n := 4096) (i 0)) (fun a => match a with
    | ⟨0, _⟩ => by show (i 0).val = if (4096 : Nat) = 1 then 0 else (i 0).val; rw [if_neg (by decide)])).trans ?_
  exact shapeCast_apply g shapeCasts_S1x4096_S4096 _ (ValueIdx.ix2 (n0 := 1) (n1 := 4096) 0 (i 0)) (by
    rw [Shape.rowMajor_val_one, Shape.rowMajor_val_two]; show 0 * 4096 + (i 0).val = (i 0).val; omega)

/-- The first weight of the layer, its gain in it. -/
theorem V_u (c : Dev nD) (i : S4096x16384.Idx) : V1 m ρ c main_v7 i = upWeight (argG m c) (argU m c) i := by
  have h1 : (i 1).val < 16384 := (i 1).isLt
  simp only [V1, W1, hostOps0]
  after_results_simp
  refine congrArg₂ (fun a b : EReal => a * b) (gain_apply (argG m c) i) ?_
  exact shapeCast_apply _ shapeCasts_S1x4096x16384_S4096x16384 i (ValueIdx.ix3 (n0 := 1) (n1 := 4096) (n2 := 16384) 0 (i 0) (i 1)) (by
    rw [Shape.rowMajor_val_three, Shape.rowMajor_val_two]
    show (0 * 4096 + (i 0).val) * 16384 + (i 1).val = (i 0).val * 16384 + (i 1).val; omega)

/-! ### The blocks of the first call's points -/

theorem at0_0 : ∀ t : Fin cfg0.N, win0_0.index t = ![t.val / 8, 0] := (by decide +kernel : ∀ t : Fin grid0.N, _)
theorem at0_1 : ∀ t : Fin cfg0.N, win0_1.index t = ![t.val / 8, 1] := (by decide +kernel : ∀ t : Fin grid0.N, _)
theorem at0_2 : ∀ t : Fin cfg0.N, win0_2.index t = ![0, t.val % 8] := (by decide +kernel : ∀ t : Fin grid0.N, _)
theorem at0_3 : ∀ t : Fin cfg0.N, win0_3.index t = ![1, t.val % 8] := (by decide +kernel : ∀ t : Fin grid0.N, _)
theorem at0_4 : ∀ t : Fin cfg0.N, win0_4.index t = ![t.val / 8, t.val % 8] := (by decide +kernel : ∀ t : Fin grid0.N, _)
theorem at0_5 : ∀ t : Fin cfg0.N, win0_5.index t = ![t.val / 8, t.val % 8] := (by decide +kernel : ∀ t : Fin grid0.N, _)
theorem at0_6 : ∀ t : Fin cfg0.N, win0_6.index t = ![t.val / 8, t.val % 8] := (by decide +kernel : ∀ t : Fin grid0.N, _)
theorem at0_7 : ∀ t : Fin cfg0.N, win0_7.index t = ![t.val / 8, t.val % 8] := (by decide +kernel : ∀ t : Fin grid0.N, _)

theorem lt_points0 (t : Fin cfg0.N) : t.val < 128 := t.isLt

/-- A row of a joined array at equal coordinates. -/
theorem xrow_at {x : (⟨3, ![4, 4096, 4096]⟩ : Shape).Idx → EReal} {r s : ℕ} {hr : r < 16384} {hs : s < 16384} {k l : Fin 4096} (h : r = s)
    (hk : k.val = l.val) : xrow x r hr k = xrow x s hs l := by
  subst h; exact congrArg _ (Fin.ext hk)

/-- A point reads, of the attention's output, its rows' first half -/
theorem blk0_0 (c : Dev nD) (p : Fin cfg0.N) (y : S1024x2048.Idx) :
    iblk0 (V1 m ρ) c 0 p y = xrow (argO m c) (p.val / 8 * 1024 + (y 0).val)
      (by have h : (y 0).val < 1024 := (y 0).isLt; have := lt_points0 p; omega) ⟨(y 1).val, by have h : (y 1).val < 2048 := (y 1).isLt; omega⟩ := by
  show V1 m ρ c main_v0 (((cfg0.win 0).blk p).view.emb y) = _
  rw [V_o]
  exact xrow_at (by blk_simp [at0_0]) (by blk_simp [at0_0])
/-- and second half, -/
theorem blk0_1 (c : Dev nD) (p : Fin cfg0.N) (y : S1024x2048.Idx) :
    iblk0 (V1 m ρ) c 1 p y = xrow (argO m c) (p.val / 8 * 1024 + (y 0).val)
      (by have h : (y 0).val < 1024 := (y 0).isLt; have := lt_points0 p; omega) ⟨2048 + (y 1).val, by have h : (y 1).val < 2048 := (y 1).isLt; omega⟩ := by
  show V1 m ρ c main_v0 (((cfg0.win 1).blk p).view.emb y) = _
  rw [V_o]
  exact xrow_at (by blk_simp [at0_1]) (by blk_simp [at0_1])
/-- of the weight, its columns' first half -/
theorem blk0_2 (c : Dev nD) (p : Fin cfg0.N) (y : S2048x512.Idx) :
    iblk0 (V1 m ρ) c 2 p y = argWo m c (ValueIdx.ix3 (n0 := 1) (n1 := 4096) (n2 := 4096) 0 ⟨(y 0).val, by have h : (y 0).val < 2048 := (y 0).isLt; omega⟩
      ⟨p.val % 8 * 512 + (y 1).val, by have h : (y 1).val < 512 := (y 1).isLt; omega⟩) := by
  show V1 m ρ c main_v11 (((cfg0.win 2).blk p).view.emb y) = _
  rw [V_wo]
  exact congrArg₂ (fun a b => argWo m c (ValueIdx.ix3 (n0 := 1) (n1 := 4096) (n2 := 4096) 0 a b)) (Fin.ext (by blk_simp [at0_2])) (Fin.ext (by blk_simp [at0_2]))
/-- and second half, -/
theorem blk0_3 (c : Dev nD) (p : Fin cfg0.N) (y : S2048x512.Idx) :
    iblk0 (V1 m ρ) c 3 p y = argWo m c (ValueIdx.ix3 (n0 := 1) (n1 := 4096) (n2 := 4096) 0 ⟨2048 + (y 0).val, by have h : (y 0).val < 2048 := (y 0).isLt; omega⟩
      ⟨p.val % 8 * 512 + (y 1).val, by have h : (y 1).val < 512 := (y 1).isLt; omega⟩) := by
  show V1 m ρ c main_v11 (((cfg0.win 3).blk p).view.emb y) = _
  rw [V_wo]
  exact congrArg₂ (fun a b => argWo m c (ValueIdx.ix3 (n0 := 1) (n1 := 4096) (n2 := 4096) 0 a b)) (Fin.ext (by blk_simp [at0_3])) (Fin.ext (by blk_simp [at0_3]))
/-- and of the residual stream, its rows and columns. -/
theorem blk0_4 (c : Dev nD) (p : Fin cfg0.N) (y : S1024x512.Idx) :
    iblk0 (V1 m ρ) c 4 p y = xrow (argH m c) (p.val / 8 * 1024 + (y 0).val)
      (by have h : (y 0).val < 1024 := (y 0).isLt; have := lt_points0 p; omega)
      ⟨p.val % 8 * 512 + (y 1).val, by have h : (y 1).val < 512 := (y 1).isLt; omega⟩ := by
  show V1 m ρ c main_v1 (((cfg0.win 4).blk p).view.emb y) = _
  rw [V_h]
  exact xrow_at (by blk_simp [at0_4]) (by blk_simp [at0_4])

end Cert.Kernel2Ideal.Mlp

end
-- ==== Proof.Mlp.Resid.lean ====
/-
  The first call's three arrays: the residual rows with the projected attention added, twice, and each block's sums of
  their squares.
-/
module

public import proofs.«01_k».proof.Proof.Mlp.Entry

@[expose] public section

set_option maxRecDepth 16384

noncomputable section

namespace Cert.Kernel2Ideal.Mlp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

open Cert.InProjTarget Cert.MlpTarget

variable (m : (ℓ : Loc nD τ sig) → Buf (Elt Ideal) ℓ) (ρ : Dev nD → PrngReg)

/-- Row `r` after the projection. -/
abbrev resRow (c : Dev nD) (r : ℕ) (hr : r < 16384) (n : Fin 4096) : EReal := resid (argO m c) (argH m c) (argWo m c) r hr n

theorem resRow_at {c : Dev nD} {r s : ℕ} {hr : r < 16384} {hs : s < 16384} {k l : Fin 4096} (h : r = s) (hk : k.val = l.val) :
    resRow m c r hr k = resRow m c s hs l := by
  subst h; exact congrArg _ (Fin.ext hk)

/-- All rows. -/
def resArr (c : Dev nD) (i : S16384x4096.Idx) : EReal := resRow m c (i 0).val (i 0).isLt (i 1)

/-- The sums of squares over blocks of 512 columns, each in 128 lanes. -/
def sqArr (c : Dev nD) (i : S16384x1024.Idx) : EReal :=
  ∑ k : Fin 512, resRow m c (i 0).val (i 0).isLt ⟨(i 1).val / 128 * 512 + k.val, by have h : (i 1).val < 1024 := (i 1).isLt; omega⟩
    * resRow m c (i 0).val (i 0).isLt ⟨(i 1).val / 128 * 512 + k.val, by have h : (i 1).val < 1024 := (i 1).isLt; omega⟩

/-- A sum over 4096 in two halves. -/
theorem two_halves (f : Fin 4096 → EReal) :
    (∑ k : Fin 2048, f ⟨k.val, by omega⟩) + (∑ k : Fin 2048, f ⟨2048 + k.val, by omega⟩) = ∑ k, f k :=
  (Fin.sum_univ_add (a := 2048) (b := 2048) f).symm

/-- What a point computes, at the place its block gives it. -/
theorem resid_block (c : Dev nD) (t : Fin cfg0.N) (y : S1024x512.Idx) (r : ℕ) (hr : r < 16384) (n : Fin 4096)
    (h0 : r = t.val / 8 * 1024 + (y 0).val) (h1 : n.val = t.val % 8 * 512 + (y 1).val) :
    k0_pay1 (F := Ideal) (iblk0 (V1 m ρ) c 0 t) (iblk0 (V1 m ρ) c 2 t) (iblk0 (V1 m ρ) c 1 t) (iblk0 (V1 m ρ) c 3 t) (iblk0 (V1 m ρ) c 4 t) y
      = resRow m c r hr n := by
  have b1 : (y 1).val < 512 := (y 1).isLt
  refine (resid_apply _ _ _ _ _ y).trans ?_
  unfold resRow resid
  refine congrArg₂ (fun a b : EReal => a + b) ?_ ?_
  · exact (blk0_4 m ρ c t y).trans (xrow_at h0.symm h1.symm)
  · rw [← two_halves]
    have col : (⟨t.val % 8 * 512 + (y 1).val, by omega⟩ : Fin 4096) = n := Fin.ext h1.symm
    refine congrArg₂ (fun a b : EReal => a + b) (Finset.sum_congr rfl fun k _ => ?_) (Finset.sum_congr rfl fun k _ => ?_)
    · refine congrArg₂ (fun a b : EReal => a * b) ((blk0_0 m ρ c t _).trans (xrow_at h0.symm rfl)) ((blk0_2 m ρ c t _).trans ?_)
      exact congrArg (fun z => argWo m c (ValueIdx.ix3 (n0 := 1) (n1 := 4096) (n2 := 4096) 0 ⟨k.val, by omega⟩ z)) col
    · refine congrArg₂ (fun a b : EReal => a * b) ((blk0_1 m ρ c t _).trans (xrow_at h0.symm rfl)) ((blk0_3 m ρ c t _).trans ?_)
      exact congrArg (fun z => argWo m c (ValueIdx.ix3 (n0 := 1) (n1 := 4096) (n2 := 4096) 0 ⟨2048 + k.val, by omega⟩ z)) col

theorem out5_apply (c : Dev nD) (t : Fin cfg0.N) (y : S1024x512.Idx) (i : S16384x4096.Idx) (h0 : (i 0).val = t.val / 8 * 1024 + (y 0).val)
    (h1 : (i 1).val = t.val % 8 * 512 + (y 1).val) :
    out0_5 (iblk0 (V1 m ρ) c 0 t) (iblk0 (V1 m ρ) c 1 t) (iblk0 (V1 m ρ) c 2 t) (iblk0 (V1 m ρ) c 3 t) (iblk0 (V1 m ρ) c 4 t) y = resArr m c i := by
  frame_out
  exact resid_block m ρ c t y _ _ _ h0 h1

theorem out6_apply (c : Dev nD) (t : Fin cfg0.N) (y : S1024x512.Idx) (i : S16384x4096.Idx) (h0 : (i 0).val = t.val / 8 * 1024 + (y 0).val)
    (h1 : (i 1).val = t.val % 8 * 512 + (y 1).val) :
    out0_6 (iblk0 (V1 m ρ) c 0 t) (iblk0 (V1 m ρ) c 1 t) (iblk0 (V1 m ρ) c 2 t) (iblk0 (V1 m ρ) c 3 t) (iblk0 (V1 m ρ) c 4 t) y = resArr m c i := by
  frame_out
  exact resid_block m ρ c t y _ _ _ h0 h1

theorem out7_apply (c : Dev nD) (t : Fin cfg0.N) (y : S1024x128.Idx) (i : S16384x1024.Idx) (h0 : (i 0).val = t.val / 8 * 1024 + (y 0).val)
    (h1 : (i 1).val = t.val % 8 * 128 + (y 1).val) :
    out0_7 (iblk0 (V1 m ρ) c 0 t) (iblk0 (V1 m ρ) c 1 t) (iblk0 (V1 m ρ) c 2 t) (iblk0 (V1 m ρ) c 3 t) (iblk0 (V1 m ρ) c 4 t) y = sqArr m c i := by
  have b1 : (y 1).val < 128 := (y 1).isLt
  frame_out
  refine (squares_apply _ _ _ _ _ y).trans ?_
  unfold sqArr
  refine Finset.sum_congr rfl fun k _ => ?_
  have e := resid_block m ρ c t (ValueIdx.ix2 (n0 := 1024) (n1 := 512) (y 0) k) (i 0).val (i 0).isLt
    ⟨(i 1).val / 128 * 512 + k.val, by have h : (i 1).val < 1024 := (i 1).isLt; omega⟩ h0
    (by show (i 1).val / 128 * 512 + k.val = t.val % 8 * 512 + k.val; omega)
  exact congrArg₂ (fun a b : EReal => a * b) e e

theorem arr0_5 (c : Dev nD) : (dat0 (V1 m ρ) c).arrAt 5 cfg0.N = resArr m c := by
  refine (dat0 (V1 m ρ) c).arrAt_eq_of_covers 5 _ (by decide +kernel) fun t _ y => ?_
  blk_simp; rw [after0_5]
  exact out5_apply m ρ c t y _ (by blk_simp [at0_5]) (by blk_simp [at0_5])
theorem arr0_6 (c : Dev nD) : (dat0 (V1 m ρ) c).arrAt 6 cfg0.N = resArr m c := by
  refine (dat0 (V1 m ρ) c).arrAt_eq_of_covers 6 _ (by decide +kernel) fun t _ y => ?_
  blk_simp; rw [after0_6]
  exact out6_apply m ρ c t y _ (by blk_simp [at0_6]) (by blk_simp [at0_6])
theorem arr0_7 (c : Dev nD) : (dat0 (V1 m ρ) c).arrAt 7 cfg0.N = sqArr m c := by
  refine (dat0 (V1 m ρ) c).arrAt_eq_of_covers 7 _ (by decide +kernel) fun t _ y => ?_
  blk_simp; rw [after0_7]
  exact out7_apply m ρ c t y _ (by blk_simp [at0_7]) (by blk_simp [at0_7])

end Cert.Kernel2Ideal.Mlp

end
-- ==== Proof.Mlp.Scale.lean ====
/-
  A row's scale taken out of its product: a non-negative real factor passes through the sum over the row and through the
  positive part.
-/
module

public import proofs.«01_k».proof.Proof.Mlp.Payloads
public import proofs.«01_k».proof.Proof.Mlp.Target

@[expose] public section

noncomputable section

namespace Cert.Kernel2Ideal.Mlp

open Idealize.ShloMosaic Cert.InProjTarget Cert.MlpTarget

/-- The small constant under the root is a positive real; -/
theorem small_pos : ∃ e : ℝ, 0 < e ∧ Ideal.ofBits .f32 0x358637BD#32 = (e : EReal) := by
  refine ⟨_, ?_, by simp [Ideal.ofBits, Ideal.ieee, -EReal.coe_mul]; rfl⟩
  norm_num
/-- a row's length -/
theorem length_eq : Ideal.ofBits .f32 0x45800000#32 = ((4096 : ℝ) : EReal) := by
  simp [Ideal.ofBits, Ideal.ieee, -EReal.coe_mul]; norm_num
/-- and its inverse. -/
theorem inv_length_eq : Ideal.ofBits .f32 0x39800000#32 = (((4096 : ℝ)⁻¹ : ℝ) : EReal) := by
  simp [Ideal.ofBits, Ideal.ieee, -EReal.coe_mul]; norm_num

/-- Multiplying by the inverse of the length divides by it. -/
theorem rsc_eq (X : Fin 4096 → EReal) : rsc (∑ k, X k * X k) = scale X := by
  unfold rsc scale
  congr 2
  rw [length_eq, inv_length_eq, Ideal.div, if_neg (by exact_mod_cast (by norm_num : (4096 : ℝ) ≠ 0)), EReal.coe_inv]

/-- A square is not negative. -/
theorem square_nonneg (x : EReal) : 0 ≤ x * x := by
  rcases le_total 0 x with h | h
  · exact EReal.mul_nonneg h h
  · exact EReal.mul_nonneg_iff.mpr (.inr ⟨h, h⟩)

/-- A row's scale is a non-negative real. -/
theorem scale_bounds (X : Fin 4096 → EReal) : 0 ≤ scale X ∧ scale X ≠ ⊤ := by
  rw [← rsc_eq]
  have hs : 0 ≤ ∑ k, X k * X k := Finset.sum_nonneg fun k _ => square_nonneg _
  generalize (∑ k, X k * X k) = s at hs
  unfold rsc
  obtain ⟨e, he, hee⟩ := small_pos
  rw [hee, inv_length_eq]
  have hm : 0 ≤ s * (((4096 : ℝ)⁻¹ : ℝ) : EReal) := EReal.mul_nonneg hs (by exact_mod_cast (by norm_num : (0 : ℝ) ≤ (4096 : ℝ)⁻¹))
  generalize s * (((4096 : ℝ)⁻¹ : ℝ) : EReal) = q at hm
  have hp : 0 < q + (e : EReal) := lt_of_lt_of_le (by exact_mod_cast he) (le_add_of_nonneg_left hm)
  generalize q + (e : EReal) = y at hp
  induction y using EReal.rec with
  | bot => exact absurd hp (by simp)
  | top => rw [Ideal.rsqrt_top]; exact ⟨le_rfl, EReal.zero_ne_top⟩
  | coe r =>
    have hr : 0 < r := by exact_mod_cast hp
    rw [Ideal.rsqrt_coe, if_neg (by linarith), if_neg (by linarith)]
    exact ⟨by exact_mod_cast (inv_nonneg.mpr (Real.sqrt_nonneg r)), EReal.coe_ne_top _⟩

/-- A non-negative real factor passes through a sum. -/
theorem factor_sum {ι : Type} (S : Finset ι) (f : ι → EReal) {x : EReal} (h0 : 0 ≤ x) (ht : x ≠ ⊤) : ∑ k ∈ S, x * f k = x * ∑ k ∈ S, f k := by
  classical
  induction S using Finset.induction_on with
  | empty => rw [Finset.sum_empty, Finset.sum_empty, mul_zero]
  | insert a S ha ih => rw [Finset.sum_insert ha, Finset.sum_insert ha, ih, EReal.left_distrib_of_nonneg_of_ne_top h0 ht]

/-- And through the positive part. -/
theorem factor_max {x : EReal} (h0 : 0 ≤ x) (v : EReal) : max (x * v) 0 = x * max v 0 := by
  rcases le_total 0 v with h | h
  · rw [max_eq_left h, max_eq_left (EReal.mul_nonneg h0 h)]
  · rw [max_eq_right h, mul_zero, max_eq_right]
    have := EReal.mul_nonneg h0 (EReal.neg_nonneg.mpr h)
    rw [mul_neg] at this
    exact EReal.neg_nonneg.mp this

/-- The rows times the weight with the gain in it, then the scale squared: the same as the normalised row's product. -/
theorem act_eq (X G W : Fin 4096 → EReal) :
    act (∑ l, X l * (G l * W l)) (∑ k, X k * X k) = pass (proj X G W) := by
  obtain ⟨h0, ht⟩ := scale_bounds X
  have e : proj X G W = scale X * ∑ l, X l * (G l * W l) := by
    rw [← factor_sum _ _ h0 ht]
    unfold proj normed
    refine Finset.sum_congr rfl fun l _ => ?_
    rw [mul_comm (X l) (scale X), mul_assoc, mul_assoc]
  unfold act pass
  rw [rsc_eq, e, factor_max h0, mul_mul_mul_comm (scale X), mul_comm]

end Cert.Kernel2Ideal.Mlp

end
-- ==== Proof.Mlp.Second.lean ====
/-
  What the second call's arrays hold when it starts, what its points read of them, and the array it ends with.
-/
module

public import proofs.«01_k».proof.Proof.Mlp.Accum
public import proofs.«01_k».proof.Proof.Mlp.Resid
public import proofs.«01_k».proof.Proof.Mlp.Scale

@[expose] public section

set_option maxRecDepth 16384

noncomputable section

namespace Cert.Kernel2Ideal.Mlp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

open Cert.InProjTarget Cert.MlpTarget

variable (m : (ℓ : Loc nD τ sig) → Buf (Elt Ideal) ℓ) (ρ : Dev nD → PrngReg)

theorem V3_rows (c : Dev nD) : V3 m ρ c main_v12_0 = resArr m c :=
  (W3_of m ρ c main_v12_0 (by decide)).trans ((W2_arr m ρ c 5).trans (arr0_5 m ρ c))
theorem V3_copy (c : Dev nD) : V3 m ρ c main_v12_1 = resArr m c :=
  (W3_of m ρ c main_v12_1 (by decide)).trans ((W2_arr m ρ c 6).trans (arr0_6 m ρ c))
theorem V3_squares (c : Dev nD) : V3 m ρ c main_v12_2 = sqArr m c :=
  (W3_of m ρ c main_v12_2 (by decide)).trans ((W2_arr m ρ c 7).trans (arr0_7 m ρ c))
theorem V3_up (c : Dev nD) : V3 m ρ c main_v7 = upWeight (argG m c) (argU m c) :=
  (W3_of m ρ c main_v7 (by decide)).trans ((W2_of m ρ c main_v7 (by decide)).trans (funext fun i => V_u m ρ c i))
theorem V3_down (c : Dev nD) : V3 m ρ c main_v9 = downWeight (argD m c) :=
  (W3_of m ρ c main_v9 (by decide)).trans ((W2_of m ρ c main_v9 (by decide)).trans (funext fun i => V_d m ρ c i))

/-- The last gain as a row. -/
theorem V3_gain (c : Dev nD) (i : S1x4096.Idx) : V3 m ρ c main_v13 i = argF m c (ValueIdx.ix1 (n := 4096) (i 1)) := by
  have h0 : (i 0).val < 1 := (i 0).isLt
  simp only [V3, W3, hostOps1]
  after_results_simp
  rw [W2_args m ρ c main_arg6 (by decide)]
  exact shapeCast_apply _ shapeCasts_S4096_S1x4096 i (ValueIdx.ix1 (n := 4096) (i 1)) (by
    rw [Shape.rowMajor_val_one, Shape.rowMajor_val_two]
    show (i 1).val = (i 0).val * 4096 + (i 1).val; omega)

/-! ### The blocks of the second call's points -/

theorem at1_0 : ∀ t : Fin cfg1.N, win1_0.index t = ![t.val / 32, 0] := (by decide +kernel : ∀ t : Fin grid1.N, _)
theorem at1_1 : ∀ t : Fin cfg1.N, win1_1.index t = ![t.val / 32, 0] := (by decide +kernel : ∀ t : Fin grid1.N, _)
theorem at1_2 : ∀ t : Fin cfg1.N, win1_2.index t = ![t.val, 0] := (by decide +kernel : ∀ t : Fin grid1.N, _)
theorem at1_3 : ∀ t : Fin cfg1.N, win1_3.index t = ![0, t.val % 32] := (by decide +kernel : ∀ t : Fin grid1.N, _)
theorem at1_4 : ∀ t : Fin cfg1.N, win1_4.index t = ![t.val % 32, 0] := (by decide +kernel : ∀ t : Fin grid1.N, _)
theorem at1_5 : ∀ t : Fin cfg1.N, win1_5.index t = ![0, 0] := (by decide +kernel : ∀ t : Fin grid1.N, _)
theorem at1_6 : ∀ t : Fin cfg1.N, win1_6.index t = ![t.val / 32, 0] := (by decide +kernel : ∀ t : Fin grid1.N, _)

theorem lt_points1 (t : Fin cfg1.N) : t.val < 1024 := t.isLt

/-- A point reads its row tile's rows, -/
theorem blk1_0 (c : Dev nD) (t : Fin cfg1.N) (y : S512x4096.Idx) :
    iblk1 (V3 m ρ) c 0 t y = resRow m c (t.val / 32 * 512 + (y 0).val)
      (by have h : (y 0).val < 512 := (y 0).isLt; have := lt_points1 t; omega) (y 1) := by
  show V3 m ρ c main_v12_1 (((cfg1.win 0).blk t).view.emb y) = _
  rw [V3_copy]
  exact resRow_at m (by blk_simp [at1_0]) (by blk_simp [at1_0])
/-- the sums of their squares, -/
theorem blk1_1 (c : Dev nD) (t : Fin cfg1.N) (y : S512x1024.Idx) :
    iblk1 (V3 m ρ) c 1 t y = sqArr m c (ValueIdx.ix2 (n0 := 16384) (n1 := 1024) ⟨t.val / 32 * 512 + (y 0).val,
      by have h : (y 0).val < 512 := (y 0).isLt; have := lt_points1 t; omega⟩ (y 1)) := by
  show V3 m ρ c main_v12_2 (((cfg1.win 1).blk t).view.emb y) = _
  rw [V3_squares]
  refine congrArg (sqArr m c) (funext fun a => Fin.ext ?_)
  match a with
  | ⟨0, _⟩ =>
    show ((((cfg1.win 1).blk t).view.emb y) 0 : ℕ) = t.val / 32 * 512 + (y 0).val
    blk_simp [at1_1]
  | ⟨1, _⟩ =>
    show ((((cfg1.win 1).blk t).view.emb y) 1 : ℕ) = (y 1).val
    blk_simp [at1_1]
/-- sixteen rows of the residual, -/
theorem blk1_2 (c : Dev nD) (t : Fin cfg1.N) (y : S16x4096.Idx) :
    iblk1 (V3 m ρ) c 2 t y = resRow m c (t.val * 16 + (y 0).val)
      (by have h : (y 0).val < 16 := (y 0).isLt; have := lt_points1 t; omega) (y 1) := by
  show V3 m ρ c main_v12_0 (((cfg1.win 2).blk t).view.emb y) = _
  rw [V3_rows]
  exact resRow_at m (by blk_simp [at1_2]) (by blk_simp [at1_2])
/-- 512 columns of the first weight, -/
theorem blk1_3 (c : Dev nD) (t : Fin cfg1.N) (y : S4096x512.Idx) :
    iblk1 (V3 m ρ) c 3 t y = gain (argG m c) (y 0) * ucol (argU m c)
      ⟨t.val % 32 * 512 + (y 1).val, by have h : (y 1).val < 512 := (y 1).isLt; omega⟩ (y 0) := by
  show V3 m ρ c main_v7 (((cfg1.win 3).blk t).view.emb y) = _
  rw [V3_up]
  exact congrArg₂ (fun a b => gain (argG m c) a * ucol (argU m c) b a) (Fin.ext (by blk_simp [at1_3])) (Fin.ext (by blk_simp [at1_3]))
/-- 512 rows of the second -/
theorem blk1_4 (c : Dev nD) (t : Fin cfg1.N) (y : S512x4096.Idx) :
    iblk1 (V3 m ρ) c 4 t y = argD m c (ValueIdx.ix3 (n0 := 1) (n1 := 16384) (n2 := 4096) 0
      ⟨t.val % 32 * 512 + (y 0).val, by have h : (y 0).val < 512 := (y 0).isLt; omega⟩ (y 1)) := by
  show V3 m ρ c main_v9 (((cfg1.win 4).blk t).view.emb y) = _
  rw [V3_down]
  exact congrArg₂ (fun a b => argD m c (ValueIdx.ix3 (n0 := 1) (n1 := 16384) (n2 := 4096) 0 a b)) (Fin.ext (by blk_simp [at1_4])) (Fin.ext (by blk_simp [at1_4]))
/-- and the last gain. -/
theorem blk1_5 (c : Dev nD) (t : Fin cfg1.N) (y : S1x4096.Idx) :
    iblk1 (V3 m ρ) c 5 t y = argF m c (ValueIdx.ix1 (n := 4096) (y 1)) := by
  show V3 m ρ c main_v13 (((cfg1.win 5).blk t).view.emb y) = _
  rw [V3_gain]
  exact congrArg (fun a => argF m c (ValueIdx.ix1 (n := 4096) a)) (Fin.ext (by blk_simp [at1_5]))

/-! ### The array -/

/-- The eight blocks' sums are the row's sum of squares. -/
theorem lanes_row (c : Dev nD) (t : Fin cfg1.N) (r : Fin 512) (l : Fin 128) (R : ℕ) (hR : R < 16384) (h : R = t.val / 32 * 512 + r.val) :
    lanes (iblk1 (V3 m ρ) c 1 t) r l = ∑ k, resRow m c R hR k * resRow m c R hR k := by
  subst h
  refine Eq.trans ?_ (Fin.sum_mul_add_fin (M := EReal) (L := 4096) 8 512 (fun k => resRow m c _ hR k * resRow m c _ hR k))
  unfold lanes
  refine Finset.sum_congr rfl fun b _ => ?_
  refine Eq.trans (α := EReal) (blk1_1 m ρ c t _) ?_
  unfold sqArr
  refine Finset.sum_congr (M := EReal) rfl fun k _ => ?_
  have e : (128 * b.val + l.val) / 128 * 512 + k.val = b.val * 512 + k.val := by omega
  exact congrArg₂ (fun a b : EReal => a * b) (resRow_at m rfl e) (resRow_at m rfl e)

/-- A tile's part, over the rows. -/
theorem tile_row (c : Dev nD) (t : Fin cfg1.N) (j : S512x4096.Idx) (R : ℕ) (hR : R < 16384) (h : R = t.val / 32 * 512 + (j 0).val) :
    tilePart (iblk1 (V3 m ρ) c 0 t) (iblk1 (V3 m ρ) c 1 t) (iblk1 (V3 m ρ) c 3 t) (iblk1 (V3 m ρ) c 4 t) j
      = ∑ k : Fin 512, pass (proj (resRow m c R hR) (gain (argG m c)) (ucol (argU m c) ⟨t.val % 32 * 512 + k.val, by omega⟩))
        * argD m c (ValueIdx.ix3 (n0 := 1) (n1 := 16384) (n2 := 4096) 0 ⟨t.val % 32 * 512 + k.val, by omega⟩ (j 1)) := by
  unfold tilePart
  refine Finset.sum_congr rfl fun k _ => ?_
  refine congrArg₂ (fun a b : EReal => a * b) ?_ (blk1_4 m ρ c t _)
  rw [← act_eq, lanes_row m ρ c t _ _ R hR h]
  refine congrArg (fun z => act z _) (Finset.sum_congr rfl fun l _ => ?_)
  exact congrArg₂ (fun a b : EReal => a * b) ((blk1_0 m ρ c t _).trans (resRow_at m h.symm rfl)) (blk1_3 m ρ c t _)

/-- The rows a point carries over. -/
theorem carried_row (c : Dev nD) (t : Fin cfg1.N) (j : S512x4096.Idx) (R : ℕ) (hR : R < 16384) (h : R = t.val / 32 * 512 + (j 0).val) :
    carried (t.val % 32) (iblk1 (V3 m ρ) c 2 t) j = if t.val % 32 = (j 0).val / 16 then resRow m c R hR (j 1) else 0 := by
  have b0 : (j 0).val < 512 := (j 0).isLt
  unfold carried
  by_cases hq : t.val % 32 = (j 0).val / 16
  · rw [if_pos hq, dif_pos (by omega)]
    refine (blk1_2 m ρ c t _).trans (resRow_at m ?_ rfl)
    show t.val * 16 + ((j 0).val - 16 * (t.val % 32)) = R; omega
  · rw [if_neg hq, dif_neg (by omega)]

/-- What a row tile's points add up to. -/
theorem tile_total (c : Dev nD) (t : Fin cfg1.N) (hp : ∀ s : Fin 32, 32 * (t.val / 32) + s.val < cfg1.N) (j : S512x4096.Idx) (R : ℕ) (hR : R < 16384)
    (h : R = t.val / 32 * 512 + (j 0).val) :
    0 + ∑ s : Fin 32, added (V3 m ρ) c ⟨32 * (t.val / 32) + s.val, hp s⟩ j
      = mixed (resRow m c R hR) (gain (argG m c)) (argU m c) (argD m c) (j 1) := by
  have b0 : (j 0).val < 512 := (j 0).isLt
  rw [zero_add]
  unfold mixed
  rw [← Fin.sum_mul_add_fin (L := 16384) 32 512]
  have hs : ∀ s : Fin 32, added (V3 m ρ) c ⟨32 * (t.val / 32) + s.val, hp s⟩ j
      = (if s = ⟨(j 0).val / 16, by omega⟩ then resRow m c R hR (j 1) else 0)
        + ∑ k : Fin 512, pass (proj (resRow m c R hR) (gain (argG m c)) (ucol (argU m c) ⟨s.val * 512 + k.val, by omega⟩))
          * argD m c (ValueIdx.ix3 (n0 := 1) (n1 := 16384) (n2 := 4096) 0 ⟨s.val * 512 + k.val, by omega⟩ (j 1)) := fun s => by
    have e : (32 * (t.val / 32) + s.val) % 32 = s.val := by omega
    have e' : R = (32 * (t.val / 32) + s.val) / 32 * 512 + (j 0).val := by omega
    unfold added
    refine congrArg₂ (fun a b : EReal => a + b) ((carried_row m ρ c ⟨_, hp s⟩ j R hR e').trans ?_) ((tile_row m ρ c ⟨_, hp s⟩ j R hR e').trans ?_)
    · refine if_congr ?_ rfl rfl
      refine Iff.trans ?_ Fin.ext_iff.symm
      show (32 * (t.val / 32) + s.val) % 32 = (j 0).val / 16 ↔ s.val = (j 0).val / 16
      rw [e]
    · refine Finset.sum_congr rfl fun k _ => ?_
      have ek : (⟨(32 * (t.val / 32) + s.val) % 32 * 512 + k.val, by omega⟩ : Fin 16384) = ⟨s.val * 512 + k.val, by omega⟩ := Fin.ext (by
        show (32 * (t.val / 32) + s.val) % 32 * 512 + k.val = s.val * 512 + k.val; rw [e])
      exact congrArg (fun z => pass (proj (resRow m c R hR) (gain (argG m c)) (ucol (argU m c) z))
        * argD m c (ValueIdx.ix3 (n0 := 1) (n1 := 16384) (n2 := 4096) 0 z (j 1))) ek
  rw [Finset.sum_congr rfl fun s _ => hs s, Finset.sum_add_distrib, Finset.sum_ite_eq' Finset.univ, if_pos (Finset.mem_univ _)]

/-- What a row tile's last point leaves. -/
theorem final_block (c : Dev nD) (t : Fin cfg1.N) (ht : t.val % 32 = 31) (y : S512x4096.Idx) (i : S16384x4096.Idx)
    (h0 : (i 0).val = t.val / 32 * 512 + (y 0).val) (h1 : (i 1).val = (y 1).val) :
    outsAt1 (V3 m ρ) c t.val t.isLt y = result (argO m c) (argH m c) (argWo m c) (argG m c) (argU m c) (argD m c) (argF m c) i := by
  rw [left_at_flush (V3 m ρ) c t ht]
  unfold rowsNormed result
  have e1 : y 1 = i 1 := Fin.ext h1.symm
  rw [show (fun k => iblk1 (V3 m ρ) c 5 t (ValueIdx.ix2 (n0 := 1) (n1 := 4096) 0 k)) = fun k => argF m c (ValueIdx.ix1 (n := 4096) k) from
    funext fun k => blk1_5 m ρ c t _]
  refine congrArg₂ (fun X n => normed X (fun k => argF m c (ValueIdx.ix1 (n := 4096) k)) n) (funext fun k => ?_) e1
  exact tile_total m ρ c t _ (ValueIdx.ix2 (n0 := 512) (n1 := 4096) (y 0) k) (i 0).val (i 0).isLt h0

theorem arr1_6 (c : Dev nD) : (dat1 (V3 m ρ) c).arrAt 6 cfg1.N
    = result (argO m c) (argH m c) (argWo m c) (argG m c) (argU m c) (argD m c) (argF m c) := by
  refine (dat1 (V3 m ρ) c).arrAt_eq_of_covers 6 _ (by decide +kernel) fun t hf y => ?_
  blk_simp; rw [after1_6]
  exact final_block m ρ c t ((flush1_6 t).mp hf) y _ (by blk_simp [at1_6]) (by blk_simp [at1_6])

end Cert.Kernel2Ideal.Mlp

end
-- ==== Proof.Mlp.ReferenceValue.lean ====
/-
  The second reference's result is the array of `Target`.
-/
module

public import proofs.«01_k».proof.Proof.Gen.Reference2Ideal.Run
public import proofs.«01_k».proof.Proof.Gen.Reference2Ideal.Read
public import proofs.«01_k».proof.Proof.Mlp.Target

@[expose] public section

set_option maxRecDepth 16384

noncomputable section

namespace Cert.Reference2Ideal.Mlp

open Cert.Reference2Ideal Cert.Reference2Ideal.Gen Cert.Reference2Ideal.Read Cert.InProjTarget Cert.MlpTarget
open Idealize.ShloMosaic Idealize.ShloMosaic.TcCoe Idealize.SL.Sem Idealize.ShloMosaic.StableHlo Idealize.ShloMosaic.ValueIdx

variable (o : (⟨S4x4096x4096, .bf16⟩ : BufTy).Contents (Elt Ideal)) (h : (⟨S4x4096x4096, .f32⟩ : BufTy).Contents (Elt Ideal))
  (wo : (⟨S1x4096x4096, .f32⟩ : BufTy).Contents (Elt Ideal)) (g : (⟨S1x4096, .f32⟩ : BufTy).Contents (Elt Ideal))
  (u : (⟨S1x4096x16384, .f32⟩ : BufTy).Contents (Elt Ideal)) (d : (⟨S1x16384x4096, .f32⟩ : BufTy).Contents (Elt Ideal))
  (gf : (⟨S4096, .f32⟩ : BufTy).Contents (Elt Ideal))

/-- An entry of a three-axis array, its two outer coordinates joined. -/
theorem row_at (x : S4x4096x4096.Idx → EReal) (i : S4x4096x4096.Idx) (r : ℕ) (hr : r < 16384) (h0 : (i 0).val = r / 4096)
    (h1 : (i 1).val = r % 4096) : x i = xrow x r hr (i 2) :=
  congrArg x (funext fun a => Fin.ext (by match a with | ⟨0, _⟩ => exact h0 | ⟨1, _⟩ => exact h1 | ⟨2, _⟩ => rfl))

/-- The residual rows. -/
theorem resid_at (i : S4x4096x4096.Idx) (r : ℕ) (hr : r < 16384) (h0 : (i 0).val = r / 4096) (h1 : (i 1).val = r % 4096) :
    val_main_v2 (F := Ideal) o h wo i = resid o h wo r hr (i 2) := by
  have h2 : (i 2).val < 4096 := (i 2).isLt
  rw [val_main_v2_apply, val_main_v1_apply]
  refine congrArg₂ (fun a b : EReal => a + b) (row_at h i r hr h0 h1) (Finset.sum_congr rfl fun k _ => ?_)
  rw [val_main_v0_apply]
  refine congrArg₂ (fun a b : EReal => a * b) (row_at o _ r hr h0 h1) (congrArg wo (funext fun a => Fin.ext ?_))
  have hk := k.isLt
  match a with
  | ⟨0, _⟩ => rfl
  | ⟨1, _⟩ => show (k.val * 4096 + (i 2).val) / 4096 % 4096 = k.val; omega
  | ⟨2, _⟩ => show (k.val * 4096 + (i 2).val) % 4096 = (i 2).val; omega

/-- The normalised rows. -/
theorem norm_at (i : S4x4096x4096.Idx) (r : ℕ) (hr : r < 16384) (h0 : (i 0).val = r / 4096) (h1 : (i 1).val = r % 4096) :
    val_main_v16 (F := Ideal) o h wo g i = normed (resid o h wo r hr) (gain g) (i 2) := by
  have hx : ∀ k : Fin 4096, val_main_v2 (F := Ideal) o h wo (idx_main_v5 (idx_main_v6 (idx_main_v12 i)) k) = resid o h wo r hr k :=
    fun k => resid_at o h wo _ r hr h0 h1
  have hg : g (idx_main_v3 (idx_main_v14 (idx_main_v15 i))) = gain g (i 2) :=
    congrArg g (funext fun a => Fin.ext (by
      have h2 : (i 2).val < 4096 := (i 2).isLt
      match a with | ⟨0, _⟩ => rfl | ⟨1, _⟩ => exact Nat.mod_eq_of_lt h2))
  rw [val_main_v16_apply, val_main_v13_apply, val_main_v15_apply, val_main_v14_apply, val_main_v3_apply, val_main_v12_apply,
    val_main_v11_apply, val_main_v10_apply, val_main_v8_apply, val_main_v6_apply, val_main_v5_apply, val_main_v7_apply,
    val_main_v9_apply, val_main_cst_apply, val_main_cst_0_apply, val_main_cst_1_apply, hg, resid_at o h wo i r hr h0 h1]
  simp only [val_main_v4_apply, hx]
  refine congrArg (fun s : EReal => resid o h wo r hr (i 2) * Ideal.rsqrt (Ideal.div s (Ideal.ofBits .f32 0x45800000#32)
    + Ideal.ofBits .f32 0x358637BD#32) * gain g (i 2)) ?_
  exact (congrArg (fun z : EReal => z + _) Ideal.ofBits_zero_f32).trans (zero_add _)

/-- The hidden channels. -/
theorem hidden_at (i : S4x4096x16384.Idx) (r : ℕ) (hr : r < 16384) (h0 : (i 0).val = r / 4096) (h1 : (i 1).val = r % 4096) :
    val_main_v20 (F := Ideal) o h wo g u i = pass (proj (resid o h wo r hr) (gain g) (ucol u (i 2))) := by
  have h2 : (i 2).val < 16384 := (i 2).isLt
  have e : val_main_v18 (F := Ideal) o h wo g u i = proj (resid o h wo r hr) (gain g) (ucol u (i 2)) := by
    rw [val_main_v18_apply]
    unfold proj
    refine Finset.sum_congr rfl fun k _ => ?_
    rw [norm_at o h wo g _ r hr h0 h1, val_main_v17_apply]
    refine congrArg (_ * ·) (congrArg u (funext fun a => Fin.ext ?_))
    have hk := k.isLt
    match a with
    | ⟨0, _⟩ => rfl
    | ⟨1, _⟩ => show (k.val * 16384 + (i 2).val) / 16384 % 4096 = k.val; omega
    | ⟨2, _⟩ => show (k.val * 16384 + (i 2).val) % 16384 = (i 2).val; omega
  rw [val_main_v20_apply, val_main_v19_apply, e, val_main_call0_v0_apply, val_main_call0_cst_apply]
  exact congrArg (fun z : EReal => max (proj (resid o h wo r hr) (gain g) (ucol u (i 2))) z
    * max (proj (resid o h wo r hr) (gain g) (ucol u (i 2))) z) Ideal.ofBits_zero_f32

/-- The rows with the layer added. -/
theorem mixed_at (i : S4x4096x4096.Idx) (r : ℕ) (hr : r < 16384) (h0 : (i 0).val = r / 4096) (h1 : (i 1).val = r % 4096) :
    val_main_v23 (F := Ideal) o h wo g u d i = mixed (resid o h wo r hr) (gain g) u d (i 2) := by
  have h2 : (i 2).val < 4096 := (i 2).isLt
  rw [val_main_v23_apply, val_main_v22_apply, resid_at o h wo i r hr h0 h1]
  refine congrArg (fun z : EReal => resid o h wo r hr (i 2) + z) (Finset.sum_congr rfl fun k _ => ?_)
  rw [val_main_v21_apply]
  refine congrArg₂ (fun a b : EReal => a * b) (hidden_at o h wo g u _ r hr h0 h1) (congrArg d (funext fun a => Fin.ext ?_))
  have hk := k.isLt
  match a with
  | ⟨0, _⟩ => rfl
  | ⟨1, _⟩ => show (k.val * 4096 + (i 2).val) / 4096 % 16384 = k.val; omega
  | ⟨2, _⟩ => show (k.val * 4096 + (i 2).val) % 4096 = (i 2).val; omega

/-- The rows normalised once more. -/
theorem final_at (i : S4x4096x4096.Idx) (r : ℕ) (hr : r < 16384) (h0 : (i 0).val = r / 4096) (h1 : (i 1).val = r % 4096) :
    val_main_v36 (F := Ideal) o h wo g u d gf i
      = normed (mixed (resid o h wo r hr) (gain g) u d) (fun k => gf (ix1 k)) (i 2) := by
  have hx : ∀ k : Fin 4096, val_main_v23 (F := Ideal) o h wo g u d (idx_main_v25 (idx_main_v26 (idx_main_v32 i)) k)
      = mixed (resid o h wo r hr) (gain g) u d k := fun k => mixed_at o h wo g u d _ r hr h0 h1
  have hg : gf (idx_main_v34 (idx_main_v35 i)) = gf (ix1 (i 2)) :=
    congrArg gf (funext fun a => Fin.ext (by match a with | ⟨0, _⟩ => rfl))
  rw [val_main_v36_apply, val_main_v33_apply, val_main_v35_apply, val_main_v34_apply, val_main_v32_apply,
    val_main_v31_apply, val_main_v30_apply, val_main_v28_apply, val_main_v26_apply, val_main_v25_apply, val_main_v27_apply,
    val_main_v29_apply, val_main_cst_2_apply, val_main_cst_3_apply, val_main_cst_4_apply, hg, mixed_at o h wo g u d i r hr h0 h1]
  simp only [val_main_v24_apply, hx]
  refine congrArg (fun s : EReal => mixed (resid o h wo r hr) (gain g) u d (i 2) * Ideal.rsqrt (Ideal.div s (Ideal.ofBits .f32 0x45800000#32)
    + Ideal.ofBits .f32 0x358637BD#32) * gf (ix1 (i 2))) ?_
  exact (congrArg (fun z : EReal => z + _) Ideal.ofBits_zero_f32).trans (zero_add _)

/-- The reference's result. -/
theorem result_eq : val_main_v37 (F := Ideal) o h wo g u d gf = result o h wo g u d gf := by
  funext y
  have y0 : (y 0).val < 16384 := (y 0).isLt
  have y1 : (y 1).val < 4096 := (y 1).isLt
  rw [val_main_v37_apply]
  refine (final_at o h wo g u d gf _ (y 0).val y0
    (by show ((y 0).val * 4096 + (y 1).val) / 16777216 = _; omega)
    (by show ((y 0).val * 4096 + (y 1).val) / 4096 % 4096 = _; omega)).trans ?_
  refine congrArg (normed _ _) (Fin.ext ?_)
  show ((y 0).val * 4096 + (y 1).val) % 4096 = (y 1).val; omega

end Cert.Reference2Ideal.Mlp

end
-- ==== Proof.Mlp.Algebraic.lean ====
/-
  The second program and its reference end with the same array, over the extended reals: both are the array of `Target`.
-/
module

public import proofs.«01_k».proof.Defs
public import proofs.«01_k».proof.Proof.Mlp.Run
public import proofs.«01_k».proof.Proof.Mlp.Second
public import proofs.«01_k».proof.Proof.Mlp.ReferenceValue
public import proofs.«01_k».proof.Proof.Gen.Reference2Ideal.Run
public import proofs.«01_k».proof.Proof.Gen.Reference2Ideal.Read

@[expose] public section

set_option maxRecDepth 16384

noncomputable section

namespace Cert.Proof

open Idealize.ShloMosaic Idealize.SL.Sem Cert.MlpTarget
open Cert.Kernel2Ideal.Mlp (argO argH argWo argG argU argD argF arr1_6 run_main)

/-- The reference keeps its arguments and ends with every counter at zero. -/
theorem frame_reference2 : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

theorem algebraic2 : Cert.algebraic_Kernel2Ideal_Reference2Ideal (hKernel2Ideal := Cert.Kernel2Ideal.Gen.facts)
    (hReference2Ideal := Cert.Reference2Ideal.Gen.facts) := fun m g m' g' _ same =>
  ⟨fun c => result (argO m c) (argH m c) (argWo m c) (argG m c) (argU m c) (argD m c) (argF m c),
    (θ_run Cert.Kernel2Ideal.defs _ _).mono (fun _ h c => ⟨(h c).1.trans (arr1_6 m g c), (h c).2⟩) (run_main (F := Ideal) m g),
    (θ_run Cert.Reference2Ideal.defs _ _).mono (fun _ h c => by
      obtain ⟨h37, kept⟩ := h c
      obtain ⟨s0, s1, s2, s3, s4, s5, s6⟩ := same c
      refine ⟨?_, kept⟩
      refine h37.trans ((Cert.Reference2Ideal.Read.val_main_v37_eq m' c).trans ?_)
      rw [s0, s1, s2, s3, s4, s5, s6]; exact Cert.Reference2Ideal.Mlp.result_eq _ _ _ _ _ _ _)
      (Cert.Reference2Ideal.Value.run (F := Ideal) m' g')⟩

end Cert.Proof

end
-- ==== Proof.Cross.Run.lean ====
/-
  The third program's run: every execution ends with the two result arrays as the first and third calls' data give them
  and with the arguments as they were.
-/
module

public import proofs.«01_k».proof.Proof.Gen.Kernel3Ideal.Frame

@[expose] public section

set_option maxRecDepth 16384

noncomputable section

namespace Cert.Kernel3Ideal.Cross

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

open Idealize.ShloMosaic.Rounds

variable (m : (ℓ : Loc nD τ sig) → Buf (Elt F) ℓ) (ρ : Dev nD → PrngReg)

/-- The two result arrays after the third call. -/
theorem W6_rows (c : Dev nD) : W6 m ρ c (Proc.devRef .tc main_v5_0) = (dat0 (V1 m ρ) c).arrAt 5 cfg0.N :=
  (W6_of m ρ c main_v5_0 (by decide)).trans ((W5_of m ρ c main_v5_0 (by decide)).trans ((W4_of m ρ c main_v5_0 (by decide)).trans
    ((W3_of m ρ c main_v5_0 (by decide)).trans (W2_arr m ρ c 5))))
theorem W6_heads (c : Dev nD) : W6 m ρ c (Proc.devRef .tc main_v15) = (dat2 (V5 m ρ) c).arrAt 3 cfg2.N := W6_arr m ρ c 3

/-- The launch's own tokens, one set per pipeline, and nothing for the devices. -/
theorem tokens_at_start :
    (ownU (initOf (Pipeline.cells cfgs cellOf_inj) (Pipeline.launchToks cfgs cellOf_inj)) : sProp 𝕄)
      ⊢ |={Set.univ}=> (BI.own (emb₁ (initOf (Pipeline.cells cfgs cellOf_inj) (Pipeline.launchToks cfgs cellOf_inj)))
        ∗ bigSep Finset.univ (fun _ : Dev nD => (BI.emp : sProp 𝕄))) := by
  rw [BI.bigSep_emp_const]
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iempintro

set_option backward.isDefEq.respectTransparency.types false in
theorem run_main : θ_run defs (onTc (τ := τ) (main (F := F))) ⟨m, fun _ => 0, ρ⟩ (fun r => ∀ c : Dev nD,
      r.2.mem ((c.tc : Thread nD τ).loc main_v5_0) = (dat0 (V1 m ρ) c).arrAt 5 cfg0.N
      ∧ r.2.mem ((c.tc : Thread nD τ).loc main_v15) = (dat2 (V5 m ρ) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := tokens_at_start)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]
      · iexact Hh
      isplitl [Hp]
      · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c =>
      have at_ (b : Ref sig .tc) (hb : _) := h c _ (mem_uc b hb)
      ⟨(at_ main_v5_0 (by decide)).trans (W6_rows m ρ c), (at_ main_v15 (by decide)).trans (W6_heads m ρ c), (at_ main_arg0 (by decide)).trans (W6_main_arg0 m ρ c),
        (at_ main_arg1 (by decide)).trans (W6_main_arg1 m ρ c), (at_ main_arg2 (by decide)).trans (W6_main_arg2 m ρ c),
        (at_ main_arg3 (by decide)).trans (W6_main_arg3 m ρ c), (at_ main_arg4 (by decide)).trans (W6_main_arg4 m ρ c),
        (at_ main_arg5 (by decide)).trans (W6_main_arg5 m ρ c), (at_ main_arg6 (by decide)).trans (W6_main_arg6 m ρ c), (at_ main_arg7 (by decide)).trans (W6_main_arg7 m ρ c)⟩)

end Cert.Kernel3Ideal.Cross

end
-- ==== Proof.Cross.Target.lean ====
/-
  What the third program computes, written as sums over the extended reals: the two mixers' outputs projected and added
  to the residual stream, the queries of the normalised rows, and their attention to the memory.
-/
module

public import proofs.«01_k».proof.Proof.InProj.Target

@[expose] public section

noncomputable section

namespace Cert.CrossTarget

open Idealize.ShloMosaic Idealize.ShloMosaic.ValueIdx Cert.InProjTarget

/-- A half row, its two outer axes joined. -/
def half (x : (⟨3, ![4, 4096, 2048]⟩ : Shape).Idx → EReal) (r : ℕ) (h : r < 16384) (k : Fin 2048) : EReal :=
  x (ix3 ⟨r / 4096, by omega⟩ ⟨r % 4096, by omega⟩ k)

/-- A row of the two mixers' outputs, side by side. -/
def mixers (x y : (⟨3, ![4, 4096, 2048]⟩ : Shape).Idx → EReal) (r : ℕ) (hr : r < 16384) (k : Fin 4096) : EReal :=
  if h : k.val < 2048 then half x r hr ⟨k.val, h⟩ else half y r hr ⟨k.val - 2048, by omega⟩

/-- A row of the residual stream with the projected mixers added. -/
def resid (x y : (⟨3, ![4, 4096, 2048]⟩ : Shape).Idx → EReal) (h : (⟨3, ![4, 4096, 4096]⟩ : Shape).Idx → EReal)
    (wo : (⟨3, ![1, 4096, 4096]⟩ : Shape).Idx → EReal) (r : ℕ) (hr : r < 16384) (n : Fin 4096) : EReal :=
  xrow h r hr n + ∑ k : Fin 4096, mixers x y r hr k * wo (ix3 0 k n)

/-- Column `n` of the queries' weight. -/
def qcol (wq : (⟨3, ![1, 4096, 4096]⟩ : Shape).Idx → EReal) (n l : Fin 4096) : EReal := wq (ix3 0 l n)

/-- A query's scores against the memory's keys. -/
def score (Q : Fin 1024 → EReal) (K : Fin 256 → Fin 1024 → EReal) (j : Fin 256) : EReal :=
  (∑ d, Q d * K j d) * Ideal.ofBits .f32 0x3D000000#32

/-- The largest score. -/
def top (S : Fin 256 → EReal) : EReal := (Finset.univ : Finset (Fin 256)).fold max (Ideal.ofBits .f32 0xFF800000#32) S

/-- The weights: exponentials over their sum. -/
def soft (S : Fin 256 → EReal) (j : Fin 256) : EReal := Ideal.div (Ideal.exp (S j - top S)) (∑ i, Ideal.exp (S i - top S))

/-- The values, weighted. -/
def attend (Q : Fin 1024 → EReal) (K V : Fin 256 → Fin 1024 → EReal) (n : Fin 1024) : EReal := ∑ j, soft (score Q K) j * V j n

/-- Column `d` of head `a`. -/
def col (a : ℕ) (h : a < 4) (d : Fin 1024) : Fin 4096 := ⟨1024 * a + d.val, by omega⟩

variable (x y : (⟨3, ![4, 4096, 2048]⟩ : Shape).Idx → EReal) (h : (⟨3, ![4, 4096, 4096]⟩ : Shape).Idx → EReal)
  (k v : (⟨3, ![4, 256, 4096]⟩ : Shape).Idx → EReal) (wo : (⟨3, ![1, 4096, 4096]⟩ : Shape).Idx → EReal)
  (g : (⟨2, ![1, 4096]⟩ : Shape).Idx → EReal) (wq : (⟨3, ![1, 4096, 4096]⟩ : Shape).Idx → EReal)

/-- A query. -/
def query (r : ℕ) (hr : r < 16384) (n : Fin 4096) : EReal := proj (resid x y h wo r hr) (gain g) (qcol wq n)

/-- The first result: the residual rows. -/
def rows (i : (⟨2, ![16384, 4096]⟩ : Shape).Idx) : EReal := resid x y h wo (i 0).val (i 0).isLt (i 1)

/-- What head `a` gives row `r` at its column `n`. -/
def head (r : ℕ) (hr : r < 16384) (a : ℕ) (ha : a < 4) (n : Fin 1024) : EReal :=
  attend (fun d => query x y h wo g wq r hr (col a ha d)) (fun j d => k (ix3 ⟨r / 4096, by omega⟩ j (col a ha d)))
    (fun j d => v (ix3 ⟨r / 4096, by omega⟩ j (col a ha d))) n

/-- The second result: the heads' outputs side by side. -/
def heads (i : (⟨2, ![16384, 4096]⟩ : Shape).Idx) : EReal :=
  head x y h k v wo g wq (i 0).val (i 0).isLt ((i 1).val / 1024) (by have h1 : (i 1).val < 4096 := (i 1).isLt; omega)
    ⟨(i 1).val % 1024, Nat.mod_lt _ (by decide)⟩

end Cert.CrossTarget

end
-- ==== Proof.Cross.Payloads.lean ====
/-
  The three bodies' operations read at an index, over the extended reals: a cast changes nothing, a product is a sum, a
  reduction a sum or a largest value.
-/
module

public import proofs.«01_k».proof.Proof.Gen.Kernel3Ideal.Frame
public import proofs.«01_k».proof.Proof.Mlp.Scale
public import proofs.«01_k».proof.Proof.Cross.Target
public import Idealize.ShloMosaic.Lib.Pipeline.ValueKit
public import Idealize.ShloMosaic.Lib.MatmulPlain

@[expose] public section

set_option maxRecDepth 16384

noncomputable section

namespace Cert.Kernel3Ideal.Cross

open Cert.Kernel3Ideal Cert.Kernel3Ideal.Gen
open Idealize.ShloMosaic Idealize.ShloMosaic.TcCoe Idealize.ShloMosaic.Tactic
open Idealize.ShloMosaic.Pipeline (Dat BodyObligation)
open Cert.InProjTarget Cert.CrossTarget
open Cert.Kernel2Ideal.Mlp (rsc)

/-- The residual row plus the two halves of the product. -/
theorem resid_apply (a1 : Vec Ideal S1024x2048 .bf16) (w1 : Vec Ideal S2048x512 .bf16) (a2 : Vec Ideal S1024x2048 .bf16)
    (w2 : Vec Ideal S2048x512 .bf16) (h : Vec Ideal S1024x512 .f32) (i : S1024x512.Idx) :
    k0_pay1 (F := Ideal) a1 w1 a2 w2 h i
      = h i + ((∑ k : Fin 2048, a1 (ValueIdx.ix2 (i 0) k) * w1 (ValueIdx.ix2 k (i 1)))
        + ∑ k : Fin 2048, a2 (ValueIdx.ix2 (i 0) k) * w2 (ValueIdx.ix2 k (i 1))) := by
  unfold k0_pay1
  simp only [shapeCast_self]
  have half : ∀ (a : Vec Ideal S1024x2048 .bf16) (w : Vec Ideal S2048x512 .bf16),
      (matmul (F := Ideal) (φ₁ := .bf16) (φ₂ := .bf16) dot_S1024x2048_S2048x512_S1024x512_1_0_0_1_n_n none a w (constant S1024x512 .f32 0x00000000#32)
        : FVec Ideal S1024x512 .f32) i = ∑ k : Fin 2048, a (ValueIdx.ix2 (i 0) k) * w (ValueIdx.ix2 k (i 1)) := by
    intro a w
    rw [ValueIdx.eq_ix2 i]
    refine (Ideal.matmul_plain_apply (φ₁ := .bf16) (φ₂ := .bf16) (M := 1024) (K := 2048) (N := 512) none a w
      (constant S1024x512 .f32 0x00000000#32) (i 0) (i 1)).trans ?_
    exact (congrArg (fun z : EReal => z + _) Ideal.ofBits_zero_f32).trans (zero_add _)
  exact congrArg (fun z : EReal => h i + z) (congrArg₂ (fun x y : EReal => x + y) (half a1 w1) (half a2 w2))

/-- Every lane of a row holds the sum of the row's squares. -/
theorem squares_apply (a1 : Vec Ideal S1024x2048 .bf16) (w1 : Vec Ideal S2048x512 .bf16) (a2 : Vec Ideal S1024x2048 .bf16)
    (w2 : Vec Ideal S2048x512 .bf16) (h : Vec Ideal S1024x512 .f32) (i : S1024x128.Idx) :
    k0_pay3 (F := Ideal) a1 w1 a2 w2 h i
      = ∑ k : Fin 512, k0_pay1 (F := Ideal) a1 w1 a2 w2 h (ValueIdx.ix2 (i 0) k) * k0_pay1 (F := Ideal) a1 w1 a2 w2 h (ValueIdx.ix2 (i 0) k) := by
  unfold k0_pay3
  generalize k0_pay1 (F := Ideal) a1 w1 a2 w2 h = X
  have hs : multiReduction (F := Ideal) (φ := .f32) .add [1] S1024 (mulf X X) 0x00000000#32 reduces_S1024x512_S1024 (.inl rfl) rfl
      = fun j : S1024.Idx => ∑ k : Fin 512, X (ValueIdx.ix2 (j 0) k) * X (ValueIdx.ix2 (j 0) k) := by
    funext j
    refine (Ideal.multiReduction_add_single (φ := .f32) _ _ reduces_S1024x512_S1024 _ _ j).trans ?_
    refine Finset.sum_congr rfl fun k _ => ?_
    have e : (reduces_S1024x512_S1024).lift j k = ValueIdx.ix2 (j 0) k :=
      funext fun a => Fin.ext (by match a with | ⟨0, _⟩ => rfl | ⟨1, _⟩ => rfl)
    exact congrArg (fun q => X q * X q) e
  simp only [shapeCast_self, hs]
  rw [broadcastTo_apply _ broadcasts_S1024x1_S1024x128 i (ValueIdx.ix2 (n0 := 1024) (n1 := 1) (i 0) 0) (fun a => by
      match a with
      | ⟨0, _⟩ => show (i 0).val = if (1024 : ℕ) = 1 then 0 else (i 0).val; rw [if_neg (by decide)]
      | ⟨1, _⟩ => rfl),
    shapeCast_apply _ shapeCasts_S1024_S1024x1 (ValueIdx.ix2 (n0 := 1024) (n1 := 1) (i 0) 0) (ValueIdx.ix1 (n := 1024) (i 0)) (by
      rw [Shape.rowMajor_val_one, Shape.rowMajor_val_two]; show (i 0).val = (i 0).val * 1 + 0; omega)]

/-- Eight copies of a row's lanes side by side. -/
theorem eight_lanes (v : FVec Ideal S1024x128 .f32) (j : S1024x1024.Idx) :
    concatenate S1024x1024 1 [⟨S1024x128, v⟩, ⟨S1024x128, v⟩, ⟨S1024x128, v⟩, ⟨S1024x128, v⟩, ⟨S1024x128, v⟩, ⟨S1024x128, v⟩, ⟨S1024x128, v⟩, ⟨S1024x128, v⟩]
        concatenates_S1024x128_S1024x128_S1024x128_S1024x128_S1024x128_S1024x128_S1024x128_S1024x128_S1024x1024_d1 j
      = v (ValueIdx.ix2 (n0 := 1024) (n1 := 128) (j 0) ⟨(j 1).val % 128, Nat.mod_lt _ (by decide)⟩) :=
  concatenate_replicate_apply (t := S1024x1024) (s₁ := S1024x128) 1 8 v
    concatenates_S1024x128_S1024x128_S1024x128_S1024x128_S1024x128_S1024x128_S1024x128_S1024x128_S1024x1024_d1 rfl
    j (ValueIdx.ix2 (n0 := 1024) (n1 := 128) (j 0) ⟨(j 1).val % 128, Nat.mod_lt _ (by decide)⟩) rfl
    (fun b hb => by
      match b, hb with
      | ⟨0, _⟩, _ => rfl
      | ⟨1, _⟩, hb => exact absurd rfl hb)

/-- The row's scale times its product. -/
theorem query_apply (s0 s1 s2 s3 s4 s5 s6 s7 : Vec Ideal S1024x128 .f32) (a : Vec Ideal S1024x4096 .bf16) (w : Vec Ideal S4096x1024 .bf16)
    (i : S1024x1024.Idx) (l : S1024x128.Idx) (hl : l = ValueIdx.ix2 (n0 := 1024) (n1 := 128) (i 0) ⟨(i 1).val % 128, Nat.mod_lt _ (by decide)⟩) :
    k1_pay1 (F := Ideal) (k1_pay2 (F := Ideal) s0 s1 s2 s3 s4 s5 s6 s7 a w) i
      = rsc (s0 l + s1 l + s2 l + s3 l + s4 l + s5 l + s6 l + s7 l) * ∑ k : Fin 4096, a (ValueIdx.ix2 (i 0) k) * w (ValueIdx.ix2 k (i 1)) := by
  unfold k1_pay1 k1_pay2
  simp only [shapeCast_self]
  refine congrArg₂ (fun x z : EReal => x * z) ?_ ?_
  · refine (eight_lanes _ i).trans ?_
    rw [← hl]
    simp only [shapeCast_self]
    rfl
  · refine (congrArg (matmul (F := Ideal) (φ₁ := .bf16) (φ₂ := .bf16) dot_S1024x4096_S4096x1024_S1024x1024_1_0_0_1_n_n none a w
      (constant S1024x1024 .f32 0x00000000#32)) (ValueIdx.eq_ix2 i)).trans ?_
    refine (Ideal.matmul_plain_apply (φ₁ := .bf16) (φ₂ := .bf16) (M := 1024) (K := 4096) (N := 1024) none a w
      (constant S1024x1024 .f32 0x00000000#32) (i 0) (i 1)).trans ?_
    exact (congrArg (fun z : EReal => z + _) Ideal.ofBits_zero_f32).trans (zero_add _)

/-! ### One head -/

/-- A query's product with a key. -/
theorem dots_apply (q : Vec Ideal S512x1024 .bf16) (k : Vec Ideal S256x1024 .bf16) (i : S512x256.Idx) :
    k2_pay7 (F := Ideal) q k i = ∑ d : Fin 1024, q (ValueIdx.ix2 (i 0) d) * k (ValueIdx.ix2 (i 1) d) := by
  unfold k2_pay7
  simp only [shapeCast_self]
  refine (congrArg (matmul (F := Ideal) (φ₁ := .bf16) (φ₂ := .bf16) dot_S512x1024_S256x1024_S512x256_1_1_0_0_n_n none q k
    (constant S512x256 .f32 0x00000000#32)) (ValueIdx.eq_ix2 i)).trans ?_
  refine (Ideal.matmul_transposedRhs_apply (φ₁ := .bf16) (φ₂ := .bf16) (M := 512) (K := 1024) (N := 256) none q k
    (constant S512x256 .f32 0x00000000#32) (i 0) (i 1)).trans ?_
  exact (congrArg (fun z : EReal => z + _) Ideal.ofBits_zero_f32).trans (zero_add _)

/-- A column of numbers, one per row, copied along the row. -/
theorem column_apply (s : FVec Ideal S512 .f32) (i : S512x256.Idx) :
    broadcastTo S512x256 (shapeCast S512x1 s shapeCasts_S512_S512x1) broadcasts_S512x1_S512x256 i = s (ValueIdx.ix1 (n := 512) (i 0)) := by
  rw [broadcastTo_apply _ broadcasts_S512x1_S512x256 i (ValueIdx.ix2 (n0 := 512) (n1 := 1) (i 0) 0) (fun a => by
      match a with
      | ⟨0, _⟩ => show (i 0).val = if (512 : ℕ) = 1 then 0 else (i 0).val; rw [if_neg (by decide)]
      | ⟨1, _⟩ => rfl),
    shapeCast_apply _ shapeCasts_S512_S512x1 (ValueIdx.ix2 (n0 := 512) (n1 := 1) (i 0) 0) (ValueIdx.ix1 (n := 512) (i 0)) (by
      rw [Shape.rowMajor_val_one, Shape.rowMajor_val_two]; show (i 0).val = (i 0).val * 1 + 0; omega)]

/-- A row's largest score, -/
theorem max_row (X : FVec Ideal S512x256 .f32) (j : S512.Idx) :
    multiReduction (F := Ideal) (φ := .f32) .maximumf [1] S512 X 0xFF800000#32 reduces_S512x256_S512 (.inl rfl) rfl j
      = top (fun k => X (ValueIdx.ix2 (j 0) k)) := by
  refine (Ideal.multiReduction_maximumf_single (φ := .f32) X _ reduces_S512x256_S512 _ _ j).trans ?_
  unfold top
  refine Finset.fold_congr fun k _ => ?_
  exact congrArg X (funext fun a => Fin.ext (by match a with | ⟨0, _⟩ => rfl | ⟨1, _⟩ => rfl))

/-- and its sum. -/
theorem sum_row (X : FVec Ideal S512x256 .f32) (j : S512.Idx) :
    multiReduction (F := Ideal) (φ := .f32) .add [1] S512 X 0x00000000#32 reduces_S512x256_S512 (.inl rfl) rfl j
      = ∑ k : Fin 256, X (ValueIdx.ix2 (j 0) k) := by
  refine (Ideal.multiReduction_add_single (φ := .f32) _ _ reduces_S512x256_S512 _ _ j).trans ?_
  refine Finset.sum_congr rfl fun k _ => ?_
  exact congrArg X (funext fun a => Fin.ext (by match a with | ⟨0, _⟩ => rfl | ⟨1, _⟩ => rfl))

/-- The exponentials of scores from which each row's largest is taken. -/
def expo (X : FVec Ideal S512x256 .f32) : FVec Ideal S512x256 .f32 :=
  exp (subf X (broadcastTo S512x256 (shapeCast S512x1
    (multiReduction (F := Ideal) (φ := .f32) .maximumf [1] S512 X 0xFF800000#32 reduces_S512x256_S512 (.inl rfl) rfl) shapeCasts_S512_S512x1)
    broadcasts_S512x1_S512x256))

theorem expo_apply (X : FVec Ideal S512x256 .f32) (i : S512x256.Idx) :
    expo X i = Ideal.exp (X i - top (fun k => X (ValueIdx.ix2 (i 0) k))) := by
  unfold expo
  refine congrArg (fun z : EReal => Ideal.exp (X i - z)) ?_
  exact (column_apply _ i).trans (max_row X _)

/-- One head's output from its scores. -/
def headOut (X : FVec Ideal S512x256 .f32) (v : Vec Ideal S256x1024 .bf16) : FVec Ideal S512x1024 .bf16 :=
  truncf .bf16 (matmul (F := Ideal) (φ₁ := .bf16) (φ₂ := .bf16) dot_S512x256_S256x1024_S512x1024_1_0_0_1_n_n none
    (truncf .bf16 (divf (expo X) (broadcastTo S512x256 (shapeCast S512x1
      (multiReduction (F := Ideal) (φ := .f32) .add [1] S512 (expo X) 0x00000000#32 reduces_S512x256_S512 (.inl rfl) rfl) shapeCasts_S512_S512x1)
      broadcasts_S512x1_S512x256)) bitsLt_bf16_f32) v (constant S512x1024 .f32 0x00000000#32)) bitsLt_bf16_f32

theorem headOut_apply (X : FVec Ideal S512x256 .f32) (v : Vec Ideal S256x1024 .bf16) (i : S512x1024.Idx) :
    headOut X v i = ∑ j : Fin 256, soft (fun k => X (ValueIdx.ix2 (i 0) k)) j * v (ValueIdx.ix2 j (i 1)) := by
  unfold headOut
  refine (congrArg (matmul (F := Ideal) (φ₁ := .bf16) (φ₂ := .bf16) dot_S512x256_S256x1024_S512x1024_1_0_0_1_n_n none _ v
    (constant S512x1024 .f32 0x00000000#32)) (ValueIdx.eq_ix2 i)).trans ?_
  refine (Ideal.matmul_plain_apply (φ₁ := .bf16) (φ₂ := .bf16) (M := 512) (K := 256) (N := 1024) none _ v
    (constant S512x1024 .f32 0x00000000#32) (i 0) (i 1)).trans ?_
  refine (congrArg₂ (fun x z : EReal => x + z) Ideal.ofBits_zero_f32 (Finset.sum_congr rfl fun k _ => ?_)).trans (zero_add _)
  refine congrArg (fun z : EReal => z * v (ValueIdx.ix2 k (i 1))) ?_
  unfold soft
  refine congrArg₂ Ideal.div (expo_apply X _) ?_
  refine (column_apply _ _).trans ((sum_row _ _).trans ?_)
  exact Finset.sum_congr rfl fun l _ => expo_apply X _

/-- The scaled scores. -/
def scores (q : Vec Ideal S512x1024 .bf16) (k : Vec Ideal S256x1024 .bf16) : FVec Ideal S512x256 .f32 :=
  mulf (k2_pay7 (F := Ideal) q k) (broadcast S512x256 (Scalar.ofBits (F := Ideal) .f32 0x3D000000#32))

/-- A head's output at a row and column. -/
theorem head_apply (q : Vec Ideal S512x1024 .bf16) (k v : Vec Ideal S256x1024 .bf16) (i : S512x1024.Idx) :
    headOut (scores q k) v i = attend (fun d => q (ValueIdx.ix2 (i 0) d)) (fun j d => k (ValueIdx.ix2 j d)) (fun j d => v (ValueIdx.ix2 j d)) (i 1) := by
  refine (headOut_apply _ v i).trans ?_
  unfold attend
  refine Finset.sum_congr rfl fun j _ => congrArg (fun S => soft S j * v (ValueIdx.ix2 j (i 1))) (funext fun l => ?_)
  unfold score
  exact congrArg (fun z : EReal => z * Ideal.ofBits .f32 0x3D000000#32) (dots_apply q k _)

/-- The body writes it once per head. -/
theorem head0_eq (q : Vec Ideal S512x1024 .bf16) (k v : Vec Ideal S256x1024 .bf16) : k2_pay2 (F := Ideal) q k v = headOut (scores q k) v := by
  unfold k2_pay2 headOut expo scores k2_pay7
  simp only [shapeCast_self]
theorem head1_eq (q : Vec Ideal S512x1024 .bf16) (k v : Vec Ideal S256x1024 .bf16) :
    k2_pay5 (F := Ideal) (k2_pay3 (F := Ideal) q k) (k2_pay4 (F := Ideal) q k) v = headOut (scores q k) v := by
  unfold k2_pay5 k2_pay4 k2_pay3 headOut expo scores k2_pay7
  simp only [shapeCast_self]
theorem head2_eq (q : Vec Ideal S512x1024 .bf16) (k v : Vec Ideal S256x1024 .bf16) : k2_pay6 (F := Ideal) q k v = headOut (scores q k) v := by
  unfold k2_pay6 headOut expo scores k2_pay7
  simp only [shapeCast_self]
theorem head3_eq (q : Vec Ideal S512x1024 .bf16) (k v : Vec Ideal S256x1024 .bf16) :
    k2_pay1 (F := Ideal) (k2_pay7 (F := Ideal) q k) v = headOut (scores q k) v := by
  unfold k2_pay1 headOut expo scores
  simp only [shapeCast_self]

end Cert.Kernel3Ideal.Cross

end
-- ==== Proof.Cross.Entry.lean ====
/-
  What the first call's arrays hold when it starts, in terms of the arguments, and what each of its points reads of them.
-/
module

public import proofs.«01_k».proof.Proof.Cross.Payloads
public import Idealize.ShloMosaic.Lib.Claim

@[expose] public section

set_option maxRecDepth 16384

noncomputable section

namespace Cert.Kernel3Ideal.Cross

open Cert.Kernel3Ideal Cert.Kernel3Ideal.Gen
open Idealize.ShloMosaic Idealize.ShloMosaic.TcCoe Idealize.ShloMosaic.Tactic
open Idealize.ShloMosaic.Pipeline (Dat BodyObligation)
open Cert.InProjTarget Cert.CrossTarget

variable (m : (ℓ : Loc nD τ sig) → Buf (Elt Ideal) ℓ) (ρ : Dev nD → PrngReg)

/-- The eight arguments. -/
abbrev argX (c : Dev nD) : (⟨S4x4096x2048, .bf16⟩ : BufTy).Contents (Elt Ideal) := m ((c : Thread nD τ).loc main_arg0)
abbrev argY (c : Dev nD) : (⟨S4x4096x2048, .bf16⟩ : BufTy).Contents (Elt Ideal) := m ((c : Thread nD τ).loc main_arg1)
abbrev argH (c : Dev nD) : (⟨S4x4096x4096, .f32⟩ : BufTy).Contents (Elt Ideal) := m ((c : Thread nD τ).loc main_arg2)
abbrev argK (c : Dev nD) : (⟨S4x256x4096, .bf16⟩ : BufTy).Contents (Elt Ideal) := m ((c : Thread nD τ).loc main_arg3)
abbrev argV (c : Dev nD) : (⟨S4x256x4096, .bf16⟩ : BufTy).Contents (Elt Ideal) := m ((c : Thread nD τ).loc main_arg4)
abbrev argWo (c : Dev nD) : (⟨S1x4096x4096, .f32⟩ : BufTy).Contents (Elt Ideal) := m ((c : Thread nD τ).loc main_arg5)
abbrev argG (c : Dev nD) : (⟨S1x4096, .f32⟩ : BufTy).Contents (Elt Ideal) := m ((c : Thread nD τ).loc main_arg6)
abbrev argWq (c : Dev nD) : (⟨S1x4096x4096, .f32⟩ : BufTy).Contents (Elt Ideal) := m ((c : Thread nD τ).loc main_arg7)

/-- A three-axis array of half rows with its two outer axes joined. -/
theorem half_apply {α : Type} (x : S4x4096x2048.Idx → α) (i : S16384x2048.Idx) :
    shapeCast S16384x2048 x shapeCasts_S4x4096x2048_S16384x2048 i
      = x (ValueIdx.ix3 (n0 := 4) (n1 := 4096) (n2 := 2048) ⟨(i 0).val / 4096, by have h0 : (i 0).val < 16384 := (i 0).isLt; omega⟩
          ⟨(i 0).val % 4096, by omega⟩ (i 1)) := by
  have h0 : (i 0).val < 16384 := (i 0).isLt
  have h1 : (i 1).val < 2048 := (i 1).isLt
  exact shapeCast_apply x shapeCasts_S4x4096x2048_S16384x2048 i _ (by
    rw [Shape.rowMajor_val_three, Shape.rowMajor_val_two]
    show ((i 0).val / 4096 * 4096 + (i 0).val % 4096) * 2048 + (i 1).val = (i 0).val * 2048 + (i 1).val; omega)

theorem V_x (c : Dev nD) (i : S16384x2048.Idx) : V1 m ρ c main_v0 i = half (argX m c) (i 0).val (i 0).isLt (i 1) := by
  simp only [V1, W1, hostOps0]
  after_results_simp
  exact half_apply _ i
theorem V_y (c : Dev nD) (i : S16384x2048.Idx) : V1 m ρ c main_v1 i = half (argY m c) (i 0).val (i 0).isLt (i 1) := by
  simp only [V1, W1, hostOps0]
  after_results_simp
  exact half_apply _ i
theorem V_h (c : Dev nD) (i : S16384x4096.Idx) : V1 m ρ c main_v2 i = xrow (argH m c) (i 0).val (i 0).isLt (i 1) := by
  have h0 : (i 0).val < 16384 := (i 0).isLt
  have h1 : (i 1).val < 4096 := (i 1).isLt
  simp only [V1, W1, hostOps0]
  after_results_simp
  exact shapeCast_apply _ shapeCasts_S4x4096x4096_S16384x4096 i _ (by
    rw [Shape.rowMajor_val_three, Shape.rowMajor_val_two]
    show ((i 0).val / 4096 * 4096 + (i 0).val % 4096) * 4096 + (i 1).val = (i 0).val * 4096 + (i 1).val; omega)

/-- A weight without its outer axis. -/
theorem weight_apply {α : Type} (x : S1x4096x4096.Idx → α) (i : S4096x4096.Idx) :
    shapeCast S4096x4096 x shapeCasts_S1x4096x4096_S4096x4096 i = x (ValueIdx.ix3 (n0 := 1) (n1 := 4096) (n2 := 4096) 0 (i 0) (i 1)) :=
  shapeCast_apply _ shapeCasts_S1x4096x4096_S4096x4096 i (ValueIdx.ix3 (n0 := 1) (n1 := 4096) (n2 := 4096) 0 (i 0) (i 1)) (by
    rw [Shape.rowMajor_val_three, Shape.rowMajor_val_two]
    show (0 * 4096 + (i 0).val) * 4096 + (i 1).val = (i 0).val * 4096 + (i 1).val; omega)

theorem V_wo (c : Dev nD) (i : S4096x4096.Idx) :
    V1 m ρ c main_v4 i = argWo m c (ValueIdx.ix3 (n0 := 1) (n1 := 4096) (n2 := 4096) 0 (i 0) (i 1)) := by
  simp only [V1, W1, hostOps0]
  after_results_simp
  exact weight_apply _ i

/-! ### The blocks of the first call's points -/

theorem at0_0 : ∀ t : Fin cfg0.N, win0_0.index t = ![t.val / 8, 0] := (by decide +kernel : ∀ t : Fin grid0.N, _)
theorem at0_1 : ∀ t : Fin cfg0.N, win0_1.index t = ![t.val / 8, 0] := (by decide +kernel : ∀ t : Fin grid0.N, _)
theorem at0_2 : ∀ t : Fin cfg0.N, win0_2.index t = ![0, t.val % 8] := (by decide +kernel : ∀ t : Fin grid0.N, _)
theorem at0_3 : ∀ t : Fin cfg0.N, win0_3.index t = ![1, t.val % 8] := (by decide +kernel : ∀ t : Fin grid0.N, _)
theorem at0_4 : ∀ t : Fin cfg0.N, win0_4.index t = ![t.val / 8, t.val % 8] := (by decide +kernel : ∀ t : Fin grid0.N, _)
theorem at0_5 : ∀ t : Fin cfg0.N, win0_5.index t = ![t.val / 8, t.val % 8] := (by decide +kernel : ∀ t : Fin grid0.N, _)
theorem at0_6 : ∀ t : Fin cfg0.N, win0_6.index t = ![t.val / 8, t.val % 8] := (by decide +kernel : ∀ t : Fin grid0.N, _)
theorem at0_7 : ∀ t : Fin cfg0.N, win0_7.index t = ![t.val / 8, t.val % 8] := (by decide +kernel : ∀ t : Fin grid0.N, _)

theorem lt_points0 (t : Fin cfg0.N) : t.val < 128 := t.isLt

/-- A row of a joined array at equal coordinates. -/
theorem xrow_at {x : (⟨3, ![4, 4096, 4096]⟩ : Shape).Idx → EReal} {r s : ℕ} {hr : r < 16384} {hs : s < 16384} {k l : Fin 4096} (h : r = s)
    (hk : k.val = l.val) : xrow x r hr k = xrow x s hs l := by
  subst h; exact congrArg _ (Fin.ext hk)
theorem half_at {x : (⟨3, ![4, 4096, 2048]⟩ : Shape).Idx → EReal} {r s : ℕ} {hr : r < 16384} {hs : s < 16384} {k l : Fin 2048} (h : r = s)
    (hk : k.val = l.val) : half x r hr k = half x s hs l := by
  subst h; exact congrArg _ (Fin.ext hk)

/-- A point reads its rows of the one mixer -/
theorem blk0_0 (c : Dev nD) (p : Fin cfg0.N) (y : S1024x2048.Idx) :
    iblk0 (V1 m ρ) c 0 p y = half (argX m c) (p.val / 8 * 1024 + (y 0).val)
      (by have h : (y 0).val < 1024 := (y 0).isLt; have := lt_points0 p; omega) (y 1) := by
  show V1 m ρ c main_v0 (((cfg0.win 0).blk p).view.emb y) = _
  rw [V_x]
  exact half_at (by blk_simp [at0_0]) (by blk_simp [at0_0])
/-- and of the other, -/
theorem blk0_1 (c : Dev nD) (p : Fin cfg0.N) (y : S1024x2048.Idx) :
    iblk0 (V1 m ρ) c 1 p y = half (argY m c) (p.val / 8 * 1024 + (y 0).val)
      (by have h : (y 0).val < 1024 := (y 0).isLt; have := lt_points0 p; omega) (y 1) := by
  show V1 m ρ c main_v1 (((cfg0.win 1).blk p).view.emb y) = _
  rw [V_y]
  exact half_at (by blk_simp [at0_1]) (by blk_simp [at0_1])
/-- of the weight, its columns' first half -/
theorem blk0_2 (c : Dev nD) (p : Fin cfg0.N) (y : S2048x512.Idx) :
    iblk0 (V1 m ρ) c 2 p y = argWo m c (ValueIdx.ix3 (n0 := 1) (n1 := 4096) (n2 := 4096) 0 ⟨(y 0).val, by have h : (y 0).val < 2048 := (y 0).isLt; omega⟩
      ⟨p.val % 8 * 512 + (y 1).val, by have h : (y 1).val < 512 := (y 1).isLt; omega⟩) := by
  show V1 m ρ c main_v4 (((cfg0.win 2).blk p).view.emb y) = _
  rw [V_wo]
  exact congrArg₂ (fun a b => argWo m c (ValueIdx.ix3 (n0 := 1) (n1 := 4096) (n2 := 4096) 0 a b)) (Fin.ext (by blk_simp [at0_2])) (Fin.ext (by blk_simp [at0_2]))
/-- and second half, -/
theorem blk0_3 (c : Dev nD) (p : Fin cfg0.N) (y : S2048x512.Idx) :
    iblk0 (V1 m ρ) c 3 p y = argWo m c (ValueIdx.ix3 (n0 := 1) (n1 := 4096) (n2 := 4096) 0 ⟨2048 + (y 0).val, by have h : (y 0).val < 2048 := (y 0).isLt; omega⟩
      ⟨p.val % 8 * 512 + (y 1).val, by have h : (y 1).val < 512 := (y 1).isLt; omega⟩) := by
  show V1 m ρ c main_v4 (((cfg0.win 3).blk p).view.emb y) = _
  rw [V_wo]
  exact congrArg₂ (fun a b => argWo m c (ValueIdx.ix3 (n0 := 1) (n1 := 4096) (n2 := 4096) 0 a b)) (Fin.ext (by blk_simp [at0_3])) (Fin.ext (by blk_simp [at0_3]))
/-- and of the residual stream, its rows and columns. -/
theorem blk0_4 (c : Dev nD) (p : Fin cfg0.N) (y : S1024x512.Idx) :
    iblk0 (V1 m ρ) c 4 p y = xrow (argH m c) (p.val / 8 * 1024 + (y 0).val)
      (by have h : (y 0).val < 1024 := (y 0).isLt; have := lt_points0 p; omega)
      ⟨p.val % 8 * 512 + (y 1).val, by have h : (y 1).val < 512 := (y 1).isLt; omega⟩ := by
  show V1 m ρ c main_v2 (((cfg0.win 4).blk p).view.emb y) = _
  rw [V_h]
  exact xrow_at (by blk_simp [at0_4]) (by blk_simp [at0_4])

end Cert.Kernel3Ideal.Cross

end
-- ==== Proof.Cross.Resid.lean ====
/-
  The first call's three arrays: the residual rows with the projected mixers added, twice, and each block's sums of their
  squares.
-/
module

public import proofs.«01_k».proof.Proof.Cross.Entry
public import proofs.«01_k».proof.Proof.Mlp.Resid

@[expose] public section

set_option maxRecDepth 16384

noncomputable section

namespace Cert.Kernel3Ideal.Cross

open Cert.Kernel3Ideal Cert.Kernel3Ideal.Gen
open Idealize.ShloMosaic Idealize.ShloMosaic.TcCoe Idealize.ShloMosaic.Tactic
open Idealize.ShloMosaic.Pipeline (Dat BodyObligation)
open Cert.InProjTarget Cert.CrossTarget

variable (m : (ℓ : Loc nD τ sig) → Buf (Elt Ideal) ℓ) (ρ : Dev nD → PrngReg)

/-- The mixers' halves of a row. -/
theorem mixers_left (c : Dev nD) (r : ℕ) (hr : r < 16384) (k : Fin 2048) :
    mixers (argX m c) (argY m c) r hr ⟨k.val, by omega⟩ = half (argX m c) r hr k := by
  unfold mixers
  rw [dif_pos k.isLt]
theorem mixers_right (c : Dev nD) (r : ℕ) (hr : r < 16384) (k : Fin 2048) :
    mixers (argX m c) (argY m c) r hr ⟨2048 + k.val, by omega⟩ = half (argY m c) r hr k := by
  unfold mixers
  rw [dif_neg (by show ¬2048 + k.val < 2048; omega)]
  exact congrArg (half _ r hr) (Fin.ext (by show 2048 + k.val - 2048 = k.val; omega))

/-- Row `r` after the projection. -/
abbrev resRow (c : Dev nD) (r : ℕ) (hr : r < 16384) (n : Fin 4096) : EReal := resid (argX m c) (argY m c) (argH m c) (argWo m c) r hr n

theorem resRow_at {c : Dev nD} {r s : ℕ} {hr : r < 16384} {hs : s < 16384} {k l : Fin 4096} (h : r = s) (hk : k.val = l.val) :
    resRow m c r hr k = resRow m c s hs l := by
  subst h; exact congrArg _ (Fin.ext hk)

/-- All rows. -/
def resArr (c : Dev nD) (i : S16384x4096.Idx) : EReal := resRow m c (i 0).val (i 0).isLt (i 1)

/-- The sums of squares over blocks of 512 columns, each in 128 lanes. -/
def sqArr (c : Dev nD) (i : S16384x1024.Idx) : EReal :=
  ∑ k : Fin 512, resRow m c (i 0).val (i 0).isLt ⟨(i 1).val / 128 * 512 + k.val, by have h : (i 1).val < 1024 := (i 1).isLt; omega⟩
    * resRow m c (i 0).val (i 0).isLt ⟨(i 1).val / 128 * 512 + k.val, by have h : (i 1).val < 1024 := (i 1).isLt; omega⟩

/-- What a point computes, at the place its block gives it. -/
theorem resid_block (c : Dev nD) (t : Fin cfg0.N) (y : S1024x512.Idx) (r : ℕ) (hr : r < 16384) (n : Fin 4096)
    (h0 : r = t.val / 8 * 1024 + (y 0).val) (h1 : n.val = t.val % 8 * 512 + (y 1).val) :
    k0_pay1 (F := Ideal) (iblk0 (V1 m ρ) c 0 t) (iblk0 (V1 m ρ) c 2 t) (iblk0 (V1 m ρ) c 1 t) (iblk0 (V1 m ρ) c 3 t) (iblk0 (V1 m ρ) c 4 t) y
      = resRow m c r hr n := by
  have b1 : (y 1).val < 512 := (y 1).isLt
  refine (resid_apply _ _ _ _ _ y).trans ?_
  unfold resRow resid
  refine congrArg₂ (fun a b : EReal => a + b) ?_ ?_
  · exact (blk0_4 m ρ c t y).trans (xrow_at h0.symm h1.symm)
  · rw [← Cert.Kernel2Ideal.Mlp.two_halves]
    have col : (⟨t.val % 8 * 512 + (y 1).val, by omega⟩ : Fin 4096) = n := Fin.ext h1.symm
    refine congrArg₂ (fun a b : EReal => a + b) (Finset.sum_congr rfl fun k _ => ?_) (Finset.sum_congr rfl fun k _ => ?_)
    · refine congrArg₂ (fun a b : EReal => a * b) ((blk0_0 m ρ c t _).trans ((half_at h0.symm rfl).trans (mixers_left m c r hr k).symm)) ((blk0_2 m ρ c t _).trans ?_)
      exact congrArg (fun z => argWo m c (ValueIdx.ix3 (n0 := 1) (n1 := 4096) (n2 := 4096) 0 ⟨k.val, by omega⟩ z)) col
    · refine congrArg₂ (fun a b : EReal => a * b) ((blk0_1 m ρ c t _).trans ((half_at h0.symm rfl).trans (mixers_right m c r hr k).symm)) ((blk0_3 m ρ c t _).trans ?_)
      exact congrArg (fun z => argWo m c (ValueIdx.ix3 (n0 := 1) (n1 := 4096) (n2 := 4096) 0 ⟨2048 + k.val, by omega⟩ z)) col

theorem out5_apply (c : Dev nD) (t : Fin cfg0.N) (y : S1024x512.Idx) (i : S16384x4096.Idx) (h0 : (i 0).val = t.val / 8 * 1024 + (y 0).val)
    (h1 : (i 1).val = t.val % 8 * 512 + (y 1).val) :
    out0_5 (iblk0 (V1 m ρ) c 0 t) (iblk0 (V1 m ρ) c 1 t) (iblk0 (V1 m ρ) c 2 t) (iblk0 (V1 m ρ) c 3 t) (iblk0 (V1 m ρ) c 4 t) y = resArr m c i := by
  frame_out
  exact resid_block m ρ c t y _ _ _ h0 h1

theorem out6_apply (c : Dev nD) (t : Fin cfg0.N) (y : S1024x512.Idx) (i : S16384x4096.Idx) (h0 : (i 0).val = t.val / 8 * 1024 + (y 0).val)
    (h1 : (i 1).val = t.val % 8 * 512 + (y 1).val) :
    out0_6 (iblk0 (V1 m ρ) c 0 t) (iblk0 (V1 m ρ) c 1 t) (iblk0 (V1 m ρ) c 2 t) (iblk0 (V1 m ρ) c 3 t) (iblk0 (V1 m ρ) c 4 t) y = resArr m c i := by
  frame_out
  exact resid_block m ρ c t y _ _ _ h0 h1

theorem out7_apply (c : Dev nD) (t : Fin cfg0.N) (y : S1024x128.Idx) (i : S16384x1024.Idx) (h0 : (i 0).val = t.val / 8 * 1024 + (y 0).val)
    (h1 : (i 1).val = t.val % 8 * 128 + (y 1).val) :
    out0_7 (iblk0 (V1 m ρ) c 0 t) (iblk0 (V1 m ρ) c 1 t) (iblk0 (V1 m ρ) c 2 t) (iblk0 (V1 m ρ) c 3 t) (iblk0 (V1 m ρ) c 4 t) y = sqArr m c i := by
  have b1 : (y 1).val < 128 := (y 1).isLt
  frame_out
  refine (squares_apply _ _ _ _ _ y).trans ?_
  unfold sqArr
  refine Finset.sum_congr rfl fun k _ => ?_
  have e := resid_block m ρ c t (ValueIdx.ix2 (n0 := 1024) (n1 := 512) (y 0) k) (i 0).val (i 0).isLt
    ⟨(i 1).val / 128 * 512 + k.val, by have h : (i 1).val < 1024 := (i 1).isLt; omega⟩ h0
    (by show (i 1).val / 128 * 512 + k.val = t.val % 8 * 512 + k.val; omega)
  exact congrArg₂ (fun a b : EReal => a * b) e e

theorem arr0_5 (c : Dev nD) : (dat0 (V1 m ρ) c).arrAt 5 cfg0.N = resArr m c := by
  refine (dat0 (V1 m ρ) c).arrAt_eq_of_covers 5 _ (by decide +kernel) fun t _ y => ?_
  blk_simp; rw [after0_5]
  exact out5_apply m ρ c t y _ (by blk_simp [at0_5]) (by blk_simp [at0_5])
theorem arr0_6 (c : Dev nD) : (dat0 (V1 m ρ) c).arrAt 6 cfg0.N = resArr m c := by
  refine (dat0 (V1 m ρ) c).arrAt_eq_of_covers 6 _ (by decide +kernel) fun t _ y => ?_
  blk_simp; rw [after0_6]
  exact out6_apply m ρ c t y _ (by blk_simp [at0_6]) (by blk_simp [at0_6])
theorem arr0_7 (c : Dev nD) : (dat0 (V1 m ρ) c).arrAt 7 cfg0.N = sqArr m c := by
  refine (dat0 (V1 m ρ) c).arrAt_eq_of_covers 7 _ (by decide +kernel) fun t _ y => ?_
  blk_simp; rw [after0_7]
  exact out7_apply m ρ c t y _ (by blk_simp [at0_7]) (by blk_simp [at0_7])

end Cert.Kernel3Ideal.Cross

end
-- ==== Proof.Cross.Query.lean ====
/-
  The second call's array: the queries of the normalised rows.
-/
module

public import proofs.«01_k».proof.Proof.Cross.Resid

@[expose] public section

set_option maxRecDepth 16384

noncomputable section

namespace Cert.Kernel3Ideal.Cross

open Cert.Kernel3Ideal Cert.Kernel3Ideal.Gen
open Idealize.ShloMosaic Idealize.ShloMosaic.TcCoe Idealize.ShloMosaic.Tactic
open Idealize.ShloMosaic.Pipeline (Dat BodyObligation)
open Cert.InProjTarget Cert.CrossTarget

variable (m : (ℓ : Loc nD τ sig) → Buf (Elt Ideal) ℓ) (ρ : Dev nD → PrngReg)

theorem V3_copy (c : Dev nD) : V3 m ρ c main_v5_1 = resArr m c :=
  (W3_of m ρ c main_v5_1 (by decide)).trans ((W2_arr m ρ c 6).trans (arr0_6 m ρ c))
theorem V3_squares (c : Dev nD) : V3 m ρ c main_v5_2 = sqArr m c :=
  (W3_of m ρ c main_v5_2 (by decide)).trans ((W2_arr m ρ c 7).trans (arr0_7 m ρ c))

/-- The gain, copied along the columns. -/
theorem gain_apply (g : (⟨S1x4096, .f32⟩ : BufTy).Contents (Elt Ideal)) (i : S4096x4096.Idx) :
    broadcastInDim S4096x4096 ![0, 1] bcast_S4096x1_S4096x4096_0_1
        (broadcastInDim S4096x1 ![0] bcast_S4096_S4096x1_0 (shapeCast S4096 g shapeCasts_S1x4096_S4096)) i
      = gain g (i 0) := by
  have h0 : (i 0).val < 4096 := (i 0).isLt
  refine (broadcastInDim_apply _ bcast_S4096x1_S4096x4096_0_1 _ i (ValueIdx.ix2 (n0 := 4096) (n1 := 1) (i 0) 0) (fun a => match a with
    | ⟨0, _⟩ => by show (i 0).val = if (4096 : Nat) = 1 then 0 else (i 0).val; rw [if_neg (by decide)]
    | ⟨1, _⟩ => by show 0 = if (1 : Nat) = 1 then 0 else (i 1).val; rw [if_pos rfl])).trans ?_
  refine (broadcastInDim_apply _ bcast_S4096_S4096x1_0 _ _ (ValueIdx.ix1 (n := 4096) (i 0)) (fun a => match a with
    | ⟨0, _⟩ => by show (i 0).val = if (4096 : Nat) = 1 then 0 else (i 0).val; rw [if_neg (by decide)])).trans ?_
  exact shapeCast_apply g shapeCasts_S1x4096_S4096 _ (ValueIdx.ix2 (n0 := 1) (n1 := 4096) 0 (i 0)) (by
    rw [Shape.rowMajor_val_one, Shape.rowMajor_val_two]; show 0 * 4096 + (i 0).val = (i 0).val; omega)

/-- The queries' weight, its gain in it. -/
theorem V3_wq (c : Dev nD) (i : S4096x4096.Idx) : V3 m ρ c main_v11 i = gain (argG m c) (i 0) * qcol (argWq m c) (i 1) (i 0) := by
  simp only [V3, W3, hostOps1]
  after_results_simp
  rw [W2_args m ρ c main_arg6 (by decide), W2_args m ρ c main_arg7 (by decide)]
  exact congrArg₂ (fun a b : EReal => a * b) (gain_apply (argG m c) i) (weight_apply _ i)

/-! ### The blocks of the second call's points -/

theorem at1_0 : ∀ t : Fin cfg1.N, win1_0.index t = ![t.val / 4, 0] := (by decide +kernel : ∀ t : Fin grid1.N, _)
theorem at1_1 : ∀ t : Fin cfg1.N, win1_1.index t = ![t.val / 4, 0] := (by decide +kernel : ∀ t : Fin grid1.N, _)
theorem at1_2 : ∀ t : Fin cfg1.N, win1_2.index t = ![0, t.val % 4] := (by decide +kernel : ∀ t : Fin grid1.N, _)
theorem at1_3 : ∀ t : Fin cfg1.N, win1_3.index t = ![t.val / 4, t.val % 4] := (by decide +kernel : ∀ t : Fin grid1.N, _)

theorem lt_points1 (t : Fin cfg1.N) : t.val < 64 := t.isLt

/-- A point reads its row tile's rows, -/
theorem blk1_0 (c : Dev nD) (t : Fin cfg1.N) (y : S1024x4096.Idx) :
    iblk1 (V3 m ρ) c 0 t y = resRow m c (t.val / 4 * 1024 + (y 0).val)
      (by have h : (y 0).val < 1024 := (y 0).isLt; have := lt_points1 t; omega) (y 1) := by
  show V3 m ρ c main_v5_1 (((cfg1.win 0).blk t).view.emb y) = _
  rw [V3_copy]
  exact resRow_at m (by blk_simp [at1_0]) (by blk_simp [at1_0])
/-- the sums of their squares -/
theorem blk1_1 (c : Dev nD) (t : Fin cfg1.N) (y : S1024x1024.Idx) :
    iblk1 (V3 m ρ) c 1 t y = sqArr m c (ValueIdx.ix2 (n0 := 16384) (n1 := 1024) ⟨t.val / 4 * 1024 + (y 0).val,
      by have h : (y 0).val < 1024 := (y 0).isLt; have := lt_points1 t; omega⟩ (y 1)) := by
  show V3 m ρ c main_v5_2 (((cfg1.win 1).blk t).view.emb y) = _
  rw [V3_squares]
  refine congrArg (sqArr m c) (funext fun a => Fin.ext ?_)
  match a with
  | ⟨0, _⟩ =>
    show ((((cfg1.win 1).blk t).view.emb y) 0 : ℕ) = t.val / 4 * 1024 + (y 0).val
    blk_simp [at1_1]
  | ⟨1, _⟩ =>
    show ((((cfg1.win 1).blk t).view.emb y) 1 : ℕ) = (y 1).val
    blk_simp [at1_1]
/-- and 1024 columns of the weight. -/
theorem blk1_2 (c : Dev nD) (t : Fin cfg1.N) (y : S4096x1024.Idx) :
    iblk1 (V3 m ρ) c 2 t y = gain (argG m c) (y 0) * qcol (argWq m c)
      ⟨t.val % 4 * 1024 + (y 1).val, by have h : (y 1).val < 1024 := (y 1).isLt; omega⟩ (y 0) := by
  show V3 m ρ c main_v11 (((cfg1.win 2).blk t).view.emb y) = _
  rw [V3_wq]
  exact congrArg₂ (fun a b => gain (argG m c) a * qcol (argWq m c) b a) (Fin.ext (by blk_simp [at1_2])) (Fin.ext (by blk_simp [at1_2]))

/-! ### The array -/

/-- A load of one block's lanes. -/
theorem ld_lanes (s : Vec Ideal S1024x1024 .f32) (b : Fin 8) (inb) (r : Fin 1024) (l : Fin 128) :
    View.ld (Val := Elt Ideal) (e' := .f32) s (Rect.unit (s := S1024x1024) ![0, 128 * b.val] S1024x128.size inb) (ValueIdx.ix2 r l)
      = s (ValueIdx.ix2 (n0 := 1024) (n1 := 1024) r ⟨128 * b.val + l.val, by omega⟩) := by
  refine View.ld_unit_apply_of (Val := Elt Ideal) (e := .f32) s _ _ _ _ _ (fun a => ?_)
  match a with
  | ⟨0, _⟩ => show r.val = 0 + r.val; omega
  | ⟨1, _⟩ => rfl

/-- The eight blocks' sums are the row's sum of squares. -/
theorem lanes_row (c : Dev nD) (t : Fin cfg1.N) (r : Fin 1024) (l : Fin 128) (R : ℕ) (hR : R < 16384) (h : R = t.val / 4 * 1024 + r.val) :
    (∑ b : Fin 8, iblk1 (V3 m ρ) c 1 t (ValueIdx.ix2 (n0 := 1024) (n1 := 1024) r ⟨128 * b.val + l.val, by omega⟩) : EReal)
      = ∑ k, resRow m c R hR k * resRow m c R hR k := by
  subst h
  refine Eq.trans ?_ (Fin.sum_mul_add_fin (M := EReal) (L := 4096) 8 512 (fun k => resRow m c _ hR k * resRow m c _ hR k))
  refine Finset.sum_congr (M := EReal) rfl fun b _ => ?_
  refine Eq.trans (α := EReal) (blk1_1 m ρ c t _) ?_
  unfold sqArr
  refine Finset.sum_congr (M := EReal) rfl fun k _ => ?_
  have e : (128 * b.val + l.val) / 128 * 512 + k.val = b.val * 512 + k.val := by omega
  exact congrArg₂ (fun a b : EReal => a * b) (resRow_at m rfl e) (resRow_at m rfl e)

/-- The row's scale times the product is the normalised row's product. -/
theorem scaled_proj (X G W : Fin 4096 → EReal) :
    Cert.Kernel2Ideal.Mlp.rsc (∑ k, X k * X k) * ∑ l, X l * (G l * W l) = proj X G W := by
  obtain ⟨h0, ht⟩ := Cert.Kernel2Ideal.Mlp.scale_bounds X
  rw [Cert.Kernel2Ideal.Mlp.rsc_eq, ← Cert.Kernel2Ideal.Mlp.factor_sum _ _ h0 ht]
  unfold proj normed
  refine Finset.sum_congr rfl fun l _ => ?_
  rw [mul_comm (X l) (scale X), mul_assoc, mul_assoc]

/-- A query. -/
abbrev queryOf (c : Dev nD) (r : ℕ) (hr : r < 16384) (n : Fin 4096) : EReal :=
  query (argX m c) (argY m c) (argH m c) (argWo m c) (argG m c) (argWq m c) r hr n

theorem queryOf_at {c : Dev nD} {r s : ℕ} {hr : r < 16384} {hs : s < 16384} {k l : Fin 4096} (h : r = s) (hk : k.val = l.val) :
    queryOf m c r hr k = queryOf m c s hs l := by
  subst h; exact congrArg _ (Fin.ext hk)

/-- All queries. -/
def queryArr (c : Dev nD) (i : S16384x4096.Idx) : EReal := queryOf m c (i 0).val (i 0).isLt (i 1)

theorem out3_apply (c : Dev nD) (t : Fin cfg1.N) (y : S1024x1024.Idx) (i : S16384x4096.Idx) (h0 : (i 0).val = t.val / 4 * 1024 + (y 0).val)
    (h1 : (i 1).val = t.val % 4 * 1024 + (y 1).val) :
    out1_3 (iblk1 (V3 m ρ) c 0 t) (iblk1 (V3 m ρ) c 1 t) (iblk1 (V3 m ρ) c 2 t) y = queryArr m c i := by
  frame_out
  refine (query_apply _ _ _ _ _ _ _ _ _ _ y _ rfl).trans ?_
  unfold queryArr queryOf query
  refine Eq.trans ?_ (scaled_proj _ _ _)
  refine congrArg₂ (fun a b : EReal => Cert.Kernel2Ideal.Mlp.rsc a * b) ?_ (Finset.sum_congr rfl fun k _ => ?_)
  · refine Eq.trans ?_ (lanes_row m ρ c t (y 0) ⟨(y 1).val % 128, Nat.mod_lt _ (by decide)⟩ (i 0).val (i 0).isLt h0)
    rw [Fin.sum_univ_eight]
    refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_
    · exact ld_lanes _ 0 _ _ _
    · exact ld_lanes _ 1 _ _ _
    · exact ld_lanes _ 2 _ _ _
    · exact ld_lanes _ 3 _ _ _
    · exact ld_lanes _ 4 _ _ _
    · exact ld_lanes _ 5 _ _ _
    · exact ld_lanes _ 6 _ _ _
    · exact ld_lanes _ 7 _ _ _
  · refine congrArg₂ (fun a b : EReal => a * b) ((blk1_0 m ρ c t _).trans (resRow_at m h0.symm rfl)) ((blk1_2 m ρ c t _).trans ?_)
    exact congrArg (fun n => gain (argG m c) k * qcol (argWq m c) n k) (Fin.ext h1.symm)

theorem arr1_3 (c : Dev nD) : (dat1 (V3 m ρ) c).arrAt 3 cfg1.N = queryArr m c := by
  refine (dat1 (V3 m ρ) c).arrAt_eq_of_covers 3 _ (by decide +kernel) fun t _ y => ?_
  blk_simp; rw [after1_3]
  exact out3_apply m ρ c t y _ (by blk_simp [at1_3]) (by blk_simp [at1_3])

end Cert.Kernel3Ideal.Cross

end
-- ==== Proof.Cross.Attend.lean ====
/-
  The third call's array: each head's attention to the memory.
-/
module

public import proofs.«01_k».proof.Proof.Cross.Query

@[expose] public section

set_option maxRecDepth 16384

noncomputable section

namespace Cert.Kernel3Ideal.Cross

open Cert.Kernel3Ideal Cert.Kernel3Ideal.Gen
open Idealize.ShloMosaic Idealize.ShloMosaic.TcCoe Idealize.ShloMosaic.Tactic
open Idealize.ShloMosaic.Pipeline (Dat BodyObligation)
open Cert.InProjTarget Cert.CrossTarget

variable (m : (ℓ : Loc nD τ sig) → Buf (Elt Ideal) ℓ) (ρ : Dev nD → PrngReg)

theorem V5_queries (c : Dev nD) : V5 m ρ c main_v12 = queryArr m c :=
  (W5_of m ρ c main_v12 (by decide)).trans ((W4_arr m ρ c 3).trans (arr1_3 m ρ c))

/-- Row `r` of a memory array, its two outer axes joined. -/
def mrow (x : (⟨3, ![4, 256, 4096]⟩ : Shape).Idx → EReal) (r : ℕ) (h : r < 1024) (k : Fin 4096) : EReal :=
  x (ValueIdx.ix3 ⟨r / 256, by omega⟩ ⟨r % 256, by omega⟩ k)

theorem mrow_at {x : (⟨3, ![4, 256, 4096]⟩ : Shape).Idx → EReal} {r s : ℕ} {hr : r < 1024} {hs : s < 1024} {k l : Fin 4096} (h : r = s)
    (hk : k.val = l.val) : mrow x r hr k = mrow x s hs l := by
  subst h; exact congrArg _ (Fin.ext hk)

theorem memory_apply {α : Type} (x : S4x256x4096.Idx → α) (i : S1024x4096.Idx) :
    shapeCast S1024x4096 x shapeCasts_S4x256x4096_S1024x4096 i
      = x (ValueIdx.ix3 (n0 := 4) (n1 := 256) (n2 := 4096) ⟨(i 0).val / 256, by have h0 : (i 0).val < 1024 := (i 0).isLt; omega⟩
          ⟨(i 0).val % 256, by omega⟩ (i 1)) := by
  have h0 : (i 0).val < 1024 := (i 0).isLt
  have h1 : (i 1).val < 4096 := (i 1).isLt
  exact shapeCast_apply x shapeCasts_S4x256x4096_S1024x4096 i _ (by
    rw [Shape.rowMajor_val_three, Shape.rowMajor_val_two]
    show ((i 0).val / 256 * 256 + (i 0).val % 256) * 4096 + (i 1).val = (i 0).val * 4096 + (i 1).val; omega)

theorem V5_keys (c : Dev nD) (i : S1024x4096.Idx) : V5 m ρ c main_v13 i = mrow (argK m c) (i 0).val (i 0).isLt (i 1) := by
  simp only [V5, W5, hostOps2]
  after_results_simp
  rw [W4_args m ρ c main_arg3 (by decide)]
  exact memory_apply _ i
theorem V5_values (c : Dev nD) (i : S1024x4096.Idx) : V5 m ρ c main_v14 i = mrow (argV m c) (i 0).val (i 0).isLt (i 1) := by
  simp only [V5, W5, hostOps2]
  after_results_simp
  rw [W4_args m ρ c main_arg4 (by decide)]
  exact memory_apply _ i

/-! ### The blocks of the third call's points -/

theorem at2_0 : ∀ t : Fin cfg2.N, win2_0.index t = ![t.val, 0] := (by decide +kernel : ∀ t : Fin grid2.N, _)
theorem at2_1 : ∀ t : Fin cfg2.N, win2_1.index t = ![t.val / 8, 0] := (by decide +kernel : ∀ t : Fin grid2.N, _)
theorem at2_2 : ∀ t : Fin cfg2.N, win2_2.index t = ![t.val / 8, 0] := (by decide +kernel : ∀ t : Fin grid2.N, _)
theorem at2_3 : ∀ t : Fin cfg2.N, win2_3.index t = ![t.val, 0] := (by decide +kernel : ∀ t : Fin grid2.N, _)

theorem lt_points2 (t : Fin cfg2.N) : t.val < 32 := t.isLt

/-- A point reads 512 rows of queries, -/
theorem blk2_0 (c : Dev nD) (t : Fin cfg2.N) (y : S512x4096.Idx) :
    iblk2 (V5 m ρ) c 0 t y = queryOf m c (t.val * 512 + (y 0).val)
      (by have h : (y 0).val < 512 := (y 0).isLt; have := lt_points2 t; omega) (y 1) := by
  show V5 m ρ c main_v12 (((cfg2.win 0).blk t).view.emb y) = _
  rw [V5_queries]
  exact queryOf_at m (by blk_simp [at2_0]) (by blk_simp [at2_0])
/-- their batch's keys -/
theorem blk2_1 (c : Dev nD) (t : Fin cfg2.N) (y : S256x4096.Idx) :
    iblk2 (V5 m ρ) c 1 t y = mrow (argK m c) (t.val / 8 * 256 + (y 0).val)
      (by have h : (y 0).val < 256 := (y 0).isLt; have := lt_points2 t; omega) (y 1) := by
  show V5 m ρ c main_v13 (((cfg2.win 1).blk t).view.emb y) = _
  rw [V5_keys]
  exact mrow_at (by blk_simp [at2_1]) (by blk_simp [at2_1])
/-- and values. -/
theorem blk2_2 (c : Dev nD) (t : Fin cfg2.N) (y : S256x4096.Idx) :
    iblk2 (V5 m ρ) c 2 t y = mrow (argV m c) (t.val / 8 * 256 + (y 0).val)
      (by have h : (y 0).val < 256 := (y 0).isLt; have := lt_points2 t; omega) (y 1) := by
  show V5 m ρ c main_v14 (((cfg2.win 2).blk t).view.emb y) = _
  rw [V5_values]
  exact mrow_at (by blk_simp [at2_2]) (by blk_simp [at2_2])

/-! ### The array -/

/-- A load of one head's columns: of the queries -/
theorem ld_query (s : Vec Ideal S512x4096 .bf16) (a : Fin 4) (inb) (r : Fin 512) (d : Fin 1024) :
    View.ld (Val := Elt Ideal) (e' := .bf16) s (Rect.unit (s := S512x4096) ![0, 1024 * a.val] S512x1024.size inb) (ValueIdx.ix2 r d)
      = s (ValueIdx.ix2 (n0 := 512) (n1 := 4096) r (col a.val a.isLt d)) := by
  refine View.ld_unit_apply_of (Val := Elt Ideal) (e := .bf16) s _ _ _ _ _ (fun b => ?_)
  match b with
  | ⟨0, _⟩ => show r.val = 0 + r.val; omega
  | ⟨1, _⟩ => rfl
/-- and of the memory. -/
theorem ld_memory (s : Vec Ideal S256x4096 .bf16) (a : Fin 4) (inb) (r : Fin 256) (d : Fin 1024) :
    View.ld (Val := Elt Ideal) (e' := .bf16) s (Rect.unit (s := S256x4096) ![0, 1024 * a.val] S256x1024.size inb) (ValueIdx.ix2 r d)
      = s (ValueIdx.ix2 (n0 := 256) (n1 := 4096) r (col a.val a.isLt d)) := by
  refine View.ld_unit_apply_of (Val := Elt Ideal) (e := .bf16) s _ _ _ _ _ (fun b => ?_)
  match b with
  | ⟨0, _⟩ => show r.val = 0 + r.val; omega
  | ⟨1, _⟩ => rfl

/-- A row of the memory in a point's batch. -/
theorem mrow_batch (x : (⟨3, ![4, 256, 4096]⟩ : Shape).Idx → EReal) (t R : ℕ) (j : Fin 256) (n : Fin 4096) (hR : R < 16384)
    (h : R / 512 = t) (hb : t / 8 * 256 + j.val < 1024) :
    mrow x (t / 8 * 256 + j.val) hb n = x (ValueIdx.ix3 ⟨R / 4096, by omega⟩ j n) := by
  unfold mrow
  refine congrArg₂ (fun a b => x (ValueIdx.ix3 a b n)) (Fin.ext ?_) (Fin.ext ?_)
  · show (t / 8 * 256 + j.val) / 256 = R / 4096; omega
  · show (t / 8 * 256 + j.val) % 256 = j.val; omega

/-- What a point computes for one head, at the place its block gives it. -/
theorem head_block (c : Dev nD) (t : Fin cfg2.N) (a : Fin 4) (iq ik iv) (y : S512x1024.Idx) (R : ℕ) (hR : R < 16384) (h0 : R = t.val * 512 + (y 0).val) :
    headOut (scores (View.ld (Val := Elt Ideal) (e' := .bf16) (iblk2 (V5 m ρ) c 0 t) (Rect.unit (s := S512x4096) ![0, 1024 * a.val] S512x1024.size iq))
        (View.ld (Val := Elt Ideal) (e' := .bf16) (iblk2 (V5 m ρ) c 1 t) (Rect.unit (s := S256x4096) ![0, 1024 * a.val] S256x1024.size ik)))
        (View.ld (Val := Elt Ideal) (e' := .bf16) (iblk2 (V5 m ρ) c 2 t) (Rect.unit (s := S256x4096) ![0, 1024 * a.val] S256x1024.size iv)) y
      = head (argX m c) (argY m c) (argH m c) (argK m c) (argV m c) (argWo m c) (argG m c) (argWq m c) R hR a.val a.isLt (y 1) := by
  have hy : (y 0).val < 512 := (y 0).isLt
  have ht := lt_points2 t
  refine (head_apply _ _ _ y).trans ?_
  unfold head
  have eq : (fun d => View.ld (Val := Elt Ideal) (e' := .bf16) (iblk2 (V5 m ρ) c 0 t) (Rect.unit (s := S512x4096) ![0, 1024 * a.val] S512x1024.size iq)
      (ValueIdx.ix2 (y 0) d) : Fin 1024 → EReal) = fun d => queryOf m c R hR (col a.val a.isLt d) :=
    funext fun d => (ld_query _ a iq (y 0) d).trans ((blk2_0 m ρ c t _).trans (queryOf_at m h0.symm rfl))
  have ek : (fun j d => View.ld (Val := Elt Ideal) (e' := .bf16) (iblk2 (V5 m ρ) c 1 t) (Rect.unit (s := S256x4096) ![0, 1024 * a.val] S256x1024.size ik)
      (ValueIdx.ix2 j d) : Fin 256 → Fin 1024 → EReal) = fun j d => argK m c (ValueIdx.ix3 ⟨R / 4096, by omega⟩ j (col a.val a.isLt d)) :=
    funext fun j => funext fun d => (ld_memory _ a ik j d).trans ((blk2_1 m ρ c t _).trans (mrow_batch _ t.val R j _ hR (by omega) _))
  have ev : (fun j d => View.ld (Val := Elt Ideal) (e' := .bf16) (iblk2 (V5 m ρ) c 2 t) (Rect.unit (s := S256x4096) ![0, 1024 * a.val] S256x1024.size iv)
      (ValueIdx.ix2 j d) : Fin 256 → Fin 1024 → EReal) = fun j d => argV m c (ValueIdx.ix3 ⟨R / 4096, by omega⟩ j (col a.val a.isLt d)) :=
    funext fun j => funext fun d => (ld_memory _ a iv j d).trans ((blk2_2 m ρ c t _).trans (mrow_batch _ t.val R j _ hR (by omega) _))
  exact (congrArg (fun Q => attend Q _ _ (y 1)) eq).trans ((congrArg (fun K => attend _ K _ (y 1)) ek).trans (congrArg (fun V => attend _ _ V (y 1)) ev))

/-- Head `a`'s entry of the result. -/
theorem heads_at (c : Dev nD) (i : S16384x4096.Idx) (a : Fin 4) (n : Fin 1024) (h : (i 1).val = 1024 * a.val + n.val) :
    heads (argX m c) (argY m c) (argH m c) (argK m c) (argV m c) (argWo m c) (argG m c) (argWq m c) i
      = head (argX m c) (argY m c) (argH m c) (argK m c) (argV m c) (argWo m c) (argG m c) (argWq m c) (i 0).val (i 0).isLt a.val a.isLt n := by
  unfold heads
  have ea : (i 1).val / 1024 = a.val := by omega
  have en : (⟨(i 1).val % 1024, Nat.mod_lt _ (by decide)⟩ : Fin 1024) = n := Fin.ext (by show (i 1).val % 1024 = n.val; omega)
  rw [en]
  congr 1

/-- The four heads' stores are the block's entries. -/
theorem out_apply (c : Dev nD) (t : Fin cfg2.N) (y : S512x4096.Idx) (i : S16384x4096.Idx) (h0 : (i 0).val = t.val * 512 + (y 0).val)
    (h1 : (i 1).val = (y 1).val) :
    out2_3 (iblk2 (V5 m ρ) c 0 t) (iblk2 (V5 m ρ) c 1 t) (iblk2 (V5 m ρ) c 2 t) y
      = heads (argX m c) (argY m c) (argH m c) (argK m c) (argV m c) (argWo m c) (argG m c) (argWq m c) i := by
  unfold out2_3
  refine View.canon_eq_of_allAt _ y _ (cover2_3 _ _ _ _ y) ?_
  have place : ∀ (a : Fin 4) (inb) (x : S512x1024.Idx), (Rect.unit (s := S512x4096) ![0, 1024 * a.val] S512x1024.size inb).emb x = y →
      (i 0).val = t.val * 512 + (x 0).val ∧ (i 1).val = 1024 * a.val + (x 1).val := by
    intro a inb x hx
    have e0 : (y 0).val = 0 + 1 * (x 0).val := by rw [← hx]; rfl
    have e1 : (y 1).val = 1024 * a.val + 1 * (x 1).val := by rw [← hx]; rfl
    omega
  refine View.allAt_cons _ _ _ (fun x hx => ?_) (View.allAt_cons _ _ _ (fun x hx => ?_)
    (View.allAt_cons _ _ _ (fun x hx => ?_) (View.allAt_cons _ _ _ (fun x hx => ?_) (View.allAt_nil y _))))
  · have p := place 3 _ x hx
    rw [heads_at m c i 3 (x 1) p.2, head3_eq]
    exact head_block m ρ c t 3 _ _ _ x _ _ p.1
  · have p := place 2 _ x hx
    rw [heads_at m c i 2 (x 1) p.2, head2_eq]
    exact head_block m ρ c t 2 _ _ _ x _ _ p.1
  · have p := place 1 _ x hx
    rw [heads_at m c i 1 (x 1) p.2, head1_eq]
    exact head_block m ρ c t 1 _ _ _ x _ _ p.1
  · have p := place 0 _ x hx
    rw [heads_at m c i 0 (x 1) p.2, head0_eq]
    exact head_block m ρ c t 0 _ _ _ x _ _ p.1

theorem arr2_3 (c : Dev nD) : (dat2 (V5 m ρ) c).arrAt 3 cfg2.N
    = heads (argX m c) (argY m c) (argH m c) (argK m c) (argV m c) (argWo m c) (argG m c) (argWq m c) := by
  refine (dat2 (V5 m ρ) c).arrAt_eq_of_covers 3 _ (by decide +kernel) fun t _ y => ?_
  blk_simp; rw [after2_3]
  exact out_apply m ρ c t y _ (by blk_simp [at2_3]) (by blk_simp [at2_3])

end Cert.Kernel3Ideal.Cross

end
-- ==== Proof.Cross.ReferenceValue.lean ====
/-
  The third reference's results are the arrays of `Target`.
-/
module

public import proofs.«01_k».proof.Proof.Gen.Reference3Ideal.Run
public import proofs.«01_k».proof.Proof.Gen.Reference3Ideal.Read
public import proofs.«01_k».proof.Proof.Cross.Target

@[expose] public section

set_option maxRecDepth 16384

noncomputable section

namespace Cert.Reference3Ideal.Cross

open Cert.Reference3Ideal Cert.Reference3Ideal.Gen Cert.Reference3Ideal.Read Cert.InProjTarget Cert.CrossTarget
open Idealize.ShloMosaic Idealize.ShloMosaic.TcCoe Idealize.SL.Sem Idealize.ShloMosaic.StableHlo Idealize.ShloMosaic.ValueIdx

variable (x y : (⟨S4x4096x2048, .bf16⟩ : BufTy).Contents (Elt Ideal)) (h : (⟨S4x4096x4096, .f32⟩ : BufTy).Contents (Elt Ideal))
  (k v : (⟨S4x256x4096, .bf16⟩ : BufTy).Contents (Elt Ideal)) (wo : (⟨S1x4096x4096, .f32⟩ : BufTy).Contents (Elt Ideal))
  (g : (⟨S1x4096, .f32⟩ : BufTy).Contents (Elt Ideal)) (wq : (⟨S1x4096x4096, .f32⟩ : BufTy).Contents (Elt Ideal))

/-- An entry of a three-axis array, its two outer coordinates joined. -/
theorem row_at (a : S4x4096x4096.Idx → EReal) (i : S4x4096x4096.Idx) (r : ℕ) (hr : r < 16384) (h0 : (i 0).val = r / 4096)
    (h1 : (i 1).val = r % 4096) : a i = xrow a r hr (i 2) :=
  congrArg a (funext fun b => Fin.ext (by match b with | ⟨0, _⟩ => exact h0 | ⟨1, _⟩ => exact h1 | ⟨2, _⟩ => rfl))

/-- The mixers' outputs side by side. -/
theorem mixers_at (i : S4x4096x4096.Idx) (r : ℕ) (hr : r < 16384) (h0 : (i 0).val = r / 4096) (h1 : (i 1).val = r % 4096) :
    val_main_v0 (F := Ideal) x y i = mixers x y r hr (i 2) := by
  have h2 : (i 2).val < 4096 := (i 2).isLt
  unfold val_main_v0 mixers
  by_cases hk : (i 2).val < 2048
  · rw [dif_pos hk]
    refine concatenate_pair_apply_left (t := S4x4096x4096) (s₁ := S4x4096x2048) (s₂ := S4x4096x2048) 2 x y
      concatenates_S4x4096x2048_S4x4096x2048_S4x4096x4096_d2 i rfl _ (fun b => ?_)
    match b with
    | ⟨0, _⟩ => exact h0.symm
    | ⟨1, _⟩ => exact h1.symm
    | ⟨2, _⟩ => rfl
  · rw [dif_neg hk]
    refine concatenate_pair_apply_right (t := S4x4096x4096) (s₁ := S4x4096x2048) (s₂ := S4x4096x2048) 2 x y
      concatenates_S4x4096x2048_S4x4096x2048_S4x4096x4096_d2 i rfl rfl _ (fun b hb => ?_) ?_
    · match b, hb with
      | ⟨0, _⟩, _ => exact h0.symm
      | ⟨1, _⟩, _ => exact h1.symm
      | ⟨2, _⟩, hb => exact absurd rfl hb
    · show (i 2).val - 2048 + 2048 = (i 2).val; omega

/-- The residual rows. -/
theorem resid_at (i : S4x4096x4096.Idx) (r : ℕ) (hr : r < 16384) (h0 : (i 0).val = r / 4096) (h1 : (i 1).val = r % 4096) :
    val_main_v3 (F := Ideal) x y h wo i = resid x y h wo r hr (i 2) := by
  have h2 : (i 2).val < 4096 := (i 2).isLt
  rw [val_main_v3_apply, val_main_v2_apply]
  refine congrArg₂ (fun a b : EReal => a + b) (row_at h i r hr h0 h1) (Finset.sum_congr rfl fun l _ => ?_)
  rw [val_main_v1_apply]
  refine congrArg₂ (fun a b : EReal => a * b) (mixers_at x y _ r hr h0 h1) (congrArg wo (funext fun a => Fin.ext ?_))
  have hl := l.isLt
  match a with
  | ⟨0, _⟩ => rfl
  | ⟨1, _⟩ => show (l.val * 4096 + (i 2).val) / 4096 % 4096 = l.val; omega
  | ⟨2, _⟩ => show (l.val * 4096 + (i 2).val) % 4096 = (i 2).val; omega

/-- The normalised rows. -/
theorem norm_at (i : S4x4096x4096.Idx) (r : ℕ) (hr : r < 16384) (h0 : (i 0).val = r / 4096) (h1 : (i 1).val = r % 4096) :
    val_main_v17 (F := Ideal) x y h wo g i = normed (resid x y h wo r hr) (gain g) (i 2) := by
  have hx : ∀ l : Fin 4096, val_main_v3 (F := Ideal) x y h wo (idx_main_v6 (idx_main_v7 (idx_main_v13 i)) l) = resid x y h wo r hr l :=
    fun l => resid_at x y h wo _ r hr h0 h1
  have hg : g (idx_main_v4 (idx_main_v15 (idx_main_v16 i))) = gain g (i 2) :=
    congrArg g (funext fun a => Fin.ext (by
      have h2 : (i 2).val < 4096 := (i 2).isLt
      match a with | ⟨0, _⟩ => rfl | ⟨1, _⟩ => exact Nat.mod_eq_of_lt h2))
  rw [val_main_v17_apply, val_main_v14_apply, val_main_v16_apply, val_main_v15_apply, val_main_v4_apply, val_main_v13_apply,
    val_main_v12_apply, val_main_v11_apply, val_main_v9_apply, val_main_v7_apply, val_main_v6_apply, val_main_v8_apply,
    val_main_v10_apply, val_main_cst_apply, val_main_cst_0_apply, val_main_cst_1_apply, hg, resid_at x y h wo i r hr h0 h1]
  simp only [val_main_v5_apply, hx]
  refine congrArg (fun s : EReal => resid x y h wo r hr (i 2) * Ideal.rsqrt (Ideal.div s (Ideal.ofBits .f32 0x45800000#32)
    + Ideal.ofBits .f32 0x358637BD#32) * gain g (i 2)) ?_
  exact (congrArg (fun z : EReal => z + _) Ideal.ofBits_zero_f32).trans (zero_add _)

/-- The queries. -/
theorem query_at (i : S4x4096x4096.Idx) (r : ℕ) (hr : r < 16384) (h0 : (i 0).val = r / 4096) (h1 : (i 1).val = r % 4096) :
    val_main_v19 (F := Ideal) x y h wo g wq i = query x y h wo g wq r hr (i 2) := by
  have h2 : (i 2).val < 4096 := (i 2).isLt
  rw [val_main_v19_apply]
  unfold query proj
  refine Finset.sum_congr rfl fun l _ => ?_
  refine congrArg₂ (fun a b : EReal => a * b) (norm_at x y h wo g (lidx_main_v19 i l) r hr h0 h1) ?_
  rw [val_main_v18_apply]
  refine congrArg wq (funext fun a => Fin.ext ?_)
  have hl := l.isLt
  match a with
  | ⟨0, _⟩ => rfl
  | ⟨1, _⟩ => show (l.val * 4096 + (i 2).val) / 4096 % 4096 = l.val; omega
  | ⟨2, _⟩ => show (l.val * 4096 + (i 2).val) % 4096 = (i 2).val; omega

/-- An entry of the memory, its two inner coordinates joined. -/
theorem key_at (a : S4x256x4096.Idx → EReal) (i : S4x256x4x1024.Idx) :
    a (idx_main_v21 i) = a (ix3 (i 0) (i 1) (col (i 2).val (i 2).isLt (i 3))) := by
  have h0 : (i 0).val < 4 := (i 0).isLt
  have h1 : (i 1).val < 256 := (i 1).isLt
  have h2 : (i 2).val < 4 := (i 2).isLt
  have h3 : (i 3).val < 1024 := (i 3).isLt
  refine congrArg a (funext fun b => Fin.ext ?_)
  match b with
  | ⟨0, _⟩ => show ((((i 0).val * 256 + (i 1).val) * 4 + (i 2).val) * 1024 + (i 3).val) / 1048576 = (i 0).val; omega
  | ⟨1, _⟩ => show ((((i 0).val * 256 + (i 1).val) * 4 + (i 2).val) * 1024 + (i 3).val) / 4096 % 256 = (i 1).val; omega
  | ⟨2, _⟩ => show ((((i 0).val * 256 + (i 1).val) * 4 + (i 2).val) * 1024 + (i 3).val) % 4096 = 1024 * (i 2).val + (i 3).val; omega

/-- The scores of row `r` and head `a`. -/
abbrev scoresOf (r : ℕ) (hr : r < 16384) (a : ℕ) (ha : a < 4) : Fin 256 → EReal :=
  score (fun d => query x y h wo g wq r hr (col a ha d)) (fun j d => k (ix3 ⟨r / 4096, by omega⟩ j (col a ha d)))

theorem score_at (i : S4x4x4096x256.Idx) (r : ℕ) (hr : r < 16384) (a : ℕ) (ha : a < 4) (h0 : (i 0).val = r / 4096) (h1 : (i 1).val = a)
    (h2 : (i 2).val = r % 4096) : val_main_v26 (F := Ideal) x y h k wo g wq i = scoresOf x y h k wo g wq r hr a ha (i 3) := by
  rw [val_main_v26_apply, val_main_v25_apply, val_main_cst_2_apply, val_main_v24_apply]
  unfold scoresOf score
  refine congrArg (fun z : EReal => z * Ideal.ofBits .f32 0x3D000000#32) (Finset.sum_congr rfl fun d _ => ?_)
  have hd := d.isLt
  rw [val_main_v20_apply, val_main_v23_apply, val_main_v21_apply]
  refine congrArg₂ (fun a b : EReal => a * b) ?_ ?_
  · refine (query_at x y h wo g wq _ r hr ?_ ?_).trans (congrArg (query x y h wo g wq r hr) (Fin.ext ?_))
    · show ((((i 0).val * 4096 + (i 2).val) * 4 + (i 1).val) * 1024 + d.val) / 16777216 = r / 4096; omega
    · show ((((i 0).val * 4096 + (i 2).val) * 4 + (i 1).val) * 1024 + d.val) / 4096 % 4096 = r % 4096; omega
    · show ((((i 0).val * 4096 + (i 2).val) * 4 + (i 1).val) * 1024 + d.val) % 4096 = 1024 * a + d.val; omega
  · refine (key_at k _).trans (congrArg k (funext fun b => Fin.ext ?_))
    match b with
    | ⟨0, _⟩ => exact h0
    | ⟨1, _⟩ => rfl
    | ⟨2, _⟩ => show 1024 * (i 1).val + d.val = 1024 * a + d.val; omega

theorem last : S4x4x4096x256.Reduces [3] S4x4x4096 := by decide

/-- The largest score; the reference's second comparison with minus infinity changes nothing. -/
theorem top_at (i : S4x4x4096.Idx) (r : ℕ) (hr : r < 16384) (a : ℕ) (ha : a < 4) (h0 : (i 0).val = r / 4096) (h1 : (i 1).val = a)
    (h2 : (i 2).val = r % 4096) : val_main_v29 (F := Ideal) x y h k wo g wq i = top (scoresOf x y h k wo g wq r hr a ha) := by
  have e : val_main_v27 (F := Ideal) x y h k wo g wq i = top (scoresOf x y h k wo g wq r hr a ha) := by
    unfold val_main_v27
    have hs := fun j => score_at x y h k wo g wq (last.lift i j) r hr a ha h0 h1 h2
    generalize val_main_v26 (F := Ideal) x y h k wo g wq = z at hs ⊢
    refine (Host.reduce_eq_fold_single (α := EReal) max z _ reducesTo_S4x4x4096x256_S4x4x4096_d3 last h_S_ i).trans ?_
    exact Finset.fold_congr fun j _ => hs j
  rw [val_main_v29_apply, e, val_main_v28_apply, val_main_cst_4_apply]
  exact max_eq_right ((Finset.le_fold_max _).mpr (Or.inl le_rfl))

/-- The exponentials. -/
theorem expo_at (i : S4x4x4096x256.Idx) (r : ℕ) (hr : r < 16384) (a : ℕ) (ha : a < 4) (h0 : (i 0).val = r / 4096) (h1 : (i 1).val = a)
    (h2 : (i 2).val = r % 4096) : val_main_v33 (F := Ideal) x y h k wo g wq i
      = Ideal.exp (scoresOf x y h k wo g wq r hr a ha (i 3) - top (scoresOf x y h k wo g wq r hr a ha)) := by
  rw [val_main_v33_apply, val_main_v32_apply, val_main_v31_apply, val_main_v30_apply, score_at x y h k wo g wq i r hr a ha h0 h1 h2,
    top_at x y h k wo g wq _ r hr a ha h0 h1 h2]
  rfl

/-- The weights. -/
theorem soft_at (i : S4x4x4096x256.Idx) (r : ℕ) (hr : r < 16384) (a : ℕ) (ha : a < 4) (h0 : (i 0).val = r / 4096) (h1 : (i 1).val = a)
    (h2 : (i 2).val = r % 4096) : val_main_v37 (F := Ideal) x y h k wo g wq i = soft (scoresOf x y h k wo g wq r hr a ha) (i 3) := by
  rw [val_main_v37_apply, val_main_v36_apply, val_main_v35_apply, val_main_v34_apply, val_main_cst_5_apply,
    expo_at x y h k wo g wq i r hr a ha h0 h1 h2]
  unfold soft
  refine congrArg (Ideal.div _) ?_
  refine (congrArg (fun z : EReal => z + _) Ideal.ofBits_zero_f32).trans ((zero_add _).trans (Finset.sum_congr rfl fun j _ => ?_))
  exact expo_at x y h k wo g wq _ r hr a ha h0 h1 h2

/-- A head's output. -/
theorem head_at (i : S4x4x1024x4096.Idx) (r : ℕ) (hr : r < 16384) (a : ℕ) (ha : a < 4) (h0 : (i 0).val = r / 4096) (h1 : (i 1).val = a)
    (h3 : (i 3).val = r % 4096) : val_main_v39 (F := Ideal) x y h k v wo g wq i = head x y h k v wo g wq r hr a ha (i 2) := by
  rw [val_main_v39_apply]
  unfold head attend
  refine Finset.sum_congr rfl fun j _ => ?_
  refine (mul_comm _ _).trans (congrArg₂ (fun a b : EReal => a * b) (soft_at x y h k wo g wq _ r hr a ha h0 h1 h3) ?_)
  rw [val_main_v38_apply, val_main_v22_apply]
  refine (key_at v _).trans (congrArg v (funext fun b => Fin.ext ?_))
  match b with
  | ⟨0, _⟩ => exact h0
  | ⟨1, _⟩ => rfl
  | ⟨2, _⟩ => show 1024 * (i 1).val + (i 2).val = 1024 * a + (i 2).val; omega

/-- The reference's first result. -/
theorem rows_eq : val_main_v42 (F := Ideal) x y h wo = rows x y h wo := by
  funext i
  have i0 : (i 0).val < 16384 := (i 0).isLt
  have i1 : (i 1).val < 4096 := (i 1).isLt
  rw [val_main_v42_apply]
  refine (resid_at x y h wo _ (i 0).val i0
    (by show ((i 0).val * 4096 + (i 1).val) / 16777216 = _; omega)
    (by show ((i 0).val * 4096 + (i 1).val) / 4096 % 4096 = _; omega)).trans ?_
  refine congrArg (resid x y h wo _ _) (Fin.ext ?_)
  show ((i 0).val * 4096 + (i 1).val) % 4096 = (i 1).val; omega

/-- The reference's second result. -/
theorem heads_eq : val_main_v44 (F := Ideal) x y h k v wo g wq = heads x y h k v wo g wq := by
  funext i
  have i0 : (i 0).val < 16384 := (i 0).isLt
  have i1 : (i 1).val < 4096 := (i 1).isLt
  have e0 : (idx_main_v43 i 0).val = (i 0).val / 4096 := by show ((i 0).val * 4096 + (i 1).val) / 16777216 = _; omega
  have e1 : (idx_main_v43 i 1).val = (i 0).val % 4096 := by show ((i 0).val * 4096 + (i 1).val) / 4096 % 4096 = _; omega
  have e2 : (idx_main_v43 i 2).val = (i 1).val := by show ((i 0).val * 4096 + (i 1).val) % 4096 = _; omega
  rw [val_main_v44_apply, val_main_v43_apply, val_main_v41_apply, val_main_v40_apply]
  generalize idx_main_v43 i = q at e0 e1 e2 ⊢
  unfold heads
  refine (head_at x y h k v wo g wq _ (i 0).val i0 ((i 1).val / 1024) (by omega) ?_ ?_ ?_).trans
    (congrArg (head x y h k v wo g wq _ _ _ _) (Fin.ext ?_))
  · show (((q 0).val * 4096 + (q 1).val) * 4096 + (q 2).val) / 16777216 = _; omega
  · show (((q 0).val * 4096 + (q 1).val) * 4096 + (q 2).val) / 1024 % 4 = _; omega
  · show (((q 0).val * 4096 + (q 1).val) * 4096 + (q 2).val) / 4096 % 4096 = _; omega
  · show (((q 0).val * 4096 + (q 1).val) * 4096 + (q 2).val) % 1024 = (i 1).val % 1024; omega

end Cert.Reference3Ideal.Cross

end
-- ==== Proof.Cross.Algebraic.lean ====
/-
  The third program and its reference end with the same two arrays, over the extended reals: both are the arrays of `Target`.
-/
module

public import proofs.«01_k».proof.Defs
public import proofs.«01_k».proof.Proof.Cross.Run
public import proofs.«01_k».proof.Proof.Cross.Attend
public import proofs.«01_k».proof.Proof.Cross.ReferenceValue
public import proofs.«01_k».proof.Proof.Gen.Reference3Ideal.Run
public import proofs.«01_k».proof.Proof.Gen.Reference3Ideal.Read

@[expose] public section

set_option maxRecDepth 16384

noncomputable section

namespace Cert.Proof

open Idealize.ShloMosaic Idealize.SL.Sem Cert.CrossTarget
open Cert.Kernel3Ideal.Cross (argX argY argH argK argV argWo argG argWq arr0_5 arr2_3 run_main)

/-- The reference keeps its arguments and ends with every counter at zero. -/
theorem frame_reference3 : Cert.quiescent_Reference3Ideal (hReference3Ideal := Cert.Reference3Ideal.Gen.facts) := fun m ρ _ =>
  (θ_run Cert.Reference3Ideal.defs _ _).mono (fun r h => ⟨fun c => (h c).2.2, sem_eq_zero_of_no_sems (by decide) r.2⟩)
    (Cert.Reference3Ideal.Value.run (F := Ideal) m ρ)

theorem algebraic3 : Cert.algebraic_Kernel3Ideal_Reference3Ideal (hKernel3Ideal := Cert.Kernel3Ideal.Gen.facts)
    (hReference3Ideal := Cert.Reference3Ideal.Gen.facts) := fun m g m' g' _ same =>
  ⟨fun c => rows (argX m c) (argY m c) (argH m c) (argWo m c),
    fun c => heads (argX m c) (argY m c) (argH m c) (argK m c) (argV m c) (argWo m c) (argG m c) (argWq m c),
    (θ_run Cert.Kernel3Ideal.defs _ _).mono (fun _ h c =>
      ⟨(h c).1.trans (arr0_5 m g c), (h c).2.1.trans (arr2_3 m g c), (h c).2.2⟩) (run_main (F := Ideal) m g),
    (θ_run Cert.Reference3Ideal.defs _ _).mono (fun _ h c => by
      obtain ⟨h42, h44, kept⟩ := h c
      obtain ⟨s0, s1, s2, s3, s4, s5, s6, s7⟩ := same c
      refine ⟨?_, ?_, kept⟩
      · refine h42.trans ((Cert.Reference3Ideal.Read.val_main_v42_eq _ _ _ _).trans ?_)
        rw [s0, s1, s2, s5]; exact Cert.Reference3Ideal.Cross.rows_eq _ _ _ _
      · refine h44.trans ((Cert.Reference3Ideal.Read.val_main_v44_eq m' c).trans ?_)
        rw [s0, s1, s2, s3, s4, s5, s6, s7]; exact Cert.Reference3Ideal.Cross.heads_eq _ _ _ _ _ _ _ _)
      (Cert.Reference3Ideal.Value.run (F := Ideal) m' g')⟩

end Cert.Proof

end
-- ==== Proof.Memory.Target.lean ====
/-
  What the fourth program computes, written as sums over the extended reals: the memory's rows normalised, times the
  columns of the weight.
-/
module

public import proofs.«01_k».proof.Proof.Cross.Target

@[expose] public section

noncomputable section

namespace Cert.MemoryTarget

open Idealize.ShloMosaic Idealize.ShloMosaic.ValueIdx Cert.InProjTarget Cert.CrossTarget

/-- Row `r` of the memory, its two outer axes joined. -/
def mrow (x : (⟨3, ![4, 256, 4096]⟩ : Shape).Idx → EReal) (r : ℕ) (h : r < 1024) (k : Fin 4096) : EReal :=
  x (ix3 ⟨r / 256, by omega⟩ ⟨r % 256, by omega⟩ k)

/-- The projected memory. -/
def keys (x : (⟨3, ![4, 256, 4096]⟩ : Shape).Idx → EReal) (g : (⟨2, ![1, 4096]⟩ : Shape).Idx → EReal)
    (w : (⟨3, ![1, 4096, 4096]⟩ : Shape).Idx → EReal) (i : (⟨2, ![1024, 4096]⟩ : Shape).Idx) : EReal :=
  proj (mrow x (i 0).val (i 0).isLt) (gain g) (qcol w (i 1))

end Cert.MemoryTarget

end
-- ==== Proof.Memory.Payloads.lean ====
/-
  The fourth program's operations read at an index, over the extended reals.
-/
module

public import proofs.«01_k».proof.Proof.Gen.Kernel4Ideal.Frame
public import proofs.«01_k».proof.Proof.Memory.Target
public import Idealize.ShloMosaic.Lib.Pipeline.ValueKit
public import Idealize.ShloMosaic.Lib.MatmulPlain

@[expose] public section

set_option maxRecDepth 16384

noncomputable section

namespace Cert.Kernel4Ideal.Memory

open Cert.Kernel4Ideal Cert.Kernel4Ideal.Gen
open Idealize.ShloMosaic Idealize.ShloMosaic.TcCoe Idealize.ShloMosaic.Tactic
open Cert.InProjTarget

/-- A row tile normalised, at row `i 0` and channel `i 1`. -/
theorem norm_apply (X : Vec Ideal S512x4096 .f32) (g : Vec Ideal S1x4096 .f32) (i : S512x4096.Idx) :
    k0_pay1 (F := Ideal) X g i = normed (fun k => X (ValueIdx.ix2 (i 0) k)) (fun k => g (ValueIdx.ix2 0 k)) (i 1) := by
  have hs : multiReduction (F := Ideal) (φ := .f32) .add [1] S512 (mulf X X) 0x00000000#32 reduces_S512x4096_S512 (.inl rfl) rfl
      = fun j : S512.Idx => ∑ k : Fin 4096, X (ValueIdx.ix2 (j 0) k) * X (ValueIdx.ix2 (j 0) k) := by
    funext j
    refine (Ideal.multiReduction_add_single (φ := .f32) _ _ reduces_S512x4096_S512 _ _ j).trans ?_
    refine Finset.sum_congr rfl fun k _ => ?_
    have e : (reduces_S512x4096_S512).lift j k = ValueIdx.ix2 (j 0) k :=
      funext fun a => Fin.ext (by match a with | ⟨0, _⟩ => rfl | ⟨1, _⟩ => rfl)
    exact congrArg (fun q => X q * X q) e
  unfold k0_pay1
  simp only [shapeCast_self, hs]
  show X i * broadcastTo S512x4096 _ broadcasts_S512x1_S512x4096 i * broadcastTo S512x4096 g broadcasts_S1x4096_S512x4096 i = _
  rw [broadcastTo_apply _ broadcasts_S512x1_S512x4096 i (ValueIdx.ix2 (n0 := 512) (n1 := 1) (i 0) 0) (fun a => by
      match a with
      | ⟨0, _⟩ => show (i 0).val = if (512 : ℕ) = 1 then 0 else (i 0).val; rw [if_neg (by decide)]
      | ⟨1, _⟩ => rfl),
    broadcastTo_apply g broadcasts_S1x4096_S512x4096 i (ValueIdx.ix2 (n0 := 1) (n1 := 4096) 0 (i 1)) (fun a => by
      match a with
      | ⟨0, _⟩ => rfl
      | ⟨1, _⟩ => show (i 1).val = if (4096 : ℕ) = 1 then 0 else (i 1).val; rw [if_neg (by decide)])]
  show X i * Ideal.rsqrt (Ideal.div (shapeCast S512x1 _ shapeCasts_S512_S512x1 (ValueIdx.ix2 (n0 := 512) (n1 := 1) (i 0) 0)) _ + _) * _ = _
  rw [shapeCast_apply _ shapeCasts_S512_S512x1 (ValueIdx.ix2 (n0 := 512) (n1 := 1) (i 0) 0) (ValueIdx.ix1 (n := 512) (i 0)) (by
    rw [Shape.rowMajor_val_one, Shape.rowMajor_val_two]; show (i 0).val = (i 0).val * 1 + 0; omega)]
  rw [show X i = X (ValueIdx.ix2 (i 0) (i 1)) from congrArg X (ValueIdx.eq_ix2 i)]
  rfl

/-- A row tile times a column tile. -/
theorem prod_apply (a : Vec Ideal S512x4096 .bf16) (w : Vec Ideal S4096x1024 .bf16) (i : S512x1024.Idx) :
    k0_pay2 (F := Ideal) a w i = ∑ k : Fin 4096, a (ValueIdx.ix2 (i 0) k) * w (ValueIdx.ix2 k (i 1)) := by
  unfold k0_pay2
  simp only [shapeCast_self]
  rw [ValueIdx.eq_ix2 i]
  refine (Ideal.matmul_plain_apply (φ₁ := .bf16) (φ₂ := .bf16) (M := 512) (K := 4096) (N := 1024) none a w
    (constant S512x1024 .f32 0x00000000#32) (i 0) (i 1)).trans ?_
  exact (congrArg (fun z : EReal => z + _) Ideal.ofBits_zero_f32).trans (zero_add _)

end Cert.Kernel4Ideal.Memory

end
-- ==== Proof.Memory.Arrays.lean ====
/-
  The fourth program's array: what its points read of the arguments, what the carried rows hold after each point, and the
  products.
-/
module

public import proofs.«01_k».proof.Proof.Memory.Payloads

@[expose] public section

set_option maxRecDepth 16384

noncomputable section

namespace Cert.Kernel4Ideal.Memory

open Cert.Kernel4Ideal Cert.Kernel4Ideal.Gen
open Idealize.ShloMosaic Idealize.ShloMosaic.TcCoe Idealize.ShloMosaic.Tactic
open Idealize.ShloMosaic.Pipeline (Dat BodyObligation)
open Cert.InProjTarget Cert.CrossTarget Cert.MemoryTarget

variable (m : (ℓ : Loc nD τ sig) → Buf (Elt Ideal) ℓ)

/-- The three arguments. -/
abbrev argM (c : Dev nD) : (⟨S4x256x4096, .f32⟩ : BufTy).Contents (Elt Ideal) := m ((c : Thread nD τ).loc main_arg0)
abbrev argG (c : Dev nD) : (⟨S1x4096, .f32⟩ : BufTy).Contents (Elt Ideal) := m ((c : Thread nD τ).loc main_arg1)
abbrev argW (c : Dev nD) : (⟨S1x4096x4096, .f32⟩ : BufTy).Contents (Elt Ideal) := m ((c : Thread nD τ).loc main_arg2)

theorem V_rows (c : Dev nD) (i : S1024x4096.Idx) : V m c main_v0 i = mrow (argM m c) (i 0).val (i 0).isLt (i 1) := by
  have h0 : (i 0).val < 1024 := (i 0).isLt
  have h1 : (i 1).val < 4096 := (i 1).isLt
  simp only [V, hostOps0]
  after_results_simp
  exact shapeCast_apply _ shapeCasts_S4x256x4096_S1024x4096 i _ (by
    rw [Shape.rowMajor_val_three, Shape.rowMajor_val_two]
    show ((i 0).val / 256 * 256 + (i 0).val % 256) * 4096 + (i 1).val = (i 0).val * 4096 + (i 1).val; omega)

theorem V_weight (c : Dev nD) (i : S4096x4096.Idx) : V m c main_v3 i = qcol (argW m c) (i 1) (i 0) := by
  simp only [V, hostOps0]
  after_results_simp
  exact shapeCast_apply _ shapeCasts_S1x4096x4096_S4096x4096 i (ValueIdx.ix3 (n0 := 1) (n1 := 4096) (n2 := 4096) 0 (i 0) (i 1)) (by
    rw [Shape.rowMajor_val_three, Shape.rowMajor_val_two]
    show (0 * 4096 + (i 0).val) * 4096 + (i 1).val = (i 0).val * 4096 + (i 1).val; omega)

theorem V_gain (c : Dev nD) (i : S1x4096.Idx) : V m c main_v4 i = gain (argG m c) (i 1) := by
  have h0 : (i 0).val < 1 := (i 0).isLt
  simp only [V, hostOps0]
  after_results_simp
  refine (shapeCast_apply _ shapeCasts_S4096_S1x4096 i (ValueIdx.ix1 (n := 4096) (i 1)) (by
    rw [Shape.rowMajor_val_one, Shape.rowMajor_val_two]; show (i 1).val = (i 0).val * 4096 + (i 1).val; omega)).trans ?_
  exact shapeCast_apply _ shapeCasts_S1x4096_S4096 _ (ValueIdx.ix2 (n0 := 1) (n1 := 4096) 0 (i 1)) (by
    rw [Shape.rowMajor_val_one, Shape.rowMajor_val_two]; show 0 * 4096 + (i 1).val = (i 1).val; omega)

/-! ### The blocks of the points -/

theorem at0_0 : ∀ t : Fin cfg0.N, win0_0.index t = ![0, t.val % 4] := (by decide +kernel : ∀ t : Fin grid0.N, _)
theorem at0_1 : ∀ t : Fin cfg0.N, win0_1.index t = ![t.val / 4, 0] := (by decide +kernel : ∀ t : Fin grid0.N, _)
theorem at0_2 : ∀ t : Fin cfg0.N, win0_2.index t = ![0, 0] := (by decide +kernel : ∀ t : Fin grid0.N, _)
theorem at0_3 : ∀ t : Fin cfg0.N, win0_3.index t = ![t.val / 4, t.val % 4] := (by decide +kernel : ∀ t : Fin grid0.N, _)

theorem lt_points (t : Fin cfg0.N) : t.val < 8 := t.isLt

theorem mrow_at {c : Dev nD} {r s : ℕ} {hr : r < 1024} {hs : s < 1024} {k l : Fin 4096} (h : r = s) (hk : k.val = l.val) :
    mrow (argM m c) r hr k = mrow (argM m c) s hs l := by
  subst h; exact congrArg _ (Fin.ext hk)

theorem blk0 (c : Dev nD) (t : Fin cfg0.N) (y : S4096x1024.Idx) :
    iblk m c 0 t y = qcol (argW m c) ⟨t.val % 4 * 1024 + (y 1).val, by have h : (y 1).val < 1024 := (y 1).isLt; omega⟩ (y 0) := by
  show V m c main_v3 (((cfg0.win 0).blk t).view.emb y) = _
  rw [V_weight]
  exact congrArg₂ (fun a b => qcol (argW m c) b a) (Fin.ext (by blk_simp [at0_0])) (Fin.ext (by blk_simp [at0_0]))
theorem blk1 (c : Dev nD) (t : Fin cfg0.N) (y : S512x4096.Idx) :
    iblk m c 1 t y = mrow (argM m c) (t.val / 4 * 512 + (y 0).val)
      (by have h : (y 0).val < 512 := (y 0).isLt; have := lt_points t; omega) (y 1) := by
  show V m c main_v0 (((cfg0.win 1).blk t).view.emb y) = _
  rw [V_rows]
  exact mrow_at m (by blk_simp [at0_1]) (by blk_simp [at0_1])
theorem blk2 (c : Dev nD) (t : Fin cfg0.N) (y : S1x4096.Idx) : iblk m c 2 t y = gain (argG m c) (y 1) := by
  show V m c main_v4 (((cfg0.win 2).blk t).view.emb y) = _
  rw [V_gain]
  exact congrArg (gain (argG m c)) (Fin.ext (by blk_simp [at0_2]))

/-! ### The carried rows -/

/-- A point's row tile, normalised. -/
theorem fresh (c : Dev nD) (t : Fin cfg0.N) (y : S512x4096.Idx) (r : ℕ) (hr : r < 1024) (h : r = t.val / 4 * 512 + (y 0).val) :
    k0_pay1 (F := Ideal) (iblk m c 1 t) (iblk m c 2 t) y = normed (mrow (argM m c) r hr) (gain (argG m c)) (y 1) := by
  refine (norm_apply _ _ y).trans ?_
  refine congrArg₂ (fun X G : Fin 4096 → EReal => normed X G (y 1)) (funext fun k => ?_) (funext fun k => ?_)
  · exact (blk1 m c t _).trans (mrow_at m h.symm rfl)
  · exact blk2 m c t _

/-- After each point the carried rows are its row tile's, normalised: the first point of a tile stores them and the others
    leave them. -/
theorem carried (c : Dev nD) : ∀ (n : ℕ) (t : Fin cfg0.N), t.val = n → ∀ (y : S512x4096.Idx) (r : ℕ) (hr : r < 1024),
    r = t.val / 4 * 512 + (y 0).val →
    (outsAt0 m c t.val t.isLt).2 y = normed (mrow (argM m c) r hr) (gain (argG m c)) (y 1) := by
  intro n
  induction n with
  | zero =>
    intro t ht y r hr h
    rw [outsAt0_A m c t (by omega)]
    frame_out
    exact fresh m c t y r hr h
  | succ n ih =>
    intro t ht y r hr h
    by_cases h0 : t.val % 4 = 0
    · rw [outsAt0_A m c t h0]
      frame_out
      exact fresh m c t y r hr h
    · rw [outsAt0_B m c t h0]
      show (outsAt0 m c (t.val - 1) (Nat.lt_of_le_of_lt (Nat.sub_le _ _) t.isLt)).2 y = _
      exact ih ⟨t.val - 1, Nat.lt_of_le_of_lt (Nat.sub_le _ _) t.isLt⟩ (by show t.val - 1 = n; omega) y r hr
        (by show r = (t.val - 1) / 4 * 512 + (y 0).val; omega)

/-! ### The array -/

/-- A point's products, once its rows are known. -/
theorem prod_at (c : Dev nD) (t : Fin cfg0.N) (A : Vec Ideal S512x4096 .bf16) (y : S512x1024.Idx) (i : S1024x4096.Idx)
    (h0 : (i 0).val = t.val / 4 * 512 + (y 0).val) (h1 : (i 1).val = t.val % 4 * 1024 + (y 1).val)
    (hA : ∀ k, A (ValueIdx.ix2 (y 0) k) = normed (mrow (argM m c) (i 0).val (i 0).isLt) (gain (argG m c)) k) :
    k0_pay2 (F := Ideal) A (iblk m c 0 t) y = keys (argM m c) (argG m c) (argW m c) i := by
  refine (prod_apply A _ y).trans ?_
  unfold keys proj
  refine Finset.sum_congr rfl fun k _ => congrArg₂ (fun a b : EReal => a * b) (hA k) ((blk0 m c t _).trans ?_)
  exact congrArg (fun n => qcol (argW m c) n k) (Fin.ext h1.symm)

theorem out_at (c : Dev nD) (t : Fin cfg0.N) (y : S512x1024.Idx) (i : S1024x4096.Idx)
    (h0 : (i 0).val = t.val / 4 * 512 + (y 0).val) (h1 : (i 1).val = t.val % 4 * 1024 + (y 1).val) :
    (outsAt0 m c t.val t.isLt).1 y = keys (argM m c) (argG m c) (argW m c) i := by
  by_cases ht : t.val % 4 = 0
  · rw [outsAt0_A m c t ht]
    frame_out
    exact prod_at m c t _ y i h0 h1 fun k => fresh m c t _ _ _ h0
  · rw [outsAt0_B m c t ht]
    frame_out
    refine prod_at m c t _ y i h0 h1 fun k => ?_
    have e : (i 0).val = (t.val - 1) / 4 * 512 + (y 0).val := by omega
    refine (congrFun (Memref.IsWhole.read_unread (Val := Elt Ideal) (Memref.isWhole_whole cc0_scratch0) _) _).trans ?_
    exact carried m c (t.val - 1) ⟨t.val - 1, Nat.lt_of_le_of_lt (Nat.sub_le _ _) t.isLt⟩ rfl (ValueIdx.ix2 (y 0) k) (i 0).val (i 0).isLt e

theorem arr3 (c : Dev nD) : (dats m 0 c).arrAt 3 cfg0.N = keys (argM m c) (argG m c) (argW m c) := by
  refine (dats m 0 c).arrAt_eq_of_covers 3 _ (by decide +kernel) fun t _ y => ?_
  blk_simp; rw [after0_3]
  exact out_at m c t y _ (by blk_simp [at0_3]) (by blk_simp [at0_3])

end Cert.Kernel4Ideal.Memory

end
-- ==== Proof.Memory.ReferenceValue.lean ====
/-
  The fourth reference's result is the array of `Target`.
-/
module

public import proofs.«01_k».proof.Proof.Gen.Reference4Ideal.Run
public import proofs.«01_k».proof.Proof.Gen.Reference4Ideal.Read
public import proofs.«01_k».proof.Proof.Memory.Target

@[expose] public section

set_option maxRecDepth 16384

noncomputable section

namespace Cert.Reference4Ideal.Memory

open Cert.Reference4Ideal Cert.Reference4Ideal.Read
open Idealize.ShloMosaic Idealize.ShloMosaic.ValueIdx Cert.InProjTarget Cert.CrossTarget Cert.MemoryTarget

variable (x : (⟨S4x256x4096, .f32⟩ : BufTy).Contents (Elt Ideal)) (g : (⟨S1x4096, .f32⟩ : BufTy).Contents (Elt Ideal))
  (w : (⟨S1x4096x4096, .f32⟩ : BufTy).Contents (Elt Ideal))

/-- An entry of the memory. -/
theorem row_at (i : S4x256x4096.Idx) (r : ℕ) (hr : r < 1024) (h0 : (i 0).val = r / 256) (h1 : (i 1).val = r % 256) :
    x i = mrow x r hr (i 2) :=
  congrArg x (funext fun a => Fin.ext (by match a with | ⟨0, _⟩ => exact h0 | ⟨1, _⟩ => exact h1 | ⟨2, _⟩ => rfl))

/-- The normalised rows. -/
theorem norm_at (i : S4x256x4096.Idx) (r : ℕ) (hr : r < 1024) (h0 : (i 0).val = r / 256) (h1 : (i 1).val = r % 256) :
    val_main_v13 (F := Ideal) x g i = normed (mrow x r hr) (gain g) (i 2) := by
  have hx : ∀ l : Fin 4096, x (idx_main_v2 (idx_main_v3 (idx_main_v9 i)) l) = mrow x r hr l := fun l => row_at x _ r hr h0 h1
  have hg : g (idx_main_v0 (idx_main_v11 (idx_main_v12 i))) = gain g (i 2) :=
    congrArg g (funext fun a => Fin.ext (by
      have h2 : (i 2).val < 4096 := (i 2).isLt
      match a with | ⟨0, _⟩ => rfl | ⟨1, _⟩ => exact Nat.mod_eq_of_lt h2))
  rw [val_main_v13_apply, val_main_v10_apply, val_main_v12_apply, val_main_v11_apply, val_main_v0_apply, val_main_v9_apply,
    val_main_v8_apply, val_main_v7_apply, val_main_v5_apply, val_main_v3_apply, val_main_v2_apply, val_main_v4_apply,
    val_main_v6_apply, val_main_cst_apply, val_main_cst_0_apply, val_main_cst_1_apply, hg, row_at x i r hr h0 h1]
  simp only [val_main_v1_apply, hx]
  refine congrArg (fun s : EReal => mrow x r hr (i 2) * Ideal.rsqrt (Ideal.div s (Ideal.ofBits .f32 0x45800000#32)
    + Ideal.ofBits .f32 0x358637BD#32) * gain g (i 2)) ?_
  exact (congrArg (fun z : EReal => z + _) Ideal.ofBits_zero_f32).trans (zero_add _)

/-- The products. -/
theorem keys_at (i : S4x256x4096.Idx) (r : ℕ) (hr : r < 1024) (h0 : (i 0).val = r / 256) (h1 : (i 1).val = r % 256) :
    val_main_v15 (F := Ideal) x g w i = proj (mrow x r hr) (gain g) (qcol w (i 2)) := by
  have h2 : (i 2).val < 4096 := (i 2).isLt
  rw [val_main_v15_apply]
  unfold proj
  refine Finset.sum_congr rfl fun l _ => ?_
  refine congrArg₂ (fun a b : EReal => a * b) (norm_at x g (lidx_main_v15 i l) r hr h0 h1) ?_
  rw [val_main_v14_apply]
  refine congrArg w (funext fun a => Fin.ext ?_)
  have hl := l.isLt
  match a with
  | ⟨0, _⟩ => rfl
  | ⟨1, _⟩ => show (l.val * 4096 + (i 2).val) / 4096 % 4096 = l.val; omega
  | ⟨2, _⟩ => show (l.val * 4096 + (i 2).val) % 4096 = (i 2).val; omega

theorem keys_eq : val_main_v17 (F := Ideal) x g w = keys x g w := by
  funext i
  have i0 : (i 0).val < 1024 := (i 0).isLt
  have i1 : (i 1).val < 4096 := (i 1).isLt
  rw [val_main_v17_apply, val_main_v16_apply]
  refine (keys_at x g w _ (i 0).val i0
    (by show ((i 0).val * 4096 + (i 1).val) / 1048576 = _; omega)
    (by show ((i 0).val * 4096 + (i 1).val) / 4096 % 256 = _; omega)).trans ?_
  refine congrArg (fun n => proj (mrow x _ _) (gain g) (qcol w n)) (Fin.ext ?_)
  show ((i 0).val * 4096 + (i 1).val) % 4096 = (i 1).val; omega

end Cert.Reference4Ideal.Memory

end
-- ==== Proof.Memory.Algebraic.lean ====
/-
  The fourth program and its reference end with the same result.
-/
module

public import proofs.«01_k».proof.Defs
public import proofs.«01_k».proof.Proof.Gen.Kernel4Ideal
public import proofs.«01_k».proof.Proof.Gen.Kernel4Ideal.Value
public import proofs.«01_k».proof.Proof.Gen.Reference4Ideal
public import proofs.«01_k».proof.Proof.Memory.Arrays
public import proofs.«01_k».proof.Proof.Memory.ReferenceValue
public import Idealize.ShloMosaic.Lib.Claim

@[expose] public section

noncomputable section

namespace Cert.Proof

open Idealize.ShloMosaic Idealize.SL.Sem Cert.MemoryTarget
open Cert.Kernel4Ideal.Memory (argM argG argW arr3)

/-- The reference keeps its arguments and ends with every counter at zero. -/
theorem frame_reference4 : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)

theorem algebraic4 : Cert.algebraic_Kernel4Ideal_Reference4Ideal (hKernel4Ideal := Cert.Kernel4Ideal.Gen.facts)
    (hReference4Ideal := Cert.Reference4Ideal.Gen.facts) := fun m g m' g' _ same =>
  ⟨fun c => keys (argM m c) (argG m c) (argW m c),
    (θ_run Cert.Kernel4Ideal.defs _ _).mono (fun _ h c => ⟨(h c).1.trans (arr3 m c), (h c).2⟩)
      (Cert.Kernel4Ideal.Value.run_blocks (F := Ideal) m g),
    (θ_run Cert.Reference4Ideal.defs _ _).mono (fun _ h c => by
      obtain ⟨h17, kept⟩ := h c
      obtain ⟨s0, s1, s2⟩ := same c
      refine ⟨?_, kept⟩
      refine h17.trans ((Cert.Reference4Ideal.Read.val_main_v17_eq _ _ _).trans ?_)
      rw [s0, s1, s2]; exact Cert.Reference4Ideal.Memory.keys_eq _ _ _)
      (Cert.Reference4Ideal.Value.run (F := Ideal) m' g')⟩

end Cert.Proof

end
-- ==== Proof.Gate.Target.lean ====
/-
  What the fifth program computes, over the extended reals: the gate's log-sigmoid summed down the sequence, and the sums by
  doubling that give it.
-/
module

public import Idealize.ShloMosaic.PureOps.Ideal
public import Idealize.ShloMosaic.Lib.ValueIdx

@[expose] public section

noncomputable section

namespace Cert.GateTarget

open Idealize.ShloMosaic Idealize.ShloMosaic.ValueIdx

/-- The logarithm of the sigmoid. -/
def lsig (z : EReal) : EReal := min z 0 - Ideal.log1p (Ideal.exp (0 - max z (-z)))

/-- The sum of the first `n + 1` terms. -/
def upto (x : ℕ → EReal) (n : ℕ) : EReal := ∑ k ∈ Finset.range (n + 1), x k

/-- The sum of the last `d` terms up to the `n`-th. -/
def part (d : ℕ) (x : ℕ → EReal) (n : ℕ) : EReal := ∑ k ∈ Finset.range d, if k ≤ n then x (n - k) else 0

theorem part_one (x : ℕ → EReal) (n : ℕ) : part 1 x n = x n := by simp [part]

/-- The sums of `d` terms, shifted by `d` and added, are those of `2 d`. -/
theorem part_add (d : ℕ) (x : ℕ → EReal) (n : ℕ) : part d x n + (if d ≤ n then part d x (n - d) else 0) = part (d + d) x n := by
  unfold part
  rw [Finset.sum_range_add]
  congr 1
  split
  · refine Finset.sum_congr rfl fun k _ => ?_
    by_cases h : k ≤ n - d
    · rw [if_pos h, if_pos (by omega), show n - d - k = n - (d + k) by omega]
    · rw [if_neg h, if_neg (by omega)]
  · exact (Finset.sum_eq_zero fun k _ => if_neg (by omega)).symm

theorem part_all (d : ℕ) (x : ℕ → EReal) (n : ℕ) (h : n < d) : part d x n = upto x n := by
  unfold part upto
  obtain ⟨e, rfl⟩ : ∃ e, d = n + 1 + e := ⟨d - (n + 1), by omega⟩
  rw [Finset.sum_range_add, Finset.sum_eq_zero (s := Finset.range e) (fun k _ => if_neg (by omega)), add_zero,
    ← Finset.sum_range_reflect]
  refine Finset.sum_congr rfl fun k hk => ?_
  have := Finset.mem_range.mp hk
  rw [if_pos (by omega)]
  exact congrArg x (by omega)

/-! ### Which values are real -/

theorem coe_max (a b : ℝ) : ((max a b : ℝ) : EReal) = max (a : EReal) b := EReal.coe_strictMono.monotone.map_max
theorem coe_min (a b : ℝ) : ((min a b : ℝ) : EReal) = min (a : EReal) b := EReal.coe_strictMono.monotone.map_min

theorem log1p_real (r : ℝ) (h : 0 ≤ r) : ∃ s : ℝ, Ideal.log1p (r : EReal) = (s : EReal) := by
  refine ⟨Real.log (1 + r), ?_⟩
  unfold Ideal.log1p
  rw [show (1 : EReal) + (r : EReal) = ((1 + r : ℝ) : EReal) by norm_cast, Ideal.log_coe, if_neg (by linarith)]

/-- The logarithm term is real, whatever the logit. -/
theorem tail_real (z : EReal) : ∃ s : ℝ, Ideal.log1p (Ideal.exp (0 - max z (-z))) = (s : EReal) := by
  induction z using EReal.rec with
  | bot => simpa using log1p_real 0 le_rfl
  | top => simpa using log1p_real 0 le_rfl
  | coe r =>
    rw [show (0 : EReal) - max (r : EReal) (-(r : EReal)) = ((-max r (-r) : ℝ) : EReal) by
      rw [zero_sub, EReal.coe_neg, coe_max, EReal.coe_neg], Ideal.exp_coe]
    exact log1p_real _ (Real.exp_pos _).le

theorem min_real {z : EReal} (h : z ≠ ⊥) : ∃ s : ℝ, min z 0 = (s : EReal) := by
  induction z using EReal.rec with
  | bot => exact absurd rfl h
  | top => exact ⟨0, by simp⟩
  | coe r => exact ⟨min r 0, (coe_min r 0).symm⟩

theorem lsig_real {z : EReal} (h : z ≠ ⊥) : ∃ s : ℝ, lsig z = (s : EReal) := by
  obtain ⟨a, ha⟩ := min_real h
  obtain ⟨b, hb⟩ := tail_real z
  exact ⟨a - b, by unfold lsig; rw [ha, hb]; norm_cast⟩

theorem upto_real (x : ℕ → EReal) (n : ℕ) (h : ∀ k, k ≤ n → ∃ s : ℝ, x k = (s : EReal)) : ∃ s : ℝ, upto x n = (s : EReal) := by
  induction n with
  | zero => simpa [upto] using h 0 le_rfl
  | succ n ih =>
    obtain ⟨a, ha⟩ := ih fun k hk => h k (by omega)
    obtain ⟨b, hb⟩ := h (n + 1) le_rfl
    refine ⟨a + b, ?_⟩
    unfold upto at *
    rw [Finset.sum_range_succ, ha, hb]; norm_cast

/-- The logarithm of the sigmoid is the softplus of the opposite, with its sign turned. -/
theorem lsig_softplus {z : EReal} (h : z ≠ ⊥) :
    -(max (-z) 0 + Ideal.log1p (Ideal.exp (-(max (-z - 0) (-(-z - 0)))))) = lsig z := by
  have e : -(max (-z - 0) (-(-z - 0))) = 0 - max z (-z) := by
    rw [sub_zero, neg_neg, zero_sub, max_comm]
  rw [e]
  unfold lsig
  obtain ⟨b, hb⟩ := tail_real z
  obtain ⟨a, ha⟩ := min_real h
  have hm : max (-z) 0 = ((-a : ℝ) : EReal) := by
    rw [EReal.coe_neg, ← ha]
    induction z using EReal.rec with
    | bot => exact absurd rfl h
    | top => simp
    | coe r => rw [show (0 : EReal) = ((0 : ℝ) : EReal) from rfl, ← EReal.coe_neg, ← coe_max, ← coe_min, ← EReal.coe_neg]
               rw [← max_neg_neg, neg_zero]
  rw [hb, ha, hm]
  norm_cast
  ring

/-- A real number's three parts add up to it again. -/
theorem three_parts (c : EReal) (h : ∃ s : ℝ, c = (s : EReal)) : c + (c - c) + ((c - c) - (c - c)) = c := by
  obtain ⟨s, rfl⟩ := h
  norm_cast
  ring

/-! ### The result -/

/-- The factor of the logarithm to the base two, its sign turned, as it is rounded in both programs. -/
def unit : EReal := Ideal.ofBits .f32 0xBFB8AA3B#32

theorem ieee_real {e m : ℕ} (b : BitVec (1 + e + m)) (h : (b.extractLsb' m e).toNat ≠ 2 ^ e - 1) :
    ∃ s : ℝ, Ideal.ieee e m b = (s : EReal) := by
  unfold Ideal.ieee
  simp only [if_neg h]
  split <;> exact ⟨_, rfl⟩

theorem unit_real : ∃ s : ℝ, unit = (s : EReal) :=
  ieee_real (e := 8) (m := 23) 0xBFB8AA3B#32 (by decide)

/-- Head `h`'s logit at row `r`. -/
def logit (f : (⟨2, ![17408, 128]⟩ : Shape).Idx → EReal) (b : (⟨2, ![1, 16]⟩ : Shape).Idx → EReal) (h : Fin 16) (r : ℕ) : EReal :=
  if hr : r < 16384 then f (ix2 ⟨r, by omega⟩ ⟨h.val, by omega⟩) + b (ix2 0 h) else 0

/-- The gate's sum up to row `i 0` of its sequence, for head `i 1`. -/
def decay (f : (⟨2, ![17408, 128]⟩ : Shape).Idx → EReal) (b : (⟨2, ![1, 16]⟩ : Shape).Idx → EReal)
    (i : (⟨2, ![16384, 16]⟩ : Shape).Idx) : EReal :=
  upto (fun k => lsig (logit f b (i 1) ((i 0).val / 4096 * 4096 + k))) ((i 0).val % 4096) * unit

theorem decay_real (f : (⟨2, ![17408, 128]⟩ : Shape).Idx → EReal) (b : (⟨2, ![1, 16]⟩ : Shape).Idx → EReal)
    (h : ∀ (r : ℕ) (_ : r < 16384) (l : Fin 16), logit f b l r ≠ ⊥) (i : (⟨2, ![16384, 16]⟩ : Shape).Idx) :
    ∃ s : ℝ, decay f b i = (s : EReal) := by
  have h0 : (i 0).val < 16384 := (i 0).isLt
  obtain ⟨a, ha⟩ := upto_real (fun k => lsig (logit f b (i 1) ((i 0).val / 4096 * 4096 + k))) ((i 0).val % 4096)
    fun k hk => lsig_real (h _ (by omega) (i 1))
  obtain ⟨u, hu⟩ := unit_real
  exact ⟨a * u, by unfold decay; rw [ha, hu]; norm_cast⟩

end Cert.GateTarget

end
-- ==== Proof.Gate.Payloads.lean ====
/-
  The fifth program's operations read at an index, over the extended reals: the twelve steps of the sum and the three parts.
-/
module

public import proofs.«01_k».proof.Proof.Gen.Kernel5Ideal.Frame
public import proofs.«01_k».proof.Proof.Gate.Target
public import Idealize.ShloMosaic.Lib.Pipeline.ValueKit
public import Idealize.ShloMosaic.Lib.KernelVsHost
public import Idealize.ShloMosaic.Lib.Affine

@[expose] public section

set_option maxRecDepth 16384

noncomputable section

namespace Cert.Kernel5Ideal.Gate

open Cert.Kernel5Ideal Cert.Kernel5Ideal.Gen
open Idealize.ShloMosaic Idealize.ShloMosaic.TcCoe Idealize.ShloMosaic.Tactic
open Cert.GateTarget

/-- One step of the sum: the rows, with the rows `w` above added. -/
def step (w : BitVec 32) (v : FVec Ideal S4096x128 .f32) : FVec Ideal S4096x128 .f32 :=
  addf v (select (cmpi .sge (iota .tc S4096x128 32 [0] iota_S4096x128_d0_w32) (broadcast S4096x128 w))
    (dynamicRotate 0 w none v rotates_S4096x128_d0) (broadcast S4096x128 (Scalar.ofBits .f32 0x00000000#32)))

/-- Every row of lane `l` holds the sum of the last `d` terms of `x`. -/
def Parts (d : ℕ) (x : ℕ → EReal) (v : FVec Ideal S4096x128 .f32) (l : Fin 128) : Prop :=
  ∀ n : Fin 4096, v (ValueIdx.ix2 (n0 := 4096) (n1 := 128) n l) = part d x n.val

theorem toInt_word (n : ℕ) (h : n < 4096) : (BitVec.ofNat 32 n).toInt = n := by
  rw [BitVec.toInt_ofNat', Int.bmod_def]; norm_num; omega

theorem step_parts {d : ℕ} {x : ℕ → EReal} {v : FVec Ideal S4096x128 .f32} {l : Fin 128} (h : Parts d x v l) (hd : d < 4096) :
    Parts (d + d) x (step (BitVec.ofNat 32 d) v) l := fun n => by
  have hn := n.isLt
  rw [← part_add]
  show v (ValueIdx.ix2 n l) + Scalar.select (IntOp.cmpi .sge (BitVec.ofNat 32 (0 * 4096 + n.val)) (BitVec.ofNat 32 d))
    (dynamicRotate 0 (BitVec.ofNat 32 d) none v rotates_S4096x128_d0 (ValueIdx.ix2 n l)) (Ideal.ofBits .f32 0x00000000#32) = _
  rw [h n, Nat.zero_mul, Nat.zero_add]
  refine congrArg (fun z : EReal => part d x n.val + z) ?_
  have hc : IntOp.cmpi .sge (BitVec.ofNat 32 n.val) (BitVec.ofNat 32 d) = 1#1 ↔ d ≤ n.val := by
    rw [IntOp.cmpi_sge, toInt_word _ hn, toInt_word _ hd]; omega
  by_cases hle : d ≤ n.val
  · rw [hc.mpr hle, if_pos hle]
    refine (dynamicRotate_apply 0 _ v rotates_S4096x128_d0 (ValueIdx.ix2 n l) (ValueIdx.ix2 ⟨n.val - d, by omega⟩ l) fun b => ?_).trans
      (h ⟨n.val - d, by omega⟩)
    match b with
    | ⟨0, _⟩ =>
      refine (show n.val - d = (n.val + 4096 - (BitVec.ofNat 32 d).toNat % 4096) % 4096 from ?_).trans (if_pos (Fin.ext rfl)).symm
      rw [BitVec.toNat_ofNat]; omega
    | ⟨1, _⟩ => rfl
  · rw [if_neg hle]
    rw [show IntOp.cmpi .sge (BitVec.ofNat 32 n.val) (BitVec.ofNat 32 d) = 0#1 from
      (BitVec.eq_zero_or_eq_one _).resolve_right fun e => hle (hc.mp e)]
    exact Ideal.ofBits_zero_f32

/-- The logarithm of the gate, element by element. -/
def gates (x : Vec Ideal S4096x128 .f32) (b : Vec Ideal S1x128 .f32) : FVec Ideal S4096x128 .f32 :=
  have v4 : FVec Ideal S4096x128 .f32 := addf x (broadcastTo S4096x128 (shapeCast S1x128 b shapeCasts_S1x128_S1x128) broadcasts_S1x128_S4096x128)
  subf (minimumf v4 (broadcast S4096x128 (Scalar.ofBits .f32 0x00000000#32)))
    (log1p (exp (subf (broadcast S4096x128 (Scalar.ofBits .f32 0x00000000#32)) (absf v4))))

theorem gates_apply (x : Vec Ideal S4096x128 .f32) (b : Vec Ideal S1x128 .f32) (n : Fin 4096) (l : Fin 128) :
    gates x b (ValueIdx.ix2 (n0 := 4096) (n1 := 128) n l) = lsig (x (ValueIdx.ix2 n l) + b (ValueIdx.ix2 0 l)) := by
  have e : broadcastTo S4096x128 b broadcasts_S1x128_S4096x128 (ValueIdx.ix2 n l) = b (ValueIdx.ix2 0 l) :=
    broadcastTo_apply b broadcasts_S1x128_S4096x128 _ (ValueIdx.ix2 (n0 := 1) (n1 := 128) 0 l) (fun a => by
      match a with
      | ⟨0, _⟩ => rfl
      | ⟨1, _⟩ => show l.val = if (128 : ℕ) = 1 then 0 else l.val; rw [if_neg (by decide)])
  unfold gates
  simp only [shapeCast_self]
  show min (x _ + broadcastTo S4096x128 b broadcasts_S1x128_S4096x128 (ValueIdx.ix2 n l)) (Ideal.ofBits .f32 0x00000000#32)
    - Ideal.log1p (Ideal.exp (Ideal.ofBits .f32 0x00000000#32 - max (x _ + broadcastTo S4096x128 b broadcasts_S1x128_S4096x128 (ValueIdx.ix2 n l))
      (-(x _ + broadcastTo S4096x128 b broadcasts_S1x128_S4096x128 (ValueIdx.ix2 n l))))) = _
  rw [e, Ideal.ofBits_zero_f32]
  rfl

/-- The sum of the steps before the last. -/
def most (x : Vec Ideal S4096x128 .f32) (b : Vec Ideal S1x128 .f32) : FVec Ideal S4096x128 .f32 :=
  k0_pay4 (F := Ideal) (iota .tc S4096x128 32 [0] iota_S4096x128_d0_w32) (k0_pay2 (F := Ideal) x b) k0_pay3

theorem most_eq (x : Vec Ideal S4096x128 .f32) (b : Vec Ideal S1x128 .f32) : most x b =
    step 1024#32 (step 512#32 (step 256#32 (step 128#32 (step 64#32 (step 32#32 (step 16#32
      (step 8#32 (step 4#32 (step 2#32 (step 1#32 (gates x b)))))))))))  := rfl

theorem most_parts (x : Vec Ideal S4096x128 .f32) (b : Vec Ideal S1x128 .f32) (l : Fin 128) (y : ℕ → EReal)
    (h : ∀ n : Fin 4096, lsig (x (ValueIdx.ix2 n l) + b (ValueIdx.ix2 0 l)) = y n.val) : Parts 2048 y (most x b) l := by
  have h0 : Parts 1 y (gates x b) l := fun n => (gates_apply x b n l).trans ((h n).trans (part_one y n.val).symm)
  have h1 := step_parts h0 (by decide)
  have h2 := step_parts h1 (by decide)
  have h3 := step_parts h2 (by decide)
  have h4 := step_parts h3 (by decide)
  have h5 := step_parts h4 (by decide)
  have h6 := step_parts h5 (by decide)
  have h7 := step_parts h6 (by decide)
  have h8 := step_parts h7 (by decide)
  have h9 := step_parts h8 (by decide)
  have h10 := step_parts h9 (by decide)
  have h11 := step_parts h10 (by decide)
  rw [most_eq]
  exact h11

/-- The whole sum, in the units of the base two. -/
def scaled (v : FVec Ideal S4096x128 .f32) : FVec Ideal S4096x128 .f32 :=
  mulf (step 2048#32 v) (broadcast S4096x128 (Scalar.ofBits .f32 0xBFB8AA3B#32))

theorem scaled_apply {v : FVec Ideal S4096x128 .f32} {l : Fin 128} {y : ℕ → EReal} (h : Parts 2048 y v l) (n : Fin 4096) :
    scaled v (ValueIdx.ix2 (n0 := 4096) (n1 := 128) n l) = upto y n.val * unit := by
  show step 2048#32 v (ValueIdx.ix2 n l) * unit = _
  have e : step 2048#32 v (ValueIdx.ix2 n l) = part 4096 y n.val := step_parts h (by decide) n
  rw [e, part_all _ _ _ n.isLt]

/-- What the point stores, from the sum: its three parts side by side. -/
def parts3 (c : FVec Ideal S4096x128 .f32) : FVec Ideal S4096x128 .f32 :=
  select (cmpi .slt (iota .tc S4096x128 32 [1] iota_S4096x128_d1_w32) (broadcast S4096x128 16#32)) c
    (select (cmpi .slt (iota .tc S4096x128 32 [1] iota_S4096x128_d1_w32) (broadcast S4096x128 32#32))
      (dynamicRotate 1 16#32 none (subf c c) rotates_S4096x128_d1)
      (select (cmpi .slt (iota .tc S4096x128 32 [1] iota_S4096x128_d1_w32) (broadcast S4096x128 48#32))
        (dynamicRotate 1 32#32 none (subf (subf c c) (subf c c)) rotates_S4096x128_d1)
        (broadcast S4096x128 (Scalar.ofBits .f32 0x00000000#32))))

theorem stored_eq (v : FVec Ideal S4096x128 .f32) :
    k0_pay1 (F := Ideal) (iota .tc S4096x128 32 [0] iota_S4096x128_d0_w32) v = parts3 (scaled v) := rfl

theorem lanes16 : ∀ h : Fin 16, IntOp.cmpi .slt (BitVec.ofNat 32 (0 * 128 + h.val)) 16#32 = 1#1 := by decide
theorem lanes32 : ∀ h : Fin 16, IntOp.cmpi .slt (BitVec.ofNat 32 (0 * 128 + (16 + h.val))) 16#32 = 0#1
    ∧ IntOp.cmpi .slt (BitVec.ofNat 32 (0 * 128 + (16 + h.val))) 32#32 = 1#1 := by decide
theorem lanes48 : ∀ h : Fin 16, IntOp.cmpi .slt (BitVec.ofNat 32 (0 * 128 + (32 + h.val))) 16#32 = 0#1
    ∧ IntOp.cmpi .slt (BitVec.ofNat 32 (0 * 128 + (32 + h.val))) 32#32 = 0#1
    ∧ IntOp.cmpi .slt (BitVec.ofNat 32 (0 * 128 + (32 + h.val))) 48#32 = 1#1 := by decide

theorem first_part (c : FVec Ideal S4096x128 .f32) (n : Fin 4096) (h : Fin 16) :
    parts3 c (ValueIdx.ix2 (n0 := 4096) (n1 := 128) n ⟨h.val, by omega⟩) = c (ValueIdx.ix2 (n0 := 4096) (n1 := 128) n ⟨h.val, by omega⟩) := by
  show Scalar.select (IntOp.cmpi .slt (BitVec.ofNat 32 (0 * 128 + h.val)) 16#32) _ _ = _
  rw [lanes16 h]; rfl

theorem second_part (c : FVec Ideal S4096x128 .f32) (n : Fin 4096) (h : Fin 16) :
    parts3 c (ValueIdx.ix2 (n0 := 4096) (n1 := 128) n ⟨16 + h.val, by omega⟩)
      = c (ValueIdx.ix2 (n0 := 4096) (n1 := 128) n ⟨h.val, by omega⟩) - c (ValueIdx.ix2 (n0 := 4096) (n1 := 128) n ⟨h.val, by omega⟩) := by
  show Scalar.select (IntOp.cmpi .slt (BitVec.ofNat 32 (0 * 128 + (16 + h.val))) 16#32) _
    (Scalar.select (IntOp.cmpi .slt (BitVec.ofNat 32 (0 * 128 + (16 + h.val))) 32#32) _ _) = _
  rw [(lanes32 h).1, (lanes32 h).2]
  refine dynamicRotate_apply 1 16#32 (subf c c) rotates_S4096x128_d1 (ValueIdx.ix2 n ⟨16 + h.val, by omega⟩)
    (ValueIdx.ix2 n ⟨h.val, by omega⟩) fun b => ?_
  have := h.isLt
  match b with
  | ⟨0, _⟩ => rfl
  | ⟨1, _⟩ =>
    refine (show h.val = (16 + h.val + 128 - (16#32).toNat % 128) % 128 from ?_).trans (if_pos (Fin.ext rfl)).symm
    rw [show (16#32).toNat = 16 from rfl]; omega

theorem third_part (c : FVec Ideal S4096x128 .f32) (n : Fin 4096) (h : Fin 16) :
    parts3 c (ValueIdx.ix2 (n0 := 4096) (n1 := 128) n ⟨32 + h.val, by omega⟩)
      = (c (ValueIdx.ix2 (n0 := 4096) (n1 := 128) n ⟨h.val, by omega⟩) - c (ValueIdx.ix2 (n0 := 4096) (n1 := 128) n ⟨h.val, by omega⟩))
        - (c (ValueIdx.ix2 (n0 := 4096) (n1 := 128) n ⟨h.val, by omega⟩) - c (ValueIdx.ix2 (n0 := 4096) (n1 := 128) n ⟨h.val, by omega⟩)) := by
  show Scalar.select (IntOp.cmpi .slt (BitVec.ofNat 32 (0 * 128 + (32 + h.val))) 16#32) _
    (Scalar.select (IntOp.cmpi .slt (BitVec.ofNat 32 (0 * 128 + (32 + h.val))) 32#32) _
      (Scalar.select (IntOp.cmpi .slt (BitVec.ofNat 32 (0 * 128 + (32 + h.val))) 48#32) _ _)) = _
  rw [(lanes48 h).1, (lanes48 h).2.1, (lanes48 h).2.2]
  refine dynamicRotate_apply 1 32#32 (subf (subf c c) (subf c c)) rotates_S4096x128_d1 (ValueIdx.ix2 n ⟨32 + h.val, by omega⟩)
    (ValueIdx.ix2 n ⟨h.val, by omega⟩) fun b => ?_
  have := h.isLt
  match b with
  | ⟨0, _⟩ => rfl
  | ⟨1, _⟩ =>
    refine (show h.val = (32 + h.val + 128 - (32#32).toNat % 128) % 128 from ?_).trans (if_pos (Fin.ext rfl)).symm
    rw [show (32#32).toNat = 32 from rfl]; omega

end Cert.Kernel5Ideal.Gate

end
-- ==== Proof.Gate.Arrays.lean ====
/-
  The fifth program's result: what its points read of the arguments, the array they store and the sum of its three parts.
-/
module

public import proofs.«01_k».proof.Proof.Gate.Payloads

@[expose] public section

set_option maxRecDepth 16384

noncomputable section

namespace Cert.Kernel5Ideal.Gate

open Cert.Kernel5Ideal Cert.Kernel5Ideal.Gen
open Idealize.ShloMosaic Idealize.ShloMosaic.TcCoe Idealize.ShloMosaic.Tactic
open Idealize.ShloMosaic.Pipeline (Dat BodyObligation)
open Cert.GateTarget

variable (m : (ℓ : Loc nD τ sig) → Buf (Elt Ideal) ℓ)

/-- The two arguments. -/
abbrev argF (c : Dev nD) : (⟨S17408x128, .f32⟩ : BufTy).Contents (Elt Ideal) := m ((c : Thread nD τ).loc main_arg0)
abbrev argB (c : Dev nD) : (⟨S1x16, .f32⟩ : BufTy).Contents (Elt Ideal) := m ((c : Thread nD τ).loc main_arg1)

/-- The padded bias on the lanes of the heads. -/
theorem V_bias (c : Dev nD) (i : S1x128.Idx) (h : Fin 16) (hi : (i 1).val = h.val) :
    V m c main_v2 i = argB m c (ValueIdx.ix2 (n0 := 1) (n1 := 16) 0 h) := by
  have h0 : (i 0).val < 1 := (i 0).isLt
  simp only [V, V0, hostOps0, hostOps0_1, hostOps0_2, List.flatten_cons, List.flatten_nil, List.append_nil, List.cons_append, List.nil_append]
  after_results_simp
  refine (shapeCast_apply _ shapeCasts_S128_S1x128 i (ValueIdx.ix1 (n := 128) (i 1)) (by
    rw [Shape.rowMajor_val_one, Shape.rowMajor_val_two]; show (i 1).val = (i 0).val * 128 + (i 1).val; omega)).trans ?_
  refine (pad_apply_of_inside ![0] ![112] ![0] (shapeCast S16 (argB m c) shapeCasts_S1x16_S16) _ pads_S16_S128_01120 h_S_
    (ValueIdx.ix1 (n := 128) (i 1)) (ValueIdx.ix1 (n := 16) h) (fun a => by
    match a with | ⟨0, _⟩ => show (i 1).val = 0 + h.val * (0 + 1); omega)).trans ?_
  exact shapeCast_apply _ shapeCasts_S1x16_S16 _ (ValueIdx.ix2 (n0 := 1) (n1 := 16) 0 h) (by
    rw [Shape.rowMajor_val_one, Shape.rowMajor_val_two]; show 0 * 16 + h.val = h.val; omega)

theorem at0_0 : ∀ t : Fin cfg0.N, win0_0.index t = ![t.val, 0] := (by decide +kernel : ∀ t : Fin grid0.N, _)
theorem at0_1 : ∀ t : Fin cfg0.N, win0_1.index t = ![0, 0] := (by decide +kernel : ∀ t : Fin grid0.N, _)
theorem at0_2 : ∀ t : Fin cfg0.N, win0_2.index t = ![t.val, 0] := (by decide +kernel : ∀ t : Fin grid0.N, _)

theorem lt_points (t : Fin cfg0.N) : t.val < 4 := t.isLt

theorem in0 (c : Dev nD) (t : Fin cfg0.N) (n : Fin 4096) (l : Fin 128) :
    X0_0 m c t (ValueIdx.ix2 (n0 := 4096) (n1 := 128) n l)
      = argF m c (ValueIdx.ix2 (n0 := 17408) (n1 := 128) ⟨t.val * 4096 + n.val, by have := lt_points t; omega⟩ l) := by
  unfold X0_0 Pipeline.Window.fill
  rw [dif_pos (moved0_0 t _)]
  show V m c main_arg0 (((cfg0.win 0).blk t).view.emb _) = _
  rw [V_main_arg0]
  refine congrArg (argF m c) (funext fun a => Fin.ext ?_)
  match a with
  | ⟨0, _⟩ => blk_simp [at0_0]
  | ⟨1, _⟩ => blk_simp [at0_0]

theorem in1 (c : Dev nD) (t : Fin cfg0.N) (l : Fin 128) (h : Fin 16) (hl : l.val = h.val) :
    iblk m c 1 t (ValueIdx.ix2 (n0 := 1) (n1 := 128) 0 l) = argB m c (ValueIdx.ix2 (n0 := 1) (n1 := 16) 0 h) := by
  show V m c main_v2 (((cfg0.win 1).blk t).view.emb _) = _
  exact V_bias m c _ h (by blk_simp [at0_1]; exact hl)

/-- The point's sum at a lane of a head. -/
theorem sum_at (c : Dev nD) (t : Fin cfg0.N) (n : Fin 4096) (h : Fin 16) (i : S16384x16.Idx)
    (h0 : (i 0).val = t.val * 4096 + n.val) (h1 : (i 1).val = h.val) :
    scaled (most (X0_0 m c t) (iblk m c 1 t)) (ValueIdx.ix2 (n0 := 4096) (n1 := 128) n ⟨h.val, by omega⟩)
      = decay (argF m c) (argB m c) i := by
  have ht := lt_points t
  have hn := n.isLt
  have hp := most_parts (X0_0 m c t) (iblk m c 1 t) ⟨h.val, by omega⟩ (fun k => lsig (logit (argF m c) (argB m c) h (t.val * 4096 + k)))
    fun k => by
      have hk := k.isLt
      rw [in0, in1 m c t _ h rfl]
      unfold logit
      rw [dif_pos (by omega)]
  rw [scaled_apply hp]
  unfold decay
  rw [show i 1 = h from Fin.ext h1, show (i 0).val / 4096 * 4096 = t.val * 4096 by omega, show (i 0).val % 4096 = n.val by omega]

/-- What a point stores. -/
theorem out_eq (c : Dev nD) (t : Fin cfg0.N) :
    outsAt0 m c t = parts3 (scaled (most (X0_0 m c t) (iblk m c 1 t))) := by
  funext y
  rw [← stored_eq]
  unfold outsAt0
  frame_out
  rfl

/-- The array the points store. -/
def stored (c : Dev nD) : (⟨S16384x128, .bf16⟩ : BufTy).Contents (Elt Ideal) := fun i =>
  have h0 : (i 0).val < 16384 := (i 0).isLt
  outsAt0 m c ⟨(i 0).val / 4096, (by omega : (i 0).val / 4096 < 4)⟩
    (ValueIdx.ix2 (n0 := 4096) (n1 := 128) ⟨(i 0).val % 4096, by omega⟩ (i 1))

theorem out_at {c : Dev nD} {s t : Fin cfg0.N} {x y : S4096x128.Idx} (h : s.val = t.val) (h0 : (x 0).val = (y 0).val)
    (h1 : (x 1).val = (y 1).val) : outsAt0 m c s x = outsAt0 m c t y := by
  rw [show s = t from Fin.ext h,
    show x = y from funext fun a => Fin.ext (by match a with | ⟨0, _⟩ => exact h0 | ⟨1, _⟩ => exact h1)]

theorem arr2 (c : Dev nD) : (dats m 0 c).arrAt 2 cfg0.N = stored m c := by
  refine (dats m 0 c).arrAt_eq_of_covers 2 _ (by decide +kernel) fun t _ y => ?_
  have hy : (y 0).val < 4096 := (y 0).isLt
  have ht := lt_points t
  blk_simp; rw [after0_2]
  unfold stored
  refine out_at m ?_ ?_ ?_
  · show t.val = ((win0_2.blk t).view.emb y 0).val / 4096
    blk_simp [at0_2]; omega
  · show (y 0).val = ((win0_2.blk t).view.emb y 0).val % 4096
    blk_simp [at0_2]; omega
  · show (y 1).val = ((win0_2.blk t).view.emb y 1).val
    blk_simp [at0_2]

theorem arrays_distinct : Function.Injective (Pipeline.arrRef (cfgs 0).spec) := by decide

/-- The last lines' sum, of the array the points store. -/
theorem tail_eq (c : Dev nD) : Pipeline.afterTail₀ cfgs (dats m) 0 (V0 m) [hostOps1] c main_v9
    = addf (F := Ideal) (φ := .f32) (addf (F := Ideal) (φ := .f32) (extractStridedSlice S16384x16 ![0, 0] (stored m c) slices_S16384x128_S16384x16_0_0)
        (extractStridedSlice S16384x16 ![0, 16] (stored m c) slices_S16384x128_S16384x16_0_16))
      (extractStridedSlice S16384x16 ![0, 32] (stored m c) slices_S16384x128_S16384x16_0_32) := by
  have e : Pipeline.withArrays (cfgs 0).spec c (V0 m c) (fun w => (dats m 0 c).arrAt w (cfgs 0).N) (Proc.tc.devRef main_v3) = stored m c :=
    (Pipeline.withArrays_arr (cfgs 0).spec arrays_distinct c (V0 m c) (fun w => (dats m 0 c).arrAt w (cfgs 0).N) 2).trans (arr2 m c)
  unfold Pipeline.afterTail₀
  simp only [hostOps1, List.flatten_cons, List.flatten_nil, List.append_nil, List.cons_append, List.nil_append]
  after_results_simp
  rw [e]
  generalize stored m c = x
  rfl

/-- A lane of the stored array. -/
theorem slice_at (c : Dev nD) (i : S16384x16.Idx) (t : Fin cfg0.N) (n : Fin 4096) (ht : t.val = (i 0).val / 4096) (hn : n.val = (i 0).val % 4096)
    (d : ℕ) (hd : d + (i 1).val < 128) (h : S16384x128.Slices ![0, d] S16384x16) :
    extractStridedSlice S16384x16 ![0, d] (stored m c) h i
      = parts3 (scaled (most (X0_0 m c t) (iblk m c 1 t))) (ValueIdx.ix2 (n0 := 4096) (n1 := 128) n ⟨d + (i 1).val, hd⟩) := by
  have i0 : (i 0).val < 16384 := (i 0).isLt
  rw [extractStridedSlice_apply ![0, d] (stored m c) h i (ValueIdx.ix2 (n0 := 16384) (n1 := 128) (i 0) ⟨d + (i 1).val, hd⟩) (fun a => by
    match a with
    | ⟨0, _⟩ => show (i 0).val = 0 + (i 0).val; omega
    | ⟨1, _⟩ => rfl)]
  rw [← out_eq]
  unfold stored
  exact out_at m ht.symm hn.symm rfl

/-- It is the sum itself. -/
theorem sum_eq (c : Dev nD) (open_ : ∀ (r : ℕ) (_ : r < 16384) (l : Fin 16), logit (argF m c) (argB m c) l r ≠ ⊥) :
    Pipeline.afterTail₀ cfgs (dats m) 0 (V0 m) [hostOps1] c main_v9 = decay (argF m c) (argB m c) := by
  rw [tail_eq]
  funext i
  have i0 : (i 0).val < 16384 := (i 0).isLt
  have i1 : (i 1).val < 16 := (i 1).isLt
  obtain ⟨t, ht⟩ : ∃ t : Fin cfg0.N, t.val = (i 0).val / 4096 := ⟨⟨(i 0).val / 4096, (by omega : (i 0).val / 4096 < 4)⟩, rfl⟩
  obtain ⟨n, hn⟩ : ∃ n : Fin 4096, n.val = (i 0).val % 4096 := ⟨⟨(i 0).val % 4096, by omega⟩, rfl⟩
  obtain ⟨h, hh⟩ : ∃ h : Fin 16, (i 1).val = h.val := ⟨i 1, rfl⟩
  have hc := sum_at m c t n h i (by omega) hh
  have s0 := slice_at m c i t n ht hn 0 (by omega) slices_S16384x128_S16384x16_0_0
  have s1 := slice_at m c i t n ht hn 16 (by omega) slices_S16384x128_S16384x16_0_16
  have s2 := slice_at m c i t n ht hn 32 (by omega) slices_S16384x128_S16384x16_0_32
  generalize scaled (most (X0_0 m c t) (iblk m c 1 t)) = x at hc s0 s1 s2
  rw [show (⟨0 + (i 1).val, by omega⟩ : Fin 128) = ⟨h.val, by omega⟩ from Fin.ext (by show 0 + (i 1).val = h.val; omega), first_part, hc] at s0
  rw [show (⟨16 + (i 1).val, by omega⟩ : Fin 128) = ⟨16 + h.val, by omega⟩ from Fin.ext (by show _ + (i 1).val = _ + h.val; omega), second_part, hc] at s1
  rw [show (⟨32 + (i 1).val, by omega⟩ : Fin 128) = ⟨32 + h.val, by omega⟩ from Fin.ext (by show _ + (i 1).val = _ + h.val; omega), third_part, hc] at s2
  exact (congrArg₂ (fun a b : EReal => a + b) (congrArg₂ (fun a b : EReal => a + b) s0 s1) s2).trans (three_parts _ (decay_real _ _ open_ i))

end Cert.Kernel5Ideal.Gate

end
-- ==== Proof.Gate.ReferenceValue.lean ====
/-
  The fifth reference's result is the array of `Target`.
-/
module

public import proofs.«01_k».proof.Proof.Gen.Reference5Ideal.Run
public import proofs.«01_k».proof.Proof.Gen.Reference5Ideal.Read
public import proofs.«01_k».proof.Proof.Gate.Target
public import Idealize.ShloMosaic.Lib.KernelVsHost

@[expose] public section

set_option maxRecDepth 16384

noncomputable section

namespace Cert.Reference5Ideal.Gate

open Cert.Reference5Ideal Cert.Reference5Ideal.Gen Cert.Reference5Ideal.Read
open Idealize.ShloMosaic Idealize.ShloMosaic.ValueIdx Cert.GateTarget

variable (f : (⟨S17408x128, .f32⟩ : BufTy).Contents (Elt Ideal)) (b : (⟨S1x16, .f32⟩ : BufTy).Contents (Elt Ideal))

/-- The logits. -/
theorem logit_at (i : S4x4096x16.Idx) : val_main_v5 (F := Ideal) f b i = logit f b (i 2) ((i 0).val * 4096 + (i 1).val) := by
  have h0 : (i 0).val < 4 := (i 0).isLt
  have h1 : (i 1).val < 4096 := (i 1).isLt
  have h2 : (i 2).val < 16 := (i 2).isLt
  rw [val_main_v5_apply, val_main_v1_apply, val_main_v0_apply, val_main_v4_apply, val_main_v3_apply, val_main_v2_apply]
  unfold logit
  rw [dif_pos (by omega)]
  refine congrArg₂ (fun x y : EReal => x + y) (congrArg f (funext fun a => Fin.ext ?_)) (congrArg b (funext fun a => Fin.ext ?_))
  · match a with
    | ⟨0, _⟩ => show (((i 0).val * 4096 + (i 1).val) * 16 + (i 2).val) / 16 = (i 0).val * 4096 + (i 1).val; omega
    | ⟨1, _⟩ => show (((i 0).val * 4096 + (i 1).val) * 16 + (i 2).val) % 16 = (i 2).val; omega
  · match a with
    | ⟨0, _⟩ => rfl
    | ⟨1, _⟩ => exact Nat.mod_eq_of_lt h2

/-- The log-sigmoids. -/
theorem lsig_at (i : S4x4096x16.Idx) (h : val_main_v5 (F := Ideal) f b i ≠ ⊥) :
    val_main_v6 (F := Ideal) f b i = lsig (val_main_v5 (F := Ideal) f b i) := by
  rw [val_main_v6_apply, val_main_call0_v1_apply, val_main_call0_call0_v4_apply, val_main_call0_call0_v11_apply, val_main_call0_call0_v1_apply,
    val_main_call0_call0_v10_apply, val_main_call0_call0_v9_apply, val_main_call0_call0_v8_apply, val_main_call0_call0_v7_apply,
    val_main_call0_call0_v3_apply, val_main_call0_v0_apply, val_main_call0_call0_v2_apply, val_main_call0_call0_v0_apply,
    val_main_call0_call0_cst_apply]
  refine Eq.trans ?_ (lsig_softplus h)
  generalize val_main_v5 (F := Ideal) f b i = z
  have hz : (FloatOps.ofBits (F := Ideal) .f32 0x00000000#32 : EReal) = 0 := Ideal.ofBits_zero_f32
  have hsel : ∀ (u v w : EReal), Scalar.select (FloatOps.cmpf (F := Ideal) (φ := .f32) .une u u) v w = w := fun u v w => by
    show Scalar.select (BitVec.ofBool (decide (u ≠ u))) v w = w
    rw [decide_eq_false (by simp)]; rfl
  show -(Scalar.select _ _ _ : EReal) = _
  rw [hsel]
  show -(max (-z) (FloatOps.ofBits (F := Ideal) .f32 0x00000000#32 : EReal)
    + Ideal.log1p (Ideal.exp (-(max (-z - (FloatOps.ofBits (F := Ideal) .f32 0x00000000#32 : EReal)) (-(-z - (FloatOps.ofBits (F := Ideal) .f32 0x00000000#32 : EReal))))))) = _
  rw [hz]

/-! ### The cumulative sum -/

theorem foldl_add {ι : Type} (l : List ι) (g : ι → EReal) (z : EReal) : l.foldl (fun r n => r + g n) z = z + (l.map g).sum := by
  induction l generalizing z with
  | nil => simp
  | cons a l ih => rw [List.foldl_cons, ih, List.map_cons, List.sum_cons, add_assoc]

/-- A window as long as the array, padded low by one less, sums a prefix. -/
theorem window_sum (y : ℕ → EReal) (n : ℕ) (hn : n < 4096) :
    ((List.finRange 4096).map fun w : Fin 4096 => if 4095 ≤ n + w.val then y (n + w.val - 4095) else 0).sum = upto y n := by
  have e := Fin.sum_univ_eq_sum_range (fun w => if 4095 ≤ n + w then y (n + w - 4095) else (0 : EReal)) 4096
  rw [show ((List.finRange 4096).map fun w : Fin 4096 => if 4095 ≤ n + w.val then y (n + w.val - 4095) else (0 : EReal)).sum
    = ∑ w : Fin 4096, (if 4095 ≤ n + w.val then y (n + w.val - 4095) else (0 : EReal)) from (Fin.sum_univ_def _).symm, e]
  obtain ⟨d, hd⟩ : ∃ d, 4095 = n + d := ⟨4095 - n, by omega⟩
  rw [show (4096 : ℕ) = d + (n + 1) by omega, Finset.sum_range_add, Finset.sum_eq_zero (s := Finset.range d) (fun k hk => by
    have := Finset.mem_range.mp hk
    rw [if_neg (by omega)]), zero_add]
  unfold upto
  refine Finset.sum_congr rfl fun k _ => ?_
  rw [if_pos (by omega)]
  exact congrArg y (by omega)

theorem fold_window {N : ℕ} (hN : N = 4096) (g : Fin N → EReal) (y : ℕ → EReal) (n : ℕ) (hn : n < 4096)
    (h : ∀ w : Fin N, g w = if 4095 ≤ n + w.val then y (n + w.val - 4095) else 0) :
    (List.finRange N).foldl (fun r w => r + g w) 0 = upto y n := by
  subst hN
  rw [foldl_add, zero_add, ← window_sum y n hn]
  exact congrArg (fun g => ((List.finRange 4096).map g).sum) (funext h)

theorem win_numel : (⟨3, ![1, 4096, 1]⟩ : Shape).numel = 4096 := by
  show ∏ a : Fin 3, (![1, 4096, 1] : Fin 3 → Nat) a = 4096
  rw [Fin.prod_univ_three]; rfl

/-- Position `n` of the window is its row `n`. -/
theorem win_symm (n : Fin (⟨3, ![1, 4096, 1]⟩ : Shape).numel) :
    (⟨3, ![1, 4096, 1]⟩ : Shape).rowMajor.symm n = ix3 (n0 := 1) (n1 := 4096) (n2 := 1) 0 (n.cast win_numel) 0 :=
  ((⟨3, ![1, 4096, 1]⟩ : Shape).rowMajor.symm_apply_eq).2 (Fin.ext (by
    rw [Shape.rowMajor_val_three]
    show n.val = (0 * 4096 + n.val) * 1 + 0
    omega))

theorem prefix_at (x : (⟨S4x4096x16, .f32⟩ : BufTy).Contents (Elt Ideal)) (z : (⟨S_, .f32⟩ : BufTy).Contents (Elt Ideal)) (hz : ∀ k, z k = (0 : EReal))
    (i : S4x4096x16.Idx) (y : ℕ → EReal) (hy : ∀ n : Fin 4096, x (ix3 (n0 := 4) (n1 := 4096) (n2 := 16) (i 0) n (i 2)) = y n.val) :
    Host.reduceWindowAdd (F := Ideal) (φ := .f32) ![1, 4096, 1] ![1, 1, 1] ![0, 4095, 0] ![0, 0, 0] x z
      reduceWindows_S4x4096x16_S4x4096x16_w1s1p0_0_w4096s1p4095_0_w1s1p0_0 h_S_ i = upto y (i 1).val := by
  have i0 : (i 0).val < 4 := (i 0).isLt
  have i1 : (i 1).val < 4096 := (i 1).isLt
  have i2 : (i 2).val < 16 := (i 2).isLt
  unfold Host.reduceWindowAdd
  rw [hz, Ideal.hostReduceWindowAdd_def]
  unfold Ideal.hostReduceWindowAdd Host.reduceWindow
  refine fold_window win_numel _ y (i 1).val i1 fun w => ?_
  have hw : w.val < 4096 := (w.cast win_numel).isLt
  have e0 : ((⟨3, ![1, 4096, 1]⟩ : Shape).rowMajor.symm w 0).val = 0 := by rw [win_symm]; rfl
  have e1 : ((⟨3, ![1, 4096, 1]⟩ : Shape).rowMajor.symm w 1).val = w.val := by rw [win_symm]; rfl
  have e2 : ((⟨3, ![1, 4096, 1]⟩ : Shape).rowMajor.symm w 2).val = 0 := by rw [win_symm]; rfl
  dsimp only
  split
  · next hin =>
    have h1 := hin 1
    change 4095 ≤ (i 1).val * 1 + ((⟨3, ![1, 4096, 1]⟩ : Shape).rowMajor.symm w 1).val
      ∧ (i 1).val * 1 + ((⟨3, ![1, 4096, 1]⟩ : Shape).rowMajor.symm w 1).val - 4095 < 4096 at h1
    rw [e1] at h1
    rw [if_pos (by omega)]
    refine (congrArg x (funext fun a => Fin.ext ?_)).trans (hy ⟨(i 1).val + w.val - 4095, by omega⟩)
    match a with
    | ⟨0, _⟩ => show (i 0).val * 1 + ((⟨3, ![1, 4096, 1]⟩ : Shape).rowMajor.symm w 0).val - 0 = (i 0).val; rw [e0]; omega
    | ⟨1, _⟩ => show (i 1).val * 1 + ((⟨3, ![1, 4096, 1]⟩ : Shape).rowMajor.symm w 1).val - 4095 = (i 1).val + w.val - 4095; rw [e1]; omega
    | ⟨2, _⟩ => show (i 2).val * 1 + ((⟨3, ![1, 4096, 1]⟩ : Shape).rowMajor.symm w 2).val - 0 = (i 2).val; rw [e2]; omega
  · next hin =>
    rw [if_neg fun hle => hin fun a => by
      match a with
      | ⟨0, _⟩ =>
        show 0 ≤ (i 0).val * 1 + ((⟨3, ![1, 4096, 1]⟩ : Shape).rowMajor.symm w 0).val
          ∧ (i 0).val * 1 + ((⟨3, ![1, 4096, 1]⟩ : Shape).rowMajor.symm w 0).val - 0 < 4
        rw [e0]; omega
      | ⟨1, _⟩ =>
        show 4095 ≤ (i 1).val * 1 + ((⟨3, ![1, 4096, 1]⟩ : Shape).rowMajor.symm w 1).val
          ∧ (i 1).val * 1 + ((⟨3, ![1, 4096, 1]⟩ : Shape).rowMajor.symm w 1).val - 4095 < 4096
        rw [e1]; omega
      | ⟨2, _⟩ =>
        show 0 ≤ (i 2).val * 1 + ((⟨3, ![1, 4096, 1]⟩ : Shape).rowMajor.symm w 2).val
          ∧ (i 2).val * 1 + ((⟨3, ![1, 4096, 1]⟩ : Shape).rowMajor.symm w 2).val - 0 < 16
        rw [e2]; omega]

theorem decay_eq (open_ : ∀ (r : ℕ) (_ : r < 16384) (l : Fin 16), logit f b l r ≠ ⊥) : val_main_v10 (F := Ideal) f b = decay f b := by
  funext i
  have i0 : (i 0).val < 16384 := (i 0).isLt
  have i1 : (i 1).val < 16 := (i 1).isLt
  rw [val_main_v10_apply, val_main_v9_apply, val_main_v8_apply, val_main_cst_apply]
  unfold val_main_v7
  show (Host.reduceWindowAdd (F := Ideal) (φ := .f32) ![1, 4096, 1] ![1, 1, 1] ![0, 4095, 0] ![0, 0, 0] (val_main_v6 (F := Ideal) f b) _ _ _ _ : EReal) * unit = _
  rw [prefix_at (val_main_v6 (F := Ideal) f b) (val_main_call1_call0_v0 (F := Ideal)) (fun k => Ideal.ofBits_zero_f32) (idx_main_v10 i)
    (fun k => lsig (logit f b (i 1) ((i 0).val / 4096 * 4096 + k))) fun n => by
      have hn := n.isLt
      have e : logit f b (idx_main_v10 i 2) ((idx_main_v10 i 0).val * 4096 + n.val) = logit f b (i 1) ((i 0).val / 4096 * 4096 + n.val) := by
        rw [show idx_main_v10 i 2 = i 1 from Fin.ext (by show ((i 0).val * 16 + (i 1).val) % 16 = (i 1).val; omega),
          show (idx_main_v10 i 0).val = (i 0).val / 4096 by show ((i 0).val * 16 + (i 1).val) / 65536 = _; omega]
      have l := logit_at f b (ix3 (n0 := 4) (n1 := 4096) (n2 := 16) (idx_main_v10 i 0) n (idx_main_v10 i 2))
      rw [lsig_at f b _ (by rw [l]; refine fun h => open_ _ ?_ _ (e.symm.trans h); omega), l]
      exact congrArg lsig e]
  unfold decay
  rw [show (idx_main_v10 i 1).val = (i 0).val % 4096 by show ((i 0).val * 16 + (i 1).val) / 16 % 4096 = _; omega]

end Cert.Reference5Ideal.Gate

end
-- ==== Proof.Gate.Algebraic.lean ====
/-
  The fifth program and its reference end with the same result, where every gate is open.
-/
module

public import proofs.«01_k».proof.Defs
public import proofs.«01_k».proof.Proof.Gen.Kernel5Ideal
public import proofs.«01_k».proof.Proof.Gen.Reference5Ideal
public import proofs.«01_k».proof.Proof.Gate.Arrays
public import proofs.«01_k».proof.Proof.Gate.ReferenceValue
public import Idealize.ShloMosaic.Lib.Claim

@[expose] public section

noncomputable section

namespace Cert.Proof

open Idealize.ShloMosaic Idealize.SL.Sem Cert.GateTarget
open Cert.Kernel5Ideal.Gate (argF argB sum_eq)

/-- The precondition's shapes fit. -/
theorem gates_open_facts : Cert.Pre_gates_open.Facts where
  slices_S17408x128_S16384x16_0_0 := by decide
  shapeCasts_S1x16_S16 := by decide
  bcast_S16_S1x16_1 := by decide
  bcast_S1x16_S16384x16_0_1 := by decide
  bcast_S_S16384x16 := by decide

/-- The reference keeps its arguments and ends with every counter at zero. -/
theorem frame_reference5 : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run (F := Ideal) m ρ)

/-- Under the precondition no logit is `-∞`. -/
theorem logits_open (f : FVec Ideal Cert.Pre_gates_open.S17408x128 .f32) (b : FVec Ideal Cert.Pre_gates_open.S1x16 .f32)
    (h : @Cert.Pre_gates_open.fn gates_open_facts Ideal _ f b = fun _ => 1#1) (r : ℕ) (hr : r < 16384) (l : Fin 16) :
    logit f b l r ≠ ⊥ := by
  have e := congrFun h (ValueIdx.ix2 (n0 := 16384) (n1 := 16) ⟨r, hr⟩ l)
  have ef : extractStridedSlice Cert.Pre_gates_open.S16384x16 ![0, 0] f gates_open_facts.slices_S17408x128_S16384x16_0_0
      (ValueIdx.ix2 (n0 := 16384) (n1 := 16) ⟨r, hr⟩ l) = f (ValueIdx.ix2 (n0 := 17408) (n1 := 128) ⟨r, by omega⟩ ⟨l.val, by omega⟩) :=
    extractStridedSlice_apply ![0, 0] f _ _ _ (fun a => by
      match a with
      | ⟨0, _⟩ => exact (Nat.zero_add _).symm
      | ⟨1, _⟩ => exact (Nat.zero_add _).symm)
  have eb : broadcastInDim Cert.Pre_gates_open.S16384x16 ![0, 1] gates_open_facts.bcast_S1x16_S16384x16_0_1
      (broadcastInDim Cert.Pre_gates_open.S1x16 ![1] gates_open_facts.bcast_S16_S1x16_1
        (shapeCast Cert.Pre_gates_open.S16 b gates_open_facts.shapeCasts_S1x16_S16))
      (ValueIdx.ix2 (n0 := 16384) (n1 := 16) ⟨r, hr⟩ l) = b (ValueIdx.ix2 (n0 := 1) (n1 := 16) 0 l) := by
    refine (broadcastInDim_apply _ _ _ _ (ValueIdx.ix2 (n0 := 1) (n1 := 16) 0 l) (fun a => by
      match a with
      | ⟨0, _⟩ => rfl
      | ⟨1, _⟩ => exact (if_neg (show ¬(16 : ℕ) = 1 by decide)).symm)).trans ?_
    refine (broadcastInDim_apply _ _ _ _ (ValueIdx.ix1 (n := 16) l) (fun a => by
      match a with
      | ⟨0, _⟩ => exact (if_neg (show ¬(16 : ℕ) = 1 by decide)).symm)).trans ?_
    exact shapeCast_apply b _ _ (ValueIdx.ix2 (n0 := 1) (n1 := 16) 0 l) (by
      rw [Shape.rowMajor_val_one, Shape.rowMajor_val_two]; show 0 * 16 + l.val = l.val; omega)
  intro hbot
  unfold logit at hbot
  rw [dif_pos hr] at hbot
  change Ideal.cmp .ogt (extractStridedSlice Cert.Pre_gates_open.S16384x16 ![0, 0] f gates_open_facts.slices_S17408x128_S16384x16_0_0
      (ValueIdx.ix2 (n0 := 16384) (n1 := 16) ⟨r, hr⟩ l)
    + broadcastInDim Cert.Pre_gates_open.S16384x16 ![0, 1] gates_open_facts.bcast_S1x16_S16384x16_0_1
      (broadcastInDim Cert.Pre_gates_open.S1x16 ![1] gates_open_facts.bcast_S16_S1x16_1
        (shapeCast Cert.Pre_gates_open.S16 b gates_open_facts.shapeCasts_S1x16_S16))
      (ValueIdx.ix2 (n0 := 16384) (n1 := 16) ⟨r, hr⟩ l)) _ = 1#1 at e
  rw [ef, eb, hbot] at e
  simp [Ideal.cmp] at e

theorem algebraic5 : Cert.algebraic_Kernel5Ideal_Reference5Ideal_pre_gates_open (hKernel5Ideal := Cert.Kernel5Ideal.Gen.facts)
    (hReference5Ideal := Cert.Reference5Ideal.Gen.facts) (hPre_gates_open := gates_open_facts) := fun m g m' g' pre same =>
  have open_ := fun c => logits_open (argF m c) (argB m c) (pre c)
  ⟨fun c => decay (argF m c) (argB m c),
    (θ_run Cert.Kernel5Ideal.defs _ _).mono (fun _ h c => ⟨(h.1 c).trans (sum_eq m c (open_ c)), h.2 c⟩)
      (θ_run_and ((θ_run Cert.Kernel5Ideal.defs _ _).mono
        (fun _ h c => (h c).2 Cert.Kernel5Ideal.main_v9 (Pipeline.mem_restRefs_of Cert.Kernel5Ideal.main_v9 (by decide) (by decide)))
        (Cert.Kernel5Ideal.Gen.run_main (F := Ideal) m g)) (Cert.Kernel5Ideal.Gen.unchanged (F := Ideal) m g)),
    (θ_run Cert.Reference5Ideal.defs _ _).mono (fun _ h c => by
      obtain ⟨h10, kept⟩ := h c
      obtain ⟨s0, s1⟩ := same c
      refine ⟨?_, kept⟩
      refine h10.trans ((Cert.Reference5Ideal.Read.val_main_v10_eq _ _).trans ?_)
      rw [s0, s1]; exact Cert.Reference5Ideal.Gate.decay_eq _ _ (open_ c))
      (Cert.Reference5Ideal.Value.run (F := Ideal) m' g')⟩

end Cert.Proof

end
-- ==== Proof.Fox.Defs.lean ====
/-
  The kernel of the forgetting attention: its buffers, and its stages (the scores of a tile, their softmax step, the
  product with the values) as programs, each with what it does to the buffers.
-/
module

public import proofs.«01_k».proof.Proof.Gen.Kernel6Ideal.Skeleton
public import proofs.«01_k».proof.Proof.Gen.Kernel6Ideal.Frame
public import Idealize.ShloMosaic.Lib.VecWindow
public import Idealize.ShloMosaic.Lib.Tactic

@[expose] public section

set_option maxRecDepth 16384

noncomputable section

namespace Cert.Kernel6Ideal.Fox

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

/-- The memrefs the kernel's body is given. -/
structure Args where
  arg2 : Memref sig .tc .smem S28 .i32
  harg2 : arg2.IsWhole
  arg3 : Memref sig .tc .smem S28 .i32
  harg3 : arg3.IsWhole
  arg4 : Memref sig .tc .vmem S4096x128 .bf16
  harg4 : arg4.IsWhole
  arg5 : Memref sig .tc .vmem S4096x128 .bf16
  harg5 : arg5.IsWhole
  arg6 : Memref sig .tc .vmem S4096x128 .bf16
  harg6 : arg6.IsWhole
  arg7 : Memref sig .tc .vmem S4096x128 .bf16
  harg7 : arg7.IsWhole
  arg8 : Memref sig .tc .vmem S4096x128 .bf16
  harg8 : arg8.IsWhole
  arg9 : Memref sig .tc .vmem S4096x256 .bf16
  harg9 : arg9.IsWhole
  arg10 : Memref sig .tc .vmem S4096x256 .bf16
  harg10 : arg10.IsWhole
  arg11 : Memref sig .tc .vmem S256x4096 .bf16
  harg11 : arg11.IsWhole
  arg12 : Memref sig .tc .vmem S4096x256 .bf16
  harg12 : arg12.IsWhole
  arg13 : Memref sig .tc .vmem S512x512 .f32
  harg13 : arg13.IsWhole
  arg14 : Memref sig .tc .vmem S512x512 .f32
  harg14 : arg14.IsWhole
  arg15 : Memref sig .tc .vmem S512x512 .bf16
  harg15 : arg15.IsWhole
  arg16 : Memref sig .tc .vmem S512x512 .bf16
  harg16 : arg16.IsWhole
  arg17 : Memref sig .tc .vmem S512x128 .f32
  harg17 : arg17.IsWhole
  arg18 : Memref sig .tc .vmem S512x128 .f32
  harg18 : arg18.IsWhole
  arg19 : Memref sig .tc .vmem S4096x128 .f32
  harg19 : arg19.IsWhole
  arg20 : Memref sig .tc .vmem S4096x256 .f32
  harg20 : arg20.IsWhole

/-- The contents of the input blocks. -/
structure Ins (F : FTy → Type) where
  q : Vec F S4096x128 .bf16
  k : Vec F S4096x128 .bf16
  v : Vec F S4096x128 .bf16
  cx : Vec F S4096x128 .bf16

/-- The contents of the result's block and of the scratch buffers. -/
structure Bufs (F : FTy → Type) where
  out : Vec F S4096x128 .bf16
  qx : Vec F S4096x256 .bf16
  kx : Vec F S4096x256 .bf16
  kt : Vec F S256x4096 .bf16
  vx : Vec F S4096x256 .bf16
  s0 : Vec F S512x512 .f32
  s1 : Vec F S512x512 .f32
  p0 : Vec F S512x512 .bf16
  p1 : Vec F S512x512 .bf16
  a0 : Vec F S512x128 .f32
  a1 : Vec F S512x128 .f32
  mx : Vec F S4096x128 .f32
  ac : Vec F S4096x256 .f32

/-- The query block and the key block of tile `n`: the 28 below the diagonal as the tables list them, then the 8 on it. -/
def qi (n : ℕ) : ℕ := ([1, 2, 2, 3, 3, 3, 4, 4, 4, 4, 5, 5, 5, 5, 5, 6, 6, 6, 6, 6, 6, 7, 7, 7, 7, 7, 7, 7, 0, 1, 2, 3, 4, 5, 6, 7] : List ℕ).getD n 0
def ki (n : ℕ) : ℕ := ([0, 0, 1, 0, 1, 2, 0, 1, 2, 3, 0, 1, 2, 3, 4, 0, 1, 2, 3, 4, 5, 0, 1, 2, 3, 4, 5, 6, 0, 1, 2, 3, 4, 5, 6, 7] : List ℕ).getD n 0

/-- The two tables' contents. -/
def tabQ : Vec F S28 .i32 := fun i => lit0 (S28.rowMajor i)
def tabK : Vec F S28 .i32 := fun i => lit1 (S28.rowMajor i)

/-- The buffers' ownership: the tables, the inputs and the rest at their contents. -/
def St (c : Dev nD) (A : Args) (I : Ins F) (σ : Bufs F) : sProp 𝕄 :=
  iprop(owns (c : Thread nD τ) A.arg2 fullShare (tabQ (F := F))
    ∗ owns (c : Thread nD τ) A.arg3 fullShare (tabK (F := F))
    ∗ owns (c : Thread nD τ) A.arg4 fullShare I.q
    ∗ owns (c : Thread nD τ) A.arg5 fullShare I.k
    ∗ owns (c : Thread nD τ) A.arg6 fullShare I.v
    ∗ owns (c : Thread nD τ) A.arg7 fullShare I.cx
    ∗ owns (c : Thread nD τ) A.arg8 fullShare σ.out
    ∗ owns (c : Thread nD τ) A.arg9 fullShare σ.qx
    ∗ owns (c : Thread nD τ) A.arg10 fullShare σ.kx
    ∗ owns (c : Thread nD τ) A.arg11 fullShare σ.kt
    ∗ owns (c : Thread nD τ) A.arg12 fullShare σ.vx
    ∗ owns (c : Thread nD τ) A.arg13 fullShare σ.s0
    ∗ owns (c : Thread nD τ) A.arg14 fullShare σ.s1
    ∗ owns (c : Thread nD τ) A.arg15 fullShare σ.p0
    ∗ owns (c : Thread nD τ) A.arg16 fullShare σ.p1
    ∗ owns (c : Thread nD τ) A.arg17 fullShare σ.a0
    ∗ owns (c : Thread nD τ) A.arg18 fullShare σ.a1
    ∗ owns (c : Thread nD τ) A.arg19 fullShare σ.mx
    ∗ owns (c : Thread nD τ) A.arg20 fullShare σ.ac)

theorem loaded {sp : Space} {S : Shape} {e : EltTy} {M : Memref sig .tc sp S e} (hM : M.IsWhole) (v : S.Idx → Elt F e) {off : Fin S.rank → ℕ} (inb : ∀ a, off a + S.size a ≤ S.size a) :
    View.readAt (Elt F) M.view (Rect.unit off S.size inb).toLoadRect (hM.unread v) = v :=
  (View.readAt_full M.view (hM.unread v) inb).trans (hM.read_unread v)

theorem loaded_part {sp : Space} {S : Shape} {e : EltTy} {M : Memref sig .tc sp S e} (hM : M.IsWhole) (v : S.Idx → Elt F e) {off off' size : Fin S.rank → ℕ}
    (inb : ∀ a, off a + size a ≤ S.size a) (h : off = off') (inb' : ∀ a, off' a + size a ≤ S.size a) :
    View.readAt (Elt F) M.view (Rect.unit off size inb).toLoadRect (hM.unread v) = VecWindow.window v off' size inb' :=
  (View.readAt_unit M.view (hM.unread v) inb h inb').trans (by rw [hM.read_unread])

theorem stored {sp : Space} {S : Shape} {e : EltTy} {M : Memref sig .tc sp S e} (f : M.view.ty.Contents (Elt F)) {off : Fin S.rank → ℕ} (inb : ∀ a, off a + S.size a ≤ S.size a)
    (v : (Rect.unit off S.size inb).shape.Idx → Elt F e) (v' : S.Idx → Elt F e) (h : v = v') :
    View.read (Elt F) M.view (M.view.writes (Elt F) f [⟨Rect.unit off S.size inb, v⟩]) = v' := (View.read_writes_full M.view f inb v []).trans h

theorem patched {sp : Space} {S : Shape} {e : EltTy} {M : Memref sig .tc sp S e} (hM : M.IsWhole) (x : S.Idx → Elt F e) {off off' size : Fin S.rank → ℕ} (inb : ∀ a, off a + size a ≤ S.size a)
    (ho : off = off') (v : (Rect.unit off size inb).shape.Idx → Elt F e) (v' : ((a : Fin S.rank) → Fin (size a)) → Elt F e) (h : v = v') :
    View.read (Elt F) M.view (M.view.writes (Elt F) (hM.unread x) [⟨Rect.unit off size inb, v⟩]) = VecWindow.put x off' size v' := by
  subst ho
  rw [View.read_writes_cons_put M.view _ inb v [] rfl, View.writes_nil, hM.read_unread, h]

theorem inbR (n : ℕ) : ∀ a, (![512 * (n % 8), 0] : Fin 2 → ℕ) a + S512x256.size a ≤ S4096x256.size a := by
  have := Nat.mod_lt n (by norm_num : 0 < 8)
  intro a; fin_cases a
  · show 512 * (n % 8) + 512 ≤ 4096; omega
  · show 0 + 256 ≤ 256; omega
theorem inbM (n : ℕ) : ∀ a, (![512 * (n % 8), 0] : Fin 2 → ℕ) a + S512x128.size a ≤ S4096x128.size a := by
  have := Nat.mod_lt n (by norm_num : 0 < 8)
  intro a; fin_cases a
  · show 512 * (n % 8) + 512 ≤ 4096; omega
  · show 0 + 128 ≤ 128; omega
theorem inbC (n : ℕ) : ∀ a, (![0, 512 * (n % 8)] : Fin 2 → ℕ) a + S256x512.size a ≤ S256x4096.size a := by
  have := Nat.mod_lt n (by norm_num : 0 < 8)
  intro a; fin_cases a
  · show 0 + 256 ≤ 256; omega
  · show 512 * (n % 8) + 512 ≤ 4096; omega

/-- Block `n` of the rows of an array, and of its columns. -/
def rowsW {e : EltTy} (x : Vec F S4096x256 e) (n : ℕ) : Vec F S512x256 e := VecWindow.window x ![512 * (n % 8), 0] S512x256.size (inbR n)
def rowsN {e : EltTy} (x : Vec F S4096x128 e) (n : ℕ) : Vec F S512x128 e := VecWindow.window x ![512 * (n % 8), 0] S512x128.size (inbM n)
def colsW {e : EltTy} (x : Vec F S256x4096 e) (n : ℕ) : Vec F S256x512 e := VecWindow.window x ![0, 512 * (n % 8)] S256x512.size (inbC n)
def putW {e : EltTy} (x : Vec F S4096x256 e) (n : ℕ) (w : Vec F S512x256 e) : Vec F S4096x256 e := VecWindow.put x ![512 * (n % 8), 0] S512x256.size w
def putN {e : EltTy} (x : Vec F S4096x128 e) (n : ℕ) (w : Vec F S512x128 e) : Vec F S4096x128 e := VecWindow.put x ![512 * (n % 8), 0] S512x128.size w
def putC {e : EltTy} (x : Vec F S256x4096 e) (n : ℕ) (w : Vec F S256x512 e) : Vec F S256x4096 e := VecWindow.put x ![0, 512 * (n % 8)] S256x512.size w

/-- The index `n` of a table. -/
def ix28 (n : Fin 28) : S28.Idx := fun a => match a with | ⟨0, _⟩ => n

/-- The word of a table at `n`. -/
theorem word {M : Memref sig .tc .smem S28 .i32} (hM : M.IsWhole) (T : Vec F S28 .i32) (n : ℕ) (w : BitVec 32)
    (inb : ∀ a, (![n] : Fin 1 → ℕ) a + S1.size a ≤ S28.size a) (hn : n < 28) (h : T (ix28 ⟨n, hn⟩) = w) :
    View.readAt (Elt F) M.view (Rect.unit (s := S28) ![n] S1.size inb).toLoadRect (hM.unread T) (Shape.Idx.first (by rw [show (Rect.unit (s := S28) ![n] S1.size inb).toLoadRect.shape.numel = 1 from numel1_S1]; norm_num)) = w := by
  rw [View.readAt_unit M.view (hM.unread T) inb rfl inb, hM.read_unread]
  refine Eq.trans (congrArg T ?_) h
  funext a
  match a with
  | ⟨0, _⟩ =>
    refine Fin.ext ?_
    show n + 1 * 0 = n
    omega

def Bufs.score0 (σ : Bufs F) (i j : ℕ) : Bufs F := { σ with s0 := k0_pay3 (rowsW σ.qx i) (colsW σ.kt j) }
def Bufs.soft0 (σ : Bufs F) (g : Vec F S512x512 .f32 → Vec F S512x512 .f32) (i : ℕ) : Bufs F :=
  { σ with a0 := k0_pay5 (g σ.s0) (rowsN σ.mx i), p0 := k0_pay7 (k0_pay6 (g σ.s0) (rowsN σ.mx i)), mx := putN σ.mx i (k0_pay8 (k0_pay4 (g σ.s0) (rowsN σ.mx i))) }
def Bufs.pv0 (σ : Bufs F) (i j : ℕ) : Bufs F := { σ with ac := putW σ.ac i (k0_pay9 σ.p0 (rowsW σ.vx j) (rowsW σ.ac i) σ.a0) }

theorem tabQ_at (n : ℕ) (hn : n < 28) : tabQ (F := F) (ix28 ⟨n, hn⟩) = BitVec.ofNat 32 (qi n) :=
  (by decide +kernel : ∀ n : Fin 28, lit0 (S28.rowMajor (ix28 n)) = BitVec.ofNat 32 (qi n.val)) ⟨n, hn⟩
theorem tabK_at (n : ℕ) (hn : n < 28) : tabK (F := F) (ix28 ⟨n, hn⟩) = BitVec.ofNat 32 (ki n) :=
  (by decide +kernel : ∀ n : Fin 28, lit1 (S28.rowMajor (ix28 n)) = BitVec.ofNat 32 (ki n.val)) ⟨n, hn⟩
theorem chks (n : ℕ) (hn : n < 28) : k0_chk6 (BitVec.ofNat 32 (qi n)) ∧ k0_chk7 (BitVec.ofNat 32 (ki n)) ∧ k0_chk8 (BitVec.ofNat 32 (qi n))
    ∧ k0_chk10 (BitVec.ofNat 32 (qi n)) ∧ k0_chk9 (BitVec.ofNat 32 (ki n)) :=
  (by decide +kernel : ∀ n : Fin 28, k0_chk6 (BitVec.ofNat 32 (qi n.val)) ∧ k0_chk7 (BitVec.ofNat 32 (ki n.val)) ∧ k0_chk8 (BitVec.ofNat 32 (qi n.val))
    ∧ k0_chk10 (BitVec.ofNat 32 (qi n.val)) ∧ k0_chk9 (BitVec.ofNat 32 (ki n.val))) ⟨n, hn⟩
theorem offs (n : ℕ) (hn : n < 28) : k0_off9 (BitVec.ofNat 32 (qi n)) = ![512 * (qi n % 8), 0] ∧ k0_off10 (BitVec.ofNat 32 (ki n)) = ![0, 512 * (ki n % 8)]
    ∧ k0_off14 (BitVec.ofNat 32 (ki n)) = ![512 * (ki n % 8), 0] :=
  (by decide +kernel : ∀ n : Fin 28, k0_off9 (BitVec.ofNat 32 (qi n.val)) = ![512 * (qi n.val % 8), 0] ∧ k0_off10 (BitVec.ofNat 32 (ki n.val)) = ![0, 512 * (ki n.val % 8)]
    ∧ k0_off14 (BitVec.ofNat 32 (ki n.val)) = ![512 * (ki n.val % 8), 0]) ⟨n, hn⟩

/-- The same with the buffers of parity 1 in place of those of parity 0, and conversely. -/
def Args.swap (A : Args) : Args :=
  { A with arg13 := A.arg14, harg13 := A.harg14, arg14 := A.arg13, harg14 := A.harg13, arg15 := A.arg16, harg15 := A.harg16, arg16 := A.arg15, harg16 := A.harg15,
           arg17 := A.arg18, harg17 := A.harg18, arg18 := A.arg17, harg18 := A.harg17 }
def Bufs.swap (σ : Bufs F) : Bufs F := { σ with s0 := σ.s1, s1 := σ.s0, p0 := σ.p1, p1 := σ.p0, a0 := σ.a1, a1 := σ.a0 }

theorem St_swap (c : Dev nD) (A : Args) (I : Ins F) (σ : Bufs F) : St c A I σ ⊢ St c A.swap I σ.swap := by
  unfold St
  iintro ⟨H2, H3, H4, H5, H6, H7, H8, H9, H10, H11, H12, H13, H14, H15, H16, H17, H18, H19, H20⟩
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H14]; · iexact H14
  isplitl [H13]; · iexact H13
  isplitl [H16]; · iexact H16
  isplitl [H15]; · iexact H15
  isplitl [H18]; · iexact H18
  isplitl [H17]; · iexact H17
  isplitl [H19]; · iexact H19
  iexact H20

theorem swapped (c : Dev nD) (A : Args) (I : Ins F) (σ : Bufs F) (E : Set ℕ) {p : Args → Prog (TpuEff nD τ sig (Elt F) Λ₀ .tc) PUnit} {f : Bufs F → Bufs F}
    (h : St c A.swap I σ.swap ⊢ wp frame (wpE (defs₀ (F := F)) Variants.none (c : Thread nD τ) none) E (p A.swap) (fun _ => St c A.swap I (f σ.swap))) :
    St c A I σ ⊢ wp frame (wpE (defs₀ (F := F)) Variants.none (c : Thread nD τ) none) E (p A.swap) (fun _ => St c A I (f σ.swap).swap) :=
  (St_swap c A I σ).trans (h.trans (wp_mono _ _ _ fun _ => St_swap c A.swap I (f σ.swap)))

theorem keep {sp : Space} {S : Shape} {e : EltTy} {c : Dev nD} {M : Memref sig .tc sp S e} (hM : M.IsWhole) (v : S.Idx → Elt F e) :
    (iprop(M.view.loc (c : Thread nD τ) ↦[M.view.set]{fullShare} hM.unread v) : sProp 𝕄) ⊢ owns (c : Thread nD τ) M fullShare v := by
  unfold owns
  iintro H
  iexists _; isplitr; · ipureintro; exact hM.read_unread _
  iexact H

/-- Stage `score` with the buffers of parity 0, of a tile on the diagonal. -/
def diag_score0 (A : Args) (oq : Fin 2 → ℕ) (iq : ∀ a, oq a + S512x256.size a ≤ S4096x256.size a) (ok : Fin 2 → ℕ) (ik : ∀ a, ok a + S256x512.size a ≤ S256x4096.size a) : Prog (TpuEff nD τ sig (Elt F) Λ₀ .tc) PUnit := do
  let x ← Prog.lift (.load A.arg9 (Rect.unit (s := S4096x256) oq S512x256.size iq).toLoadRect (View.loadsAt_vmem h_S512x256))
  let y ← Prog.lift (.load A.arg11 (Rect.unit (s := S256x4096) ok S256x512.size ik).toLoadRect (View.loadsAt_vmem h_S256x512))
  let _ ← Prog.lift (.load A.arg13 (Rect.unit (s := S512x512) ![0, 0] S512x512.size inb_S512x512_S512x512_0_0).toLoadRect (View.loadsAt_vmem h_S512x512))
  Prog.lift (.store A.arg13 (Rect.unit (s := S512x512) ![0, 0] S512x512.size inb_S512x512_S512x512_0_0) (k0_pay3 x y) Finset.univ (View.stores_vmem_bits_univ h_S512x512 rfl) (.inl rfl))

/-- Stage `score` with the buffers of parity 0, of the tile the tables' entry at `off` names. -/
def low_score0 (A : Args) (off : Fin 1 → ℕ) (inb : ∀ a, off a + S1.size a ≤ S28.size a) : Prog (TpuEff nD τ sig (Elt F) Λ₀ .tc) PUnit := do
  let wa : Elt F .i32 ← smemLoad A.arg2 (Rect.unit (s := S28) off S1.size inb) numel1_S1 rfl
  have h : k0_chk6 wa := (← Prog.lift (TpuEff.assume (k0_chk6 wa) (k0_chk6.dec wa))).down
  let wb : Elt F .i32 ← smemLoad A.arg3 (Rect.unit (s := S28) off S1.size inb) numel1_S1 rfl
  have h' : k0_chk7 wb := (← Prog.lift (TpuEff.assume (k0_chk7 wb) (k0_chk7.dec wb))).down
  let x ← Prog.lift (.load A.arg9 (Rect.unit (s := S4096x256) (k0_off9 wa) S512x256.size (k0_off9_inb wa h)).toLoadRect (View.loadsAt_vmem h_S512x256))
  let y ← Prog.lift (.load A.arg11 (Rect.unit (s := S256x4096) (k0_off10 wb) S256x512.size (k0_off10_inb wb h')).toLoadRect (View.loadsAt_vmem h_S256x512))
  let _ ← Prog.lift (.load A.arg13 (Rect.unit (s := S512x512) ![0, 0] S512x512.size inb_S512x512_S512x512_0_0).toLoadRect (View.loadsAt_vmem h_S512x512))
  Prog.lift (.store A.arg13 (Rect.unit (s := S512x512) ![0, 0] S512x512.size inb_S512x512_S512x512_0_0) (k0_pay3 x y) Finset.univ (View.stores_vmem_bits_univ h_S512x512 rfl) (.inl rfl))

/-- Stage `soft` with the buffers of parity 0, of a tile on the diagonal. -/
def diag_soft0 (A : Args) (om : Fin 2 → ℕ) (im : ∀ a, om a + S512x128.size a ≤ S4096x128.size a) : Prog (TpuEff nD τ sig (Elt F) Λ₀ .tc) PUnit := do
  let s ← Prog.lift (.load A.arg13 (Rect.unit (s := S512x512) ![0, 0] S512x512.size inb_S512x512_S512x512_0_0).toLoadRect (View.loadsAt_vmem h_S512x512))
  let m ← Prog.lift (.load A.arg19 (Rect.unit (s := S4096x128) om S512x128.size im).toLoadRect (View.loadsAt_vmem h_S512x128))
  let _ ← Prog.lift (.load A.arg17 (Rect.unit (s := S512x128) ![0, 0] S512x128.size inb_S512x128_S512x128_0_0).toLoadRect (View.loadsAt_vmem h_S512x128))
  Prog.lift (.store A.arg17 (Rect.unit (s := S512x128) ![0, 0] S512x128.size inb_S512x128_S512x128_0_0) (k0_pay5 ((k0_pay15 (F := F)) s) m) Finset.univ (View.stores_vmem_bits_univ h_S512x128 rfl) (.inl rfl))
  let _ ← Prog.lift (.load A.arg15 (Rect.unit (s := S512x512) ![0, 0] S512x512.size inb_S512x512_S512x512_0_0).toLoadRect (View.loadsAt_vmem h_S512x512))
  Prog.lift (.store A.arg15 (Rect.unit (s := S512x512) ![0, 0] S512x512.size inb_S512x512_S512x512_0_0) (k0_pay7 (k0_pay6 ((k0_pay15 (F := F)) s) m)) Finset.univ (View.stores_vmem h_S512x512 (A.harg15.storeExact_slice rfl _ packedbf16_S512x512_S512x512_0_0) (fun _ => rfl)) (.inl rfl))
  let _ ← Prog.lift (.load A.arg19 (Rect.unit (s := S4096x128) om S512x128.size im).toLoadRect (View.loadsAt_vmem h_S512x128))
  Prog.lift (.store A.arg19 (Rect.unit (s := S4096x128) om S512x128.size im) (k0_pay8 (k0_pay4 ((k0_pay15 (F := F)) s) m)) Finset.univ (View.stores_vmem_bits_univ h_S512x128 rfl) (.inl rfl))

/-- Stage `soft` with the buffers of parity 0, of the tile the tables' entry at `off` names. -/
def low_soft0 (A : Args) (off : Fin 1 → ℕ) (inb : ∀ a, off a + S1.size a ≤ S28.size a) : Prog (TpuEff nD τ sig (Elt F) Λ₀ .tc) PUnit := do
  let wa : Elt F .i32 ← smemLoad A.arg2 (Rect.unit (s := S28) off S1.size inb) numel1_S1 rfl
  have h : k0_chk8 wa := (← Prog.lift (TpuEff.assume (k0_chk8 wa) (k0_chk8.dec wa))).down
  let s ← Prog.lift (.load A.arg13 (Rect.unit (s := S512x512) ![0, 0] S512x512.size inb_S512x512_S512x512_0_0).toLoadRect (View.loadsAt_vmem h_S512x512))
  let m ← Prog.lift (.load A.arg19 (Rect.unit (s := S4096x128) (k0_off12 wa) S512x128.size (k0_off12_inb wa h)).toLoadRect (View.loadsAt_vmem h_S512x128))
  let _ ← Prog.lift (.load A.arg17 (Rect.unit (s := S512x128) ![0, 0] S512x128.size inb_S512x128_S512x128_0_0).toLoadRect (View.loadsAt_vmem h_S512x128))
  Prog.lift (.store A.arg17 (Rect.unit (s := S512x128) ![0, 0] S512x128.size inb_S512x128_S512x128_0_0) (k0_pay5 ( s) m) Finset.univ (View.stores_vmem_bits_univ h_S512x128 rfl) (.inl rfl))
  let _ ← Prog.lift (.load A.arg15 (Rect.unit (s := S512x512) ![0, 0] S512x512.size inb_S512x512_S512x512_0_0).toLoadRect (View.loadsAt_vmem h_S512x512))
  Prog.lift (.store A.arg15 (Rect.unit (s := S512x512) ![0, 0] S512x512.size inb_S512x512_S512x512_0_0) (k0_pay7 (k0_pay6 ( s) m)) Finset.univ (View.stores_vmem h_S512x512 (A.harg15.storeExact_slice rfl _ packedbf16_S512x512_S512x512_0_0) (fun _ => rfl)) (.inl rfl))
  let _ ← Prog.lift (.load A.arg19 (Rect.unit (s := S4096x128) (k0_off12 wa) S512x128.size (k0_off12_inb wa h)).toLoadRect (View.loadsAt_vmem h_S512x128))
  Prog.lift (.store A.arg19 (Rect.unit (s := S4096x128) (k0_off12 wa) S512x128.size (k0_off12_inb wa h)) (k0_pay8 (k0_pay4 ( s) m)) Finset.univ (View.stores_vmem_bits_univ h_S512x128 rfl) (.inl rfl))

/-- Stage `pv` with the buffers of parity 0, of a tile on the diagonal. -/
def diag_pv0 (A : Args) (oa : Fin 2 → ℕ) (ia : ∀ a, oa a + S512x256.size a ≤ S4096x256.size a) (ok : Fin 2 → ℕ) (ik : ∀ a, ok a + S512x256.size a ≤ S4096x256.size a) : Prog (TpuEff nD τ sig (Elt F) Λ₀ .tc) PUnit := do
  let p ← Prog.lift (.load A.arg15 (Rect.unit (s := S512x512) ![0, 0] S512x512.size inb_S512x512_S512x512_0_0).toLoadRect (View.loadsAt_vmem h_S512x512))
  let v ← Prog.lift (.load A.arg12 (Rect.unit (s := S4096x256) ok S512x256.size ik).toLoadRect (View.loadsAt_vmem h_S512x256))
  let x ← Prog.lift (.load A.arg20 (Rect.unit (s := S4096x256) oa S512x256.size ia).toLoadRect (View.loadsAt_vmem h_S512x256))
  let a ← Prog.lift (.load A.arg17 (Rect.unit (s := S512x128) ![0, 0] S512x128.size inb_S512x128_S512x128_0_0).toLoadRect (View.loadsAt_vmem h_S512x128))
  let _ ← Prog.lift (.load A.arg20 (Rect.unit (s := S4096x256) oa S512x256.size ia).toLoadRect (View.loadsAt_vmem h_S512x256))
  Prog.lift (.store A.arg20 (Rect.unit (s := S4096x256) oa S512x256.size ia) (k0_pay9 p v x a) Finset.univ (View.stores_vmem_bits_univ h_S512x256 rfl) (.inl rfl))

/-- Stage `pv` with the buffers of parity 0, of the tile the tables' entry at `off` names. -/
def low_pv0 (A : Args) (off : Fin 1 → ℕ) (inb : ∀ a, off a + S1.size a ≤ S28.size a) : Prog (TpuEff nD τ sig (Elt F) Λ₀ .tc) PUnit := do
  let wa : Elt F .i32 ← smemLoad A.arg2 (Rect.unit (s := S28) off S1.size inb) numel1_S1 rfl
  have h : k0_chk10 wa := (← Prog.lift (TpuEff.assume (k0_chk10 wa) (k0_chk10.dec wa))).down
  let wb : Elt F .i32 ← smemLoad A.arg3 (Rect.unit (s := S28) off S1.size inb) numel1_S1 rfl
  have h' : k0_chk9 wb := (← Prog.lift (TpuEff.assume (k0_chk9 wb) (k0_chk9.dec wb))).down
  let p ← Prog.lift (.load A.arg15 (Rect.unit (s := S512x512) ![0, 0] S512x512.size inb_S512x512_S512x512_0_0).toLoadRect (View.loadsAt_vmem h_S512x512))
  let v ← Prog.lift (.load A.arg12 (Rect.unit (s := S4096x256) (k0_off14 wb) S512x256.size (k0_off14_inb wb h')).toLoadRect (View.loadsAt_vmem h_S512x256))
  let x ← Prog.lift (.load A.arg20 (Rect.unit (s := S4096x256) (k0_off15 wa) S512x256.size (k0_off15_inb wa h)).toLoadRect (View.loadsAt_vmem h_S512x256))
  let a ← Prog.lift (.load A.arg17 (Rect.unit (s := S512x128) ![0, 0] S512x128.size inb_S512x128_S512x128_0_0).toLoadRect (View.loadsAt_vmem h_S512x128))
  let _ ← Prog.lift (.load A.arg20 (Rect.unit (s := S4096x256) (k0_off15 wa) S512x256.size (k0_off15_inb wa h)).toLoadRect (View.loadsAt_vmem h_S512x256))
  Prog.lift (.store A.arg20 (Rect.unit (s := S4096x256) (k0_off15 wa) S512x256.size (k0_off15_inb wa h)) (k0_pay9 p v x a) Finset.univ (View.stores_vmem_bits_univ h_S512x256 rfl) (.inl rfl))

def Bufs.score1 (σ : Bufs F) (i j : ℕ) : Bufs F := (σ.swap.score0 i j).swap
def diag_score1 (A : Args) (oq : Fin 2 → ℕ) (iq : ∀ a, oq a + S512x256.size a ≤ S4096x256.size a) (ok : Fin 2 → ℕ) (ik : ∀ a, ok a + S256x512.size a ≤ S256x4096.size a) : Prog (TpuEff nD τ sig (Elt F) Λ₀ .tc) PUnit := diag_score0 A.swap oq iq ok ik
def low_score1 (A : Args) (off : Fin 1 → ℕ) (inb : ∀ a, off a + S1.size a ≤ S28.size a) : Prog (TpuEff nD τ sig (Elt F) Λ₀ .tc) PUnit := low_score0 A.swap off inb

def Bufs.soft1 (σ : Bufs F) (g : Vec F S512x512 .f32 → Vec F S512x512 .f32) (i : ℕ) : Bufs F := (σ.swap.soft0 g i).swap
def diag_soft1 (A : Args) (om : Fin 2 → ℕ) (im : ∀ a, om a + S512x128.size a ≤ S4096x128.size a) : Prog (TpuEff nD τ sig (Elt F) Λ₀ .tc) PUnit := diag_soft0 A.swap om im
def low_soft1 (A : Args) (off : Fin 1 → ℕ) (inb : ∀ a, off a + S1.size a ≤ S28.size a) : Prog (TpuEff nD τ sig (Elt F) Λ₀ .tc) PUnit := low_soft0 A.swap off inb

def Bufs.pv1 (σ : Bufs F) (i j : ℕ) : Bufs F := (σ.swap.pv0 i j).swap
def diag_pv1 (A : Args) (oa : Fin 2 → ℕ) (ia : ∀ a, oa a + S512x256.size a ≤ S4096x256.size a) (ok : Fin 2 → ℕ) (ik : ∀ a, ok a + S512x256.size a ≤ S4096x256.size a) : Prog (TpuEff nD τ sig (Elt F) Λ₀ .tc) PUnit := diag_pv0 A.swap oa ia ok ik
def low_pv1 (A : Args) (off : Fin 1 → ℕ) (inb : ∀ a, off a + S1.size a ≤ S28.size a) : Prog (TpuEff nD τ sig (Elt F) Λ₀ .tc) PUnit := low_pv0 A.swap off inb

/-- The operands with their selectors, the running maximum and the sums at their initial contents. -/
def prologue (i : grid0.Coords) (A : Args) : Prog (TpuEff nD τ sig (Elt F) Λ₀ .tc) PUnit := do
  let x4 ← Prog.lift (.load A.arg4 (Rect.unit (s := S4096x128) ![0, 0] S4096x128.size inb_S4096x128_S4096x128_0_0).toLoadRect (View.loadsAt_vmem h_S4096x128))
  let _ ← Prog.lift (.load A.arg9 (Rect.unit (s := S4096x256) ![0, 0] S4096x128.size inb_S4096x256_S4096x128_0_0).toLoadRect (View.loadsAt_vmem h_S4096x128))
  Prog.lift (.store A.arg9 (Rect.unit (s := S4096x256) ![0, 0] S4096x128.size inb_S4096x256_S4096x128_0_0) (k0_pay28 x4) Finset.univ (View.stores_vmem h_S4096x128 (A.harg9.storeExact_slice rfl _ packedbf16_S4096x256_S4096x128_0_0) (fun _ => rfl)) (.inl rfl))
  let _ ← Prog.lift (.load A.arg9 (Rect.unit (s := S4096x256) ![0, 128] S4096x128.size inb_S4096x256_S4096x128_0_128).toLoadRect (View.loadsAt_vmem h_S4096x128))
  Prog.lift (.store A.arg9 (Rect.unit (s := S4096x256) ![0, 128] S4096x128.size inb_S4096x256_S4096x128_0_128) (k0_pay29 (F := F) i) Finset.univ (View.stores_vmem h_S4096x128 (A.harg9.storeExact_slice rfl _ packedbf16_S4096x256_S4096x128_0_128) (fun _ => rfl)) (.inl rfl))
  let x5 ← Prog.lift (.load A.arg5 (Rect.unit (s := S4096x128) ![0, 0] S4096x128.size inb_S4096x128_S4096x128_0_0).toLoadRect (View.loadsAt_vmem h_S4096x128))
  let _ ← Prog.lift (.load A.arg10 (Rect.unit (s := S4096x256) ![0, 0] S4096x128.size inb_S4096x256_S4096x128_0_0).toLoadRect (View.loadsAt_vmem h_S4096x128))
  Prog.lift (.store A.arg10 (Rect.unit (s := S4096x256) ![0, 0] S4096x128.size inb_S4096x256_S4096x128_0_0) (k0_pay30 x5) Finset.univ (View.stores_vmem h_S4096x128 (A.harg10.storeExact_slice rfl _ packedbf16_S4096x256_S4096x128_0_0) (fun _ => rfl)) (.inl rfl))
  let x7 ← Prog.lift (.load A.arg7 (Rect.unit (s := S4096x128) ![0, 0] S4096x128.size inb_S4096x128_S4096x128_0_0).toLoadRect (View.loadsAt_vmem h_S4096x128))
  let _ ← Prog.lift (.load A.arg10 (Rect.unit (s := S4096x256) ![0, 128] S4096x128.size inb_S4096x256_S4096x128_0_128).toLoadRect (View.loadsAt_vmem h_S4096x128))
  Prog.lift (.store A.arg10 (Rect.unit (s := S4096x256) ![0, 128] S4096x128.size inb_S4096x256_S4096x128_0_128) (k0_pay31 x7) Finset.univ (View.stores_vmem h_S4096x128 (A.harg10.storeExact_slice rfl _ packedbf16_S4096x256_S4096x128_0_128) (fun _ => rfl)) (.inl rfl))
  let x6 ← Prog.lift (.load A.arg6 (Rect.unit (s := S4096x128) ![0, 0] S4096x128.size inb_S4096x128_S4096x128_0_0).toLoadRect (View.loadsAt_vmem h_S4096x128))
  let _ ← Prog.lift (.load A.arg12 (Rect.unit (s := S4096x256) ![0, 0] S4096x128.size inb_S4096x256_S4096x128_0_0).toLoadRect (View.loadsAt_vmem h_S4096x128))
  Prog.lift (.store A.arg12 (Rect.unit (s := S4096x256) ![0, 0] S4096x128.size inb_S4096x256_S4096x128_0_0) (k0_pay32 x6) Finset.univ (View.stores_vmem h_S4096x128 (A.harg12.storeExact_slice rfl _ packedbf16_S4096x256_S4096x128_0_0) (fun _ => rfl)) (.inl rfl))
  let _ ← Prog.lift (.load A.arg12 (Rect.unit (s := S4096x256) ![0, 128] S4096x128.size inb_S4096x256_S4096x128_0_128).toLoadRect (View.loadsAt_vmem h_S4096x128))
  Prog.lift (.store A.arg12 (Rect.unit (s := S4096x256) ![0, 128] S4096x128.size inb_S4096x256_S4096x128_0_128) (k0_pay33 (F := F)) Finset.univ (View.stores_vmem h_S4096x128 (A.harg12.storeExact_slice rfl _ packedbf16_S4096x256_S4096x128_0_128) (fun _ => rfl)) (.inl rfl))
  let _ ← Prog.lift (.load A.arg19 (Rect.unit (s := S4096x128) ![0, 0] S4096x128.size inb_S4096x128_S4096x128_0_0).toLoadRect (View.loadsAt_vmem h_S4096x128))
  Prog.lift (.store A.arg19 (Rect.unit (s := S4096x128) ![0, 0] S4096x128.size inb_S4096x128_S4096x128_0_0) (k0_pay34 (F := F)) Finset.univ (View.stores_vmem_bits_univ h_S4096x128 rfl) (.inl rfl))
  let _ ← Prog.lift (.load A.arg20 (Rect.unit (s := S4096x256) ![0, 0] S4096x256.size inb_S4096x256_S4096x256_0_0).toLoadRect (View.loadsAt_vmem h_S4096x256))
  Prog.lift (.store A.arg20 (Rect.unit (s := S4096x256) ![0, 0] S4096x256.size inb_S4096x256_S4096x256_0_0) (k0_pay35 (F := F)) Finset.univ (View.stores_vmem_bits_univ h_S4096x256 rfl) (.inl rfl))

def halves (x : Vec F S4096x256 .bf16) (l r : Vec F S4096x128 .bf16) : Vec F S4096x256 .bf16 :=
  VecWindow.put (VecWindow.put x ![0, 0] S4096x128.size l) ![0, 128] S4096x128.size r

def Bufs.init (σ : Bufs F) (i : grid0.Coords) (I : Ins F) : Bufs F :=
  { σ with qx := halves σ.qx (k0_pay28 I.q) (k0_pay29 i), kx := halves σ.kx (k0_pay30 I.k) (k0_pay31 I.cx), vx := halves σ.vx (k0_pay32 I.v) (k0_pay33 (F := F)),
           mx := k0_pay34 (F := F), ac := k0_pay35 (F := F) }

/-- A block of the keys transposed. -/
def trans_k (A : Args) (t : Fin k0_t1_loop.trips) : Prog (TpuEff nD τ sig (Elt F) Λ₀ .tc) PUnit := do
  let x ← Prog.lift (.load A.arg10 (Rect.unit (s := S4096x256) (k0_off1 t) S512x256.size (k0_off1_inb t)).toLoadRect (View.loadsAt_vmem h_S512x256))
  let _ ← Prog.lift (.load A.arg11 (Rect.unit (s := S256x4096) (k0_off2 t) S256x512.size (k0_off2_inb t)).toLoadRect (View.loadsAt_vmem h_S256x512))
  Prog.lift (.store A.arg11 (Rect.unit (s := S256x4096) (k0_off2 t) S256x512.size (k0_off2_inb t)) (k0_pay36 x) Finset.univ (View.stores_vmem h_S256x512 (A.harg11.storeExact_slice rfl _ (k0_off2_packedbf16 t)) (fun _ => rfl)) (.inl rfl))

def Bufs.trans (σ : Bufs F) (j : ℕ) : Bufs F := { σ with kt := putC σ.kt j (k0_pay36 (rowsW σ.kx j)) }

/-- A block of the sums divided and written out. -/
def write_out (A : Args) (t : Fin k0_t4_loop.trips) : Prog (TpuEff nD τ sig (Elt F) Λ₀ .tc) PUnit := do
  let x ← Prog.lift (.load A.arg20 (Rect.unit (s := S4096x256) (k0_off33 t) S512x256.size (k0_off33_inb t)).toLoadRect (View.loadsAt_vmem h_S512x256))
  let _ ← Prog.lift (.load A.arg8 (Rect.unit (s := S4096x128) (k0_off34 t) S512x128.size (k0_off34_inb t)).toLoadRect (View.loadsAt_vmem h_S512x128))
  Prog.lift (.store A.arg8 (Rect.unit (s := S4096x128) (k0_off34 t) S512x128.size (k0_off34_inb t)) (k0_pay2 x) Finset.univ (View.stores_vmem h_S512x128 (A.harg8.storeExact_slice rfl _ (k0_off34_packedbf16 t)) (fun _ => rfl)) (.inl rfl))

def Bufs.write (σ : Bufs F) (j : ℕ) : Bufs F := { σ with out := putN σ.out j (k0_pay2 (rowsW σ.ac j)) }

/-- Two tiles below the diagonal. -/
def low_pair (A : Args) (t : Fin k0_t2_loop.trips) : Prog (TpuEff nD τ sig (Elt F) Λ₀ .tc) PUnit := do
  low_score0 A (k0_off8 t) (k0_off8_inb t)
  low_soft1 A (k0_off11 t) (k0_off11_inb t)
  low_pv0 A (k0_off13 t) (k0_off13_inb t)
  low_score1 A (k0_off16 t) (k0_off16_inb t)
  low_soft0 A (k0_off19 t) (k0_off19_inb t)
  low_pv1 A (k0_off21 t) (k0_off21_inb t)

/-- Two tiles on the diagonal. -/
def diag_pair (A : Args) (t : Fin k0_t3_loop.trips) : Prog (TpuEff nD τ sig (Elt F) Λ₀ .tc) PUnit := do
  diag_score0 A (k0_off29 t 2#32) (k0_off29_inb t 1) (k0_off30 t 2#32) (k0_off30_inb t 0)
  diag_soft1 A (k0_off31 t 1#32) (k0_off31_inb t 0)
  diag_pv0 A (k0_off32 t) (k0_off32_inb t) (k0_off32 t) (k0_off32_inb t)
  diag_score1 A (k0_off29 t 3#32) (k0_off29_inb t 2) (k0_off30 t 3#32) (k0_off30_inb t 1)
  diag_soft0 A (k0_off31 t 2#32) (k0_off31_inb t 1)
  diag_pv1 A (k0_off29 t 1#32) (k0_off29_inb t 0) (k0_off29 t 1#32) (k0_off29_inb t 0)

/-- The kernel, by its stages. -/
def fox (i : grid0.Coords) (A : Args) : Prog (TpuEff nD τ sig (Elt F) Λ₀ .tc) PUnit := do
  prologue i A
  Scf.Loop.for k0_t1_loop k0_t1_ok ⟨⟩ (fun t _ => trans_k A t)
  low_score0 A ![0] inb_S28_S1_0
  low_score1 A ![1] inb_S28_S1_1
  low_soft0 A ![0] inb_S28_S1_0
  Scf.Loop.for k0_t2_loop k0_t2_ok ⟨⟩ (fun t _ => low_pair A t)
  low_soft1 A ![27] inb_S28_S1_27
  low_pv0 A ![26] inb_S28_S1_26
  low_pv1 A ![27] inb_S28_S1_27
  diag_score0 A ![0, 0] inb_S4096x256_S512x256_0_0 ![0, 0] inb_S256x4096_S256x512_0_0
  diag_score1 A ![512, 0] inb_S4096x256_S512x256_512_0 ![0, 512] inb_S256x4096_S256x512_0_512
  diag_soft0 A ![0, 0] inb_S4096x128_S512x128_0_0
  Scf.Loop.for k0_t3_loop k0_t3_ok ⟨⟩ (fun t _ => diag_pair A t)
  diag_soft1 A ![3584, 0] inb_S4096x128_S512x128_3584_0
  diag_pv0 A ![3072, 0] inb_S4096x256_S512x256_3072_0 ![3072, 0] inb_S4096x256_S512x256_3072_0
  diag_pv1 A ![3584, 0] inb_S4096x256_S512x256_3584_0 ![3584, 0] inb_S4096x256_S512x256_3584_0
  Scf.Loop.for k0_t4_loop k0_t4_ok ⟨⟩ (fun t _ => write_out A t)
  pure ⟨⟩

end Cert.Kernel6Ideal.Fox
-- ==== Proof.Fox.Tiles.lean ====
/-
  The buffers' contents from tile to tile.
-/
module

public import proofs.«01_k».proof.Proof.Fox.Defs
public import Idealize.ShloMosaic.Lib.ValueIdxCore

@[expose] public section

set_option maxRecDepth 16384

noncomputable section

namespace Cert.Kernel6Ideal.Fox

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

/-! ## The tiles in order: the scores, the running maximum, the factors, the probabilities, the sums -/

def gm (n : ℕ) : Vec F S512x512 .f32 → Vec F S512x512 .f32 := if n < 28 then id else k0_pay15 (F := F)
def Sc (Q : Vec F S4096x256 .bf16) (T : Vec F S256x4096 .bf16) (n : ℕ) : Vec F S512x512 .f32 := k0_pay3 (rowsW Q (qi n)) (colsW T (ki n))
def Mx (Q : Vec F S4096x256 .bf16) (T : Vec F S256x4096 .bf16) : ℕ → Vec F S4096x128 .f32
  | 0 => k0_pay34 (F := F)
  | n + 1 => putN (Mx Q T n) (qi n) (k0_pay8 (k0_pay4 (gm n (Sc Q T n)) (rowsN (Mx Q T n) (qi n))))
def Al (Q : Vec F S4096x256 .bf16) (T : Vec F S256x4096 .bf16) (n : ℕ) : Vec F S512x128 .f32 := k0_pay5 (gm n (Sc Q T n)) (rowsN (Mx Q T n) (qi n))
def Pr (Q : Vec F S4096x256 .bf16) (T : Vec F S256x4096 .bf16) (n : ℕ) : Vec F S512x512 .bf16 := k0_pay7 (k0_pay6 (gm n (Sc Q T n)) (rowsN (Mx Q T n) (qi n)))
def Ac (Q : Vec F S4096x256 .bf16) (T : Vec F S256x4096 .bf16) (V : Vec F S4096x256 .bf16) : ℕ → Vec F S4096x256 .f32
  | 0 => k0_pay35 (F := F)
  | n + 1 => putW (Ac Q T V n) (qi n) (k0_pay9 (Pr Q T n) (rowsW V (ki n)) (rowsW (Ac Q T V n) (qi n)) (Al Q T n))

theorem gm_low {n : ℕ} (h : n < 28) : gm (F := F) n = id := if_pos h
theorem gm_diag {n : ℕ} (h : 28 ≤ n) : gm (F := F) n = k0_pay15 (F := F) := if_neg (by omega)

/-- The tiles before `n` are done. -/
structure Mid (Q : Vec F S4096x256 .bf16) (T : Vec F S256x4096 .bf16) (V : Vec F S4096x256 .bf16) (n : ℕ) (σ : Bufs F) : Prop where
  qx : σ.qx = Q
  kt : σ.kt = T
  vx : σ.vx = V
  mx : σ.mx = Mx Q T n
  ac : σ.ac = Ac Q T V n

/-- The tiles before `n` are done; tile `n`'s probabilities wait for their product and tile `n + 1`'s scores for their softmax. -/
structure Inv (Q : Vec F S4096x256 .bf16) (T : Vec F S256x4096 .bf16) (V : Vec F S4096x256 .bf16) (n : ℕ) (σ : Bufs F) : Prop where
  qx : σ.qx = Q
  kt : σ.kt = T
  vx : σ.vx = V
  s1 : σ.s1 = Sc Q T (n + 1)
  p0 : σ.p0 = Pr Q T n
  a0 : σ.a0 = Al Q T n
  mx : σ.mx = Mx Q T (n + 1)
  ac : σ.ac = Ac Q T V n

variable {Q : Vec F S4096x256 .bf16} {T : Vec F S256x4096 .bf16} {V : Vec F S4096x256 .bf16}

theorem Inv.of_mid {n : ℕ} {σ : Bufs F} (h : Mid Q T V n σ) :
    Inv Q T V n (((σ.score0 (qi n) (ki n)).score1 (qi (n + 1)) (ki (n + 1))).soft0 (gm n) (qi n)) := by
  obtain ⟨rfl, rfl, rfl, hm, ha⟩ := h
  refine ⟨rfl, rfl, rfl, rfl, ?_, ?_, ?_, ha⟩
  · show k0_pay7 (k0_pay6 (gm n (Sc σ.qx σ.kt n)) (rowsN σ.mx (qi n))) = _
    rw [hm]; rfl
  · show k0_pay5 (gm n (Sc σ.qx σ.kt n)) (rowsN σ.mx (qi n)) = _
    rw [hm]; rfl
  · show putN σ.mx (qi n) (k0_pay8 (k0_pay4 (gm n (Sc σ.qx σ.kt n)) (rowsN σ.mx (qi n)))) = _
    rw [hm]; rfl

theorem Inv.next {n : ℕ} {σ : Bufs F} (h : Inv Q T V n σ) :
    putN σ.mx (qi (n + 1)) (k0_pay8 (k0_pay4 (gm (n + 1) σ.s1) (rowsN σ.mx (qi (n + 1))))) = Mx Q T (n + 2)
    ∧ k0_pay5 (gm (n + 1) σ.s1) (rowsN σ.mx (qi (n + 1))) = Al Q T (n + 1)
    ∧ k0_pay7 (k0_pay6 (gm (n + 1) σ.s1) (rowsN σ.mx (qi (n + 1)))) = Pr Q T (n + 1)
    ∧ putW σ.ac (qi n) (k0_pay9 σ.p0 (rowsW σ.vx (ki n)) (rowsW σ.ac (qi n)) σ.a0) = Ac Q T V (n + 1) := by
  rw [h.s1, h.mx, h.p0, h.a0, h.ac, h.vx]
  exact ⟨rfl, rfl, rfl, rfl⟩

theorem Inv.step {n : ℕ} {σ : Bufs F} (h : Inv Q T V n σ) :
    Inv Q T V (n + 2) ((((((σ.score0 (qi (n + 2)) (ki (n + 2))).soft1 (gm (n + 1)) (qi (n + 1))).pv0 (qi n) (ki n)).score1 (qi (n + 3)) (ki (n + 3))).soft0 (gm (n + 2)) (qi (n + 2))).pv1 (qi (n + 1)) (ki (n + 1))) := by
  obtain ⟨e1, e2, e3, e4⟩ := h.next
  have hS : ∀ m, k0_pay3 (rowsW σ.qx (qi m)) (colsW σ.kt (ki m)) = Sc Q T m := fun m => by rw [h.qx, h.kt]; rfl
  constructor <;> dsimp only [Bufs.score0, Bufs.soft0, Bufs.pv0, Bufs.score1, Bufs.soft1, Bufs.pv1, Bufs.swap]
  · exact h.qx
  · exact h.kt
  · exact h.vx
  · rw [hS]
  · rw [e1, hS]; rfl
  · rw [e1, hS]; rfl
  · rw [e1, hS]; rfl
  · rw [e2, e3, e4, h.vx]; rfl

theorem Inv.finish {n : ℕ} {σ : Bufs F} (h : Inv Q T V n σ) :
    Mid Q T V (n + 2) (((σ.soft1 (gm (n + 1)) (qi (n + 1))).pv0 (qi n) (ki n)).pv1 (qi (n + 1)) (ki (n + 1))) := by
  obtain ⟨e1, e2, e3, e4⟩ := h.next
  constructor <;> dsimp only [Bufs.pv0, Bufs.soft0, Bufs.soft1, Bufs.pv1, Bufs.swap]
  · exact h.qx
  · exact h.kt
  · exact h.vx
  · exact e1
  · rw [e2, e3, e4, h.vx]; rfl

/-! ## The operands, the transposed keys and the result as arrays -/

/-- Two halves side by side. -/
def join (l r : Vec F S4096x128 .bf16) : Vec F S4096x256 .bf16 := fun y =>
  if h : (y 1).val < 128 then l (ValueIdx.ix2 (n0 := 4096) (n1 := 128) (y 0) ⟨(y 1).val, h⟩)
  else r (ValueIdx.ix2 (n0 := 4096) (n1 := 128) (y 0) ⟨(y 1).val - 128, by have : (y 1).val < 256 := (y 1).isLt; omega⟩)

def transposed (kx : Vec F S4096x256 .bf16) : Vec F S256x4096 .bf16 := fun y =>
  k0_pay36 (rowsW kx ((y 1).val / 512)) (ValueIdx.ix2 (n0 := 256) (n1 := 512) (y 0) ⟨(y 1).val % 512, Nat.mod_lt _ (by norm_num)⟩)

def divided (ac : Vec F S4096x256 .f32) : Vec F S4096x128 .bf16 := fun y =>
  k0_pay2 (rowsW ac ((y 0).val / 512)) (ValueIdx.ix2 (n0 := 512) (n1 := 128) ⟨(y 0).val % 512, Nat.mod_lt _ (by norm_num)⟩ (y 1))

theorem halves_eq (x : Vec F S4096x256 .bf16) (l r : Vec F S4096x128 .bf16) : halves x l r = join l r := by
  funext y
  have h0 : (y 0).val < 4096 := (y 0).isLt
  have h1 : (y 1).val < 256 := (y 1).isLt
  unfold halves join VecWindow.put
  by_cases h : (y 1).val < 128
  · rw [dif_neg (fun hh => by have := (hh 1).1; have e : (![0, 128] : Fin 2 → ℕ) 1 = 128 := rfl; omega), dif_pos (fun a => by
      fin_cases a
      · exact ⟨Nat.zero_le _, by show (y 0).val < 0 + 4096; omega⟩
      · exact ⟨Nat.zero_le _, by show (y 1).val < 0 + 128; omega⟩), dif_pos h]
    refine congrArg l (funext fun a => ?_)
    match a with
    | ⟨0, _⟩ => rfl
    | ⟨1, _⟩ => rfl
  · rw [dif_pos (fun a => by
      fin_cases a
      · exact ⟨Nat.zero_le _, by show (y 0).val < 0 + 4096; omega⟩
      · exact ⟨by show 128 ≤ (y 1).val; omega, by show (y 1).val < 128 + 128; omega⟩), dif_neg h]
    refine congrArg r (funext fun a => ?_)
    match a with
    | ⟨0, _⟩ => rfl
    | ⟨1, _⟩ => rfl

theorem putC_at (x : Vec F S256x4096 .bf16) (j : ℕ) (hj : j < 8) (w : Vec F S256x512 .bf16) (y : S256x4096.Idx) :
    putC x j w y = if (y 1).val / 512 = j then w (ValueIdx.ix2 (n0 := 256) (n1 := 512) (y 0) ⟨(y 1).val % 512, Nat.mod_lt _ (by norm_num)⟩) else x y := by
  have h0 : (y 0).val < 256 := (y 0).isLt
  have hm : j % 8 = j := Nat.mod_eq_of_lt hj
  unfold putC VecWindow.put
  by_cases h : (y 1).val / 512 = j
  · rw [if_pos h, dif_pos (fun a => by
      fin_cases a
      · exact ⟨Nat.zero_le _, by show (y 0).val < 0 + 256; omega⟩
      · exact ⟨by show 512 * (j % 8) ≤ (y 1).val; omega, by show (y 1).val < 512 * (j % 8) + 512; omega⟩)]
    refine congrArg w (funext fun a => ?_)
    match a with
    | ⟨0, _⟩ => rfl
    | ⟨1, _⟩ => refine Fin.ext ?_; show (y 1).val - 512 * (j % 8) = (y 1).val % 512; omega
  · rw [if_neg h, dif_neg (fun hh => h (by
      have a1 : 512 * (j % 8) ≤ (y 1).val := (hh 1).1
      have a2 : (y 1).val < 512 * (j % 8) + 512 := (hh 1).2
      omega))]

theorem putN_at {e : EltTy} (x : Vec F S4096x128 e) (j : ℕ) (hj : j < 8) (w : Vec F S512x128 e) (y : S4096x128.Idx) :
    putN x j w y = if (y 0).val / 512 = j then w (ValueIdx.ix2 (n0 := 512) (n1 := 128) ⟨(y 0).val % 512, Nat.mod_lt _ (by norm_num)⟩ (y 1)) else x y := by
  have h1 : (y 1).val < 128 := (y 1).isLt
  have hm : j % 8 = j := Nat.mod_eq_of_lt hj
  unfold putN VecWindow.put
  by_cases h : (y 0).val / 512 = j
  · rw [if_pos h, dif_pos (fun a => by
      fin_cases a
      · exact ⟨by show 512 * (j % 8) ≤ (y 0).val; omega, by show (y 0).val < 512 * (j % 8) + 512; omega⟩
      · exact ⟨Nat.zero_le _, by show (y 1).val < 0 + 128; omega⟩)]
    refine congrArg w (funext fun a => ?_)
    match a with
    | ⟨0, _⟩ => refine Fin.ext ?_; show (y 0).val - 512 * (j % 8) = (y 0).val % 512; omega
    | ⟨1, _⟩ => rfl
  · rw [if_neg h, dif_neg (fun hh => h (by
      have a1 : 512 * (j % 8) ≤ (y 0).val := (hh 0).1
      have a2 : (y 0).val < 512 * (j % 8) + 512 := (hh 0).2
      omega))]

/-- Column blocks before `k` transposed; row blocks before `k` written. -/
structure Turned (I : Ins F) (i : grid0.Coords) (k : ℕ) (σ : Bufs F) : Prop where
  qx : σ.qx = join (k0_pay28 I.q) (k0_pay29 i)
  kx : σ.kx = join (k0_pay30 I.k) (k0_pay31 I.cx)
  vx : σ.vx = join (k0_pay32 I.v) (k0_pay33 (F := F))
  mx : σ.mx = k0_pay34 (F := F)
  ac : σ.ac = k0_pay35 (F := F)
  kt : ∀ y : S256x4096.Idx, (y 1).val / 512 < k → σ.kt y = transposed σ.kx y

theorem Turned.init (I : Ins F) (i : grid0.Coords) (σ : Bufs F) : Turned I i 0 (σ.init i I) :=
  ⟨halves_eq _ _ _, halves_eq _ _ _, halves_eq _ _ _, rfl, rfl, fun y h => absurd h (Nat.not_lt_zero _)⟩

theorem Turned.step {I : Ins F} {i : grid0.Coords} {k : ℕ} (hk : k < 8) {σ : Bufs F} (h : Turned I i k σ) : Turned I i (k + 1) (σ.trans k) := by
  refine ⟨h.qx, h.kx, h.vx, h.mx, h.ac, fun y hy => ?_⟩
  show putC σ.kt k (k0_pay36 (rowsW σ.kx k)) y = transposed σ.kx y
  rw [putC_at _ _ hk]
  by_cases e : (y 1).val / 512 = k
  · rw [if_pos e]; unfold transposed; rw [e]
  · rw [if_neg e]; exact h.kt y (by omega)

/-- The three operands of the tiles, from the blocks. -/
def opQ (I : Ins F) (i : grid0.Coords) : Vec F S4096x256 .bf16 := join (k0_pay28 I.q) (k0_pay29 i)
def opT (I : Ins F) : Vec F S256x4096 .bf16 := transposed (join (k0_pay30 I.k) (k0_pay31 I.cx))
def opV (I : Ins F) : Vec F S4096x256 .bf16 := join (k0_pay32 I.v) (k0_pay33 (F := F))

theorem Turned.mid {I : Ins F} {i : grid0.Coords} {σ : Bufs F} (h : Turned I i 8 σ) : Mid (opQ I i) (opT I) (opV I) 0 σ :=
  ⟨h.qx, funext fun y => (h.kt y (by have : (y 1).val < 4096 := (y 1).isLt; omega)).trans (by rw [h.kx]; rfl), h.vx, h.mx, h.ac⟩

/-- What the kernel leaves in the result's block. -/
def outOf (I : Ins F) (i : grid0.Coords) : Vec F S4096x128 .bf16 := divided (Ac (opQ I i) (opT I) (opV I) 36)

structure Written (I : Ins F) (i : grid0.Coords) (k : ℕ) (σ : Bufs F) : Prop where
  ac : σ.ac = Ac (opQ I i) (opT I) (opV I) 36
  out : ∀ y : S4096x128.Idx, (y 0).val / 512 < k → σ.out y = outOf I i y

theorem Written.step {I : Ins F} {i : grid0.Coords} {k : ℕ} (hk : k < 8) {σ : Bufs F} (h : Written I i k σ) : Written I i (k + 1) (σ.write k) := by
  refine ⟨h.ac, fun y hy => ?_⟩
  show putN σ.out k (k0_pay2 (rowsW σ.ac k)) y = outOf I i y
  rw [putN_at _ _ hk]
  by_cases e : (y 0).val / 512 = k
  · rw [if_pos e, h.ac]; unfold outOf divided; rw [e]
  · rw [if_neg e]; exact h.out y (by omega)

end Cert.Kernel6Ideal.Fox
-- ==== Proof.Fox.Online.lean ====
/-
  A softmax taken tile by tile: a weighted sum of exponentials over a set of keys, rescaled as the largest score grows.
-/
module

public import Idealize.ShloMosaic.PureOps.Ideal
public import Idealize.ShloMosaic.PureOps.Ideal.Laws

@[expose] public section

noncomputable section

namespace Cert.FoxTarget

open Idealize.ShloMosaic

variable {ι : Type} [DecidableEq ι]

/-- The largest of the scores of a set of keys, -/
def most (P : Finset ι) (x : ι → ℝ) : EReal := P.sup fun k => (x k : EReal)
/-- a key's weight against it, -/
def weight (P : Finset ι) (x : ι → ℝ) (k : ι) : EReal := Ideal.exp2 ((x k : EReal) - most P x)
/-- and the weighted sum of the set's values. -/
def mix (P : Finset ι) (x : ι → ℝ) (v : ι → EReal) : EReal := ∑ k ∈ P, weight P x k * v k

theorem exp2_sub (a b : ℝ) : Ideal.exp2 ((a : EReal) - (b : EReal)) = (((2 : ℝ) ^ (a - b) : ℝ) : EReal) := by
  rw [← EReal.coe_sub]; rfl
theorem exp2_bot (M : EReal) : Ideal.exp2 (⊥ - M) = 0 := by rw [EReal.bot_sub]; rfl

theorem most_attained (P : Finset ι) (hP : P.Nonempty) (x : ι → ℝ) : ∃ k ∈ P, most P x = (x k : EReal) ∧ ∀ j ∈ P, x j ≤ x k := by
  obtain ⟨k, hk, h⟩ := P.exists_max_image x hP
  exact ⟨k, hk, le_antisymm (Finset.sup_le fun j hj => EReal.coe_le_coe_iff.mpr (h j hj)) (Finset.le_sup (f := fun k => (x k : EReal)) hk), h⟩

theorem most_union (P B : Finset ι) (x : ι → ℝ) : most (P ∪ B) x = max (most P x) (most B x) := Finset.sup_union

/-- A finite factor that is not negative goes into a sum. -/
theorem coe_mul_sum (P : Finset ι) (a : ℝ) (ha : 0 ≤ a) (f : ι → EReal) : (a : EReal) * ∑ k ∈ P, f k = ∑ k ∈ P, (a : EReal) * f k := by
  induction P using Finset.induction_on with
  | empty => rw [Finset.sum_empty, Finset.sum_empty, mul_zero]
  | insert k S hk ih =>
    rw [Finset.sum_insert hk, Finset.sum_insert hk, EReal.left_distrib_of_nonneg_of_ne_top (EReal.coe_nonneg.mpr ha) (EReal.coe_ne_top a), ih]

/-- Further keys: what is there is rescaled and theirs added. -/
theorem mix_union (P B : Finset ι) (hd : Disjoint P B) (x : ι → ℝ) (v : ι → EReal) :
    Ideal.exp2 (most P x - most (P ∪ B) x) * mix P x v + ∑ k ∈ B, weight (P ∪ B) x k * v k = mix (P ∪ B) x v := by
  unfold mix
  rw [Finset.sum_union hd]
  congr 1
  rcases P.eq_empty_or_nonempty with rfl | hP
  · rw [Finset.sum_empty, Finset.sum_empty, mul_zero]
  · obtain ⟨p, hp, ep, _⟩ := most_attained P hP x
    obtain ⟨u, hu, eu, _⟩ := most_attained (P ∪ B) (hP.mono Finset.subset_union_left) x
    rw [ep, eu, exp2_sub, coe_mul_sum _ _ (by positivity)]
    refine Finset.sum_congr rfl fun k _ => ?_
    unfold weight
    rw [ep, eu, exp2_sub, exp2_sub, ← mul_assoc, ← EReal.coe_mul, ← Real.rpow_add (by norm_num)]
    congr 3; ring

theorem sum_coe (P : Finset ι) (f : ι → ℝ) : ∑ k ∈ P, (f k : EReal) = ((∑ k ∈ P, f k : ℝ) : EReal) := by
  induction P using Finset.induction_on with
  | empty => rw [Finset.sum_empty, Finset.sum_empty]; rfl
  | insert a S ha ih => rw [Finset.sum_insert ha, Finset.sum_insert ha, ih, EReal.coe_add]

/-- Softmax with the natural exponential, of scores that are the natural logarithm of two times `x` less one number on the
    keys of `P` and minus infinity elsewhere: each weight divided by the weights' sum, or the weighted sum divided by it. -/
theorem attend_eq [Fintype ι] (P : Finset ι) (hP : P.Nonempty) (x : ι → ℝ) (c : ℝ) (v y : ι → EReal)
    (hin : ∀ k ∈ P, y k = ((Real.log 2 * x k - c : ℝ) : EReal)) (hout : ∀ k, k ∉ P → y k = ⊥) (M : EReal)
    (hM : M = (Finset.univ : Finset ι).sup y) :
    ∑ k, v k * Ideal.div (Ideal.exp (y k - M)) (∑ j, Ideal.exp (y j - M)) = Ideal.div (mix P x v) (mix P x fun _ => 1) := by
  obtain ⟨t, ht, et, le⟩ := most_attained P hP x
  have hl : 0 < Real.log 2 := Real.log_pos (by norm_num)
  have eM : M = ((Real.log 2 * x t - c : ℝ) : EReal) := by
    rw [hM, ← hin t ht]
    refine le_antisymm (Finset.sup_le fun j _ => ?_) (Finset.le_sup (Finset.mem_univ t))
    by_cases hj : j ∈ P
    · rw [hin j hj, hin t ht]
      exact EReal.coe_le_coe_iff.mpr (by have := mul_le_mul_of_nonneg_left (le j hj) hl.le; linarith)
    · rw [hout j hj]; exact bot_le
  have ew : ∀ k, Ideal.exp (y k - M) = if k ∈ P then (((2 : ℝ) ^ (x k - x t) : ℝ) : EReal) else 0 := fun k => by
    by_cases hk : k ∈ P
    · rw [if_pos hk, hin k hk, eM, ← EReal.coe_sub]
      show ((Real.exp _ : ℝ) : EReal) = _
      rw [Real.rpow_def_of_pos (by norm_num)]
      congr 2; ring
    · rw [if_neg hk, hout k hk, EReal.bot_sub]; rfl
  have eweight : ∀ k, weight P x k = (((2 : ℝ) ^ (x k - x t) : ℝ) : EReal) := fun k => by unfold weight; rw [et, exp2_sub]
  have ez : ∑ j, Ideal.exp (y j - M) = ((∑ j ∈ P, (2 : ℝ) ^ (x j - x t) : ℝ) : EReal) := by
    simp only [ew]
    rw [← Finset.sum_filter, ← sum_coe]
    exact Finset.sum_congr (by ext k; simp) fun _ _ => rfl
  have ez' : mix P x (fun _ => 1) = ((∑ j ∈ P, (2 : ℝ) ^ (x j - x t) : ℝ) : EReal) := by
    unfold mix; simp only [eweight, mul_one]; exact sum_coe P _
  have hz : 0 < ∑ j ∈ P, (2 : ℝ) ^ (x j - x t) := Finset.sum_pos (fun j _ => by positivity) hP
  rw [ez, ez']
  generalize ∑ j ∈ P, (2 : ℝ) ^ (x j - x t) = z at hz
  have hz0 : (z : EReal) ≠ 0 := by exact_mod_cast hz.ne'
  have ediv : ∀ a : EReal, Ideal.div a (z : EReal) = ((z⁻¹ : ℝ) : EReal) * a := fun a => by
    unfold Ideal.div; rw [if_neg hz0, mul_comm, EReal.coe_inv]
  simp only [ediv]
  unfold mix
  rw [coe_mul_sum _ _ (inv_nonneg.mpr hz.le), ← Finset.sum_subset (Finset.subset_univ P)]
  · refine Finset.sum_congr rfl fun k hk => ?_
    rw [ew, if_pos hk, eweight, mul_comm, mul_assoc]
  · intro k _ hk
    rw [ew, if_neg hk, mul_zero, mul_zero]

/-- The keys that are not later than a row. -/
def causal (R : Fin 4096) : Finset (Fin 4096) := Finset.univ.filter fun k => k ≤ R

theorem mem_causal (R k : Fin 4096) : k ∈ causal R ↔ k ≤ R := by simp [causal]

end Cert.FoxTarget

end
-- ==== Proof.Fox.Keys.lean ====
/-
  Which keys of which rows the forgetting attention's tiles before the `n`th have seen.
-/
module

public import proofs.«01_k».proof.Proof.Fox.Tiles
public import proofs.«01_k».proof.Proof.Fox.Online

@[expose] public section

set_option maxRecDepth 16384

noncomputable section

namespace Cert.Kernel6Ideal.Fox

open Cert.FoxTarget

/-- The key of a tile's lane. -/
def keyOf (n : ℕ) (l : Fin 512) : Fin 4096 := ⟨512 * (ki n % 8) + l.val, by have := l.isLt; omega⟩

/-- The keys tile `n` shows a row: all of its block's, or on the diagonal those that are not later. -/
def shown (n : ℕ) (R : Fin 4096) : Finset (Fin 4096) :=
  (Finset.univ.filter fun l : Fin 512 => n < 28 ∨ (keyOf n l).val ≤ R.val).image (keyOf n)

/-- The keys a row has seen in the tiles before `n`. -/
def seen : ℕ → Fin 4096 → Finset (Fin 4096)
  | 0, _ => ∅
  | n + 1, R => if R.val / 512 = qi n then seen n R ∪ shown n R else seen n R

theorem keyOf_injective (n : ℕ) : Function.Injective (keyOf n) := fun a b h => Fin.ext (by
  have e : 512 * (ki n % 8) + a.val = 512 * (ki n % 8) + b.val := congrArg Fin.val h
  omega)

theorem sum_shown (n : ℕ) (R : Fin 4096) (f : Fin 4096 → EReal) :
    ∑ k ∈ shown n R, f k = ∑ l : Fin 512, if n < 28 ∨ (keyOf n l).val ≤ R.val then f (keyOf n l) else 0 := by
  unfold shown
  rw [Finset.sum_image fun a _ b _ h => keyOf_injective n h, Finset.sum_filter]

theorem most_shown (n : ℕ) (R : Fin 4096) (x : Fin 4096 → ℝ) :
    (Finset.univ : Finset (Fin 512)).sup (fun l => if n < 28 ∨ (keyOf n l).val ≤ R.val then (x (keyOf n l) : EReal) else ⊥) = most (shown n R) x := by
  unfold most shown
  rw [Finset.sup_image]
  refine le_antisymm (Finset.sup_le fun l _ => ?_) (Finset.sup_le fun l hl => ?_)
  · by_cases h : n < 28 ∨ (keyOf n l).val ≤ R.val
    · rw [if_pos h]
      exact Finset.le_sup (f := (fun k => (x k : EReal)) ∘ keyOf n) (Finset.mem_filter.mpr ⟨Finset.mem_univ l, h⟩)
    · rw [if_neg h]; exact bot_le
  · refine le_trans (le_of_eq ?_) (Finset.le_sup (f := fun l => if n < 28 ∨ (keyOf n l).val ≤ R.val then (x (keyOf n l) : EReal) else ⊥) (Finset.mem_univ l))
    exact (if_pos (Finset.mem_filter.mp hl).2).symm

theorem ki_lt (n : ℕ) (h : n < 36) : ki n < 8 := (by decide : ∀ n : Fin 36, ki n.val < 8) ⟨n, h⟩
theorem qi_lt (n : ℕ) (h : n < 36) : qi n < 8 := (by decide : ∀ n : Fin 36, qi n.val < 8) ⟨n, h⟩
theorem qi_diag (n : ℕ) (h : n < 36) (h' : 28 ≤ n) : qi n = ki n := (by decide : ∀ n : Fin 36, 28 ≤ n.val → qi n.val = ki n.val) ⟨n, h⟩ h'
theorem ki_below (n : ℕ) (h : n < 28) : ki n < qi n := (by decide : ∀ n : Fin 28, ki n.val < qi n.val) ⟨n, h⟩
theorem tiles_differ (m n : ℕ) (hm : m < n) (hn : n < 36) (hq : qi m = qi n) (hk : ki m = ki n) : False :=
  (by decide : ∀ n m : Fin 36, m.val < n.val → qi m.val = qi n.val → ki m.val = ki n.val → False) ⟨n, hn⟩ ⟨m, by omega⟩ hm hq hk
theorem tiles_cover (i j : ℕ) (hi : i < 8) (hj : j ≤ i) : ∃ m < 36, qi m = i ∧ ki m = j ∧ (m < 28 ∨ i = j) := by
  obtain ⟨m, h⟩ := (by decide : ∀ i j : Fin 8, j.val ≤ i.val → ∃ m : Fin 36, qi m.val = i.val ∧ ki m.val = j.val ∧ (m.val < 28 ∨ i.val = j.val)) ⟨i, hi⟩ ⟨j, by omega⟩ hj
  exact ⟨m.val, m.isLt, h⟩

theorem mem_shown (n : ℕ) (hn : n < 36) (R k : Fin 4096) : k ∈ shown n R ↔ ki n = k.val / 512 ∧ (n < 28 ∨ k.val ≤ R.val) := by
  have hk := ki_lt n hn
  unfold shown
  rw [Finset.mem_image]
  constructor
  · rintro ⟨l, hl, rfl⟩
    refine ⟨?_, (Finset.mem_filter.mp hl).2⟩
    show ki n = (512 * (ki n % 8) + l.val) / 512
    have := l.isLt; omega
  · rintro ⟨h, h'⟩
    have e : keyOf n ⟨k.val % 512, Nat.mod_lt _ (by norm_num)⟩ = k := Fin.ext (by
      show 512 * (ki n % 8) + k.val % 512 = k.val
      have := k.isLt; omega)
    exact ⟨_, Finset.mem_filter.mpr ⟨Finset.mem_univ _, by rw [e]; exact h'⟩, e⟩

theorem mem_seen (R k : Fin 4096) : ∀ n, n ≤ 36 → (k ∈ seen n R ↔ ∃ m < n, qi m = R.val / 512 ∧ ki m = k.val / 512 ∧ (m < 28 ∨ k.val ≤ R.val))
  | 0, _ => by simp [seen]
  | n + 1, hn => by
    have ih := mem_seen R k n (by omega)
    unfold seen
    by_cases h : R.val / 512 = qi n
    · rw [if_pos h, Finset.mem_union, ih, mem_shown n (by omega)]
      constructor
      · rintro (⟨m, hm, e⟩ | e)
        · exact ⟨m, by omega, e⟩
        · exact ⟨n, by omega, h.symm, e⟩
      · rintro ⟨m, hm, e⟩
        rcases Nat.lt_succ_iff_lt_or_eq.mp hm with hm | rfl
        · exact .inl ⟨m, hm, e⟩
        · exact .inr e.2
    · rw [if_neg h, ih]
      constructor
      · rintro ⟨m, hm, e⟩; exact ⟨m, by omega, e⟩
      · rintro ⟨m, hm, e⟩
        rcases Nat.lt_succ_iff_lt_or_eq.mp hm with hm | rfl
        · exact ⟨m, hm, e⟩
        · exact absurd e.1.symm h

theorem seen_shown (n : ℕ) (hn : n < 36) (R : Fin 4096) (h : R.val / 512 = qi n) : Disjoint (seen n R) (shown n R) :=
  Finset.disjoint_left.mpr fun k h1 h2 => by
    obtain ⟨m, hm, eq, ek, _⟩ := (mem_seen R k n (by omega)).mp h1
    exact tiles_differ m n hm hn (eq.trans h) (ek.trans ((mem_shown n hn R k).mp h2).1.symm)

/-- After all tiles a row has seen the keys that are not later. -/
theorem seen_all (R : Fin 4096) : seen 36 R = causal R := by
  ext k
  rw [mem_seen R k 36 le_rfl, mem_causal]
  have hR := R.isLt
  constructor
  · rintro ⟨m, hm, eq, ek, h | h⟩
    · have := ki_below m h; show k.val ≤ R.val; omega
    · exact h
  · intro h
    have h' : k.val ≤ R.val := h
    obtain ⟨m, hm, eq, ek, e⟩ := tiles_cover (R.val / 512) (k.val / 512) (by omega) (by omega)
    exact ⟨m, hm, eq, ek, .inr h'⟩

end Cert.Kernel6Ideal.Fox

end
-- ==== Proof.Fox.Payloads.lean ====
/-
  The forgetting attention's payloads over the extended reals, read at an index, and what its tiles leave in the running
  maximum and the running sums.
-/
module

public import proofs.«01_k».proof.Proof.Fox.Keys
public import Idealize.ShloMosaic.Lib.Pipeline.ValueKit
public import Idealize.ShloMosaic.Lib.MatmulPlain
public import Idealize.ShloMosaic.Lib.WordCmp

@[expose] public section

set_option maxRecDepth 16384

noncomputable section

namespace Cert.Kernel6Ideal.Fox

open Cert.Kernel6Ideal Cert.Kernel6Ideal.Gen
open Idealize.ShloMosaic Idealize.ShloMosaic.TcCoe Idealize.ShloMosaic.Tactic
open Cert.FoxTarget

/-! ## Windows -/

section Windows
variable {F : FTy → Type}

theorem rowsW_at {e : EltTy} (x : Vec F S4096x256 e) (n : ℕ) (y : S512x256.Idx) (z : S4096x256.Idx)
    (h0 : (z 0).val = 512 * (n % 8) + (y 0).val) (h1 : (z 1).val = (y 1).val) : rowsW x n y = x z := by
  refine congrArg x (funext fun a => Fin.ext ?_)
  match a with
  | ⟨0, _⟩ => show 512 * (n % 8) + 1 * (y 0).val = (z 0).val; omega
  | ⟨1, _⟩ => show 0 + 1 * (y 1).val = (z 1).val; omega

theorem rowsN_at {e : EltTy} (x : Vec F S4096x128 e) (n : ℕ) (y : S512x128.Idx) (z : S4096x128.Idx)
    (h0 : (z 0).val = 512 * (n % 8) + (y 0).val) (h1 : (z 1).val = (y 1).val) : rowsN x n y = x z := by
  refine congrArg x (funext fun a => Fin.ext ?_)
  match a with
  | ⟨0, _⟩ => show 512 * (n % 8) + 1 * (y 0).val = (z 0).val; omega
  | ⟨1, _⟩ => show 0 + 1 * (y 1).val = (z 1).val; omega

theorem colsW_at {e : EltTy} (x : Vec F S256x4096 e) (n : ℕ) (y : S256x512.Idx) (z : S256x4096.Idx)
    (h0 : (z 0).val = (y 0).val) (h1 : (z 1).val = 512 * (n % 8) + (y 1).val) : colsW x n y = x z := by
  refine congrArg x (funext fun a => Fin.ext ?_)
  match a with
  | ⟨0, _⟩ => show 0 + 1 * (y 0).val = (z 0).val; omega
  | ⟨1, _⟩ => show 512 * (n % 8) + 1 * (y 1).val = (z 1).val; omega

theorem putW_at {e : EltTy} (x : Vec F S4096x256 e) (j : ℕ) (hj : j < 8) (w : Vec F S512x256 e) (y : S4096x256.Idx) :
    putW x j w y = if (y 0).val / 512 = j then w (ValueIdx.ix2 (n0 := 512) (n1 := 256) ⟨(y 0).val % 512, Nat.mod_lt _ (by norm_num)⟩ (y 1)) else x y := by
  have h1 : (y 1).val < 256 := (y 1).isLt
  have hm : j % 8 = j := Nat.mod_eq_of_lt hj
  unfold putW VecWindow.put
  by_cases h : (y 0).val / 512 = j
  · rw [if_pos h, dif_pos (fun a => by
      fin_cases a
      · exact ⟨by show 512 * (j % 8) ≤ (y 0).val; omega, by show (y 0).val < 512 * (j % 8) + 512; omega⟩
      · exact ⟨Nat.zero_le _, by show (y 1).val < 0 + 256; omega⟩)]
    refine congrArg w (funext fun a => ?_)
    match a with
    | ⟨0, _⟩ => refine Fin.ext ?_; show (y 0).val - 512 * (j % 8) = (y 0).val % 512; omega
    | ⟨1, _⟩ => rfl
  · rw [if_neg h, dif_neg (fun hh => h (by
      have a1 : 512 * (j % 8) ≤ (y 0).val := (hh 0).1
      have a2 : (y 0).val < 512 * (j % 8) + 512 := (hh 0).2
      omega))]

end Windows

/-! ## The payloads -/

theorem minus_inf : Ideal.ofBits .f32 0xFF800000#32 = (⊥ : EReal) := by simp [Ideal.ofBits, Ideal.ieee]

/-- The scores of a tile. -/
theorem pay3_at (q : Vec Ideal S512x256 .bf16) (t : Vec Ideal S256x512 .bf16) (i : S512x512.Idx) :
    k0_pay3 (F := Ideal) q t i = ∑ l : Fin 256, q (ValueIdx.ix2 (i 0) l) * t (ValueIdx.ix2 l (i 1)) := by
  unfold k0_pay3
  simp only [shapeCast_self]
  refine (congrArg (matmul (F := Ideal) (φ₁ := .bf16) (φ₂ := .bf16) dot_S512x256_S256x512_S512x512_1_0_0_1_n_n none q t
    (constant S512x512 .f32 0x00000000#32)) (ValueIdx.eq_ix2 i)).trans ?_
  refine (Ideal.matmul_plain_apply (φ₁ := .bf16) (φ₂ := .bf16) (M := 512) (K := 256) (N := 512) none q t
    (constant S512x512 .f32 0x00000000#32) (i 0) (i 1)).trans ?_
  exact (congrArg (fun z : EReal => z + _) Ideal.ofBits_zero_f32).trans (zero_add _)

/-- The larger of the maximum so far and the largest of a tile's row. -/
theorem pay4_at (s : Vec Ideal S512x512 .f32) (m : Vec Ideal S512x128 .f32) (i : S512x128.Idx) :
    k0_pay4 (F := Ideal) s m i = max (m i) ((Finset.univ : Finset (Fin 512)).sup fun l => s (ValueIdx.ix2 (i 0) l)) := by
  unfold k0_pay4
  refine congrArg (fun z : EReal => max (m i) z) ?_
  rw [broadcastTo_apply _ broadcasts_S512x1_S512x128 i (ValueIdx.ix2 (n0 := 512) (n1 := 1) (i 0) 0) (fun a => by
      match a with
      | ⟨0, _⟩ => show (i 0).val = if (512 : ℕ) = 1 then 0 else (i 0).val; rw [if_neg (by decide)]
      | ⟨1, _⟩ => rfl),
    shapeCast_apply _ shapeCasts_S512_S512x1 (ValueIdx.ix2 (n0 := 512) (n1 := 1) (i 0) 0) (ValueIdx.ix1 (n := 512) (i 0)) (by
      rw [Shape.rowMajor_val_one, Shape.rowMajor_val_two]; show (i 0).val = (i 0).val * 1 + 0; omega)]
  refine (Ideal.multiReduction_maximumf_single (φ := .f32) s _ reduces_S512x512_S512 _ _ _).trans ?_
  refine (congrArg (fun z : EReal => Finset.univ.fold max z fun l : Fin 512 => s (reduces_S512x512_S512.lift (ValueIdx.ix1 (n := 512) (i 0)) l)) minus_inf).trans ?_
  refine Finset.sup_congr (f := fun l : Fin 512 => s (reduces_S512x512_S512.lift (ValueIdx.ix1 (n := 512) (i 0)) l)) rfl fun l _ => congrArg s (funext fun a => Fin.ext ?_)
  match a with
  | ⟨0, _⟩ => rfl
  | ⟨1, _⟩ => rfl

theorem pay5_at (s : Vec Ideal S512x512 .f32) (m : Vec Ideal S512x128 .f32) (i : S512x128.Idx) :
    k0_pay5 (F := Ideal) s m i = Ideal.exp2 (m i - k0_pay4 (F := Ideal) s m i) := by
  unfold k0_pay5
  simp only [shapeCast_self]
  rfl

theorem pay7_at (s : Vec Ideal S512x512 .f32) (m : Vec Ideal S512x128 .f32) (i : S512x512.Idx) :
    k0_pay7 (F := Ideal) (k0_pay6 (F := Ideal) s m) i
      = Ideal.exp2 (s i - k0_pay4 (F := Ideal) s m (ValueIdx.ix2 (n0 := 512) (n1 := 128) (i 0) ⟨(i 1).val % 128, Nat.mod_lt _ (by decide)⟩)) := by
  unfold k0_pay7 k0_pay6
  simp only [shapeCast_self]
  refine congrArg (fun z : EReal => Ideal.exp2 (s i - z)) ?_
  exact concatenate_replicate_apply (t := S512x512) (s₁ := S512x128) 1 4 (k0_pay4 (F := Ideal) s m)
    concatenates_S512x128_S512x128_S512x128_S512x128_S512x512_d1 rfl
    i (ValueIdx.ix2 (n0 := 512) (n1 := 128) (i 0) ⟨(i 1).val % 128, Nat.mod_lt _ (by decide)⟩) rfl
    (fun b hb => by
      match b, hb with
      | ⟨0, _⟩, _ => rfl
      | ⟨1, _⟩, hb => exact absurd rfl hb)

theorem pay9_at (p : Vec Ideal S512x512 .bf16) (v : Vec Ideal S512x256 .bf16) (acc : Vec Ideal S512x256 .f32) (al : Vec Ideal S512x128 .f32) (i : S512x256.Idx) :
    k0_pay9 (F := Ideal) p v acc al i
      = al (ValueIdx.ix2 (n0 := 512) (n1 := 128) (i 0) ⟨(i 1).val % 128, Nat.mod_lt _ (by decide)⟩) * acc i
        + ∑ l : Fin 512, p (ValueIdx.ix2 (i 0) l) * v (ValueIdx.ix2 l (i 1)) := by
  unfold k0_pay9
  simp only [shapeCast_self]
  refine congrArg₂ (fun x z : EReal => x * acc i + z) ?_ ?_
  · exact concatenate_replicate_apply (t := S512x256) (s₁ := S512x128) 1 2 al
      concatenates_S512x128_S512x128_S512x256_d1 rfl
      i (ValueIdx.ix2 (n0 := 512) (n1 := 128) (i 0) ⟨(i 1).val % 128, Nat.mod_lt _ (by decide)⟩) rfl
      (fun b hb => by
        match b, hb with
        | ⟨0, _⟩, _ => rfl
        | ⟨1, _⟩, hb => exact absurd rfl hb)
  · refine (congrArg (matmul (F := Ideal) (φ₁ := .bf16) (φ₂ := .bf16) dot_S512x512_S512x256_S512x256_1_0_0_1_n_n none p v
      (constant S512x256 .f32 0x00000000#32)) (ValueIdx.eq_ix2 i)).trans ?_
    refine (Ideal.matmul_plain_apply (φ₁ := .bf16) (φ₂ := .bf16) (M := 512) (K := 512) (N := 256) none p v
      (constant S512x256 .f32 0x00000000#32) (i 0) (i 1)).trans ?_
    exact (congrArg (fun z : EReal => z + _) Ideal.ofBits_zero_f32).trans (zero_add _)

theorem sle_words (a b : ℕ) (ha : a < 512) (hb : b < 512) : (BitVec.ofNat 32 b).sle (BitVec.ofNat 32 a) = decide (b ≤ a) := by
  rw [BitVec.sle_eq_decide]
  refine decide_eq_decide.mpr ?_
  rw [BitVec.toInt_eq_toNat_of_lt (by simp; omega), BitVec.toInt_eq_toNat_of_lt (by simp; omega)]
  simp
  omega

/-- On the diagonal the lanes after a row are minus infinity. -/
theorem pay15_at (s : Vec Ideal S512x512 .f32) (i : S512x512.Idx) :
    k0_pay15 (F := Ideal) s i = if (i 1).val ≤ (i 0).val then s i else (⊥ : EReal) := by
  have h0 : (i 0).val < 512 := (i 0).isLt
  have h1 : (i 1).val < 512 := (i 1).isLt
  have e : (cmpi .sle (iota .tc S512x512 32 [1] iota_S512x512_d1_w32) (iota .tc S512x512 32 [0] iota_S512x512_d0_w32) : IVec S512x512 1) i
      = BitVec.ofBool (decide ((i 1).val ≤ (i 0).val)) := by
    show BitVec.ofBool ((iota .tc S512x512 32 [1] iota_S512x512_d1_w32 i).sle (iota .tc S512x512 32 [0] iota_S512x512_d0_w32 i)) = _
    rw [← sle_words _ _ h0 h1, WordCmp.iota_at, WordCmp.iota_at]
    show BitVec.ofBool ((BitVec.ofNat 32 (0 * 512 + (i 1).val)).sle (BitVec.ofNat 32 (0 * 512 + (i 0).val))) = _
    rw [Nat.zero_mul, Nat.zero_add, Nat.zero_add]
  unfold k0_pay15
  show (if _ = 1#1 then s i else (⊥ : EReal)) = _
  rw [e]
  by_cases h : (i 1).val ≤ (i 0).val
  · rw [if_pos h, decide_eq_true h]; rfl
  · rw [if_neg h, decide_eq_false h]; rfl

/-! ## From tile to tile -/

variable {Q : Vec Ideal S4096x256 .bf16} {T : Vec Ideal S256x4096 .bf16} {V : Vec Ideal S4096x256 .bf16} {X : Fin 4096 → Fin 4096 → ℝ}

/-- A tile's scores, masked where it is on the diagonal. -/
theorem scores_at (hX : ∀ r k : Fin 4096, ∑ l : Fin 256, Q (ValueIdx.ix2 r l) * T (ValueIdx.ix2 l k) = (X r k : EReal))
    (n : ℕ) (hn : n < 36) (R : Fin 4096) (hR : R.val / 512 = qi n) (i : S512x512.Idx) (hi : (i 0).val = R.val % 512) (l : Fin 512) (hl : (i 1).val = l.val) :
    gm n (Sc Q T n) i = if n < 28 ∨ (keyOf n l).val ≤ R.val then (X R (keyOf n l) : EReal) else ⊥ := by
  have hq := qi_lt n hn
  have hk := ki_lt n hn
  have e : Sc Q T n i = (X R (keyOf n l) : EReal) := by
    unfold Sc
    rw [pay3_at, ← hX]
    refine Finset.sum_congr rfl fun d _ => congrArg₂ (fun x z : EReal => x * z) ?_ ?_
    · exact rowsW_at Q _ _ (ValueIdx.ix2 R d) (by show R.val = 512 * (qi n % 8) + (i 0).val; omega) rfl
    · exact colsW_at T _ _ (ValueIdx.ix2 d (keyOf n l)) rfl (by show 512 * (ki n % 8) + l.val = 512 * (ki n % 8) + (i 1).val; omega)
  by_cases h : n < 28
  · rw [gm_low h, if_pos (.inl h)]; exact e
  · have hd := qi_diag n hn (by omega)
    have ek : (keyOf n l).val = 512 * (ki n % 8) + l.val := rfl
    rw [gm_diag (by omega), pay15_at, e]
    by_cases h' : (i 1).val ≤ (i 0).val
    · rw [if_pos h', if_pos (.inr (by omega))]
    · rw [if_neg h', if_neg (by omega)]

theorem seen_hit {n : ℕ} {R : Fin 4096} (h : R.val / 512 = qi n) : seen (n + 1) R = seen n R ∪ shown n R := if_pos h
theorem seen_miss {n : ℕ} {R : Fin 4096} (h : ¬ R.val / 512 = qi n) : seen (n + 1) R = seen n R := if_neg h

theorem maxima_at (hX : ∀ r k : Fin 4096, ∑ l : Fin 256, Q (ValueIdx.ix2 r l) * T (ValueIdx.ix2 l k) = (X r k : EReal)) :
    ∀ n, n ≤ 36 → ∀ (R : Fin 4096) (c : Fin 128), Mx Q T n (ValueIdx.ix2 R c) = most (seen n R) (X R)
  | 0, _, R, c => by
    show k0_pay34 (F := Ideal) (ValueIdx.ix2 R c) = (⊥ : EReal)
    unfold k0_pay34
    rw [shapeCast_self]
    rfl
  | n + 1, hn, R, c => by
    have ih := maxima_at hX n (by omega) R c
    have hq := qi_lt n (by omega)
    refine (putN_at (Mx Q T n) (qi n) hq _ (ValueIdx.ix2 R c)).trans ?_
    by_cases h : R.val / 512 = qi n
    · rw [seen_hit h, most_union, ← ih, ← most_shown]
      refine (if_pos h).trans ?_
      unfold k0_pay8
      rw [shapeCast_self, pay4_at]
      refine congrArg₂ (fun a b : EReal => max a b) (rowsN_at _ _ _ (ValueIdx.ix2 R c) (by show R.val = 512 * (qi n % 8) + R.val % 512; omega) rfl)
        (Finset.sup_congr rfl fun l _ => ?_)
      exact scores_at hX n (by omega) R h _ rfl l rfl
    · rw [seen_miss h]; exact (if_neg h).trans ih

/-- The maximum a tile computes. -/
theorem top_at (hX : ∀ r k : Fin 4096, ∑ l : Fin 256, Q (ValueIdx.ix2 r l) * T (ValueIdx.ix2 l k) = (X r k : EReal))
    (n : ℕ) (hn : n < 36) (R : Fin 4096) (hR : R.val / 512 = qi n) (i : S512x128.Idx) (hi : (i 0).val = R.val % 512) :
    rowsN (Mx Q T n) (qi n) i = most (seen n R) (X R)
    ∧ k0_pay4 (F := Ideal) (gm n (Sc Q T n)) (rowsN (Mx Q T n) (qi n)) i = most (seen n R ∪ shown n R) (X R) := by
  have hq := qi_lt n hn
  have e : rowsN (Mx Q T n) (qi n) i = most (seen n R) (X R) :=
    (rowsN_at _ _ i (ValueIdx.ix2 (n0 := 4096) (n1 := 128) R (i 1)) (by show R.val = 512 * (qi n % 8) + (i 0).val; omega) rfl).trans
      (maxima_at hX n (by omega) R (i 1))
  refine ⟨e, ?_⟩
  rw [pay4_at, e, most_union, ← most_shown]
  refine congrArg (fun z : EReal => max _ z) (Finset.sup_congr rfl fun l _ => ?_)
  exact scores_at hX n hn R hR _ hi l rfl

theorem sums_at (hX : ∀ r k : Fin 4096, ∑ l : Fin 256, Q (ValueIdx.ix2 r l) * T (ValueIdx.ix2 l k) = (X r k : EReal)) :
    ∀ n, n ≤ 36 → ∀ (R : Fin 4096) (c : Fin 256), Ac Q T V n (ValueIdx.ix2 R c) = mix (seen n R) (X R) fun k => V (ValueIdx.ix2 k c)
  | 0, _, R, c => by
    show k0_pay35 (F := Ideal) (ValueIdx.ix2 R c) = (0 : EReal)
    unfold k0_pay35
    rw [shapeCast_self]
    exact Ideal.ofBits_zero_f32
  | n + 1, hn, R, c => by
    have ih := sums_at hX n (by omega) R c
    have hq := qi_lt n (by omega)
    have hk := ki_lt n (by omega)
    refine (putW_at (Ac Q T V n) (qi n) hq _ (ValueIdx.ix2 R c)).trans ?_
    by_cases h : R.val / 512 = qi n
    · rw [seen_hit h, ← mix_union _ _ (seen_shown n (by omega) R h), ← ih, sum_shown]
      refine (if_pos h).trans ((pay9_at _ _ _ _ _).trans ?_)
      refine congrArg₂ (fun a b : EReal => a + b) (congrArg₂ (fun a b : EReal => a * b) ?_
        (rowsW_at _ _ _ (ValueIdx.ix2 R c) (by show R.val = 512 * (qi n % 8) + R.val % 512; omega) rfl)) (Finset.sum_congr rfl fun l _ => ?_)
      · unfold Al
        refine (pay5_at _ _ _).trans ?_
        obtain ⟨e1, e2⟩ := top_at hX n (by omega) R h (ValueIdx.ix2 (n0 := 512) (n1 := 128) ⟨R.val % 512, Nat.mod_lt _ (by norm_num)⟩ ⟨c.val % 128, Nat.mod_lt _ (by norm_num)⟩) rfl
        exact congrArg₂ (fun a b : EReal => Ideal.exp2 (a - b)) e1 e2
      · have ev : rowsW V (ki n) (ValueIdx.ix2 (n0 := 512) (n1 := 256) l c) = V (ValueIdx.ix2 (keyOf n l) c) :=
          rowsW_at V _ _ _ (by rfl) rfl
        have ep : Pr Q T n (ValueIdx.ix2 (n0 := 512) (n1 := 512) ⟨R.val % 512, Nat.mod_lt _ (by norm_num)⟩ l)
            = Ideal.exp2 ((if n < 28 ∨ (keyOf n l).val ≤ R.val then (X R (keyOf n l) : EReal) else ⊥) - most (seen n R ∪ shown n R) (X R)) := by
          unfold Pr
          refine (pay7_at _ _ _).trans ?_
          refine congrArg₂ (fun a b : EReal => Ideal.exp2 (a - b)) (scores_at hX n (by omega) R h _ rfl l rfl) ?_
          exact (top_at hX n (by omega) R h _ rfl).2
        refine (congrArg₂ (fun a b : EReal => a * b) ep ev).trans ?_
        by_cases hc : n < 28 ∨ (keyOf n l).val ≤ R.val
        · rw [if_pos hc, if_pos hc]; rfl
        · rw [if_neg hc, if_neg hc, exp2_bot, zero_mul]
    · rw [seen_miss h]; exact (if_neg h).trans ih

/-- The result's block. -/
theorem divided_at (hX : ∀ r k : Fin 4096, ∑ l : Fin 256, Q (ValueIdx.ix2 r l) * T (ValueIdx.ix2 l k) = (X r k : EReal)) (y : S4096x128.Idx) :
    divided (Ac Q T V 36) y = Ideal.div
      (mix (causal (y 0)) (X (y 0)) fun k => V (ValueIdx.ix2 k ⟨(y 1).val, by have : (y 1).val < 128 := (y 1).isLt; omega⟩))
      (mix (causal (y 0)) (X (y 0)) fun k => V (ValueIdx.ix2 k ⟨128 + (y 1).val, by have : (y 1).val < 128 := (y 1).isLt; omega⟩)) := by
  have h0 : (y 0).val < 4096 := (y 0).isLt
  have h1 : (y 1).val < 128 := (y 1).isLt
  have e : ∀ c : Fin 256, rowsW (Ac Q T V 36) ((y 0).val / 512) (ValueIdx.ix2 (n0 := 512) (n1 := 256) ⟨(y 0).val % 512, Nat.mod_lt _ (by norm_num)⟩ c)
      = mix (causal (y 0)) (X (y 0)) fun k => V (ValueIdx.ix2 k c) := fun c => by
    refine (rowsW_at _ _ _ (ValueIdx.ix2 (n0 := 4096) (n1 := 256) (y 0) c) (by show (y 0).val = 512 * ((y 0).val / 512 % 8) + (y 0).val % 512; omega) rfl).trans ?_
    exact (sums_at hX 36 le_rfl (y 0) c).trans (congrArg (fun P => mix P (X (y 0)) fun k => V (ValueIdx.ix2 k c)) (seen_all (y 0)))
  unfold divided k0_pay2
  refine congrArg₂ Ideal.div ?_ ?_
  · refine Eq.trans ?_ (e _)
    refine extractStridedSlice_apply _ _ _ _ _ (fun a => ?_)
    match a with
    | ⟨0, _⟩ => show (y 0).val % 512 = 0 + (y 0).val % 512; omega
    | ⟨1, _⟩ => show (y 1).val = 0 + (y 1).val; omega
  · refine Eq.trans ?_ (e _)
    refine extractStridedSlice_apply _ _ _ _ _ (fun a => ?_)
    match a with
    | ⟨0, _⟩ => show (y 0).val % 512 = 0 + (y 0).val % 512; omega
    | ⟨1, _⟩ => rfl

end Cert.Kernel6Ideal.Fox

end
-- ==== Proof.Fox.Target.lean ====
/-
  The forgetting attention as a function of the projections and of the decays in three parts: per head a softmax with
  base two over the keys that are not later, of the scaled products plus the keys' decays.
-/
module

public import proofs.«01_k».proof.Proof.Fox.Online

@[expose] public section

set_option maxRecDepth 16384

noncomputable section

namespace Cert.FoxTarget

open Idealize.ShloMosaic

def crow (b : Fin 4) (r : Fin 4096) : Fin 16384 := ⟨4096 * b.val + r.val, by have := b.isLt; have := r.isLt; omega⟩
def prow (b : Fin 4) (r : Fin 4096) : Fin 17408 := ⟨4096 * b.val + r.val, by have := b.isLt; have := r.isLt; omega⟩
def qcol (h : Fin 16) (d : Fin 128) : Fin 12288 := ⟨128 * h.val + d.val, by have := h.isLt; have := d.isLt; omega⟩
def kcol (h : Fin 16) (d : Fin 128) : Fin 12288 := ⟨2048 + (128 * h.val + d.val), by have := h.isLt; have := d.isLt; omega⟩
def vcol (h : Fin 16) (d : Fin 128) : Fin 12288 := ⟨4096 + (128 * h.val + d.val), by have := h.isLt; have := d.isLt; omega⟩
/-- The lanes of a head's three parts. -/
def part0 (h : Fin 16) : Fin 128 := ⟨h.val, by have := h.isLt; omega⟩
def part1 (h : Fin 16) : Fin 128 := ⟨16 + h.val, by have := h.isLt; omega⟩
def part2 (h : Fin 16) : Fin 128 := ⟨32 + h.val, by have := h.isLt; omega⟩

variable (p : Fin 17408 → Fin 12288 → EReal) (cx : Fin 16384 → Fin 128 → EReal)

/-- A key's decay: the sum of its three parts. -/
def decay (b : Fin 4) (h : Fin 16) (k : Fin 4096) : EReal := cx (crow b k) (part0 h) + cx (crow b k) (part1 h) + cx (crow b k) (part2 h)

/-- The score of a row and a key, in units of the logarithm of two. -/
def level (b : Fin 4) (h : Fin 16) (r k : Fin 4096) : ℝ :=
  11863283 / 134217728 * (Real.log 2)⁻¹ * (∑ d : Fin 128, (p (prow b r) (qcol h d)).toReal * (p (prow b k) (kcol h d)).toReal) + (decay cx b h k).toReal

/-- The attention's output. -/
def fox (b : Fin 4) (h : Fin 16) (r : Fin 4096) (d : Fin 128) : EReal :=
  Ideal.div (mix (causal r) (level p cx b h r) fun k => p (prow b k) (vcol h d)) (mix (causal r) (level p cx b h r) fun _ => 1)

/-- No query, key or decay is infinite. -/
structure Finite : Prop where
  q : ∀ b r h d, p (prow b r) (qcol h d) = ((p (prow b r) (qcol h d)).toReal : EReal)
  k : ∀ b r h d, p (prow b r) (kcol h d) = ((p (prow b r) (kcol h d)).toReal : EReal)
  d : ∀ b h k, decay cx b h k = ((decay cx b h k).toReal : EReal)

variable {p cx}

/-- The products of a row and a key. -/
theorem Finite.products (f : Finite p cx) (b : Fin 4) (h : Fin 16) (r k : Fin 4096) :
    ∑ d : Fin 128, p (prow b r) (qcol h d) * p (prow b k) (kcol h d)
      = ((∑ d : Fin 128, (p (prow b r) (qcol h d)).toReal * (p (prow b k) (kcol h d)).toReal : ℝ) : EReal) := by
  rw [← sum_coe]
  refine Finset.sum_congr rfl fun d _ => ?_
  rw [EReal.coe_mul, ← f.q, ← f.k]

/-- The kernel's form of a score: the queries scaled first, and the decay's three parts picked by three ones. -/
theorem Finite.level_eq (f : Finite p cx) (b : Fin 4) (h : Fin 16) (r k : Fin 4096) :
    (∑ d : Fin 128, (p (prow b r) (qcol h d) * ((11863283 / 134217728 * (Real.log 2)⁻¹ : ℝ) : EReal)) * p (prow b k) (kcol h d))
      + ∑ l : Fin 128, (if l = part0 h ∨ l = part1 h ∨ l = part2 h then (1 : EReal) else 0) * cx (crow b k) l
    = (level p cx b h r k : EReal) := by
  have e1 : (∑ d : Fin 128, (p (prow b r) (qcol h d) * ((11863283 / 134217728 * (Real.log 2)⁻¹ : ℝ) : EReal)) * p (prow b k) (kcol h d))
      = ((11863283 / 134217728 * (Real.log 2)⁻¹ * (∑ d : Fin 128, (p (prow b r) (qcol h d)).toReal * (p (prow b k) (kcol h d)).toReal) : ℝ) : EReal) := by
    rw [Finset.mul_sum, ← sum_coe]
    refine Finset.sum_congr rfl fun d _ => ?_
    rw [f.q b r h d, f.k b k h d, ← EReal.coe_mul, ← EReal.coe_mul]
    simp only [EReal.toReal_coe]
    exact congrArg _ (by ring)
  have e2 : ∑ l : Fin 128, (if l = part0 h ∨ l = part1 h ∨ l = part2 h then (1 : EReal) else 0) * cx (crow b k) l = decay cx b h k := by
    have h16 := h.isLt
    have hd : ∀ l : Fin 128, (if l = part0 h ∨ l = part1 h ∨ l = part2 h then (1 : EReal) else 0) * cx (crow b k) l
        = (if l = part0 h then cx (crow b k) l else 0) + (if l = part1 h then cx (crow b k) l else 0) + (if l = part2 h then cx (crow b k) l else 0) := by
      intro l
      have n01 : part0 h ≠ part1 h := fun e => by have := congrArg Fin.val e; simp only [part0, part1] at this; omega
      have n02 : part0 h ≠ part2 h := fun e => by have := congrArg Fin.val e; simp only [part0, part2] at this; omega
      have n12 : part1 h ≠ part2 h := fun e => by have := congrArg Fin.val e; simp only [part1, part2] at this; omega
      by_cases a0 : l = part0 h
      · subst a0; simp [n01, n02]
      · by_cases a1 : l = part1 h
        · subst a1; simp [n01.symm, n12]
        · by_cases a2 : l = part2 h
          · subst a2; simp [n02.symm, n12.symm]
          · simp [a0, a1, a2]
    simp only [hd, Finset.sum_add_distrib, Finset.sum_ite_eq', Finset.mem_univ, if_true]
    rfl
  rw [e1, e2, f.d, ← EReal.coe_add]
  rfl

/-- The reference's form of a score: the natural logarithm of two times the kernel's, less the row's own decay. -/
theorem Finite.score_eq (f : Finite p cx) (b : Fin 4) (h : Fin 16) (r k : Fin 4096) :
    (∑ d : Fin 128, p (prow b r) (qcol h d) * p (prow b k) (kcol h d)) * ((11863283 / 134217728 : ℝ) : EReal)
      + (-decay cx b h r * (Real.log 2 : EReal) - -decay cx b h k * (Real.log 2 : EReal))
    = ((Real.log 2 * level p cx b h r k - (decay cx b h r).toReal * Real.log 2 : ℝ) : EReal) := by
  have hl : Real.log 2 ≠ 0 := (Real.log_pos (by norm_num)).ne'
  rw [f.products, f.d b h r, f.d b h k]
  simp only [EReal.toReal_coe]
  rw [← EReal.coe_neg, ← EReal.coe_neg, ← EReal.coe_mul, ← EReal.coe_mul, ← EReal.coe_mul, ← EReal.coe_sub, ← EReal.coe_add]
  refine congrArg _ ?_
  unfold level
  field_simp
  ring

end Cert.FoxTarget

end
-- ==== Proof.Fox.Stages.lean ====
/-
  What each stage of the forgetting attention does to the buffers.
-/
module

public import proofs.«01_k».proof.Proof.Fox.Defs

@[expose] public section

set_option maxRecDepth 16384

noncomputable section

namespace Cert.Kernel6Ideal.Fox

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

set_option maxHeartbeats 1000000 in
theorem diag_score0_wp (c : Dev nD) (A : Args) (I : Ins F) (σ : Bufs F) (E : Set ℕ) (oq : Fin 2 → ℕ) (iq : ∀ a, oq a + S512x256.size a ≤ S4096x256.size a) (ok : Fin 2 → ℕ) (ik : ∀ a, ok a + S256x512.size a ≤ S256x4096.size a) (i j : ℕ) (hq : oq = ![512 * (i % 8), 0]) (hk : ok = ![0, 512 * (j % 8)]) :
    St c A I σ ⊢ wp frame (wpE (defs₀ (F := F)) Variants.none (c : Thread nD τ) none) E (diag_score0 A oq iq ok ik) (fun _ => St c A I (σ.score0 i j)) := by
  unfold diag_score0
  unfold St owns
  iintro ⟨⟨%b2, %hb2, H2⟩, ⟨%b3, %hb3, H3⟩, ⟨%b4, %hb4, H4⟩, ⟨%b5, %hb5, H5⟩, ⟨%b6, %hb6, H6⟩, ⟨%b7, %hb7, H7⟩, ⟨%b8, %hb8, H8⟩, ⟨%b9, %hb9, H9⟩, ⟨%b10, %hb10, H10⟩, ⟨%b11, %hb11, H11⟩, ⟨%b12, %hb12, H12⟩, ⟨%b13, %hb13, H13⟩, ⟨%b14, %hb14, H14⟩, ⟨%b15, %hb15, H15⟩, ⟨%b16, %hb16, H16⟩, ⟨%b17, %hb17, H17⟩, ⟨%b18, %hb18, H18⟩, ⟨%b19, %hb19, H19⟩, ⟨%b20, %hb20, H20⟩⟩
  obtain rfl := A.harg2.eq_unread hb2
  obtain rfl := A.harg3.eq_unread hb3
  obtain rfl := A.harg4.eq_unread hb4
  obtain rfl := A.harg5.eq_unread hb5
  obtain rfl := A.harg6.eq_unread hb6
  obtain rfl := A.harg7.eq_unread hb7
  obtain rfl := A.harg8.eq_unread hb8
  obtain rfl := A.harg9.eq_unread hb9
  obtain rfl := A.harg10.eq_unread hb10
  obtain rfl := A.harg11.eq_unread hb11
  obtain rfl := A.harg12.eq_unread hb12
  obtain rfl := A.harg13.eq_unread hb13
  obtain rfl := A.harg14.eq_unread hb14
  obtain rfl := A.harg15.eq_unread hb15
  obtain rfl := A.harg16.eq_unread hb16
  obtain rfl := A.harg17.eq_unread hb17
  obtain rfl := A.harg18.eq_unread hb18
  obtain rfl := A.harg19.eq_unread hb19
  obtain rfl := A.harg20.eq_unread hb20
  sl_exec (disch := fail)
  try sl_step
  isplitl [H2]
  · iexists _; isplitr; · ipureintro; exact A.harg2.read_unread _
    iexact H2
  isplitl [H3]
  · iexists _; isplitr; · ipureintro; exact A.harg3.read_unread _
    iexact H3
  isplitl [H4]
  · iexists _; isplitr; · ipureintro; exact A.harg4.read_unread _
    iexact H4
  isplitl [H5]
  · iexists _; isplitr; · ipureintro; exact A.harg5.read_unread _
    iexact H5
  isplitl [H6]
  · iexists _; isplitr; · ipureintro; exact A.harg6.read_unread _
    iexact H6
  isplitl [H7]
  · iexists _; isplitr; · ipureintro; exact A.harg7.read_unread _
    iexact H7
  isplitl [H8]
  · iexists _; isplitr; · ipureintro; exact A.harg8.read_unread _
    iexact H8
  isplitl [H9]
  · iexists _; isplitr; · ipureintro; exact A.harg9.read_unread _
    iexact H9
  isplitl [H10]
  · iexists _; isplitr; · ipureintro; exact A.harg10.read_unread _
    iexact H10
  isplitl [H11]
  · iexists _; isplitr; · ipureintro; exact A.harg11.read_unread _
    iexact H11
  isplitl [H12]
  · iexists _; isplitr; · ipureintro; exact A.harg12.read_unread _
    iexact H12
  isplitl [H13]
  · iexists _; isplitr; swap; · iexact H13
    ipureintro; exact stored _ _ _ _ (congr (congrArg (k0_pay3 (F := F)) (loaded_part A.harg9 σ.qx _ hq (inbR i))) (loaded_part A.harg11 σ.kt _ hk (inbC j)))
  isplitl [H14]
  · iexists _; isplitr; · ipureintro; exact A.harg14.read_unread _
    iexact H14
  isplitl [H15]
  · iexists _; isplitr; · ipureintro; exact A.harg15.read_unread _
    iexact H15
  isplitl [H16]
  · iexists _; isplitr; · ipureintro; exact A.harg16.read_unread _
    iexact H16
  isplitl [H17]
  · iexists _; isplitr; · ipureintro; exact A.harg17.read_unread _
    iexact H17
  isplitl [H18]
  · iexists _; isplitr; · ipureintro; exact A.harg18.read_unread _
    iexact H18
  isplitl [H19]
  · iexists _; isplitr; · ipureintro; exact A.harg19.read_unread _
    iexact H19
  iexists _; isplitr; · ipureintro; exact A.harg20.read_unread _
  iexact H20

set_option maxHeartbeats 1000000 in
theorem low_score0_wp (c : Dev nD) (A : Args) (I : Ins F) (σ : Bufs F) (E : Set ℕ) (n : ℕ) (hn : n < 28) (off : Fin 1 → ℕ) (inb : ∀ a, off a + S1.size a ≤ S28.size a) (ho : off = ![n]) :
    St c A I σ ⊢ wp frame (wpE (defs₀ (F := F)) Variants.none (c : Thread nD τ) none) E (low_score0 A off inb) (fun _ => St c A I (σ.score0 (qi n) (ki n))) := by
  subst ho
  have e2 : (View.readAt (Elt F) A.arg2.view (Rect.unit (s := S28) ![n] S1.size inb).toLoadRect (A.harg2.unread tabQ) (Shape.Idx.first (by rw [show (Rect.unit (s := S28) ![n] S1.size inb).toLoadRect.shape.numel = 1 from numel1_S1]; norm_num))) = BitVec.ofNat 32 (qi n) := word A.harg2 tabQ n _ inb hn (tabQ_at n hn)
  have c2 : k0_chk6 (View.readAt (Elt F) A.arg2.view (Rect.unit (s := S28) ![n] S1.size inb).toLoadRect (A.harg2.unread tabQ) (Shape.Idx.first (by rw [show (Rect.unit (s := S28) ![n] S1.size inb).toLoadRect.shape.numel = 1 from numel1_S1]; norm_num))) := by rw [e2]; exact (chks n hn).1
  have hq : k0_off9 (View.readAt (Elt F) A.arg2.view (Rect.unit (s := S28) ![n] S1.size inb).toLoadRect (A.harg2.unread tabQ) (Shape.Idx.first (by rw [show (Rect.unit (s := S28) ![n] S1.size inb).toLoadRect.shape.numel = 1 from numel1_S1]; norm_num))) = ![512 * (qi n % 8), 0] := by rw [e2]; exact (offs n hn).1
  have e3 : (View.readAt (Elt F) A.arg3.view (Rect.unit (s := S28) ![n] S1.size inb).toLoadRect (A.harg3.unread tabK) (Shape.Idx.first (by rw [show (Rect.unit (s := S28) ![n] S1.size inb).toLoadRect.shape.numel = 1 from numel1_S1]; norm_num))) = BitVec.ofNat 32 (ki n) := word A.harg3 tabK n _ inb hn (tabK_at n hn)
  have c3 : k0_chk7 (View.readAt (Elt F) A.arg3.view (Rect.unit (s := S28) ![n] S1.size inb).toLoadRect (A.harg3.unread tabK) (Shape.Idx.first (by rw [show (Rect.unit (s := S28) ![n] S1.size inb).toLoadRect.shape.numel = 1 from numel1_S1]; norm_num))) := by rw [e3]; exact (chks n hn).2.1
  have hk : k0_off10 (View.readAt (Elt F) A.arg3.view (Rect.unit (s := S28) ![n] S1.size inb).toLoadRect (A.harg3.unread tabK) (Shape.Idx.first (by rw [show (Rect.unit (s := S28) ![n] S1.size inb).toLoadRect.shape.numel = 1 from numel1_S1]; norm_num))) = ![0, 512 * (ki n % 8)] := by rw [e3]; exact (offs n hn).2.1
  unfold low_score0 smemLoad
  unfold St owns
  iintro ⟨⟨%b2, %hb2, H2⟩, ⟨%b3, %hb3, H3⟩, ⟨%b4, %hb4, H4⟩, ⟨%b5, %hb5, H5⟩, ⟨%b6, %hb6, H6⟩, ⟨%b7, %hb7, H7⟩, ⟨%b8, %hb8, H8⟩, ⟨%b9, %hb9, H9⟩, ⟨%b10, %hb10, H10⟩, ⟨%b11, %hb11, H11⟩, ⟨%b12, %hb12, H12⟩, ⟨%b13, %hb13, H13⟩, ⟨%b14, %hb14, H14⟩, ⟨%b15, %hb15, H15⟩, ⟨%b16, %hb16, H16⟩, ⟨%b17, %hb17, H17⟩, ⟨%b18, %hb18, H18⟩, ⟨%b19, %hb19, H19⟩, ⟨%b20, %hb20, H20⟩⟩
  obtain rfl := A.harg2.eq_unread hb2
  obtain rfl := A.harg3.eq_unread hb3
  obtain rfl := A.harg4.eq_unread hb4
  obtain rfl := A.harg5.eq_unread hb5
  obtain rfl := A.harg6.eq_unread hb6
  obtain rfl := A.harg7.eq_unread hb7
  obtain rfl := A.harg8.eq_unread hb8
  obtain rfl := A.harg9.eq_unread hb9
  obtain rfl := A.harg10.eq_unread hb10
  obtain rfl := A.harg11.eq_unread hb11
  obtain rfl := A.harg12.eq_unread hb12
  obtain rfl := A.harg13.eq_unread hb13
  obtain rfl := A.harg14.eq_unread hb14
  obtain rfl := A.harg15.eq_unread hb15
  obtain rfl := A.harg16.eq_unread hb16
  obtain rfl := A.harg17.eq_unread hb17
  obtain rfl := A.harg18.eq_unread hb18
  obtain rfl := A.harg19.eq_unread hb19
  obtain rfl := A.harg20.eq_unread hb20
  sl_exec (disch := first | exact c2 | exact c3)
  try sl_step
  isplitl [H2]
  · iexists _; isplitr; · ipureintro; exact A.harg2.read_unread _
    iexact H2
  isplitl [H3]
  · iexists _; isplitr; · ipureintro; exact A.harg3.read_unread _
    iexact H3
  isplitl [H4]
  · iexists _; isplitr; · ipureintro; exact A.harg4.read_unread _
    iexact H4
  isplitl [H5]
  · iexists _; isplitr; · ipureintro; exact A.harg5.read_unread _
    iexact H5
  isplitl [H6]
  · iexists _; isplitr; · ipureintro; exact A.harg6.read_unread _
    iexact H6
  isplitl [H7]
  · iexists _; isplitr; · ipureintro; exact A.harg7.read_unread _
    iexact H7
  isplitl [H8]
  · iexists _; isplitr; · ipureintro; exact A.harg8.read_unread _
    iexact H8
  isplitl [H9]
  · iexists _; isplitr; · ipureintro; exact A.harg9.read_unread _
    iexact H9
  isplitl [H10]
  · iexists _; isplitr; · ipureintro; exact A.harg10.read_unread _
    iexact H10
  isplitl [H11]
  · iexists _; isplitr; · ipureintro; exact A.harg11.read_unread _
    iexact H11
  isplitl [H12]
  · iexists _; isplitr; · ipureintro; exact A.harg12.read_unread _
    iexact H12
  isplitl [H13]
  · iexists _; isplitr; swap; · iexact H13
    ipureintro; exact stored _ _ _ _ (congr (congrArg (k0_pay3 (F := F)) (loaded_part A.harg9 σ.qx _ hq (inbR (qi n)))) (loaded_part A.harg11 σ.kt _ hk (inbC (ki n))))
  isplitl [H14]
  · iexists _; isplitr; · ipureintro; exact A.harg14.read_unread _
    iexact H14
  isplitl [H15]
  · iexists _; isplitr; · ipureintro; exact A.harg15.read_unread _
    iexact H15
  isplitl [H16]
  · iexists _; isplitr; · ipureintro; exact A.harg16.read_unread _
    iexact H16
  isplitl [H17]
  · iexists _; isplitr; · ipureintro; exact A.harg17.read_unread _
    iexact H17
  isplitl [H18]
  · iexists _; isplitr; · ipureintro; exact A.harg18.read_unread _
    iexact H18
  isplitl [H19]
  · iexists _; isplitr; · ipureintro; exact A.harg19.read_unread _
    iexact H19
  iexists _; isplitr; · ipureintro; exact A.harg20.read_unread _
  iexact H20

set_option maxHeartbeats 1000000 in
theorem diag_soft0_wp (c : Dev nD) (A : Args) (I : Ins F) (σ : Bufs F) (E : Set ℕ) (om : Fin 2 → ℕ) (im : ∀ a, om a + S512x128.size a ≤ S4096x128.size a) (i : ℕ) (hm : om = ![512 * (i % 8), 0]) :
    St c A I σ ⊢ wp frame (wpE (defs₀ (F := F)) Variants.none (c : Thread nD τ) none) E (diag_soft0 A om im) (fun _ => St c A I (σ.soft0 (k0_pay15 (F := F)) i)) := by
  unfold diag_soft0
  unfold St owns
  iintro ⟨⟨%b2, %hb2, H2⟩, ⟨%b3, %hb3, H3⟩, ⟨%b4, %hb4, H4⟩, ⟨%b5, %hb5, H5⟩, ⟨%b6, %hb6, H6⟩, ⟨%b7, %hb7, H7⟩, ⟨%b8, %hb8, H8⟩, ⟨%b9, %hb9, H9⟩, ⟨%b10, %hb10, H10⟩, ⟨%b11, %hb11, H11⟩, ⟨%b12, %hb12, H12⟩, ⟨%b13, %hb13, H13⟩, ⟨%b14, %hb14, H14⟩, ⟨%b15, %hb15, H15⟩, ⟨%b16, %hb16, H16⟩, ⟨%b17, %hb17, H17⟩, ⟨%b18, %hb18, H18⟩, ⟨%b19, %hb19, H19⟩, ⟨%b20, %hb20, H20⟩⟩
  obtain rfl := A.harg2.eq_unread hb2
  obtain rfl := A.harg3.eq_unread hb3
  obtain rfl := A.harg4.eq_unread hb4
  obtain rfl := A.harg5.eq_unread hb5
  obtain rfl := A.harg6.eq_unread hb6
  obtain rfl := A.harg7.eq_unread hb7
  obtain rfl := A.harg8.eq_unread hb8
  obtain rfl := A.harg9.eq_unread hb9
  obtain rfl := A.harg10.eq_unread hb10
  obtain rfl := A.harg11.eq_unread hb11
  obtain rfl := A.harg12.eq_unread hb12
  obtain rfl := A.harg13.eq_unread hb13
  obtain rfl := A.harg14.eq_unread hb14
  obtain rfl := A.harg15.eq_unread hb15
  obtain rfl := A.harg16.eq_unread hb16
  obtain rfl := A.harg17.eq_unread hb17
  obtain rfl := A.harg18.eq_unread hb18
  obtain rfl := A.harg19.eq_unread hb19
  obtain rfl := A.harg20.eq_unread hb20
  sl_exec (disch := fail)
  try sl_step
  isplitl [H2]
  · iexists _; isplitr; · ipureintro; exact A.harg2.read_unread _
    iexact H2
  isplitl [H3]
  · iexists _; isplitr; · ipureintro; exact A.harg3.read_unread _
    iexact H3
  isplitl [H4]
  · iexists _; isplitr; · ipureintro; exact A.harg4.read_unread _
    iexact H4
  isplitl [H5]
  · iexists _; isplitr; · ipureintro; exact A.harg5.read_unread _
    iexact H5
  isplitl [H6]
  · iexists _; isplitr; · ipureintro; exact A.harg6.read_unread _
    iexact H6
  isplitl [H7]
  · iexists _; isplitr; · ipureintro; exact A.harg7.read_unread _
    iexact H7
  isplitl [H8]
  · iexists _; isplitr; · ipureintro; exact A.harg8.read_unread _
    iexact H8
  isplitl [H9]
  · iexists _; isplitr; · ipureintro; exact A.harg9.read_unread _
    iexact H9
  isplitl [H10]
  · iexists _; isplitr; · ipureintro; exact A.harg10.read_unread _
    iexact H10
  isplitl [H11]
  · iexists _; isplitr; · ipureintro; exact A.harg11.read_unread _
    iexact H11
  isplitl [H12]
  · iexists _; isplitr; · ipureintro; exact A.harg12.read_unread _
    iexact H12
  isplitl [H13]
  · iexists _; isplitr; · ipureintro; exact A.harg13.read_unread _
    iexact H13
  isplitl [H14]
  · iexists _; isplitr; · ipureintro; exact A.harg14.read_unread _
    iexact H14
  isplitl [H15]
  · iexists _; isplitr; swap; · iexact H15
    ipureintro; exact stored _ _ _ _ (congrArg (k0_pay7 (F := F)) (congr (congrArg (k0_pay6 (F := F)) (congrArg (k0_pay15 (F := F)) (loaded A.harg13 σ.s0 _))) (loaded_part A.harg19 σ.mx _ hm (inbM i))))
  isplitl [H16]
  · iexists _; isplitr; · ipureintro; exact A.harg16.read_unread _
    iexact H16
  isplitl [H17]
  · iexists _; isplitr; swap; · iexact H17
    ipureintro; exact stored _ _ _ _ (congr (congrArg (k0_pay5 (F := F)) (congrArg (k0_pay15 (F := F)) (loaded A.harg13 σ.s0 _))) (loaded_part A.harg19 σ.mx _ hm (inbM i)))
  isplitl [H18]
  · iexists _; isplitr; · ipureintro; exact A.harg18.read_unread _
    iexact H18
  isplitl [H19]
  · iexists _; isplitr; swap; · iexact H19
    ipureintro; exact patched A.harg19 σ.mx _ hm _ _ (congrArg (k0_pay8 (F := F)) (congr (congrArg (k0_pay4 (F := F)) (congrArg (k0_pay15 (F := F)) (loaded A.harg13 σ.s0 _))) (loaded_part A.harg19 σ.mx _ hm (inbM i))))
  iexists _; isplitr; · ipureintro; exact A.harg20.read_unread _
  iexact H20

set_option maxHeartbeats 1000000 in
theorem low_soft0_wp (c : Dev nD) (A : Args) (I : Ins F) (σ : Bufs F) (E : Set ℕ) (n : ℕ) (hn : n < 28) (off : Fin 1 → ℕ) (inb : ∀ a, off a + S1.size a ≤ S28.size a) (ho : off = ![n]) :
    St c A I σ ⊢ wp frame (wpE (defs₀ (F := F)) Variants.none (c : Thread nD τ) none) E (low_soft0 A off inb) (fun _ => St c A I (σ.soft0 id (qi n))) := by
  subst ho
  have e2 : (View.readAt (Elt F) A.arg2.view (Rect.unit (s := S28) ![n] S1.size inb).toLoadRect (A.harg2.unread tabQ) (Shape.Idx.first (by rw [show (Rect.unit (s := S28) ![n] S1.size inb).toLoadRect.shape.numel = 1 from numel1_S1]; norm_num))) = BitVec.ofNat 32 (qi n) := word A.harg2 tabQ n _ inb hn (tabQ_at n hn)
  have c2 : k0_chk8 (View.readAt (Elt F) A.arg2.view (Rect.unit (s := S28) ![n] S1.size inb).toLoadRect (A.harg2.unread tabQ) (Shape.Idx.first (by rw [show (Rect.unit (s := S28) ![n] S1.size inb).toLoadRect.shape.numel = 1 from numel1_S1]; norm_num))) := by rw [e2]; exact (chks n hn).2.2.1
  have hq : k0_off12 (View.readAt (Elt F) A.arg2.view (Rect.unit (s := S28) ![n] S1.size inb).toLoadRect (A.harg2.unread tabQ) (Shape.Idx.first (by rw [show (Rect.unit (s := S28) ![n] S1.size inb).toLoadRect.shape.numel = 1 from numel1_S1]; norm_num))) = ![512 * (qi n % 8), 0] := by rw [e2]; exact (offs n hn).1
  unfold low_soft0 smemLoad
  unfold St owns
  iintro ⟨⟨%b2, %hb2, H2⟩, ⟨%b3, %hb3, H3⟩, ⟨%b4, %hb4, H4⟩, ⟨%b5, %hb5, H5⟩, ⟨%b6, %hb6, H6⟩, ⟨%b7, %hb7, H7⟩, ⟨%b8, %hb8, H8⟩, ⟨%b9, %hb9, H9⟩, ⟨%b10, %hb10, H10⟩, ⟨%b11, %hb11, H11⟩, ⟨%b12, %hb12, H12⟩, ⟨%b13, %hb13, H13⟩, ⟨%b14, %hb14, H14⟩, ⟨%b15, %hb15, H15⟩, ⟨%b16, %hb16, H16⟩, ⟨%b17, %hb17, H17⟩, ⟨%b18, %hb18, H18⟩, ⟨%b19, %hb19, H19⟩, ⟨%b20, %hb20, H20⟩⟩
  obtain rfl := A.harg2.eq_unread hb2
  obtain rfl := A.harg3.eq_unread hb3
  obtain rfl := A.harg4.eq_unread hb4
  obtain rfl := A.harg5.eq_unread hb5
  obtain rfl := A.harg6.eq_unread hb6
  obtain rfl := A.harg7.eq_unread hb7
  obtain rfl := A.harg8.eq_unread hb8
  obtain rfl := A.harg9.eq_unread hb9
  obtain rfl := A.harg10.eq_unread hb10
  obtain rfl := A.harg11.eq_unread hb11
  obtain rfl := A.harg12.eq_unread hb12
  obtain rfl := A.harg13.eq_unread hb13
  obtain rfl := A.harg14.eq_unread hb14
  obtain rfl := A.harg15.eq_unread hb15
  obtain rfl := A.harg16.eq_unread hb16
  obtain rfl := A.harg17.eq_unread hb17
  obtain rfl := A.harg18.eq_unread hb18
  obtain rfl := A.harg19.eq_unread hb19
  obtain rfl := A.harg20.eq_unread hb20
  sl_exec (disch := first | exact c2 )
  try sl_step
  isplitl [H2]
  · iexists _; isplitr; · ipureintro; exact A.harg2.read_unread _
    iexact H2
  isplitl [H3]
  · iexists _; isplitr; · ipureintro; exact A.harg3.read_unread _
    iexact H3
  isplitl [H4]
  · iexists _; isplitr; · ipureintro; exact A.harg4.read_unread _
    iexact H4
  isplitl [H5]
  · iexists _; isplitr; · ipureintro; exact A.harg5.read_unread _
    iexact H5
  isplitl [H6]
  · iexists _; isplitr; · ipureintro; exact A.harg6.read_unread _
    iexact H6
  isplitl [H7]
  · iexists _; isplitr; · ipureintro; exact A.harg7.read_unread _
    iexact H7
  isplitl [H8]
  · iexists _; isplitr; · ipureintro; exact A.harg8.read_unread _
    iexact H8
  isplitl [H9]
  · iexists _; isplitr; · ipureintro; exact A.harg9.read_unread _
    iexact H9
  isplitl [H10]
  · iexists _; isplitr; · ipureintro; exact A.harg10.read_unread _
    iexact H10
  isplitl [H11]
  · iexists _; isplitr; · ipureintro; exact A.harg11.read_unread _
    iexact H11
  isplitl [H12]
  · iexists _; isplitr; · ipureintro; exact A.harg12.read_unread _
    iexact H12
  isplitl [H13]
  · iexists _; isplitr; · ipureintro; exact A.harg13.read_unread _
    iexact H13
  isplitl [H14]
  · iexists _; isplitr; · ipureintro; exact A.harg14.read_unread _
    iexact H14
  isplitl [H15]
  · iexists _; isplitr; swap; · iexact H15
    ipureintro; exact stored _ _ _ _ (congrArg (k0_pay7 (F := F)) (congr (congrArg (k0_pay6 (F := F)) (loaded A.harg13 σ.s0 _)) (loaded_part A.harg19 σ.mx _ hq (inbM (qi n)))))
  isplitl [H16]
  · iexists _; isplitr; · ipureintro; exact A.harg16.read_unread _
    iexact H16
  isplitl [H17]
  · iexists _; isplitr; swap; · iexact H17
    ipureintro; exact stored _ _ _ _ (congr (congrArg (k0_pay5 (F := F)) (loaded A.harg13 σ.s0 _)) (loaded_part A.harg19 σ.mx _ hq (inbM (qi n))))
  isplitl [H18]
  · iexists _; isplitr; · ipureintro; exact A.harg18.read_unread _
    iexact H18
  isplitl [H19]
  · iexists _; isplitr; swap; · iexact H19
    ipureintro; exact patched A.harg19 σ.mx _ hq _ _ (congrArg (k0_pay8 (F := F)) (congr (congrArg (k0_pay4 (F := F)) (loaded A.harg13 σ.s0 _)) (loaded_part A.harg19 σ.mx _ hq (inbM (qi n)))))
  iexists _; isplitr; · ipureintro; exact A.harg20.read_unread _
  iexact H20

set_option maxHeartbeats 1000000 in
theorem diag_pv0_wp (c : Dev nD) (A : Args) (I : Ins F) (σ : Bufs F) (E : Set ℕ) (oa : Fin 2 → ℕ) (ia : ∀ a, oa a + S512x256.size a ≤ S4096x256.size a) (ok : Fin 2 → ℕ) (ik : ∀ a, ok a + S512x256.size a ≤ S4096x256.size a) (i j : ℕ) (hq : oa = ![512 * (i % 8), 0]) (hk : ok = ![512 * (j % 8), 0]) :
    St c A I σ ⊢ wp frame (wpE (defs₀ (F := F)) Variants.none (c : Thread nD τ) none) E (diag_pv0 A oa ia ok ik) (fun _ => St c A I (σ.pv0 i j)) := by
  unfold diag_pv0
  unfold St owns
  iintro ⟨⟨%b2, %hb2, H2⟩, ⟨%b3, %hb3, H3⟩, ⟨%b4, %hb4, H4⟩, ⟨%b5, %hb5, H5⟩, ⟨%b6, %hb6, H6⟩, ⟨%b7, %hb7, H7⟩, ⟨%b8, %hb8, H8⟩, ⟨%b9, %hb9, H9⟩, ⟨%b10, %hb10, H10⟩, ⟨%b11, %hb11, H11⟩, ⟨%b12, %hb12, H12⟩, ⟨%b13, %hb13, H13⟩, ⟨%b14, %hb14, H14⟩, ⟨%b15, %hb15, H15⟩, ⟨%b16, %hb16, H16⟩, ⟨%b17, %hb17, H17⟩, ⟨%b18, %hb18, H18⟩, ⟨%b19, %hb19, H19⟩, ⟨%b20, %hb20, H20⟩⟩
  obtain rfl := A.harg2.eq_unread hb2
  obtain rfl := A.harg3.eq_unread hb3
  obtain rfl := A.harg4.eq_unread hb4
  obtain rfl := A.harg5.eq_unread hb5
  obtain rfl := A.harg6.eq_unread hb6
  obtain rfl := A.harg7.eq_unread hb7
  obtain rfl := A.harg8.eq_unread hb8
  obtain rfl := A.harg9.eq_unread hb9
  obtain rfl := A.harg10.eq_unread hb10
  obtain rfl := A.harg11.eq_unread hb11
  obtain rfl := A.harg12.eq_unread hb12
  obtain rfl := A.harg13.eq_unread hb13
  obtain rfl := A.harg14.eq_unread hb14
  obtain rfl := A.harg15.eq_unread hb15
  obtain rfl := A.harg16.eq_unread hb16
  obtain rfl := A.harg17.eq_unread hb17
  obtain rfl := A.harg18.eq_unread hb18
  obtain rfl := A.harg19.eq_unread hb19
  obtain rfl := A.harg20.eq_unread hb20
  sl_exec (disch := fail)
  try sl_step
  isplitl [H2]
  · iexists _; isplitr; · ipureintro; exact A.harg2.read_unread _
    iexact H2
  isplitl [H3]
  · iexists _; isplitr; · ipureintro; exact A.harg3.read_unread _
    iexact H3
  isplitl [H4]
  · iexists _; isplitr; · ipureintro; exact A.harg4.read_unread _
    iexact H4
  isplitl [H5]
  · iexists _; isplitr; · ipureintro; exact A.harg5.read_unread _
    iexact H5
  isplitl [H6]
  · iexists _; isplitr; · ipureintro; exact A.harg6.read_unread _
    iexact H6
  isplitl [H7]
  · iexists _; isplitr; · ipureintro; exact A.harg7.read_unread _
    iexact H7
  isplitl [H8]
  · iexists _; isplitr; · ipureintro; exact A.harg8.read_unread _
    iexact H8
  isplitl [H9]
  · iexists _; isplitr; · ipureintro; exact A.harg9.read_unread _
    iexact H9
  isplitl [H10]
  · iexists _; isplitr; · ipureintro; exact A.harg10.read_unread _
    iexact H10
  isplitl [H11]
  · iexists _; isplitr; · ipureintro; exact A.harg11.read_unread _
    iexact H11
  isplitl [H12]
  · iexists _; isplitr; · ipureintro; exact A.harg12.read_unread _
    iexact H12
  isplitl [H13]
  · iexists _; isplitr; · ipureintro; exact A.harg13.read_unread _
    iexact H13
  isplitl [H14]
  · iexists _; isplitr; · ipureintro; exact A.harg14.read_unread _
    iexact H14
  isplitl [H15]
  · iexists _; isplitr; · ipureintro; exact A.harg15.read_unread _
    iexact H15
  isplitl [H16]
  · iexists _; isplitr; · ipureintro; exact A.harg16.read_unread _
    iexact H16
  isplitl [H17]
  · iexists _; isplitr; · ipureintro; exact A.harg17.read_unread _
    iexact H17
  isplitl [H18]
  · iexists _; isplitr; · ipureintro; exact A.harg18.read_unread _
    iexact H18
  isplitl [H19]
  · iexists _; isplitr; · ipureintro; exact A.harg19.read_unread _
    iexact H19
  iexists _; isplitr; swap; · iexact H20
  ipureintro; exact patched A.harg20 σ.ac _ hq _ _ (congr (congr (congr (congrArg (k0_pay9 (F := F)) (loaded A.harg15 σ.p0 _)) (loaded_part A.harg12 σ.vx _ hk (inbR j))) (loaded_part A.harg20 σ.ac _ hq (inbR i))) (loaded A.harg17 σ.a0 _))

set_option maxHeartbeats 1000000 in
theorem low_pv0_wp (c : Dev nD) (A : Args) (I : Ins F) (σ : Bufs F) (E : Set ℕ) (n : ℕ) (hn : n < 28) (off : Fin 1 → ℕ) (inb : ∀ a, off a + S1.size a ≤ S28.size a) (ho : off = ![n]) :
    St c A I σ ⊢ wp frame (wpE (defs₀ (F := F)) Variants.none (c : Thread nD τ) none) E (low_pv0 A off inb) (fun _ => St c A I (σ.pv0 (qi n) (ki n))) := by
  subst ho
  have e2 : (View.readAt (Elt F) A.arg2.view (Rect.unit (s := S28) ![n] S1.size inb).toLoadRect (A.harg2.unread tabQ) (Shape.Idx.first (by rw [show (Rect.unit (s := S28) ![n] S1.size inb).toLoadRect.shape.numel = 1 from numel1_S1]; norm_num))) = BitVec.ofNat 32 (qi n) := word A.harg2 tabQ n _ inb hn (tabQ_at n hn)
  have c2 : k0_chk10 (View.readAt (Elt F) A.arg2.view (Rect.unit (s := S28) ![n] S1.size inb).toLoadRect (A.harg2.unread tabQ) (Shape.Idx.first (by rw [show (Rect.unit (s := S28) ![n] S1.size inb).toLoadRect.shape.numel = 1 from numel1_S1]; norm_num))) := by rw [e2]; exact (chks n hn).2.2.2.1
  have hq : k0_off15 (View.readAt (Elt F) A.arg2.view (Rect.unit (s := S28) ![n] S1.size inb).toLoadRect (A.harg2.unread tabQ) (Shape.Idx.first (by rw [show (Rect.unit (s := S28) ![n] S1.size inb).toLoadRect.shape.numel = 1 from numel1_S1]; norm_num))) = ![512 * (qi n % 8), 0] := by rw [e2]; exact (offs n hn).1
  have e3 : (View.readAt (Elt F) A.arg3.view (Rect.unit (s := S28) ![n] S1.size inb).toLoadRect (A.harg3.unread tabK) (Shape.Idx.first (by rw [show (Rect.unit (s := S28) ![n] S1.size inb).toLoadRect.shape.numel = 1 from numel1_S1]; norm_num))) = BitVec.ofNat 32 (ki n) := word A.harg3 tabK n _ inb hn (tabK_at n hn)
  have c3 : k0_chk9 (View.readAt (Elt F) A.arg3.view (Rect.unit (s := S28) ![n] S1.size inb).toLoadRect (A.harg3.unread tabK) (Shape.Idx.first (by rw [show (Rect.unit (s := S28) ![n] S1.size inb).toLoadRect.shape.numel = 1 from numel1_S1]; norm_num))) := by rw [e3]; exact (chks n hn).2.2.2.2
  have hk : k0_off14 (View.readAt (Elt F) A.arg3.view (Rect.unit (s := S28) ![n] S1.size inb).toLoadRect (A.harg3.unread tabK) (Shape.Idx.first (by rw [show (Rect.unit (s := S28) ![n] S1.size inb).toLoadRect.shape.numel = 1 from numel1_S1]; norm_num))) = ![512 * (ki n % 8), 0] := by rw [e3]; exact (offs n hn).2.2
  unfold low_pv0 smemLoad
  unfold St owns
  iintro ⟨⟨%b2, %hb2, H2⟩, ⟨%b3, %hb3, H3⟩, ⟨%b4, %hb4, H4⟩, ⟨%b5, %hb5, H5⟩, ⟨%b6, %hb6, H6⟩, ⟨%b7, %hb7, H7⟩, ⟨%b8, %hb8, H8⟩, ⟨%b9, %hb9, H9⟩, ⟨%b10, %hb10, H10⟩, ⟨%b11, %hb11, H11⟩, ⟨%b12, %hb12, H12⟩, ⟨%b13, %hb13, H13⟩, ⟨%b14, %hb14, H14⟩, ⟨%b15, %hb15, H15⟩, ⟨%b16, %hb16, H16⟩, ⟨%b17, %hb17, H17⟩, ⟨%b18, %hb18, H18⟩, ⟨%b19, %hb19, H19⟩, ⟨%b20, %hb20, H20⟩⟩
  obtain rfl := A.harg2.eq_unread hb2
  obtain rfl := A.harg3.eq_unread hb3
  obtain rfl := A.harg4.eq_unread hb4
  obtain rfl := A.harg5.eq_unread hb5
  obtain rfl := A.harg6.eq_unread hb6
  obtain rfl := A.harg7.eq_unread hb7
  obtain rfl := A.harg8.eq_unread hb8
  obtain rfl := A.harg9.eq_unread hb9
  obtain rfl := A.harg10.eq_unread hb10
  obtain rfl := A.harg11.eq_unread hb11
  obtain rfl := A.harg12.eq_unread hb12
  obtain rfl := A.harg13.eq_unread hb13
  obtain rfl := A.harg14.eq_unread hb14
  obtain rfl := A.harg15.eq_unread hb15
  obtain rfl := A.harg16.eq_unread hb16
  obtain rfl := A.harg17.eq_unread hb17
  obtain rfl := A.harg18.eq_unread hb18
  obtain rfl := A.harg19.eq_unread hb19
  obtain rfl := A.harg20.eq_unread hb20
  sl_exec (disch := first | exact c2 | exact c3)
  try sl_step
  isplitl [H2]
  · iexists _; isplitr; · ipureintro; exact A.harg2.read_unread _
    iexact H2
  isplitl [H3]
  · iexists _; isplitr; · ipureintro; exact A.harg3.read_unread _
    iexact H3
  isplitl [H4]
  · iexists _; isplitr; · ipureintro; exact A.harg4.read_unread _
    iexact H4
  isplitl [H5]
  · iexists _; isplitr; · ipureintro; exact A.harg5.read_unread _
    iexact H5
  isplitl [H6]
  · iexists _; isplitr; · ipureintro; exact A.harg6.read_unread _
    iexact H6
  isplitl [H7]
  · iexists _; isplitr; · ipureintro; exact A.harg7.read_unread _
    iexact H7
  isplitl [H8]
  · iexists _; isplitr; · ipureintro; exact A.harg8.read_unread _
    iexact H8
  isplitl [H9]
  · iexists _; isplitr; · ipureintro; exact A.harg9.read_unread _
    iexact H9
  isplitl [H10]
  · iexists _; isplitr; · ipureintro; exact A.harg10.read_unread _
    iexact H10
  isplitl [H11]
  · iexists _; isplitr; · ipureintro; exact A.harg11.read_unread _
    iexact H11
  isplitl [H12]
  · iexists _; isplitr; · ipureintro; exact A.harg12.read_unread _
    iexact H12
  isplitl [H13]
  · iexists _; isplitr; · ipureintro; exact A.harg13.read_unread _
    iexact H13
  isplitl [H14]
  · iexists _; isplitr; · ipureintro; exact A.harg14.read_unread _
    iexact H14
  isplitl [H15]
  · iexists _; isplitr; · ipureintro; exact A.harg15.read_unread _
    iexact H15
  isplitl [H16]
  · iexists _; isplitr; · ipureintro; exact A.harg16.read_unread _
    iexact H16
  isplitl [H17]
  · iexists _; isplitr; · ipureintro; exact A.harg17.read_unread _
    iexact H17
  isplitl [H18]
  · iexists _; isplitr; · ipureintro; exact A.harg18.read_unread _
    iexact H18
  isplitl [H19]
  · iexists _; isplitr; · ipureintro; exact A.harg19.read_unread _
    iexact H19
  iexists _; isplitr; swap; · iexact H20
  ipureintro; exact patched A.harg20 σ.ac _ hq _ _ (congr (congr (congr (congrArg (k0_pay9 (F := F)) (loaded A.harg15 σ.p0 _)) (loaded_part A.harg12 σ.vx _ hk (inbR (ki n)))) (loaded_part A.harg20 σ.ac _ hq (inbR (qi n)))) (loaded A.harg17 σ.a0 _))

theorem diag_score1_wp (c : Dev nD) (A : Args) (I : Ins F) (σ : Bufs F) (E : Set ℕ) (oq : Fin 2 → ℕ) (iq : ∀ a, oq a + S512x256.size a ≤ S4096x256.size a) (ok : Fin 2 → ℕ) (ik : ∀ a, ok a + S256x512.size a ≤ S256x4096.size a) (i j : ℕ) (hq : oq = ![512 * (i % 8), 0]) (hk : ok = ![0, 512 * (j % 8)]) :
    St c A I σ ⊢ wp frame (wpE (defs₀ (F := F)) Variants.none (c : Thread nD τ) none) E (diag_score1 A oq iq ok ik) (fun _ => St c A I (σ.score1 i j)) :=
  swapped c A I σ E (p := fun B => diag_score0 B oq iq ok ik) (f := fun s => s.score0 i j) (diag_score0_wp c A.swap I σ.swap E oq iq ok ik i j hq hk)
theorem low_score1_wp (c : Dev nD) (A : Args) (I : Ins F) (σ : Bufs F) (E : Set ℕ) (n : ℕ) (hn : n < 28) (off : Fin 1 → ℕ) (inb : ∀ a, off a + S1.size a ≤ S28.size a) (ho : off = ![n]) :
    St c A I σ ⊢ wp frame (wpE (defs₀ (F := F)) Variants.none (c : Thread nD τ) none) E (low_score1 A off inb) (fun _ => St c A I (σ.score1 (qi n) (ki n))) :=
  swapped c A I σ E (p := fun B => low_score0 B off inb) (f := fun s => s.score0 (qi n) (ki n)) (low_score0_wp c A.swap I σ.swap E n hn off inb ho)

theorem diag_soft1_wp (c : Dev nD) (A : Args) (I : Ins F) (σ : Bufs F) (E : Set ℕ) (om : Fin 2 → ℕ) (im : ∀ a, om a + S512x128.size a ≤ S4096x128.size a) (i : ℕ) (hm : om = ![512 * (i % 8), 0]) :
    St c A I σ ⊢ wp frame (wpE (defs₀ (F := F)) Variants.none (c : Thread nD τ) none) E (diag_soft1 A om im) (fun _ => St c A I (σ.soft1 (k0_pay15 (F := F)) i)) :=
  swapped c A I σ E (p := fun B => diag_soft0 B om im) (f := fun s => s.soft0 (k0_pay15 (F := F)) i) (diag_soft0_wp c A.swap I σ.swap E om im i hm)
theorem low_soft1_wp (c : Dev nD) (A : Args) (I : Ins F) (σ : Bufs F) (E : Set ℕ) (n : ℕ) (hn : n < 28) (off : Fin 1 → ℕ) (inb : ∀ a, off a + S1.size a ≤ S28.size a) (ho : off = ![n]) :
    St c A I σ ⊢ wp frame (wpE (defs₀ (F := F)) Variants.none (c : Thread nD τ) none) E (low_soft1 A off inb) (fun _ => St c A I (σ.soft1 id (qi n))) :=
  swapped c A I σ E (p := fun B => low_soft0 B off inb) (f := fun s => s.soft0 id (qi n)) (low_soft0_wp c A.swap I σ.swap E n hn off inb ho)

theorem diag_pv1_wp (c : Dev nD) (A : Args) (I : Ins F) (σ : Bufs F) (E : Set ℕ) (oa : Fin 2 → ℕ) (ia : ∀ a, oa a + S512x256.size a ≤ S4096x256.size a) (ok : Fin 2 → ℕ) (ik : ∀ a, ok a + S512x256.size a ≤ S4096x256.size a) (i j : ℕ) (hq : oa = ![512 * (i % 8), 0]) (hk : ok = ![512 * (j % 8), 0]) :
    St c A I σ ⊢ wp frame (wpE (defs₀ (F := F)) Variants.none (c : Thread nD τ) none) E (diag_pv1 A oa ia ok ik) (fun _ => St c A I (σ.pv1 i j)) :=
  swapped c A I σ E (p := fun B => diag_pv0 B oa ia ok ik) (f := fun s => s.pv0 i j) (diag_pv0_wp c A.swap I σ.swap E oa ia ok ik i j hq hk)
theorem low_pv1_wp (c : Dev nD) (A : Args) (I : Ins F) (σ : Bufs F) (E : Set ℕ) (n : ℕ) (hn : n < 28) (off : Fin 1 → ℕ) (inb : ∀ a, off a + S1.size a ≤ S28.size a) (ho : off = ![n]) :
    St c A I σ ⊢ wp frame (wpE (defs₀ (F := F)) Variants.none (c : Thread nD τ) none) E (low_pv1 A off inb) (fun _ => St c A I (σ.pv1 (qi n) (ki n))) :=
  swapped c A I σ E (p := fun B => low_pv0 B off inb) (f := fun s => s.pv0 (qi n) (ki n)) (low_pv0_wp c A.swap I σ.swap E n hn off inb ho)

theorem halved {M : Memref sig .tc .vmem S4096x256 .bf16} (hM : M.IsWhole) (x : Vec F S4096x256 .bf16) (i0 : ∀ a, (![0, 0] : Fin 2 → ℕ) a + S4096x128.size a ≤ S4096x256.size a)
    (i1 : ∀ a, (![0, 128] : Fin 2 → ℕ) a + S4096x128.size a ≤ S4096x256.size a) (l l' r : Vec F S4096x128 .bf16) (hl : l = l') (r' : Vec F S4096x128 .bf16) (hr : r = r') :
    View.read (Elt F) M.view (M.view.writes (Elt F) (hM.unread x) [⟨Rect.unit (s := S4096x256) ![0, 128] S4096x128.size i1, r⟩, ⟨Rect.unit (s := S4096x256) ![0, 0] S4096x128.size i0, l⟩]) = halves x l' r' := by
  subst hl hr
  rw [View.read_writes_cons_put M.view _ i1 r _ rfl, View.read_writes_cons_put M.view _ i0 l [] rfl, View.writes_nil, hM.read_unread]
  rfl

set_option maxHeartbeats 2000000 in
theorem prologue_wp (c : Dev nD) (i : grid0.Coords) (A : Args) (I : Ins F) (σ : Bufs F) (E : Set ℕ) :
    St c A I σ ⊢ wp frame (wpE (defs₀ (F := F)) Variants.none (c : Thread nD τ) none) E (prologue i A) (fun _ => St c A I (σ.init i I)) := by
  unfold prologue
  unfold St owns
  iintro ⟨⟨%b2, %hb2, H2⟩, ⟨%b3, %hb3, H3⟩, ⟨%b4, %hb4, H4⟩, ⟨%b5, %hb5, H5⟩, ⟨%b6, %hb6, H6⟩, ⟨%b7, %hb7, H7⟩, ⟨%b8, %hb8, H8⟩, ⟨%b9, %hb9, H9⟩, ⟨%b10, %hb10, H10⟩, ⟨%b11, %hb11, H11⟩, ⟨%b12, %hb12, H12⟩, ⟨%b13, %hb13, H13⟩, ⟨%b14, %hb14, H14⟩, ⟨%b15, %hb15, H15⟩, ⟨%b16, %hb16, H16⟩, ⟨%b17, %hb17, H17⟩, ⟨%b18, %hb18, H18⟩, ⟨%b19, %hb19, H19⟩, ⟨%b20, %hb20, H20⟩⟩
  obtain rfl := A.harg2.eq_unread hb2
  obtain rfl := A.harg3.eq_unread hb3
  obtain rfl := A.harg4.eq_unread hb4
  obtain rfl := A.harg5.eq_unread hb5
  obtain rfl := A.harg6.eq_unread hb6
  obtain rfl := A.harg7.eq_unread hb7
  obtain rfl := A.harg8.eq_unread hb8
  obtain rfl := A.harg9.eq_unread hb9
  obtain rfl := A.harg10.eq_unread hb10
  obtain rfl := A.harg11.eq_unread hb11
  obtain rfl := A.harg12.eq_unread hb12
  obtain rfl := A.harg13.eq_unread hb13
  obtain rfl := A.harg14.eq_unread hb14
  obtain rfl := A.harg15.eq_unread hb15
  obtain rfl := A.harg16.eq_unread hb16
  obtain rfl := A.harg17.eq_unread hb17
  obtain rfl := A.harg18.eq_unread hb18
  obtain rfl := A.harg19.eq_unread hb19
  obtain rfl := A.harg20.eq_unread hb20
  sl_exec (disch := fail)
  try sl_step
  isplitl [H2]
  · iexists _; isplitr; · ipureintro; exact A.harg2.read_unread _
    iexact H2
  isplitl [H3]
  · iexists _; isplitr; · ipureintro; exact A.harg3.read_unread _
    iexact H3
  isplitl [H4]
  · iexists _; isplitr; · ipureintro; exact A.harg4.read_unread _
    iexact H4
  isplitl [H5]
  · iexists _; isplitr; · ipureintro; exact A.harg5.read_unread _
    iexact H5
  isplitl [H6]
  · iexists _; isplitr; · ipureintro; exact A.harg6.read_unread _
    iexact H6
  isplitl [H7]
  · iexists _; isplitr; · ipureintro; exact A.harg7.read_unread _
    iexact H7
  isplitl [H8]
  · iexists _; isplitr; · ipureintro; exact A.harg8.read_unread _
    iexact H8
  isplitl [H9]
  · iexists _; isplitr; swap; · iexact H9
    ipureintro; exact halved A.harg9 σ.qx _ _ _ _ _ (congrArg (k0_pay28 (F := F)) (loaded A.harg4 I.q _)) _ rfl
  isplitl [H10]
  · iexists _; isplitr; swap; · iexact H10
    ipureintro; exact halved A.harg10 σ.kx _ _ _ _ _ (congrArg (k0_pay30 (F := F)) (loaded A.harg5 I.k _)) _ (congrArg (k0_pay31 (F := F)) (loaded A.harg7 I.cx _))
  isplitl [H11]
  · iexists _; isplitr; · ipureintro; exact A.harg11.read_unread _
    iexact H11
  isplitl [H12]
  · iexists _; isplitr; swap; · iexact H12
    ipureintro; exact halved A.harg12 σ.vx _ _ _ _ _ (congrArg (k0_pay32 (F := F)) (loaded A.harg6 I.v _)) _ rfl
  isplitl [H13]
  · iexists _; isplitr; · ipureintro; exact A.harg13.read_unread _
    iexact H13
  isplitl [H14]
  · iexists _; isplitr; · ipureintro; exact A.harg14.read_unread _
    iexact H14
  isplitl [H15]
  · iexists _; isplitr; · ipureintro; exact A.harg15.read_unread _
    iexact H15
  isplitl [H16]
  · iexists _; isplitr; · ipureintro; exact A.harg16.read_unread _
    iexact H16
  isplitl [H17]
  · iexists _; isplitr; · ipureintro; exact A.harg17.read_unread _
    iexact H17
  isplitl [H18]
  · iexists _; isplitr; · ipureintro; exact A.harg18.read_unread _
    iexact H18
  isplitl [H19]
  · iexists _; isplitr; swap; · iexact H19
    ipureintro; exact stored _ _ _ _ rfl
  iexists _; isplitr; swap; · iexact H20
  ipureintro; exact stored _ _ _ _ rfl

theorem trans_offs : ∀ t : Fin k0_t1_loop.trips, k0_off1 t = ![512 * (t.val % 8), 0] ∧ k0_off2 t = ![0, 512 * (t.val % 8)] := by decide +kernel
theorem write_offs : ∀ t : Fin k0_t4_loop.trips, k0_off33 t = ![512 * (t.val % 8), 0] ∧ k0_off34 t = ![512 * (t.val % 8), 0] := by decide +kernel

set_option maxHeartbeats 1000000 in
theorem trans_k_wp (c : Dev nD) (A : Args) (I : Ins F) (σ : Bufs F) (E : Set ℕ) (t : Fin k0_t1_loop.trips) :
    St c A I σ ⊢ wp frame (wpE (defs₀ (F := F)) Variants.none (c : Thread nD τ) none) E (trans_k A t) (fun _ => St c A I (σ.trans t.val)) := by
  unfold trans_k
  unfold St owns
  iintro ⟨⟨%b2, %hb2, H2⟩, ⟨%b3, %hb3, H3⟩, ⟨%b4, %hb4, H4⟩, ⟨%b5, %hb5, H5⟩, ⟨%b6, %hb6, H6⟩, ⟨%b7, %hb7, H7⟩, ⟨%b8, %hb8, H8⟩, ⟨%b9, %hb9, H9⟩, ⟨%b10, %hb10, H10⟩, ⟨%b11, %hb11, H11⟩, ⟨%b12, %hb12, H12⟩, ⟨%b13, %hb13, H13⟩, ⟨%b14, %hb14, H14⟩, ⟨%b15, %hb15, H15⟩, ⟨%b16, %hb16, H16⟩, ⟨%b17, %hb17, H17⟩, ⟨%b18, %hb18, H18⟩, ⟨%b19, %hb19, H19⟩, ⟨%b20, %hb20, H20⟩⟩
  obtain rfl := A.harg2.eq_unread hb2
  obtain rfl := A.harg3.eq_unread hb3
  obtain rfl := A.harg4.eq_unread hb4
  obtain rfl := A.harg5.eq_unread hb5
  obtain rfl := A.harg6.eq_unread hb6
  obtain rfl := A.harg7.eq_unread hb7
  obtain rfl := A.harg8.eq_unread hb8
  obtain rfl := A.harg9.eq_unread hb9
  obtain rfl := A.harg10.eq_unread hb10
  obtain rfl := A.harg11.eq_unread hb11
  obtain rfl := A.harg12.eq_unread hb12
  obtain rfl := A.harg13.eq_unread hb13
  obtain rfl := A.harg14.eq_unread hb14
  obtain rfl := A.harg15.eq_unread hb15
  obtain rfl := A.harg16.eq_unread hb16
  obtain rfl := A.harg17.eq_unread hb17
  obtain rfl := A.harg18.eq_unread hb18
  obtain rfl := A.harg19.eq_unread hb19
  obtain rfl := A.harg20.eq_unread hb20
  sl_exec (disch := fail)
  try sl_step
  isplitl [H2]
  · iexists _; isplitr; · ipureintro; exact A.harg2.read_unread _
    iexact H2
  isplitl [H3]
  · iexists _; isplitr; · ipureintro; exact A.harg3.read_unread _
    iexact H3
  isplitl [H4]
  · iexists _; isplitr; · ipureintro; exact A.harg4.read_unread _
    iexact H4
  isplitl [H5]
  · iexists _; isplitr; · ipureintro; exact A.harg5.read_unread _
    iexact H5
  isplitl [H6]
  · iexists _; isplitr; · ipureintro; exact A.harg6.read_unread _
    iexact H6
  isplitl [H7]
  · iexists _; isplitr; · ipureintro; exact A.harg7.read_unread _
    iexact H7
  isplitl [H8]
  · iexists _; isplitr; · ipureintro; exact A.harg8.read_unread _
    iexact H8
  isplitl [H9]
  · iexists _; isplitr; · ipureintro; exact A.harg9.read_unread _
    iexact H9
  isplitl [H10]
  · iexists _; isplitr; · ipureintro; exact A.harg10.read_unread _
    iexact H10
  isplitl [H11]
  · iexists _; isplitr; swap; · iexact H11
    ipureintro; exact patched A.harg11 σ.kt _ (trans_offs t).2 _ _ (congrArg (k0_pay36 (F := F)) (loaded_part A.harg10 σ.kx _ (trans_offs t).1 (inbR t.val)))
  isplitl [H12]
  · iexists _; isplitr; · ipureintro; exact A.harg12.read_unread _
    iexact H12
  isplitl [H13]
  · iexists _; isplitr; · ipureintro; exact A.harg13.read_unread _
    iexact H13
  isplitl [H14]
  · iexists _; isplitr; · ipureintro; exact A.harg14.read_unread _
    iexact H14
  isplitl [H15]
  · iexists _; isplitr; · ipureintro; exact A.harg15.read_unread _
    iexact H15
  isplitl [H16]
  · iexists _; isplitr; · ipureintro; exact A.harg16.read_unread _
    iexact H16
  isplitl [H17]
  · iexists _; isplitr; · ipureintro; exact A.harg17.read_unread _
    iexact H17
  isplitl [H18]
  · iexists _; isplitr; · ipureintro; exact A.harg18.read_unread _
    iexact H18
  isplitl [H19]
  · iexists _; isplitr; · ipureintro; exact A.harg19.read_unread _
    iexact H19
  iexists _; isplitr; · ipureintro; exact A.harg20.read_unread _
  iexact H20

set_option maxHeartbeats 1000000 in
theorem write_out_wp (c : Dev nD) (A : Args) (I : Ins F) (σ : Bufs F) (E : Set ℕ) (t : Fin k0_t4_loop.trips) :
    St c A I σ ⊢ wp frame (wpE (defs₀ (F := F)) Variants.none (c : Thread nD τ) none) E (write_out A t) (fun _ => St c A I (σ.write t.val)) := by
  unfold write_out
  unfold St owns
  iintro ⟨⟨%b2, %hb2, H2⟩, ⟨%b3, %hb3, H3⟩, ⟨%b4, %hb4, H4⟩, ⟨%b5, %hb5, H5⟩, ⟨%b6, %hb6, H6⟩, ⟨%b7, %hb7, H7⟩, ⟨%b8, %hb8, H8⟩, ⟨%b9, %hb9, H9⟩, ⟨%b10, %hb10, H10⟩, ⟨%b11, %hb11, H11⟩, ⟨%b12, %hb12, H12⟩, ⟨%b13, %hb13, H13⟩, ⟨%b14, %hb14, H14⟩, ⟨%b15, %hb15, H15⟩, ⟨%b16, %hb16, H16⟩, ⟨%b17, %hb17, H17⟩, ⟨%b18, %hb18, H18⟩, ⟨%b19, %hb19, H19⟩, ⟨%b20, %hb20, H20⟩⟩
  obtain rfl := A.harg2.eq_unread hb2
  obtain rfl := A.harg3.eq_unread hb3
  obtain rfl := A.harg4.eq_unread hb4
  obtain rfl := A.harg5.eq_unread hb5
  obtain rfl := A.harg6.eq_unread hb6
  obtain rfl := A.harg7.eq_unread hb7
  obtain rfl := A.harg8.eq_unread hb8
  obtain rfl := A.harg9.eq_unread hb9
  obtain rfl := A.harg10.eq_unread hb10
  obtain rfl := A.harg11.eq_unread hb11
  obtain rfl := A.harg12.eq_unread hb12
  obtain rfl := A.harg13.eq_unread hb13
  obtain rfl := A.harg14.eq_unread hb14
  obtain rfl := A.harg15.eq_unread hb15
  obtain rfl := A.harg16.eq_unread hb16
  obtain rfl := A.harg17.eq_unread hb17
  obtain rfl := A.harg18.eq_unread hb18
  obtain rfl := A.harg19.eq_unread hb19
  obtain rfl := A.harg20.eq_unread hb20
  sl_exec (disch := fail)
  try sl_step
  isplitl [H2]
  · iexists _; isplitr; · ipureintro; exact A.harg2.read_unread _
    iexact H2
  isplitl [H3]
  · iexists _; isplitr; · ipureintro; exact A.harg3.read_unread _
    iexact H3
  isplitl [H4]
  · iexists _; isplitr; · ipureintro; exact A.harg4.read_unread _
    iexact H4
  isplitl [H5]
  · iexists _; isplitr; · ipureintro; exact A.harg5.read_unread _
    iexact H5
  isplitl [H6]
  · iexists _; isplitr; · ipureintro; exact A.harg6.read_unread _
    iexact H6
  isplitl [H7]
  · iexists _; isplitr; · ipureintro; exact A.harg7.read_unread _
    iexact H7
  isplitl [H8]
  · iexists _; isplitr; swap; · iexact H8
    ipureintro; exact patched A.harg8 σ.out _ (write_offs t).2 _ _ (congrArg (k0_pay2 (F := F)) (loaded_part A.harg20 σ.ac _ (write_offs t).1 (inbR t.val)))
  isplitl [H9]
  · iexists _; isplitr; · ipureintro; exact A.harg9.read_unread _
    iexact H9
  isplitl [H10]
  · iexists _; isplitr; · ipureintro; exact A.harg10.read_unread _
    iexact H10
  isplitl [H11]
  · iexists _; isplitr; · ipureintro; exact A.harg11.read_unread _
    iexact H11
  isplitl [H12]
  · iexists _; isplitr; · ipureintro; exact A.harg12.read_unread _
    iexact H12
  isplitl [H13]
  · iexists _; isplitr; · ipureintro; exact A.harg13.read_unread _
    iexact H13
  isplitl [H14]
  · iexists _; isplitr; · ipureintro; exact A.harg14.read_unread _
    iexact H14
  isplitl [H15]
  · iexists _; isplitr; · ipureintro; exact A.harg15.read_unread _
    iexact H15
  isplitl [H16]
  · iexists _; isplitr; · ipureintro; exact A.harg16.read_unread _
    iexact H16
  isplitl [H17]
  · iexists _; isplitr; · ipureintro; exact A.harg17.read_unread _
    iexact H17
  isplitl [H18]
  · iexists _; isplitr; · ipureintro; exact A.harg18.read_unread _
    iexact H18
  isplitl [H19]
  · iexists _; isplitr; · ipureintro; exact A.harg19.read_unread _
    iexact H19
  iexists _; isplitr; · ipureintro; exact A.harg20.read_unread _
  iexact H20

end Cert.Kernel6Ideal.Fox
-- ==== Proof.Fox.Shape.lean ====
/-
  The kernel's body is the sequence of its stages.
-/
module

public import proofs.«01_k».proof.Proof.Fox.Defs

@[expose] public section

set_option maxRecDepth 16384

noncomputable section

namespace Cert.Kernel6Ideal.Fox

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

set_option maxHeartbeats 4000000 in
set_option maxRecDepth 65536 in
theorem body_eq (i : grid0.Coords) (A : Args) : cc0_fox_attention (F := F) i A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.harg18 A.arg19 A.harg19 A.arg20 A.harg20 = fox i A := by
  rw [cc0_fox_attention_eq_skeleton]
  unfold cc0_fox_attention_skel
  rw [k0_part8_eq_skeleton, k0_part10_eq_skeleton, k0_part12_eq_skeleton, k0_part13_eq_skeleton]
  unfold k0_part8_skel k0_part10_skel k0_part12_skel k0_part13_skel
  simp only [bind_assoc, pure_bind]
  chain_rfl

end Cert.Kernel6Ideal.Fox
-- ==== Proof.Fox.Run.lean ====
/-
  The kernel's run on a point's buffers.
-/
module

public import proofs.«01_k».proof.Proof.Fox.Stages
public import proofs.«01_k».proof.Proof.Fox.Shape
public import proofs.«01_k».proof.Proof.Fox.Tiles

@[expose] public section

set_option maxRecDepth 16384

noncomputable section

namespace Cert.Kernel6Ideal.Fox

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

/-- The buffers at contents of which `P` holds. -/
def Sx (c : Dev nD) (A : Args) (I : Ins F) (P : Bufs F → Prop) : sProp 𝕄 := iprop(∃ σ, ⌜P σ⌝ ∗ St c A I σ)

variable {c : Dev nD} {A : Args} {I : Ins F} {E : Set ℕ}

theorem seq {α β : Type} {p : Prog (TpuEff nD τ sig (Elt F) Λ₀ .tc) α} {k : Prog (TpuEff nD τ sig (Elt F) Λ₀ .tc) β} {P R : sProp 𝕄} {K : β → sProp 𝕄}
    (h1 : P ⊢ wp frame (wpE (defs₀ (F := F)) Variants.none (c : Thread nD τ) none) E p (fun _ => R)) (h2 : R ⊢ wp frame (wpE (defs₀ (F := F)) Variants.none (c : Thread nD τ) none) E k K) : P ⊢ wp frame (wpE (defs₀ (F := F)) Variants.none (c : Thread nD τ) none) E (p >>= fun _ => k) K := by
  rw [wp_bind]
  exact h1.trans (wp_mono _ _ _ fun _ => h2)

theorem up {p : Prog (TpuEff nD τ sig (Elt F) Λ₀ .tc) PUnit} {f : Bufs F → Bufs F} {P : Bufs F → Prop}
    (h : ∀ σ, St c A I σ ⊢ wp frame (wpE (defs₀ (F := F)) Variants.none (c : Thread nD τ) none) E p (fun _ => St c A I (f σ))) :
    Sx c A I P ⊢ wp frame (wpE (defs₀ (F := F)) Variants.none (c : Thread nD τ) none) E p (fun _ => Sx c A I (fun s => ∃ σ, P σ ∧ s = f σ)) := by
  unfold Sx
  iintro ⟨%σ, %hσ, H⟩
  iapply (wp_mono _ _ _ (fun _ => ?_) : wp frame (wpE (defs₀ (F := F)) Variants.none (c : Thread nD τ) none) E p (fun _ => St c A I (f σ)) ⊢ _)
  · iintro H
    iexists (f σ)
    isplitr
    · ipureintro; exact ⟨σ, hσ, rfl⟩
    · iexact H
  · iapply (h σ); iexact H

theorem weaken {P P' : Bufs F → Prop} (h : ∀ σ, P σ → P' σ) : Sx c A I P ⊢ Sx c A I P' := by
  unfold Sx
  iintro ⟨%σ, %hσ, H⟩
  iexists σ
  isplitr
  · ipureintro; exact h σ hσ
  · iexact H

theorem loop {w : ℕ} {l : Scf.Loop w} {hok : l.OK} {b : Fin l.trips → Prog (TpuEff nD τ sig (Elt F) Λ₀ .tc) PUnit} {J : ℕ → Bufs F → Prop}
    (h : ∀ k : Fin l.trips, Sx c A I (J k.val) ⊢ wp frame (wpE (defs₀ (F := F)) Variants.none (c : Thread nD τ) none) E (b k) (fun _ => Sx c A I (J (k.val + 1)))) :
    Sx c A I (J 0) ⊢ wp frame (wpE (defs₀ (F := F)) Variants.none (c : Thread nD τ) none) E (Scf.Loop.for l hok ⟨⟩ (fun t _ => b t)) (fun _ => Sx c A I (J l.trips)) := by
  refine BIBase.Entails.trans ?_ (Scf.wp_for _ _ _ _ _ _ hok _ _ (fun k _ => Sx c A I (J k)) (fun k acc => h k))
  iintro H
  isplitl [H]
  · iexact H
  · iintro %acc H; iexact H

theorem entail_up {P : sProp 𝕄} {p : Prog (TpuEff nD τ sig (Elt F) Λ₀ .tc) PUnit} {f : Bufs F → Bufs F} {σ : Bufs F} {P' : Bufs F → Prop}
    (h : St c A I σ ⊢ wp frame (wpE (defs₀ (F := F)) Variants.none (c : Thread nD τ) none) E p (fun _ => St c A I (f σ))) (hp : P' (f σ)) : St c A I σ ⊢ wp frame (wpE (defs₀ (F := F)) Variants.none (c : Thread nD τ) none) E p (fun _ => Sx c A I P') :=
  h.trans (wp_mono _ _ _ fun _ => by
    unfold Sx
    iintro H
    iexists (f σ)
    isplitr
    · ipureintro; exact hp
    · iexact H)

theorem then_weaken {α : Type} {p : Prog (TpuEff nD τ sig (Elt F) Λ₀ .tc) α} {P : sProp 𝕄} {R R' : Bufs F → Prop}
    (h : P ⊢ wp frame (wpE (defs₀ (F := F)) Variants.none (c : Thread nD τ) none) E p (fun _ => Sx c A I R)) (hr : ∀ σ, R σ → R' σ) : P ⊢ wp frame (wpE (defs₀ (F := F)) Variants.none (c : Thread nD τ) none) E p (fun _ => Sx c A I R') :=
  h.trans (wp_mono _ _ _ fun _ => weaken hr)

theorem pure_end {P : sProp 𝕄} : P ⊢ wp frame (wpE (defs₀ (F := F)) Variants.none (c : Thread nD τ) none) E (pure ⟨⟩ : Prog (TpuEff nD τ sig (Elt F) Λ₀ .tc) PUnit) (fun _ => P) := by
  rw [wp_pure]
  iintro H
  imodintro
  iexact H

theorem low_offs : ∀ t : Fin k0_t2_loop.trips, 2 * t.val + 3 < 28 ∧ k0_off8 t = ![2 * t.val + 2] ∧ k0_off11 t = ![2 * t.val + 1] ∧ k0_off13 t = ![2 * t.val] ∧ k0_off16 t = ![2 * t.val + 3]
    ∧ k0_off19 t = ![2 * t.val + 2] ∧ k0_off21 t = ![2 * t.val + 1] := by decide +kernel

theorem diag_offs : ∀ t : Fin k0_t3_loop.trips, k0_off29 t 2#32 = ![512 * (qi (28 + 2 * t.val + 2) % 8), 0] ∧ k0_off30 t 2#32 = ![0, 512 * (ki (28 + 2 * t.val + 2) % 8)]
    ∧ k0_off31 t 1#32 = ![512 * (qi (28 + 2 * t.val + 1) % 8), 0] ∧ k0_off32 t = ![512 * (qi (28 + 2 * t.val) % 8), 0] ∧ k0_off32 t = ![512 * (ki (28 + 2 * t.val) % 8), 0]
    ∧ k0_off29 t 3#32 = ![512 * (qi (28 + 2 * t.val + 3) % 8), 0] ∧ k0_off30 t 3#32 = ![0, 512 * (ki (28 + 2 * t.val + 3) % 8)]
    ∧ k0_off31 t 2#32 = ![512 * (qi (28 + 2 * t.val + 2) % 8), 0] ∧ k0_off29 t 1#32 = ![512 * (qi (28 + 2 * t.val + 1) % 8), 0] ∧ k0_off29 t 1#32 = ![512 * (ki (28 + 2 * t.val + 1) % 8), 0] := by decide +kernel

theorem low_pair_wp (t : Fin k0_t2_loop.trips) {Q : Vec F S4096x256 .bf16} {T : Vec F S256x4096 .bf16} {V : Vec F S4096x256 .bf16} :
    Sx c A I (Inv Q T V (2 * t.val)) ⊢ wp frame (wpE (defs₀ (F := F)) Variants.none (c : Thread nD τ) none) E (low_pair A t) (fun _ => Sx c A I (Inv Q T V (2 * (t.val + 1)))) := by
  obtain ⟨hn, o1, o2, o3, o4, o5, o6⟩ := low_offs t
  unfold low_pair
  refine then_weaken (seq (up fun σ => low_score0_wp c A I σ E _ (by omega) _ _ o1) (seq (up fun σ => low_soft1_wp c A I σ E _ (by omega) _ _ o2)
    (seq (up fun σ => low_pv0_wp c A I σ E _ (by omega) _ _ o3) (seq (up fun σ => low_score1_wp c A I σ E _ (by omega) _ _ o4)
    (seq (up fun σ => low_soft0_wp c A I σ E _ (by omega) _ _ o5) (up fun σ => low_pv1_wp c A I σ E _ (by omega) _ _ o6)))))) ?_
  rintro _ ⟨_, ⟨_, ⟨_, ⟨_, ⟨_, ⟨σ, h, rfl⟩, rfl⟩, rfl⟩, rfl⟩, rfl⟩, rfl⟩
  have := h.step
  rw [gm_low (by omega), gm_low (by omega)] at this
  exact this

theorem diag_pair_wp (t : Fin k0_t3_loop.trips) {Q : Vec F S4096x256 .bf16} {T : Vec F S256x4096 .bf16} {V : Vec F S4096x256 .bf16} :
    Sx c A I (Inv Q T V (28 + 2 * t.val)) ⊢ wp frame (wpE (defs₀ (F := F)) Variants.none (c : Thread nD τ) none) E (diag_pair A t) (fun _ => Sx c A I (Inv Q T V (28 + 2 * (t.val + 1)))) := by
  obtain ⟨o1, o2, o3, o4, o5, o6, o7, o8, o9, o10⟩ := diag_offs t
  unfold diag_pair
  refine then_weaken (seq (up fun σ => diag_score0_wp c A I σ E _ _ _ _ _ _ o1 o2) (seq (up fun σ => diag_soft1_wp c A I σ E _ _ _ o3)
    (seq (up fun σ => diag_pv0_wp c A I σ E _ _ _ _ _ _ o4 o5) (seq (up fun σ => diag_score1_wp c A I σ E _ _ _ _ _ _ o6 o7)
    (seq (up fun σ => diag_soft0_wp c A I σ E _ _ _ o8) (up fun σ => diag_pv1_wp c A I σ E _ _ _ _ _ _ o9 o10)))))) ?_
  rintro _ ⟨_, ⟨_, ⟨_, ⟨_, ⟨_, ⟨σ, h, rfl⟩, rfl⟩, rfl⟩, rfl⟩, rfl⟩, rfl⟩
  have := h.step
  rw [gm_diag (by omega), gm_diag (by omega)] at this
  exact this

/-- The body: from the buffers at any contents, the result's block at `outOf`. -/
theorem fox_wp (i : grid0.Coords) (σ : Bufs F) : St c A I σ ⊢ wp frame (wpE (defs₀ (F := F)) Variants.none (c : Thread nD τ) none) E (fox i A) (fun _ => Sx c A I (fun s => s.out = outOf I i)) := by
  unfold fox
  refine seq (entail_up (P := St c A I σ) (f := fun s => s.init i I) (prologue_wp c i A I σ E) (Turned.init I i σ)) ?_
  refine seq (R := Sx c A I (Turned I i 8)) (loop (J := Turned I i) fun k => then_weaken (up fun s => trans_k_wp c A I s E k) ?_) ?_
  · rintro _ ⟨s, h, rfl⟩
    exact h.step (lt_of_lt_of_eq k.isLt (by decide +kernel : k0_t1_loop.trips = 8))
  refine BIBase.Entails.trans (weaken fun s h => h.mid) ?_
  refine seq (up fun s => low_score0_wp c A I s E 0 (by omega) _ _ rfl) (seq (up fun s => low_score1_wp c A I s E 1 (by omega) _ _ rfl)
    (seq (R := Sx c A I (Inv (opQ I i) (opT I) (opV I) (2 * 0))) (then_weaken (up fun s => low_soft0_wp c A I s E 0 (by omega) _ _ rfl) ?_) ?_))
  · rintro _ ⟨_, ⟨_, ⟨s, h, rfl⟩, rfl⟩, rfl⟩
    have := Inv.of_mid h
    rw [gm_low (by omega)] at this
    exact this
  refine seq (R := Sx c A I (Inv (opQ I i) (opT I) (opV I) (2 * 13))) (loop (J := fun n => Inv (opQ I i) (opT I) (opV I) (2 * n)) fun t => low_pair_wp t) ?_
  refine seq (up fun s => low_soft1_wp c A I s E 27 (by omega) _ _ rfl) (seq (up fun s => low_pv0_wp c A I s E 26 (by omega) _ _ rfl)
    (seq (R := Sx c A I (Mid (opQ I i) (opT I) (opV I) 28)) (then_weaken (up fun s => low_pv1_wp c A I s E 27 (by omega) _ _ rfl) ?_) ?_))
  · rintro _ ⟨_, ⟨_, ⟨s, h, rfl⟩, rfl⟩, rfl⟩
    have := h.finish
    rw [gm_low (by omega)] at this
    exact this
  refine seq (up fun s => diag_score0_wp c A I s E _ _ _ _ (qi 28) (ki 28) rfl rfl) (seq (up fun s => diag_score1_wp c A I s E _ _ _ _ (qi 29) (ki 29) rfl rfl)
    (seq (R := Sx c A I (Inv (opQ I i) (opT I) (opV I) (28 + 2 * 0))) (then_weaken (up fun s => diag_soft0_wp c A I s E _ _ (qi 28) rfl) ?_) ?_))
  · rintro _ ⟨_, ⟨_, ⟨s, h, rfl⟩, rfl⟩, rfl⟩
    have := Inv.of_mid h
    rw [gm_diag (by omega)] at this
    exact this
  refine seq (R := Sx c A I (Inv (opQ I i) (opT I) (opV I) (28 + 2 * 3))) (loop (J := fun n => Inv (opQ I i) (opT I) (opV I) (28 + 2 * n)) fun t => diag_pair_wp t) ?_
  refine seq (up fun s => diag_soft1_wp c A I s E _ _ (qi 35) rfl) (seq (up fun s => diag_pv0_wp c A I s E _ _ _ _ (qi 34) (ki 34) rfl rfl)
    (seq (R := Sx c A I (Written I i 0)) (then_weaken (up fun s => diag_pv1_wp c A I s E _ _ _ _ (qi 35) (ki 35) rfl rfl) ?_) ?_))
  · rintro _ ⟨_, ⟨_, ⟨s, h, rfl⟩, rfl⟩, rfl⟩
    have := h.finish
    rw [gm_diag (by omega)] at this
    exact ⟨this.ac, fun y hy => absurd hy (Nat.not_lt_zero _)⟩
  refine seq (R := Sx c A I (Written I i 8)) (loop (J := Written I i) fun k => then_weaken (up fun s => write_out_wp c A I s E k) ?_) ?_
  · rintro _ ⟨s, h, rfl⟩
    exact h.step (lt_of_lt_of_eq k.isLt (by decide +kernel : k0_t4_loop.trips = 8))
  refine BIBase.Entails.trans (weaken fun s h => ?_) pure_end
  exact funext fun y => h.out y (by have : (y 0).val < 4096 := (y 0).isLt; omega)

end Cert.Kernel6Ideal.Fox
-- ==== Proof.Fox.Body.lean ====
/-
  The body obligation over the grid, the run of the program and its frame.
-/
module

public import proofs.«01_k».proof.Proof.Fox.Run
public import proofs.«01_k».proof.Proof.Gen.Kernel6Ideal.Frame
public import proofs.«01_k».proof.Proof.Gen.Kernel6Ideal.Launch
public import proofs.«01_k».proof.Proof.Gen.Kernel6Ideal.Points
public import Idealize.ShloMosaic.Lib.Pipeline.Frame
public import Idealize.ShloMosaic.Lib.Pipeline.ValueKit

@[expose] public section

set_option maxRecDepth 16384

noncomputable section

namespace Cert.Kernel6Ideal.Fox

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The tables -/

theorem V_main_c (c : Dev nD) : V m c main_c = tabQ (F := F) := rfl
theorem V_main_c_0 (c : Dev nD) : V m c main_c_0 = tabK (F := F) := rfl

theorem at_0 : ∀ t : Fin cfg0.N, win0_0.index t = ![0] := (by decide +kernel : ∀ t : Fin grid0.N, _)
theorem at_1 : ∀ t : Fin cfg0.N, win0_1.index t = ![0] := (by decide +kernel : ∀ t : Fin grid0.N, _)

theorem table_0 (c : Dev nD) (t : Fin cfg0.N) : iblk m c 0 t = tabQ (F := F) := by
  refine funext fun y : S28.Idx => ?_
  show V m c main_c (((cfg0.win 0).blk t).view.emb y) = _
  rw [V_main_c]
  exact congrArg (tabQ (F := F)) (funext fun a => Fin.ext (by match a with | ⟨0, _⟩ => blk_simp [at_0]))
theorem table_1 (c : Dev nD) (t : Fin cfg0.N) : iblk m c 1 t = tabK (F := F) := by
  refine funext fun y : S28.Idx => ?_
  show V m c main_c_0 (((cfg0.win 1).blk t).view.emb y) = _
  rw [V_main_c_0]
  exact congrArg (tabK (F := F)) (funext fun a => Fin.ext (by match a with | ⟨0, _⟩ => blk_simp [at_1]))

/-! ## The buffers the body is handed -/

abbrev ms_0 (t : Fin cfg0.N) : Memref sig .tc .smem S28 .i32 := win0_0.stage (cfg0.slots t 0)
abbrev ms_1 (t : Fin cfg0.N) : Memref sig .tc .smem S28 .i32 := win0_1.stage (cfg0.slots t 1)
abbrev ms_2 (t : Fin cfg0.N) : Memref sig .tc .vmem S4096x128 .bf16 := win0_2.stage (cfg0.slots t 2)
abbrev ms_3 (t : Fin cfg0.N) : Memref sig .tc .vmem S4096x128 .bf16 := win0_3.stage (cfg0.slots t 3)
abbrev ms_4 (t : Fin cfg0.N) : Memref sig .tc .vmem S4096x128 .bf16 := win0_4.stage (cfg0.slots t 4)
abbrev ms_5 (t : Fin cfg0.N) : Memref sig .tc .vmem S4096x128 .bf16 := win0_5.stage (cfg0.slots t 5)
abbrev ms_6 (t : Fin cfg0.N) : Memref sig .tc .vmem S4096x128 .bf16 := win0_6.stage (cfg0.slots t 6)
theorem hs_0 (t : Fin cfg0.N) : (ms_0 t).IsWhole := hstage0_0 ((cfg0.slots t 0).cast nbuf0_0)
theorem hs_1 (t : Fin cfg0.N) : (ms_1 t).IsWhole := hstage0_1 ((cfg0.slots t 1).cast nbuf0_1)
theorem hs_2 (t : Fin cfg0.N) : (ms_2 t).IsWhole := hstage0_2 ((cfg0.slots t 2).cast nbuf0_2)
theorem hs_3 (t : Fin cfg0.N) : (ms_3 t).IsWhole := hstage0_3 ((cfg0.slots t 3).cast nbuf0_3)
theorem hs_4 (t : Fin cfg0.N) : (ms_4 t).IsWhole := hstage0_4 ((cfg0.slots t 4).cast nbuf0_4)
theorem hs_5 (t : Fin cfg0.N) : (ms_5 t).IsWhole := hstage0_5 ((cfg0.slots t 5).cast nbuf0_5)
theorem hs_6 (t : Fin cfg0.N) : (ms_6 t).IsWhole := hstage0_6 ((cfg0.slots t 6).cast nbuf0_6)
abbrev sc_0 : Memref sig .tc .vmem S4096x256 .bf16 := Memref.whole cc0_scratch0
abbrev sc_1 : Memref sig .tc .vmem S4096x256 .bf16 := Memref.whole cc0_scratch1
abbrev sc_2 : Memref sig .tc .vmem S256x4096 .bf16 := Memref.whole cc0_scratch2
abbrev sc_3 : Memref sig .tc .vmem S4096x256 .bf16 := Memref.whole cc0_scratch3
abbrev sc_4 : Memref sig .tc .vmem S512x512 .f32 := Memref.whole cc0_scratch4
abbrev sc_5 : Memref sig .tc .vmem S512x512 .f32 := Memref.whole cc0_scratch5
abbrev sc_6 : Memref sig .tc .vmem S512x512 .bf16 := Memref.whole cc0_scratch6
abbrev sc_7 : Memref sig .tc .vmem S512x512 .bf16 := Memref.whole cc0_scratch7
abbrev sc_8 : Memref sig .tc .vmem S512x128 .f32 := Memref.whole cc0_scratch8
abbrev sc_9 : Memref sig .tc .vmem S512x128 .f32 := Memref.whole cc0_scratch9
abbrev sc_10 : Memref sig .tc .vmem S4096x128 .f32 := Memref.whole cc0_scratch10
abbrev sc_11 : Memref sig .tc .vmem S4096x256 .f32 := Memref.whole cc0_scratch11

def argsAt (t : Fin cfg0.N) : Args where
  arg2 := ms_0 t
  harg2 := hs_0 t
  arg3 := ms_1 t
  harg3 := hs_1 t
  arg4 := ms_2 t
  harg4 := hs_2 t
  arg5 := ms_3 t
  harg5 := hs_3 t
  arg6 := ms_4 t
  harg6 := hs_4 t
  arg7 := ms_5 t
  harg7 := hs_5 t
  arg8 := ms_6 t
  harg8 := hs_6 t
  arg9 := sc_0
  harg9 := Memref.isWhole_whole _
  arg10 := sc_1
  harg10 := Memref.isWhole_whole _
  arg11 := sc_2
  harg11 := Memref.isWhole_whole _
  arg12 := sc_3
  harg12 := Memref.isWhole_whole _
  arg13 := sc_4
  harg13 := Memref.isWhole_whole _
  arg14 := sc_5
  harg14 := Memref.isWhole_whole _
  arg15 := sc_6
  harg15 := Memref.isWhole_whole _
  arg16 := sc_7
  harg16 := Memref.isWhole_whole _
  arg17 := sc_8
  harg17 := Memref.isWhole_whole _
  arg18 := sc_9
  harg18 := Memref.isWhole_whole _
  arg19 := sc_10
  harg19 := Memref.isWhole_whole _
  arg20 := sc_11
  harg20 := Memref.isWhole_whole _

/-- The blocks of the inputs at a point. -/
def insAt (c : Dev nD) (t : Fin cfg0.N) : Ins F := ⟨X0_2 m c t, X0_3 m c t, X0_4 m c t, iblk m c 5 t⟩

/-- What a point leaves in the result's block. -/
def outAt (c : Dev nD) (t : Fin cfg0.N) : Vec F S4096x128 .bf16 := outOf (insAt m c t) (grid0.coords t)

theorem scratch_eq (c : Dev nD) :
    (Pipeline.ΦA spec0 c : sProp 𝕄)
      = iprop(iprop((∃ d, owns (c : Thread nD τ) sc_0 fullShare d) ∗ (∃ d, owns (c : Thread nD τ) sc_1 fullShare d) ∗ (∃ d, owns (c : Thread nD τ) sc_2 fullShare d) ∗ (∃ d, owns (c : Thread nD τ) sc_3 fullShare d) ∗ (∃ d, owns (c : Thread nD τ) sc_4 fullShare d) ∗ (∃ d, owns (c : Thread nD τ) sc_5 fullShare d) ∗ (∃ d, owns (c : Thread nD τ) sc_6 fullShare d) ∗ (∃ d, owns (c : Thread nD τ) sc_7 fullShare d) ∗ (∃ d, owns (c : Thread nD τ) sc_8 fullShare d) ∗ (∃ d, owns (c : Thread nD τ) sc_9 fullShare d) ∗ (∃ d, owns (c : Thread nD τ) sc_10 fullShare d) ∗ (∃ d, owns (c : Thread nD τ) sc_11 fullShare d)) ∗ (∃ r, prngReg c r)) := by
  unfold Pipeline.ΦA; rw [scopedRest0_eq]; simp only [sc_0, sc_1, sc_2, sc_3, sc_4, sc_5, sc_6, sc_7, sc_8, sc_9, sc_10, sc_11, owns_whole]; try rfl

/-- The arrays as the region finds them; after a point the inputs' buffers at their blocks, the result's at what the point
    leaves; the scratch buffers at any contents from point to point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => X0_3 m c t
    | ⟨4, _⟩ => X0_4 m c t
    | ⟨5, _⟩ => iblk m c 5 t
    | ⟨6, _⟩ => outAt m c t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = X0_2 m c t := by dsimp only [dats]
theorem after_3 (c : Dev nD) (t : Fin cfg0.N) : (dats m 0 c).after 3 t = X0_3 m c t := by dsimp only [dats]
theorem after_4 (c : Dev nD) (t : Fin cfg0.N) : (dats m 0 c).after 4 t = X0_4 m c t := by dsimp only [dats]
theorem after_5 (c : Dev nD) (t : Fin cfg0.N) : (dats m 0 c).after 5 t = iblk m c 5 t := by dsimp only [dats]
theorem after_6 (c : Dev nD) (t : Fin cfg0.N) : (dats m 0 c).after 6 t = outAt m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = X0_2 m c t :=
  before0_2_of m (dats m 0 c) (A_eq m c 2) (after_2 m c) t d
theorem before_3 (c : Dev nD) (t : Fin cfg0.N) (d) : (dats m 0 c).before 3 t d = X0_3 m c t :=
  before0_3_of m (dats m 0 c) (A_eq m c 3) (after_3 m c) t d
theorem before_4 (c : Dev nD) (t : Fin cfg0.N) (d) : (dats m 0 c).before 4 t d = X0_4 m c t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

theorem idle_6 (t : Fin cfg0.N) : cfg0.idle 6 (cfg0.grid.coords t) = false := rfl

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d)))
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

theorem bodyAt_eq (t : Fin cfg0.N) : bodyAt0 (F := F) t = fox (grid0.coords t) (argsAt t) := body_eq (grid0.coords t) (argsAt t)

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  rw [bodyAt_eq]
  unfold bodyPre bodyPost
  simp only [before_0, before_1, before_2, before_3, before_4, before_5]
  rw [show (dats m 0 c).owesAt () t.succ = (dats m 0 c).owesAt () t.castSucc from rfl,
    show (dats m 0 c).Φ t.castSucc = Pipeline.ΦA spec0 c from rfl, show (dats m 0 c).Φ t.succ = Pipeline.ΦA spec0 c from rfl, scratch_eq]
  rw [show (dats m 0 c).leavesExact 0 t = owns (c : Thread nD τ) (ms_0 t) fullShare (iblk m c 0 t) from by
    unfold Dat.leavesExact; rw [show cfg0.idle 0 (cfg0.grid.coords t) = false from rfl, after_0]]
  rw [show (dats m 0 c).leavesExact 1 t = owns (c : Thread nD τ) (ms_1 t) fullShare (iblk m c 1 t) from by
    unfold Dat.leavesExact; rw [show cfg0.idle 1 (cfg0.grid.coords t) = false from rfl, after_1]]
  rw [show (dats m 0 c).leavesExact 2 t = owns (c : Thread nD τ) (ms_2 t) fullShare (X0_2 m c t) from by
    unfold Dat.leavesExact; rw [show cfg0.idle 2 (cfg0.grid.coords t) = false from rfl, after_2]]
  rw [show (dats m 0 c).leavesExact 3 t = owns (c : Thread nD τ) (ms_3 t) fullShare (X0_3 m c t) from by
    unfold Dat.leavesExact; rw [show cfg0.idle 3 (cfg0.grid.coords t) = false from rfl, after_3]]
  rw [show (dats m 0 c).leavesExact 4 t = owns (c : Thread nD τ) (ms_4 t) fullShare (X0_4 m c t) from by
    unfold Dat.leavesExact; rw [show cfg0.idle 4 (cfg0.grid.coords t) = false from rfl, after_4]]
  rw [show (dats m 0 c).leavesExact 5 t = owns (c : Thread nD τ) (ms_5 t) fullShare (iblk m c 5 t) from by
    unfold Dat.leavesExact; rw [show cfg0.idle 5 (cfg0.grid.coords t) = false from rfl, after_5]]
  rw [show (dats m 0 c).leavesExact 6 t = owns (c : Thread nD τ) (ms_6 t) fullShare (outAt m c t) from by
    unfold Dat.leavesExact; rw [idle_6, after_6]]
  iintro ⟨⟨⟨⟨%b9, B9⟩, ⟨%b10, B10⟩, ⟨%b11, B11⟩, ⟨%b12, B12⟩, ⟨%b13, B13⟩, ⟨%b14, B14⟩, ⟨%b15, B15⟩, ⟨%b16, B16⟩, ⟨%b17, B17⟩, ⟨%b18, B18⟩, ⟨%b19, B19⟩, ⟨%b20, B20⟩⟩, Hg⟩, Ho, ⟨%d0, H0⟩, ⟨%d1, H1⟩, ⟨%d2, H2⟩, ⟨%d3, H3⟩, ⟨%d4, H4⟩, ⟨%d5, H5⟩, ⟨%d6, H6⟩⟩
  iapply (wp_wand_r _ _ _)
  isplitl [H0 H1 H2 H3 H4 H5 H6 B9 B10 B11 B12 B13 B14 B15 B16 B17 B18 B19 B20]
  · iapply (fox_wp (c := c) (A := argsAt t) (I := insAt m c t) (E := Set.univ) (grid0.coords t) ⟨(dats m 0 c).before 6 t d6, b9, b10, b11, b12, b13, b14, b15, b16, b17, b18, b19, b20⟩)
    unfold St
    isplitl [H0]; · rw [← table_0 m c t]; iexact H0
    isplitl [H1]; · rw [← table_1 m c t]; iexact H1
    isplitl [H2]; · iexact H2
    isplitl [H3]; · iexact H3
    isplitl [H4]; · iexact H4
    isplitl [H5]; · iexact H5
    isplitl [H6]; · iexact H6
    isplitl [B9]; · iexact B9
    isplitl [B10]; · iexact B10
    isplitl [B11]; · iexact B11
    isplitl [B12]; · iexact B12
    isplitl [B13]; · iexact B13
    isplitl [B14]; · iexact B14
    isplitl [B15]; · iexact B15
    isplitl [B16]; · iexact B16
    isplitl [B17]; · iexact B17
    isplitl [B18]; · iexact B18
    isplitl [B19]; · iexact B19
    iexact B20
  · iintro %_ H
    unfold Sx
    icases H with ⟨%σ, %hσ, H⟩
    unfold St
    icases H with ⟨H2, H3, H4, H5, H6, H7, H8, H9, H10, H11, H12, H13, H14, H15, H16, H17, H18, H19, H20⟩
    isplitl [H9 H10 H11 H12 H13 H14 H15 H16 H17 H18 H19 H20 Hg]
    · isplitr [Hg]; swap; · iexact Hg
      isplitl [H9]; · iexists _; iexact H9
      isplitl [H10]; · iexists _; iexact H10
      isplitl [H11]; · iexists _; iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      iexists _; iexact H20
    isplitl [Ho]; · iexact Ho
    isplitl [H2]; · rw [table_0 m c t]; iexact H2
    isplitl [H3]; · rw [table_1 m c t]; iexact H3
    isplitl [H4]; · iexact H4
    isplitl [H5]; · iexact H5
    isplitl [H6]; · iexact H6
    isplitl [H7]; · iexact H7
    rw [show outAt m c t = σ.out from hσ.symm]
    iexact H8

/-- The body table's row at a point is the body there. -/
theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

/-! ## The run -/

-- the run theorem's implicit arguments are found by unifying its conclusion with the statement, under types too
set_option backward.isDefEq.respectTransparency.types false in
/-- Every weakly fair execution of the program ends with each window's array at what its blocks say, every other buffer
    as it was when the region was entered, and every semaphore counter at zero. -/
theorem run_main :
    θ_run defs (onTc (τ := τ) (main (F := F))) (s₀ m ρ)
      (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := fun _ => .rfl) (hout := fun _ => .rfl) (hQ' := fun _ h => h)

/-- The frame, at any instance of the float operations. -/
theorem frame_any :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨((h.1 c).1 4).trans (((dats m 0 c).arrAt_in 4 rfl _).trans ((A_eq m c 4).trans (V_main_arg0 m c))),
      ((h.1 c).1 5).trans (((dats m 0 c).arrAt_in 5 rfl _).trans ((A_eq m c 5).trans (V_main_arg1 m c)))⟩, h.2⟩) (run_main m ρ)

end Cert.Kernel6Ideal.Fox
-- ==== Proof.Fox.Arrays.lean ====
/-
  The sixth program's result: what its points read of the arguments and the array they store.
-/
module

public import proofs.«01_k».proof.Proof.Fox.Payloads
public import proofs.«01_k».proof.Proof.Fox.Target
public import proofs.«01_k».proof.Proof.Fox.Body

@[expose] public section

set_option maxRecDepth 16384

noncomputable section

namespace Cert.Kernel6Ideal.Fox

open Cert.Kernel6Ideal Cert.Kernel6Ideal.Gen
open Idealize.ShloMosaic Idealize.ShloMosaic.TcCoe Idealize.ShloMosaic.Tactic
open Idealize.ShloMosaic.Pipeline (Dat BodyObligation)
open Cert.FoxTarget

/-! ## The operands -/

theorem one_bf16 : Ideal.ofBits .bf16 0x3F80#16 = (1 : EReal) := by
  simp [Ideal.ofBits, Ideal.ieee]
  exact (EReal.coe_mul _ _).symm.trans (by norm_num)
theorem one_f32 : Ideal.ofBits .f32 0x3F800000#32 = (1 : EReal) := by
  simp [Ideal.ofBits, Ideal.ieee]
  exact (EReal.coe_mul _ _).symm.trans (by norm_num)

theorem lane_word (a b : ℕ) (ha : a < 128) (hb : b < 128) : (BitVec.ofNat 32 a == BitVec.ofNat 32 b) = decide (a = b) := by
  by_cases h : a = b
  · subst h; simp
  · rw [decide_eq_false h, beq_eq_false_iff_ne]
    intro e
    have := congrArg BitVec.toNat e
    simp only [BitVec.toNat_ofNat] at this
    omega

/-- The selector: ones on the lanes of the head's three parts. -/
theorem pay29_at (i : grid0.Coords) (h : Fin 16) (hh : (i 1).val = h.val) (r : Fin 4096) (l : Fin 128) :
    k0_pay29 (F := Ideal) i (ValueIdx.ix2 (n0 := 4096) (n1 := 128) r l) = if l = part0 h ∨ l = part1 h ∨ l = part2 h then (1 : EReal) else 0 := by
  have h16 := h.isLt
  obtain ⟨y, e0⟩ : ∃ y : S4096x128.Idx, y = ValueIdx.ix2 (n0 := 4096) (n1 := 128) r l := ⟨_, rfl⟩
  have el : (y 1).val = l.val := by rw [e0]
  rw [← e0]
  have hy : (y 1).val < 128 := (y 1).isLt
  have ei : ∀ b : ℕ, b < 128 → (cmpi .eq (iota .tc S4096x128 32 [1] iota_S4096x128_d1_w32) (broadcast S4096x128 (BitVec.ofNat 32 b)) : IVec S4096x128 1) y
      = BitVec.ofBool (decide ((y 1).val = b)) := fun b hb => by
    show BitVec.ofBool (iota .tc S4096x128 32 [1] iota_S4096x128_d1_w32 y == BitVec.ofNat 32 b) = _
    rw [WordCmp.iota_at]
    show BitVec.ofBool (BitVec.ofNat 32 (0 * 128 + (y 1).val) == BitVec.ofNat 32 b) = _
    rw [Nat.zero_mul, Nat.zero_add, lane_word _ _ hy hb]
  have w1 : Scalar.addi (BitVec.ofNat 32 (i 1).val) 16#32 = BitVec.ofNat 32 (16 + h.val) := by
    rw [hh, Nat.add_comm, BitVec.ofNat_add]; rfl
  have w2 : Scalar.addi (BitVec.ofNat 32 (i 1).val) 32#32 = BitVec.ofNat 32 (32 + h.val) := by
    rw [hh, Nat.add_comm, BitVec.ofNat_add]; rfl
  have q0 : (l = part0 h) ↔ (y 1).val = h.val := by rw [el]; exact Fin.ext_iff
  have q1 : (l = part1 h) ↔ (y 1).val = 16 + h.val := by rw [el]; exact Fin.ext_iff
  have q2 : (l = part2 h) ↔ (y 1).val = 32 + h.val := by rw [el]; exact Fin.ext_iff
  unfold k0_pay29
  simp only [shapeCast_self]
  show (if (cmpi .eq _ _ y ||| cmpi .eq _ _ y) ||| cmpi .eq _ _ y = 1#1 then Ideal.ofBits .f32 0x3F800000#32 else Ideal.ofBits .f32 0x00000000#32) = _
  rw [w1, w2, hh, ei _ (by omega), ei _ (by omega), ei _ (by omega), one_f32, Ideal.ofBits_zero_f32]
  simp only [q0, q1, q2]
  by_cases a0 : (y 1).val = h.val <;> by_cases a1 : (y 1).val = 16 + h.val <;> by_cases a2 : (y 1).val = 32 + h.val <;> simp [a0, a1, a2]

/-- A row of the first operand and a column of the second: the scaled products and the picked parts. -/
theorem dots_at (I : Ins Ideal) (i : grid0.Coords) (h : Fin 16) (hh : (i 1).val = h.val) (r k : Fin 4096) :
    ∑ l : Fin 256, opQ I i (ValueIdx.ix2 r l) * opT I (ValueIdx.ix2 l k)
      = (∑ d : Fin 128, (I.q (ValueIdx.ix2 r d) * ((11863283 / 134217728 * (Real.log 2)⁻¹ : ℝ) : EReal)) * I.k (ValueIdx.ix2 k d))
        + ∑ l : Fin 128, (if l = part0 h ∨ l = part1 h ∨ l = part2 h then (1 : EReal) else 0) * I.cx (ValueIdx.ix2 k l) := by
  have hk := k.isLt
  have et : ∀ l : Fin 256, opT I (ValueIdx.ix2 l k) = join (F := Ideal) (k0_pay30 (F := Ideal) I.k) (k0_pay31 (F := Ideal) I.cx) (ValueIdx.ix2 (n0 := 4096) (n1 := 256) k l) := fun l => by
    unfold opT transposed k0_pay36
    rw [shapeCast_self]
    refine (transpose_apply (t := S256x512) [1, 0] (rowsW (join (F := Ideal) (k0_pay30 (F := Ideal) I.k) (k0_pay31 (F := Ideal) I.cx)) (k.val / 512)) transposes_S512x256_p1_0_S256x512 _
      (ValueIdx.ix2 (n0 := 512) (n1 := 256) ⟨k.val % 512, Nat.mod_lt _ (by norm_num)⟩ l) (fun a => by
        match a with
        | ⟨0, _⟩ => rfl
        | ⟨1, _⟩ => rfl)).trans ?_
    exact rowsW_at _ _ _ (ValueIdx.ix2 (n0 := 4096) (n1 := 256) k l) (by show k.val = 512 * (k.val / 512 % 8) + k.val % 512; omega) rfl
  simp only [et]
  have split : ∀ f : Fin 256 → EReal, ∑ l : Fin 256, f l = ∑ l : Fin 128, f ⟨l.val, by have := l.isLt; omega⟩ + ∑ l : Fin 128, f ⟨128 + l.val, by have := l.isLt; omega⟩ := fun f =>
    Fin.sum_univ_add (a := 128) (b := 128) f
  rw [split]
  refine congrArg₂ (fun a b : EReal => a + b) (Finset.sum_congr rfl fun d _ => ?_) (Finset.sum_congr rfl fun l _ => ?_)
  · have hd := d.isLt
    refine congrArg₂ (fun a b : EReal => a * b) ?_ ?_
    · refine (dif_pos (show d.val < 128 from hd)).trans ?_
      unfold k0_pay28
      rw [shapeCast_self]
      rfl
    · refine (dif_pos (show d.val < 128 from hd)).trans ?_
      unfold k0_pay30
      rw [shapeCast_self]
  · have hl := l.isLt
    have e : (⟨128 + l.val - 128, by omega⟩ : Fin 128) = l := Fin.ext (by show 128 + l.val - 128 = l.val; omega)
    refine congrArg₂ (fun a b : EReal => a * b) ?_ ?_
    · refine (dif_neg (show ¬ 128 + l.val < 128 by omega)).trans ((pay29_at i h hh _ _).trans ?_)
      exact congrArg (fun z : Fin 128 => if z = part0 h ∨ z = part1 h ∨ z = part2 h then (1 : EReal) else 0) e
    · refine (dif_neg (show ¬ 128 + l.val < 128 by omega)).trans ?_
      unfold k0_pay31
      rw [shapeCast_self]
      exact congrArg (fun z : Fin 128 => I.cx (ValueIdx.ix2 k z)) e

theorem values_at (I : Ins Ideal) (k : Fin 4096) (d : Fin 128) :
    opV I (ValueIdx.ix2 (n0 := 4096) (n1 := 256) k ⟨d.val, by have := d.isLt; omega⟩) = I.v (ValueIdx.ix2 k d) := by
  refine (dif_pos (show d.val < 128 from d.isLt)).trans ?_
  unfold k0_pay32
  rw [shapeCast_self]

theorem ones_at (I : Ins Ideal) (k : Fin 4096) (d : Fin 128) :
    opV I (ValueIdx.ix2 (n0 := 4096) (n1 := 256) k ⟨128 + d.val, by have := d.isLt; omega⟩) = (1 : EReal) := by
  refine (dif_neg (show ¬ 128 + d.val < 128 by omega)).trans ?_
  unfold k0_pay33
  rw [shapeCast_self]
  exact one_bf16

/-! ## The blocks -/

variable (m : (ℓ : Loc nD τ sig) → Buf (Elt Ideal) ℓ)

/-- The two arguments by their coordinates. -/
abbrev argP (c : Dev nD) : Fin 17408 → Fin 12288 → EReal := fun r l => m ((c : Thread nD τ).loc main_arg0) (ValueIdx.ix2 (n0 := 17408) (n1 := 12288) r l)
abbrev argC (c : Dev nD) : Fin 16384 → Fin 128 → EReal := fun r l => m ((c : Thread nD τ).loc main_arg1) (ValueIdx.ix2 (n0 := 16384) (n1 := 128) r l)

theorem at0_2 : ∀ t : Fin cfg0.N, win0_2.index t = ![t.val / 16, t.val % 16] := (by decide +kernel : ∀ t : Fin grid0.N, _)
theorem at0_3 : ∀ t : Fin cfg0.N, win0_3.index t = ![t.val / 16, 16 + t.val % 16] := (by decide +kernel : ∀ t : Fin grid0.N, _)
theorem at0_4 : ∀ t : Fin cfg0.N, win0_4.index t = ![t.val / 16, 32 + t.val % 16] := (by decide +kernel : ∀ t : Fin grid0.N, _)
theorem at0_5 : ∀ t : Fin cfg0.N, win0_5.index t = ![t.val / 16, 0] := (by decide +kernel : ∀ t : Fin grid0.N, _)
theorem at0_6 : ∀ t : Fin cfg0.N, win0_6.index t = ![t.val / 16, t.val % 16] := (by decide +kernel : ∀ t : Fin grid0.N, _)
theorem head_of : ∀ t : Fin cfg0.N, (grid0.coords t 1).val = t.val % 16 := (by decide +kernel : ∀ t : Fin grid0.N, _)

theorem lt_points (t : Fin cfg0.N) : t.val < 64 := t.isLt

/-- A point's batch entry and head. -/
def batchOf (t : Fin cfg0.N) : Fin 4 := ⟨t.val / 16, by have := lt_points t; omega⟩
def headOf (t : Fin cfg0.N) : Fin 16 := ⟨t.val % 16, Nat.mod_lt _ (by norm_num)⟩

theorem in2 (c : Dev nD) (t : Fin cfg0.N) (r : Fin 4096) (d : Fin 128) :
    X0_2 m c t (ValueIdx.ix2 (n0 := 4096) (n1 := 128) r d) = argP m c (prow (batchOf t) r) (qcol (headOf t) d) := by
  unfold X0_2 Pipeline.Window.fill
  rw [dif_pos (moved0_2 t _)]
  show V m c main_arg0 (((cfg0.win 2).blk t).view.emb _) = _
  rw [V_main_arg0]
  refine congrArg (m ((c : Thread nD τ).loc main_arg0)) (funext fun a => Fin.ext ?_)
  match a with
  | ⟨0, _⟩ => blk_simp [at0_2]; show t.val / 16 * 4096 + r.val = 4096 * (t.val / 16) + r.val; omega
  | ⟨1, _⟩ => blk_simp [at0_2]; show t.val % 16 * 128 + d.val = 128 * (t.val % 16) + d.val; omega

theorem in3 (c : Dev nD) (t : Fin cfg0.N) (r : Fin 4096) (d : Fin 128) :
    X0_3 m c t (ValueIdx.ix2 (n0 := 4096) (n1 := 128) r d) = argP m c (prow (batchOf t) r) (kcol (headOf t) d) := by
  unfold X0_3 Pipeline.Window.fill
  rw [dif_pos (moved0_3 t _)]
  show V m c main_arg0 (((cfg0.win 3).blk t).view.emb _) = _
  rw [V_main_arg0]
  refine congrArg (m ((c : Thread nD τ).loc main_arg0)) (funext fun a => Fin.ext ?_)
  match a with
  | ⟨0, _⟩ => blk_simp [at0_3]; show t.val / 16 * 4096 + r.val = 4096 * (t.val / 16) + r.val; omega
  | ⟨1, _⟩ => blk_simp [at0_3]; show (16 + t.val % 16) * 128 + d.val = 2048 + (128 * (t.val % 16) + d.val); omega

theorem in4 (c : Dev nD) (t : Fin cfg0.N) (r : Fin 4096) (d : Fin 128) :
    X0_4 m c t (ValueIdx.ix2 (n0 := 4096) (n1 := 128) r d) = argP m c (prow (batchOf t) r) (vcol (headOf t) d) := by
  unfold X0_4 Pipeline.Window.fill
  rw [dif_pos (moved0_4 t _)]
  show V m c main_arg0 (((cfg0.win 4).blk t).view.emb _) = _
  rw [V_main_arg0]
  refine congrArg (m ((c : Thread nD τ).loc main_arg0)) (funext fun a => Fin.ext ?_)
  match a with
  | ⟨0, _⟩ => blk_simp [at0_4]; show t.val / 16 * 4096 + r.val = 4096 * (t.val / 16) + r.val; omega
  | ⟨1, _⟩ => blk_simp [at0_4]; show (32 + t.val % 16) * 128 + d.val = 4096 + (128 * (t.val % 16) + d.val); omega

theorem in5 (c : Dev nD) (t : Fin cfg0.N) (r : Fin 4096) (l : Fin 128) :
    iblk m c 5 t (ValueIdx.ix2 (n0 := 4096) (n1 := 128) r l) = argC m c (crow (batchOf t) r) l := by
  show V m c main_arg1 (((cfg0.win 5).blk t).view.emb _) = _
  rw [V_main_arg1]
  refine congrArg (m ((c : Thread nD τ).loc main_arg1)) (funext fun a => Fin.ext ?_)
  match a with
  | ⟨0, _⟩ => blk_simp [at0_5]; show t.val / 16 * 4096 + r.val = 4096 * (t.val / 16) + r.val; omega
  | ⟨1, _⟩ => blk_simp [at0_5]

/-- What a point stores. -/
theorem out_at (c : Dev nD) (f : Finite (argP m c) (argC m c)) (t : Fin cfg0.N) (y : S4096x128.Idx) :
    outAt m c t y = FoxTarget.fox (argP m c) (argC m c) (batchOf t) (headOf t) (y 0) (y 1) := by
  have hX : ∀ r k : Fin 4096, ∑ l : Fin 256, opQ (insAt m c t) (grid0.coords t) (ValueIdx.ix2 r l) * opT (insAt m c t) (ValueIdx.ix2 l k)
      = (level (argP m c) (argC m c) (batchOf t) (headOf t) r k : EReal) := fun r k => by
    rw [dots_at (insAt m c t) (grid0.coords t) (headOf t) (head_of t), ← f.level_eq]
    refine congrArg₂ (fun a b : EReal => a + b) (Finset.sum_congr rfl fun d _ => ?_) (Finset.sum_congr rfl fun l _ => ?_)
    · exact congrArg₂ (fun a b : EReal => a * _ * b) (in2 m c t r d) (in3 m c t k d)
    · exact congrArg (fun a : EReal => _ * a) (in5 m c t k l)
  show divided (Ac (opQ (insAt m c t) (grid0.coords t)) (opT (insAt m c t)) (opV (insAt m c t)) 36) y = _
  refine (divided_at hX y).trans ?_
  unfold FoxTarget.fox
  refine congrArg₂ Ideal.div (congrArg (mix (causal (y 0)) _) (funext fun k => ?_)) (congrArg (mix (causal (y 0)) _) (funext fun k => ?_))
  · exact (values_at (insAt m c t) k (y 1)).trans (in4 m c t k (y 1))
  · exact ones_at (insAt m c t) k (y 1)

/-- The array the points store. -/
def result (c : Dev nD) : (⟨S16384x2048, .bf16⟩ : BufTy).Contents (Elt Ideal) := fun i =>
  have h0 : (i 0).val < 16384 := (i 0).isLt
  have h1 : (i 1).val < 2048 := (i 1).isLt
  FoxTarget.fox (argP m c) (argC m c) ⟨(i 0).val / 4096, by omega⟩ ⟨(i 1).val / 128, by omega⟩ ⟨(i 0).val % 4096, Nat.mod_lt _ (by norm_num)⟩ ⟨(i 1).val % 128, Nat.mod_lt _ (by norm_num)⟩

theorem fox_at (p : Fin 17408 → Fin 12288 → EReal) (cx : Fin 16384 → Fin 128 → EReal) {b b' : Fin 4} {h h' : Fin 16} {r r' : Fin 4096} {d d' : Fin 128}
    (eb : b.val = b'.val) (eh : h.val = h'.val) (er : r.val = r'.val) (ed : d.val = d'.val) : FoxTarget.fox p cx b h r d = FoxTarget.fox p cx b' h' r' d' := by
  rw [Fin.ext eb, Fin.ext eh, Fin.ext er, Fin.ext ed]

theorem arr6 (c : Dev nD) (f : Finite (argP m c) (argC m c)) : (dats m 0 c).arrAt 6 cfg0.N = result m c := by
  refine (dats m 0 c).arrAt_eq_of_covers 6 _ (by decide +kernel) fun t _ y => ?_
  have hy : (y 0).val < 4096 := (y 0).isLt
  have hy1 : (y 1).val < 128 := (y 1).isLt
  have ht := lt_points t
  blk_simp; rw [after_6, out_at m c f]
  unfold result
  refine fox_at _ _ ?_ ?_ ?_ ?_
  · show t.val / 16 = ((win0_6.blk t).view.emb y 0).val / 4096
    blk_simp [at0_6]; omega
  · show t.val % 16 = ((win0_6.blk t).view.emb y 1).val / 128
    blk_simp [at0_6]; omega
  · show (y 0).val = ((win0_6.blk t).view.emb y 0).val % 4096
    blk_simp [at0_6]; omega
  · show (y 1).val = ((win0_6.blk t).view.emb y 1).val % 128
    blk_simp [at0_6]; omega

end Cert.Kernel6Ideal.Fox

end
-- ==== Proof.Fox.Frames.lean ====
/-
  The frame of the kernel, printed and idealized: one run, at the two instances.
-/
module

public import proofs.«01_k».proof.Defs
public import proofs.«01_k».proof.Proof.Gen.Kernel6
public import proofs.«01_k».proof.Proof.Fox.Body

@[expose] public section

set_option maxRecDepth 16384

noncomputable section

namespace Cert.Proof

open Idealize.ShloMosaic Idealize.SL.Sem

/-- At the printed program's floats a named constant is the word that was printed. -/
abbrev bitsNamed : Named Bits := ⟨fun _ _ {φ} b => FloatOps.ofBits φ b⟩

/-- The two programs' body tables are one: but for the named constants the printed text is the same. -/
theorem bodies6_eq : @Cert.Kernel6.defs₀ Bits _ Cert.Kernel6.Gen.facts = @Cert.Kernel6Ideal.defs₀ Bits _ bitsNamed Cert.Kernel6Ideal.Gen.facts := by
  unfold Cert.Kernel6.defs₀ Cert.Kernel6Ideal.defs₀
  refine congrArg Defs.onTc ?_
  funext l a
  match l, a with
  | 0, (t, s) => rfl
  | ⟨_ + 1, h⟩, _ => exact absurd h (Nat.not_lt.2 (Nat.le_add_left _ _))
theorem tables6_eq : @Cert.Kernel6.defs Bits _ Cert.Kernel6.Gen.facts = @Cert.Kernel6Ideal.defs Bits _ bitsNamed Cert.Kernel6Ideal.Gen.facts := by
  unfold Cert.Kernel6.defs Cert.Kernel6Ideal.defs
  exact congrArg (Pipeline.defs _) bodies6_eq

theorem frame_kernel6 : Cert.quiescent_Kernel6 (hKernel6 := Cert.Kernel6.Gen.facts) := fun m ρ _ => by
  rw [tables6_eq]
  exact @Cert.Kernel6Ideal.Fox.frame_any Bits _ bitsNamed m ρ

theorem frame_kernel6Ideal : Cert.quiescent_Kernel6Ideal (hKernel6Ideal := Cert.Kernel6Ideal.Gen.facts) := fun m ρ _ =>
  Cert.Kernel6Ideal.Fox.frame_any (F := Ideal) m ρ

end Cert.Proof

end
-- ==== Proof.Fox.ReferenceValue.lean ====
/-
  The sixth reference's result is the array of `Target`.
-/
module

public import proofs.«01_k».proof.Proof.Gen.Reference6Ideal.Run
public import proofs.«01_k».proof.Proof.Gen.Reference6Ideal.Read
public import proofs.«01_k».proof.Proof.Fox.Target

@[expose] public section

set_option maxRecDepth 16384

noncomputable section

namespace Cert.Reference6Ideal.Fox

open Cert.Reference6Ideal Cert.Reference6Ideal.Gen Cert.Reference6Ideal.Read Cert.FoxTarget
open Idealize.ShloMosaic Idealize.ShloMosaic.TcCoe Idealize.SL.Sem Idealize.ShloMosaic.StableHlo Idealize.ShloMosaic.ValueIdx

variable (x0 : (⟨S17408x12288, .bf16⟩ : BufTy).Contents (Elt Ideal)) (x1 : (⟨S16384x128, .bf16⟩ : BufTy).Contents (Elt Ideal))

/-- The projections and the decays by their coordinates. -/
abbrev P : Fin 17408 → Fin 12288 → EReal := fun r c => x0 (ix2 r c)
abbrev C : Fin 16384 → Fin 128 → EReal := fun r c => x1 (ix2 r c)

theorem row_at (i : S4x4096x6144.Idx) (z : S17408x12288.Idx) (h0 : (z 0).val = 4096 * (i 0).val + (i 1).val) (h1 : (z 1).val = (i 2).val) :
    val_main_v2 (F := Ideal) x0 i = x0 z := by
  rw [val_main_v2_apply, val_main_v1_apply, val_main_v0_apply]
  refine congrArg x0 (funext fun a => Fin.ext ?_)
  have g0 : (i 0).val < 4 := (i 0).isLt
  have g1 : (i 1).val < 4096 := (i 1).isLt
  have g2 : (i 2).val < 6144 := (i 2).isLt
  match a with
  | ⟨0, _⟩ => show (((i 0).val * 4096 + (i 1).val) * 6144 + (i 2).val) / 6144 = (z 0).val; omega
  | ⟨1, _⟩ => show (((i 0).val * 4096 + (i 1).val) * 6144 + (i 2).val) % 6144 = (z 1).val; omega

theorem query_at (y : S4x4096x16x128.Idx) (b : Fin 4) (r : Fin 4096) (h : Fin 16) (d : Fin 128) (e0 : (y 0).val = b.val) (e1 : (y 1).val = r.val)
    (e2 : (y 2).val = h.val) (e3 : (y 3).val = d.val) : val_main_v18 (F := Ideal) x0 y = P x0 (prow b r) (qcol h d) := by
  rw [val_main_v18_apply, val_main_v3_apply]
  have g0 := b.isLt; have g1 := r.isLt; have g2 := h.isLt; have g3 := d.isLt
  refine row_at x0 _ (ix2 (prow b r) (qcol h d)) ?_ ?_
  · show 4096 * b.val + r.val = 4096 * (((((y 0).val * 4096 + (y 1).val) * 16 + (y 2).val) * 128 + (y 3).val) / 8388608) + ((((y 0).val * 4096 + (y 1).val) * 16 + (y 2).val) * 128 + (y 3).val) / 2048 % 4096
    omega
  · show 128 * h.val + d.val = ((((y 0).val * 4096 + (y 1).val) * 16 + (y 2).val) * 128 + (y 3).val) % 2048
    omega

theorem key_at (y : S4x4096x16x128.Idx) (b : Fin 4) (r : Fin 4096) (h : Fin 16) (d : Fin 128) (e0 : (y 0).val = b.val) (e1 : (y 1).val = r.val)
    (e2 : (y 2).val = h.val) (e3 : (y 3).val = d.val) : val_main_v19 (F := Ideal) x0 y = P x0 (prow b r) (kcol h d) := by
  rw [val_main_v19_apply, val_main_v4_apply]
  have g0 := b.isLt; have g1 := r.isLt; have g2 := h.isLt; have g3 := d.isLt
  refine row_at x0 _ (ix2 (prow b r) (kcol h d)) ?_ ?_
  · show 4096 * b.val + r.val = 4096 * (((((y 0).val * 4096 + (y 1).val) * 16 + (y 2).val) * 128 + (y 3).val) / 8388608) + ((((y 0).val * 4096 + (y 1).val) * 16 + (y 2).val) * 128 + (y 3).val) / 2048 % 4096
    omega
  · show 2048 + (128 * h.val + d.val) = 2048 + ((((y 0).val * 4096 + (y 1).val) * 16 + (y 2).val) * 128 + (y 3).val) % 2048
    omega

theorem value_at (y : S4x4096x16x128.Idx) (b : Fin 4) (r : Fin 4096) (h : Fin 16) (d : Fin 128) (e0 : (y 0).val = b.val) (e1 : (y 1).val = r.val)
    (e2 : (y 2).val = h.val) (e3 : (y 3).val = d.val) : val_main_v20 (F := Ideal) x0 y = P x0 (prow b r) (vcol h d) := by
  rw [val_main_v20_apply, val_main_v5_apply]
  have g0 := b.isLt; have g1 := r.isLt; have g2 := h.isLt; have g3 := d.isLt
  refine row_at x0 _ (ix2 (prow b r) (vcol h d)) ?_ ?_
  · show 4096 * b.val + r.val = 4096 * (((((y 0).val * 4096 + (y 1).val) * 16 + (y 2).val) * 128 + (y 3).val) / 8388608) + ((((y 0).val * 4096 + (y 1).val) * 16 + (y 2).val) * 128 + (y 3).val) / 2048 % 4096
    omega
  · show 4096 + (128 * h.val + d.val) = 4096 + ((((y 0).val * 4096 + (y 1).val) * 16 + (y 2).val) * 128 + (y 3).val) % 2048
    omega

theorem two_word : Ideal.ofBits .f32 0x40000000#32 = ((2 : ℝ) : EReal) := by
  simp [Ideal.ofBits, Ideal.ieee]
  exact (EReal.coe_mul _ _).symm.trans (congrArg _ (by norm_num))
theorem scale_word : Ideal.ofBits .f32 0x3DB504F3#32 = ((11863283 / 134217728 : ℝ) : EReal) := by
  simp [Ideal.ofBits, Ideal.ieee]
  exact (EReal.coe_mul _ _).symm.trans (congrArg _ (by norm_num))
theorem minus_inf : Ideal.ofBits .f32 0xFF800000#32 = (⊥ : EReal) := by simp [Ideal.ofBits, Ideal.ieee]

/-- The logarithm of two. -/
theorem log_two : Ideal.log (Ideal.ofBits .f32 0x40000000#32) = (Real.log 2 : EReal) := by
  rw [two_word]
  show (if (2 : ℝ) ≤ 0 then (⊥ : EReal) else ((Real.log 2 : ℝ) : EReal)) = _
  rw [if_neg (by norm_num)]

/-- A gate's cumulative sum. -/
theorem decay_at (y : S4x16x4096.Idx) (b : Fin 4) (h : Fin 16) (k : Fin 4096) (e0 : (y 0).val = b.val) (e1 : (y 1).val = h.val) (e2 : (y 2).val = k.val) :
    val_main_v21 (F := Ideal) x1 y = -decay (C x1) b h k * (Real.log 2 : EReal) := by
  have g0 := b.isLt; have g1 := h.isLt; have g2 := k.isLt
  rw [val_main_v21_apply, val_main_v17_apply, val_main_v16_apply, val_main_v15_apply, val_main_v14_apply, val_main_v13_apply, val_main_cst_apply,
    val_main_v12_apply, val_main_v11_apply, val_main_v9_apply, val_main_v10_apply, val_main_v8_apply, val_main_v7_apply,
    val_main_v6_apply, val_main_v6_apply, val_main_v6_apply]
  refine congrArg₂ (fun a b : EReal => -a * b) ?_ log_two
  unfold decay
  have e : ∀ (z w : S16384x128.Idx), (z 0).val = (w 0).val → (z 1).val = (w 1).val → x1 z = x1 w := fun z w h0 h1 =>
    congrArg x1 (funext fun a => Fin.ext (by match a with | ⟨0, _⟩ => exact h0 | ⟨1, _⟩ => exact h1))
  refine congrArg₂ (fun a b : EReal => a + b) (congrArg₂ (fun a b : EReal => a + b) ?_ ?_) ?_
  · refine e _ (ix2 (crow b k) (part0 h)) ?_ ?_
    · show (((y 0).val * 4096 + (y 2).val) * 16 + (y 1).val) / 16 = 4096 * b.val + k.val; omega
    · show (((y 0).val * 4096 + (y 2).val) * 16 + (y 1).val) % 16 = h.val; omega
  · refine e _ (ix2 (crow b k) (part1 h)) ?_ ?_
    · show (((y 0).val * 4096 + (y 2).val) * 16 + (y 1).val) / 16 = 4096 * b.val + k.val; omega
    · show 16 + (((y 0).val * 4096 + (y 2).val) * 16 + (y 1).val) % 16 = 16 + h.val; omega
  · refine e _ (ix2 (crow b k) (part2 h)) ?_ ?_
    · show (((y 0).val * 4096 + (y 2).val) * 16 + (y 1).val) / 16 = 4096 * b.val + k.val; omega
    · show 32 + (((y 0).val * 4096 + (y 2).val) * 16 + (y 1).val) % 16 = 32 + h.val; omega

theorem sle_words (a b : ℕ) (ha : a < 4096) (hb : b < 4096) : (BitVec.ofNat 32 b).sle (BitVec.ofNat 32 a) = decide (b ≤ a) := by
  rw [BitVec.sle_eq_decide]
  refine decide_eq_decide.mpr ?_
  rw [BitVec.toInt_eq_toNat_of_lt (by simp; omega), BitVec.toInt_eq_toNat_of_lt (by simp; omega)]
  simp
  omega

/-- A row's scores, masked. -/
theorem score_at (y : S4x16x4096x4096.Idx) (b : Fin 4) (h : Fin 16) (r k : Fin 4096) (e0 : (y 0).val = b.val) (e1 : (y 1).val = h.val)
    (e2 : (y 2).val = r.val) (e3 : (y 3).val = k.val) :
    val_main_v38 (F := Ideal) x0 x1 y = if k ≤ r then
      (∑ d : Fin 128, P x0 (prow b r) (qcol h d) * P x0 (prow b k) (kcol h d)) * ((11863283 / 134217728 : ℝ) : EReal)
        + (-decay (C x1) b h r * (Real.log 2 : EReal) - -decay (C x1) b h k * (Real.log 2 : EReal))
      else ⊥ := by
  have ec : val_main_call0_v1 (F := Ideal) y = BitVec.ofBool (decide (k.val ≤ r.val)) := by
    rw [val_main_call0_v1_apply, val_main_v37_apply, val_main_v35_apply, val_main_v36_apply, val_main_v33_apply, val_main_v34_apply,
      val_main_v22_apply, val_main_v23_apply]
    show BitVec.ofBool ((BitVec.ofNat 32 (y 3).val).sle (BitVec.ofNat 32 (y 2).val)) = _
    rw [e2, e3, sle_words _ _ r.isLt k.isLt]
  have es : val_main_v32 (F := Ideal) x0 x1 y
      = (∑ d : Fin 128, P x0 (prow b r) (qcol h d) * P x0 (prow b k) (kcol h d)) * ((11863283 / 134217728 : ℝ) : EReal)
        + (-decay (C x1) b h r * (Real.log 2 : EReal) - -decay (C x1) b h k * (Real.log 2 : EReal)) := by
    rw [val_main_v32_apply, val_main_v26_apply, val_main_v31_apply, val_main_v25_apply, val_main_cst_0_apply, val_main_v29_apply, val_main_v30_apply,
      val_main_v27_apply, val_main_v28_apply, decay_at x1 _ b h r e0 e1 e2, decay_at x1 _ b h k e0 e1 e3, val_main_v24_apply]
    refine congrArg₂ (fun a b : EReal => a + b) (congrArg₂ (fun a b : EReal => a * b) (Finset.sum_congr rfl fun d _ => ?_) scale_word) rfl
    exact congrArg₂ (fun a b : EReal => a * b) (query_at x0 _ b r h d e0 e2 e1 rfl) (key_at x0 _ b k h d e0 e3 e1 rfl)
  have eb : val_main_call0_v2 (F := Ideal) y = (⊥ : EReal) := by
    rw [val_main_call0_v2_apply, val_main_call0_v0_apply, val_main_cst_1_apply]; exact minus_inf
  rw [val_main_v38_apply, ec, es, eb]
  by_cases hk : k ≤ r
  · rw [if_pos hk, decide_eq_true (show k.val ≤ r.val from hk)]; rfl
  · rw [if_neg hk, decide_eq_false (show ¬ k.val ≤ r.val from hk)]; rfl

theorem last : S4x16x4096x4096.Reduces [3] S4x16x4096 := by decide

/-- The largest score of a row; the reference's second comparison with minus infinity changes nothing. -/
theorem top_at (i : S4x16x4096.Idx) : val_main_v41 (F := Ideal) x0 x1 i
    = (Finset.univ : Finset (Fin 4096)).sup fun k => val_main_v38 (F := Ideal) x0 x1 (idx_main_v46 i k) := by
  have e : val_main_v39 (F := Ideal) x0 x1 i = (Finset.univ : Finset (Fin 4096)).sup fun k => val_main_v38 (F := Ideal) x0 x1 (idx_main_v46 i k) := by
    unfold val_main_v39
    generalize val_main_v38 (F := Ideal) x0 x1 = z
    refine (Host.reduce_eq_fold_single (α := EReal) max z _ reducesTo_S4x16x4096x4096_S4x16x4096_d3 last h_S_ i).trans ?_
    refine (congrArg (fun b : EReal => Finset.univ.fold max b fun k : Fin 4096 => z (last.lift i k)) ((val_main_cst_2_apply (F := Ideal) _).trans minus_inf)).trans ?_
    refine Finset.sup_congr (f := fun k : Fin 4096 => z (last.lift i k)) rfl fun k _ => congrArg z (funext fun a => Fin.ext ?_)
    match a with
    | ⟨0, _⟩ => rfl
    | ⟨1, _⟩ => rfl
    | ⟨2, _⟩ => rfl
    | ⟨3, _⟩ => rfl
  rw [val_main_v41_apply, e, val_main_v40_apply, val_main_cst_3_apply]
  exact (congrArg (fun b : EReal => max b _) minus_inf).trans (max_eq_right bot_le)

/-- A row's exponentials. -/
theorem exp_at (i : S4x16x4096.Idx) (k : Fin 4096) : val_main_v45 (F := Ideal) x0 x1 (idx_main_v46 i k)
    = Ideal.exp (val_main_v38 (F := Ideal) x0 x1 (idx_main_v46 i k) - val_main_v41 (F := Ideal) x0 x1 i) := by
  rw [val_main_v45_apply, val_main_v44_apply, val_main_v43_apply, val_main_v42_apply]
  refine congrArg (fun z : S4x16x4096.Idx => Ideal.exp (val_main_v38 (F := Ideal) x0 x1 (idx_main_v46 i k) - val_main_v41 (F := Ideal) x0 x1 z)) ?_
  exact funext fun a => Fin.ext (by match a with | ⟨0, _⟩ => rfl | ⟨1, _⟩ => rfl | ⟨2, _⟩ => rfl)

/-- The reference's result. -/
theorem result_at (f : Finite (P x0) (C x1)) (i : S16384x2048.Idx) (b : Fin 4) (r : Fin 4096) (h : Fin 16) (d : Fin 128)
    (e0 : (i 0).val = 4096 * b.val + r.val) (e1 : (i 1).val = 128 * h.val + d.val) :
    val_main_v53 (F := Ideal) x0 x1 i = fox (P x0) (C x1) b h r d := by
  have g0 := b.isLt; have g1 := r.isLt; have g2 := h.isLt; have g3 := d.isLt
  have c0 : ((i 0).val * 2048 + (i 1).val) / 8388608 = b.val := by omega
  have c1 : ((i 0).val * 2048 + (i 1).val) / 2048 % 4096 = r.val := by omega
  have c2 : ((i 0).val * 2048 + (i 1).val) / 128 % 16 = h.val := by omega
  have c3 : ((i 0).val * 2048 + (i 1).val) % 128 = d.val := by omega
  let z : S4x16x4096.Idx := ix3 b h r
  let Y : Fin 4096 → EReal := fun k => val_main_v38 (F := Ideal) x0 x1 (idx_main_v46 z k)
  have hY : ∀ k, Y k = _ := fun k => score_at x0 x1 (idx_main_v46 z k) b h r k rfl rfl rfl rfl
  rw [val_main_v53_apply, val_main_v52_apply, val_main_v51_apply, val_main_v50_apply]
  have main := attend_eq (causal r) ⟨r, (mem_causal r r).mpr le_rfl⟩ (level (P x0) (C x1) b h r) ((decay (C x1) b h r).toReal * Real.log 2)
    (fun k => P x0 (prow b k) (vcol h d)) Y
    (fun k hk => (hY k).trans ((if_pos ((mem_causal r k).mp hk)).trans (f.score_eq b h r k)))
    (fun k hk => (hY k).trans (if_neg fun h => hk ((mem_causal r k).mpr h)))
    _ (top_at x0 x1 z)
  refine (Finset.sum_congr rfl fun k _ => ?_).trans main
  refine congrArg₂ (fun a b : EReal => a * b) (value_at x0 _ b k h d c0 rfl c2 c3) ?_
  have er : ∀ w : S4x16x4096x4096.Idx, (w 0).val = b.val → (w 1).val = h.val → (w 2).val = r.val → (w 3).val = k.val → w = idx_main_v46 z k :=
    fun w a0 a1 a2 a3 => funext fun a => Fin.ext (by
      match a with
      | ⟨0, _⟩ => exact a0
      | ⟨1, _⟩ => exact a1
      | ⟨2, _⟩ => exact a2
      | ⟨3, _⟩ => exact a3)
  rw [er (ridx_main_v50 (idx_main_v51 (idx_main_v52 i)) k) c0 c2 c1 rfl, val_main_v49_apply, exp_at, val_main_v48_apply, val_main_v47_apply, val_main_v46_apply]
  refine congrArg₂ Ideal.div rfl ?_
  have ez : idx_main_v47 (idx_main_v48 (idx_main_v46 z k)) = z :=
    funext fun a => Fin.ext (by match a with | ⟨0, _⟩ => rfl | ⟨1, _⟩ => rfl | ⟨2, _⟩ => rfl)
  rw [ez, val_main_cst_4_apply]
  refine (congrArg (fun z : EReal => z + _) Ideal.ofBits_zero_f32).trans ((zero_add _).trans ?_)
  exact Finset.sum_congr rfl fun j _ => exp_at x0 x1 z j

end Cert.Reference6Ideal.Fox

end
-- ==== Proof.Fox.Algebraic.lean ====
/-
  The sixth program and its reference end with the same result, where every query, key and decay is finite.
-/
module

public import proofs.«01_k».proof.Defs
public import proofs.«01_k».proof.Proof.Gen.Kernel6Ideal
public import proofs.«01_k».proof.Proof.Gen.Reference6Ideal
public import proofs.«01_k».proof.Proof.Gen.Reference6Ideal.Run
public import proofs.«01_k».proof.Proof.Gen.Reference6Ideal.Read
public import proofs.«01_k».proof.Proof.Fox.Arrays
public import proofs.«01_k».proof.Proof.Fox.Frames
public import proofs.«01_k».proof.Proof.Fox.ReferenceValue
public import Idealize.ShloMosaic.Lib.Claim

@[expose] public section

set_option maxRecDepth 16384

noncomputable section

namespace Cert.Proof

open Idealize.ShloMosaic Idealize.SL.Sem Cert.FoxTarget
open Cert.Kernel6Ideal.Fox (argP argC arr6)

/-- The precondition's shapes fit. -/
theorem scores_finite_facts : Cert.Pre_scores_finite.Facts where
  slices_S17408x12288_S16384x4096_0_0 := by decide
  bitsLt_bf16_f32 := by decide
  slices_S16384x128_S16384x16_0_0 := by decide
  slices_S16384x128_S16384x16_0_16 := by decide
  slices_S16384x128_S16384x16_0_32 := by decide
  concatenates_S16384x4096_S16384x16_S16384x4112_d1 := by decide
  bcast_S_S16384x4112 := by decide

/-- The reference keeps its arguments and ends with every counter at zero. -/
theorem frame_reference6 : Cert.quiescent_Reference6Ideal (hReference6Ideal := Cert.Reference6Ideal.Gen.facts) := fun m ρ _ =>
  (θ_run Cert.Reference6Ideal.defs _ _).mono (fun r h => ⟨fun c => (h c).2, sem_eq_zero_of_no_sems (by decide) r.2⟩)
    (Cert.Reference6Ideal.Value.run (F := Ideal) m ρ)

/-- The two named constants. -/
theorem preserves6 : Cert.preserves_Kernel6_Kernel6Ideal :=
  ⟨IdealRules.named_const.statement Cert.Kernel6Ideal.κ "scale_log2e" .f32 0x3E0293EE#32 (((11863283 / 134217728) * (Real.log 2)⁻¹ : ℝ) : EReal) rfl,
    IdealRules.named_const.statement Cert.Kernel6Ideal.κ "mask" .f32 0xF149F2CA#32 ⊥ rfl⟩

theorem top_word : Ideal.ofBits .f32 0x7F800000#32 = (⊤ : EReal) := by
  simp [Ideal.ofBits, Ideal.ieee]

/-- A number below infinity in absolute value is a real one. -/
theorem real_of_abs (x : EReal) (h : Ideal.cmp .olt (max x (-x)) (Ideal.ofBits .f32 0x7F800000#32) = 1#1) : x = (x.toReal : EReal) := by
  rw [top_word] at h
  refine (EReal.coe_toReal (fun e => ?_) (fun e => ?_)).symm
  · rw [e] at h; simp [Ideal.cmp] at h
  · rw [e] at h; simp [Ideal.cmp] at h

section
open Cert.Pre_scores_finite

variable (p : FVec Ideal S17408x12288 .bf16) (cx : FVec Ideal S16384x128 .bf16)

/-- The precondition at a place of the queries and keys. -/
theorem left_real (h : @Cert.Pre_scores_finite.fn scores_finite_facts Ideal _ p cx = fun _ => 1#1) (r : Fin 16384) (j : Fin 4096) (R : Fin 17408) (J : Fin 12288)
    (hR : R.val = r.val) (hJ : J.val = j.val) :
    p (ValueIdx.ix2 (n0 := 17408) (n1 := 12288) R J) = ((p (ValueIdx.ix2 (n0 := 17408) (n1 := 12288) R J)).toReal : EReal) := by
  letI := scores_finite_facts
  have e := congrFun h (ValueIdx.ix2 (n0 := 16384) (n1 := 4112) r ⟨j.val, by have := j.isLt; omega⟩)
  refine real_of_abs _ ?_
  rw [← e]
  refine congrArg (fun x : EReal => Ideal.cmp .olt (max x (-x)) (Ideal.ofBits .f32 0x7F800000#32)) ?_
  refine Eq.symm ((concatenate_pair_apply_left (t := S16384x4112) (s₁ := S16384x4096) (s₂ := S16384x16) 1 _ _
      scores_finite_facts.concatenates_S16384x4096_S16384x16_S16384x4112_d1 _ rfl (ValueIdx.ix2 (n0 := 16384) (n1 := 4096) r j) (fun b => ?_)).trans ?_)
  · match b with
    | ⟨0, _⟩ => rfl
    | ⟨1, _⟩ => rfl
  · exact extractStridedSlice_apply (t := S16384x4096) ![0, 0] p scores_finite_facts.slices_S17408x12288_S16384x4096_0_0
      (ValueIdx.ix2 (n0 := 16384) (n1 := 4096) r j) (ValueIdx.ix2 (n0 := 17408) (n1 := 12288) R J) (fun a => by
      match a with
      | ⟨0, _⟩ => exact hR.trans (Nat.zero_add _).symm
      | ⟨1, _⟩ => exact hJ.trans (Nat.zero_add _).symm)

/-- The precondition at a decay. -/
theorem right_real (h : @Cert.Pre_scores_finite.fn scores_finite_facts Ideal _ p cx = fun _ => 1#1) (r : Fin 16384) (j : Fin 16) :
    (cx (ValueIdx.ix2 (n0 := 16384) (n1 := 128) r (part0 j)) + cx (ValueIdx.ix2 (n0 := 16384) (n1 := 128) r (part1 j)) + cx (ValueIdx.ix2 (n0 := 16384) (n1 := 128) r (part2 j)) : EReal)
      = (((cx (ValueIdx.ix2 (n0 := 16384) (n1 := 128) r (part0 j)) + cx (ValueIdx.ix2 (n0 := 16384) (n1 := 128) r (part1 j)) + cx (ValueIdx.ix2 (n0 := 16384) (n1 := 128) r (part2 j)) : EReal)).toReal : EReal) := by
  letI := scores_finite_facts
  have e := congrFun h (ValueIdx.ix2 (n0 := 16384) (n1 := 4112) r ⟨4096 + j.val, by have := j.isLt; omega⟩)
  refine real_of_abs _ ?_
  rw [← e]
  refine congrArg (fun x : EReal => Ideal.cmp .olt (max x (-x)) (Ideal.ofBits .f32 0x7F800000#32)) ?_
  refine Eq.symm ((concatenate_pair_apply_right (t := S16384x4112) (s₁ := S16384x4096) (s₂ := S16384x16) 1 _ _
      scores_finite_facts.concatenates_S16384x4096_S16384x16_S16384x4112_d1 _ rfl rfl (ValueIdx.ix2 (n0 := 16384) (n1 := 16) r j) (fun b hb => ?_) ?_).trans ?_)
  · match b with
    | ⟨0, _⟩ => rfl
    | ⟨1, _⟩ => exact absurd rfl hb
  · show j.val + 4096 = 4096 + j.val
    omega
  · refine congrArg₂ (fun a b : EReal => a + b) (congrArg₂ (fun a b : EReal => a + b) ?_ ?_) ?_
    · exact extractStridedSlice_apply (t := S16384x16) ![0, 0] cx scores_finite_facts.slices_S16384x128_S16384x16_0_0
        (ValueIdx.ix2 (n0 := 16384) (n1 := 16) r j) (ValueIdx.ix2 (n0 := 16384) (n1 := 128) r (part0 j)) (fun a => by
        match a with
        | ⟨0, _⟩ => exact (Nat.zero_add _).symm
        | ⟨1, _⟩ => exact (Nat.zero_add _).symm)
    · exact extractStridedSlice_apply (t := S16384x16) ![0, 16] cx scores_finite_facts.slices_S16384x128_S16384x16_0_16
        (ValueIdx.ix2 (n0 := 16384) (n1 := 16) r j) (ValueIdx.ix2 (n0 := 16384) (n1 := 128) r (part1 j)) (fun a => by
        match a with
        | ⟨0, _⟩ => exact (Nat.zero_add _).symm
        | ⟨1, _⟩ => rfl)
    · exact extractStridedSlice_apply (t := S16384x16) ![0, 32] cx scores_finite_facts.slices_S16384x128_S16384x16_0_32
        (ValueIdx.ix2 (n0 := 16384) (n1 := 16) r j) (ValueIdx.ix2 (n0 := 16384) (n1 := 128) r (part2 j)) (fun a => by
        match a with
        | ⟨0, _⟩ => exact (Nat.zero_add _).symm
        | ⟨1, _⟩ => rfl)

/-- Under the precondition every query, key and decay is finite. -/
theorem all_finite (h : @Cert.Pre_scores_finite.fn scores_finite_facts Ideal _ p cx = fun _ => 1#1) :
    Finite (fun r l => p (ValueIdx.ix2 (n0 := 17408) (n1 := 12288) r l)) (fun r l => cx (ValueIdx.ix2 (n0 := 16384) (n1 := 128) r l)) where
  q b r i d := left_real p cx h (crow b r) ⟨128 * i.val + d.val, by have := i.isLt; have := d.isLt; omega⟩ (prow b r) (qcol i d) rfl rfl
  k b r i d := left_real p cx h (crow b r) ⟨2048 + (128 * i.val + d.val), by have := i.isLt; have := d.isLt; omega⟩ (prow b r) (kcol i d) rfl rfl
  d b i k := right_real p cx h (crow b k) i

end

theorem algebraic6 : Cert.algebraic_Kernel6Ideal_Reference6Ideal_pre_scores_finite (hKernel6Ideal := Cert.Kernel6Ideal.Gen.facts)
    (hReference6Ideal := Cert.Reference6Ideal.Gen.facts) (hPre_scores_finite := scores_finite_facts) := fun m g m' g' pre same =>
  have finite : ∀ c, Finite (argP m c) (argC m c) := fun c => all_finite _ _ (pre c)
  ⟨fun c => Cert.Kernel6Ideal.Fox.result m c,
    (θ_run Cert.Kernel6Ideal.defs _ _).mono (fun _ h c => ⟨((h.1.1 c).1 6).trans (arr6 m c (finite c)), h.2.1 c⟩)
      (θ_run_and (Cert.Kernel6Ideal.Fox.run_main (F := Ideal) m g) (frame_kernel6Ideal m g trivial)),
    (θ_run Cert.Reference6Ideal.defs _ _).mono (fun _ h c => by
      obtain ⟨h53, kept⟩ := h c
      obtain ⟨s0, s1⟩ := same c
      refine ⟨?_, kept⟩
      refine h53.trans ((Cert.Reference6Ideal.Read.val_main_v53_eq _ _).trans ?_)
      rw [s0, s1]
      funext i
      have h0 : (i 0).val < 16384 := (i 0).isLt
      have h1 : (i 1).val < 2048 := (i 1).isLt
      exact Cert.Reference6Ideal.Fox.result_at _ _ (finite c) i ⟨(i 0).val / 4096, by omega⟩ ⟨(i 0).val % 4096, Nat.mod_lt _ (by norm_num)⟩
        ⟨(i 1).val / 128, by omega⟩ ⟨(i 1).val % 128, Nat.mod_lt _ (by norm_num)⟩ (Nat.div_add_mod _ _).symm (Nat.div_add_mod _ _).symm)
      (Cert.Reference6Ideal.Value.run (F := Ideal) m' g')⟩

end Cert.Proof

end
-- ==== Proof.lean ====
/-
  The certificate: the eighteen programs keep their arguments and end with their counters at zero, and each of the six kernels
  has its reference's results over the extended reals, the fifth where no gate's logit is minus infinity,
  the sixth where every query, key and decay is finite.
-/
module

public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Reference3Ideal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.InProj.Algebraic
public import proofs.«01_k».proof.Proof.Mlp.Algebraic
public import proofs.«01_k».proof.Proof.Cross.Algebraic
public import proofs.«01_k».proof.Proof.Memory.Algebraic
public import proofs.«01_k».proof.Proof.Gate.Algebraic
public import proofs.«01_k».proof.Proof.Fox.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, gates_open_facts, scores_finite_facts,
  frame_kernel, frame_kernelIdeal, frame_reference,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ,
  fun m ρ _ => Cert.Kernel5Ideal.Gen.frame m ρ, frame_reference5, fun m ρ _ => frame_reference5 m ρ trivial,
  frame_kernel6, frame_kernel6Ideal, fun m ρ _ => frame_kernel6Ideal m ρ trivial,
  frame_reference6, fun m ρ _ => frame_reference6 m ρ trivial,
  trivial, algebraic, trivial, algebraic2, trivial, algebraic3, trivial, algebraic4, trivial, algebraic5, preserves6, algebraic6⟩

end Cert.Proof

end
